-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.1 = (fun _ => 1#1)
    ∧ (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm [hPre_finite_norm : Cert.Pre_finite_norm.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).2.1 = (fun _ => 1#1)
    ∧ (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_finite_gmlp [hPre_finite_gmlp : Cert.Pre_finite_gmlp.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.2.1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.2.2 = (fun _ => 1#1)

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_GmlpBwdRefIdeal_finite_gmlp [hPre_finite_gmlp : Cert.Pre_finite_gmlp.Facts] (m : (ℓ : Loc Cert.GmlpBwdRefIdeal.nD Cert.GmlpBwdRefIdeal.τ Cert.GmlpBwdRefIdeal.sig) → Buf (Elt Ideal) ℓ) : Prop :=
  ∀ c : Dev Cert.GmlpBwdRefIdeal.nD,
    (Cert.Pre_finite_gmlp.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).1 = (fun _ => 1#1)
    ∧ (Cert.Pre_finite_gmlp.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.1 = (fun _ => 1#1)
    ∧ (Cert.Pre_finite_gmlp.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.1 = (fun _ => 1#1)
    ∧ (Cert.Pre_finite_gmlp.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.2.1 = (fun _ => 1#1)
    ∧ (Cert.Pre_finite_gmlp.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.2.2.1 = (fun _ => 1#1)
    ∧ (Cert.Pre_finite_gmlp.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.2.2.2 = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2.2.2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_conv [hPre_finite_conv : Cert.Pre_finite_conv.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2.2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2.2.2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2.2.2.2 = (fun _ => 1#1)

def Pre_DeltaBwd (m : (ℓ : Loc Cert.DeltaBwd.nD Cert.DeltaBwd.τ Cert.DeltaBwd.sig) → Buf (Elt Bits) ℓ) : Prop :=
  True

def Pre_DeltaBwdIdeal (m : (ℓ : Loc Cert.DeltaBwdIdeal.nD Cert.DeltaBwdIdeal.τ Cert.DeltaBwdIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_MergeWgrad (m : (ℓ : Loc Cert.MergeWgrad.nD Cert.MergeWgrad.τ Cert.MergeWgrad.sig) → Buf (Elt Bits) ℓ) : Prop :=
  True

def Pre_MergeWgradIdeal (m : (ℓ : Loc Cert.MergeWgradIdeal.nD Cert.MergeWgradIdeal.τ Cert.MergeWgradIdeal.sig) → Buf (Elt Ideal) ℓ) : Prop :=
  True

def Pre_MergeWgradRefIdeal (m : (ℓ : Loc Cert.MergeWgradRefIdeal.nD Cert.MergeWgradRefIdeal.τ Cert.MergeWgradRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormBwdRefIdeal_pre_finite_norm [hNormBwdRefIdeal : Cert.NormBwdRefIdeal.Facts] [hPre_finite_norm : Cert.Pre_finite_norm.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7)
      ∧ r.2.mem ((c.tc : Thread Cert.MergeBwd.nD Cert.MergeBwd.τ).loc Cert.MergeBwd.main_arg8) = m ((c.tc : Thread Cert.MergeBwd.nD Cert.MergeBwd.τ).loc Cert.MergeBwd.main_arg8))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
      ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7)
      ∧ r.2.mem ((c.tc : Thread Cert.MergeBwdRefIdeal.nD Cert.MergeBwdRefIdeal.τ).loc Cert.MergeBwdRefIdeal.main_arg8) = m ((c.tc : Thread Cert.MergeBwdRefIdeal.nD Cert.MergeBwdRefIdeal.τ).loc Cert.MergeBwdRefIdeal.main_arg8))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpBwdIdeal_pre_finite_gmlp [hGmlpBwdIdeal : Cert.GmlpBwdIdeal.Facts] [hPre_finite_gmlp : Cert.Pre_finite_gmlp.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_finite_gmlp m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5))
      ∧ r.2.sem = fun _ => 0)

def quiescent_GmlpBwdRefIdeal_pre_finite_gmlp [hGmlpBwdRefIdeal : Cert.GmlpBwdRefIdeal.Facts] [hPre_finite_gmlp : Cert.Pre_finite_gmlp.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal_finite_gmlp m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_ConvBwdRefIdeal_pre_finite_conv [hConvBwdRefIdeal : Cert.ConvBwdRefIdeal.Facts] [hPre_finite_conv : Cert.Pre_finite_conv.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_conv m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_DeltaBwd [hDeltaBwd : Cert.DeltaBwd.Facts] : Prop :=
  ∀ (m : (ℓ : Loc Cert.DeltaBwd.nD Cert.DeltaBwd.τ Cert.DeltaBwd.sig) → Buf (Elt Bits) ℓ) (g : Dev Cert.DeltaBwd.nD → PrngReg), Pre_DeltaBwd m →
    θ_run (Cert.DeltaBwd.defs (F := Bits)) (onTc (τ := Cert.DeltaBwd.τ) (Cert.DeltaBwd.main (F := Bits))) ⟨m, fun _ => 0, g⟩ (fun r => (∀ c : Dev Cert.DeltaBwd.nD,
      r.2.mem ((c.tc : Thread Cert.DeltaBwd.nD Cert.DeltaBwd.τ).loc Cert.DeltaBwd.main_arg0) = m ((c.tc : Thread Cert.DeltaBwd.nD Cert.DeltaBwd.τ).loc Cert.DeltaBwd.main_arg0)
      ∧ r.2.mem ((c.tc : Thread Cert.DeltaBwd.nD Cert.DeltaBwd.τ).loc Cert.DeltaBwd.main_arg1) = m ((c.tc : Thread Cert.DeltaBwd.nD Cert.DeltaBwd.τ).loc Cert.DeltaBwd.main_arg1)
      ∧ r.2.mem ((c.tc : Thread Cert.DeltaBwd.nD Cert.DeltaBwd.τ).loc Cert.DeltaBwd.main_arg2) = m ((c.tc : Thread Cert.DeltaBwd.nD Cert.DeltaBwd.τ).loc Cert.DeltaBwd.main_arg2)
      ∧ r.2.mem ((c.tc : Thread Cert.DeltaBwd.nD Cert.DeltaBwd.τ).loc Cert.DeltaBwd.main_arg3) = m ((c.tc : Thread Cert.DeltaBwd.nD Cert.DeltaBwd.τ).loc Cert.DeltaBwd.main_arg3)
      ∧ r.2.mem ((c.tc : Thread Cert.DeltaBwd.nD Cert.DeltaBwd.τ).loc Cert.DeltaBwd.main_arg4) = m ((c.tc : Thread Cert.DeltaBwd.nD Cert.DeltaBwd.τ).loc Cert.DeltaBwd.main_arg4)
      ∧ r.2.mem ((c.tc : Thread Cert.DeltaBwd.nD Cert.DeltaBwd.τ).loc Cert.DeltaBwd.main_arg5) = m ((c.tc : Thread Cert.DeltaBwd.nD Cert.DeltaBwd.τ).loc Cert.DeltaBwd.main_arg5)
      ∧ r.2.mem ((c.tc : Thread Cert.DeltaBwd.nD Cert.DeltaBwd.τ).loc Cert.DeltaBwd.main_arg6) = m ((c.tc : Thread Cert.DeltaBwd.nD Cert.DeltaBwd.τ).loc Cert.DeltaBwd.main_arg6)
      ∧ r.2.mem ((c.tc : Thread Cert.DeltaBwd.nD Cert.DeltaBwd.τ).loc Cert.DeltaBwd.main_arg7) = m ((c.tc : Thread Cert.DeltaBwd.nD Cert.DeltaBwd.τ).loc Cert.DeltaBwd.main_arg7)
      ∧ r.2.mem ((c.tc : Thread Cert.DeltaBwd.nD Cert.DeltaBwd.τ).loc Cert.DeltaBwd.main_arg8) = m ((c.tc : Thread Cert.DeltaBwd.nD Cert.DeltaBwd.τ).loc Cert.DeltaBwd.main_arg8)
      ∧ r.2.mem ((c.tc : Thread Cert.DeltaBwd.nD Cert.DeltaBwd.τ).loc Cert.DeltaBwd.main_arg9) = m ((c.tc : Thread Cert.DeltaBwd.nD Cert.DeltaBwd.τ).loc Cert.DeltaBwd.main_arg9)
      ∧ r.2.mem ((c.tc : Thread Cert.DeltaBwd.nD Cert.DeltaBwd.τ).loc Cert.DeltaBwd.main_arg10) = m ((c.tc : Thread Cert.DeltaBwd.nD Cert.DeltaBwd.τ).loc Cert.DeltaBwd.main_arg10)
      ∧ r.2.mem ((c.tc : Thread Cert.DeltaBwd.nD Cert.DeltaBwd.τ).loc Cert.DeltaBwd.main_arg11) = m ((c.tc : Thread Cert.DeltaBwd.nD Cert.DeltaBwd.τ).loc Cert.DeltaBwd.main_arg11))
      ∧ r.2.sem = fun _ => 0)

def quiescent_DeltaBwdIdeal [hDeltaBwdIdeal : Cert.DeltaBwdIdeal.Facts] : Prop :=
  ∀ (m : (ℓ : Loc Cert.DeltaBwdIdeal.nD Cert.DeltaBwdIdeal.τ Cert.DeltaBwdIdeal.sig) → Buf (Elt Ideal) ℓ) (g : Dev Cert.DeltaBwdIdeal.nD → PrngReg), Pre_DeltaBwdIdeal m →
    θ_run (Cert.DeltaBwdIdeal.defs (F := Ideal)) (onTc (τ := Cert.DeltaBwdIdeal.τ) (Cert.DeltaBwdIdeal.main (F := Ideal))) ⟨m, fun _ => 0, g⟩ (fun r => (∀ c : Dev Cert.DeltaBwdIdeal.nD,
      r.2.mem ((c.tc : Thread Cert.DeltaBwdIdeal.nD Cert.DeltaBwdIdeal.τ).loc Cert.DeltaBwdIdeal.main_arg0) = m ((c.tc : Thread Cert.DeltaBwdIdeal.nD Cert.DeltaBwdIdeal.τ).loc Cert.DeltaBwdIdeal.main_arg0)
      ∧ r.2.mem ((c.tc : Thread Cert.DeltaBwdIdeal.nD Cert.DeltaBwdIdeal.τ).loc Cert.DeltaBwdIdeal.main_arg1) = m ((c.tc : Thread Cert.DeltaBwdIdeal.nD Cert.DeltaBwdIdeal.τ).loc Cert.DeltaBwdIdeal.main_arg1)
      ∧ r.2.mem ((c.tc : Thread Cert.DeltaBwdIdeal.nD Cert.DeltaBwdIdeal.τ).loc Cert.DeltaBwdIdeal.main_arg2) = m ((c.tc : Thread Cert.DeltaBwdIdeal.nD Cert.DeltaBwdIdeal.τ).loc Cert.DeltaBwdIdeal.main_arg2)
      ∧ r.2.mem ((c.tc : Thread Cert.DeltaBwdIdeal.nD Cert.DeltaBwdIdeal.τ).loc Cert.DeltaBwdIdeal.main_arg3) = m ((c.tc : Thread Cert.DeltaBwdIdeal.nD Cert.DeltaBwdIdeal.τ).loc Cert.DeltaBwdIdeal.main_arg3)
      ∧ r.2.mem ((c.tc : Thread Cert.DeltaBwdIdeal.nD Cert.DeltaBwdIdeal.τ).loc Cert.DeltaBwdIdeal.main_arg4) = m ((c.tc : Thread Cert.DeltaBwdIdeal.nD Cert.DeltaBwdIdeal.τ).loc Cert.DeltaBwdIdeal.main_arg4)
      ∧ r.2.mem ((c.tc : Thread Cert.DeltaBwdIdeal.nD Cert.DeltaBwdIdeal.τ).loc Cert.DeltaBwdIdeal.main_arg5) = m ((c.tc : Thread Cert.DeltaBwdIdeal.nD Cert.DeltaBwdIdeal.τ).loc Cert.DeltaBwdIdeal.main_arg5)
      ∧ r.2.mem ((c.tc : Thread Cert.DeltaBwdIdeal.nD Cert.DeltaBwdIdeal.τ).loc Cert.DeltaBwdIdeal.main_arg6) = m ((c.tc : Thread Cert.DeltaBwdIdeal.nD Cert.DeltaBwdIdeal.τ).loc Cert.DeltaBwdIdeal.main_arg6)
      ∧ r.2.mem ((c.tc : Thread Cert.DeltaBwdIdeal.nD Cert.DeltaBwdIdeal.τ).loc Cert.DeltaBwdIdeal.main_arg7) = m ((c.tc : Thread Cert.DeltaBwdIdeal.nD Cert.DeltaBwdIdeal.τ).loc Cert.DeltaBwdIdeal.main_arg7)
      ∧ r.2.mem ((c.tc : Thread Cert.DeltaBwdIdeal.nD Cert.DeltaBwdIdeal.τ).loc Cert.DeltaBwdIdeal.main_arg8) = m ((c.tc : Thread Cert.DeltaBwdIdeal.nD Cert.DeltaBwdIdeal.τ).loc Cert.DeltaBwdIdeal.main_arg8)
      ∧ r.2.mem ((c.tc : Thread Cert.DeltaBwdIdeal.nD Cert.DeltaBwdIdeal.τ).loc Cert.DeltaBwdIdeal.main_arg9) = m ((c.tc : Thread Cert.DeltaBwdIdeal.nD Cert.DeltaBwdIdeal.τ).loc Cert.DeltaBwdIdeal.main_arg9)
      ∧ r.2.mem ((c.tc : Thread Cert.DeltaBwdIdeal.nD Cert.DeltaBwdIdeal.τ).loc Cert.DeltaBwdIdeal.main_arg10) = m ((c.tc : Thread Cert.DeltaBwdIdeal.nD Cert.DeltaBwdIdeal.τ).loc Cert.DeltaBwdIdeal.main_arg10)
      ∧ r.2.mem ((c.tc : Thread Cert.DeltaBwdIdeal.nD Cert.DeltaBwdIdeal.τ).loc Cert.DeltaBwdIdeal.main_arg11) = m ((c.tc : Thread Cert.DeltaBwdIdeal.nD Cert.DeltaBwdIdeal.τ).loc Cert.DeltaBwdIdeal.main_arg11))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_MergeWgrad [hMergeWgrad : Cert.MergeWgrad.Facts] : Prop :=
  ∀ (m : (ℓ : Loc Cert.MergeWgrad.nD Cert.MergeWgrad.τ Cert.MergeWgrad.sig) → Buf (Elt Bits) ℓ) (g : Dev Cert.MergeWgrad.nD → PrngReg), Pre_MergeWgrad m →
    θ_run (Cert.MergeWgrad.defs (F := Bits)) (onTc (τ := Cert.MergeWgrad.τ) (Cert.MergeWgrad.main (F := Bits))) ⟨m, fun _ => 0, g⟩ (fun r => (∀ c : Dev Cert.MergeWgrad.nD,
      r.2.mem ((c.tc : Thread Cert.MergeWgrad.nD Cert.MergeWgrad.τ).loc Cert.MergeWgrad.main_arg0) = m ((c.tc : Thread Cert.MergeWgrad.nD Cert.MergeWgrad.τ).loc Cert.MergeWgrad.main_arg0)
      ∧ r.2.mem ((c.tc : Thread Cert.MergeWgrad.nD Cert.MergeWgrad.τ).loc Cert.MergeWgrad.main_arg1) = m ((c.tc : Thread Cert.MergeWgrad.nD Cert.MergeWgrad.τ).loc Cert.MergeWgrad.main_arg1)
      ∧ r.2.mem ((c.tc : Thread Cert.MergeWgrad.nD Cert.MergeWgrad.τ).loc Cert.MergeWgrad.main_arg2) = m ((c.tc : Thread Cert.MergeWgrad.nD Cert.MergeWgrad.τ).loc Cert.MergeWgrad.main_arg2)
      ∧ r.2.mem ((c.tc : Thread Cert.MergeWgrad.nD Cert.MergeWgrad.τ).loc Cert.MergeWgrad.main_arg3) = m ((c.tc : Thread Cert.MergeWgrad.nD Cert.MergeWgrad.τ).loc Cert.MergeWgrad.main_arg3)
      ∧ r.2.mem ((c.tc : Thread Cert.MergeWgrad.nD Cert.MergeWgrad.τ).loc Cert.MergeWgrad.main_arg4) = m ((c.tc : Thread Cert.MergeWgrad.nD Cert.MergeWgrad.τ).loc Cert.MergeWgrad.main_arg4)
      ∧ r.2.mem ((c.tc : Thread Cert.MergeWgrad.nD Cert.MergeWgrad.τ).loc Cert.MergeWgrad.main_arg5) = m ((c.tc : Thread Cert.MergeWgrad.nD Cert.MergeWgrad.τ).loc Cert.MergeWgrad.main_arg5)
      ∧ r.2.mem ((c.tc : Thread Cert.MergeWgrad.nD Cert.MergeWgrad.τ).loc Cert.MergeWgrad.main_arg6) = m ((c.tc : Thread Cert.MergeWgrad.nD Cert.MergeWgrad.τ).loc Cert.MergeWgrad.main_arg6)
      ∧ r.2.mem ((c.tc : Thread Cert.MergeWgrad.nD Cert.MergeWgrad.τ).loc Cert.MergeWgrad.main_arg7) = m ((c.tc : Thread Cert.MergeWgrad.nD Cert.MergeWgrad.τ).loc Cert.MergeWgrad.main_arg7))
      ∧ r.2.sem = fun _ => 0)

def quiescent_MergeWgradIdeal [hMergeWgradIdeal : Cert.MergeWgradIdeal.Facts] : Prop :=
  ∀ (m : (ℓ : Loc Cert.MergeWgradIdeal.nD Cert.MergeWgradIdeal.τ Cert.MergeWgradIdeal.sig) → Buf (Elt Ideal) ℓ) (g : Dev Cert.MergeWgradIdeal.nD → PrngReg), Pre_MergeWgradIdeal m →
    θ_run (Cert.MergeWgradIdeal.defs (F := Ideal)) (onTc (τ := Cert.MergeWgradIdeal.τ) (Cert.MergeWgradIdeal.main (F := Ideal))) ⟨m, fun _ => 0, g⟩ (fun r => (∀ c : Dev Cert.MergeWgradIdeal.nD,
      r.2.mem ((c.tc : Thread Cert.MergeWgradIdeal.nD Cert.MergeWgradIdeal.τ).loc Cert.MergeWgradIdeal.main_arg0) = m ((c.tc : Thread Cert.MergeWgradIdeal.nD Cert.MergeWgradIdeal.τ).loc Cert.MergeWgradIdeal.main_arg0)
      ∧ r.2.mem ((c.tc : Thread Cert.MergeWgradIdeal.nD Cert.MergeWgradIdeal.τ).loc Cert.MergeWgradIdeal.main_arg1) = m ((c.tc : Thread Cert.MergeWgradIdeal.nD Cert.MergeWgradIdeal.τ).loc Cert.MergeWgradIdeal.main_arg1)
      ∧ r.2.mem ((c.tc : Thread Cert.MergeWgradIdeal.nD Cert.MergeWgradIdeal.τ).loc Cert.MergeWgradIdeal.main_arg2) = m ((c.tc : Thread Cert.MergeWgradIdeal.nD Cert.MergeWgradIdeal.τ).loc Cert.MergeWgradIdeal.main_arg2)
      ∧ r.2.mem ((c.tc : Thread Cert.MergeWgradIdeal.nD Cert.MergeWgradIdeal.τ).loc Cert.MergeWgradIdeal.main_arg3) = m ((c.tc : Thread Cert.MergeWgradIdeal.nD Cert.MergeWgradIdeal.τ).loc Cert.MergeWgradIdeal.main_arg3)
      ∧ r.2.mem ((c.tc : Thread Cert.MergeWgradIdeal.nD Cert.MergeWgradIdeal.τ).loc Cert.MergeWgradIdeal.main_arg4) = m ((c.tc : Thread Cert.MergeWgradIdeal.nD Cert.MergeWgradIdeal.τ).loc Cert.MergeWgradIdeal.main_arg4)
      ∧ r.2.mem ((c.tc : Thread Cert.MergeWgradIdeal.nD Cert.MergeWgradIdeal.τ).loc Cert.MergeWgradIdeal.main_arg5) = m ((c.tc : Thread Cert.MergeWgradIdeal.nD Cert.MergeWgradIdeal.τ).loc Cert.MergeWgradIdeal.main_arg5)
      ∧ r.2.mem ((c.tc : Thread Cert.MergeWgradIdeal.nD Cert.MergeWgradIdeal.τ).loc Cert.MergeWgradIdeal.main_arg6) = m ((c.tc : Thread Cert.MergeWgradIdeal.nD Cert.MergeWgradIdeal.τ).loc Cert.MergeWgradIdeal.main_arg6)
      ∧ r.2.mem ((c.tc : Thread Cert.MergeWgradIdeal.nD Cert.MergeWgradIdeal.τ).loc Cert.MergeWgradIdeal.main_arg7) = m ((c.tc : Thread Cert.MergeWgradIdeal.nD Cert.MergeWgradIdeal.τ).loc Cert.MergeWgradIdeal.main_arg7))
      ∧ r.2.sem = fun _ => 0)

def quiescent_MergeWgradRefIdeal [hMergeWgradRefIdeal : Cert.MergeWgradRefIdeal.Facts] : Prop :=
  ∀ (m : (ℓ : Loc Cert.MergeWgradRefIdeal.nD Cert.MergeWgradRefIdeal.τ Cert.MergeWgradRefIdeal.sig) → Buf (Elt Ideal) ℓ) (g : Dev Cert.MergeWgradRefIdeal.nD → PrngReg), Pre_MergeWgradRefIdeal m →
    θ_run (Cert.MergeWgradRefIdeal.defs (F := Ideal)) (onTc (τ := Cert.MergeWgradRefIdeal.τ) (Cert.MergeWgradRefIdeal.main (F := Ideal))) ⟨m, fun _ => 0, g⟩ (fun r => (∀ c : Dev Cert.MergeWgradRefIdeal.nD,
      r.2.mem ((c.tc : Thread Cert.MergeWgradRefIdeal.nD Cert.MergeWgradRefIdeal.τ).loc Cert.MergeWgradRefIdeal.main_arg0) = m ((c.tc : Thread Cert.MergeWgradRefIdeal.nD Cert.MergeWgradRefIdeal.τ).loc Cert.MergeWgradRefIdeal.main_arg0)
      ∧ r.2.mem ((c.tc : Thread Cert.MergeWgradRefIdeal.nD Cert.MergeWgradRefIdeal.τ).loc Cert.MergeWgradRefIdeal.main_arg1) = m ((c.tc : Thread Cert.MergeWgradRefIdeal.nD Cert.MergeWgradRefIdeal.τ).loc Cert.MergeWgradRefIdeal.main_arg1)
      ∧ r.2.mem ((c.tc : Thread Cert.MergeWgradRefIdeal.nD Cert.MergeWgradRefIdeal.τ).loc Cert.MergeWgradRefIdeal.main_arg2) = m ((c.tc : Thread Cert.MergeWgradRefIdeal.nD Cert.MergeWgradRefIdeal.τ).loc Cert.MergeWgradRefIdeal.main_arg2)
      ∧ r.2.mem ((c.tc : Thread Cert.MergeWgradRefIdeal.nD Cert.MergeWgradRefIdeal.τ).loc Cert.MergeWgradRefIdeal.main_arg3) = m ((c.tc : Thread Cert.MergeWgradRefIdeal.nD Cert.MergeWgradRefIdeal.τ).loc Cert.MergeWgradRefIdeal.main_arg3)
      ∧ r.2.mem ((c.tc : Thread Cert.MergeWgradRefIdeal.nD Cert.MergeWgradRefIdeal.τ).loc Cert.MergeWgradRefIdeal.main_arg4) = m ((c.tc : Thread Cert.MergeWgradRefIdeal.nD Cert.MergeWgradRefIdeal.τ).loc Cert.MergeWgradRefIdeal.main_arg4)
      ∧ r.2.mem ((c.tc : Thread Cert.MergeWgradRefIdeal.nD Cert.MergeWgradRefIdeal.τ).loc Cert.MergeWgradRefIdeal.main_arg5) = m ((c.tc : Thread Cert.MergeWgradRefIdeal.nD Cert.MergeWgradRefIdeal.τ).loc Cert.MergeWgradRefIdeal.main_arg5)
      ∧ r.2.mem ((c.tc : Thread Cert.MergeWgradRefIdeal.nD Cert.MergeWgradRefIdeal.τ).loc Cert.MergeWgradRefIdeal.main_arg6) = m ((c.tc : Thread Cert.MergeWgradRefIdeal.nD Cert.MergeWgradRefIdeal.τ).loc Cert.MergeWgradRefIdeal.main_arg6)
      ∧ r.2.mem ((c.tc : Thread Cert.MergeWgradRefIdeal.nD Cert.MergeWgradRefIdeal.τ).loc Cert.MergeWgradRefIdeal.main_arg7) = m ((c.tc : Thread Cert.MergeWgradRefIdeal.nD Cert.MergeWgradRefIdeal.τ).loc Cert.MergeWgradRefIdeal.main_arg7))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def preserves_NormBwd_NormBwdIdeal : Prop :=
  True

def algebraic_NormBwdIdeal_NormBwdRefIdeal_pre_finite_norm [hNormBwdIdeal : Cert.NormBwdIdeal.Facts] [hNormBwdRefIdeal : Cert.NormBwdRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v4_0)) (v1 : (c : Dev Cert.NormBwdIdeal.nD) → Buf (Elt Ideal) ((c.tc : Thread Cert.NormBwdIdeal.nD Cert.NormBwdIdeal.τ).loc Cert.NormBwdIdeal.main_v4_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v4_0) = v0 c
          ∧ r.2.mem ((c.tc : Thread Cert.NormBwdIdeal.nD Cert.NormBwdIdeal.τ).loc Cert.NormBwdIdeal.main_v4_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v39) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)
      ∧ m' ((c.tc : Thread Cert.MergeBwdRefIdeal.nD Cert.MergeBwdRefIdeal.τ).loc Cert.MergeBwdRefIdeal.main_arg8) = m ((c.tc : Thread Cert.MergeBwdIdeal.nD Cert.MergeBwdIdeal.τ).loc Cert.MergeBwdIdeal.main_arg8)) →
    ∃ (v0 : (c : Dev Cert.MergeBwdIdeal.nD) → Buf (Elt Ideal) ((c.tc : Thread Cert.MergeBwdIdeal.nD Cert.MergeBwdIdeal.τ).loc Cert.MergeBwdIdeal.main_v13_0)) (v1 : (c : Dev Cert.MergeBwdIdeal.nD) → Buf (Elt Ideal) ((c.tc : Thread Cert.MergeBwdIdeal.nD Cert.MergeBwdIdeal.τ).loc Cert.MergeBwdIdeal.main_v13_1)) (v2 : (c : Dev Cert.MergeBwdIdeal.nD) → Buf (Elt Ideal) ((c.tc : Thread Cert.MergeBwdIdeal.nD Cert.MergeBwdIdeal.τ).loc Cert.MergeBwdIdeal.main_v13_2)) (v3 : (c : Dev Cert.MergeBwdIdeal.nD) → Buf (Elt Ideal) ((c.tc : Thread Cert.MergeBwdIdeal.nD Cert.MergeBwdIdeal.τ).loc Cert.MergeBwdIdeal.main_v13_3)) (v4 : (c : Dev Cert.MergeBwdIdeal.nD) → Buf (Elt Ideal) ((c.tc : Thread Cert.MergeBwdIdeal.nD Cert.MergeBwdIdeal.τ).loc Cert.MergeBwdIdeal.main_v13_4)) (v5 : (c : Dev Cert.MergeBwdIdeal.nD) → Buf (Elt Ideal) ((c.tc : Thread Cert.MergeBwdIdeal.nD Cert.MergeBwdIdeal.τ).loc Cert.MergeBwdIdeal.main_v13_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v13_0) = v0 c
          ∧ r.2.mem ((c.tc : Thread Cert.MergeBwdIdeal.nD Cert.MergeBwdIdeal.τ).loc Cert.MergeBwdIdeal.main_v13_1) = v1 c
          ∧ r.2.mem ((c.tc : Thread Cert.MergeBwdIdeal.nD Cert.MergeBwdIdeal.τ).loc Cert.MergeBwdIdeal.main_v13_2) = v2 c
          ∧ r.2.mem ((c.tc : Thread Cert.MergeBwdIdeal.nD Cert.MergeBwdIdeal.τ).loc Cert.MergeBwdIdeal.main_v13_3) = v3 c
          ∧ r.2.mem ((c.tc : Thread Cert.MergeBwdIdeal.nD Cert.MergeBwdIdeal.τ).loc Cert.MergeBwdIdeal.main_v13_4) = v4 c
          ∧ r.2.mem ((c.tc : Thread Cert.MergeBwdIdeal.nD Cert.MergeBwdIdeal.τ).loc Cert.MergeBwdIdeal.main_v13_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
          ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v45) = v0 c
          ∧ r.2.mem ((c.tc : Thread Cert.MergeBwdRefIdeal.nD Cert.MergeBwdRefIdeal.τ).loc Cert.MergeBwdRefIdeal.main_v44) = v1 c
          ∧ r.2.mem ((c.tc : Thread Cert.MergeBwdRefIdeal.nD Cert.MergeBwdRefIdeal.τ).loc Cert.MergeBwdRefIdeal.main_v43) = v2 c
          ∧ r.2.mem ((c.tc : Thread Cert.MergeBwdRefIdeal.nD Cert.MergeBwdRefIdeal.τ).loc Cert.MergeBwdRefIdeal.main_v46) = v3 c
          ∧ r.2.mem ((c.tc : Thread Cert.MergeBwdRefIdeal.nD Cert.MergeBwdRefIdeal.τ).loc Cert.MergeBwdRefIdeal.main_v47) = v4 c
          ∧ r.2.mem ((c.tc : Thread Cert.MergeBwdRefIdeal.nD Cert.MergeBwdRefIdeal.τ).loc Cert.MergeBwdRefIdeal.main_v49) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7)
          ∧ r.2.mem ((c.tc : Thread Cert.MergeBwdRefIdeal.nD Cert.MergeBwdRefIdeal.τ).loc Cert.MergeBwdRefIdeal.main_arg8) = m' ((c.tc : Thread Cert.MergeBwdRefIdeal.nD Cert.MergeBwdRefIdeal.τ).loc Cert.MergeBwdRefIdeal.main_arg8))

def preserves_GmlpBwd_GmlpBwdIdeal : Prop :=
  IdealRules.named_const.Statement Cert.GmlpBwdIdeal.κ "gelu_c" .f32 0x3D372713#32 ((8943 / 200000 : ℝ) : EReal)
  ∧ IdealRules.named_const.Statement Cert.GmlpBwdIdeal.κ "gelu_3c" .f32 0x3E095D4F#32 ((26829 / 200000 : ℝ) : EReal)

def algebraic_GmlpBwdIdeal_GmlpBwdRefIdeal_pre_finite_gmlp [hGmlpBwdIdeal : Cert.GmlpBwdIdeal.Facts] [hGmlpBwdRefIdeal : Cert.GmlpBwdRefIdeal.Facts] [hPre_finite_gmlp : Cert.Pre_finite_gmlp.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal_finite_gmlp m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)
      ∧ m' ((c.tc : Thread Cert.GmlpBwdRefIdeal.nD Cert.GmlpBwdRefIdeal.τ).loc Cert.GmlpBwdRefIdeal.main_arg5) = m ((c.tc : Thread Cert.GmlpBwdIdeal.nD Cert.GmlpBwdIdeal.τ).loc Cert.GmlpBwdIdeal.main_arg5)) →
    ∃ (v0 : (c : Dev Cert.GmlpBwdIdeal.nD) → Buf (Elt Ideal) ((c.tc : Thread Cert.GmlpBwdIdeal.nD Cert.GmlpBwdIdeal.τ).loc Cert.GmlpBwdIdeal.main_v11_0)) (v1 : (c : Dev Cert.GmlpBwdIdeal.nD) → Buf (Elt Ideal) ((c.tc : Thread Cert.GmlpBwdIdeal.nD Cert.GmlpBwdIdeal.τ).loc Cert.GmlpBwdIdeal.main_v11_1)) (v2 : (c : Dev Cert.GmlpBwdIdeal.nD) → Buf (Elt Ideal) ((c.tc : Thread Cert.GmlpBwdIdeal.nD Cert.GmlpBwdIdeal.τ).loc Cert.GmlpBwdIdeal.main_v11_2)) (v3 : (c : Dev Cert.GmlpBwdIdeal.nD) → Buf (Elt Ideal) ((c.tc : Thread Cert.GmlpBwdIdeal.nD Cert.GmlpBwdIdeal.τ).loc Cert.GmlpBwdIdeal.main_v11_3)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v11_0) = v0 c
          ∧ r.2.mem ((c.tc : Thread Cert.GmlpBwdIdeal.nD Cert.GmlpBwdIdeal.τ).loc Cert.GmlpBwdIdeal.main_v11_1) = v1 c
          ∧ r.2.mem ((c.tc : Thread Cert.GmlpBwdIdeal.nD Cert.GmlpBwdIdeal.τ).loc Cert.GmlpBwdIdeal.main_v11_2) = v2 c
          ∧ r.2.mem ((c.tc : Thread Cert.GmlpBwdIdeal.nD Cert.GmlpBwdIdeal.τ).loc Cert.GmlpBwdIdeal.main_v11_3) = v3 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v169) = v0 c
          ∧ r.2.mem ((c.tc : Thread Cert.GmlpBwdRefIdeal.nD Cert.GmlpBwdRefIdeal.τ).loc Cert.GmlpBwdRefIdeal.main_v105) = v1 c
          ∧ r.2.mem ((c.tc : Thread Cert.GmlpBwdRefIdeal.nD Cert.GmlpBwdRefIdeal.τ).loc Cert.GmlpBwdRefIdeal.main_v170) = v2 c
          ∧ r.2.mem ((c.tc : Thread Cert.GmlpBwdRefIdeal.nD Cert.GmlpBwdRefIdeal.τ).loc Cert.GmlpBwdRefIdeal.main_v174) = v3 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4)
          ∧ r.2.mem ((c.tc : Thread Cert.GmlpBwdRefIdeal.nD Cert.GmlpBwdRefIdeal.τ).loc Cert.GmlpBwdRefIdeal.main_arg5) = m' ((c.tc : Thread Cert.GmlpBwdRefIdeal.nD Cert.GmlpBwdRefIdeal.τ).loc Cert.GmlpBwdRefIdeal.main_arg5))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v10_0)) (v1 : (c : Dev Cert.ConvFwdIdeal.nD) → Buf (Elt Ideal) ((c.tc : Thread Cert.ConvFwdIdeal.nD Cert.ConvFwdIdeal.τ).loc Cert.ConvFwdIdeal.main_v10_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v10_0) = v0 c
          ∧ r.2.mem ((c.tc : Thread Cert.ConvFwdIdeal.nD Cert.ConvFwdIdeal.τ).loc Cert.ConvFwdIdeal.main_v10_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v259) = v0 c
          ∧ r.2.mem ((c.tc : Thread Cert.ConvFwdRefIdeal.nD Cert.ConvFwdRefIdeal.τ).loc Cert.ConvFwdRefIdeal.main_v231) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_ConvBwd_ConvBwdIdeal : Prop :=
  True

def algebraic_ConvBwdIdeal_ConvBwdRefIdeal_pre_finite_conv [hConvBwdIdeal : Cert.ConvBwdIdeal.Facts] [hConvBwdRefIdeal : Cert.ConvBwdRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_conv m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)
      ∧ m' ((c.tc : Thread Cert.ConvBwdRefIdeal.nD Cert.ConvBwdRefIdeal.τ).loc Cert.ConvBwdRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v240_0)) (v1 : (c : Dev Cert.ConvBwdIdeal.nD) → Buf (Elt Ideal) ((c.tc : Thread Cert.ConvBwdIdeal.nD Cert.ConvBwdIdeal.τ).loc Cert.ConvBwdIdeal.main_v240_1)) (v2 : (c : Dev Cert.ConvBwdIdeal.nD) → Buf (Elt Ideal) ((c.tc : Thread Cert.ConvBwdIdeal.nD Cert.ConvBwdIdeal.τ).loc Cert.ConvBwdIdeal.main_v240_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v240_0) = v0 c
          ∧ r.2.mem ((c.tc : Thread Cert.ConvBwdIdeal.nD Cert.ConvBwdIdeal.τ).loc Cert.ConvBwdIdeal.main_v240_1) = v1 c
          ∧ r.2.mem ((c.tc : Thread Cert.ConvBwdIdeal.nD Cert.ConvBwdIdeal.τ).loc Cert.ConvBwdIdeal.main_v240_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v654) = v0 c
          ∧ r.2.mem ((c.tc : Thread Cert.ConvBwdRefIdeal.nD Cert.ConvBwdRefIdeal.τ).loc Cert.ConvBwdRefIdeal.main_v655) = v1 c
          ∧ r.2.mem ((c.tc : Thread Cert.ConvBwdRefIdeal.nD Cert.ConvBwdRefIdeal.τ).loc Cert.ConvBwdRefIdeal.main_v660) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4)
          ∧ r.2.mem ((c.tc : Thread Cert.ConvBwdRefIdeal.nD Cert.ConvBwdRefIdeal.τ).loc Cert.ConvBwdRefIdeal.main_arg5) = m' ((c.tc : Thread Cert.ConvBwdRefIdeal.nD Cert.ConvBwdRefIdeal.τ).loc Cert.ConvBwdRefIdeal.main_arg5))

def preserves_DeltaBwd_DeltaBwdIdeal : Prop :=
  True

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)) →
    ∃ (v0 : (c : Dev Cert.MergeFwdIdeal.nD) → Buf (Elt Ideal) ((c.tc : Thread Cert.MergeFwdIdeal.nD Cert.MergeFwdIdeal.τ).loc Cert.MergeFwdIdeal.main_v13)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v13) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v23) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8))

def preserves_GmlpFwd_GmlpFwdIdeal : Prop :=
  IdealRules.named_const.Statement Cert.GmlpFwdIdeal.κ "gelu_c" .f32 0x3D372713#32 ((8943 / 200000 : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v11)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v11) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v71) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_MergeWgrad_MergeWgradIdeal : Prop :=
  True

def algebraic_MergeWgradIdeal_MergeWgradRefIdeal [hMergeWgradIdeal : Cert.MergeWgradIdeal.Facts] [hMergeWgradRefIdeal : Cert.MergeWgradRefIdeal.Facts] : Prop :=
  ∀ (m : (ℓ : Loc Cert.MergeWgradIdeal.nD Cert.MergeWgradIdeal.τ Cert.MergeWgradIdeal.sig) → Buf (Elt Ideal) ℓ) (g : Dev Cert.MergeWgradIdeal.nD → PrngReg)
    (m' : (ℓ : Loc Cert.MergeWgradRefIdeal.nD Cert.MergeWgradRefIdeal.τ Cert.MergeWgradRefIdeal.sig) → Buf (Elt Ideal) ℓ) (g' : Dev Cert.MergeWgradRefIdeal.nD → PrngReg), Pre_MergeWgradIdeal m →
    (∀ c : Dev Cert.MergeWgradIdeal.nD,
      m' ((c.tc : Thread Cert.MergeWgradRefIdeal.nD Cert.MergeWgradRefIdeal.τ).loc Cert.MergeWgradRefIdeal.main_arg0) = m ((c.tc : Thread Cert.MergeWgradIdeal.nD Cert.MergeWgradIdeal.τ).loc Cert.MergeWgradIdeal.main_arg0)
      ∧ m' ((c.tc : Thread Cert.MergeWgradRefIdeal.nD Cert.MergeWgradRefIdeal.τ).loc Cert.MergeWgradRefIdeal.main_arg1) = m ((c.tc : Thread Cert.MergeWgradIdeal.nD Cert.MergeWgradIdeal.τ).loc Cert.MergeWgradIdeal.main_arg1)
      ∧ m' ((c.tc : Thread Cert.MergeWgradRefIdeal.nD Cert.MergeWgradRefIdeal.τ).loc Cert.MergeWgradRefIdeal.main_arg2) = m ((c.tc : Thread Cert.MergeWgradIdeal.nD Cert.MergeWgradIdeal.τ).loc Cert.MergeWgradIdeal.main_arg2)
      ∧ m' ((c.tc : Thread Cert.MergeWgradRefIdeal.nD Cert.MergeWgradRefIdeal.τ).loc Cert.MergeWgradRefIdeal.main_arg3) = m ((c.tc : Thread Cert.MergeWgradIdeal.nD Cert.MergeWgradIdeal.τ).loc Cert.MergeWgradIdeal.main_arg3)
      ∧ m' ((c.tc : Thread Cert.MergeWgradRefIdeal.nD Cert.MergeWgradRefIdeal.τ).loc Cert.MergeWgradRefIdeal.main_arg4) = m ((c.tc : Thread Cert.MergeWgradIdeal.nD Cert.MergeWgradIdeal.τ).loc Cert.MergeWgradIdeal.main_arg4)
      ∧ m' ((c.tc : Thread Cert.MergeWgradRefIdeal.nD Cert.MergeWgradRefIdeal.τ).loc Cert.MergeWgradRefIdeal.main_arg5) = m ((c.tc : Thread Cert.MergeWgradIdeal.nD Cert.MergeWgradIdeal.τ).loc Cert.MergeWgradIdeal.main_arg5)
      ∧ m' ((c.tc : Thread Cert.MergeWgradRefIdeal.nD Cert.MergeWgradRefIdeal.τ).loc Cert.MergeWgradRefIdeal.main_arg6) = m ((c.tc : Thread Cert.MergeWgradIdeal.nD Cert.MergeWgradIdeal.τ).loc Cert.MergeWgradIdeal.main_arg6)
      ∧ m' ((c.tc : Thread Cert.MergeWgradRefIdeal.nD Cert.MergeWgradRefIdeal.τ).loc Cert.MergeWgradRefIdeal.main_arg7) = m ((c.tc : Thread Cert.MergeWgradIdeal.nD Cert.MergeWgradIdeal.τ).loc Cert.MergeWgradIdeal.main_arg7)) →
    ∃ (v0 : (c : Dev Cert.MergeWgradIdeal.nD) → Buf (Elt Ideal) ((c.tc : Thread Cert.MergeWgradIdeal.nD Cert.MergeWgradIdeal.τ).loc Cert.MergeWgradIdeal.main_v6_0)) (v1 : (c : Dev Cert.MergeWgradIdeal.nD) → Buf (Elt Ideal) ((c.tc : Thread Cert.MergeWgradIdeal.nD Cert.MergeWgradIdeal.τ).loc Cert.MergeWgradIdeal.main_v6_1)) (v2 : (c : Dev Cert.MergeWgradIdeal.nD) → Buf (Elt Ideal) ((c.tc : Thread Cert.MergeWgradIdeal.nD Cert.MergeWgradIdeal.τ).loc Cert.MergeWgradIdeal.main_v6_2)) (v3 : (c : Dev Cert.MergeWgradIdeal.nD) → Buf (Elt Ideal) ((c.tc : Thread Cert.MergeWgradIdeal.nD Cert.MergeWgradIdeal.τ).loc Cert.MergeWgradIdeal.main_v6_3)),
      θ_run (Cert.MergeWgradIdeal.defs (F := Ideal)) (onTc (τ := Cert.MergeWgradIdeal.τ) (Cert.MergeWgradIdeal.main (F := Ideal))) ⟨m, fun _ => 0, g⟩ (fun r => ∀ c : Dev Cert.MergeWgradIdeal.nD,
          r.2.mem ((c.tc : Thread Cert.MergeWgradIdeal.nD Cert.MergeWgradIdeal.τ).loc Cert.MergeWgradIdeal.main_v6_0) = v0 c
          ∧ r.2.mem ((c.tc : Thread Cert.MergeWgradIdeal.nD Cert.MergeWgradIdeal.τ).loc Cert.MergeWgradIdeal.main_v6_1) = v1 c
          ∧ r.2.mem ((c.tc : Thread Cert.MergeWgradIdeal.nD Cert.MergeWgradIdeal.τ).loc Cert.MergeWgradIdeal.main_v6_2) = v2 c
          ∧ r.2.mem ((c.tc : Thread Cert.MergeWgradIdeal.nD Cert.MergeWgradIdeal.τ).loc Cert.MergeWgradIdeal.main_v6_3) = v3 c
          ∧ r.2.mem ((c.tc : Thread Cert.MergeWgradIdeal.nD Cert.MergeWgradIdeal.τ).loc Cert.MergeWgradIdeal.main_arg0) = m ((c.tc : Thread Cert.MergeWgradIdeal.nD Cert.MergeWgradIdeal.τ).loc Cert.MergeWgradIdeal.main_arg0)
          ∧ r.2.mem ((c.tc : Thread Cert.MergeWgradIdeal.nD Cert.MergeWgradIdeal.τ).loc Cert.MergeWgradIdeal.main_arg1) = m ((c.tc : Thread Cert.MergeWgradIdeal.nD Cert.MergeWgradIdeal.τ).loc Cert.MergeWgradIdeal.main_arg1)
          ∧ r.2.mem ((c.tc : Thread Cert.MergeWgradIdeal.nD Cert.MergeWgradIdeal.τ).loc Cert.MergeWgradIdeal.main_arg2) = m ((c.tc : Thread Cert.MergeWgradIdeal.nD Cert.MergeWgradIdeal.τ).loc Cert.MergeWgradIdeal.main_arg2)
          ∧ r.2.mem ((c.tc : Thread Cert.MergeWgradIdeal.nD Cert.MergeWgradIdeal.τ).loc Cert.MergeWgradIdeal.main_arg3) = m ((c.tc : Thread Cert.MergeWgradIdeal.nD Cert.MergeWgradIdeal.τ).loc Cert.MergeWgradIdeal.main_arg3)
          ∧ r.2.mem ((c.tc : Thread Cert.MergeWgradIdeal.nD Cert.MergeWgradIdeal.τ).loc Cert.MergeWgradIdeal.main_arg4) = m ((c.tc : Thread Cert.MergeWgradIdeal.nD Cert.MergeWgradIdeal.τ).loc Cert.MergeWgradIdeal.main_arg4)
          ∧ r.2.mem ((c.tc : Thread Cert.MergeWgradIdeal.nD Cert.MergeWgradIdeal.τ).loc Cert.MergeWgradIdeal.main_arg5) = m ((c.tc : Thread Cert.MergeWgradIdeal.nD Cert.MergeWgradIdeal.τ).loc Cert.MergeWgradIdeal.main_arg5)
          ∧ r.2.mem ((c.tc : Thread Cert.MergeWgradIdeal.nD Cert.MergeWgradIdeal.τ).loc Cert.MergeWgradIdeal.main_arg6) = m ((c.tc : Thread Cert.MergeWgradIdeal.nD Cert.MergeWgradIdeal.τ).loc Cert.MergeWgradIdeal.main_arg6)
          ∧ r.2.mem ((c.tc : Thread Cert.MergeWgradIdeal.nD Cert.MergeWgradIdeal.τ).loc Cert.MergeWgradIdeal.main_arg7) = m ((c.tc : Thread Cert.MergeWgradIdeal.nD Cert.MergeWgradIdeal.τ).loc Cert.MergeWgradIdeal.main_arg7))
      ∧ θ_run (Cert.MergeWgradRefIdeal.defs (F := Ideal)) (onTc (τ := Cert.MergeWgradRefIdeal.τ) (Cert.MergeWgradRefIdeal.main (F := Ideal))) ⟨m', fun _ => 0, g'⟩ (fun r => ∀ c : Dev Cert.MergeWgradRefIdeal.nD,
          r.2.mem ((c.tc : Thread Cert.MergeWgradRefIdeal.nD Cert.MergeWgradRefIdeal.τ).loc Cert.MergeWgradRefIdeal.main_v3) = v0 c
          ∧ r.2.mem ((c.tc : Thread Cert.MergeWgradRefIdeal.nD Cert.MergeWgradRefIdeal.τ).loc Cert.MergeWgradRefIdeal.main_v7) = v1 c
          ∧ r.2.mem ((c.tc : Thread Cert.MergeWgradRefIdeal.nD Cert.MergeWgradRefIdeal.τ).loc Cert.MergeWgradRefIdeal.main_v11) = v2 c
          ∧ r.2.mem ((c.tc : Thread Cert.MergeWgradRefIdeal.nD Cert.MergeWgradRefIdeal.τ).loc Cert.MergeWgradRefIdeal.main_v15) = v3 c
          ∧ r.2.mem ((c.tc : Thread Cert.MergeWgradRefIdeal.nD Cert.MergeWgradRefIdeal.τ).loc Cert.MergeWgradRefIdeal.main_arg0) = m' ((c.tc : Thread Cert.MergeWgradRefIdeal.nD Cert.MergeWgradRefIdeal.τ).loc Cert.MergeWgradRefIdeal.main_arg0)
          ∧ r.2.mem ((c.tc : Thread Cert.MergeWgradRefIdeal.nD Cert.MergeWgradRefIdeal.τ).loc Cert.MergeWgradRefIdeal.main_arg1) = m' ((c.tc : Thread Cert.MergeWgradRefIdeal.nD Cert.MergeWgradRefIdeal.τ).loc Cert.MergeWgradRefIdeal.main_arg1)
          ∧ r.2.mem ((c.tc : Thread Cert.MergeWgradRefIdeal.nD Cert.MergeWgradRefIdeal.τ).loc Cert.MergeWgradRefIdeal.main_arg2) = m' ((c.tc : Thread Cert.MergeWgradRefIdeal.nD Cert.MergeWgradRefIdeal.τ).loc Cert.MergeWgradRefIdeal.main_arg2)
          ∧ r.2.mem ((c.tc : Thread Cert.MergeWgradRefIdeal.nD Cert.MergeWgradRefIdeal.τ).loc Cert.MergeWgradRefIdeal.main_arg3) = m' ((c.tc : Thread Cert.MergeWgradRefIdeal.nD Cert.MergeWgradRefIdeal.τ).loc Cert.MergeWgradRefIdeal.main_arg3)
          ∧ r.2.mem ((c.tc : Thread Cert.MergeWgradRefIdeal.nD Cert.MergeWgradRefIdeal.τ).loc Cert.MergeWgradRefIdeal.main_arg4) = m' ((c.tc : Thread Cert.MergeWgradRefIdeal.nD Cert.MergeWgradRefIdeal.τ).loc Cert.MergeWgradRefIdeal.main_arg4)
          ∧ r.2.mem ((c.tc : Thread Cert.MergeWgradRefIdeal.nD Cert.MergeWgradRefIdeal.τ).loc Cert.MergeWgradRefIdeal.main_arg5) = m' ((c.tc : Thread Cert.MergeWgradRefIdeal.nD Cert.MergeWgradRefIdeal.τ).loc Cert.MergeWgradRefIdeal.main_arg5)
          ∧ r.2.mem ((c.tc : Thread Cert.MergeWgradRefIdeal.nD Cert.MergeWgradRefIdeal.τ).loc Cert.MergeWgradRefIdeal.main_arg6) = m' ((c.tc : Thread Cert.MergeWgradRefIdeal.nD Cert.MergeWgradRefIdeal.τ).loc Cert.MergeWgradRefIdeal.main_arg6)
          ∧ r.2.mem ((c.tc : Thread Cert.MergeWgradRefIdeal.nD Cert.MergeWgradRefIdeal.τ).loc Cert.MergeWgradRefIdeal.main_arg7) = m' ((c.tc : Thread Cert.MergeWgradRefIdeal.nD Cert.MergeWgradRefIdeal.τ).loc Cert.MergeWgradRefIdeal.main_arg7))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v17)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v17) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v2) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def Claim : Prop :=
  ∃ (hNormBwd : Cert.NormBwd.Facts) (hNormBwdIdeal : Cert.NormBwdIdeal.Facts) (hNormBwdRefIdeal : Cert.NormBwdRefIdeal.Facts) (hLossHead : Cert.LossHead.Facts) (hLossHeadIdeal : Cert.LossHeadIdeal.Facts) (hLossHeadRefIdeal : Cert.LossHeadRefIdeal.Facts) (hMergeBwd : Cert.MergeBwd.Facts) (hMergeBwdIdeal : Cert.MergeBwdIdeal.Facts) (hMergeBwdRefIdeal : Cert.MergeBwdRefIdeal.Facts) (hGmlpBwd : Cert.GmlpBwd.Facts) (hGmlpBwdIdeal : Cert.GmlpBwdIdeal.Facts) (hGmlpBwdRefIdeal : Cert.GmlpBwdRefIdeal.Facts) (hConvFwd : Cert.ConvFwd.Facts) (hConvFwdIdeal : Cert.ConvFwdIdeal.Facts) (hConvFwdRefIdeal : Cert.ConvFwdRefIdeal.Facts) (hConvBwd : Cert.ConvBwd.Facts) (hConvBwdIdeal : Cert.ConvBwdIdeal.Facts) (hConvBwdRefIdeal : Cert.ConvBwdRefIdeal.Facts) (hDeltaBwd : Cert.DeltaBwd.Facts) (hDeltaBwdIdeal : Cert.DeltaBwdIdeal.Facts) (hNormFwd : Cert.NormFwd.Facts) (hNormFwdIdeal : Cert.NormFwdIdeal.Facts) (hNormFwdRefIdeal : Cert.NormFwdRefIdeal.Facts) (hMergeFwd : Cert.MergeFwd.Facts) (hMergeFwdIdeal : Cert.MergeFwdIdeal.Facts) (hMergeFwdRefIdeal : Cert.MergeFwdRefIdeal.Facts) (hGmlpFwd : Cert.GmlpFwd.Facts) (hGmlpFwdIdeal : Cert.GmlpFwdIdeal.Facts) (hGmlpFwdRefIdeal : Cert.GmlpFwdRefIdeal.Facts) (hMergeWgrad : Cert.MergeWgrad.Facts) (hMergeWgradIdeal : Cert.MergeWgradIdeal.Facts) (hMergeWgradRefIdeal : Cert.MergeWgradRefIdeal.Facts) (hInProjDx : Cert.InProjDx.Facts) (hInProjDxIdeal : Cert.InProjDxIdeal.Facts) (hInProjDxRefIdeal : Cert.InProjDxRefIdeal.Facts) (hInProj : Cert.InProj.Facts) (hInProjIdeal : Cert.InProjIdeal.Facts) (hInProjRefIdeal : Cert.InProjRefIdeal.Facts) (hAdamw : Cert.Adamw.Facts) (hAdamwIdeal : Cert.AdamwIdeal.Facts) (hAdamwRefIdeal : Cert.AdamwRefIdeal.Facts) (hPre_finite_norm : Cert.Pre_finite_norm.Facts) (hPre_finite_loss : Cert.Pre_finite_loss.Facts) (hPre_finite_gmlp : Cert.Pre_finite_gmlp.Facts) (hPre_finite_conv : Cert.Pre_finite_conv.Facts),
    quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdRefIdeal (hNormBwdRefIdeal := hNormBwdRefIdeal)
    ∧ quiescent_NormBwdRefIdeal_pre_finite_norm (hNormBwdRefIdeal := hNormBwdRefIdeal) (hPre_finite_norm := hPre_finite_norm)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_GmlpBwd (hGmlpBwd := hGmlpBwd)
    ∧ quiescent_GmlpBwdIdeal (hGmlpBwdIdeal := hGmlpBwdIdeal)
    ∧ quiescent_GmlpBwdIdeal_pre_finite_gmlp (hGmlpBwdIdeal := hGmlpBwdIdeal) (hPre_finite_gmlp := hPre_finite_gmlp)
    ∧ quiescent_GmlpBwdRefIdeal (hGmlpBwdRefIdeal := hGmlpBwdRefIdeal)
    ∧ quiescent_GmlpBwdRefIdeal_pre_finite_gmlp (hGmlpBwdRefIdeal := hGmlpBwdRefIdeal) (hPre_finite_gmlp := hPre_finite_gmlp)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdRefIdeal (hConvBwdRefIdeal := hConvBwdRefIdeal)
    ∧ quiescent_ConvBwdRefIdeal_pre_finite_conv (hConvBwdRefIdeal := hConvBwdRefIdeal) (hPre_finite_conv := hPre_finite_conv)
    ∧ quiescent_DeltaBwd (hDeltaBwd := hDeltaBwd)
    ∧ quiescent_DeltaBwdIdeal (hDeltaBwdIdeal := hDeltaBwdIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_MergeWgrad (hMergeWgrad := hMergeWgrad)
    ∧ quiescent_MergeWgradIdeal (hMergeWgradIdeal := hMergeWgradIdeal)
    ∧ quiescent_MergeWgradRefIdeal (hMergeWgradRefIdeal := hMergeWgradRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProj (hInProj := hInProj)
    ∧ quiescent_InProjIdeal (hInProjIdeal := hInProjIdeal)
    ∧ quiescent_InProjRefIdeal (hInProjRefIdeal := hInProjRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_NormBwd_NormBwdIdeal
    ∧ algebraic_NormBwdIdeal_NormBwdRefIdeal_pre_finite_norm (hNormBwdIdeal := hNormBwdIdeal) (hNormBwdRefIdeal := hNormBwdRefIdeal) (hPre_finite_norm := hPre_finite_norm)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_GmlpBwd_GmlpBwdIdeal
    ∧ algebraic_GmlpBwdIdeal_GmlpBwdRefIdeal_pre_finite_gmlp (hGmlpBwdIdeal := hGmlpBwdIdeal) (hGmlpBwdRefIdeal := hGmlpBwdRefIdeal) (hPre_finite_gmlp := hPre_finite_gmlp)
    ∧ preserves_ConvFwd_ConvFwdIdeal
    ∧ algebraic_ConvFwdIdeal_ConvFwdRefIdeal (hConvFwdIdeal := hConvFwdIdeal) (hConvFwdRefIdeal := hConvFwdRefIdeal)
    ∧ preserves_ConvBwd_ConvBwdIdeal
    ∧ algebraic_ConvBwdIdeal_ConvBwdRefIdeal_pre_finite_conv (hConvBwdIdeal := hConvBwdIdeal) (hConvBwdRefIdeal := hConvBwdRefIdeal) (hPre_finite_conv := hPre_finite_conv)
    ∧ preserves_DeltaBwd_DeltaBwdIdeal
    ∧ preserves_NormFwd_NormFwdIdeal
    ∧ algebraic_NormFwdIdeal_NormFwdRefIdeal (hNormFwdIdeal := hNormFwdIdeal) (hNormFwdRefIdeal := hNormFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_MergeWgrad_MergeWgradIdeal
    ∧ algebraic_MergeWgradIdeal_MergeWgradRefIdeal (hMergeWgradIdeal := hMergeWgradIdeal) (hMergeWgradRefIdeal := hMergeWgradRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProj_InProjIdeal
    ∧ algebraic_InProjIdeal_InProjRefIdeal (hInProjIdeal := hInProjIdeal) (hInProjRefIdeal := hInProjRefIdeal)
    ∧ preserves_Adamw_AdamwIdeal
    ∧ algebraic_AdamwIdeal_AdamwRefIdeal (hAdamwIdeal := hAdamwIdeal) (hAdamwRefIdeal := hAdamwRefIdeal)
-- ==== Pre_finite_conv.lean ====
abbrev S2x4096x512 : Shape := ⟨3, ![2, 4096, 512]⟩
abbrev S2x4096x10256 : Shape := ⟨3, ![2, 4096, 10256]⟩
abbrev S31x512 : Shape := ⟨2, ![31, 512]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)
  bcast_S_S2x4096x10256 : S_.BroadcastsInDim S2x4096x10256 (![] : Fin 0 → Fin S2x4096x10256.rank)
  bcast_S_S31x512 : S_.BroadcastsInDim S31x512 (![] : Fin 0 → Fin S31x512.rank)
  bcast_S_S512 : S_.BroadcastsInDim S512 (![] : Fin 0 → Fin S512.rank)

variable [Facts]

def fn {F : FTy → Type} [FloatOps F] (main_arg0 : FVec F S2x4096x512 .f32) (main_arg1 : FVec F S2x4096x10256 .f32) (main_arg2 : FVec F S31x512 .f32) (main_arg3 : FVec F S512 .f32) (main_arg4 : FVec F S512 .f32) (main_arg5 : FVec F S512 .f32) : IVec S2x4096x512 1 × IVec S2x4096x10256 1 × IVec S31x512 1 × IVec S512 1 × IVec S512 1 × IVec S512 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_v3 : FVec F S2x4096x10256 .f32 := Host.absf main_arg1
  let main_cst_0 : FVec F S_ .f32 := constant S_ .f32 0x7F800000#32
  let main_v4 : FVec F S2x4096x10256 .f32 := broadcastInDim S2x4096x10256 ![] bcast_S_S2x4096x10256 main_cst_0
  let main_v5 : IVec S2x4096x10256 1 := cmpf .olt main_v3 main_v4
  let main_v6 : FVec F S31x512 .f32 := Host.absf main_arg2
  let main_cst_1 : FVec F S_ .f32 := constant S_ .f32 0x7F800000#32
  let main_v7 : FVec F S31x512 .f32 := broadcastInDim S31x512 ![] bcast_S_S31x512 main_cst_1
  let main_v8 : IVec S31x512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  (main_v2, main_v5, main_v8, main_v11, main_v14, main_v17)
-- ==== Pre_finite_gmlp.lean ====
abbrev S2x4096x512 : Shape := ⟨3, ![2, 4096, 512]⟩
abbrev S2x4096x10256 : Shape := ⟨3, ![2, 4096, 10256]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S2x4096x512 : S_.BroadcastsInDim S2x4096x512 (![] : Fin 0 → Fin S2x4096x512.rank)
  bcast_S_S2x4096x10256 : S_.BroadcastsInDim S2x4096x10256 (![] : Fin 0 → Fin S2x4096x10256.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S2x4096x512 .f32) (main_arg1 : FVec F S2x4096x10256 .f32) (main_arg2 : FVec F S512 .f32) (main_arg3 : FVec F S512 .f32) (main_arg4 : FVec F S4x128x128 .f32) (main_arg5 : FVec F S4x128 .f32) : IVec S2x4096x512 1 × IVec S2x4096x10256 1 × IVec S512 1 × IVec S512 1 × IVec S4x128x128 1 × IVec S4x128 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_v3 : FVec F S2x4096x10256 .f32 := Host.absf main_arg1
  let main_cst_0 : FVec F S_ .f32 := constant S_ .f32 0x7F800000#32
  let main_v4 : FVec F S2x4096x10256 .f32 := broadcastInDim S2x4096x10256 ![] bcast_S_S2x4096x10256 main_cst_0
  let main_v5 : IVec S2x4096x10256 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S4x128x128 .f32 := Host.absf main_arg4
  let main_cst_3 : FVec F S_ .f32 := constant S_ .f32 0x7F800000#32
  let main_v13 : FVec F S4x128x128 .f32 := broadcastInDim S4x128x128 ![] bcast_S_S4x128x128 main_cst_3
  let main_v14 : IVec S4x128x128 1 := cmpf .olt main_v12 main_v13
  let main_v15 : FVec F S4x128 .f32 := Host.absf main_arg5
  let main_cst_4 : FVec F S_ .f32 := constant S_ .f32 0x7F800000#32
  let main_v16 : FVec F S4x128 .f32 := broadcastInDim S4x128 ![] bcast_S_S4x128 main_cst_4
  let main_v17 : IVec S4x128 1 := cmpf .olt main_v15 main_v16
  (main_v2, main_v5, main_v8, main_v11, main_v14, main_v17)
-- ==== Pre_finite_loss.lean ====
abbrev S2x4096x1024 : Shape := ⟨3, ![2, 4096, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  bcast_S_S1024 : S_.BroadcastsInDim S1024 (![] : Fin 0 → Fin S1024.rank)

variable [Facts]

def fn {F : FTy → Type} [FloatOps F] (main_arg0 : FVec F S2x4096x1024 .f32) (main_arg1 : FVec F S2x4096x1024 .f32) (main_arg2 : FVec F S1024 .f32) : IVec S2x4096x1024 1 × IVec S2x4096x1024 1 × IVec S1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x4096x1024 .f32 := Host.absf main_arg1
  let main_cst_0 : FVec F S_ .f32 := constant S_ .f32 0x7F800000#32
  let main_v4 : FVec F S2x4096x1024 .f32 := broadcastInDim S2x4096x1024 ![] bcast_S_S2x4096x1024 main_cst_0
  let main_v5 : IVec S2x4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_norm.lean ====
abbrev S2x4096x1024 : Shape := ⟨3, ![2, 4096, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  bcast_S_S1024 : S_.BroadcastsInDim S1024 (![] : Fin 0 → Fin S1024.rank)

variable [Facts]

def fn {F : FTy → Type} [FloatOps F] (main_arg0 : FVec F S2x4096x1024 .f32) (main_arg1 : FVec F S2x4096x1024 .f32) (main_arg2 : FVec F S1024 .f32) (main_arg3 : FVec F S2x4096x1024 .f32) : IVec S2x4096x1024 1 × IVec S2x4096x1024 1 × IVec S1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x4096x1024 .f32 := Host.absf main_arg1
  let main_cst_0 : FVec F S_ .f32 := constant S_ .f32 0x7F800000#32
  let main_v4 : FVec F S2x4096x1024 .f32 := broadcastInDim S2x4096x1024 ![] bcast_S_S2x4096x1024 main_cst_0
  let main_v5 : IVec S2x4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== NormBwd.lean ====
abbrev S2x4096x1024 : Shape := ⟨3, ![2, 4096, 1024]⟩
abbrev S1024 : Shape := ⟨1, ![1024]⟩
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S7x1024 : Shape := ⟨2, ![7, 1024]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S2x4096x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1x1024 : Shape := ⟨2, ![1, 1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S2x4096x1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S1x1x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S_, .f32⟩
  | .hbm, ⟨31, _⟩ => ⟨S1024, .f32⟩
  | .hbm, ⟨32, _⟩ => ⟨S2x4096x1024, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S8192x1024, .f32⟩
  | .hbm, ⟨51, _⟩ => ⟨S1x1024, .f32⟩
  | .hbm, ⟨52, _⟩ => ⟨S_, .i32⟩
  | .hbm, ⟨53, _⟩ => ⟨S_, .f32⟩
  | .hbm, ⟨54, _⟩ => ⟨S8x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== LossHead.lean ====
abbrev S2x4096x1024 : Shape := ⟨3, ![2, 4096, 1024]⟩
abbrev S1024 : Shape := ⟨1, ![1024]⟩
abbrev S8192x1024 : Shape := ⟨2, ![8192, 1024]⟩
abbrev S1x1024 : Shape := ⟨2, ![1, 1024]⟩
abbrev S8x1024 : Shape := ⟨2, ![8, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S7x1024 : Shape := ⟨2, ![7, 1024]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8x1024, .f32⟩
  | .hbm, ⟨8, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1x1024 : Shape := ⟨2, ![1, 1024]⟩
abbrev S8x1024 : Shape := ⟨2, ![8, 1024]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1024, .f32⟩
  | .hbm, ⟨19, _⟩ => ⟨S2x4096x1024, .f32⟩
  | .hbm, ⟨20, _⟩ => ⟨S1x1x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096x1024, .f32⟩
  | .hbm, ⟨27, _⟩ => ⟨S2x4096x1024, .f32⟩
  | .hbm, ⟨28, _⟩ => ⟨S_, .f32⟩
  | .hbm, ⟨29, _⟩ => ⟨S2x4096, .f32⟩
  | .hbm, ⟨30, _⟩ => ⟨S_, .f32⟩
  | .hbm, ⟨31, _⟩ => ⟨S2x4096, .f32⟩
  | .hbm, ⟨32, _⟩ => ⟨S2x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x4096, .f32⟩
  | .hbm, ⟨41, _⟩ => ⟨S_, .f32⟩
  | .hbm, ⟨42, _⟩ => ⟨S2x4096, .f32⟩
  | .hbm, ⟨43, _⟩ => ⟨S2x4096, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x4096x1024, .f32⟩
  | .hbm, ⟨51, _⟩ => ⟨S2x4096x1024, .f32⟩
  | .hbm, ⟨52, _⟩ => ⟨S_, .f32⟩
  | .hbm, ⟨53, _⟩ => ⟨S1024, .f32⟩
  | .hbm, ⟨54, _⟩ => ⟨S2x4096x1024, .f32⟩
  | .hbm, ⟨55, _⟩ => ⟨S_, .f32⟩
  | .hbm, ⟨56, _⟩ => ⟨S2x4096, .f32⟩
  | .hbm, ⟨57, _⟩ => ⟨S2x4096x1, .f32⟩
  | .hbm, ⟨58, _⟩ => ⟨S2x4096x1024, .f32⟩
  | .hbm, ⟨59, _⟩ => ⟨S2x4096x1024, .f32⟩
  | .hbm, ⟨60, _⟩ => ⟨S2x4096x1, .f32⟩
  | .hbm, ⟨61, _⟩ => ⟨S_, .f32⟩
  | .hbm, ⟨62, _⟩ => ⟨S2x4096x1, .f32⟩
  | .hbm, ⟨63, _⟩ => ⟨S2x4096x1, .f32⟩
  | .hbm, ⟨64, _⟩ => ⟨S_, .f32⟩
  | .hbm, ⟨65, _⟩ => ⟨S2x4096, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S2x4096x1024, .f32⟩
  | .hbm, ⟨71, _⟩ => ⟨S8192x1024, .f32⟩
  | .hbm, ⟨72, _⟩ => ⟨S1x1024, .f32⟩
  | .hbm, ⟨73, _⟩ => ⟨S_, .i32⟩
  | .hbm, ⟨74, _⟩ => ⟨S_, .f32⟩
  | .hbm, ⟨75, _⟩ => ⟨S8x1024, .f32⟩
  | .hbm, ⟨76, _⟩ => ⟨S8x128, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== MergeBwd.lean ====
abbrev S2x4096x1024 : Shape := ⟨3, ![2, 4096, 1024]⟩
abbrev S2x4096x512 : Shape := ⟨3, ![2, 4096, 512]⟩
abbrev S2x4096x10256 : Shape := ⟨3, ![2, 4096, 10256]⟩
abbrev S512x1024 : Shape := ⟨2, ![512, 1024]⟩
abbrev S1024x1024 : Shape := ⟨2, ![1024, 1024]⟩
abbrev S_ : Shape := ⟨0, ![]⟩
abbrev S2x4096x112 : Shape := ⟨3, ![2, 4096, 112]⟩
abbrev S2x4096x4096 : Shape := ⟨3, ![2, 4096, 4096]⟩
abbrev S2x4096x1536 : Shape := ⟨3, ![2, 4096, 1536]⟩
abbrev S2x4096x4608 : Shape := ⟨3, ![2, 4096, 4608]⟩
abbrev S2x4096x16 : Shape := ⟨3, ![2, 4096, 16]⟩
abbrev S2x4096x10368 : Shape := ⟨3, ![2, 4096, 10368]⟩
abbrev S2x4096x3072 : Shape := ⟨3, ![2, 4096, 3072]⟩
abbrev S1x256x1024 : Shape := ⟨3, ![1, 256, 1024]⟩
abbrev S1x256x512 : Shape := ⟨3, ![1, 256, 512]⟩
abbrev S1x256x3072 : Shape := ⟨3, ![1, 256, 3072]⟩
abbrev S256x1024 : Shape := ⟨2, ![256, 1024]⟩
abbrev S256x512 : Shape := ⟨2, ![256, 512]⟩

abbrev nBuf : Space → Nat
  | .hbm => 29
  | .vmem => 30
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x1024, .f32⟩
  | .hbm, ⟨3, _⟩ => ⟨S2x4096x512, .f32⟩
  | .hbm, ⟨4, _⟩ => ⟨S2x4096x10256, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S2x4096x512, .bf16⟩
  | .hbm, ⟨10, _⟩ => ⟨S2x4096x1024, .bf16⟩
  | .hbm, ⟨11, _⟩ => ⟨S2x4096x512, .bf16⟩
  | .hbm, ⟨12, _⟩ => ⟨S_, .f32⟩
  | .hbm, ⟨13, _⟩ => ⟨S2x4096x112, .f32⟩
  | .hbm, ⟨14, _⟩ => ⟨S2x4096x4096, .f32⟩
  | .hbm, ⟨15, _⟩ => ⟨S2x4096x1536, .f32⟩
  | .hbm, ⟨16, _⟩ => ⟨S2x4096x4608, .f32⟩
  | .hbm, ⟨17, _⟩ => ⟨S2x4096x16, .f32⟩
  | .hbm, ⟨18, _⟩ => ⟨S2x4096x10368, .f32⟩
  | .hbm, ⟨19, _⟩ => ⟨S512x1024, .bf16⟩
  | .hbm, ⟨20, _⟩ => ⟨S1024x1024, .bf16⟩
  | .hbm, ⟨21, _⟩ => ⟨S512x1024, .bf16⟩
  | .hbm, ⟨22, _⟩ => ⟨S1024x1024, .bf16⟩
  | .hbm, ⟨23, _⟩ => ⟨S2x4096x512, .f32⟩
  | .hbm, ⟨24, _⟩ => ⟨S2x4096x1024, .f32⟩
  | .hbm, ⟨25, _⟩ => ⟨S2x4096x512, .f32⟩
  | .hbm, ⟨26, _⟩ => ⟨S2x4096x3072, .bf16⟩
  | .hbm, ⟨27, _⟩ => ⟨S2x4096x1024, .bf16⟩
  | .hbm, ⟨28, _⟩ => ⟨S2x4096x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S512x1024, .bf16⟩
  | .local _ .vmem, ⟨15, _⟩ => ⟨S1024x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x256x512, .f32⟩
  | .local _ .vmem, ⟨19, _⟩ => ⟨S1x256x512, .f32⟩
  | .local _ .vmem, ⟨20, _⟩ => ⟨S1x256x1024, .f32⟩
  | .local _ .vmem, ⟨21, _⟩ => ⟨S1x256x1024, .f32⟩
  | .local _ .vmem, ⟨22, _⟩ => ⟨S1x256x512, .f32⟩
  | .local _ .vmem, ⟨23, _⟩ => ⟨S1x256x512, .f32⟩
  | .local _ .vmem, ⟨24, _⟩ => ⟨S1x256x3072, .bf16⟩
  | .local _ .vmem, ⟨25, _⟩ => ⟨S1x256x3072, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x3072, .bf16⟩
  | .local _ .vmem, ⟨29, _⟩ => ⟨S1x256x3072, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MergeBwdRefIdeal.lean ====
abbrev S2x4096x1024 : Shape := ⟨3, ![2, 4096, 1024]⟩
abbrev S2x4096x512 : Shape := ⟨3, ![2, 4096, 512]⟩
abbrev S2x4096x10256 : Shape := ⟨3, ![2, 4096, 10256]⟩
abbrev S512x1024 : Shape := ⟨2, ![512, 1024]⟩
abbrev S1024x1024 : Shape := ⟨2, ![1024, 1024]⟩
abbrev S2x4096x3072 : Shape := ⟨3, ![2, 4096, 3072]⟩
abbrev S_ : Shape := ⟨0, ![]⟩
abbrev S2x4096x3x1024 : Shape := ⟨4, ![2, 4096, 3, 1024]⟩
abbrev S2x4096x1x1024 : Shape := ⟨4, ![2, 4096, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x1024, .f32⟩
  | .hbm, ⟨3, _⟩ => ⟨S2x4096x512, .f32⟩
  | .hbm, ⟨4, _⟩ => ⟨S2x4096x10256, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S2x4096x3072, .f32⟩
  | .hbm, ⟨13, _⟩ => ⟨S2x4096x3072, .f32⟩
  | .hbm, ⟨14, _⟩ => ⟨S2x4096x3072, .f32⟩
  | .hbm, ⟨15, _⟩ => ⟨S_, .f32⟩
  | .hbm, ⟨16, _⟩ => ⟨S2x4096x3072, .f32⟩
  | .hbm, ⟨17, _⟩ => ⟨S2x4096x3072, .f32⟩
  | .hbm, ⟨18, _⟩ => ⟨S_, .f32⟩
  | .hbm, ⟨19, _⟩ => ⟨S2x4096x3072, .f32⟩
  | .hbm, ⟨20, _⟩ => ⟨S2x4096x3072, .f32⟩
  | .hbm, ⟨21, _⟩ => ⟨S_, .f32⟩
  | .hbm, ⟨22, _⟩ => ⟨S2x4096x3072, .f32⟩
  | .hbm, ⟨23, _⟩ => ⟨S2x4096x3072, .f32⟩
  | .hbm, ⟨24, _⟩ => ⟨S2x4096x3072, .f32⟩
  | .hbm, ⟨25, _⟩ => ⟨S2x4096x3x1024, .f32⟩
  | .hbm, ⟨26, _⟩ => ⟨S2x4096x1x1024, .f32⟩
  | .hbm, ⟨27, _⟩ => ⟨S2x4096x1024, .f32⟩
  | .hbm, ⟨28, _⟩ => ⟨S2x4096x1024, .f32⟩
  | .hbm, ⟨29, _⟩ => ⟨S2x4096x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1x1024, .f32⟩
  | .hbm, ⟨42, _⟩ => ⟨S_, .f32⟩
  | .hbm, ⟨43, _⟩ => ⟨S2x4096x3x1024, .f32⟩
  | .hbm, ⟨44, _⟩ => ⟨S2x4096x1024, .f32⟩
  | .hbm, ⟨45, _⟩ => ⟨S2x4096x1024, .f32⟩
  | .hbm, ⟨46, _⟩ => ⟨S2x4096x1x1024, .f32⟩
  | .hbm, ⟨47, _⟩ => ⟨S_, .f32⟩
  | .hbm, ⟨48, _⟩ => ⟨S2x4096x3x1024, .f32⟩
  | .hbm, ⟨49, _⟩ => ⟨S2x4096x3x1024, .f32⟩
  | .hbm, ⟨50, _⟩ => ⟨S2x4096x1024, .f32⟩
  | .hbm, ⟨51, _⟩ => ⟨S2x4096x1024, .f32⟩
  | .hbm, ⟨52, _⟩ => ⟨S2x4096x1x1024, .f32⟩
  | .hbm, ⟨53, _⟩ => ⟨S_, .f32⟩
  | .hbm, ⟨54, _⟩ => ⟨S2x4096x3x1024, .f32⟩
  | .hbm, ⟨55, _⟩ => ⟨S2x4096x3x1024, .f32⟩
  | .hbm, ⟨56, _⟩ => ⟨S2x4096x3072, .f32⟩
  | .hbm, ⟨57, _⟩ => ⟨S2x4096x3072, .f32⟩
  | .hbm, ⟨58, _⟩ => ⟨S2x4096x512, .f32⟩
  | .hbm, ⟨59, _⟩ => ⟨S2x4096x1024, .f32⟩
  | .hbm, ⟨60, _⟩ => ⟨S2x4096x512, .f32⟩
  | .hbm, ⟨61, _⟩ => ⟨S2x4096x3072, .bf16⟩
  | .hbm, ⟨62, _⟩ => ⟨S2x4096x1024, .bf16⟩
  | .hbm, ⟨63, _⟩ => ⟨S2x4096x3072, .f32⟩
  | .hbm, ⟨64, _⟩ => ⟨S2x4096x3072, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== GmlpBwd.lean ====
abbrev S2x4096x512 : Shape := ⟨3, ![2, 4096, 512]⟩
abbrev S2x4096x10256 : Shape := ⟨3, ![2, 4096, 10256]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S2x4096x112 : Shape := ⟨3, ![2, 4096, 112]⟩
abbrev S2x4096x4096 : Shape := ⟨3, ![2, 4096, 4096]⟩
abbrev S2x4096x1536 : Shape := ⟨3, ![2, 4096, 1536]⟩
abbrev S2x4096x4608 : Shape := ⟨3, ![2, 4096, 4608]⟩
abbrev S2x4096x16 : Shape := ⟨3, ![2, 4096, 16]⟩
abbrev S2x4096x10368 : Shape := ⟨3, ![2, 4096, 10368]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S8x512 : Shape := ⟨2, ![8, 512]⟩
abbrev S1x512x512 : Shape := ⟨3, ![1, 512, 512]⟩
abbrev S1x512x1536 : Shape := ⟨3, ![1, 512, 1536]⟩
abbrev S512x512 : Shape := ⟨2, ![512, 512]⟩
abbrev S128x128 : Shape := ⟨2, ![128, 128]⟩
abbrev S1x128x128 : Shape := ⟨3, ![1, 128, 128]⟩
abbrev S512x1 : Shape := ⟨2, ![512, 1]⟩
abbrev S6x512 : Shape := ⟨2, ![6, 512]⟩

abbrev nBuf : Space → Nat
  | .hbm => 22
  | .vmem => 17
  | .smem => 0
  | _ => 0

abbrev bufTy : (tb : Table) → Fin (tcTables nBuf tb) → BufTy
  | .hbm, ⟨0, _⟩ => ⟨S2x4096x512, .f32⟩
  | .hbm, ⟨1, _⟩ => ⟨S2x4096x10256, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S_, .f32⟩
  | .hbm, ⟨7, _⟩ => ⟨S2x4096x112, .f32⟩
  | .hbm, ⟨8, _⟩ => ⟨S2x4096x4096, .f32⟩
  | .hbm, ⟨9, _⟩ => ⟨S2x4096x1536, .f32⟩
  | .hbm, ⟨10, _⟩ => ⟨S2x4096x4608, .f32⟩
  | .hbm, ⟨11, _⟩ => ⟨S2x4096x16, .f32⟩
  | .hbm, ⟨12, _⟩ => ⟨S2x4096x10368, .f32⟩
  | .hbm, ⟨13, _⟩ => ⟨S1x512, .f32⟩
  | .hbm, ⟨14, _⟩ => ⟨S1x512, .f32⟩
  | .hbm, ⟨15, _⟩ => ⟨S128x4, .f32⟩
  | .hbm, ⟨16, _⟩ => ⟨S128x4x128, .f32⟩
  | .hbm, ⟨17, _⟩ => ⟨S128x512, .f32⟩
  | .hbm, ⟨18, _⟩ => ⟨S2x4096x1536, .bf16⟩
  | .hbm, ⟨19, _⟩ => ⟨S4x128x128, .f32⟩
  | .hbm, ⟨20, _⟩ => ⟨S128x512, .f32⟩
  | .hbm, ⟨21, _⟩ => ⟨S8x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512, .f32⟩
  | .local _ .vmem, ⟨9, _⟩ => ⟨S1x512, .f32⟩
  | .local _ .vmem, ⟨10, _⟩ => ⟨S4x128x128, .f32⟩
  | .local _ .vmem, ⟨11, _⟩ => ⟨S128x512, .f32⟩
  | .local _ .vmem, ⟨12, _⟩ => ⟨S1x512x1536, .bf16⟩
  | .local _ .vmem, ⟨13, _⟩ => ⟨S1x512x1536, .bf16⟩
  | .local _ .vmem, ⟨14, _⟩ => ⟨S4x128x128, .f32⟩
  | .local _ .vmem, ⟨15, _⟩ => ⟨S128x512, .f32⟩
  | .local _ .vmem, ⟨16, _⟩ => ⟨S8x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_3 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== GmlpBwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== GmlpBwdRefIdeal.lean ====
abbrev S2x4096x512 : Shape := ⟨3, ![2, 4096, 512]⟩
abbrev S2x4096x10256 : Shape := ⟨3, ![2, 4096, 10256]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x1 : Shape := ⟨3, ![128, 4, 1]⟩
abbrev S128x4x128 : Shape := ⟨3, ![128, 4, 128]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x32x128x4x128 : Shape := ⟨5, ![2, 32, 128, 4, 128]⟩
abbrev S128x128 : Shape := ⟨2, ![128, 128]⟩
abbrev S4x2x32x128x128 : Shape := ⟨5, ![4, 2, 32, 128, 128]⟩
abbrev S1x1x128x4x128 : Shape := ⟨5, ![1, 1, 128, 4, 128]⟩
abbrev S2x4096x1536 : Shape := ⟨3, ![2, 4096, 1536]⟩
abbrev S128x512 : Shape := ⟨2, ![128, 512]⟩
abbrev S1x512 : Shape := ⟨2, ![1, 512]⟩
abbrev S2x512 : Shape := ⟨2, ![2, 512]⟩
abbrev S8x512 : Shape := ⟨2, ![8, 512]⟩

abbrev nBuf : Space → Nat
  | .hbm => 255
  | .vmem => 0
  | .smem => 0
  | _ => 0

abbrev hbmTy0_0 (i : Nat) : BufTy := match i % 128 with
  | 0 => ⟨S2x4096x512, .f32⟩
  | 1 => ⟨S2x4096x10256, .f32⟩
  | 2 => ⟨S512, .f32⟩
  | 3 => ⟨S512, .f32⟩
  | 4 => ⟨S4x128x128, .f32⟩
  | 5 => ⟨S4x128, .f32⟩
  | 6 => ⟨S2x4096x512, .f32⟩
  | 7 => ⟨S2x4096x512, .f32⟩
  | 8 => ⟨S2x4096x512, .f32⟩
  | 9 => ⟨S128x4, .f32⟩
  | 10 => ⟨S128x4x1, .f32⟩
  | 11 => ⟨S128x4x128, .f32⟩
  | 12 => ⟨S2x4096x512, .f32⟩
  | 13 => ⟨S2x4096x512, .f32⟩
  | 14 => ⟨S2x4096x512, .f32⟩
  | 15 => ⟨S_, .f32⟩
  | 16 => ⟨S2x4096x512, .f32⟩
  | 17 => ⟨S2x4096x512, .f32⟩
  | 18 => ⟨S_, .f32⟩
  | 19 => ⟨S2x4096x512, .f32⟩
  | 20 => ⟨S2x4096x512, .f32⟩
  | 21 => ⟨S_, .f32⟩
  | 22 => ⟨S2x4096x512, .f32⟩
  | 23 => ⟨S2x4096x512, .f32⟩
  | 24 => ⟨S2x4096x512, .f32⟩
  | 25 => ⟨S_, .f32⟩
  | 26 => ⟨S2x4096x512, .f32⟩
  | 27 => ⟨S2x4096x512, .f32⟩
  | 28 => ⟨S2x4096x512, .f32⟩
  | 29 => ⟨S_, .f32⟩
  | 30 => ⟨S2x4096x512, .f32⟩
  | 31 => ⟨S2x4096x512, .f32⟩
  | 32 => ⟨S_, .f32⟩
  | 33 => ⟨S2x4096x512, .f32⟩
  | 34 => ⟨S2x4096x512, .f32⟩
  | 35 => ⟨S2x4096x512, .f32⟩
  | 36 => ⟨S_, .f32⟩
  | 37 => ⟨S2x4096x512, .f32⟩
  | 38 => ⟨S2x4096x512, .f32⟩
  | 39 => ⟨S_, .f32⟩
  | 40 => ⟨S2x4096x512, .f32⟩
  | 41 => ⟨S2x4096x512, .f32⟩
  | 42 => ⟨S2x4096x512, .f32⟩
  | 43 => ⟨S2x4096x512, .f32⟩
  | 44 => ⟨S2x4096x512, .f32⟩
  | 45 => ⟨S2x4096x512, .f32⟩
  | 46 => ⟨S_, .f32⟩
  | 47 => ⟨S2x4096x512, .f32⟩
  | 48 => ⟨S2x4096x512, .f32⟩
  | 49 => ⟨S_, .f32⟩
  | 50 => ⟨S2x4096x512, .f32⟩
  | 51 => ⟨S2x4096x512, .f32⟩
  | 52 => ⟨S_, .f32⟩
  | 53 => ⟨S2x4096x512, .f32⟩
  | 54 => ⟨S2x4096x512, .f32⟩
  | 55 => ⟨S2x4096x512, .f32⟩
  | 56 => ⟨S_, .f32⟩
  | 57 => ⟨S2x4096x512, .f32⟩
  | 58 => ⟨S2x4096x512, .f32⟩
  | 59 => ⟨S2x4096x512, .f32⟩
  | 60 => ⟨S_, .f32⟩
  | 61 => ⟨S2x4096x512, .f32⟩
  | 62 => ⟨S2x4096x512, .f32⟩
  | 63 => ⟨S_, .f32⟩
  | 64 => ⟨S2x4096x512, .f32⟩
  | 65 => ⟨S2x4096x512, .f32⟩
  | 66 => ⟨S2x4096x512, .f32⟩
  | 67 => ⟨S_, .f32⟩
  | 68 => ⟨S2x4096x512, .f32⟩
  | 69 => ⟨S2x4096x512, .f32⟩
  | 70 => ⟨S_, .f32⟩
  | 71 => ⟨S2x4096x512, .f32⟩
  | 72 => ⟨S2x4096x512, .f32⟩
  | 73 => ⟨S2x4096x512, .f32⟩
  | 74 => ⟨S_, .f32⟩
  | 75 => ⟨S2x4096, .f32⟩
  | 76 => ⟨S2x4096x1, .f32⟩
  | 77 => ⟨S_, .f32⟩
  | 78 => ⟨S2x4096x1, .f32⟩
  | 79 => ⟨S2x4096x1, .f32⟩
  | 80 => ⟨S2x4096x512, .f32⟩
  | 81 => ⟨S2x4096x512, .f32⟩
  | 82 => ⟨S2x4096x512, .f32⟩
  | 83 => ⟨S_, .f32⟩
  | 84 => ⟨S2x4096x512, .f32⟩
  | 85 => ⟨S2x4096x512, .f32⟩
  | 86 => ⟨S_, .f32⟩
  | 87 => ⟨S2x4096, .f32⟩
  | 88 => ⟨S2x4096x1, .f32⟩
  | 89 => ⟨S_, .f32⟩
  | 90 => ⟨S2x4096x1, .f32⟩
  | 91 => ⟨S2x4096x1, .f32⟩
  | 92 => ⟨S2x4096x512, .f32⟩
  | 93 => ⟨S2x4096x512, .f32⟩
  | 94 => ⟨S_, .f32⟩
  | 95 => ⟨S2x4096x1, .f32⟩
  | 96 => ⟨S2x4096x1, .f32⟩
  | 97 => ⟨S2x4096x1, .f32⟩
  | 98 => ⟨S2x4096x1, .f32⟩
  | 99 => ⟨S_, .f32⟩
  | 100 => ⟨S2x4096x1, .f32⟩
  | 101 => ⟨S2x4096x1, .f32⟩
  | 102 => ⟨S2x4096x512, .f32⟩
  | 103 => ⟨S2x4096x512, .f32⟩
  | 104 => ⟨S1x1x512, .f32⟩
  | 105 => ⟨S2x4096x512, .f32⟩
  | 106 => ⟨S2x4096x512, .f32⟩
  | 107 => ⟨S1x1x512, .f32⟩
  | 108 => ⟨S2x4096x512, .f32⟩
  | 109 => ⟨S2x4096x512, .f32⟩
  | 110 => ⟨S2x32x128x4x128, .f32⟩
  | 111 => ⟨S128x128, .i32⟩
  | 112 => ⟨S_, .i32⟩
  | 113 => ⟨S128x128, .i32⟩
  | 114 => ⟨S128x128, .i32⟩
  | 115 => ⟨S128x128, .i32⟩
  | 116 => ⟨S128x128, .i1⟩
  | 117 => ⟨S4x128x128, .i1⟩
  | 118 => ⟨S_, .f32⟩
  | 119 => ⟨S4x128x128, .f32⟩
  | 120 => ⟨S4x128x128, .f32⟩
  | 121 => ⟨S_, .f32⟩
  | 122 => ⟨S4x128x128, .f32⟩
  | 123 => ⟨S4x2x32x128x128, .f32⟩
  | 124 => ⟨S2x32x128x4x128, .f32⟩
  | 125 => ⟨S1x1x128x4x128, .f32⟩
  | 126 => ⟨S2x32x128x4x128, .f32⟩
  | 127 => ⟨S2x32x128x4x128, .f32⟩
  | _ => ⟨S2x4096x512, .f32⟩

abbrev hbmTy0_1 (i : Nat) : BufTy := match i % 128 with
  | 0 => ⟨S2x4096x512, .f32⟩
  | 1 => ⟨S2x4096x512, .f32⟩
  | 2 => ⟨S2x4096x512, .f32⟩
  | 3 => ⟨S2x4096x512, .f32⟩
  | 4 => ⟨S_, .f32⟩
  | 5 => ⟨S2x4096x512, .f32⟩
  | 6 => ⟨S2x4096x512, .f32⟩
  | 7 => ⟨S_, .f32⟩
  | 8 => ⟨S2x4096x512, .f32⟩
  | 9 => ⟨S2x4096x512, .f32⟩
  | 10 => ⟨S_, .f32⟩
  | 11 => ⟨S2x4096x512, .f32⟩
  | 12 => ⟨S2x4096x512, .f32⟩
  | 13 => ⟨S2x4096x512, .f32⟩
  | 14 => ⟨S2x4096x512, .f32⟩
  | 15 => ⟨S2x4096x512, .f32⟩
  | 16 => ⟨S2x4096x512, .f32⟩
  | 17 => ⟨S2x4096x512, .f32⟩
  | 18 => ⟨S2x4096x512, .f32⟩
  | 19 => ⟨S2x4096x512, .f32⟩
  | 20 => ⟨S2x4096x512, .f32⟩
  | 21 => ⟨S2x4096x512, .f32⟩
  | 22 => ⟨S2x4096x512, .f32⟩
  | 23 => ⟨S2x4096x512, .f32⟩
  | 24 => ⟨S2x32x128x4x128, .f32⟩
  | 25 => ⟨S_, .f32⟩
  | 26 => ⟨S128x4x128, .f32⟩
  | 27 => ⟨S1x1x128x4x128, .f32⟩
  | 28 => ⟨S_, .f32⟩
  | 29 => ⟨S128x4x128, .f32⟩
  | 30 => ⟨S4x2x32x128x128, .f32⟩
  | 31 => ⟨S4x128x128, .f32⟩
  | 32 => ⟨S4x2x32x128x128, .f32⟩
  | 33 => ⟨S2x32x128x4x128, .f32⟩
  | 34 => ⟨S_, .f32⟩
  | 35 => ⟨S4x128x128, .f32⟩
  | 36 => ⟨S4x128x128, .f32⟩
  | 37 => ⟨S2x4096x512, .f32⟩
  | 38 => ⟨S_, .f32⟩
  | 39 => ⟨S512, .f32⟩
  | 40 => ⟨S1x1x512, .f32⟩
  | 41 => ⟨S_, .f32⟩
  | 42 => ⟨S512, .f32⟩
  | 43 => ⟨S2x4096x512, .f32⟩
  | 44 => ⟨S_, .f32⟩
  | 45 => ⟨S512, .f32⟩
  | 46 => ⟨S1x1x512, .f32⟩
  | 47 => ⟨S2x4096x512, .f32⟩
  | 48 => ⟨S2x4096x512, .f32⟩
  | 49 => ⟨S_, .f32⟩
  | 50 => ⟨S512, .f32⟩
  | 51 => ⟨S2x4096x512, .f32⟩
  | 52 => ⟨S_, .f32⟩
  | 53 => ⟨S2x4096, .f32⟩
  | 54 => ⟨S2x4096x1, .f32⟩
  | 55 => ⟨S2x4096x512, .f32⟩
  | 56 => ⟨S2x4096x512, .f32⟩
  | 57 => ⟨S2x4096x1, .f32⟩
  | 58 => ⟨S2x4096x512, .f32⟩
  | 59 => ⟨S_, .f32⟩
  | 60 => ⟨S2x4096, .f32⟩
  | 61 => ⟨S2x4096x1, .f32⟩
  | 62 => ⟨S_, .f32⟩
  | 63 => ⟨S2x4096x1, .f32⟩
  | 64 => ⟨S2x4096x1, .f32⟩
  | 65 => ⟨S_, .f32⟩
  | 66 => ⟨S2x4096, .f32⟩
  | 67 => ⟨S2x4096x512, .f32⟩
  | 68 => ⟨S2x4096x512, .f32⟩
  | 69 => ⟨S2x4096x512, .f32⟩
  | 70 => ⟨S_, .f32⟩
  | 71 => ⟨S2x4096, .f32⟩
  | 72 => ⟨S2x4096x1, .f32⟩
  | 73 => ⟨S2x4096x512, .f32⟩
  | 74 => ⟨S2x4096x1, .f32⟩
  | 75 => ⟨S_, .f32⟩
  | 76 => ⟨S2x4096x1, .f32⟩
  | 77 => ⟨S2x4096x1, .f32⟩
  | 78 => ⟨S_, .f32⟩
  | 79 => ⟨S2x4096, .f32⟩
  | 80 => ⟨S2x4096x512, .f32⟩
  | 81 => ⟨S2x4096x512, .f32⟩
  | 82 => ⟨S2x4096x512, .f32⟩
  | 83 => ⟨S2x4096x512, .f32⟩
  | 84 => ⟨S_, .f32⟩
  | 85 => ⟨S2x4096x512, .f32⟩
  | 86 => ⟨S2x4096x512, .f32⟩
  | 87 => ⟨S2x4096x512, .f32⟩
  | 88 => ⟨S_, .f32⟩
  | 89 => ⟨S2x4096x512, .f32⟩
  | 90 => ⟨S2x4096x512, .f32⟩
  | 91 => ⟨S2x4096x512, .f32⟩
  | 92 => ⟨S_, .f32⟩
  | 93 => ⟨S2x4096x512, .f32⟩
  | 94 => ⟨S2x4096x512, .f32⟩
  | 95 => ⟨S_, .f32⟩
  | 96 => ⟨S2x4096x512, .f32⟩
  | 97 => ⟨S2x4096x512, .f32⟩
  | 98 => ⟨S2x4096x512, .f32⟩
  | 99 => ⟨S2x4096x512, .f32⟩
  | 100 => ⟨S2x4096x512, .f32⟩
  | 101 => ⟨S2x4096x512, .f32⟩
  | 102 => ⟨S_, .f32⟩
  | 103 => ⟨S2x4096x512, .f32⟩
  | 104 => ⟨S2x4096x512, .f32⟩
  | 105 => ⟨S2x4096x512, .f32⟩
  | 106 => ⟨S_, .f32⟩
  | 107 => ⟨S2x4096x512, .f32⟩
  | 108 => ⟨S2x4096x512, .f32⟩
  | 109 => ⟨S2x4096x512, .f32⟩
  | 110 => ⟨S_, .f32⟩
  | 111 => ⟨S2x4096x512, .f32⟩
  | 112 => ⟨S2x4096x512, .f32⟩
  | 113 => ⟨S_, .f32⟩
  | 114 => ⟨S2x4096x512, .f32⟩
  | 115 => ⟨S2x4096x512, .f32⟩
  | 116 => ⟨S2x4096x512, .f32⟩
  | 117 => ⟨S2x4096x512, .f32⟩
  | 118 => ⟨S2x4096x1536, .f32⟩
  | 119 => ⟨S2x4096x1536, .bf16⟩
  | 120 => ⟨S128x512, .f32⟩
  | 121 => ⟨S1x512, .f32⟩
  | 122 => ⟨S1x512, .f32⟩
  | 123 => ⟨S2x512, .f32⟩
  | 124 => ⟨S_, .i32⟩
  | 125 => ⟨S_, .f32⟩
  | 126 => ⟨S8x512, .f32⟩
  | _ => ⟨S2x4096x512, .f32⟩

abbrev hbmTy (i : Nat) : BufTy := match i / 128 with
  | 0 => hbmTy0_0 i
  | 1 => hbmTy0_1 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_20 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_21 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call0_v0 : Ref sig .tc := ⟨.hbm, 111, rfl⟩
abbrev main_call0_c : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_v82_1 : Ref sig .tc := ⟨.hbm, 117, rfl⟩
abbrev main_call0_cst : Ref sig .tc := ⟨.hbm, 118, rfl⟩
abbrev main_call0_v6 : Ref sig .tc := ⟨.hbm, 119, rfl⟩
abbrev main_v82_0 : Ref sig .tc := ⟨.hbm, 120, rfl⟩
abbrev main_call0_cst_0 : Ref sig .tc := ⟨.hbm, 121, rfl⟩
abbrev main_v82_2 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call1_v0 : Ref sig .tc := ⟨.hbm, 130, rfl⟩
abbrev main_call1_v1 : Ref sig .tc := ⟨.hbm, 131, rfl⟩
abbrev main_call1_cst : Ref sig .tc := ⟨.hbm, 132, rfl⟩
abbrev main_call1_v2 : Ref sig .tc := ⟨.hbm, 133, rfl⟩
abbrev main_call1_v3 : Ref sig .tc := ⟨.hbm, 134, rfl⟩
abbrev main_call1_cst_0 : Ref sig .tc := ⟨.hbm, 135, rfl⟩
abbrev main_call1_v4 : Ref sig .tc := ⟨.hbm, 136, rfl⟩
abbrev main_v90_2 : Ref sig .tc := ⟨.hbm, 137, rfl⟩
abbrev main_call1_cst_1 : Ref sig .tc := ⟨.hbm, 138, rfl⟩
abbrev main_call1_v6 : Ref sig .tc := ⟨.hbm, 139, rfl⟩
abbrev main_call1_v7 : Ref sig .tc := ⟨.hbm, 140, rfl⟩
abbrev main_v90_1 : Ref sig .tc := ⟨.hbm, 141, rfl⟩
abbrev main_v90_0 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_22 : Ref sig .tc := ⟨.hbm, 153, rfl⟩
abbrev main_v98 : Ref sig .tc := ⟨.hbm, 154, rfl⟩
abbrev main_v99 : Ref sig .tc := ⟨.hbm, 155, rfl⟩
abbrev main_cst_23 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_call3_cst : Ref sig .tc := ⟨.hbm, 162, rfl⟩
abbrev main_call3_v0 : Ref sig .tc := ⟨.hbm, 163, rfl⟩
abbrev main_v105 : Ref sig .tc := ⟨.hbm, 164, rfl⟩
abbrev main_v106 : Ref sig .tc := ⟨.hbm, 165, rfl⟩
abbrev main_cst_24 : Ref sig .tc := ⟨.hbm, 166, rfl⟩
abbrev main_v107 : Ref sig .tc := ⟨.hbm, 167, rfl⟩
abbrev main_v108 : Ref sig .tc := ⟨.hbm, 168, rfl⟩
abbrev main_cst_25 : Ref sig .tc := ⟨.hbm, 169, rfl⟩
abbrev main_v109 : Ref sig .tc := ⟨.hbm, 170, rfl⟩
abbrev main_v110 : Ref sig .tc := ⟨.hbm, 171, rfl⟩
abbrev main_cst_26 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_27 : Ref sig .tc := ⟨.hbm, 177, rfl⟩
abbrev main_v115 : Ref sig .tc := ⟨.hbm, 178, rfl⟩
abbrev main_v116 : Ref sig .tc := ⟨.hbm, 179, rfl⟩
abbrev main_cst_28 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_29 : Ref sig .tc := ⟨.hbm, 187, rfl⟩
abbrev main_v123 : Ref sig .tc := ⟨.hbm, 188, rfl⟩
abbrev main_v124 : Ref sig .tc := ⟨.hbm, 189, rfl⟩
abbrev main_cst_30 : Ref sig .tc := ⟨.hbm, 190, rfl⟩
abbrev main_v125 : Ref sig .tc := ⟨.hbm, 191, rfl⟩
abbrev main_v126 : Ref sig .tc := ⟨.hbm, 192, rfl⟩
abbrev main_cst_31 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_cst_32 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_33 : Ref sig .tc := ⟨.hbm, 203, rfl⟩
abbrev main_v135 : Ref sig .tc := ⟨.hbm, 204, rfl⟩
abbrev main_v136 : Ref sig .tc := ⟨.hbm, 205, rfl⟩
abbrev main_cst_34 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_cst_35 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_cst_36 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_cst_37 : Ref sig .tc := ⟨.hbm, 220, rfl⟩
abbrev main_v148 : Ref sig .tc := ⟨.hbm, 221, rfl⟩
abbrev main_v149 : Ref sig .tc := ⟨.hbm, 222, rfl⟩
abbrev main_cst_38 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_39 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_cst_40 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_cst_41 : Ref sig .tc := ⟨.hbm, 238, rfl⟩
abbrev main_v162 : Ref sig .tc := ⟨.hbm, 239, rfl⟩
abbrev main_v163 : Ref sig .tc := ⟨.hbm, 240, rfl⟩
abbrev main_cst_42 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_c : Ref sig .tc := ⟨.hbm, 252, rfl⟩
abbrev main_call4_v0 : Ref sig .tc := ⟨.hbm, 253, rfl⟩
abbrev main_v174 : Ref sig .tc := ⟨.hbm, 254, rfl⟩

abbrev nD : Nat := 1
abbrev τ : Topo := Topo.v7x

variable {F : FTy → Type} [FloatOps F]

def κ : String → Option EReal := fun
  | "gelu_3c" => some ((26829 / 200000 : ℝ) : EReal)
  | "gelu_c" => some ((8943 / 200000 : ℝ) : EReal)
  | _ => none
-- ==== ConvFwd.lean ====
abbrev S2x4096x10256 : Shape := ⟨3, ![2, 4096, 10256]⟩
abbrev S31x512 : Shape := ⟨2, ![31, 512]⟩
abbrev S512 : Shape := ⟨1, ![512]⟩
abbrev S_ : Shape := ⟨0, ![]⟩
abbrev S2x4096x112 : Shape := ⟨3, ![2, 4096, 112]⟩
abbrev S2x4096x4096 : Shape := ⟨3, ![2, 4096, 4096]⟩
abbrev S2x4096x1536 : Shape := ⟨3, ![2, 4096, 1536]⟩
abbrev S2x4096x4608 : Shape := ⟨3, ![2, 4096, 4608]⟩
abbrev S2x4096x16 : Shape := ⟨3, ![2, 4096, 16]⟩
abbrev S2x4096x10368 : Shape := ⟨3, ![2, 4096, 10368]⟩
abbrev S32x512 : Shape := ⟨2, ![32, 512]⟩
abbrev S1x512 : Shape := ⟨2, ![1, 512]⟩
abbrev S2x4096x512 : Shape := ⟨3, ![2, 4096, 512]⟩
abbrev S1x256x512 : Shape := ⟨3, ![1, 256, 512]⟩
abbrev S1x32x512 : Shape := ⟨3, ![1, 32, 512]⟩
abbrev S256x512 : Shape := ⟨2, ![256, 512]⟩
abbrev S288x512 : Shape := ⟨2, ![288, 512]⟩
abbrev S280x512 : Shape := ⟨2, ![280, 512]⟩
abbrev S256 : Shape := ⟨1, ![256]⟩
abbrev S256x1 : Shape := ⟨2, ![256, 1]⟩

abbrev nBuf : Space → Nat
  | .hbm => 20
  | .vmem => 18
  | .smem => 0
  | _ => 0

abbrev bufTy : (tb : Table) → Fin (tcTables nBuf tb) → BufTy
  | .hbm, ⟨0, _⟩ => ⟨S2x4096x10256, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S2x4096x112, .f32⟩
  | .hbm, ⟨7, _⟩ => ⟨S2x4096x4096, .f32⟩
  | .hbm, ⟨8, _⟩ => ⟨S2x4096x1536, .f32⟩
  | .hbm, ⟨9, _⟩ => ⟨S2x4096x4608, .f32⟩
  | .hbm, ⟨10, _⟩ => ⟨S2x4096x16, .f32⟩
  | .hbm, ⟨11, _⟩ => ⟨S2x4096x10368, .f32⟩
  | .hbm, ⟨12, _⟩ => ⟨S_, .i32⟩
  | .hbm, ⟨13, _⟩ => ⟨S_, .f32⟩
  | .hbm, ⟨14, _⟩ => ⟨S32x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S2x4096x512, .bf16⟩
  | .hbm, ⟨19, _⟩ => ⟨S2x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S1x32x512, .f32⟩
  | .local _ .vmem, ⟨10, _⟩ => ⟨S32x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x256x512, .bf16⟩
  | .local _ .vmem, ⟨15, _⟩ => ⟨S1x256x512, .bf16⟩
  | .local _ .vmem, ⟨16, _⟩ => ⟨S1x256x512, .f32⟩
  | .local _ .vmem, ⟨17, _⟩ => ⟨S1x256x512, .f32⟩
  | _, _ => ⟨S2x4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let c0_i32_1 : BitVec 32 := 0#32
  ![arg0.toNat, v2.toNat, c8_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![arg0.toNat, v2.toNat, c9_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvFwdRefIdeal.lean ====
abbrev S2x4096x10256 : Shape := ⟨3, ![2, 4096, 10256]⟩
abbrev S31x512 : Shape := ⟨2, ![31, 512]⟩
abbrev S512 : Shape := ⟨1, ![512]⟩
abbrev S2x4096x512 : Shape := ⟨3, ![2, 4096, 512]⟩
abbrev S_ : Shape := ⟨0, ![]⟩
abbrev S2x4126x512 : Shape := ⟨3, ![2, 4126, 512]⟩
abbrev S1x512 : Shape := ⟨2, ![1, 512]⟩
abbrev S1x1x512 : Shape := ⟨3, ![1, 1, 512]⟩
abbrev S2x4096 : Shape := ⟨2, ![2, 4096]⟩
abbrev S2x4096x1 : Shape := ⟨3, ![2, 4096, 1]⟩

abbrev nBuf : Space → Nat
  | .hbm => 291
  | .vmem => 0
  | .smem => 0
  | _ => 0

abbrev hbmTy0_0 (i : Nat) : BufTy := match i % 128 with
  | 0 => ⟨S2x4096x10256, .f32⟩
  | 1 => ⟨S31x512, .f32⟩
  | 2 => ⟨S512, .f32⟩
  | 3 => ⟨S512, .f32⟩
  | 4 => ⟨S512, .f32⟩
  | 5 => ⟨S2x4096x512, .f32⟩
  | 6 => ⟨S2x4096x512, .f32⟩
  | 7 => ⟨S2x4096x512, .f32⟩
  | 8 => ⟨S2x4096x512, .f32⟩
  | 9 => ⟨S2x4096x512, .f32⟩
  | 10 => ⟨S_, .f32⟩
  | 11 => ⟨S2x4096x512, .f32⟩
  | 12 => ⟨S2x4096x512, .f32⟩
  | 13 => ⟨S_, .f32⟩
  | 14 => ⟨S2x4096x512, .f32⟩
  | 15 => ⟨S2x4096x512, .f32⟩
  | 16 => ⟨S2x4096x512, .f32⟩
  | 17 => ⟨S_, .i32⟩
  | 18 => ⟨S_, .f32⟩
  | 19 => ⟨S2x4126x512, .f32⟩
  | 20 => ⟨S2x4096x512, .f32⟩
  | 21 => ⟨S1x512, .f32⟩
  | 22 => ⟨S512, .f32⟩
  | 23 => ⟨S1x1x512, .f32⟩
  | 24 => ⟨S2x4096x512, .f32⟩
  | 25 => ⟨S2x4096x512, .f32⟩
  | 26 => ⟨S_, .f32⟩
  | 27 => ⟨S2x4096x512, .f32⟩
  | 28 => ⟨S2x4096x512, .f32⟩
  | 29 => ⟨S2x4096x512, .f32⟩
  | 30 => ⟨S1x512, .f32⟩
  | 31 => ⟨S512, .f32⟩
  | 32 => ⟨S1x1x512, .f32⟩
  | 33 => ⟨S2x4096x512, .f32⟩
  | 34 => ⟨S2x4096x512, .f32⟩
  | 35 => ⟨S2x4096x512, .f32⟩
  | 36 => ⟨S2x4096x512, .f32⟩
  | 37 => ⟨S1x512, .f32⟩
  | 38 => ⟨S512, .f32⟩
  | 39 => ⟨S1x1x512, .f32⟩
  | 40 => ⟨S2x4096x512, .f32⟩
  | 41 => ⟨S2x4096x512, .f32⟩
  | 42 => ⟨S2x4096x512, .f32⟩
  | 43 => ⟨S2x4096x512, .f32⟩
  | 44 => ⟨S1x512, .f32⟩
  | 45 => ⟨S512, .f32⟩
  | 46 => ⟨S1x1x512, .f32⟩
  | 47 => ⟨S2x4096x512, .f32⟩
  | 48 => ⟨S2x4096x512, .f32⟩
  | 49 => ⟨S2x4096x512, .f32⟩
  | 50 => ⟨S2x4096x512, .f32⟩
  | 51 => ⟨S1x512, .f32⟩
  | 52 => ⟨S512, .f32⟩
  | 53 => ⟨S1x1x512, .f32⟩
  | 54 => ⟨S2x4096x512, .f32⟩
  | 55 => ⟨S2x4096x512, .f32⟩
  | 56 => ⟨S2x4096x512, .f32⟩
  | 57 => ⟨S2x4096x512, .f32⟩
  | 58 => ⟨S1x512, .f32⟩
  | 59 => ⟨S512, .f32⟩
  | 60 => ⟨S1x1x512, .f32⟩
  | 61 => ⟨S2x4096x512, .f32⟩
  | 62 => ⟨S2x4096x512, .f32⟩
  | 63 => ⟨S2x4096x512, .f32⟩
  | 64 => ⟨S2x4096x512, .f32⟩
  | 65 => ⟨S1x512, .f32⟩
  | 66 => ⟨S512, .f32⟩
  | 67 => ⟨S1x1x512, .f32⟩
  | 68 => ⟨S2x4096x512, .f32⟩
  | 69 => ⟨S2x4096x512, .f32⟩
  | 70 => ⟨S2x4096x512, .f32⟩
  | 71 => ⟨S2x4096x512, .f32⟩
  | 72 => ⟨S1x512, .f32⟩
  | 73 => ⟨S512, .f32⟩
  | 74 => ⟨S1x1x512, .f32⟩
  | 75 => ⟨S2x4096x512, .f32⟩
  | 76 => ⟨S2x4096x512, .f32⟩
  | 77 => ⟨S2x4096x512, .f32⟩
  | 78 => ⟨S2x4096x512, .f32⟩
  | 79 => ⟨S1x512, .f32⟩
  | 80 => ⟨S512, .f32⟩
  | 81 => ⟨S1x1x512, .f32⟩
  | 82 => ⟨S2x4096x512, .f32⟩
  | 83 => ⟨S2x4096x512, .f32⟩
  | 84 => ⟨S2x4096x512, .f32⟩
  | 85 => ⟨S2x4096x512, .f32⟩
  | 86 => ⟨S1x512, .f32⟩
  | 87 => ⟨S512, .f32⟩
  | 88 => ⟨S1x1x512, .f32⟩
  | 89 => ⟨S2x4096x512, .f32⟩
  | 90 => ⟨S2x4096x512, .f32⟩
  | 91 => ⟨S2x4096x512, .f32⟩
  | 92 => ⟨S2x4096x512, .f32⟩
  | 93 => ⟨S1x512, .f32⟩
  | 94 => ⟨S512, .f32⟩
  | 95 => ⟨S1x1x512, .f32⟩
  | 96 => ⟨S2x4096x512, .f32⟩
  | 97 => ⟨S2x4096x512, .f32⟩
  | 98 => ⟨S2x4096x512, .f32⟩
  | 99 => ⟨S2x4096x512, .f32⟩
  | 100 => ⟨S1x512, .f32⟩
  | 101 => ⟨S512, .f32⟩
  | 102 => ⟨S1x1x512, .f32⟩
  | 103 => ⟨S2x4096x512, .f32⟩
  | 104 => ⟨S2x4096x512, .f32⟩
  | 105 => ⟨S2x4096x512, .f32⟩
  | 106 => ⟨S2x4096x512, .f32⟩
  | 107 => ⟨S1x512, .f32⟩
  | 108 => ⟨S512, .f32⟩
  | 109 => ⟨S1x1x512, .f32⟩
  | 110 => ⟨S2x4096x512, .f32⟩
  | 111 => ⟨S2x4096x512, .f32⟩
  | 112 => ⟨S2x4096x512, .f32⟩
  | 113 => ⟨S2x4096x512, .f32⟩
  | 114 => ⟨S1x512, .f32⟩
  | 115 => ⟨S512, .f32⟩
  | 116 => ⟨S1x1x512, .f32⟩
  | 117 => ⟨S2x4096x512, .f32⟩
  | 118 => ⟨S2x4096x512, .f32⟩
  | 119 => ⟨S2x4096x512, .f32⟩
  | 120 => ⟨S2x4096x512, .f32⟩
  | 121 => ⟨S1x512, .f32⟩
  | 122 => ⟨S512, .f32⟩
  | 123 => ⟨S1x1x512, .f32⟩
  | 124 => ⟨S2x4096x512, .f32⟩
  | 125 => ⟨S2x4096x512, .f32⟩
  | 126 => ⟨S2x4096x512, .f32⟩
  | 127 => ⟨S2x4096x512, .f32⟩
  | _ => ⟨S2x4096x10256, .f32⟩

abbrev hbmTy0_1 (i : Nat) : BufTy := match i % 128 with
  | 0 => ⟨S1x512, .f32⟩
  | 1 => ⟨S512, .f32⟩
  | 2 => ⟨S1x1x512, .f32⟩
  | 3 => ⟨S2x4096x512, .f32⟩
  | 4 => ⟨S2x4096x512, .f32⟩
  | 5 => ⟨S2x4096x512, .f32⟩
  | 6 => ⟨S2x4096x512, .f32⟩
  | 7 => ⟨S1x512, .f32⟩
  | 8 => ⟨S512, .f32⟩
  | 9 => ⟨S1x1x512, .f32⟩
  | 10 => ⟨S2x4096x512, .f32⟩
  | 11 => ⟨S2x4096x512, .f32⟩
  | 12 => ⟨S2x4096x512, .f32⟩
  | 13 => ⟨S2x4096x512, .f32⟩
  | 14 => ⟨S1x512, .f32⟩
  | 15 => ⟨S512, .f32⟩
  | 16 => ⟨S1x1x512, .f32⟩
  | 17 => ⟨S2x4096x512, .f32⟩
  | 18 => ⟨S2x4096x512, .f32⟩
  | 19 => ⟨S2x4096x512, .f32⟩
  | 20 => ⟨S2x4096x512, .f32⟩
  | 21 => ⟨S1x512, .f32⟩
  | 22 => ⟨S512, .f32⟩
  | 23 => ⟨S1x1x512, .f32⟩
  | 24 => ⟨S2x4096x512, .f32⟩
  | 25 => ⟨S2x4096x512, .f32⟩
  | 26 => ⟨S2x4096x512, .f32⟩
  | 27 => ⟨S2x4096x512, .f32⟩
  | 28 => ⟨S1x512, .f32⟩
  | 29 => ⟨S512, .f32⟩
  | 30 => ⟨S1x1x512, .f32⟩
  | 31 => ⟨S2x4096x512, .f32⟩
  | 32 => ⟨S2x4096x512, .f32⟩
  | 33 => ⟨S2x4096x512, .f32⟩
  | 34 => ⟨S2x4096x512, .f32⟩
  | 35 => ⟨S1x512, .f32⟩
  | 36 => ⟨S512, .f32⟩
  | 37 => ⟨S1x1x512, .f32⟩
  | 38 => ⟨S2x4096x512, .f32⟩
  | 39 => ⟨S2x4096x512, .f32⟩
  | 40 => ⟨S2x4096x512, .f32⟩
  | 41 => ⟨S2x4096x512, .f32⟩
  | 42 => ⟨S1x512, .f32⟩
  | 43 => ⟨S512, .f32⟩
  | 44 => ⟨S1x1x512, .f32⟩
  | 45 => ⟨S2x4096x512, .f32⟩
  | 46 => ⟨S2x4096x512, .f32⟩
  | 47 => ⟨S2x4096x512, .f32⟩
  | 48 => ⟨S2x4096x512, .f32⟩
  | 49 => ⟨S1x512, .f32⟩
  | 50 => ⟨S512, .f32⟩
  | 51 => ⟨S1x1x512, .f32⟩
  | 52 => ⟨S2x4096x512, .f32⟩
  | 53 => ⟨S2x4096x512, .f32⟩
  | 54 => ⟨S2x4096x512, .f32⟩
  | 55 => ⟨S2x4096x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S1x512, .f32⟩
  | 64 => ⟨S512, .f32⟩
  | 65 => ⟨S1x1x512, .f32⟩
  | 66 => ⟨S2x4096x512, .f32⟩
  | 67 => ⟨S2x4096x512, .f32⟩
  | 68 => ⟨S2x4096x512, .f32⟩
  | 69 => ⟨S2x4096x512, .f32⟩
  | 70 => ⟨S1x512, .f32⟩
  | 71 => ⟨S512, .f32⟩
  | 72 => ⟨S1x1x512, .f32⟩
  | 73 => ⟨S2x4096x512, .f32⟩
  | 74 => ⟨S2x4096x512, .f32⟩
  | 75 => ⟨S2x4096x512, .f32⟩
  | 76 => ⟨S2x4096x512, .f32⟩
  | 77 => ⟨S1x512, .f32⟩
  | 78 => ⟨S512, .f32⟩
  | 79 => ⟨S1x1x512, .f32⟩
  | 80 => ⟨S2x4096x512, .f32⟩
  | 81 => ⟨S2x4096x512, .f32⟩
  | 82 => ⟨S2x4096x512, .f32⟩
  | 83 => ⟨S2x4096x512, .f32⟩
  | 84 => ⟨S1x512, .f32⟩
  | 85 => ⟨S512, .f32⟩
  | 86 => ⟨S1x1x512, .f32⟩
  | 87 => ⟨S2x4096x512, .f32⟩
  | 88 => ⟨S2x4096x512, .f32⟩
  | 89 => ⟨S2x4096x512, .f32⟩
  | 90 => ⟨S2x4096x512, .f32⟩
  | 91 => ⟨S1x512, .f32⟩
  | 92 => ⟨S512, .f32⟩
  | 93 => ⟨S1x1x512, .f32⟩
  | 94 => ⟨S2x4096x512, .f32⟩
  | 95 => ⟨S2x4096x512, .f32⟩
  | 96 => ⟨S2x4096x512, .f32⟩
  | 97 => ⟨S2x4096x512, .f32⟩
  | 98 => ⟨S1x512, .f32⟩
  | 99 => ⟨S512, .f32⟩
  | 100 => ⟨S1x1x512, .f32⟩
  | 101 => ⟨S2x4096x512, .f32⟩
  | 102 => ⟨S2x4096x512, .f32⟩
  | 103 => ⟨S2x4096x512, .f32⟩
  | 104 => ⟨S2x4096x512, .f32⟩
  | 105 => ⟨S1x512, .f32⟩
  | 106 => ⟨S512, .f32⟩
  | 107 => ⟨S1x1x512, .f32⟩
  | 108 => ⟨S2x4096x512, .f32⟩
  | 109 => ⟨S2x4096x512, .f32⟩
  | 110 => ⟨S2x4096x512, .f32⟩
  | 111 => ⟨S1x1x512, .f32⟩
  | 112 => ⟨S2x4096x512, .f32⟩
  | 113 => ⟨S2x4096x512, .f32⟩
  | 114 => ⟨S_, .f32⟩
  | 115 => ⟨S2x4096, .f32⟩
  | 116 => ⟨S2x4096x1, .f32⟩
  | 117 => ⟨S_, .f32⟩
  | 118 => ⟨S2x4096x1, .f32⟩
  | 119 => ⟨S2x4096x1, .f32⟩
  | 120 => ⟨S2x4096x512, .f32⟩
  | 121 => ⟨S2x4096x512, .f32⟩
  | 122 => ⟨S2x4096x512, .f32⟩
  | 123 => ⟨S_, .f32⟩
  | 124 => ⟨S2x4096, .f32⟩
  | 125 => ⟨S2x4096x1, .f32⟩
  | 126 => ⟨S_, .f32⟩
  | 127 => ⟨S2x4096x1, .f32⟩
  | _ => ⟨S2x4096x10256, .f32⟩

abbrev hbmTy0_2 (i : Nat) : BufTy := match i % 128 with
  | 0 => ⟨S2x4096x1, .f32⟩
  | 1 => ⟨S2x4096x512, .f32⟩
  | 2 => ⟨S2x4096x512, .f32⟩
  | 3 => ⟨S_, .f32⟩
  | 4 => ⟨S2x4096x1, .f32⟩
  | 5 => ⟨S2x4096x1, .f32⟩
  | 6 => ⟨S2x4096x1, .f32⟩
  | 7 => ⟨S2x4096x512, .f32⟩
  | 8 => ⟨S2x4096x512, .f32⟩
  | 9 => ⟨S1x1x512, .f32⟩
  | 10 => ⟨S2x4096x512, .f32⟩
  | 11 => ⟨S2x4096x512, .f32⟩
  | 12 => ⟨S1x1x512, .f32⟩
  | 13 => ⟨S2x4096x512, .f32⟩
  | 14 => ⟨S2x4096x512, .f32⟩
  | 15 => ⟨S2x4096x512, .f32⟩
  | 16 => ⟨S2x4096x512, .f32⟩
  | 17 => ⟨S_, .f32⟩
  | 18 => ⟨S2x4096x512, .f32⟩
  | 19 => ⟨S2x4096x512, .f32⟩
  | 20 => ⟨S_, .f32⟩
  | 21 => ⟨S2x4096x512, .f32⟩
  | 22 => ⟨S2x4096x512, .f32⟩
  | 23 => ⟨S2x4096x512, .f32⟩
  | 24 => ⟨S2x4096x512, .f32⟩
  | 25 => ⟨S2x4096x512, .f32⟩
  | 26 => ⟨S_, .f32⟩
  | 27 => ⟨S2x4096x512, .f32⟩
  | 28 => ⟨S2x4096x512, .f32⟩
  | 29 => ⟨S_, .f32⟩
  | 30 => ⟨S2x4096x512, .f32⟩
  | 31 => ⟨S2x4096x512, .f32⟩
  | 32 => ⟨S2x4096x512, .f32⟩
  | 33 => ⟨S2x4096x512, .f32⟩
  | 34 => ⟨S2x4096x512, .bf16⟩
  | _ => ⟨S2x4096x10256, .f32⟩

abbrev hbmTy (i : Nat) : BufTy := match i / 128 with
  | 0 => hbmTy0_0 i
  | 1 => hbmTy0_1 i
  | 2 => hbmTy0_2 i
  | _ => ⟨S2x4096x10256, .f32⟩

abbrev bufTy : (tb : Table) → Fin (tcTables nBuf tb) → BufTy
  | .hbm, ⟨i, _⟩ => hbmTy i
  | _, _ => ⟨S2x4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_cst_2 : Ref sig .tc := ⟨.hbm, 242, rfl⟩
abbrev main_v232 : Ref sig .tc := ⟨.hbm, 243, rfl⟩
abbrev main_v233 : Ref sig .tc := ⟨.hbm, 244, rfl⟩
abbrev main_cst_3 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_cst_4 : Ref sig .tc := ⟨.hbm, 251, rfl⟩
abbrev main_v239 : Ref sig .tc := ⟨.hbm, 252, rfl⟩
abbrev main_v240 : Ref sig .tc := ⟨.hbm, 253, rfl⟩
abbrev main_cst_5 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_cst_6 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_call1_v0 : Ref sig .tc := ⟨.hbm, 271, rfl⟩
abbrev main_call1_v1 : Ref sig .tc := ⟨.hbm, 272, rfl⟩
abbrev main_call1_cst : Ref sig .tc := ⟨.hbm, 273, rfl⟩
abbrev main_call1_v2 : Ref sig .tc := ⟨.hbm, 274, rfl⟩
abbrev main_call1_v3 : Ref sig .tc := ⟨.hbm, 275, rfl⟩
abbrev main_call1_cst_0 : Ref sig .tc := ⟨.hbm, 276, rfl⟩
abbrev main_call1_v4 : Ref sig .tc := ⟨.hbm, 277, rfl⟩
abbrev main_call1_v5 : Ref sig .tc := ⟨.hbm, 278, rfl⟩
abbrev main_v256 : Ref sig .tc := ⟨.hbm, 279, rfl⟩
abbrev main_call2_v0 : Ref sig .tc := ⟨.hbm, 280, rfl⟩
abbrev main_call2_v1 : Ref sig .tc := ⟨.hbm, 281, rfl⟩
abbrev main_call2_cst : Ref sig .tc := ⟨.hbm, 282, rfl⟩
abbrev main_call2_v2 : Ref sig .tc := ⟨.hbm, 283, rfl⟩
abbrev main_call2_v3 : Ref sig .tc := ⟨.hbm, 284, rfl⟩
abbrev main_call2_cst_0 : Ref sig .tc := ⟨.hbm, 285, rfl⟩
abbrev main_call2_v4 : Ref sig .tc := ⟨.hbm, 286, rfl⟩
abbrev main_call2_v5 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩

abbrev nD : Nat := 1
abbrev τ : Topo := Topo.v7x

variable {F : FTy → Type} [FloatOps F]
-- ==== ConvBwd.lean ====
abbrev S2x4096x512 : Shape := ⟨3, ![2, 4096, 512]⟩
abbrev S2x4096x10256 : Shape := ⟨3, ![2, 4096, 10256]⟩
abbrev S31x512 : Shape := ⟨2, ![31, 512]⟩
abbrev S512 : Shape := ⟨1, ![512]⟩
abbrev S_ : Shape := ⟨0, ![]⟩
abbrev S2x4126x512 : Shape := ⟨3, ![2, 4126, 512]⟩
abbrev S1x512 : Shape := ⟨2, ![1, 512]⟩
abbrev S1x1x512 : Shape := ⟨3, ![1, 1, 512]⟩
abbrev S2x4096x112 : Shape := ⟨3, ![2, 4096, 112]⟩
abbrev S2x4096x4096 : Shape := ⟨3, ![2, 4096, 4096]⟩
abbrev S2x4096x1536 : Shape := ⟨3, ![2, 4096, 1536]⟩
abbrev S2x4096x4608 : Shape := ⟨3, ![2, 4096, 4608]⟩
abbrev S2x4096x16 : Shape := ⟨3, ![2, 4096, 16]⟩
abbrev S2x4096x10368 : Shape := ⟨3, ![2, 4096, 10368]⟩
abbrev S32x512 : Shape := ⟨2, ![32, 512]⟩
abbrev S8x512 : Shape := ⟨2, ![8, 512]⟩
abbrev S1x256x512 : Shape := ⟨3, ![1, 256, 512]⟩
abbrev S1x256x1536 : Shape := ⟨3, ![1, 256, 1536]⟩
abbrev S256x512 : Shape := ⟨2, ![256, 512]⟩
abbrev S256 : Shape := ⟨1, ![256]⟩
abbrev S256x1 : Shape := ⟨2, ![256, 1]⟩
abbrev S288x512 : Shape := ⟨2, ![288, 512]⟩
abbrev S280x512 : Shape := ⟨2, ![280, 512]⟩
abbrev S5x512 : Shape := ⟨2, ![5, 512]⟩

abbrev nBuf : Space → Nat
  | .hbm => 257
  | .vmem => 18
  | .smem => 0
  | _ => 0

abbrev hbmTy0_0 (i : Nat) : BufTy := match i % 128 with
  | 0 => ⟨S2x4096x512, .f32⟩
  | 1 => ⟨S2x4096x10256, .f32⟩
  | 2 => ⟨S31x512, .f32⟩
  | 3 => ⟨S512, .f32⟩
  | 4 => ⟨S512, .f32⟩
  | 5 => ⟨S512, .f32⟩
  | 6 => ⟨S2x4096x512, .f32⟩
  | 7 => ⟨S2x4096x512, .f32⟩
  | 8 => ⟨S2x4096x512, .f32⟩
  | 9 => ⟨S2x4096x512, .f32⟩
  | 10 => ⟨S_, .f32⟩
  | 11 => ⟨S2x4096x512, .f32⟩
  | 12 => ⟨S2x4096x512, .f32⟩
  | 13 => ⟨S_, .f32⟩
  | 14 => ⟨S2x4096x512, .f32⟩
  | 15 => ⟨S2x4096x512, .f32⟩
  | 16 => ⟨S2x4096x512, .f32⟩
  | 17 => ⟨S_, .i32⟩
  | 18 => ⟨S_, .f32⟩
  | 19 => ⟨S2x4126x512, .f32⟩
  | 20 => ⟨S2x4096x512, .f32⟩
  | 21 => ⟨S1x512, .f32⟩
  | 22 => ⟨S512, .f32⟩
  | 23 => ⟨S1x1x512, .f32⟩
  | 24 => ⟨S2x4096x512, .f32⟩
  | 25 => ⟨S2x4096x512, .f32⟩
  | 26 => ⟨S_, .f32⟩
  | 27 => ⟨S2x4096x512, .f32⟩
  | 28 => ⟨S2x4096x512, .f32⟩
  | 29 => ⟨S2x4096x512, .f32⟩
  | 30 => ⟨S1x512, .f32⟩
  | 31 => ⟨S512, .f32⟩
  | 32 => ⟨S1x1x512, .f32⟩
  | 33 => ⟨S2x4096x512, .f32⟩
  | 34 => ⟨S2x4096x512, .f32⟩
  | 35 => ⟨S2x4096x512, .f32⟩
  | 36 => ⟨S2x4096x512, .f32⟩
  | 37 => ⟨S1x512, .f32⟩
  | 38 => ⟨S512, .f32⟩
  | 39 => ⟨S1x1x512, .f32⟩
  | 40 => ⟨S2x4096x512, .f32⟩
  | 41 => ⟨S2x4096x512, .f32⟩
  | 42 => ⟨S2x4096x512, .f32⟩
  | 43 => ⟨S2x4096x512, .f32⟩
  | 44 => ⟨S1x512, .f32⟩
  | 45 => ⟨S512, .f32⟩
  | 46 => ⟨S1x1x512, .f32⟩
  | 47 => ⟨S2x4096x512, .f32⟩
  | 48 => ⟨S2x4096x512, .f32⟩
  | 49 => ⟨S2x4096x512, .f32⟩
  | 50 => ⟨S2x4096x512, .f32⟩
  | 51 => ⟨S1x512, .f32⟩
  | 52 => ⟨S512, .f32⟩
  | 53 => ⟨S1x1x512, .f32⟩
  | 54 => ⟨S2x4096x512, .f32⟩
  | 55 => ⟨S2x4096x512, .f32⟩
  | 56 => ⟨S2x4096x512, .f32⟩
  | 57 => ⟨S2x4096x512, .f32⟩
  | 58 => ⟨S1x512, .f32⟩
  | 59 => ⟨S512, .f32⟩
  | 60 => ⟨S1x1x512, .f32⟩
  | 61 => ⟨S2x4096x512, .f32⟩
  | 62 => ⟨S2x4096x512, .f32⟩
  | 63 => ⟨S2x4096x512, .f32⟩
  | 64 => ⟨S2x4096x512, .f32⟩
  | 65 => ⟨S1x512, .f32⟩
  | 66 => ⟨S512, .f32⟩
  | 67 => ⟨S1x1x512, .f32⟩
  | 68 => ⟨S2x4096x512, .f32⟩
  | 69 => ⟨S2x4096x512, .f32⟩
  | 70 => ⟨S2x4096x512, .f32⟩
  | 71 => ⟨S2x4096x512, .f32⟩
  | 72 => ⟨S1x512, .f32⟩
  | 73 => ⟨S512, .f32⟩
  | 74 => ⟨S1x1x512, .f32⟩
  | 75 => ⟨S2x4096x512, .f32⟩
  | 76 => ⟨S2x4096x512, .f32⟩
  | 77 => ⟨S2x4096x512, .f32⟩
  | 78 => ⟨S2x4096x512, .f32⟩
  | 79 => ⟨S1x512, .f32⟩
  | 80 => ⟨S512, .f32⟩
  | 81 => ⟨S1x1x512, .f32⟩
  | 82 => ⟨S2x4096x512, .f32⟩
  | 83 => ⟨S2x4096x512, .f32⟩
  | 84 => ⟨S2x4096x512, .f32⟩
  | 85 => ⟨S2x4096x512, .f32⟩
  | 86 => ⟨S1x512, .f32⟩
  | 87 => ⟨S512, .f32⟩
  | 88 => ⟨S1x1x512, .f32⟩
  | 89 => ⟨S2x4096x512, .f32⟩
  | 90 => ⟨S2x4096x512, .f32⟩
  | 91 => ⟨S2x4096x512, .f32⟩
  | 92 => ⟨S2x4096x512, .f32⟩
  | 93 => ⟨S1x512, .f32⟩
  | 94 => ⟨S512, .f32⟩
  | 95 => ⟨S1x1x512, .f32⟩
  | 96 => ⟨S2x4096x512, .f32⟩
  | 97 => ⟨S2x4096x512, .f32⟩
  | 98 => ⟨S2x4096x512, .f32⟩
  | 99 => ⟨S2x4096x512, .f32⟩
  | 100 => ⟨S1x512, .f32⟩
  | 101 => ⟨S512, .f32⟩
  | 102 => ⟨S1x1x512, .f32⟩
  | 103 => ⟨S2x4096x512, .f32⟩
  | 104 => ⟨S2x4096x512, .f32⟩
  | 105 => ⟨S2x4096x512, .f32⟩
  | 106 => ⟨S2x4096x512, .f32⟩
  | 107 => ⟨S1x512, .f32⟩
  | 108 => ⟨S512, .f32⟩
  | 109 => ⟨S1x1x512, .f32⟩
  | 110 => ⟨S2x4096x512, .f32⟩
  | 111 => ⟨S2x4096x512, .f32⟩
  | 112 => ⟨S2x4096x512, .f32⟩
  | 113 => ⟨S2x4096x512, .f32⟩
  | 114 => ⟨S1x512, .f32⟩
  | 115 => ⟨S512, .f32⟩
  | 116 => ⟨S1x1x512, .f32⟩
  | 117 => ⟨S2x4096x512, .f32⟩
  | 118 => ⟨S2x4096x512, .f32⟩
  | 119 => ⟨S2x4096x512, .f32⟩
  | 120 => ⟨S2x4096x512, .f32⟩
  | 121 => ⟨S1x512, .f32⟩
  | 122 => ⟨S512, .f32⟩
  | 123 => ⟨S1x1x512, .f32⟩
  | 124 => ⟨S2x4096x512, .f32⟩
  | 125 => ⟨S2x4096x512, .f32⟩
  | 126 => ⟨S2x4096x512, .f32⟩
  | 127 => ⟨S2x4096x512, .f32⟩
  | _ => ⟨S2x4096x512, .f32⟩

abbrev hbmTy0_1 (i : Nat) : BufTy := match i % 128 with
  | 0 => ⟨S1x512, .f32⟩
  | 1 => ⟨S512, .f32⟩
  | 2 => ⟨S1x1x512, .f32⟩
  | 3 => ⟨S2x4096x512, .f32⟩
  | 4 => ⟨S2x4096x512, .f32⟩
  | 5 => ⟨S2x4096x512, .f32⟩
  | 6 => ⟨S2x4096x512, .f32⟩
  | 7 => ⟨S1x512, .f32⟩
  | 8 => ⟨S512, .f32⟩
  | 9 => ⟨S1x1x512, .f32⟩
  | 10 => ⟨S2x4096x512, .f32⟩
  | 11 => ⟨S2x4096x512, .f32⟩
  | 12 => ⟨S2x4096x512, .f32⟩
  | 13 => ⟨S2x4096x512, .f32⟩
  | 14 => ⟨S1x512, .f32⟩
  | 15 => ⟨S512, .f32⟩
  | 16 => ⟨S1x1x512, .f32⟩
  | 17 => ⟨S2x4096x512, .f32⟩
  | 18 => ⟨S2x4096x512, .f32⟩
  | 19 => ⟨S2x4096x512, .f32⟩
  | 20 => ⟨S2x4096x512, .f32⟩
  | 21 => ⟨S1x512, .f32⟩
  | 22 => ⟨S512, .f32⟩
  | 23 => ⟨S1x1x512, .f32⟩
  | 24 => ⟨S2x4096x512, .f32⟩
  | 25 => ⟨S2x4096x512, .f32⟩
  | 26 => ⟨S2x4096x512, .f32⟩
  | 27 => ⟨S2x4096x512, .f32⟩
  | 28 => ⟨S1x512, .f32⟩
  | 29 => ⟨S512, .f32⟩
  | 30 => ⟨S1x1x512, .f32⟩
  | 31 => ⟨S2x4096x512, .f32⟩
  | 32 => ⟨S2x4096x512, .f32⟩
  | 33 => ⟨S2x4096x512, .f32⟩
  | 34 => ⟨S2x4096x512, .f32⟩
  | 35 => ⟨S1x512, .f32⟩
  | 36 => ⟨S512, .f32⟩
  | 37 => ⟨S1x1x512, .f32⟩
  | 38 => ⟨S2x4096x512, .f32⟩
  | 39 => ⟨S2x4096x512, .f32⟩
  | 40 => ⟨S2x4096x512, .f32⟩
  | 41 => ⟨S2x4096x512, .f32⟩
  | 42 => ⟨S1x512, .f32⟩
  | 43 => ⟨S512, .f32⟩
  | 44 => ⟨S1x1x512, .f32⟩
  | 45 => ⟨S2x4096x512, .f32⟩
  | 46 => ⟨S2x4096x512, .f32⟩
  | 47 => ⟨S2x4096x512, .f32⟩
  | 48 => ⟨S2x4096x512, .f32⟩
  | 49 => ⟨S1x512, .f32⟩
  | 50 => ⟨S512, .f32⟩
  | 51 => ⟨S1x1x512, .f32⟩
  | 52 => ⟨S2x4096x512, .f32⟩
  | 53 => ⟨S2x4096x512, .f32⟩
  | 54 => ⟨S2x4096x512, .f32⟩
  | 55 => ⟨S2x4096x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S1x512, .f32⟩
  | 64 => ⟨S512, .f32⟩
  | 65 => ⟨S1x1x512, .f32⟩
  | 66 => ⟨S2x4096x512, .f32⟩
  | 67 => ⟨S2x4096x512, .f32⟩
  | 68 => ⟨S2x4096x512, .f32⟩
  | 69 => ⟨S2x4096x512, .f32⟩
  | 70 => ⟨S1x512, .f32⟩
  | 71 => ⟨S512, .f32⟩
  | 72 => ⟨S1x1x512, .f32⟩
  | 73 => ⟨S2x4096x512, .f32⟩
  | 74 => ⟨S2x4096x512, .f32⟩
  | 75 => ⟨S2x4096x512, .f32⟩
  | 76 => ⟨S2x4096x512, .f32⟩
  | 77 => ⟨S1x512, .f32⟩
  | 78 => ⟨S512, .f32⟩
  | 79 => ⟨S1x1x512, .f32⟩
  | 80 => ⟨S2x4096x512, .f32⟩
  | 81 => ⟨S2x4096x512, .f32⟩
  | 82 => ⟨S2x4096x512, .f32⟩
  | 83 => ⟨S2x4096x512, .f32⟩
  | 84 => ⟨S1x512, .f32⟩
  | 85 => ⟨S512, .f32⟩
  | 86 => ⟨S1x1x512, .f32⟩
  | 87 => ⟨S2x4096x512, .f32⟩
  | 88 => ⟨S2x4096x512, .f32⟩
  | 89 => ⟨S2x4096x512, .f32⟩
  | 90 => ⟨S2x4096x512, .f32⟩
  | 91 => ⟨S1x512, .f32⟩
  | 92 => ⟨S512, .f32⟩
  | 93 => ⟨S1x1x512, .f32⟩
  | 94 => ⟨S2x4096x512, .f32⟩
  | 95 => ⟨S2x4096x512, .f32⟩
  | 96 => ⟨S2x4096x512, .f32⟩
  | 97 => ⟨S2x4096x512, .f32⟩
  | 98 => ⟨S1x512, .f32⟩
  | 99 => ⟨S512, .f32⟩
  | 100 => ⟨S1x1x512, .f32⟩
  | 101 => ⟨S2x4096x512, .f32⟩
  | 102 => ⟨S2x4096x512, .f32⟩
  | 103 => ⟨S2x4096x512, .f32⟩
  | 104 => ⟨S2x4096x512, .f32⟩
  | 105 => ⟨S1x512, .f32⟩
  | 106 => ⟨S512, .f32⟩
  | 107 => ⟨S1x1x512, .f32⟩
  | 108 => ⟨S2x4096x512, .f32⟩
  | 109 => ⟨S2x4096x512, .f32⟩
  | 110 => ⟨S2x4096x512, .f32⟩
  | 111 => ⟨S1x1x512, .f32⟩
  | 112 => ⟨S2x4096x512, .f32⟩
  | 113 => ⟨S2x4096x512, .f32⟩
  | 114 => ⟨S_, .f32⟩
  | 115 => ⟨S2x4096x112, .f32⟩
  | 116 => ⟨S2x4096x4096, .f32⟩
  | 117 => ⟨S2x4096x1536, .f32⟩
  | 118 => ⟨S2x4096x4608, .f32⟩
  | 119 => ⟨S2x4096x16, .f32⟩
  | 120 => ⟨S2x4096x10368, .f32⟩
  | 121 => ⟨S_, .i32⟩
  | 122 => ⟨S_, .f32⟩
  | 123 => ⟨S32x512, .f32⟩
  | 124 => ⟨S1x512, .f32⟩
  | 125 => ⟨S1x512, .f32⟩
  | 126 => ⟨S2x4096x1536, .bf16⟩
  | 127 => ⟨S32x512, .f32⟩
  | _ => ⟨S2x4096x512, .f32⟩

abbrev hbmTy0_2 (i : Nat) : BufTy := match i % 128 with
  | 0 => ⟨S8x512, .f32⟩
  | _ => ⟨S2x4096x512, .f32⟩

abbrev hbmTy (i : Nat) : BufTy := match i / 128 with
  | 0 => hbmTy0_0 i
  | 1 => hbmTy0_1 i
  | 2 => hbmTy0_2 i
  | _ => ⟨S2x4096x512, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S32x512, .f32⟩
  | .local _ .vmem, ⟨11, _⟩ => ⟨S1x512, .f32⟩
  | .local _ .vmem, ⟨12, _⟩ => ⟨S1x512, .f32⟩
  | .local _ .vmem, ⟨13, _⟩ => ⟨S1x256x1536, .bf16⟩
  | .local _ .vmem, ⟨14, _⟩ => ⟨S1x256x1536, .bf16⟩
  | .local _ .vmem, ⟨15, _⟩ => ⟨S32x512, .f32⟩
  | .local _ .vmem, ⟨16, _⟩ => ⟨S8x512, .f32⟩
  | .local _ .vmem, ⟨17, _⟩ => ⟨S32x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_cst_2 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_c_3 : Ref sig .tc := ⟨.hbm, 249, rfl⟩
abbrev main_call1_v0 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240_0 : Ref sig .tc := ⟨.hbm, 254, rfl⟩
abbrev main_v240_1 : Ref sig .tc := ⟨.hbm, 255, rfl⟩
abbrev main_v240_2 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c8_i32 : BitVec 32 := 8#32
  let c0_i32 : BitVec 32 := 0#32
  ![arg0.toNat, v0.toNat, c8_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c9_i32 : BitVec 32 := 9#32
  let c0_i32 : BitVec 32 := 0#32
  ![arg0.toNat, v0.toNat, c9_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c10_i32 : BitVec 32 := 10#32
  let c0_i32 : BitVec 32 := 0#32
  ![arg0.toNat, v0.toNat, c10_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ConvBwdRefIdeal.lean ====
abbrev S2x4096x512 : Shape := ⟨3, ![2, 4096, 512]⟩
abbrev S2x4096x10256 : Shape := ⟨3, ![2, 4096, 10256]⟩
abbrev S31x512 : Shape := ⟨2, ![31, 512]⟩
abbrev S512 : Shape := ⟨1, ![512]⟩
abbrev S_ : Shape := ⟨0, ![]⟩
abbrev S2x30x512 : Shape := ⟨3, ![2, 30, 512]⟩
abbrev S2x4126x512 : Shape := ⟨3, ![2, 4126, 512]⟩
abbrev S1x512 : Shape := ⟨2, ![1, 512]⟩
abbrev S1x1x512 : Shape := ⟨3, ![1, 1, 512]⟩
abbrev S2x4096 : Shape := ⟨2, ![2, 4096]⟩
abbrev S2x4096x1 : Shape := ⟨3, ![2, 4096, 1]⟩
abbrev S2x4096x1536 : Shape := ⟨3, ![2, 4096, 1536]⟩
abbrev S32x512 : Shape := ⟨2, ![32, 512]⟩
abbrev S3x512 : Shape := ⟨2, ![3, 512]⟩
abbrev S8x512 : Shape := ⟨2, ![8, 512]⟩

abbrev nBuf : Space → Nat
  | .hbm => 851
  | .vmem => 0
  | .smem => 0
  | _ => 0

abbrev hbmTy0_0 (i : Nat) : BufTy := match i % 128 with
  | 0 => ⟨S2x4096x512, .f32⟩
  | 1 => ⟨S2x4096x10256, .f32⟩
  | 2 => ⟨S31x512, .f32⟩
  | 3 => ⟨S512, .f32⟩
  | 4 => ⟨S512, .f32⟩
  | 5 => ⟨S512, .f32⟩
  | 6 => ⟨S2x4096x512, .f32⟩
  | 7 => ⟨S2x4096x512, .f32⟩
  | 8 => ⟨S2x4096x512, .f32⟩
  | 9 => ⟨S2x4096x512, .f32⟩
  | 10 => ⟨S2x4096x512, .f32⟩
  | 11 => ⟨S_, .f32⟩
  | 12 => ⟨S2x4096x512, .f32⟩
  | 13 => ⟨S2x4096x512, .f32⟩
  | 14 => ⟨S_, .f32⟩
  | 15 => ⟨S2x4096x512, .f32⟩
  | 16 => ⟨S2x4096x512, .f32⟩
  | 17 => ⟨S_, .f32⟩
  | 18 => ⟨S2x4096x512, .f32⟩
  | 19 => ⟨S2x4096x512, .f32⟩
  | 20 => ⟨S2x4096x512, .f32⟩
  | 21 => ⟨S2x4096x512, .f32⟩
  | 22 => ⟨S_, .f32⟩
  | 23 => ⟨S2x30x512, .f32⟩
  | 24 => ⟨S2x4126x512, .f32⟩
  | 25 => ⟨S_, .f32⟩
  | 26 => ⟨S2x30x512, .f32⟩
  | 27 => ⟨S2x4096x512, .f32⟩
  | 28 => ⟨S1x512, .f32⟩
  | 29 => ⟨S512, .f32⟩
  | 30 => ⟨S1x1x512, .f32⟩
  | 31 => ⟨S2x4096x512, .f32⟩
  | 32 => ⟨S2x4096x512, .f32⟩
  | 33 => ⟨S_, .f32⟩
  | 34 => ⟨S2x4096x512, .f32⟩
  | 35 => ⟨S2x4096x512, .f32⟩
  | 36 => ⟨S2x4096x512, .f32⟩
  | 37 => ⟨S1x512, .f32⟩
  | 38 => ⟨S512, .f32⟩
  | 39 => ⟨S1x1x512, .f32⟩
  | 40 => ⟨S2x4096x512, .f32⟩
  | 41 => ⟨S2x4096x512, .f32⟩
  | 42 => ⟨S2x4096x512, .f32⟩
  | 43 => ⟨S2x4096x512, .f32⟩
  | 44 => ⟨S1x512, .f32⟩
  | 45 => ⟨S512, .f32⟩
  | 46 => ⟨S1x1x512, .f32⟩
  | 47 => ⟨S2x4096x512, .f32⟩
  | 48 => ⟨S2x4096x512, .f32⟩
  | 49 => ⟨S2x4096x512, .f32⟩
  | 50 => ⟨S2x4096x512, .f32⟩
  | 51 => ⟨S1x512, .f32⟩
  | 52 => ⟨S512, .f32⟩
  | 53 => ⟨S1x1x512, .f32⟩
  | 54 => ⟨S2x4096x512, .f32⟩
  | 55 => ⟨S2x4096x512, .f32⟩
  | 56 => ⟨S2x4096x512, .f32⟩
  | 57 => ⟨S2x4096x512, .f32⟩
  | 58 => ⟨S1x512, .f32⟩
  | 59 => ⟨S512, .f32⟩
  | 60 => ⟨S1x1x512, .f32⟩
  | 61 => ⟨S2x4096x512, .f32⟩
  | 62 => ⟨S2x4096x512, .f32⟩
  | 63 => ⟨S2x4096x512, .f32⟩
  | 64 => ⟨S2x4096x512, .f32⟩
  | 65 => ⟨S1x512, .f32⟩
  | 66 => ⟨S512, .f32⟩
  | 67 => ⟨S1x1x512, .f32⟩
  | 68 => ⟨S2x4096x512, .f32⟩
  | 69 => ⟨S2x4096x512, .f32⟩
  | 70 => ⟨S2x4096x512, .f32⟩
  | 71 => ⟨S2x4096x512, .f32⟩
  | 72 => ⟨S1x512, .f32⟩
  | 73 => ⟨S512, .f32⟩
  | 74 => ⟨S1x1x512, .f32⟩
  | 75 => ⟨S2x4096x512, .f32⟩
  | 76 => ⟨S2x4096x512, .f32⟩
  | 77 => ⟨S2x4096x512, .f32⟩
  | 78 => ⟨S2x4096x512, .f32⟩
  | 79 => ⟨S1x512, .f32⟩
  | 80 => ⟨S512, .f32⟩
  | 81 => ⟨S1x1x512, .f32⟩
  | 82 => ⟨S2x4096x512, .f32⟩
  | 83 => ⟨S2x4096x512, .f32⟩
  | 84 => ⟨S2x4096x512, .f32⟩
  | 85 => ⟨S2x4096x512, .f32⟩
  | 86 => ⟨S1x512, .f32⟩
  | 87 => ⟨S512, .f32⟩
  | 88 => ⟨S1x1x512, .f32⟩
  | 89 => ⟨S2x4096x512, .f32⟩
  | 90 => ⟨S2x4096x512, .f32⟩
  | 91 => ⟨S2x4096x512, .f32⟩
  | 92 => ⟨S2x4096x512, .f32⟩
  | 93 => ⟨S1x512, .f32⟩
  | 94 => ⟨S512, .f32⟩
  | 95 => ⟨S1x1x512, .f32⟩
  | 96 => ⟨S2x4096x512, .f32⟩
  | 97 => ⟨S2x4096x512, .f32⟩
  | 98 => ⟨S2x4096x512, .f32⟩
  | 99 => ⟨S2x4096x512, .f32⟩
  | 100 => ⟨S1x512, .f32⟩
  | 101 => ⟨S512, .f32⟩
  | 102 => ⟨S1x1x512, .f32⟩
  | 103 => ⟨S2x4096x512, .f32⟩
  | 104 => ⟨S2x4096x512, .f32⟩
  | 105 => ⟨S2x4096x512, .f32⟩
  | 106 => ⟨S2x4096x512, .f32⟩
  | 107 => ⟨S1x512, .f32⟩
  | 108 => ⟨S512, .f32⟩
  | 109 => ⟨S1x1x512, .f32⟩
  | 110 => ⟨S2x4096x512, .f32⟩
  | 111 => ⟨S2x4096x512, .f32⟩
  | 112 => ⟨S2x4096x512, .f32⟩
  | 113 => ⟨S2x4096x512, .f32⟩
  | 114 => ⟨S1x512, .f32⟩
  | 115 => ⟨S512, .f32⟩
  | 116 => ⟨S1x1x512, .f32⟩
  | 117 => ⟨S2x4096x512, .f32⟩
  | 118 => ⟨S2x4096x512, .f32⟩
  | 119 => ⟨S2x4096x512, .f32⟩
  | 120 => ⟨S2x4096x512, .f32⟩
  | 121 => ⟨S1x512, .f32⟩
  | 122 => ⟨S512, .f32⟩
  | 123 => ⟨S1x1x512, .f32⟩
  | 124 => ⟨S2x4096x512, .f32⟩
  | 125 => ⟨S2x4096x512, .f32⟩
  | 126 => ⟨S2x4096x512, .f32⟩
  | 127 => ⟨S2x4096x512, .f32⟩
  | _ => ⟨S2x4096x512, .f32⟩

abbrev hbmTy0_1 (i : Nat) : BufTy := match i % 128 with
  | 0 => ⟨S1x512, .f32⟩
  | 1 => ⟨S512, .f32⟩
  | 2 => ⟨S1x1x512, .f32⟩
  | 3 => ⟨S2x4096x512, .f32⟩
  | 4 => ⟨S2x4096x512, .f32⟩
  | 5 => ⟨S2x4096x512, .f32⟩
  | 6 => ⟨S2x4096x512, .f32⟩
  | 7 => ⟨S1x512, .f32⟩
  | 8 => ⟨S512, .f32⟩
  | 9 => ⟨S1x1x512, .f32⟩
  | 10 => ⟨S2x4096x512, .f32⟩
  | 11 => ⟨S2x4096x512, .f32⟩
  | 12 => ⟨S2x4096x512, .f32⟩
  | 13 => ⟨S2x4096x512, .f32⟩
  | 14 => ⟨S1x512, .f32⟩
  | 15 => ⟨S512, .f32⟩
  | 16 => ⟨S1x1x512, .f32⟩
  | 17 => ⟨S2x4096x512, .f32⟩
  | 18 => ⟨S2x4096x512, .f32⟩
  | 19 => ⟨S2x4096x512, .f32⟩
  | 20 => ⟨S2x4096x512, .f32⟩
  | 21 => ⟨S1x512, .f32⟩
  | 22 => ⟨S512, .f32⟩
  | 23 => ⟨S1x1x512, .f32⟩
  | 24 => ⟨S2x4096x512, .f32⟩
  | 25 => ⟨S2x4096x512, .f32⟩
  | 26 => ⟨S2x4096x512, .f32⟩
  | 27 => ⟨S2x4096x512, .f32⟩
  | 28 => ⟨S1x512, .f32⟩
  | 29 => ⟨S512, .f32⟩
  | 30 => ⟨S1x1x512, .f32⟩
  | 31 => ⟨S2x4096x512, .f32⟩
  | 32 => ⟨S2x4096x512, .f32⟩
  | 33 => ⟨S2x4096x512, .f32⟩
  | 34 => ⟨S2x4096x512, .f32⟩
  | 35 => ⟨S1x512, .f32⟩
  | 36 => ⟨S512, .f32⟩
  | 37 => ⟨S1x1x512, .f32⟩
  | 38 => ⟨S2x4096x512, .f32⟩
  | 39 => ⟨S2x4096x512, .f32⟩
  | 40 => ⟨S2x4096x512, .f32⟩
  | 41 => ⟨S2x4096x512, .f32⟩
  | 42 => ⟨S1x512, .f32⟩
  | 43 => ⟨S512, .f32⟩
  | 44 => ⟨S1x1x512, .f32⟩
  | 45 => ⟨S2x4096x512, .f32⟩
  | 46 => ⟨S2x4096x512, .f32⟩
  | 47 => ⟨S2x4096x512, .f32⟩
  | 48 => ⟨S2x4096x512, .f32⟩
  | 49 => ⟨S1x512, .f32⟩
  | 50 => ⟨S512, .f32⟩
  | 51 => ⟨S1x1x512, .f32⟩
  | 52 => ⟨S2x4096x512, .f32⟩
  | 53 => ⟨S2x4096x512, .f32⟩
  | 54 => ⟨S2x4096x512, .f32⟩
  | 55 => ⟨S2x4096x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S1x512, .f32⟩
  | 64 => ⟨S512, .f32⟩
  | 65 => ⟨S1x1x512, .f32⟩
  | 66 => ⟨S2x4096x512, .f32⟩
  | 67 => ⟨S2x4096x512, .f32⟩
  | 68 => ⟨S2x4096x512, .f32⟩
  | 69 => ⟨S2x4096x512, .f32⟩
  | 70 => ⟨S1x512, .f32⟩
  | 71 => ⟨S512, .f32⟩
  | 72 => ⟨S1x1x512, .f32⟩
  | 73 => ⟨S2x4096x512, .f32⟩
  | 74 => ⟨S2x4096x512, .f32⟩
  | 75 => ⟨S2x4096x512, .f32⟩
  | 76 => ⟨S2x4096x512, .f32⟩
  | 77 => ⟨S1x512, .f32⟩
  | 78 => ⟨S512, .f32⟩
  | 79 => ⟨S1x1x512, .f32⟩
  | 80 => ⟨S2x4096x512, .f32⟩
  | 81 => ⟨S2x4096x512, .f32⟩
  | 82 => ⟨S2x4096x512, .f32⟩
  | 83 => ⟨S2x4096x512, .f32⟩
  | 84 => ⟨S1x512, .f32⟩
  | 85 => ⟨S512, .f32⟩
  | 86 => ⟨S1x1x512, .f32⟩
  | 87 => ⟨S2x4096x512, .f32⟩
  | 88 => ⟨S2x4096x512, .f32⟩
  | 89 => ⟨S2x4096x512, .f32⟩
  | 90 => ⟨S2x4096x512, .f32⟩
  | 91 => ⟨S1x512, .f32⟩
  | 92 => ⟨S512, .f32⟩
  | 93 => ⟨S1x1x512, .f32⟩
  | 94 => ⟨S2x4096x512, .f32⟩
  | 95 => ⟨S2x4096x512, .f32⟩
  | 96 => ⟨S2x4096x512, .f32⟩
  | 97 => ⟨S2x4096x512, .f32⟩
  | 98 => ⟨S1x512, .f32⟩
  | 99 => ⟨S512, .f32⟩
  | 100 => ⟨S1x1x512, .f32⟩
  | 101 => ⟨S2x4096x512, .f32⟩
  | 102 => ⟨S2x4096x512, .f32⟩
  | 103 => ⟨S2x4096x512, .f32⟩
  | 104 => ⟨S2x4096x512, .f32⟩
  | 105 => ⟨S1x512, .f32⟩
  | 106 => ⟨S512, .f32⟩
  | 107 => ⟨S1x1x512, .f32⟩
  | 108 => ⟨S2x4096x512, .f32⟩
  | 109 => ⟨S2x4096x512, .f32⟩
  | 110 => ⟨S2x4096x512, .f32⟩
  | 111 => ⟨S2x4096x512, .f32⟩
  | 112 => ⟨S1x512, .f32⟩
  | 113 => ⟨S512, .f32⟩
  | 114 => ⟨S1x1x512, .f32⟩
  | 115 => ⟨S2x4096x512, .f32⟩
  | 116 => ⟨S2x4096x512, .f32⟩
  | 117 => ⟨S2x4096x512, .f32⟩
  | 118 => ⟨S1x1x512, .f32⟩
  | 119 => ⟨S2x4096x512, .f32⟩
  | 120 => ⟨S2x4096x512, .f32⟩
  | 121 => ⟨S_, .f32⟩
  | 122 => ⟨S2x4096, .f32⟩
  | 123 => ⟨S2x4096x1, .f32⟩
  | 124 => ⟨S_, .f32⟩
  | 125 => ⟨S2x4096x1, .f32⟩
  | 126 => ⟨S2x4096x1, .f32⟩
  | 127 => ⟨S2x4096x512, .f32⟩
  | _ => ⟨S2x4096x512, .f32⟩

abbrev hbmTy0_2 (i : Nat) : BufTy := match i % 128 with
  | 0 => ⟨S2x4096x512, .f32⟩
  | 1 => ⟨S2x4096x512, .f32⟩
  | 2 => ⟨S_, .f32⟩
  | 3 => ⟨S2x4096x512, .f32⟩
  | 4 => ⟨S2x4096x512, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S2x4096x512, .f32⟩
  | 12 => ⟨S2x4096x512, .f32⟩
  | 13 => ⟨S_, .f32⟩
  | 14 => ⟨S2x4096x1, .f32⟩
  | 15 => ⟨S2x4096x1, .f32⟩
  | 16 => ⟨S2x4096x1, .f32⟩
  | 17 => ⟨S2x4096x1, .f32⟩
  | 18 => ⟨S_, .f32⟩
  | 19 => ⟨S2x4096x1, .f32⟩
  | 20 => ⟨S2x4096x1, .f32⟩
  | 21 => ⟨S2x4096x512, .f32⟩
  | 22 => ⟨S2x4096x512, .f32⟩
  | 23 => ⟨S1x1x512, .f32⟩
  | 24 => ⟨S2x4096x512, .f32⟩
  | 25 => ⟨S2x4096x512, .f32⟩
  | 26 => ⟨S1x1x512, .f32⟩
  | 27 => ⟨S2x4096x512, .f32⟩
  | 28 => ⟨S2x4096x512, .f32⟩
  | 29 => ⟨S2x4096x512, .f32⟩
  | 30 => ⟨S2x4096x512, .f32⟩
  | 31 => ⟨S_, .f32⟩
  | 32 => ⟨S2x4096x512, .f32⟩
  | 33 => ⟨S2x4096x512, .f32⟩
  | 34 => ⟨S_, .f32⟩
  | 35 => ⟨S2x4096x512, .f32⟩
  | 36 => ⟨S2x4096x512, .f32⟩
  | 37 => ⟨S_, .f32⟩
  | 38 => ⟨S2x4096x512, .f32⟩
  | 39 => ⟨S2x4096x512, .f32⟩
  | 40 => ⟨S2x4096x512, .f32⟩
  | 41 => ⟨S2x4096x512, .f32⟩
  | 42 => ⟨S2x4096x512, .f32⟩
  | 43 => ⟨S2x4096x512, .f32⟩
  | 44 => ⟨S_, .f32⟩
  | 45 => ⟨S2x4096x512, .f32⟩
  | 46 => ⟨S2x4096x512, .f32⟩
  | 47 => ⟨S_, .f32⟩
  | 48 => ⟨S2x4096x512, .f32⟩
  | 49 => ⟨S2x4096x512, .f32⟩
  | 50 => ⟨S_, .f32⟩
  | 51 => ⟨S2x4096x512, .f32⟩
  | 52 => ⟨S2x4096x512, .f32⟩
  | 53 => ⟨S2x4096x512, .f32⟩
  | 54 => ⟨S2x4096x512, .f32⟩
  | 55 => ⟨S2x4096x512, .f32⟩
  | 56 => ⟨S2x4096x512, .f32⟩
  | 57 => ⟨S2x4096x512, .f32⟩
  | 58 => ⟨S2x4096x512, .f32⟩
  | 59 => ⟨S2x4096x512, .f32⟩
  | 60 => ⟨S2x4096x512, .f32⟩
  | 61 => ⟨S2x4096x512, .f32⟩
  | 62 => ⟨S2x4096x512, .f32⟩
  | 63 => ⟨S2x4096x512, .f32⟩
  | 64 => ⟨S2x4096x512, .f32⟩
  | 65 => ⟨S2x4096x512, .f32⟩
  | 66 => ⟨S_, .f32⟩
  | 67 => ⟨S512, .f32⟩
  | 68 => ⟨S1x1x512, .f32⟩
  | 69 => ⟨S_, .f32⟩
  | 70 => ⟨S512, .f32⟩
  | 71 => ⟨S2x4096x512, .f32⟩
  | 72 => ⟨S_, .f32⟩
  | 73 => ⟨S512, .f32⟩
  | 74 => ⟨S1x1x512, .f32⟩
  | 75 => ⟨S2x4096x512, .f32⟩
  | 76 => ⟨S2x4096x512, .f32⟩
  | 77 => ⟨S_, .f32⟩
  | 78 => ⟨S512, .f32⟩
  | 79 => ⟨S2x4096x512, .f32⟩
  | 80 => ⟨S_, .f32⟩
  | 81 => ⟨S2x4096, .f32⟩
  | 82 => ⟨S2x4096x1, .f32⟩
  | 83 => ⟨S2x4096x512, .f32⟩
  | 84 => ⟨S2x4096x512, .f32⟩
  | 85 => ⟨S2x4096x1, .f32⟩
  | 86 => ⟨S2x4096x512, .f32⟩
  | 87 => ⟨S_, .f32⟩
  | 88 => ⟨S2x4096, .f32⟩
  | 89 => ⟨S2x4096x1, .f32⟩
  | 90 => ⟨S_, .f32⟩
  | 91 => ⟨S2x4096x1, .f32⟩
  | 92 => ⟨S2x4096x1, .f32⟩
  | 93 => ⟨S_, .f32⟩
  | 94 => ⟨S2x4096, .f32⟩
  | 95 => ⟨S2x4096x512, .f32⟩
  | 96 => ⟨S2x4096x512, .f32⟩
  | 97 => ⟨S2x4096x512, .f32⟩
  | 98 => ⟨S_, .f32⟩
  | 99 => ⟨S2x4096, .f32⟩
  | 100 => ⟨S2x4096x1, .f32⟩
  | 101 => ⟨S2x4096x512, .f32⟩
  | 102 => ⟨S2x4096x1, .f32⟩
  | 103 => ⟨S_, .f32⟩
  | 104 => ⟨S2x4096x1, .f32⟩
  | 105 => ⟨S2x4096x1, .f32⟩
  | 106 => ⟨S_, .f32⟩
  | 107 => ⟨S2x4096, .f32⟩
  | 108 => ⟨S2x4096x512, .f32⟩
  | 109 => ⟨S2x4096x512, .f32⟩
  | 110 => ⟨S_, .f32⟩
  | 111 => ⟨S512, .f32⟩
  | 112 => ⟨S1x1x512, .f32⟩
  | 113 => ⟨S_, .f32⟩
  | 114 => ⟨S512, .f32⟩
  | 115 => ⟨S2x4096x512, .f32⟩
  | 116 => ⟨S_, .f32⟩
  | 117 => ⟨S512, .f32⟩
  | 118 => ⟨S1x1x512, .f32⟩
  | 119 => ⟨S2x4096x512, .f32⟩
  | 120 => ⟨S2x4096x512, .f32⟩
  | 121 => ⟨S_, .f32⟩
  | 122 => ⟨S512, .f32⟩
  | 123 => ⟨S1x512, .f32⟩
  | 124 => ⟨S_, .f32⟩
  | 125 => ⟨S31x512, .f32⟩
  | 126 => ⟨S_, .f32⟩
  | 127 => ⟨S2x4126x512, .f32⟩
  | _ => ⟨S2x4096x512, .f32⟩

abbrev hbmTy0_3 (i : Nat) : BufTy := match i % 128 with
  | 0 => ⟨S2x4096x512, .f32⟩
  | 1 => ⟨S_, .f32⟩
  | 2 => ⟨S512, .f32⟩
  | 3 => ⟨S1x1x512, .f32⟩
  | 4 => ⟨S2x4096x512, .f32⟩
  | 5 => ⟨S2x4096x512, .f32⟩
  | 6 => ⟨S_, .f32⟩
  | 7 => ⟨S512, .f32⟩
  | 8 => ⟨S1x512, .f32⟩
  | 9 => ⟨S_, .f32⟩
  | 10 => ⟨S31x512, .f32⟩
  | 11 => ⟨S31x512, .f32⟩
  | 12 => ⟨S_, .f32⟩
  | 13 => ⟨S2x4126x512, .f32⟩
  | 14 => ⟨S2x4126x512, .f32⟩
  | 15 => ⟨S2x4096x512, .f32⟩
  | 16 => ⟨S_, .f32⟩
  | 17 => ⟨S512, .f32⟩
  | 18 => ⟨S1x1x512, .f32⟩
  | 19 => ⟨S2x4096x512, .f32⟩
  | 20 => ⟨S2x4096x512, .f32⟩
  | 21 => ⟨S_, .f32⟩
  | 22 => ⟨S512, .f32⟩
  | 23 => ⟨S1x512, .f32⟩
  | 24 => ⟨S_, .f32⟩
  | 25 => ⟨S31x512, .f32⟩
  | 26 => ⟨S31x512, .f32⟩
  | 27 => ⟨S_, .f32⟩
  | 28 => ⟨S2x4126x512, .f32⟩
  | 29 => ⟨S2x4126x512, .f32⟩
  | 30 => ⟨S2x4096x512, .f32⟩
  | 31 => ⟨S_, .f32⟩
  | 32 => ⟨S512, .f32⟩
  | 33 => ⟨S1x1x512, .f32⟩
  | 34 => ⟨S2x4096x512, .f32⟩
  | 35 => ⟨S2x4096x512, .f32⟩
  | 36 => ⟨S_, .f32⟩
  | 37 => ⟨S512, .f32⟩
  | 38 => ⟨S1x512, .f32⟩
  | 39 => ⟨S_, .f32⟩
  | 40 => ⟨S31x512, .f32⟩
  | 41 => ⟨S31x512, .f32⟩
  | 42 => ⟨S_, .f32⟩
  | 43 => ⟨S2x4126x512, .f32⟩
  | 44 => ⟨S2x4126x512, .f32⟩
  | 45 => ⟨S2x4096x512, .f32⟩
  | 46 => ⟨S_, .f32⟩
  | 47 => ⟨S512, .f32⟩
  | 48 => ⟨S1x1x512, .f32⟩
  | 49 => ⟨S2x4096x512, .f32⟩
  | 50 => ⟨S2x4096x512, .f32⟩
  | 51 => ⟨S_, .f32⟩
  | 52 => ⟨S512, .f32⟩
  | 53 => ⟨S1x512, .f32⟩
  | 54 => ⟨S_, .f32⟩
  | 55 => ⟨S31x512, .f32⟩
  | 56 => ⟨S31x512, .f32⟩
  | 57 => ⟨S_, .f32⟩
  | 58 => ⟨S2x4126x512, .f32⟩
  | 59 => ⟨S2x4126x512, .f32⟩
  | 60 => ⟨S2x4096x512, .f32⟩
  | 61 => ⟨S_, .f32⟩
  | 62 => ⟨S512, .f32⟩
  | 63 => ⟨S1x1x512, .f32⟩
  | 64 => ⟨S2x4096x512, .f32⟩
  | 65 => ⟨S2x4096x512, .f32⟩
  | 66 => ⟨S_, .f32⟩
  | 67 => ⟨S512, .f32⟩
  | 68 => ⟨S1x512, .f32⟩
  | 69 => ⟨S_, .f32⟩
  | 70 => ⟨S31x512, .f32⟩
  | 71 => ⟨S31x512, .f32⟩
  | 72 => ⟨S_, .f32⟩
  | 73 => ⟨S2x4126x512, .f32⟩
  | 74 => ⟨S2x4126x512, .f32⟩
  | 75 => ⟨S2x4096x512, .f32⟩
  | 76 => ⟨S_, .f32⟩
  | 77 => ⟨S512, .f32⟩
  | 78 => ⟨S1x1x512, .f32⟩
  | 79 => ⟨S2x4096x512, .f32⟩
  | 80 => ⟨S2x4096x512, .f32⟩
  | 81 => ⟨S_, .f32⟩
  | 82 => ⟨S512, .f32⟩
  | 83 => ⟨S1x512, .f32⟩
  | 84 => ⟨S_, .f32⟩
  | 85 => ⟨S31x512, .f32⟩
  | 86 => ⟨S31x512, .f32⟩
  | 87 => ⟨S_, .f32⟩
  | 88 => ⟨S2x4126x512, .f32⟩
  | 89 => ⟨S2x4126x512, .f32⟩
  | 90 => ⟨S2x4096x512, .f32⟩
  | 91 => ⟨S_, .f32⟩
  | 92 => ⟨S512, .f32⟩
  | 93 => ⟨S1x1x512, .f32⟩
  | 94 => ⟨S2x4096x512, .f32⟩
  | 95 => ⟨S2x4096x512, .f32⟩
  | 96 => ⟨S_, .f32⟩
  | 97 => ⟨S512, .f32⟩
  | 98 => ⟨S1x512, .f32⟩
  | 99 => ⟨S_, .f32⟩
  | 100 => ⟨S31x512, .f32⟩
  | 101 => ⟨S31x512, .f32⟩
  | 102 => ⟨S_, .f32⟩
  | 103 => ⟨S2x4126x512, .f32⟩
  | 104 => ⟨S2x4126x512, .f32⟩
  | 105 => ⟨S2x4096x512, .f32⟩
  | 106 => ⟨S_, .f32⟩
  | 107 => ⟨S512, .f32⟩
  | 108 => ⟨S1x1x512, .f32⟩
  | 109 => ⟨S2x4096x512, .f32⟩
  | 110 => ⟨S2x4096x512, .f32⟩
  | 111 => ⟨S_, .f32⟩
  | 112 => ⟨S512, .f32⟩
  | 113 => ⟨S1x512, .f32⟩
  | 114 => ⟨S_, .f32⟩
  | 115 => ⟨S31x512, .f32⟩
  | 116 => ⟨S31x512, .f32⟩
  | 117 => ⟨S_, .f32⟩
  | 118 => ⟨S2x4126x512, .f32⟩
  | 119 => ⟨S2x4126x512, .f32⟩
  | 120 => ⟨S2x4096x512, .f32⟩
  | 121 => ⟨S_, .f32⟩
  | 122 => ⟨S512, .f32⟩
  | 123 => ⟨S1x1x512, .f32⟩
  | 124 => ⟨S2x4096x512, .f32⟩
  | 125 => ⟨S2x4096x512, .f32⟩
  | 126 => ⟨S_, .f32⟩
  | 127 => ⟨S512, .f32⟩
  | _ => ⟨S2x4096x512, .f32⟩

abbrev hbmTy0_4 (i : Nat) : BufTy := match i % 128 with
  | 0 => ⟨S1x512, .f32⟩
  | 1 => ⟨S_, .f32⟩
  | 2 => ⟨S31x512, .f32⟩
  | 3 => ⟨S31x512, .f32⟩
  | 4 => ⟨S_, .f32⟩
  | 5 => ⟨S2x4126x512, .f32⟩
  | 6 => ⟨S2x4126x512, .f32⟩
  | 7 => ⟨S2x4096x512, .f32⟩
  | 8 => ⟨S_, .f32⟩
  | 9 => ⟨S512, .f32⟩
  | 10 => ⟨S1x1x512, .f32⟩
  | 11 => ⟨S2x4096x512, .f32⟩
  | 12 => ⟨S2x4096x512, .f32⟩
  | 13 => ⟨S_, .f32⟩
  | 14 => ⟨S512, .f32⟩
  | 15 => ⟨S1x512, .f32⟩
  | 16 => ⟨S_, .f32⟩
  | 17 => ⟨S31x512, .f32⟩
  | 18 => ⟨S31x512, .f32⟩
  | 19 => ⟨S_, .f32⟩
  | 20 => ⟨S2x4126x512, .f32⟩
  | 21 => ⟨S2x4126x512, .f32⟩
  | 22 => ⟨S2x4096x512, .f32⟩
  | 23 => ⟨S_, .f32⟩
  | 24 => ⟨S512, .f32⟩
  | 25 => ⟨S1x1x512, .f32⟩
  | 26 => ⟨S2x4096x512, .f32⟩
  | 27 => ⟨S2x4096x512, .f32⟩
  | 28 => ⟨S_, .f32⟩
  | 29 => ⟨S512, .f32⟩
  | 30 => ⟨S1x512, .f32⟩
  | 31 => ⟨S_, .f32⟩
  | 32 => ⟨S31x512, .f32⟩
  | 33 => ⟨S31x512, .f32⟩
  | 34 => ⟨S_, .f32⟩
  | 35 => ⟨S2x4126x512, .f32⟩
  | 36 => ⟨S2x4126x512, .f32⟩
  | 37 => ⟨S2x4096x512, .f32⟩
  | 38 => ⟨S_, .f32⟩
  | 39 => ⟨S512, .f32⟩
  | 40 => ⟨S1x1x512, .f32⟩
  | 41 => ⟨S2x4096x512, .f32⟩
  | 42 => ⟨S2x4096x512, .f32⟩
  | 43 => ⟨S_, .f32⟩
  | 44 => ⟨S512, .f32⟩
  | 45 => ⟨S1x512, .f32⟩
  | 46 => ⟨S_, .f32⟩
  | 47 => ⟨S31x512, .f32⟩
  | 48 => ⟨S31x512, .f32⟩
  | 49 => ⟨S_, .f32⟩
  | 50 => ⟨S2x4126x512, .f32⟩
  | 51 => ⟨S2x4126x512, .f32⟩
  | 52 => ⟨S2x4096x512, .f32⟩
  | 53 => ⟨S_, .f32⟩
  | 54 => ⟨S512, .f32⟩
  | 55 => ⟨S1x1x512, .f32⟩
  | 56 => ⟨S2x4096x512, .f32⟩
  | 57 => ⟨S2x4096x512, .f32⟩
  | 58 => ⟨S_, .f32⟩
  | 59 => ⟨S512, .f32⟩
  | 60 => ⟨S1x512, .f32⟩
  | 61 => ⟨S_, .f32⟩
  | 62 => ⟨S31x512, .f32⟩
  | 63 => ⟨S31x512, .f32⟩
  | 64 => ⟨S_, .f32⟩
  | 65 => ⟨S2x4126x512, .f32⟩
  | 66 => ⟨S2x4126x512, .f32⟩
  | 67 => ⟨S2x4096x512, .f32⟩
  | 68 => ⟨S_, .f32⟩
  | 69 => ⟨S512, .f32⟩
  | 70 => ⟨S1x1x512, .f32⟩
  | 71 => ⟨S2x4096x512, .f32⟩
  | 72 => ⟨S2x4096x512, .f32⟩
  | 73 => ⟨S_, .f32⟩
  | 74 => ⟨S512, .f32⟩
  | 75 => ⟨S1x512, .f32⟩
  | 76 => ⟨S_, .f32⟩
  | 77 => ⟨S31x512, .f32⟩
  | 78 => ⟨S31x512, .f32⟩
  | 79 => ⟨S_, .f32⟩
  | 80 => ⟨S2x4126x512, .f32⟩
  | 81 => ⟨S2x4126x512, .f32⟩
  | 82 => ⟨S2x4096x512, .f32⟩
  | 83 => ⟨S_, .f32⟩
  | 84 => ⟨S512, .f32⟩
  | 85 => ⟨S1x1x512, .f32⟩
  | 86 => ⟨S2x4096x512, .f32⟩
  | 87 => ⟨S2x4096x512, .f32⟩
  | 88 => ⟨S_, .f32⟩
  | 89 => ⟨S512, .f32⟩
  | 90 => ⟨S1x512, .f32⟩
  | 91 => ⟨S_, .f32⟩
  | 92 => ⟨S31x512, .f32⟩
  | 93 => ⟨S31x512, .f32⟩
  | 94 => ⟨S_, .f32⟩
  | 95 => ⟨S2x4126x512, .f32⟩
  | 96 => ⟨S2x4126x512, .f32⟩
  | 97 => ⟨S2x4096x512, .f32⟩
  | 98 => ⟨S_, .f32⟩
  | 99 => ⟨S512, .f32⟩
  | 100 => ⟨S1x1x512, .f32⟩
  | 101 => ⟨S2x4096x512, .f32⟩
  | 102 => ⟨S2x4096x512, .f32⟩
  | 103 => ⟨S_, .f32⟩
  | 104 => ⟨S512, .f32⟩
  | 105 => ⟨S1x512, .f32⟩
  | 106 => ⟨S_, .f32⟩
  | 107 => ⟨S31x512, .f32⟩
  | 108 => ⟨S31x512, .f32⟩
  | 109 => ⟨S_, .f32⟩
  | 110 => ⟨S2x4126x512, .f32⟩
  | 111 => ⟨S2x4126x512, .f32⟩
  | 112 => ⟨S2x4096x512, .f32⟩
  | 113 => ⟨S_, .f32⟩
  | 114 => ⟨S512, .f32⟩
  | 115 => ⟨S1x1x512, .f32⟩
  | 116 => ⟨S2x4096x512, .f32⟩
  | 117 => ⟨S2x4096x512, .f32⟩
  | 118 => ⟨S_, .f32⟩
  | 119 => ⟨S512, .f32⟩
  | 120 => ⟨S1x512, .f32⟩
  | 121 => ⟨S_, .f32⟩
  | 122 => ⟨S31x512, .f32⟩
  | 123 => ⟨S31x512, .f32⟩
  | 124 => ⟨S_, .f32⟩
  | 125 => ⟨S2x4126x512, .f32⟩
  | 126 => ⟨S2x4126x512, .f32⟩
  | 127 => ⟨S2x4096x512, .f32⟩
  | _ => ⟨S2x4096x512, .f32⟩

abbrev hbmTy0_5 (i : Nat) : BufTy := match i % 128 with
  | 0 => ⟨S_, .f32⟩
  | 1 => ⟨S512, .f32⟩
  | 2 => ⟨S1x1x512, .f32⟩
  | 3 => ⟨S2x4096x512, .f32⟩
  | 4 => ⟨S2x4096x512, .f32⟩
  | 5 => ⟨S_, .f32⟩
  | 6 => ⟨S512, .f32⟩
  | 7 => ⟨S1x512, .f32⟩
  | 8 => ⟨S_, .f32⟩
  | 9 => ⟨S31x512, .f32⟩
  | 10 => ⟨S31x512, .f32⟩
  | 11 => ⟨S_, .f32⟩
  | 12 => ⟨S2x4126x512, .f32⟩
  | 13 => ⟨S2x4126x512, .f32⟩
  | 14 => ⟨S2x4096x512, .f32⟩
  | 15 => ⟨S_, .f32⟩
  | 16 => ⟨S512, .f32⟩
  | 17 => ⟨S1x1x512, .f32⟩
  | 18 => ⟨S2x4096x512, .f32⟩
  | 19 => ⟨S2x4096x512, .f32⟩
  | 20 => ⟨S_, .f32⟩
  | 21 => ⟨S512, .f32⟩
  | 22 => ⟨S1x512, .f32⟩
  | 23 => ⟨S_, .f32⟩
  | 24 => ⟨S31x512, .f32⟩
  | 25 => ⟨S31x512, .f32⟩
  | 26 => ⟨S_, .f32⟩
  | 27 => ⟨S2x4126x512, .f32⟩
  | 28 => ⟨S2x4126x512, .f32⟩
  | 29 => ⟨S2x4096x512, .f32⟩
  | 30 => ⟨S_, .f32⟩
  | 31 => ⟨S512, .f32⟩
  | 32 => ⟨S1x1x512, .f32⟩
  | 33 => ⟨S2x4096x512, .f32⟩
  | 34 => ⟨S2x4096x512, .f32⟩
  | 35 => ⟨S_, .f32⟩
  | 36 => ⟨S512, .f32⟩
  | 37 => ⟨S1x512, .f32⟩
  | 38 => ⟨S_, .f32⟩
  | 39 => ⟨S31x512, .f32⟩
  | 40 => ⟨S31x512, .f32⟩
  | 41 => ⟨S_, .f32⟩
  | 42 => ⟨S2x4126x512, .f32⟩
  | 43 => ⟨S2x4126x512, .f32⟩
  | 44 => ⟨S2x4096x512, .f32⟩
  | 45 => ⟨S_, .f32⟩
  | 46 => ⟨S512, .f32⟩
  | 47 => ⟨S1x1x512, .f32⟩
  | 48 => ⟨S2x4096x512, .f32⟩
  | 49 => ⟨S2x4096x512, .f32⟩
  | 50 => ⟨S_, .f32⟩
  | 51 => ⟨S512, .f32⟩
  | 52 => ⟨S1x512, .f32⟩
  | 53 => ⟨S_, .f32⟩
  | 54 => ⟨S31x512, .f32⟩
  | 55 => ⟨S31x512, .f32⟩
  | 56 => ⟨S_, .f32⟩
  | 57 => ⟨S2x4126x512, .f32⟩
  | 58 => ⟨S2x4126x512, .f32⟩
  | 59 => ⟨S2x4096x512, .f32⟩
  | 60 => ⟨S_, .f32⟩
  | 61 => ⟨S512, .f32⟩
  | 62 => ⟨S1x1x512, .f32⟩
  | 63 => ⟨S2x4096x512, .f32⟩
  | 64 => ⟨S2x4096x512, .f32⟩
  | 65 => ⟨S_, .f32⟩
  | 66 => ⟨S512, .f32⟩
  | 67 => ⟨S1x512, .f32⟩
  | 68 => ⟨S_, .f32⟩
  | 69 => ⟨S31x512, .f32⟩
  | 70 => ⟨S31x512, .f32⟩
  | 71 => ⟨S_, .f32⟩
  | 72 => ⟨S2x4126x512, .f32⟩
  | 73 => ⟨S2x4126x512, .f32⟩
  | 74 => ⟨S2x4096x512, .f32⟩
  | 75 => ⟨S_, .f32⟩
  | 76 => ⟨S512, .f32⟩
  | 77 => ⟨S1x1x512, .f32⟩
  | 78 => ⟨S2x4096x512, .f32⟩
  | 79 => ⟨S2x4096x512, .f32⟩
  | 80 => ⟨S_, .f32⟩
  | 81 => ⟨S512, .f32⟩
  | 82 => ⟨S1x512, .f32⟩
  | 83 => ⟨S_, .f32⟩
  | 84 => ⟨S31x512, .f32⟩
  | 85 => ⟨S31x512, .f32⟩
  | 86 => ⟨S_, .f32⟩
  | 87 => ⟨S2x4126x512, .f32⟩
  | 88 => ⟨S2x4126x512, .f32⟩
  | 89 => ⟨S2x4096x512, .f32⟩
  | 90 => ⟨S_, .f32⟩
  | 91 => ⟨S512, .f32⟩
  | 92 => ⟨S1x1x512, .f32⟩
  | 93 => ⟨S2x4096x512, .f32⟩
  | 94 => ⟨S2x4096x512, .f32⟩
  | 95 => ⟨S_, .f32⟩
  | 96 => ⟨S512, .f32⟩
  | 97 => ⟨S1x512, .f32⟩
  | 98 => ⟨S_, .f32⟩
  | 99 => ⟨S31x512, .f32⟩
  | 100 => ⟨S31x512, .f32⟩
  | 101 => ⟨S_, .f32⟩
  | 102 => ⟨S2x4126x512, .f32⟩
  | 103 => ⟨S2x4126x512, .f32⟩
  | 104 => ⟨S2x4096x512, .f32⟩
  | 105 => ⟨S_, .f32⟩
  | 106 => ⟨S512, .f32⟩
  | 107 => ⟨S1x1x512, .f32⟩
  | 108 => ⟨S2x4096x512, .f32⟩
  | 109 => ⟨S2x4096x512, .f32⟩
  | 110 => ⟨S_, .f32⟩
  | 111 => ⟨S512, .f32⟩
  | 112 => ⟨S1x512, .f32⟩
  | 113 => ⟨S_, .f32⟩
  | 114 => ⟨S31x512, .f32⟩
  | 115 => ⟨S31x512, .f32⟩
  | 116 => ⟨S_, .f32⟩
  | 117 => ⟨S2x4126x512, .f32⟩
  | 118 => ⟨S2x4126x512, .f32⟩
  | 119 => ⟨S2x4096x512, .f32⟩
  | 120 => ⟨S_, .f32⟩
  | 121 => ⟨S512, .f32⟩
  | 122 => ⟨S1x1x512, .f32⟩
  | 123 => ⟨S2x4096x512, .f32⟩
  | 124 => ⟨S2x4096x512, .f32⟩
  | 125 => ⟨S_, .f32⟩
  | 126 => ⟨S512, .f32⟩
  | 127 => ⟨S1x512, .f32⟩
  | _ => ⟨S2x4096x512, .f32⟩

abbrev hbmTy0_6 (i : Nat) : BufTy := match i % 128 with
  | 0 => ⟨S_, .f32⟩
  | 1 => ⟨S31x512, .f32⟩
  | 2 => ⟨S31x512, .f32⟩
  | 3 => ⟨S_, .f32⟩
  | 4 => ⟨S2x4126x512, .f32⟩
  | 5 => ⟨S2x4126x512, .f32⟩
  | 6 => ⟨S2x4096x512, .f32⟩
  | 7 => ⟨S_, .f32⟩
  | 8 => ⟨S512, .f32⟩
  | 9 => ⟨S1x1x512, .f32⟩
  | 10 => ⟨S2x4096x512, .f32⟩
  | 11 => ⟨S2x4096x512, .f32⟩
  | 12 => ⟨S_, .f32⟩
  | 13 => ⟨S512, .f32⟩
  | 14 => ⟨S1x512, .f32⟩
  | 15 => ⟨S_, .f32⟩
  | 16 => ⟨S31x512, .f32⟩
  | 17 => ⟨S31x512, .f32⟩
  | 18 => ⟨S_, .f32⟩
  | 19 => ⟨S2x4126x512, .f32⟩
  | 20 => ⟨S2x4126x512, .f32⟩
  | 21 => ⟨S2x4096x512, .f32⟩
  | 22 => ⟨S_, .f32⟩
  | 23 => ⟨S512, .f32⟩
  | 24 => ⟨S1x1x512, .f32⟩
  | 25 => ⟨S2x4096x512, .f32⟩
  | 26 => ⟨S2x4096x512, .f32⟩
  | 27 => ⟨S_, .f32⟩
  | 28 => ⟨S512, .f32⟩
  | 29 => ⟨S1x512, .f32⟩
  | 30 => ⟨S_, .f32⟩
  | 31 => ⟨S31x512, .f32⟩
  | 32 => ⟨S31x512, .f32⟩
  | 33 => ⟨S_, .f32⟩
  | 34 => ⟨S2x4126x512, .f32⟩
  | 35 => ⟨S2x4126x512, .f32⟩
  | 36 => ⟨S2x4096x512, .f32⟩
  | 37 => ⟨S_, .f32⟩
  | 38 => ⟨S512, .f32⟩
  | 39 => ⟨S1x1x512, .f32⟩
  | 40 => ⟨S2x4096x512, .f32⟩
  | 41 => ⟨S2x4096x512, .f32⟩
  | 42 => ⟨S_, .f32⟩
  | 43 => ⟨S512, .f32⟩
  | 44 => ⟨S1x512, .f32⟩
  | 45 => ⟨S_, .f32⟩
  | 46 => ⟨S31x512, .f32⟩
  | 47 => ⟨S31x512, .f32⟩
  | 48 => ⟨S_, .f32⟩
  | 49 => ⟨S2x4126x512, .f32⟩
  | 50 => ⟨S2x4126x512, .f32⟩
  | 51 => ⟨S2x4096x512, .f32⟩
  | 52 => ⟨S_, .f32⟩
  | 53 => ⟨S512, .f32⟩
  | 54 => ⟨S1x1x512, .f32⟩
  | 55 => ⟨S2x4096x512, .f32⟩
  | 56 => ⟨S2x4096x512, .f32⟩
  | 57 => ⟨S_, .f32⟩
  | 58 => ⟨S512, .f32⟩
  | 59 => ⟨S1x512, .f32⟩
  | 60 => ⟨S_, .f32⟩
  | 61 => ⟨S31x512, .f32⟩
  | 62 => ⟨S31x512, .f32⟩
  | 63 => ⟨S_, .f32⟩
  | 64 => ⟨S2x4126x512, .f32⟩
  | 65 => ⟨S2x4126x512, .f32⟩
  | 66 => ⟨S2x30x512, .f32⟩
  | 67 => ⟨S2x4096x512, .f32⟩
  | 68 => ⟨S2x4096x512, .f32⟩
  | 69 => ⟨S2x4096x512, .f32⟩
  | 70 => ⟨S2x4096x512, .f32⟩
  | 71 => ⟨S2x4096x1536, .f32⟩
  | 72 => ⟨S2x4096x1536, .bf16⟩
  | 73 => ⟨S_, .i32⟩
  | 74 => ⟨S_, .f32⟩
  | 75 => ⟨S32x512, .f32⟩
  | 76 => ⟨S1x512, .f32⟩
  | 77 => ⟨S1x512, .f32⟩
  | 78 => ⟨S1x512, .f32⟩
  | 79 => ⟨S3x512, .f32⟩
  | 80 => ⟨S_, .i32⟩
  | 81 => ⟨S_, .f32⟩
  | 82 => ⟨S8x512, .f32⟩
  | _ => ⟨S2x4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_cst_5 : Ref sig .tc := ⟨.hbm, 249, rfl⟩
abbrev main_v237 : Ref sig .tc := ⟨.hbm, 250, rfl⟩
abbrev main_v238 : Ref sig .tc := ⟨.hbm, 251, rfl⟩
abbrev main_cst_6 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_7 : Ref sig .tc := ⟨.hbm, 258, rfl⟩
abbrev main_v244 : Ref sig .tc := ⟨.hbm, 259, rfl⟩
abbrev main_v245 : Ref sig .tc := ⟨.hbm, 260, rfl⟩
abbrev main_cst_8 : Ref sig .tc := ⟨.hbm, 261, rfl⟩
abbrev main_v246 : Ref sig .tc := ⟨.hbm, 262, rfl⟩
abbrev main_v247 : Ref sig .tc := ⟨.hbm, 263, rfl⟩
abbrev main_cst_9 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_cst_10 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_cst_11 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_call0_v0 : Ref sig .tc := ⟨.hbm, 285, rfl⟩
abbrev main_call0_v1 : Ref sig .tc := ⟨.hbm, 286, rfl⟩
abbrev main_call0_cst : Ref sig .tc := ⟨.hbm, 287, rfl⟩
abbrev main_call0_v2 : Ref sig .tc := ⟨.hbm, 288, rfl⟩
abbrev main_call0_v3 : Ref sig .tc := ⟨.hbm, 289, rfl⟩
abbrev main_call0_cst_0 : Ref sig .tc := ⟨.hbm, 290, rfl⟩
abbrev main_call0_v4 : Ref sig .tc := ⟨.hbm, 291, rfl⟩
abbrev main_v266_2 : Ref sig .tc := ⟨.hbm, 292, rfl⟩
abbrev main_call0_cst_1 : Ref sig .tc := ⟨.hbm, 293, rfl⟩
abbrev main_call0_v6 : Ref sig .tc := ⟨.hbm, 294, rfl⟩
abbrev main_call0_v7 : Ref sig .tc := ⟨.hbm, 295, rfl⟩
abbrev main_v266_1 : Ref sig .tc := ⟨.hbm, 296, rfl⟩
abbrev main_v266_0 : Ref sig .tc := ⟨.hbm, 297, rfl⟩
abbrev main_call1_v0 : Ref sig .tc := ⟨.hbm, 298, rfl⟩
abbrev main_call1_v1 : Ref sig .tc := ⟨.hbm, 299, rfl⟩
abbrev main_call1_cst : Ref sig .tc := ⟨.hbm, 300, rfl⟩
abbrev main_call1_v2 : Ref sig .tc := ⟨.hbm, 301, rfl⟩
abbrev main_call1_v3 : Ref sig .tc := ⟨.hbm, 302, rfl⟩
abbrev main_call1_cst_0 : Ref sig .tc := ⟨.hbm, 303, rfl⟩
abbrev main_call1_v4 : Ref sig .tc := ⟨.hbm, 304, rfl⟩
abbrev main_v267_2 : Ref sig .tc := ⟨.hbm, 305, rfl⟩
abbrev main_call1_cst_1 : Ref sig .tc := ⟨.hbm, 306, rfl⟩
abbrev main_call1_v6 : Ref sig .tc := ⟨.hbm, 307, rfl⟩
abbrev main_call1_v7 : Ref sig .tc := ⟨.hbm, 308, rfl⟩
abbrev main_v267_1 : Ref sig .tc := ⟨.hbm, 309, rfl⟩
abbrev main_v267_0 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_call2_v0 : Ref sig .tc := ⟨.hbm, 314, rfl⟩
abbrev main_call2_v1 : Ref sig .tc := ⟨.hbm, 315, rfl⟩
abbrev main_call2_v2 : Ref sig .tc := ⟨.hbm, 316, rfl⟩
abbrev main_v271 : Ref sig .tc := ⟨.hbm, 317, rfl⟩
abbrev main_call3_v0 : Ref sig .tc := ⟨.hbm, 318, rfl⟩
abbrev main_call3_v1 : Ref sig .tc := ⟨.hbm, 319, rfl⟩
abbrev main_call3_v2 : Ref sig .tc := ⟨.hbm, 320, rfl⟩
abbrev main_v272 : Ref sig .tc := ⟨.hbm, 321, rfl⟩
abbrev main_cst_12 : Ref sig .tc := ⟨.hbm, 322, rfl⟩
abbrev main_v273 : Ref sig .tc := ⟨.hbm, 323, rfl⟩
abbrev main_v274 : Ref sig .tc := ⟨.hbm, 324, rfl⟩
abbrev main_cst_13 : Ref sig .tc := ⟨.hbm, 325, rfl⟩
abbrev main_v275 : Ref sig .tc := ⟨.hbm, 326, rfl⟩
abbrev main_v276 : Ref sig .tc := ⟨.hbm, 327, rfl⟩
abbrev main_cst_14 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_cst_15 : Ref sig .tc := ⟨.hbm, 333, rfl⟩
abbrev main_v281 : Ref sig .tc := ⟨.hbm, 334, rfl⟩
abbrev main_v282 : Ref sig .tc := ⟨.hbm, 335, rfl⟩
abbrev main_cst_16 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_cst_17 : Ref sig .tc := ⟨.hbm, 343, rfl⟩
abbrev main_v289 : Ref sig .tc := ⟨.hbm, 344, rfl⟩
abbrev main_v290 : Ref sig .tc := ⟨.hbm, 345, rfl⟩
abbrev main_cst_18 : Ref sig .tc := ⟨.hbm, 346, rfl⟩
abbrev main_v291 : Ref sig .tc := ⟨.hbm, 347, rfl⟩
abbrev main_v292 : Ref sig .tc := ⟨.hbm, 348, rfl⟩
abbrev main_cst_19 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_cst_20 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_cst_21 : Ref sig .tc := ⟨.hbm, 359, rfl⟩
abbrev main_v301 : Ref sig .tc := ⟨.hbm, 360, rfl⟩
abbrev main_v302 : Ref sig .tc := ⟨.hbm, 361, rfl⟩
abbrev main_cst_22 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_cst_23 : Ref sig .tc := ⟨.hbm, 366, rfl⟩
abbrev main_v306 : Ref sig .tc := ⟨.hbm, 367, rfl⟩
abbrev main_v307 : Ref sig .tc := ⟨.hbm, 368, rfl⟩
abbrev main_cst_24 : Ref sig .tc := ⟨.hbm, 369, rfl⟩
abbrev main_v308 : Ref sig .tc := ⟨.hbm, 370, rfl⟩
abbrev main_v309 : Ref sig .tc := ⟨.hbm, 371, rfl⟩
abbrev main_cst_25 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_cst_26 : Ref sig .tc := ⟨.hbm, 377, rfl⟩
abbrev main_v314 : Ref sig .tc := ⟨.hbm, 378, rfl⟩
abbrev main_v315 : Ref sig .tc := ⟨.hbm, 379, rfl⟩
abbrev main_cst_27 : Ref sig .tc := ⟨.hbm, 380, rfl⟩
abbrev main_v316 : Ref sig .tc := ⟨.hbm, 381, rfl⟩
abbrev main_cst_28 : Ref sig .tc := ⟨.hbm, 382, rfl⟩
abbrev main_v317 : Ref sig .tc := ⟨.hbm, 383, rfl⟩
abbrev main_v318 : Ref sig .tc := ⟨.hbm, 384, rfl⟩
abbrev main_cst_29 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_cst_30 : Ref sig .tc := ⟨.hbm, 390, rfl⟩
abbrev main_v323 : Ref sig .tc := ⟨.hbm, 391, rfl⟩
abbrev main_v324 : Ref sig .tc := ⟨.hbm, 392, rfl⟩
abbrev main_cst_31 : Ref sig .tc := ⟨.hbm, 393, rfl⟩
abbrev main_v325 : Ref sig .tc := ⟨.hbm, 394, rfl⟩
abbrev main_v326 : Ref sig .tc := ⟨.hbm, 395, rfl⟩
abbrev main_cst_32 : Ref sig .tc := ⟨.hbm, 396, rfl⟩
abbrev main_v327 : Ref sig .tc := ⟨.hbm, 397, rfl⟩
abbrev main_v328 : Ref sig .tc := ⟨.hbm, 398, rfl⟩
abbrev main_v329 : Ref sig .tc := ⟨.hbm, 399, rfl⟩
abbrev main_cst_33 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_v333 : Ref sig .tc := ⟨.hbm, 404, rfl⟩
abbrev main_cst_34 : Ref sig .tc := ⟨.hbm, 405, rfl⟩
abbrev main_v334 : Ref sig .tc := ⟨.hbm, 406, rfl⟩
abbrev main_v335 : Ref sig .tc := ⟨.hbm, 407, rfl⟩
abbrev main_cst_35 : Ref sig .tc := ⟨.hbm, 408, rfl⟩
abbrev main_v336 : Ref sig .tc := ⟨.hbm, 409, rfl⟩
abbrev main_v337 : Ref sig .tc := ⟨.hbm, 410, rfl⟩
abbrev main_cst_36 : Ref sig .tc := ⟨.hbm, 411, rfl⟩
abbrev main_v338 : Ref sig .tc := ⟨.hbm, 412, rfl⟩
abbrev main_v339 : Ref sig .tc := ⟨.hbm, 413, rfl⟩
abbrev main_v340 : Ref sig .tc := ⟨.hbm, 414, rfl⟩
abbrev main_cst_37 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_cst_38 : Ref sig .tc := ⟨.hbm, 420, rfl⟩
abbrev main_v345 : Ref sig .tc := ⟨.hbm, 421, rfl⟩
abbrev main_v346 : Ref sig .tc := ⟨.hbm, 422, rfl⟩
abbrev main_cst_39 : Ref sig .tc := ⟨.hbm, 423, rfl⟩
abbrev main_v347 : Ref sig .tc := ⟨.hbm, 424, rfl⟩
abbrev main_v348 : Ref sig .tc := ⟨.hbm, 425, rfl⟩
abbrev main_cst_40 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_cst_41 : Ref sig .tc := ⟨.hbm, 430, rfl⟩
abbrev main_v352 : Ref sig .tc := ⟨.hbm, 431, rfl⟩
abbrev main_v353 : Ref sig .tc := ⟨.hbm, 432, rfl⟩
abbrev main_v354 : Ref sig .tc := ⟨.hbm, 433, rfl⟩
abbrev main_v355 : Ref sig .tc := ⟨.hbm, 434, rfl⟩
abbrev main_cst_42 : Ref sig .tc := ⟨.hbm, 435, rfl⟩
abbrev main_v356 : Ref sig .tc := ⟨.hbm, 436, rfl⟩
abbrev main_v357 : Ref sig .tc := ⟨.hbm, 437, rfl⟩
abbrev main_cst_43 : Ref sig .tc := ⟨.hbm, 438, rfl⟩
abbrev main_v358 : Ref sig .tc := ⟨.hbm, 439, rfl⟩
abbrev main_v359 : Ref sig .tc := ⟨.hbm, 440, rfl⟩
abbrev main_cst_44 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_cst_45 : Ref sig .tc := ⟨.hbm, 445, rfl⟩
abbrev main_v363 : Ref sig .tc := ⟨.hbm, 446, rfl⟩
abbrev main_v364 : Ref sig .tc := ⟨.hbm, 447, rfl⟩
abbrev main_v365 : Ref sig .tc := ⟨.hbm, 448, rfl⟩
abbrev main_v366 : Ref sig .tc := ⟨.hbm, 449, rfl⟩
abbrev main_cst_46 : Ref sig .tc := ⟨.hbm, 450, rfl⟩
abbrev main_v367 : Ref sig .tc := ⟨.hbm, 451, rfl⟩
abbrev main_v368 : Ref sig .tc := ⟨.hbm, 452, rfl⟩
abbrev main_cst_47 : Ref sig .tc := ⟨.hbm, 453, rfl⟩
abbrev main_v369 : Ref sig .tc := ⟨.hbm, 454, rfl⟩
abbrev main_v370 : Ref sig .tc := ⟨.hbm, 455, rfl⟩
abbrev main_cst_48 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_cst_49 : Ref sig .tc := ⟨.hbm, 460, rfl⟩
abbrev main_v374 : Ref sig .tc := ⟨.hbm, 461, rfl⟩
abbrev main_v375 : Ref sig .tc := ⟨.hbm, 462, rfl⟩
abbrev main_v376 : Ref sig .tc := ⟨.hbm, 463, rfl⟩
abbrev main_v377 : Ref sig .tc := ⟨.hbm, 464, rfl⟩
abbrev main_cst_50 : Ref sig .tc := ⟨.hbm, 465, rfl⟩
abbrev main_v378 : Ref sig .tc := ⟨.hbm, 466, rfl⟩
abbrev main_v379 : Ref sig .tc := ⟨.hbm, 467, rfl⟩
abbrev main_cst_51 : Ref sig .tc := ⟨.hbm, 468, rfl⟩
abbrev main_v380 : Ref sig .tc := ⟨.hbm, 469, rfl⟩
abbrev main_v381 : Ref sig .tc := ⟨.hbm, 470, rfl⟩
abbrev main_cst_52 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_cst_53 : Ref sig .tc := ⟨.hbm, 475, rfl⟩
abbrev main_v385 : Ref sig .tc := ⟨.hbm, 476, rfl⟩
abbrev main_v386 : Ref sig .tc := ⟨.hbm, 477, rfl⟩
abbrev main_v387 : Ref sig .tc := ⟨.hbm, 478, rfl⟩
abbrev main_v388 : Ref sig .tc := ⟨.hbm, 479, rfl⟩
abbrev main_cst_54 : Ref sig .tc := ⟨.hbm, 480, rfl⟩
abbrev main_v389 : Ref sig .tc := ⟨.hbm, 481, rfl⟩
abbrev main_v390 : Ref sig .tc := ⟨.hbm, 482, rfl⟩
abbrev main_cst_55 : Ref sig .tc := ⟨.hbm, 483, rfl⟩
abbrev main_v391 : Ref sig .tc := ⟨.hbm, 484, rfl⟩
abbrev main_v392 : Ref sig .tc := ⟨.hbm, 485, rfl⟩
abbrev main_cst_56 : Ref sig .tc := ⟨.hbm, 486, rfl⟩
abbrev main_v393 : Ref sig .tc := ⟨.hbm, 487, rfl⟩
abbrev main_v394 : Ref sig .tc := ⟨.hbm, 488, rfl⟩
abbrev main_v395 : Ref sig .tc := ⟨.hbm, 489, rfl⟩
abbrev main_cst_57 : Ref sig .tc := ⟨.hbm, 490, rfl⟩
abbrev main_v396 : Ref sig .tc := ⟨.hbm, 491, rfl⟩
abbrev main_v397 : Ref sig .tc := ⟨.hbm, 492, rfl⟩
abbrev main_v398 : Ref sig .tc := ⟨.hbm, 493, rfl⟩
abbrev main_v399 : Ref sig .tc := ⟨.hbm, 494, rfl⟩
abbrev main_cst_58 : Ref sig .tc := ⟨.hbm, 495, rfl⟩
abbrev main_v400 : Ref sig .tc := ⟨.hbm, 496, rfl⟩
abbrev main_v401 : Ref sig .tc := ⟨.hbm, 497, rfl⟩
abbrev main_cst_59 : Ref sig .tc := ⟨.hbm, 498, rfl⟩
abbrev main_v402 : Ref sig .tc := ⟨.hbm, 499, rfl⟩
abbrev main_v403 : Ref sig .tc := ⟨.hbm, 500, rfl⟩
abbrev main_cst_60 : Ref sig .tc := ⟨.hbm, 501, rfl⟩
abbrev main_v404 : Ref sig .tc := ⟨.hbm, 502, rfl⟩
abbrev main_v405 : Ref sig .tc := ⟨.hbm, 503, rfl⟩
abbrev main_v406 : Ref sig .tc := ⟨.hbm, 504, rfl⟩
abbrev main_cst_61 : Ref sig .tc := ⟨.hbm, 505, rfl⟩
abbrev main_v407 : Ref sig .tc := ⟨.hbm, 506, rfl⟩
abbrev main_v408 : Ref sig .tc := ⟨.hbm, 507, rfl⟩
abbrev main_v409 : Ref sig .tc := ⟨.hbm, 508, rfl⟩
abbrev main_v410 : Ref sig .tc := ⟨.hbm, 509, rfl⟩
abbrev main_cst_62 : Ref sig .tc := ⟨.hbm, 510, rfl⟩
abbrev main_v411 : Ref sig .tc := ⟨.hbm, 511, rfl⟩
abbrev main_v412 : Ref sig .tc := ⟨.hbm, 512, rfl⟩
abbrev main_cst_63 : Ref sig .tc := ⟨.hbm, 513, rfl⟩
abbrev main_v413 : Ref sig .tc := ⟨.hbm, 514, rfl⟩
abbrev main_v414 : Ref sig .tc := ⟨.hbm, 515, rfl⟩
abbrev main_cst_64 : Ref sig .tc := ⟨.hbm, 516, rfl⟩
abbrev main_v415 : Ref sig .tc := ⟨.hbm, 517, rfl⟩
abbrev main_v416 : Ref sig .tc := ⟨.hbm, 518, rfl⟩
abbrev main_v417 : Ref sig .tc := ⟨.hbm, 519, rfl⟩
abbrev main_cst_65 : Ref sig .tc := ⟨.hbm, 520, rfl⟩
abbrev main_v418 : Ref sig .tc := ⟨.hbm, 521, rfl⟩
abbrev main_v419 : Ref sig .tc := ⟨.hbm, 522, rfl⟩
abbrev main_v420 : Ref sig .tc := ⟨.hbm, 523, rfl⟩
abbrev main_v421 : Ref sig .tc := ⟨.hbm, 524, rfl⟩
abbrev main_cst_66 : Ref sig .tc := ⟨.hbm, 525, rfl⟩
abbrev main_v422 : Ref sig .tc := ⟨.hbm, 526, rfl⟩
abbrev main_v423 : Ref sig .tc := ⟨.hbm, 527, rfl⟩
abbrev main_cst_67 : Ref sig .tc := ⟨.hbm, 528, rfl⟩
abbrev main_v424 : Ref sig .tc := ⟨.hbm, 529, rfl⟩
abbrev main_v425 : Ref sig .tc := ⟨.hbm, 530, rfl⟩
abbrev main_cst_68 : Ref sig .tc := ⟨.hbm, 531, rfl⟩
abbrev main_v426 : Ref sig .tc := ⟨.hbm, 532, rfl⟩
abbrev main_v427 : Ref sig .tc := ⟨.hbm, 533, rfl⟩
abbrev main_v428 : Ref sig .tc := ⟨.hbm, 534, rfl⟩
abbrev main_cst_69 : Ref sig .tc := ⟨.hbm, 535, rfl⟩
abbrev main_v429 : Ref sig .tc := ⟨.hbm, 536, rfl⟩
abbrev main_v430 : Ref sig .tc := ⟨.hbm, 537, rfl⟩
abbrev main_v431 : Ref sig .tc := ⟨.hbm, 538, rfl⟩
abbrev main_v432 : Ref sig .tc := ⟨.hbm, 539, rfl⟩
abbrev main_cst_70 : Ref sig .tc := ⟨.hbm, 540, rfl⟩
abbrev main_v433 : Ref sig .tc := ⟨.hbm, 541, rfl⟩
abbrev main_v434 : Ref sig .tc := ⟨.hbm, 542, rfl⟩
abbrev main_cst_71 : Ref sig .tc := ⟨.hbm, 543, rfl⟩
abbrev main_v435 : Ref sig .tc := ⟨.hbm, 544, rfl⟩
abbrev main_v436 : Ref sig .tc := ⟨.hbm, 545, rfl⟩
abbrev main_cst_72 : Ref sig .tc := ⟨.hbm, 546, rfl⟩
abbrev main_v437 : Ref sig .tc := ⟨.hbm, 547, rfl⟩
abbrev main_v438 : Ref sig .tc := ⟨.hbm, 548, rfl⟩
abbrev main_v439 : Ref sig .tc := ⟨.hbm, 549, rfl⟩
abbrev main_cst_73 : Ref sig .tc := ⟨.hbm, 550, rfl⟩
abbrev main_v440 : Ref sig .tc := ⟨.hbm, 551, rfl⟩
abbrev main_v441 : Ref sig .tc := ⟨.hbm, 552, rfl⟩
abbrev main_v442 : Ref sig .tc := ⟨.hbm, 553, rfl⟩
abbrev main_v443 : Ref sig .tc := ⟨.hbm, 554, rfl⟩
abbrev main_cst_74 : Ref sig .tc := ⟨.hbm, 555, rfl⟩
abbrev main_v444 : Ref sig .tc := ⟨.hbm, 556, rfl⟩
abbrev main_v445 : Ref sig .tc := ⟨.hbm, 557, rfl⟩
abbrev main_cst_75 : Ref sig .tc := ⟨.hbm, 558, rfl⟩
abbrev main_v446 : Ref sig .tc := ⟨.hbm, 559, rfl⟩
abbrev main_v447 : Ref sig .tc := ⟨.hbm, 560, rfl⟩
abbrev main_cst_76 : Ref sig .tc := ⟨.hbm, 561, rfl⟩
abbrev main_v448 : Ref sig .tc := ⟨.hbm, 562, rfl⟩
abbrev main_v449 : Ref sig .tc := ⟨.hbm, 563, rfl⟩
abbrev main_v450 : Ref sig .tc := ⟨.hbm, 564, rfl⟩
abbrev main_cst_77 : Ref sig .tc := ⟨.hbm, 565, rfl⟩
abbrev main_v451 : Ref sig .tc := ⟨.hbm, 566, rfl⟩
abbrev main_v452 : Ref sig .tc := ⟨.hbm, 567, rfl⟩
abbrev main_v453 : Ref sig .tc := ⟨.hbm, 568, rfl⟩
abbrev main_v454 : Ref sig .tc := ⟨.hbm, 569, rfl⟩
abbrev main_cst_78 : Ref sig .tc := ⟨.hbm, 570, rfl⟩
abbrev main_v455 : Ref sig .tc := ⟨.hbm, 571, rfl⟩
abbrev main_v456 : Ref sig .tc := ⟨.hbm, 572, rfl⟩
abbrev main_cst_79 : Ref sig .tc := ⟨.hbm, 573, rfl⟩
abbrev main_v457 : Ref sig .tc := ⟨.hbm, 574, rfl⟩
abbrev main_v458 : Ref sig .tc := ⟨.hbm, 575, rfl⟩
abbrev main_cst_80 : Ref sig .tc := ⟨.hbm, 576, rfl⟩
abbrev main_v459 : Ref sig .tc := ⟨.hbm, 577, rfl⟩
abbrev main_v460 : Ref sig .tc := ⟨.hbm, 578, rfl⟩
abbrev main_v461 : Ref sig .tc := ⟨.hbm, 579, rfl⟩
abbrev main_cst_81 : Ref sig .tc := ⟨.hbm, 580, rfl⟩
abbrev main_v462 : Ref sig .tc := ⟨.hbm, 581, rfl⟩
abbrev main_v463 : Ref sig .tc := ⟨.hbm, 582, rfl⟩
abbrev main_v464 : Ref sig .tc := ⟨.hbm, 583, rfl⟩
abbrev main_v465 : Ref sig .tc := ⟨.hbm, 584, rfl⟩
abbrev main_cst_82 : Ref sig .tc := ⟨.hbm, 585, rfl⟩
abbrev main_v466 : Ref sig .tc := ⟨.hbm, 586, rfl⟩
abbrev main_v467 : Ref sig .tc := ⟨.hbm, 587, rfl⟩
abbrev main_cst_83 : Ref sig .tc := ⟨.hbm, 588, rfl⟩
abbrev main_v468 : Ref sig .tc := ⟨.hbm, 589, rfl⟩
abbrev main_v469 : Ref sig .tc := ⟨.hbm, 590, rfl⟩
abbrev main_cst_84 : Ref sig .tc := ⟨.hbm, 591, rfl⟩
abbrev main_v470 : Ref sig .tc := ⟨.hbm, 592, rfl⟩
abbrev main_v471 : Ref sig .tc := ⟨.hbm, 593, rfl⟩
abbrev main_v472 : Ref sig .tc := ⟨.hbm, 594, rfl⟩
abbrev main_cst_85 : Ref sig .tc := ⟨.hbm, 595, rfl⟩
abbrev main_v473 : Ref sig .tc := ⟨.hbm, 596, rfl⟩
abbrev main_v474 : Ref sig .tc := ⟨.hbm, 597, rfl⟩
abbrev main_v475 : Ref sig .tc := ⟨.hbm, 598, rfl⟩
abbrev main_v476 : Ref sig .tc := ⟨.hbm, 599, rfl⟩
abbrev main_cst_86 : Ref sig .tc := ⟨.hbm, 600, rfl⟩
abbrev main_v477 : Ref sig .tc := ⟨.hbm, 601, rfl⟩
abbrev main_v478 : Ref sig .tc := ⟨.hbm, 602, rfl⟩
abbrev main_cst_87 : Ref sig .tc := ⟨.hbm, 603, rfl⟩
abbrev main_v479 : Ref sig .tc := ⟨.hbm, 604, rfl⟩
abbrev main_v480 : Ref sig .tc := ⟨.hbm, 605, rfl⟩
abbrev main_cst_88 : Ref sig .tc := ⟨.hbm, 606, rfl⟩
abbrev main_v481 : Ref sig .tc := ⟨.hbm, 607, rfl⟩
abbrev main_v482 : Ref sig .tc := ⟨.hbm, 608, rfl⟩
abbrev main_v483 : Ref sig .tc := ⟨.hbm, 609, rfl⟩
abbrev main_cst_89 : Ref sig .tc := ⟨.hbm, 610, rfl⟩
abbrev main_v484 : Ref sig .tc := ⟨.hbm, 611, rfl⟩
abbrev main_v485 : Ref sig .tc := ⟨.hbm, 612, rfl⟩
abbrev main_v486 : Ref sig .tc := ⟨.hbm, 613, rfl⟩
abbrev main_v487 : Ref sig .tc := ⟨.hbm, 614, rfl⟩
abbrev main_cst_90 : Ref sig .tc := ⟨.hbm, 615, rfl⟩
abbrev main_v488 : Ref sig .tc := ⟨.hbm, 616, rfl⟩
abbrev main_v489 : Ref sig .tc := ⟨.hbm, 617, rfl⟩
abbrev main_cst_91 : Ref sig .tc := ⟨.hbm, 618, rfl⟩
abbrev main_v490 : Ref sig .tc := ⟨.hbm, 619, rfl⟩
abbrev main_v491 : Ref sig .tc := ⟨.hbm, 620, rfl⟩
abbrev main_cst_92 : Ref sig .tc := ⟨.hbm, 621, rfl⟩
abbrev main_v492 : Ref sig .tc := ⟨.hbm, 622, rfl⟩
abbrev main_v493 : Ref sig .tc := ⟨.hbm, 623, rfl⟩
abbrev main_v494 : Ref sig .tc := ⟨.hbm, 624, rfl⟩
abbrev main_cst_93 : Ref sig .tc := ⟨.hbm, 625, rfl⟩
abbrev main_v495 : Ref sig .tc := ⟨.hbm, 626, rfl⟩
abbrev main_v496 : Ref sig .tc := ⟨.hbm, 627, rfl⟩
abbrev main_v497 : Ref sig .tc := ⟨.hbm, 628, rfl⟩
abbrev main_v498 : Ref sig .tc := ⟨.hbm, 629, rfl⟩
abbrev main_cst_94 : Ref sig .tc := ⟨.hbm, 630, rfl⟩
abbrev main_v499 : Ref sig .tc := ⟨.hbm, 631, rfl⟩
abbrev main_v500 : Ref sig .tc := ⟨.hbm, 632, rfl⟩
abbrev main_cst_95 : Ref sig .tc := ⟨.hbm, 633, rfl⟩
abbrev main_v501 : Ref sig .tc := ⟨.hbm, 634, rfl⟩
abbrev main_v502 : Ref sig .tc := ⟨.hbm, 635, rfl⟩
abbrev main_cst_96 : Ref sig .tc := ⟨.hbm, 636, rfl⟩
abbrev main_v503 : Ref sig .tc := ⟨.hbm, 637, rfl⟩
abbrev main_v504 : Ref sig .tc := ⟨.hbm, 638, rfl⟩
abbrev main_v505 : Ref sig .tc := ⟨.hbm, 639, rfl⟩
abbrev main_cst_97 : Ref sig .tc := ⟨.hbm, 640, rfl⟩
abbrev main_v506 : Ref sig .tc := ⟨.hbm, 641, rfl⟩
abbrev main_v507 : Ref sig .tc := ⟨.hbm, 642, rfl⟩
abbrev main_v508 : Ref sig .tc := ⟨.hbm, 643, rfl⟩
abbrev main_v509 : Ref sig .tc := ⟨.hbm, 644, rfl⟩
abbrev main_cst_98 : Ref sig .tc := ⟨.hbm, 645, rfl⟩
abbrev main_v510 : Ref sig .tc := ⟨.hbm, 646, rfl⟩
abbrev main_v511 : Ref sig .tc := ⟨.hbm, 647, rfl⟩
abbrev main_cst_99 : Ref sig .tc := ⟨.hbm, 648, rfl⟩
abbrev main_v512 : Ref sig .tc := ⟨.hbm, 649, rfl⟩
abbrev main_v513 : Ref sig .tc := ⟨.hbm, 650, rfl⟩
abbrev main_cst_100 : Ref sig .tc := ⟨.hbm, 651, rfl⟩
abbrev main_v514 : Ref sig .tc := ⟨.hbm, 652, rfl⟩
abbrev main_v515 : Ref sig .tc := ⟨.hbm, 653, rfl⟩
abbrev main_v516 : Ref sig .tc := ⟨.hbm, 654, rfl⟩
abbrev main_cst_101 : Ref sig .tc := ⟨.hbm, 655, rfl⟩
abbrev main_v517 : Ref sig .tc := ⟨.hbm, 656, rfl⟩
abbrev main_v518 : Ref sig .tc := ⟨.hbm, 657, rfl⟩
abbrev main_v519 : Ref sig .tc := ⟨.hbm, 658, rfl⟩
abbrev main_v520 : Ref sig .tc := ⟨.hbm, 659, rfl⟩
abbrev main_cst_102 : Ref sig .tc := ⟨.hbm, 660, rfl⟩
abbrev main_v521 : Ref sig .tc := ⟨.hbm, 661, rfl⟩
abbrev main_v522 : Ref sig .tc := ⟨.hbm, 662, rfl⟩
abbrev main_cst_103 : Ref sig .tc := ⟨.hbm, 663, rfl⟩
abbrev main_v523 : Ref sig .tc := ⟨.hbm, 664, rfl⟩
abbrev main_v524 : Ref sig .tc := ⟨.hbm, 665, rfl⟩
abbrev main_cst_104 : Ref sig .tc := ⟨.hbm, 666, rfl⟩
abbrev main_v525 : Ref sig .tc := ⟨.hbm, 667, rfl⟩
abbrev main_v526 : Ref sig .tc := ⟨.hbm, 668, rfl⟩
abbrev main_v527 : Ref sig .tc := ⟨.hbm, 669, rfl⟩
abbrev main_cst_105 : Ref sig .tc := ⟨.hbm, 670, rfl⟩
abbrev main_v528 : Ref sig .tc := ⟨.hbm, 671, rfl⟩
abbrev main_v529 : Ref sig .tc := ⟨.hbm, 672, rfl⟩
abbrev main_v530 : Ref sig .tc := ⟨.hbm, 673, rfl⟩
abbrev main_v531 : Ref sig .tc := ⟨.hbm, 674, rfl⟩
abbrev main_cst_106 : Ref sig .tc := ⟨.hbm, 675, rfl⟩
abbrev main_v532 : Ref sig .tc := ⟨.hbm, 676, rfl⟩
abbrev main_v533 : Ref sig .tc := ⟨.hbm, 677, rfl⟩
abbrev main_cst_107 : Ref sig .tc := ⟨.hbm, 678, rfl⟩
abbrev main_v534 : Ref sig .tc := ⟨.hbm, 679, rfl⟩
abbrev main_v535 : Ref sig .tc := ⟨.hbm, 680, rfl⟩
abbrev main_cst_108 : Ref sig .tc := ⟨.hbm, 681, rfl⟩
abbrev main_v536 : Ref sig .tc := ⟨.hbm, 682, rfl⟩
abbrev main_v537 : Ref sig .tc := ⟨.hbm, 683, rfl⟩
abbrev main_v538 : Ref sig .tc := ⟨.hbm, 684, rfl⟩
abbrev main_cst_109 : Ref sig .tc := ⟨.hbm, 685, rfl⟩
abbrev main_v539 : Ref sig .tc := ⟨.hbm, 686, rfl⟩
abbrev main_v540 : Ref sig .tc := ⟨.hbm, 687, rfl⟩
abbrev main_v541 : Ref sig .tc := ⟨.hbm, 688, rfl⟩
abbrev main_v542 : Ref sig .tc := ⟨.hbm, 689, rfl⟩
abbrev main_cst_110 : Ref sig .tc := ⟨.hbm, 690, rfl⟩
abbrev main_v543 : Ref sig .tc := ⟨.hbm, 691, rfl⟩
abbrev main_v544 : Ref sig .tc := ⟨.hbm, 692, rfl⟩
abbrev main_cst_111 : Ref sig .tc := ⟨.hbm, 693, rfl⟩
abbrev main_v545 : Ref sig .tc := ⟨.hbm, 694, rfl⟩
abbrev main_v546 : Ref sig .tc := ⟨.hbm, 695, rfl⟩
abbrev main_cst_112 : Ref sig .tc := ⟨.hbm, 696, rfl⟩
abbrev main_v547 : Ref sig .tc := ⟨.hbm, 697, rfl⟩
abbrev main_v548 : Ref sig .tc := ⟨.hbm, 698, rfl⟩
abbrev main_v549 : Ref sig .tc := ⟨.hbm, 699, rfl⟩
abbrev main_cst_113 : Ref sig .tc := ⟨.hbm, 700, rfl⟩
abbrev main_v550 : Ref sig .tc := ⟨.hbm, 701, rfl⟩
abbrev main_v551 : Ref sig .tc := ⟨.hbm, 702, rfl⟩
abbrev main_v552 : Ref sig .tc := ⟨.hbm, 703, rfl⟩
abbrev main_v553 : Ref sig .tc := ⟨.hbm, 704, rfl⟩
abbrev main_cst_114 : Ref sig .tc := ⟨.hbm, 705, rfl⟩
abbrev main_v554 : Ref sig .tc := ⟨.hbm, 706, rfl⟩
abbrev main_v555 : Ref sig .tc := ⟨.hbm, 707, rfl⟩
abbrev main_cst_115 : Ref sig .tc := ⟨.hbm, 708, rfl⟩
abbrev main_v556 : Ref sig .tc := ⟨.hbm, 709, rfl⟩
abbrev main_v557 : Ref sig .tc := ⟨.hbm, 710, rfl⟩
abbrev main_cst_116 : Ref sig .tc := ⟨.hbm, 711, rfl⟩
abbrev main_v558 : Ref sig .tc := ⟨.hbm, 712, rfl⟩
abbrev main_v559 : Ref sig .tc := ⟨.hbm, 713, rfl⟩
abbrev main_v560 : Ref sig .tc := ⟨.hbm, 714, rfl⟩
abbrev main_cst_117 : Ref sig .tc := ⟨.hbm, 715, rfl⟩
abbrev main_v561 : Ref sig .tc := ⟨.hbm, 716, rfl⟩
abbrev main_v562 : Ref sig .tc := ⟨.hbm, 717, rfl⟩
abbrev main_v563 : Ref sig .tc := ⟨.hbm, 718, rfl⟩
abbrev main_v564 : Ref sig .tc := ⟨.hbm, 719, rfl⟩
abbrev main_cst_118 : Ref sig .tc := ⟨.hbm, 720, rfl⟩
abbrev main_v565 : Ref sig .tc := ⟨.hbm, 721, rfl⟩
abbrev main_v566 : Ref sig .tc := ⟨.hbm, 722, rfl⟩
abbrev main_cst_119 : Ref sig .tc := ⟨.hbm, 723, rfl⟩
abbrev main_v567 : Ref sig .tc := ⟨.hbm, 724, rfl⟩
abbrev main_v568 : Ref sig .tc := ⟨.hbm, 725, rfl⟩
abbrev main_cst_120 : Ref sig .tc := ⟨.hbm, 726, rfl⟩
abbrev main_v569 : Ref sig .tc := ⟨.hbm, 727, rfl⟩
abbrev main_v570 : Ref sig .tc := ⟨.hbm, 728, rfl⟩
abbrev main_v571 : Ref sig .tc := ⟨.hbm, 729, rfl⟩
abbrev main_cst_121 : Ref sig .tc := ⟨.hbm, 730, rfl⟩
abbrev main_v572 : Ref sig .tc := ⟨.hbm, 731, rfl⟩
abbrev main_v573 : Ref sig .tc := ⟨.hbm, 732, rfl⟩
abbrev main_v574 : Ref sig .tc := ⟨.hbm, 733, rfl⟩
abbrev main_v575 : Ref sig .tc := ⟨.hbm, 734, rfl⟩
abbrev main_cst_122 : Ref sig .tc := ⟨.hbm, 735, rfl⟩
abbrev main_v576 : Ref sig .tc := ⟨.hbm, 736, rfl⟩
abbrev main_v577 : Ref sig .tc := ⟨.hbm, 737, rfl⟩
abbrev main_cst_123 : Ref sig .tc := ⟨.hbm, 738, rfl⟩
abbrev main_v578 : Ref sig .tc := ⟨.hbm, 739, rfl⟩
abbrev main_v579 : Ref sig .tc := ⟨.hbm, 740, rfl⟩
abbrev main_cst_124 : Ref sig .tc := ⟨.hbm, 741, rfl⟩
abbrev main_v580 : Ref sig .tc := ⟨.hbm, 742, rfl⟩
abbrev main_v581 : Ref sig .tc := ⟨.hbm, 743, rfl⟩
abbrev main_v582 : Ref sig .tc := ⟨.hbm, 744, rfl⟩
abbrev main_cst_125 : Ref sig .tc := ⟨.hbm, 745, rfl⟩
abbrev main_v583 : Ref sig .tc := ⟨.hbm, 746, rfl⟩
abbrev main_v584 : Ref sig .tc := ⟨.hbm, 747, rfl⟩
abbrev main_v585 : Ref sig .tc := ⟨.hbm, 748, rfl⟩
abbrev main_v586 : Ref sig .tc := ⟨.hbm, 749, rfl⟩
abbrev main_cst_126 : Ref sig .tc := ⟨.hbm, 750, rfl⟩
abbrev main_v587 : Ref sig .tc := ⟨.hbm, 751, rfl⟩
abbrev main_v588 : Ref sig .tc := ⟨.hbm, 752, rfl⟩
abbrev main_cst_127 : Ref sig .tc := ⟨.hbm, 753, rfl⟩
abbrev main_v589 : Ref sig .tc := ⟨.hbm, 754, rfl⟩
abbrev main_v590 : Ref sig .tc := ⟨.hbm, 755, rfl⟩
abbrev main_cst_128 : Ref sig .tc := ⟨.hbm, 756, rfl⟩
abbrev main_v591 : Ref sig .tc := ⟨.hbm, 757, rfl⟩
abbrev main_v592 : Ref sig .tc := ⟨.hbm, 758, rfl⟩
abbrev main_v593 : Ref sig .tc := ⟨.hbm, 759, rfl⟩
abbrev main_cst_129 : Ref sig .tc := ⟨.hbm, 760, rfl⟩
abbrev main_v594 : Ref sig .tc := ⟨.hbm, 761, rfl⟩
abbrev main_v595 : Ref sig .tc := ⟨.hbm, 762, rfl⟩
abbrev main_v596 : Ref sig .tc := ⟨.hbm, 763, rfl⟩
abbrev main_v597 : Ref sig .tc := ⟨.hbm, 764, rfl⟩
abbrev main_cst_130 : Ref sig .tc := ⟨.hbm, 765, rfl⟩
abbrev main_v598 : Ref sig .tc := ⟨.hbm, 766, rfl⟩
abbrev main_v599 : Ref sig .tc := ⟨.hbm, 767, rfl⟩
abbrev main_cst_131 : Ref sig .tc := ⟨.hbm, 768, rfl⟩
abbrev main_v600 : Ref sig .tc := ⟨.hbm, 769, rfl⟩
abbrev main_v601 : Ref sig .tc := ⟨.hbm, 770, rfl⟩
abbrev main_cst_132 : Ref sig .tc := ⟨.hbm, 771, rfl⟩
abbrev main_v602 : Ref sig .tc := ⟨.hbm, 772, rfl⟩
abbrev main_v603 : Ref sig .tc := ⟨.hbm, 773, rfl⟩
abbrev main_v604 : Ref sig .tc := ⟨.hbm, 774, rfl⟩
abbrev main_cst_133 : Ref sig .tc := ⟨.hbm, 775, rfl⟩
abbrev main_v605 : Ref sig .tc := ⟨.hbm, 776, rfl⟩
abbrev main_v606 : Ref sig .tc := ⟨.hbm, 777, rfl⟩
abbrev main_v607 : Ref sig .tc := ⟨.hbm, 778, rfl⟩
abbrev main_v608 : Ref sig .tc := ⟨.hbm, 779, rfl⟩
abbrev main_cst_134 : Ref sig .tc := ⟨.hbm, 780, rfl⟩
abbrev main_v609 : Ref sig .tc := ⟨.hbm, 781, rfl⟩
abbrev main_v610 : Ref sig .tc := ⟨.hbm, 782, rfl⟩
abbrev main_cst_135 : Ref sig .tc := ⟨.hbm, 783, rfl⟩
abbrev main_v611 : Ref sig .tc := ⟨.hbm, 784, rfl⟩
abbrev main_v612 : Ref sig .tc := ⟨.hbm, 785, rfl⟩
abbrev main_cst_136 : Ref sig .tc := ⟨.hbm, 786, rfl⟩
abbrev main_v613 : Ref sig .tc := ⟨.hbm, 787, rfl⟩
abbrev main_v614 : Ref sig .tc := ⟨.hbm, 788, rfl⟩
abbrev main_v615 : Ref sig .tc := ⟨.hbm, 789, rfl⟩
abbrev main_cst_137 : Ref sig .tc := ⟨.hbm, 790, rfl⟩
abbrev main_v616 : Ref sig .tc := ⟨.hbm, 791, rfl⟩
abbrev main_v617 : Ref sig .tc := ⟨.hbm, 792, rfl⟩
abbrev main_v618 : Ref sig .tc := ⟨.hbm, 793, rfl⟩
abbrev main_v619 : Ref sig .tc := ⟨.hbm, 794, rfl⟩
abbrev main_cst_138 : Ref sig .tc := ⟨.hbm, 795, rfl⟩
abbrev main_v620 : Ref sig .tc := ⟨.hbm, 796, rfl⟩
abbrev main_v621 : Ref sig .tc := ⟨.hbm, 797, rfl⟩
abbrev main_cst_139 : Ref sig .tc := ⟨.hbm, 798, rfl⟩
abbrev main_v622 : Ref sig .tc := ⟨.hbm, 799, rfl⟩
abbrev main_v623 : Ref sig .tc := ⟨.hbm, 800, rfl⟩
abbrev main_cst_140 : Ref sig .tc := ⟨.hbm, 801, rfl⟩
abbrev main_v624 : Ref sig .tc := ⟨.hbm, 802, rfl⟩
abbrev main_v625 : Ref sig .tc := ⟨.hbm, 803, rfl⟩
abbrev main_v626 : Ref sig .tc := ⟨.hbm, 804, rfl⟩
abbrev main_cst_141 : Ref sig .tc := ⟨.hbm, 805, rfl⟩
abbrev main_v627 : Ref sig .tc := ⟨.hbm, 806, rfl⟩
abbrev main_v628 : Ref sig .tc := ⟨.hbm, 807, rfl⟩
abbrev main_v629 : Ref sig .tc := ⟨.hbm, 808, rfl⟩
abbrev main_v630 : Ref sig .tc := ⟨.hbm, 809, rfl⟩
abbrev main_cst_142 : Ref sig .tc := ⟨.hbm, 810, rfl⟩
abbrev main_v631 : Ref sig .tc := ⟨.hbm, 811, rfl⟩
abbrev main_v632 : Ref sig .tc := ⟨.hbm, 812, rfl⟩
abbrev main_cst_143 : Ref sig .tc := ⟨.hbm, 813, rfl⟩
abbrev main_v633 : Ref sig .tc := ⟨.hbm, 814, rfl⟩
abbrev main_v634 : Ref sig .tc := ⟨.hbm, 815, rfl⟩
abbrev main_cst_144 : Ref sig .tc := ⟨.hbm, 816, rfl⟩
abbrev main_v635 : Ref sig .tc := ⟨.hbm, 817, rfl⟩
abbrev main_v636 : Ref sig .tc := ⟨.hbm, 818, rfl⟩
abbrev main_v637 : Ref sig .tc := ⟨.hbm, 819, rfl⟩
abbrev main_cst_145 : Ref sig .tc := ⟨.hbm, 820, rfl⟩
abbrev main_v638 : Ref sig .tc := ⟨.hbm, 821, rfl⟩
abbrev main_v639 : Ref sig .tc := ⟨.hbm, 822, rfl⟩
abbrev main_v640 : Ref sig .tc := ⟨.hbm, 823, rfl⟩
abbrev main_v641 : Ref sig .tc := ⟨.hbm, 824, rfl⟩
abbrev main_cst_146 : Ref sig .tc := ⟨.hbm, 825, rfl⟩
abbrev main_v642 : Ref sig .tc := ⟨.hbm, 826, rfl⟩
abbrev main_v643 : Ref sig .tc := ⟨.hbm, 827, rfl⟩
abbrev main_cst_147 : Ref sig .tc := ⟨.hbm, 828, rfl⟩
abbrev main_v644 : Ref sig .tc := ⟨.hbm, 829, rfl⟩
abbrev main_v645 : Ref sig .tc := ⟨.hbm, 830, rfl⟩
abbrev main_cst_148 : Ref sig .tc := ⟨.hbm, 831, rfl⟩
abbrev main_v646 : Ref sig .tc := ⟨.hbm, 832, rfl⟩
abbrev main_v647 : Ref sig .tc := ⟨.hbm, 833, rfl⟩
abbrev main_v648 : Ref sig .tc := ⟨.hbm, 834, rfl⟩
abbrev main_v649 : Ref sig .tc := ⟨.hbm, 835, rfl⟩
abbrev main_v650 : Ref sig .tc := ⟨.hbm, 836, rfl⟩
abbrev main_v651 : Ref sig .tc := ⟨.hbm, 837, rfl⟩
abbrev main_v652 : Ref sig .tc := ⟨.hbm, 838, rfl⟩
abbrev main_v653 : Ref sig .tc := ⟨.hbm, 839, rfl⟩
abbrev main_v654 : Ref sig .tc := ⟨.hbm, 840, rfl⟩
abbrev main_c : Ref sig .tc := ⟨.hbm, 841, rfl⟩
abbrev main_call4_v0 : Ref sig .tc := ⟨.hbm, 842, rfl⟩
abbrev main_v655 : Ref sig .tc := ⟨.hbm, 843, rfl⟩
abbrev main_v656 : Ref sig .tc := ⟨.hbm, 844, rfl⟩
abbrev main_v657 : Ref sig .tc := ⟨.hbm, 845, rfl⟩
abbrev main_v658 : Ref sig .tc := ⟨.hbm, 846, rfl⟩
abbrev main_v659 : Ref sig .tc := ⟨.hbm, 847, rfl⟩
abbrev main_c_149 : Ref sig .tc := ⟨.hbm, 848, rfl⟩
abbrev main_call5_v0 : Ref sig .tc := ⟨.hbm, 849, rfl⟩
abbrev main_v660 : Ref sig .tc := ⟨.hbm, 850, rfl⟩

abbrev nD : Nat := 1
abbrev τ : Topo := Topo.v7x

variable {F : FTy → Type} [FloatOps F]
-- ==== DeltaBwd.lean ====
abbrev S2x4096x1024 : Shape := ⟨3, ![2, 4096, 1024]⟩
abbrev S2x4096x3072 : Shape := ⟨3, ![2, 4096, 3072]⟩
abbrev S2x8x64x128x128 : Shape := ⟨5, ![2, 8, 64, 128, 128]⟩
abbrev S2x64x64x512 : Shape := ⟨4, ![2, 64, 64, 512]⟩
abbrev S2x4096x2048 : Shape := ⟨3, ![2, 4096, 2048]⟩
abbrev S2x4096x10256 : Shape := ⟨3, ![2, 4096, 10256]⟩
abbrev S4x3072 : Shape := ⟨2, ![4, 3072]⟩
abbrev S8 : Shape := ⟨1, ![8]⟩
abbrev S128 : Shape := ⟨1, ![128]⟩
abbrev S_ : Shape := ⟨0, ![]⟩
abbrev S2x4096x112 : Shape := ⟨3, ![2, 4096, 112]⟩
abbrev S2x4096x4096 : Shape := ⟨3, ![2, 4096, 4096]⟩
abbrev S2x4096x1536 : Shape := ⟨3, ![2, 4096, 1536]⟩
abbrev S2x4096x4608 : Shape := ⟨3, ![2, 4096, 4608]⟩
abbrev S2x4096x16 : Shape := ⟨3, ![2, 4096, 16]⟩
abbrev S2x4096x10368 : Shape := ⟨3, ![2, 4096, 10368]⟩
abbrev S1x8 : Shape := ⟨2, ![1, 8]⟩
abbrev S1x128 : Shape := ⟨2, ![1, 128]⟩
abbrev S2x4096x128 : Shape := ⟨3, ![2, 4096, 128]⟩
abbrev S8x3072 : Shape := ⟨2, ![8, 3072]⟩
abbrev S8x128 : Shape := ⟨2, ![8, 128]⟩
abbrev S1x64x1024 : Shape := ⟨3, ![1, 64, 1024]⟩
abbrev S1x64x3072 : Shape := ⟨3, ![1, 64, 3072]⟩
abbrev S1x8x1x128x128 : Shape := ⟨5, ![1, 8, 1, 128, 128]⟩
abbrev S1x1x64x512 : Shape := ⟨4, ![1, 1, 64, 512]⟩
abbrev S1x64x2048 : Shape := ⟨3, ![1, 64, 2048]⟩
abbrev S1x64x4096 : Shape := ⟨3, ![1, 64, 4096]⟩
abbrev S1x64x128 : Shape := ⟨3, ![1, 64, 128]⟩
abbrev S8x128x128 : Shape := ⟨3, ![8, 128, 128]⟩
abbrev S64x128 : Shape := ⟨2, ![64, 128]⟩
abbrev S64x1 : Shape := ⟨2, ![64, 1]⟩
abbrev S64 : Shape := ⟨1, ![64]⟩
abbrev S1x1x64x64 : Shape := ⟨4, ![1, 1, 64, 64]⟩
abbrev S64x64 : Shape := ⟨2, ![64, 64]⟩
abbrev S1x1x1x128x128 : Shape := ⟨5, ![1, 1, 1, 128, 128]⟩
abbrev S128x128 : Shape := ⟨2, ![128, 128]⟩
abbrev S1x128x128 : Shape := ⟨3, ![1, 128, 128]⟩
abbrev S1x64 : Shape := ⟨2, ![1, 64]⟩
abbrev S1 : Shape := ⟨1, ![1]⟩
abbrev S1x1 : Shape := ⟨2, ![1, 1]⟩
abbrev S128x64 : Shape := ⟨2, ![128, 64]⟩
abbrev S128x1 : Shape := ⟨2, ![128, 1]⟩
abbrev S4x128 : Shape := ⟨2, ![4, 128]⟩
abbrev S72x128 : Shape := ⟨2, ![72, 128]⟩

abbrev nBuf : Space → Nat
  | .hbm => 32
  | .vmem => 30
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x3072, .f32⟩
  | .hbm, ⟨3, _⟩ => ⟨S2x8x64x128x128, .f32⟩
  | .hbm, ⟨4, _⟩ => ⟨S2x64x64x512, .bf16⟩
  | .hbm, ⟨5, _⟩ => ⟨S2x4096x2048, .bf16⟩
  | .hbm, ⟨6, _⟩ => ⟨S2x4096x1024, .bf16⟩
  | .hbm, ⟨7, _⟩ => ⟨S2x4096x10256, .f32⟩
  | .hbm, ⟨8, _⟩ => ⟨S4x3072, .f32⟩
  | .hbm, ⟨9, _⟩ => ⟨S8, .f32⟩
  | .hbm, ⟨10, _⟩ => ⟨S8, .f32⟩
  | .hbm, ⟨11, _⟩ => ⟨S128, .f32⟩
  | .hbm, ⟨12, _⟩ => ⟨S_, .f32⟩
  | .hbm, ⟨13, _⟩ => ⟨S2x4096x112, .f32⟩
  | .hbm, ⟨14, _⟩ => ⟨S2x4096x4096, .f32⟩
  | .hbm, ⟨15, _⟩ => ⟨S2x4096x1536, .f32⟩
  | .hbm, ⟨16, _⟩ => ⟨S2x4096x4608, .f32⟩
  | .hbm, ⟨17, _⟩ => ⟨S2x4096x16, .f32⟩
  | .hbm, ⟨18, _⟩ => ⟨S2x4096x10368, .f32⟩
  | .hbm, ⟨19, _⟩ => ⟨S1x8, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S1x8, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S2x4096x4096, .bf16⟩
  | .hbm, ⟨29, _⟩ => ⟨S2x4096x128, .bf16⟩
  | .hbm, ⟨30, _⟩ => ⟨S8x3072, .f32⟩
  | .hbm, ⟨31, _⟩ => ⟨S8x128, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x3072, .f32⟩
  | .local _ .vmem, ⟨5, _⟩ => ⟨S1x64x3072, .f32⟩
  | .local _ .vmem, ⟨6, _⟩ => ⟨S1x8x1x128x128, .f32⟩
  | .local _ .vmem, ⟨7, _⟩ => ⟨S1x8x1x128x128, .f32⟩
  | .local _ .vmem, ⟨8, _⟩ => ⟨S1x1x64x512, .bf16⟩
  | .local _ .vmem, ⟨9, _⟩ => ⟨S1x1x64x512, .bf16⟩
  | .local _ .vmem, ⟨10, _⟩ => ⟨S1x64x2048, .bf16⟩
  | .local _ .vmem, ⟨11, _⟩ => ⟨S1x64x2048, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x64x4096, .f32⟩
  | .local _ .vmem, ⟨15, _⟩ => ⟨S1x64x4096, .f32⟩
  | .local _ .vmem, ⟨16, _⟩ => ⟨S1x64x128, .f32⟩
  | .local _ .vmem, ⟨17, _⟩ => ⟨S1x64x128, .f32⟩
  | .local _ .vmem, ⟨18, _⟩ => ⟨S4x3072, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x64x4096, .bf16⟩
  | .local _ .vmem, ⟨23, _⟩ => ⟨S1x64x4096, .bf16⟩
  | .local _ .vmem, ⟨24, _⟩ => ⟨S1x64x128, .bf16⟩
  | .local _ .vmem, ⟨25, _⟩ => ⟨S1x64x128, .bf16⟩
  | .local _ .vmem, ⟨26, _⟩ => ⟨S8x3072, .f32⟩
  | .local _ .vmem, ⟨27, _⟩ => ⟨S8x128, .f32⟩
  | .local _ .vmem, ⟨28, _⟩ => ⟨S8x128x128, .f32⟩
  | .local _ .vmem, ⟨29, _⟩ => ⟨S8x3072, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_v11_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_3 (i : grid0.Coords) : Fin 5 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c80_i32 : BitVec 32 := 80#32
  let c0_i32 : BitVec 32 := 0#32
  ![arg0.toNat, v0.toNat, c80_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x64x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S8x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== NormFwd.lean ====
abbrev S2x4096x1024 : Shape := ⟨3, ![2, 4096, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x4096x1024, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x1024, .f32⟩
  | .hbm, ⟨14, _⟩ => ⟨S2x4096x1024, .f32⟩
  | .hbm, ⟨15, _⟩ => ⟨S1x1x1024, .f32⟩
  | .hbm, ⟨16, _⟩ => ⟨S2x4096x1024, .f32⟩
  | .hbm, ⟨17, _⟩ => ⟨S2x4096x1024, .f32⟩
  | .hbm, ⟨18, _⟩ => ⟨S8192x1024, .f32⟩
  | .hbm, ⟨19, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MergeFwd.lean ====
abbrev S2x4096x512 : Shape := ⟨3, ![2, 4096, 512]⟩
abbrev S2x4096x1024 : Shape := ⟨3, ![2, 4096, 1024]⟩
abbrev S2x4096x10256 : Shape := ⟨3, ![2, 4096, 10256]⟩
abbrev S512x1024 : Shape := ⟨2, ![512, 1024]⟩
abbrev S1024x1024 : Shape := ⟨2, ![1024, 1024]⟩
abbrev S_ : Shape := ⟨0, ![]⟩
abbrev S2x4096x112 : Shape := ⟨3, ![2, 4096, 112]⟩
abbrev S2x4096x4096 : Shape := ⟨3, ![2, 4096, 4096]⟩
abbrev S2x4096x1536 : Shape := ⟨3, ![2, 4096, 1536]⟩
abbrev S2x4096x4608 : Shape := ⟨3, ![2, 4096, 4608]⟩
abbrev S2x4096x16 : Shape := ⟨3, ![2, 4096, 16]⟩
abbrev S2x4096x10368 : Shape := ⟨3, ![2, 4096, 10368]⟩
abbrev S1x512x512 : Shape := ⟨3, ![1, 512, 512]⟩
abbrev S1x512x1024 : Shape := ⟨3, ![1, 512, 1024]⟩
abbrev S512x512 : Shape := ⟨2, ![512, 512]⟩

abbrev nBuf : Space → Nat
  | .hbm => 24
  | .vmem => 20
  | .smem => 0
  | _ => 0

abbrev bufTy : (tb : Table) → Fin (tcTables nBuf tb) → BufTy
  | .hbm, ⟨0, _⟩ => ⟨S2x4096x512, .f32⟩
  | .hbm, ⟨1, _⟩ => ⟨S2x4096x1024, .f32⟩
  | .hbm, ⟨2, _⟩ => ⟨S2x4096x512, .f32⟩
  | .hbm, ⟨3, _⟩ => ⟨S2x4096x10256, .f32⟩
  | .hbm, ⟨4, _⟩ => ⟨S2x4096x1024, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S2x4096x512, .bf16⟩
  | .hbm, ⟨10, _⟩ => ⟨S2x4096x1024, .bf16⟩
  | .hbm, ⟨11, _⟩ => ⟨S2x4096x512, .bf16⟩
  | .hbm, ⟨12, _⟩ => ⟨S_, .f32⟩
  | .hbm, ⟨13, _⟩ => ⟨S2x4096x112, .f32⟩
  | .hbm, ⟨14, _⟩ => ⟨S2x4096x4096, .f32⟩
  | .hbm, ⟨15, _⟩ => ⟨S2x4096x1536, .f32⟩
  | .hbm, ⟨16, _⟩ => ⟨S2x4096x4608, .f32⟩
  | .hbm, ⟨17, _⟩ => ⟨S2x4096x16, .f32⟩
  | .hbm, ⟨18, _⟩ => ⟨S2x4096x10368, .f32⟩
  | .hbm, ⟨19, _⟩ => ⟨S512x1024, .bf16⟩
  | .hbm, ⟨20, _⟩ => ⟨S1024x1024, .bf16⟩
  | .hbm, ⟨21, _⟩ => ⟨S512x1024, .bf16⟩
  | .hbm, ⟨22, _⟩ => ⟨S1024x1024, .bf16⟩
  | .hbm, ⟨23, _⟩ => ⟨S2x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S1024x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeFwdRefIdeal.lean ====
abbrev S2x4096x512 : Shape := ⟨3, ![2, 4096, 512]⟩
abbrev S2x4096x1024 : Shape := ⟨3, ![2, 4096, 1024]⟩
abbrev S2x4096x10256 : Shape := ⟨3, ![2, 4096, 10256]⟩
abbrev S512x1024 : Shape := ⟨2, ![512, 1024]⟩
abbrev S1024x1024 : Shape := ⟨2, ![1024, 1024]⟩
abbrev S2x4096x3072 : Shape := ⟨3, ![2, 4096, 3072]⟩
abbrev S_ : Shape := ⟨0, ![]⟩
abbrev S2x4096x3x1024 : Shape := ⟨4, ![2, 4096, 3, 1024]⟩
abbrev S2x4096x1x1024 : Shape := ⟨4, ![2, 4096, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x1024, .f32⟩
  | .hbm, ⟨2, _⟩ => ⟨S2x4096x512, .f32⟩
  | .hbm, ⟨3, _⟩ => ⟨S2x4096x10256, .f32⟩
  | .hbm, ⟨4, _⟩ => ⟨S2x4096x1024, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S2x4096x3072, .f32⟩
  | .hbm, ⟨13, _⟩ => ⟨S2x4096x3072, .f32⟩
  | .hbm, ⟨14, _⟩ => ⟨S2x4096x3072, .f32⟩
  | .hbm, ⟨15, _⟩ => ⟨S_, .f32⟩
  | .hbm, ⟨16, _⟩ => ⟨S2x4096x3072, .f32⟩
  | .hbm, ⟨17, _⟩ => ⟨S2x4096x3072, .f32⟩
  | .hbm, ⟨18, _⟩ => ⟨S_, .f32⟩
  | .hbm, ⟨19, _⟩ => ⟨S2x4096x3072, .f32⟩
  | .hbm, ⟨20, _⟩ => ⟨S2x4096x3072, .f32⟩
  | .hbm, ⟨21, _⟩ => ⟨S2x4096x3x1024, .f32⟩
  | .hbm, ⟨22, _⟩ => ⟨S2x4096x1x1024, .f32⟩
  | .hbm, ⟨23, _⟩ => ⟨S2x4096x1024, .f32⟩
  | .hbm, ⟨24, _⟩ => ⟨S2x4096x1024, .f32⟩
  | .hbm, ⟨25, _⟩ => ⟨S2x4096x1x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== GmlpFwd.lean ====
abbrev S2x4096x10256 : Shape := ⟨3, ![2, 4096, 10256]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S2x4096x112 : Shape := ⟨3, ![2, 4096, 112]⟩
abbrev S2x4096x4096 : Shape := ⟨3, ![2, 4096, 4096]⟩
abbrev S2x4096x1536 : Shape := ⟨3, ![2, 4096, 1536]⟩
abbrev S2x4096x4608 : Shape := ⟨3, ![2, 4096, 4608]⟩
abbrev S2x4096x16 : Shape := ⟨3, ![2, 4096, 16]⟩
abbrev S2x4096x10368 : Shape := ⟨3, ![2, 4096, 10368]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S2x4096x512 : Shape := ⟨3, ![2, 4096, 512]⟩
abbrev S1x512x512 : Shape := ⟨3, ![1, 512, 512]⟩
abbrev S512x512 : Shape := ⟨2, ![512, 512]⟩
abbrev S128x128 : Shape := ⟨2, ![128, 128]⟩
abbrev S1x128x128 : Shape := ⟨3, ![1, 128, 128]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S2x4096x10256, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S_, .f32⟩
  | .hbm, ⟨6, _⟩ => ⟨S2x4096x112, .f32⟩
  | .hbm, ⟨7, _⟩ => ⟨S2x4096x4096, .f32⟩
  | .hbm, ⟨8, _⟩ => ⟨S2x4096x1536, .f32⟩
  | .hbm, ⟨9, _⟩ => ⟨S2x4096x4608, .f32⟩
  | .hbm, ⟨10, _⟩ => ⟨S2x4096x16, .f32⟩
  | .hbm, ⟨11, _⟩ => ⟨S2x4096x10368, .f32⟩
  | .hbm, ⟨12, _⟩ => ⟨S1x512, .f32⟩
  | .hbm, ⟨13, _⟩ => ⟨S1x512, .f32⟩
  | .hbm, ⟨14, _⟩ => ⟨S128x4, .f32⟩
  | .hbm, ⟨15, _⟩ => ⟨S128x4x128, .f32⟩
  | .hbm, ⟨16, _⟩ => ⟨S128x512, .f32⟩
  | .hbm, ⟨17, _⟩ => ⟨S2x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x512, .f32⟩
  | .local _ .vmem, ⟨10, _⟩ => ⟨S1x512x512, .bf16⟩
  | .local _ .vmem, ⟨11, _⟩ => ⟨S1x512x512, .bf16⟩
  | _, _ => ⟨S2x4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GmlpFwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== GmlpFwdRefIdeal.lean ====
abbrev S2x4096x10256 : Shape := ⟨3, ![2, 4096, 10256]⟩
abbrev S512 : Shape := ⟨1, ![512]⟩
abbrev S4x128x128 : Shape := ⟨3, ![4, 128, 128]⟩
abbrev S4x128 : Shape := ⟨2, ![4, 128]⟩
abbrev S2x4096x512 : Shape := ⟨3, ![2, 4096, 512]⟩
abbrev S128x4 : Shape := ⟨2, ![128, 4]⟩
abbrev S128x4x1 : Shape := ⟨3, ![128, 4, 1]⟩
abbrev S128x4x128 : Shape := ⟨3, ![128, 4, 128]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x32x128x4x128 : Shape := ⟨5, ![2, 32, 128, 4, 128]⟩
abbrev S128x128 : Shape := ⟨2, ![128, 128]⟩
abbrev S4x2x32x128x128 : Shape := ⟨5, ![4, 2, 32, 128, 128]⟩
abbrev S1x1x128x4x128 : Shape := ⟨5, ![1, 1, 128, 4, 128]⟩

abbrev nBuf : Space → Nat
  | .hbm => 109
  | .vmem => 0
  | .smem => 0
  | _ => 0

abbrev bufTy : (tb : Table) → Fin (tcTables nBuf tb) → BufTy
  | .hbm, ⟨0, _⟩ => ⟨S2x4096x10256, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S128x4, .f32⟩
  | .hbm, ⟨9, _⟩ => ⟨S128x4x1, .f32⟩
  | .hbm, ⟨10, _⟩ => ⟨S128x4x128, .f32⟩
  | .hbm, ⟨11, _⟩ => ⟨S2x4096x512, .f32⟩
  | .hbm, ⟨12, _⟩ => ⟨S2x4096x512, .f32⟩
  | .hbm, ⟨13, _⟩ => ⟨S_, .f32⟩
  | .hbm, ⟨14, _⟩ => ⟨S2x4096x512, .f32⟩
  | .hbm, ⟨15, _⟩ => ⟨S2x4096x512, .f32⟩
  | .hbm, ⟨16, _⟩ => ⟨S_, .f32⟩
  | .hbm, ⟨17, _⟩ => ⟨S2x4096x512, .f32⟩
  | .hbm, ⟨18, _⟩ => ⟨S2x4096x512, .f32⟩
  | .hbm, ⟨19, _⟩ => ⟨S2x4096x512, .f32⟩
  | .hbm, ⟨20, _⟩ => ⟨S_, .f32⟩
  | .hbm, ⟨21, _⟩ => ⟨S2x4096x512, .f32⟩
  | .hbm, ⟨22, _⟩ => ⟨S2x4096x512, .f32⟩
  | .hbm, ⟨23, _⟩ => ⟨S2x4096x512, .f32⟩
  | .hbm, ⟨24, _⟩ => ⟨S_, .f32⟩
  | .hbm, ⟨25, _⟩ => ⟨S2x4096x512, .f32⟩
  | .hbm, ⟨26, _⟩ => ⟨S2x4096x512, .f32⟩
  | .hbm, ⟨27, _⟩ => ⟨S_, .f32⟩
  | .hbm, ⟨28, _⟩ => ⟨S2x4096x512, .f32⟩
  | .hbm, ⟨29, _⟩ => ⟨S2x4096x512, .f32⟩
  | .hbm, ⟨30, _⟩ => ⟨S2x4096x512, .f32⟩
  | .hbm, ⟨31, _⟩ => ⟨S2x4096x512, .f32⟩
  | .hbm, ⟨32, _⟩ => ⟨S2x4096x512, .f32⟩
  | .hbm, ⟨33, _⟩ => ⟨S_, .f32⟩
  | .hbm, ⟨34, _⟩ => ⟨S2x4096x512, .f32⟩
  | .hbm, ⟨35, _⟩ => ⟨S2x4096x512, .f32⟩
  | .hbm, ⟨36, _⟩ => ⟨S_, .f32⟩
  | .hbm, ⟨37, _⟩ => ⟨S2x4096x512, .f32⟩
  | .hbm, ⟨38, _⟩ => ⟨S2x4096x512, .f32⟩
  | .hbm, ⟨39, _⟩ => ⟨S2x4096x512, .f32⟩
  | .hbm, ⟨40, _⟩ => ⟨S_, .f32⟩
  | .hbm, ⟨41, _⟩ => ⟨S2x4096x512, .f32⟩
  | .hbm, ⟨42, _⟩ => ⟨S2x4096x512, .f32⟩
  | .hbm, ⟨43, _⟩ => ⟨S2x4096x512, .f32⟩
  | .hbm, ⟨44, _⟩ => ⟨S_, .f32⟩
  | .hbm, ⟨45, _⟩ => ⟨S2x4096x512, .f32⟩
  | .hbm, ⟨46, _⟩ => ⟨S2x4096x512, .f32⟩
  | .hbm, ⟨47, _⟩ => ⟨S_, .f32⟩
  | .hbm, ⟨48, _⟩ => ⟨S2x4096x512, .f32⟩
  | .hbm, ⟨49, _⟩ => ⟨S2x4096x512, .f32⟩
  | .hbm, ⟨50, _⟩ => ⟨S2x4096x512, .f32⟩
  | .hbm, ⟨51, _⟩ => ⟨S_, .f32⟩
  | .hbm, ⟨52, _⟩ => ⟨S2x4096, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S2x4096x512, .f32⟩
  | .hbm, ⟨58, _⟩ => ⟨S2x4096x512, .f32⟩
  | .hbm, ⟨59, _⟩ => ⟨S2x4096x512, .f32⟩
  | .hbm, ⟨60, _⟩ => ⟨S_, .f32⟩
  | .hbm, ⟨61, _⟩ => ⟨S2x4096, .f32⟩
  | .hbm, ⟨62, _⟩ => ⟨S2x4096x1, .f32⟩
  | .hbm, ⟨63, _⟩ => ⟨S_, .f32⟩
  | .hbm, ⟨64, _⟩ => ⟨S2x4096x1, .f32⟩
  | .hbm, ⟨65, _⟩ => ⟨S2x4096x1, .f32⟩
  | .hbm, ⟨66, _⟩ => ⟨S2x4096x512, .f32⟩
  | .hbm, ⟨67, _⟩ => ⟨S2x4096x512, .f32⟩
  | .hbm, ⟨68, _⟩ => ⟨S_, .f32⟩
  | .hbm, ⟨69, _⟩ => ⟨S2x4096x1, .f32⟩
  | .hbm, ⟨70, _⟩ => ⟨S2x4096x1, .f32⟩
  | .hbm, ⟨71, _⟩ => ⟨S2x4096x1, .f32⟩
  | .hbm, ⟨72, _⟩ => ⟨S2x4096x512, .f32⟩
  | .hbm, ⟨73, _⟩ => ⟨S2x4096x512, .f32⟩
  | .hbm, ⟨74, _⟩ => ⟨S1x1x512, .f32⟩
  | .hbm, ⟨75, _⟩ => ⟨S2x4096x512, .f32⟩
  | .hbm, ⟨76, _⟩ => ⟨S2x4096x512, .f32⟩
  | .hbm, ⟨77, _⟩ => ⟨S1x1x512, .f32⟩
  | .hbm, ⟨78, _⟩ => ⟨S2x4096x512, .f32⟩
  | .hbm, ⟨79, _⟩ => ⟨S2x4096x512, .f32⟩
  | .hbm, ⟨80, _⟩ => ⟨S2x32x128x4x128, .f32⟩
  | .hbm, ⟨81, _⟩ => ⟨S128x128, .i32⟩
  | .hbm, ⟨82, _⟩ => ⟨S_, .i32⟩
  | .hbm, ⟨83, _⟩ => ⟨S128x128, .i32⟩
  | .hbm, ⟨84, _⟩ => ⟨S128x128, .i32⟩
  | .hbm, ⟨85, _⟩ => ⟨S128x128, .i32⟩
  | .hbm, ⟨86, _⟩ => ⟨S128x128, .i1⟩
  | .hbm, ⟨87, _⟩ => ⟨S4x128x128, .i1⟩
  | .hbm, ⟨88, _⟩ => ⟨S_, .f32⟩
  | .hbm, ⟨89, _⟩ => ⟨S4x128x128, .f32⟩
  | .hbm, ⟨90, _⟩ => ⟨S4x128x128, .f32⟩
  | .hbm, ⟨91, _⟩ => ⟨S4x2x32x128x128, .f32⟩
  | .hbm, ⟨92, _⟩ => ⟨S2x32x128x4x128, .f32⟩
  | .hbm, ⟨93, _⟩ => ⟨S1x1x128x4x128, .f32⟩
  | .hbm, ⟨94, _⟩ => ⟨S2x32x128x4x128, .f32⟩
  | .hbm, ⟨95, _⟩ => ⟨S2x32x128x4x128, .f32⟩
  | .hbm, ⟨96, _⟩ => ⟨S2x4096x512, .f32⟩
  | .hbm, ⟨97, _⟩ => ⟨S2x4096x512, .f32⟩
  | .hbm, ⟨98, _⟩ => ⟨S2x4096x512, .f32⟩
  | .hbm, ⟨99, _⟩ => ⟨S2x4096x512, .f32⟩
  | .hbm, ⟨100, _⟩ => ⟨S_, .f32⟩
  | .hbm, ⟨101, _⟩ => ⟨S2x4096x512, .f32⟩
  | .hbm, ⟨102, _⟩ => ⟨S2x4096x512, .f32⟩
  | .hbm, ⟨103, _⟩ => ⟨S_, .f32⟩
  | .hbm, ⟨104, _⟩ => ⟨S2x4096x512, .f32⟩
  | .hbm, ⟨105, _⟩ => ⟨S2x4096x512, .f32⟩
  | .hbm, ⟨106, _⟩ => ⟨S2x4096x512, .f32⟩
  | .hbm, ⟨107, _⟩ => ⟨S2x4096x512, .f32⟩
  | .hbm, ⟨108, _⟩ => ⟨S2x4096x512, .bf16⟩
  | _, _ => ⟨S2x4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_cst : Ref sig .tc := ⟨.hbm, 88, rfl⟩
abbrev main_call0_v6 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]

def κ : String → Option EReal := fun
  | "gelu_3c" => some ((26829 / 200000 : ℝ) : EReal)
  | "gelu_c" => some ((8943 / 200000 : ℝ) : EReal)
  | _ => none
-- ==== MergeWgrad.lean ====
abbrev S2x4096x1024 : Shape := ⟨3, ![2, 4096, 1024]⟩
abbrev S2x4096x512 : Shape := ⟨3, ![2, 4096, 512]⟩
abbrev S2x4096x3072 : Shape := ⟨3, ![2, 4096, 3072]⟩
abbrev S512x1024 : Shape := ⟨2, ![512, 1024]⟩
abbrev S1024x1024 : Shape := ⟨2, ![1024, 1024]⟩
abbrev S1x256x512 : Shape := ⟨3, ![1, 256, 512]⟩
abbrev S1x256x1024 : Shape := ⟨3, ![1, 256, 1024]⟩
abbrev S1x256x3072 : Shape := ⟨3, ![1, 256, 3072]⟩
abbrev S256x3072 : Shape := ⟨2, ![256, 3072]⟩
abbrev S256x512 : Shape := ⟨2, ![256, 512]⟩
abbrev S256x1024 : Shape := ⟨2, ![256, 1024]⟩

abbrev nBuf : Space → Nat
  | .hbm => 18
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x1024, .f32⟩
  | .hbm, ⟨3, _⟩ => ⟨S2x4096x512, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x512, .bf16⟩
  | .hbm, ⟨9, _⟩ => ⟨S2x4096x1024, .bf16⟩
  | .hbm, ⟨10, _⟩ => ⟨S2x4096x512, .bf16⟩
  | .hbm, ⟨11, _⟩ => ⟨S2x4096x1024, .bf16⟩
  | .hbm, ⟨12, _⟩ => ⟨S2x4096x3072, .f32⟩
  | .hbm, ⟨13, _⟩ => ⟨S2x4096x3072, .bf16⟩
  | .hbm, ⟨14, _⟩ => ⟨S512x1024, .f32⟩
  | .hbm, ⟨15, _⟩ => ⟨S1024x1024, .f32⟩
  | .hbm, ⟨16, _⟩ => ⟨S512x1024, .f32⟩
  | .hbm, ⟨17, _⟩ => ⟨S1024x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x3072, .bf16⟩
  | .local _ .vmem, ⟨9, _⟩ => ⟨S1x256x3072, .bf16⟩
  | .local _ .vmem, ⟨10, _⟩ => ⟨S1x256x1024, .f32⟩
  | .local _ .vmem, ⟨11, _⟩ => ⟨S1x256x1024, .f32⟩
  | .local _ .vmem, ⟨12, _⟩ => ⟨S512x1024, .f32⟩
  | .local _ .vmem, ⟨13, _⟩ => ⟨S1024x1024, .f32⟩
  | .local _ .vmem, ⟨14, _⟩ => ⟨S512x1024, .f32⟩
  | .local _ .vmem, ⟨15, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MergeWgradRefIdeal.lean ====
abbrev S2x4096x1024 : Shape := ⟨3, ![2, 4096, 1024]⟩
abbrev S2x4096x512 : Shape := ⟨3, ![2, 4096, 512]⟩
abbrev S8192x512 : Shape := ⟨2, ![8192, 512]⟩
abbrev S512x8192 : Shape := ⟨2, ![512, 8192]⟩
abbrev S8192x1024 : Shape := ⟨2, ![8192, 1024]⟩
abbrev S512x1024 : Shape := ⟨2, ![512, 1024]⟩
abbrev S1024x8192 : Shape := ⟨2, ![1024, 8192]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x1024, .f32⟩
  | .hbm, ⟨3, _⟩ => ⟨S2x4096x512, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S8192x512, .f32⟩
  | .hbm, ⟨9, _⟩ => ⟨S512x8192, .f32⟩
  | .hbm, ⟨10, _⟩ => ⟨S8192x1024, .f32⟩
  | .hbm, ⟨11, _⟩ => ⟨S512x1024, .f32⟩
  | .hbm, ⟨12, _⟩ => ⟨S8192x1024, .f32⟩
  | .hbm, ⟨13, _⟩ => ⟨S1024x8192, .f32⟩
  | .hbm, ⟨14, _⟩ => ⟨S8192x1024, .f32⟩
  | .hbm, ⟨15, _⟩ => ⟨S1024x1024, .f32⟩
  | .hbm, ⟨16, _⟩ => ⟨S8192x512, .f32⟩
  | .hbm, ⟨17, _⟩ => ⟨S512x8192, .f32⟩
  | .hbm, ⟨18, _⟩ => ⟨S8192x1024, .f32⟩
  | .hbm, ⟨19, _⟩ => ⟨S512x1024, .f32⟩
  | .hbm, ⟨20, _⟩ => ⟨S8192x1024, .f32⟩
  | .hbm, ⟨21, _⟩ => ⟨S1024x8192, .f32⟩
  | .hbm, ⟨22, _⟩ => ⟨S8192x1024, .f32⟩
  | .hbm, ⟨23, _⟩ => ⟨S1024x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== InProjDx.lean ====
abbrev S2x4096x10256 : Shape := ⟨3, ![2, 4096, 10256]⟩
abbrev S1024x10256 : Shape := ⟨2, ![1024, 10256]⟩
abbrev S10256x1024 : Shape := ⟨2, ![10256, 1024]⟩
abbrev S_ : Shape := ⟨0, ![]⟩
abbrev S112x1024 : Shape := ⟨2, ![112, 1024]⟩
abbrev S4096x1024 : Shape := ⟨2, ![4096, 1024]⟩
abbrev S1536x1024 : Shape := ⟨2, ![1536, 1024]⟩
abbrev S4608x1024 : Shape := ⟨2, ![4608, 1024]⟩
abbrev S16x1024 : Shape := ⟨2, ![16, 1024]⟩
abbrev S10368x1024 : Shape := ⟨2, ![10368, 1024]⟩
abbrev S8192x10256 : Shape := ⟨2, ![8192, 10256]⟩
abbrev S8192x4096 : Shape := ⟨2, ![8192, 4096]⟩
abbrev S8192x1536 : Shape := ⟨2, ![8192, 1536]⟩
abbrev S8192x3072 : Shape := ⟨2, ![8192, 3072]⟩
abbrev S8192x16 : Shape := ⟨2, ![8192, 16]⟩
abbrev S8192x112 : Shape := ⟨2, ![8192, 112]⟩
abbrev S8192x128 : Shape := ⟨2, ![8192, 128]⟩
abbrev S8192x1024 : Shape := ⟨2, ![8192, 1024]⟩
abbrev S2048x512 : Shape := ⟨2, ![2048, 512]⟩
abbrev S2048x128 : Shape := ⟨2, ![2048, 128]⟩
abbrev S512x1024 : Shape := ⟨2, ![512, 1024]⟩
abbrev S128x1024 : Shape := ⟨2, ![128, 1024]⟩
abbrev S2048x1024 : Shape := ⟨2, ![2048, 1024]⟩

abbrev nBuf : Space → Nat
  | .hbm => 22
  | .vmem => 16
  | .smem => 0
  | _ => 0

abbrev bufTy : (tb : Table) → Fin (tcTables nBuf tb) → BufTy
  | .hbm, ⟨0, _⟩ => ⟨S2x4096x10256, .f32⟩
  | .hbm, ⟨1, _⟩ => ⟨S1024x10256, .f32⟩
  | .hbm, ⟨2, _⟩ => ⟨S10256x1024, .f32⟩
  | .hbm, ⟨3, _⟩ => ⟨S10256x1024, .bf16⟩
  | .hbm, ⟨4, _⟩ => ⟨S_, .bf16⟩
  | .hbm, ⟨5, _⟩ => ⟨S112x1024, .bf16⟩
  | .hbm, ⟨6, _⟩ => ⟨S4096x1024, .bf16⟩
  | .hbm, ⟨7, _⟩ => ⟨S1536x1024, .bf16⟩
  | .hbm, ⟨8, _⟩ => ⟨S4608x1024, .bf16⟩
  | .hbm, ⟨9, _⟩ => ⟨S16x1024, .bf16⟩
  | .hbm, ⟨10, _⟩ => ⟨S10368x1024, .bf16⟩
  | .hbm, ⟨11, _⟩ => ⟨S8192x10256, .f32⟩
  | .hbm, ⟨12, _⟩ => ⟨S8192x10256, .bf16⟩
  | .hbm, ⟨13, _⟩ => ⟨S8192x4096, .bf16⟩
  | .hbm, ⟨14, _⟩ => ⟨S8192x1536, .bf16⟩
  | .hbm, ⟨15, _⟩ => ⟨S8192x1536, .bf16⟩
  | .hbm, ⟨16, _⟩ => ⟨S8192x3072, .bf16⟩
  | .hbm, ⟨17, _⟩ => ⟨S8192x16, .bf16⟩
  | .hbm, ⟨18, _⟩ => ⟨S_, .bf16⟩
  | .hbm, ⟨19, _⟩ => ⟨S8192x112, .bf16⟩
  | .hbm, ⟨20, _⟩ => ⟨S8192x128, .bf16⟩
  | .hbm, ⟨21, _⟩ => ⟨S8192x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x128, .bf16⟩
  | .local _ .vmem, ⟨9, _⟩ => ⟨S2048x128, .bf16⟩
  | .local _ .vmem, ⟨10, _⟩ => ⟨S512x1024, .bf16⟩
  | .local _ .vmem, ⟨11, _⟩ => ⟨S512x1024, .bf16⟩
  | .local _ .vmem, ⟨12, _⟩ => ⟨S128x1024, .bf16⟩
  | .local _ .vmem, ⟨13, _⟩ => ⟨S2048x1024, .f32⟩
  | .local _ .vmem, ⟨14, _⟩ => ⟨S2048x1024, .f32⟩
  | .local _ .vmem, ⟨15, _⟩ => ⟨S2048x1024, .f32⟩
  | _, _ => ⟨S2x4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 1, 21], ![false, false, false]⟩

def k0_cond6 (i : grid0.Coords) : BitVec 1 :=
  let arg2 : BitVec 32 := BitVec.ofNat 32 (i 2).val
  let c20_i32_9 : BitVec 32 := 20#32
  let v23 : BitVec 1 := Scalar.cmpi .eq arg2 c20_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.subi arg2 c11_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.subi arg2 c14_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c19_i32 : BitVec 32 := 19#32
  let v0 : BitVec 32 := Scalar.minsi arg2 c19_i32
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let c0_i32 : BitVec 32 := 0#32
  ![c80_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== InProjDxRefIdeal.lean ====
abbrev S2x4096x10256 : Shape := ⟨3, ![2, 4096, 10256]⟩
abbrev S1024x10256 : Shape := ⟨2, ![1024, 10256]⟩
abbrev S8192x10256 : Shape := ⟨2, ![8192, 10256]⟩
abbrev S10256x1024 : Shape := ⟨2, ![10256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x10256, .f32⟩
  | .hbm, ⟨1, _⟩ => ⟨S1024x10256, .f32⟩
  | .hbm, ⟨2, _⟩ => ⟨S8192x10256, .f32⟩
  | .hbm, ⟨3, _⟩ => ⟨S10256x1024, .f32⟩
  | .hbm, ⟨4, _⟩ => ⟨S8192x1024, .f32⟩
  | _, _ => ⟨S2x4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProj.lean ====
abbrev S2x4096x1024 : Shape := ⟨3, ![2, 4096, 1024]⟩
abbrev S1024x10256 : Shape := ⟨2, ![1024, 10256]⟩
abbrev S10256x1024 : Shape := ⟨2, ![10256, 1024]⟩
abbrev S_ : Shape := ⟨0, ![]⟩
abbrev S112x1024 : Shape := ⟨2, ![112, 1024]⟩
abbrev S4096x1024 : Shape := ⟨2, ![4096, 1024]⟩
abbrev S1536x1024 : Shape := ⟨2, ![1536, 1024]⟩
abbrev S4608x1024 : Shape := ⟨2, ![4608, 1024]⟩
abbrev S16x1024 : Shape := ⟨2, ![16, 1024]⟩
abbrev S10368x1024 : Shape := ⟨2, ![10368, 1024]⟩
abbrev S8192x1024 : Shape := ⟨2, ![8192, 1024]⟩
abbrev S1024x10368 : Shape := ⟨2, ![1024, 10368]⟩
abbrev S8192x10368 : Shape := ⟨2, ![8192, 10368]⟩
abbrev S2048x1024 : Shape := ⟨2, ![2048, 1024]⟩
abbrev S1024x1152 : Shape := ⟨2, ![1024, 1152]⟩
abbrev S2048x1152 : Shape := ⟨2, ![2048, 1152]⟩

abbrev nBuf : Space → Nat
  | .hbm => 15
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S1024x10256, .f32⟩
  | .hbm, ⟨2, _⟩ => ⟨S10256x1024, .f32⟩
  | .hbm, ⟨3, _⟩ => ⟨S10256x1024, .bf16⟩
  | .hbm, ⟨4, _⟩ => ⟨S_, .bf16⟩
  | .hbm, ⟨5, _⟩ => ⟨S112x1024, .bf16⟩
  | .hbm, ⟨6, _⟩ => ⟨S4096x1024, .bf16⟩
  | .hbm, ⟨7, _⟩ => ⟨S1536x1024, .bf16⟩
  | .hbm, ⟨8, _⟩ => ⟨S4608x1024, .bf16⟩
  | .hbm, ⟨9, _⟩ => ⟨S16x1024, .bf16⟩
  | .hbm, ⟨10, _⟩ => ⟨S10368x1024, .bf16⟩
  | .hbm, ⟨11, _⟩ => ⟨S8192x1024, .f32⟩
  | .hbm, ⟨12, _⟩ => ⟨S8192x1024, .bf16⟩
  | .hbm, ⟨13, _⟩ => ⟨S1024x10368, .bf16⟩
  | .hbm, ⟨14, _⟩ => ⟨S8192x10368, .f32⟩
  | .local _ .vmem, ⟨0, _⟩ => ⟨S2048x1024, .bf16⟩
  | .local _ .vmem, ⟨1, _⟩ => ⟨S2048x1024, .bf16⟩
  | .local _ .vmem, ⟨2, _⟩ => ⟨S1024x1152, .bf16⟩
  | .local _ .vmem, ⟨3, _⟩ => ⟨S1024x1152, .bf16⟩
  | .local _ .vmem, ⟨4, _⟩ => ⟨S2048x1152, .f32⟩
  | .local _ .vmem, ⟨5, _⟩ => ⟨S2048x1152, .f32⟩
  | .local _ .vmem, ⟨6, _⟩ => ⟨S2048x1152, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S2x4096x1024 : Shape := ⟨3, ![2, 4096, 1024]⟩
abbrev S1024x10256 : Shape := ⟨2, ![1024, 10256]⟩
abbrev S8192x1024 : Shape := ⟨2, ![8192, 1024]⟩
abbrev S8192x10256 : Shape := ⟨2, ![8192, 10256]⟩
abbrev S8192x1536 : Shape := ⟨2, ![8192, 1536]⟩
abbrev S8192x4096 : Shape := ⟨2, ![8192, 4096]⟩
abbrev S8192x16 : Shape := ⟨2, ![8192, 16]⟩
abbrev S8192x4608 : Shape := ⟨2, ![8192, 4608]⟩
abbrev S_ : Shape := ⟨0, ![]⟩
abbrev S8192x112 : Shape := ⟨2, ![8192, 112]⟩
abbrev S8192x10368 : Shape := ⟨2, ![8192, 10368]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x10256, .f32⟩
  | .hbm, ⟨2, _⟩ => ⟨S8192x1024, .f32⟩
  | .hbm, ⟨3, _⟩ => ⟨S8192x10256, .f32⟩
  | .hbm, ⟨4, _⟩ => ⟨S8192x1536, .f32⟩
  | .hbm, ⟨5, _⟩ => ⟨S8192x4096, .f32⟩
  | .hbm, ⟨6, _⟩ => ⟨S8192x16, .f32⟩
  | .hbm, ⟨7, _⟩ => ⟨S8192x4608, .f32⟩
  | .hbm, ⟨8, _⟩ => ⟨S_, .f32⟩
  | .hbm, ⟨9, _⟩ => ⟨S8192x112, .f32⟩
  | .hbm, ⟨10, _⟩ => ⟨S8192x10368, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Adamw.lean ====
abbrev S2x256x1024 : Shape := ⟨3, ![2, 256, 1024]⟩
abbrev S1x128x1024 : Shape := ⟨3, ![1, 128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/- Facts the value proofs of this certificate share: sums over the two leading axes of a rank-3 array, float constants as
   extended reals, and the passage from finite extended reals down to the reals (where the algebra is done). -/
module

public import Idealize.ShloMosaic.Lib.Pipeline.ValueKit
public import Idealize.ShloMosaic.Lib.IdealHost
public import Idealize.ShloMosaic.Lib.Pointwise

@[expose] public section

noncomputable section

namespace Idealize.ShloMosaic

section reduce01
variable {n0 n1 n2 : Nat} {t : Shape}

theorem Shape.ReducesTo.rank_lead2 (h : (⟨3, ![n0, n1, n2]⟩ : Shape).ReducesTo [0, 1] t) : t.rank = 1 := h.1
theorem Shape.ReducesTo.lt_lead2 (h : (⟨3, ![n0, n1, n2]⟩ : Shape).ReducesTo [0, 1] t) : 0 < t.rank := h.rank_lead2 ▸ (by decide)
theorem Shape.ReducesTo.size_lead2 (h : (⟨3, ![n0, n1, n2]⟩ : Shape).ReducesTo [0, 1] t) : t.size ⟨0, h.lt_lead2⟩ = n2 := h.2 ⟨0, h.lt_lead2⟩

/-- Which indices of a rank-3 array drop to `j` when the two leading axes are reduced. -/
theorem Shape.ReducesTo.fiber_lead2 (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, h.lt_lead2⟩).val, Shape.coordLt (j ⟨0, h.lt_lead2⟩) h.size_lead2⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, h.lt_lead2⟩)).symm
  · rintro ⟨k, rfl⟩
    funext b
    apply Fin.ext
    match b with
    | ⟨0, _⟩ => rfl
    | ⟨_ + 1, hb⟩ => exact absurd hb (by have : t.rank = 1 := h.1; omega)

/-- A host sum over the two leading axes of a rank-3 array. -/
@[pointwise] theorem Ideal.hostReduceAdd_lead2 (h : (⟨3, ![n0, n1, n2]⟩ : Shape).ReducesTo [0, 1] t) (v : (⟨3, ![n0, n1, n2]⟩ : Shape).Idx → EReal)
    (init : EReal) (j : t.Idx) :
    Ideal.hostReduceAdd h v init j
      = init + ∑ a : Fin n0, ∑ b : Fin n1, v (ix3 a b ⟨(j ⟨0, h.lt_lead2⟩).val, Shape.coordLt (j ⟨0, h.lt_lead2⟩) h.size_lead2⟩) := by
  unfold Ideal.hostReduceAdd
  congr 1
  refine (Finset.sum_filter_eq_sum_of_fiber _ (fun k : Fin n0 × Fin n1 => ix3 k.1 k.2 ⟨(j ⟨0, h.lt_lead2⟩).val, Shape.coordLt (j ⟨0, h.lt_lead2⟩) h.size_lead2⟩)
    (fun _ _ e => Prod.ext (congrFun e 0) (congrFun e 1)) (h.fiber_lead2 j) v).trans ?_
  simp only [Fintype.sum_prod_type]

end reduce01

namespace Ideal

/-- The f32 constant `1024`. -/
theorem ofBits_1024 : Ideal.ofBits .f32 0x44800000#32 = ((1024 : ℝ) : EReal) := by
  simp [Ideal.ofBits, Ideal.ieee, -EReal.coe_mul]; norm_num

/-- The f32 constant `-1/2`. -/
theorem ofBits_neg_half : Ideal.ofBits .f32 0xBF000000#32 = ((-(1 / 2) : ℝ) : EReal) := by
  simp [Ideal.ofBits, Ideal.ieee, -EReal.coe_mul, -EReal.coe_neg]; norm_num

/-- The f32 constants `1/2`, `1`, `2` and `1/1024`. -/
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num

/-- A positive real factor distributes over a sum of extended reals. -/
theorem mul_sum_of_pos {ι : Type*} {c : ℝ} (hc : 0 < c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc.le) (EReal.coe_ne_top c), ih]

/-- The f32 constant nearest `10⁻⁶` is a positive real. -/
theorem ofBits_eps : ∃ e : ℝ, 0 < e ∧ Ideal.ofBits .f32 0x358637BD#32 = (e : EReal) := by
  refine ⟨_, ?_, by simp only [Ideal.ofBits, Ideal.ieee]; simp [-EReal.coe_mul]; rfl⟩
  positivity

/-- A sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals with a divisor that is not zero. -/
theorem div_coe_coe {x y : ℝ} (h : y ≠ 0) : Ideal.div (x : EReal) (y : EReal) = ((x / y : ℝ) : EReal) := by
  rw [Ideal.div_coe h, ← EReal.coe_mul]; congr 1; ring

theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- What a comparison `|x| < ∞` says: `x` is a real number. -/
theorem real_of_abs_lt_top {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

end Ideal

/-- An array all of whose entries satisfy `|x| < ∞` is an array of reals. -/
theorem exists_real_array {s : Shape} {φ : FTy} {x : FVec Ideal s φ}
    (h : ∀ i, Ideal.cmp .olt (max (x i) (-(x i))) (Ideal.ofBits .f32 0x7F800000#32) = 1#1) : ∃ r : s.Idx → ℝ, x = fun i => (r i : EReal) :=
  ⟨fun i => (Ideal.real_of_abs_lt_top (h i)).choose, funext fun i => (Ideal.real_of_abs_lt_top (h i)).choose_spec⟩

/-- The same of the comparison as a printed precondition states it, over a whole array. -/
theorem exists_real_of_cmpf {s : Shape} {x : FVec Ideal s .f32} (hb : (⟨0, ![]⟩ : Shape).BroadcastsInDim s (![] : Fin 0 → Fin s.rank))
    (h : cmpf .olt (Host.absf x) (broadcastInDim s ![] hb (constant (⟨0, ![]⟩ : Shape) .f32 0x7F800000#32)) = fun _ => 1#1) :
    ∃ r : s.Idx → ℝ, x = fun i => (r i : EReal) := exists_real_array fun i => congrFun h i

end Idealize.ShloMosaic

end
-- ==== Proof.Rows.lean ====
/- Rows of 1024 entries: the factor of a root-mean-square normalisation, the gradient of the normalisation in the form of the
   kernels and in the form of the derivative of its formula, and why they agree on real rows. -/
module

public import proofs.«01_k».proof.Proof.Reals

@[expose] public section

noncomputable section

open Idealize.ShloMosaic

namespace Cert.Rows

/-- `mean x² + ε` of a row. -/
def meanSq (x : Fin 1024 → EReal) : EReal :=
  Ideal.div (∑ k, x k * x k) (Ideal.ofBits .f32 0x44800000#32) + Ideal.ofBits .f32 0x358637BD#32

/-- `1 / √(mean x² + ε)` of a row. -/
def rstd (x : Fin 1024 → EReal) : EReal := Ideal.rsqrt (meanSq x)

/-- The row gradient as the kernels compute it: `r·(e − x·r·mean(e·x·r))`, where `e` is the cotangent times the scale. -/
def dxRow (x e : Fin 1024 → EReal) (k : Fin 1024) : EReal :=
  rstd x * (e k - x k * rstd x * Ideal.div (∑ l, e l * (x l * rstd x)) (Ideal.ofBits .f32 0x44800000#32))

/-- The cotangent that reaches `mean x²`, divided by the length of the row: `Σ x·e · (−½·r/(mean x² + ε)) / 1024`. -/
def corr (x e : Fin 1024 → EReal) : EReal :=
  ∑ _a : Fin 1, Ideal.div ((∑ k, x k * e k) * (Ideal.ofBits .f32 0xBF000000#32 * Ideal.div (rstd x) (meanSq x))) (Ideal.ofBits .f32 0x44800000#32)

/-- `mean x² + ε` of a real row is a positive real. -/
theorem meanSq_coe (x : Fin 1024 → ℝ) : ∃ q : ℝ, 0 < q ∧ meanSq (fun k => (x k : EReal)) = q := by
  obtain ⟨e, he, hb⟩ := Ideal.ofBits_eps
  refine ⟨(∑ k, x k * x k) / 1024 + e, add_pos_of_nonneg_of_pos (div_nonneg (Finset.sum_nonneg fun k _ => mul_self_nonneg _) (by norm_num)) he, ?_⟩
  unfold meanSq
  rw [hb, Ideal.ofBits_1024]
  simp only [← EReal.coe_mul]
  rw [← Ideal.coe_sum, Ideal.div_coe_coe (by norm_num), ← EReal.coe_add]

/-- The derivative of the formula and the kernels' form, on real rows. -/
theorem dxRow_eq (x e : Fin 1024 → ℝ) (res : EReal) (k : Fin 1024) :
    res + (e k : EReal) * rstd (fun k => (x k : EReal)) + x k * corr (fun k => (x k : EReal)) (fun k => (e k : EReal))
        + corr (fun k => (x k : EReal)) (fun k => (e k : EReal)) * x k
      = dxRow (fun k => (x k : EReal)) (fun k => (e k : EReal)) k + res := by
  obtain ⟨q, hq, e0⟩ := meanSq_coe x
  have hs : Real.sqrt q ≠ 0 := (Real.sqrt_pos.mpr hq).ne'
  unfold dxRow corr rstd
  rw [e0, Ideal.rsqrt_coe_pos hq, Ideal.div_coe_coe hq.ne', Ideal.ofBits_1024, Ideal.ofBits_neg_half]
  simp only [← EReal.coe_mul, Finset.univ_unique, Finset.sum_singleton]
  rw [← Ideal.coe_sum, ← Ideal.coe_sum]
  simp only [← EReal.coe_mul]
  rw [Ideal.div_coe_coe (by norm_num), Ideal.div_coe_coe (by norm_num)]
  simp only [← EReal.coe_mul, ← EReal.coe_sub, add_assoc, ← EReal.coe_add]
  rw [add_comm]
  congr 2
  have h1 : ∑ l, e l * (x l * (Real.sqrt q)⁻¹) = (Real.sqrt q)⁻¹ * ∑ l, x l * e l := by
    rw [Finset.mul_sum]; exact Finset.sum_congr rfl fun _ _ => by ring
  rw [h1]
  generalize ∑ l, x l * e l = T
  have h2 : q = Real.sqrt q * Real.sqrt q := (Real.mul_self_sqrt hq.le).symm
  generalize Real.sqrt q = s at hs h2 ⊢
  subst h2
  field_simp
  ring

/-- Row `i` of the flattened `[8192, 1024]` view of a `[2, 4096, 1024]` array. -/
def rowAt (X : (⟨3, ![2, 4096, 1024]⟩ : Shape).Idx → EReal) (i : Fin 8192) (k : Fin 1024) : EReal :=
  X (ix3 ⟨i.val / 4096, by omega⟩ ⟨i.val % 4096, by omega⟩ k)

theorem rowAt_mk (X : (⟨3, ![2, 4096, 1024]⟩ : Shape).Idx → EReal) (a : Fin 2) (b : Fin 4096) (h : a.val * 4096 + b.val < 8192) :
    rowAt X ⟨a.val * 4096 + b.val, h⟩ = fun k => X (ix3 a b k) := by
  unfold rowAt; funext k; blk_ext

/-- A row of a real array is a real row. -/
theorem real_row {X : (⟨3, ![2, 4096, 1024]⟩ : Shape).Idx → EReal}
    (hX : ∃ x : (⟨3, ![2, 4096, 1024]⟩ : Shape).Idx → ℝ, X = fun i => (x i : EReal)) (i : Fin 8192) :
    ∃ x : Fin 1024 → ℝ, rowAt X i = fun k => (x k : EReal) := by
  obtain ⟨x, rfl⟩ := hX
  exact ⟨fun k => x (ix3 ⟨i.val / 4096, by omega⟩ ⟨i.val % 4096, by omega⟩ k), rfl⟩

/-- `dxRow_eq` of rows that are known to be real. -/
theorem dx_eq {x e : Fin 1024 → EReal} (hx : ∃ r : Fin 1024 → ℝ, x = fun k => (r k : EReal)) (he : ∃ r : Fin 1024 → ℝ, e = fun k => (r k : EReal))
    (res : EReal) (k : Fin 1024) : res + e k * rstd x + x k * corr x e + corr x e * x k = dxRow x e k + res := by
  obtain ⟨x, rfl⟩ := hx
  obtain ⟨e, rfl⟩ := he
  exact dxRow_eq x e res k

/-- A row times a real vector is a real row. -/
theorem real_mul {x : Fin 1024 → EReal} {G : (⟨1, ![1024]⟩ : Shape).Idx → EReal} (hx : ∃ r : Fin 1024 → ℝ, x = fun k => (r k : EReal))
    (hG : ∃ g : (⟨1, ![1024]⟩ : Shape).Idx → ℝ, G = fun i => (g i : EReal)) : ∃ r : Fin 1024 → ℝ, (fun k => x k * G (ix1 k)) = fun k => (r k : EReal) := by
  obtain ⟨x, rfl⟩ := hx
  obtain ⟨g, rfl⟩ := hG
  exact ⟨fun k => x k * g (ix1 k), funext fun k => (EReal.coe_mul _ _).symm⟩

/-- The factor of a real row is real. -/
theorem rstd_coe (x : Fin 1024 → ℝ) : ∃ r : ℝ, rstd (fun k => (x k : EReal)) = r := by
  obtain ⟨q, hq, e0⟩ := meanSq_coe x
  exact ⟨_, by unfold rstd; rw [e0, Ideal.rsqrt_coe_pos hq]⟩

/-- The rows, listed by grid point and position in the block, or by batch entry and time. -/
theorem sum_rows (f : Fin 16 → Fin 512 → EReal) (g : Fin 8192 → EReal) (h : ∀ s x, f s x = g ⟨s.val * 512 + x.val, by omega⟩) :
    ∑ s, ∑ x, f s x = ∑ a : Fin 2, ∑ b : Fin 4096, g ⟨a.val * 4096 + b.val, by omega⟩ := by
  simp only [h]
  rw [Fin.sum_mul_add_fin 16 512 g, Fin.sum_mul_add_fin 2 4096 g]

/-- The scale's gradient, the factors of each summand in the order of the formula and in that of the kernels. -/
theorem dg_eq (X D : (⟨3, ![2, 4096, 1024]⟩ : Shape).Idx → EReal) (k : Fin 1024) :
    ∑ a, ∑ b, X (ix3 a b k) * rstd (fun l => X (ix3 a b l)) * D (ix3 a b k)
      = ∑ a, ∑ b, D (ix3 a b k) * (X (ix3 a b k) * rstd fun l => X (ix3 a b l)) := by
  simp only [mul_comm (X _ * _)]

end Cert.Rows

end
-- ==== Proof.NormValue.lean ====
/- The two results of the normalisation's backward call, as closed forms of its arguments: the gradient of each row, and the
   gradient of the scale vector as one sum over all rows. -/
module

public import proofs.«01_k».proof.Proof.Rows
public import proofs.«01_k».proof.Proof.Gen.NormBwdIdeal.Frame
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdIdeal.Value
open Cert.NormBwdIdeal Cert.NormBwdIdeal.Gen Cert.Rows

variable (m : (ℓ : Loc nD τ sig) → Buf (Elt Ideal) ℓ)

/-- Row `i` of the cotangent times the scale. -/
def cotRow (c : Dev nD) (i : Fin 8192) (k : Fin 1024) : EReal :=
  rowAt (m ((c : Thread nD τ).loc main_arg1)) i k * m ((c : Thread nD τ).loc main_arg2) (ix1 k)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

theorem lt16 (t : Fin cfg0.N) : t.val < 16 := lt_of_lt_of_eq t.isLt (by decide +kernel)

/-- The row that point `t` keeps at position `y` of its block. -/
def rowOf (t : Fin cfg0.N) (y : Fin 512) : Fin 8192 := ⟨t.val * 512 + y.val, by have := lt16 t; omega⟩

theorem rd0 (c : Dev nD) (t : Fin cfg0.N) (y : Fin 512) (k : Fin 1024) :
    iblk m c 0 t (ix2 y k) = rowAt (m ((c : Thread nD τ).loc main_arg0)) (rowOf t y) k := by
  blk_simp [iblk]; entry_read; pointwise; blk_ext [idx t, rowOf, rowAt]

theorem rd1 (c : Dev nD) (t : Fin cfg0.N) (y : Fin 512) (k : Fin 1024) :
    iblk m c 1 t (ix2 y k) = rowAt (m ((c : Thread nD τ).loc main_arg1)) (rowOf t y) k := by
  blk_simp [iblk]; entry_read; pointwise; blk_ext [idx t, rowOf, rowAt]

theorem rd2 (c : Dev nD) (t : Fin cfg0.N) (y : Fin 1) (k : Fin 1024) :
    iblk m c 2 t (ix2 y k) = m ((c : Thread nD τ).loc main_arg2) (ix1 k) := by
  blk_simp [iblk]; entry_read; pointwise; blk_ext [idx t]

theorem rd3 (c : Dev nD) (t : Fin cfg0.N) (y : Fin 512) (k : Fin 1024) :
    iblk m c 3 t (ix2 y k) = rowAt (m ((c : Thread nD τ).loc main_arg3)) (rowOf t y) k := by
  blk_simp [iblk]; entry_read; pointwise; blk_ext [idx t, rowOf, rowAt]

/-- What the body stores into the row gradient's block, at one entry. -/
theorem pay7_at (c : Dev nD) (t : Fin cfg0.N) (y : S512x1024.Idx) :
    k0_pay7 (F := Ideal) (iblk m c 0 t) (iblk m c 1 t) (iblk m c 2 t) (iblk m c 3 t) y
      = dxRow (rowAt (m ((c : Thread nD τ).loc main_arg0)) (rowOf t (y 0))) (cotRow m c (rowOf t (y 0))) (y 1)
          + rowAt (m ((c : Thread nD τ).loc main_arg3)) (rowOf t (y 0)) (y 1) := by
  idx_vars y
  pointwise [k0_pay7, k0_pay6, k0_pay5, k0_pay4, k0_pay3]
  simp only [rd0, rd1, rd2, rd3, dxRow, rstd, meanSq, cotRow]

/-- The row gradient. -/
theorem final4 (c : Dev nD) : (dats m 0 c).arrAt 4 (cfgs 0).N = fun j : S8192x1024.Idx =>
    dxRow (rowAt (m ((c : Thread nD τ).loc main_arg0)) (j 0)) (cotRow m c (j 0)) (j 1) + rowAt (m ((c : Thread nD τ).loc main_arg3)) (j 0) (j 1) := by
  refine (dats m 0 c).arrAt_eq_of_covers 4 _ (by decide +kernel) fun t _ y => ?_
  blk_simp
  rw [after0_4]
  have e0 : (((View.whole main_v4_0).slice (win0_4.rect t)).emb y) 0 = rowOf t (y 0) := by
    refine Fin.ext ?_; blk_simp [idx t, rowOf]
  have e1 : (((View.whole main_v4_0).slice (win0_4.rect t)).emb y) 1 = y 1 := by
    refine Fin.ext ?_; blk_simp [idx t]
  by_cases h : t.val % 16 = 0
  · rw [outsAt0_A m c t h]; frame_out
    rw [pay7_at]
    simp only [e0, e1]
  · rw [outsAt0_B m c t h]; frame_out
    rw [pay7_at]
    simp only [e0, e1]

/-- One row's part of the scale's gradient. -/
def dgPart (c : Dev nD) (i : Fin 8192) (k : Fin 1024) : EReal :=
  rowAt (m ((c : Thread nD τ).loc main_arg1)) i k * (rowAt (m ((c : Thread nD τ).loc main_arg0)) i k * rstd (rowAt (m ((c : Thread nD τ).loc main_arg0)) i))

theorem pay1_at (c : Dev nD) (t : Fin cfg0.N) (acc : FVec Ideal S8x1024 .f32) (y : S8x1024.Idx) :
    k0_pay1 (F := Ideal) (k0_pay8 acc) (k0_pay9 (iblk m c 0 t) (iblk m c 1 t)) y
      = acc y + if (y 0).val < 1 then ∑ x : Fin 512, dgPart m c (rowOf t x) (y 1) else 0 := by
  idx_vars y
  pointwise [k0_pay1, k0_pay8, k0_pay9, k0_pay6, k0_pay5, k0_pay4, k0_pay3]
  simp only [rd0, rd1]
  refine congrArg (acc (ix2 y0 y1) + ·) ?_
  by_cases h0 : y0.val < 1
  · rw [dif_pos h0]; exact (if_pos h0).symm
  · rw [dif_neg h0]; exact (if_neg h0).symm

theorem zero_at (y : S8x1024.Idx) : k0_pay2 (F := Ideal) y = 0 := by pointwise [k0_pay2]

/-- The scale's gradient: row `0` holds the sum over all rows, the rest is zero. -/
theorem final5 (c : Dev nD) : (dats m 0 c).arrAt 5 (cfgs 0).N = fun j : S8x1024.Idx =>
    if (j 0).val < 1 then ∑ a : Fin 2, ∑ b : Fin 4096, dgPart m c ⟨a.val * 4096 + b.val, by omega⟩ (j 1) else 0 := by
  refine (dats m 0 c).arrAt_eq_of_covers 5 _ (by decide +kernel) fun t hf y => ?_
  have e1 : (((View.whole main_v4_1).slice (win0_5.rect t)).emb y) 1 = y 1 := by
    refine Fin.ext ?_; blk_simp [idx t]
  blk_simp
  rw [after0_5, Pipeline.eq_sum_fin_of_reset_step_apply_of_flush (fun n h => (outsAt0 m c n h).2) 16 (fun _ => 0)
    (fun p j => if (j 0).val < 1 then ∑ x : Fin 512, dgPart m c (rowOf p x) (j 1) else 0)
    (fun t h j => by rw [outsAt0_A m c t h]; frame_out; rw [pay1_at, zero_at])
    (fun t h j => by rw [outsAt0_B m c t h]; frame_out; rw [pay1_at])
    t ((flush0_5 t).mp hf) _, zero_add]
  have hq : t.val / 16 = 0 := by have := lt16 t; omega
  rw [show win0_5.index t 0 = 0 from congrFun (idx t).2.2.2.2.2 0]
  simp only [e1, Nat.zero_mul, Nat.zero_add]
  split_ifs with h0
  · refine sum_rows _ (fun i => dgPart m c i (y 1)) fun s x => congrArg (fun i => dgPart m c i (y 1)) (Fin.ext ?_)
    show (16 * (t.val / 16) + s.val) * 512 + x.val = s.val * 512 + x.val
    rw [hq]; omega
  · exact Finset.sum_const_zero (M := EReal)

end Cert.NormBwdIdeal.Value

end
-- ==== Proof.NormClaim.lean ====
/- The normalisation's backward call against `jax.vjp` of the normalisation: from finite arguments, the same two arrays. -/
module

public import proofs.«01_k».proof.Proof.NormValue
public import proofs.«01_k».proof.Proof.Gen.NormBwdIdeal.Value
public import proofs.«01_k».proof.Proof.Gen.NormBwdRefIdeal.Run
public import proofs.«01_k».proof.Proof.Gen.Pre_finite_norm
public import proofs.«01_k».proof.Defs
public import Idealize.ShloMosaic.Lib.Quiescent

@[expose] public section

set_option maxRecDepth 16384

noncomputable section

open Idealize.ShloMosaic Idealize.ShloMosaic.TcCoe Idealize.SL.Sem

namespace Cert.NormBwdIdeal.Value
open Cert.NormBwdIdeal Cert.NormBwdIdeal.Gen Cert.Rows

/-- The precondition, argument by argument: the input, the cotangent and the scale hold real numbers. -/
theorem real_args (m : (ℓ : Loc nD τ sig) → Buf (Elt Ideal) ℓ) (hpre : Pre_NormBwdIdeal_finite_norm m) (c : Dev nD) :
    (∃ x : S2x4096x1024.Idx → ℝ, m ((c : Thread nD τ).loc main_arg0) = fun i => (x i : EReal))
    ∧ (∃ d : S2x4096x1024.Idx → ℝ, m ((c : Thread nD τ).loc main_arg1) = fun i => (d i : EReal))
    ∧ (∃ g : S1024.Idx → ℝ, m ((c : Thread nD τ).loc main_arg2) = fun i => (g i : EReal)) := by
  have h := hpre c
  exact ⟨exists_real_of_cmpf _ h.1, exists_real_of_cmpf _ h.2.1, exists_real_of_cmpf _ h.2.2⟩

/-- The reference runs, leaves its arguments as they were, and has no counter. -/
theorem refFrame : Cert.quiescent_NormBwdRefIdeal := fun m ρ _ =>
  (θ_run _ _ _).mono (fun r h => ⟨fun c => (h c).2.2, sem_eq_zero_of_no_sems (by decide) r.2⟩) (Cert.NormBwdRefIdeal.Value.run m ρ)

set_option maxHeartbeats 1600000 in
theorem normBwd : Cert.algebraic_NormBwdIdeal_NormBwdRefIdeal_pre_finite_norm := by
  pair_intro
  · run_from Cert.NormBwdIdeal.Gen.run_main m g
  · hlo_run
    · rw [final4]
      funext j
      pointwise
      have h := real_args m hpre c
      have e := dx_eq (real_row h.1 (j 0)) (real_mul (real_row h.2.1 (j 0)) h.2.2) (rowAt (m ((c : Thread nD τ).loc main_arg3)) (j 0) (j 1)) (j 1)
      simp only [corr, rstd, meanSq, rowAt] at e ⊢
      exact e
    · rw [final5]
      funext j
      simp only [StableHlo.TRef.toBuf, StableHlo.TRef.ofBuf, cast_eq]
      pointwise
      simp only [Finset.univ_unique, Finset.sum_singleton, dgPart, rowAt_mk]
      by_cases h0 : (j 0).val < 1
      · rw [dif_pos h0]
        refine Eq.trans ?_ (if_pos h0).symm
        exact dg_eq _ _ (j 1)
      · rw [dif_neg h0]
        refine Eq.trans ?_ (if_neg h0).symm
        simp [FloatOps.sitofp]

end Cert.NormBwdIdeal.Value

end
-- ==== Proof.LossValue.lean ====
/- The three results of the loss head, as closed forms of its arguments: the gradient of each row, the gradient of the last scale
   vector and the loss, each as one sum over all rows. -/
module

public import proofs.«01_k».proof.Proof.Rows
public import proofs.«01_k».proof.Proof.Gen.LossHeadIdeal.Frame
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHeadIdeal.Value
open Cert.LossHeadIdeal Cert.LossHeadIdeal.Gen Cert.Rows

/-- The error of a row: the normalised and scaled row less its target. -/
def errRow (x g t : Fin 1024 → EReal) (k : Fin 1024) : EReal := x k * rstd x * g k - t k

/-- The error's cotangent: the error over the length of the row. -/
def dyRow (x g t : Fin 1024 → EReal) (k : Fin 1024) : EReal := errRow x g t k * Ideal.ofBits .f32 0x3A800000#32

/-- The mean squared error of a row. -/
def msRow (x g t : Fin 1024 → EReal) : EReal := Ideal.div (∑ k, errRow x g t k * errRow x g t k) (Ideal.ofBits .f32 0x44800000#32)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

theorem lt16 (t : Fin cfg0.N) : t.val < 16 := lt_of_lt_of_eq t.isLt (by decide +kernel)

/-- The row that point `t` keeps at position `y` of its block. -/
def rowOf (t : Fin cfg0.N) (y : Fin 512) : Fin 8192 := ⟨t.val * 512 + y.val, by have := lt16 t; omega⟩

/-- Row `i` of the input, of the target, and the scale vector. -/
def xRow (c : Dev nD) (i : Fin 8192) : Fin 1024 → EReal := rowAt (m ((c : Thread nD τ).loc main_arg0)) i
def tRow (c : Dev nD) (i : Fin 8192) : Fin 1024 → EReal := rowAt (m ((c : Thread nD τ).loc main_arg1)) i
def gRow (c : Dev nD) (k : Fin 1024) : EReal := m ((c : Thread nD τ).loc main_arg2) (ix1 k)

theorem rd0 (c : Dev nD) (t : Fin cfg0.N) (y : Fin 512) (k : Fin 1024) : iblk m c 0 t (ix2 y k) = xRow m c (rowOf t y) k := by
  blk_simp [iblk]; entry_read; pointwise; blk_ext [idx t, rowOf, rowAt, xRow]

theorem rd1 (c : Dev nD) (t : Fin cfg0.N) (y : Fin 512) (k : Fin 1024) : iblk m c 1 t (ix2 y k) = tRow m c (rowOf t y) k := by
  blk_simp [iblk]; entry_read; pointwise; blk_ext [idx t, rowOf, rowAt, tRow]

theorem rd2 (c : Dev nD) (t : Fin cfg0.N) (y : Fin 1) (k : Fin 1024) : iblk m c 2 t (ix2 y k) = gRow m c k := by
  blk_simp [iblk]; entry_read; pointwise; blk_ext [idx t, gRow]

/-- What the body stores into the row gradient's block, at one entry. -/
theorem dx_at (c : Dev nD) (t : Fin cfg0.N) (y : S512x1024.Idx) :
    k0_pay10 (F := Ideal) (iblk m c 0 t) (iblk m c 2 t) (iblk m c 1 t) (iblk m c 2 t) y
      = dxRow (xRow m c (rowOf t (y 0))) (fun k => dyRow (xRow m c (rowOf t (y 0))) (gRow m c) (tRow m c (rowOf t (y 0))) k * gRow m c k) (y 1) := by
  idx_vars y
  pointwise [k0_pay10, k0_pay9, k0_pay8, k0_pay7, k0_pay6, k0_pay5]
  simp only [rd0, rd1, rd2, dxRow, dyRow, errRow, rstd, meanSq]

/-- One row's part of the scale's gradient. -/
def dgPart (c : Dev nD) (i : Fin 8192) (k : Fin 1024) : EReal :=
  dyRow (xRow m c i) (gRow m c) (tRow m c i) k * (xRow m c i k * rstd (xRow m c i))

/-- One step of the running sum over the rows, of any two blocks. -/
theorem pay1_at (v w : FVec Ideal S512x1024 .f32) (acc : FVec Ideal S8x1024 .f32) (y : S8x1024.Idx) :
    k0_pay1 (F := Ideal) v w acc y = acc y + if (y 0).val < 1 then ∑ x : Fin 512, w (ix2 x (y 1)) * v (ix2 x (y 1)) else 0 := by
  idx_vars y
  pointwise [k0_pay1]
  refine congrArg (acc (ix2 y0 y1) + ·) ?_
  by_cases h0 : y0.val < 1
  · rw [dif_pos h0]; exact (if_pos h0).symm
  · rw [dif_neg h0]; exact (if_neg h0).symm

theorem xh_at (c : Dev nD) (t : Fin cfg0.N) (y : Fin 512) (k : Fin 1024) :
    k0_pay7 (F := Ideal) (iblk m c 0 t) (ix2 y k) = xRow m c (rowOf t y) k * rstd (xRow m c (rowOf t y)) := by
  pointwise [k0_pay7, k0_pay6, k0_pay5]
  simp only [rd0, rstd, meanSq]

theorem dy_at (c : Dev nD) (t : Fin cfg0.N) (y : Fin 512) (k : Fin 1024) :
    k0_pay9 (F := Ideal) (iblk m c 0 t) (iblk m c 2 t) (iblk m c 1 t) (ix2 y k)
      = dyRow (xRow m c (rowOf t y)) (gRow m c) (tRow m c (rowOf t y)) k := by
  pointwise [k0_pay9, k0_pay8, k0_pay7, k0_pay6, k0_pay5]
  simp only [rd0, rd1, rd2, dyRow, errRow, rstd, meanSq]

theorem dg_at (c : Dev nD) (t : Fin cfg0.N) (acc : FVec Ideal S8x1024 .f32) (y : S8x1024.Idx) :
    k0_pay1 (F := Ideal) (k0_pay7 (iblk m c 0 t)) (k0_pay9 (iblk m c 0 t) (iblk m c 2 t) (iblk m c 1 t)) acc y
      = acc y + if (y 0).val < 1 then ∑ x : Fin 512, dgPart m c (rowOf t x) (y 1) else 0 := by
  rw [pay1_at]
  refine congrArg (acc y + ·) (if_congr Iff.rfl (Finset.sum_congr rfl fun x _ => ?_) rfl)
  rw [dy_at m c t x (y 1), xh_at m c t x (y 1)]
  rfl

/-- One row's mean squared error. -/
def msPart (c : Dev nD) (i : Fin 8192) : EReal := msRow (xRow m c i) (gRow m c) (tRow m c i)

theorem loss_at (c : Dev nD) (t : Fin cfg0.N) (acc : FVec Ideal S8x128 .f32) (y : S8x128.Idx) :
    k0_pay2 (F := Ideal) (k0_pay8 (iblk m c 0 t) (iblk m c 2 t) (iblk m c 1 t)) acc y
      = acc y + Ideal.ofBits .f32 0x3F000000#32 * ∑ x : Fin 512, msPart m c (rowOf t x) := by
  idx_vars y
  pointwise [k0_pay2, k0_pay8, k0_pay7, k0_pay6, k0_pay5]
  simp only [rd0, rd1, rd2, msPart, msRow, errRow, rstd, meanSq]

theorem zero_dg (y : S8x1024.Idx) : k0_pay3 (F := Ideal) y = 0 := by pointwise [k0_pay3]
theorem zero_loss (y : S8x128.Idx) : k0_pay4 (F := Ideal) y = 0 := by pointwise [k0_pay4]

/-- The row gradient. -/
theorem final3 (c : Dev nD) : (dats m 0 c).arrAt 3 (cfgs 0).N = fun j : S8192x1024.Idx =>
    dxRow (xRow m c (j 0)) (fun k => dyRow (xRow m c (j 0)) (gRow m c) (tRow m c (j 0)) k * gRow m c k) (j 1) := by
  refine (dats m 0 c).arrAt_eq_of_covers 3 _ (by decide +kernel) fun t _ y => ?_
  blk_simp
  rw [after0_3]
  have e0 : (((View.whole main_v3_0).slice (win0_3.rect t)).emb y) 0 = rowOf t (y 0) := by
    refine Fin.ext ?_; blk_simp [idx t, rowOf]
  have e1 : (((View.whole main_v3_0).slice (win0_3.rect t)).emb y) 1 = y 1 := by
    refine Fin.ext ?_; blk_simp [idx t]
  by_cases h : t.val % 16 = 0
  · rw [outsAt0_A m c t h]; frame_out
    rw [dx_at]
    simp only [e0, e1]
  · rw [outsAt0_B m c t h]; frame_out
    rw [dx_at]
    simp only [e0, e1]

/-- The scale's gradient: row `0` holds the sum over all rows, the rest is zero. -/
theorem final4 (c : Dev nD) : (dats m 0 c).arrAt 4 (cfgs 0).N = fun j : S8x1024.Idx =>
    if (j 0).val < 1 then ∑ a : Fin 2, ∑ b : Fin 4096, dgPart m c ⟨a.val * 4096 + b.val, by omega⟩ (j 1) else 0 := by
  refine (dats m 0 c).arrAt_eq_of_covers 4 _ (by decide +kernel) fun t hf y => ?_
  have e1 : (((View.whole main_v3_1).slice (win0_4.rect t)).emb y) 1 = y 1 := by
    refine Fin.ext ?_; blk_simp [idx t]
  blk_simp
  rw [after0_4, Pipeline.eq_sum_fin_of_reset_step_apply_of_flush (fun n h => (outsAt0 m c n h).2.1) 16 (fun _ => 0)
    (fun p j => if (j 0).val < 1 then ∑ x : Fin 512, dgPart m c (rowOf p x) (j 1) else 0)
    (fun t h j => by rw [outsAt0_A m c t h]; frame_out; rw [dg_at, zero_dg])
    (fun t h j => by rw [outsAt0_B m c t h]; frame_out; rw [dg_at])
    t ((flush0_4 t).mp hf) _, zero_add]
  have hq : t.val / 16 = 0 := by have := lt16 t; omega
  rw [show win0_4.index t 0 = 0 from congrFun (idx t).2.2.2.2.1 0]
  simp only [e1, Nat.zero_mul, Nat.zero_add]
  split_ifs with h0
  · refine sum_rows _ (fun i => dgPart m c i (y 1)) fun s x => congrArg (fun i => dgPart m c i (y 1)) (Fin.ext ?_)
    show (16 * (t.val / 16) + s.val) * 512 + x.val = s.val * 512 + x.val
    rw [hq]; omega
  · exact Finset.sum_const_zero (M := EReal)

/-- The loss, in every entry of its block: half the sum of the rows' mean squared errors. -/
theorem final5 (c : Dev nD) : (dats m 0 c).arrAt 5 (cfgs 0).N = fun _ : S8x128.Idx =>
    Ideal.ofBits .f32 0x3F000000#32 * ∑ a : Fin 2, ∑ b : Fin 4096, msPart m c ⟨a.val * 4096 + b.val, by omega⟩ := by
  refine (dats m 0 c).arrAt_eq_of_covers 5 _ (by decide +kernel) fun t hf y => ?_
  blk_simp
  rw [after0_5, Pipeline.eq_sum_fin_of_reset_step_apply_of_flush (fun n h => (outsAt0 m c n h).2.2) 16 (fun _ => 0)
    (fun p j => Ideal.ofBits .f32 0x3F000000#32 * ∑ x : Fin 512, msPart m c (rowOf p x))
    (fun t h j => by rw [outsAt0_A m c t h]; frame_out; rw [loss_at, zero_loss])
    (fun t h j => by rw [outsAt0_B m c t h]; frame_out; rw [loss_at])
    t ((flush0_5 t).mp hf) _, zero_add, Ideal.ofBits_half, ← Ideal.mul_sum_of_pos (by norm_num)]
  have hq : t.val / 16 = 0 := by have := lt16 t; omega
  refine congrArg (((1 / 2 : ℝ) : EReal) * ·) (sum_rows _ (fun i => msPart m c i) fun s x => congrArg (fun i => msPart m c i) (Fin.ext ?_))
  show (16 * (t.val / 16) + s.val) * 512 + x.val = s.val * 512 + x.val
  rw [hq]; omega

end Cert.LossHeadIdeal.Value

end
-- ==== Proof.LossClaim.lean ====
/- The loss head against the value and gradient of the loss: from finite arguments, the same three arrays. -/
module

public import proofs.«01_k».proof.Proof.LossValue
public import proofs.«01_k».proof.Proof.Gen.LossHeadIdeal.Value
public import proofs.«01_k».proof.Proof.Gen.LossHeadRefIdeal.Run
public import proofs.«01_k».proof.Proof.Gen.Pre_finite_loss
public import proofs.«01_k».proof.Defs
public import Idealize.ShloMosaic.Lib.Quiescent

@[expose] public section

set_option maxRecDepth 16384

noncomputable section

open Idealize.ShloMosaic Idealize.ShloMosaic.TcCoe Idealize.SL.Sem

namespace Cert.LossHeadIdeal.Value
open Cert.LossHeadIdeal Cert.LossHeadIdeal.Gen Cert.Rows

/-- The reference's cotangent of an error, twice the error times half over the length, is the error over the length. -/
theorem cot_eq (e : EReal) : Ideal.div (Ideal.ofBits .f32 0x3F000000#32) (Ideal.ofBits .f32 0x44800000#32)
    * (Ideal.ofBits .f32 0x40000000#32 * e) = e * Ideal.ofBits .f32 0x3A800000#32 := by
  rw [Ideal.ofBits_half, Ideal.ofBits_1024, Ideal.ofBits_two, Ideal.ofBits_inv_1024, Ideal.div_coe_coe, ← mul_assoc, ← EReal.coe_mul, mul_comm] <;> norm_num

/-- The scale's gradient, of any arrays. -/
theorem dgSum_eq (X T : (⟨3, ![2, 4096, 1024]⟩ : Shape).Idx → EReal) (g : Fin 1024 → EReal) (k : Fin 1024) :
    ∑ a, ∑ b, X (ix3 a b k) * rstd (fun l => X (ix3 a b l)) * (Ideal.div (Ideal.ofBits .f32 0x3F000000#32) (Ideal.ofBits .f32 0x44800000#32)
        * (Ideal.ofBits .f32 0x40000000#32 * errRow (fun l => X (ix3 a b l)) g (fun l => T (ix3 a b l)) k))
      = ∑ a, ∑ b, dyRow (fun l => X (ix3 a b l)) g (fun l => T (ix3 a b l)) k * (X (ix3 a b k) * rstd fun l => X (ix3 a b l)) := by
  simp only [cot_eq, mul_comm (X _ * _), dyRow]

/-- The error's cotangent of a real row is real. -/
theorem real_dy {x g t : Fin 1024 → EReal} (hx : ∃ r : Fin 1024 → ℝ, x = fun k => (r k : EReal)) (hg : ∃ r : Fin 1024 → ℝ, g = fun k => (r k : EReal))
    (ht : ∃ r : Fin 1024 → ℝ, t = fun k => (r k : EReal)) : ∃ r : Fin 1024 → ℝ, (fun k => dyRow x g t k * g k) = fun k => (r k : EReal) := by
  obtain ⟨x, rfl⟩ := hx
  obtain ⟨g, rfl⟩ := hg
  obtain ⟨t, rfl⟩ := ht
  obtain ⟨q, hq⟩ := rstd_coe x
  refine ⟨fun k => (x k * q * g k - t k) * (1 / 1024) * g k, funext fun k => ?_⟩
  simp only [dyRow, errRow, hq, Ideal.ofBits_inv_1024, ← EReal.coe_mul, ← EReal.coe_sub]

/-- The precondition, argument by argument: the input, the target and the scale hold real numbers. -/
theorem real_args (m : (ℓ : Loc nD τ sig) → Buf (Elt Ideal) ℓ) (hpre : Pre_LossHeadIdeal_finite_loss m) (c : Dev nD) :
    (∃ x : S2x4096x1024.Idx → ℝ, m ((c : Thread nD τ).loc main_arg0) = fun i => (x i : EReal))
    ∧ (∃ d : S2x4096x1024.Idx → ℝ, m ((c : Thread nD τ).loc main_arg1) = fun i => (d i : EReal))
    ∧ (∃ g : S1024.Idx → ℝ, m ((c : Thread nD τ).loc main_arg2) = fun i => (g i : EReal)) := by
  have h := hpre c
  exact ⟨exists_real_of_cmpf _ h.1, exists_real_of_cmpf _ h.2.1, exists_real_of_cmpf _ h.2.2⟩

/-- The cotangent of the normalised row is real. -/
theorem real_cot (m : (ℓ : Loc nD τ sig) → Buf (Elt Ideal) ℓ) (hpre : Pre_LossHeadIdeal_finite_loss m) (c : Dev nD) (i : Fin 8192) :
    ∃ r : Fin 1024 → ℝ, (fun k => dyRow (xRow m c i) (gRow m c) (tRow m c i) k * gRow m c k) = fun k => (r k : EReal) := by
  obtain ⟨hx, ht, g, hg⟩ := real_args m hpre c
  exact real_dy (real_row hx i) ⟨fun k => g (ix1 k), funext fun k => congrFun hg (ix1 k)⟩ (real_row ht i)

/-- The reference runs, leaves its arguments as they were, and has no counter. -/
theorem refFrame : Cert.quiescent_LossHeadRefIdeal := fun m ρ _ =>
  (θ_run _ _ _).mono (fun r h => ⟨fun c => (h c).2.2.2, sem_eq_zero_of_no_sems (by decide) r.2⟩) (Cert.LossHeadRefIdeal.Value.run m ρ)

set_option maxHeartbeats 1600000 in
theorem lossHead : Cert.algebraic_LossHeadIdeal_LossHeadRefIdeal_pre_finite_loss := by
  pair_intro
  · run_from Cert.LossHeadIdeal.Gen.run_main m g
  · hlo_run
    · rw [final3]
      funext j
      pointwise
      have e := dx_eq (real_row (real_args m hpre c).1 (j 0)) (real_cot m hpre c (j 0)) 0 (j 1)
      rw [zero_add, add_zero] at e
      simp only [corr, rstd, meanSq, rowAt, dyRow, errRow, xRow, tRow, gRow] at e
      simp only [corr, rstd, meanSq, rowAt, dyRow, errRow, xRow, tRow, gRow, cot_eq]
      exact e
    · rw [final4]
      funext j
      simp only [StableHlo.TRef.toBuf, StableHlo.TRef.ofBuf, cast_eq]
      pointwise
      simp only [Finset.univ_unique, Finset.sum_singleton, dgPart, xRow, tRow, rowAt_mk]
      by_cases h0 : (j 0).val < 1
      · rw [dif_pos h0]
        refine Eq.trans ?_ (if_pos h0).symm
        have e := dgSum_eq (m ((c : Thread nD τ).loc main_arg0)) (m ((c : Thread nD τ).loc main_arg1)) (gRow m c) (j 1)
        simp only [rstd, meanSq, dyRow, errRow, gRow] at e ⊢
        exact e
      · rw [dif_neg h0]
        refine Eq.trans ?_ (if_neg h0).symm
        simp [FloatOps.sitofp]
    · rw [final5]
      funext j
      pointwise
      simp only [msPart, msRow, errRow, xRow, tRow, gRow, rowAt_mk, rstd, meanSq]

end Cert.LossHeadIdeal.Value

end
-- ==== Proof.Cols.lean ====
/- The column order of the kernels' projection: its five parts laid side by side. -/
module

public import proofs.«01_k».proof.Proof.Reals

@[expose] public section

set_option maxRecDepth 16384

noncomputable section

open Idealize.ShloMosaic

namespace Cert.Cols

abbrev W (n : ℕ) : Shape := ⟨3, ![2, 4096, n]⟩

theorem cols_at {α : Type} (x0 : (W 4096).Idx → α) (x1 : (W 1536).Idx → α) (x2 : (W 4608).Idx → α) (x3 : (W 16).Idx → α) (x4 : (W 112).Idx → α)
    (h : Shape.Concatenates [W 4096, W 1536, W 4608, W 16, W 112] (W 10368) 2) (b : Fin 2) (s : Fin 4096) (x : Fin 10368) :
    concatenate (W 10368) 2 [⟨W 4096, x0⟩, ⟨W 1536, x1⟩, ⟨W 4608, x2⟩, ⟨W 16, x3⟩, ⟨W 112, x4⟩] h (ix3 b s x)
      = if h0 : x.val < 4096 then x0 (ix3 b s ⟨x.val, h0⟩)
        else if h1 : x.val - 4096 < 1536 then x1 (ix3 b s ⟨x.val - 4096, h1⟩)
        else if h2 : x.val - 4096 - 1536 < 4608 then x2 (ix3 b s ⟨x.val - 4096 - 1536, h2⟩)
        else if h3 : x.val - 4096 - 1536 - 4608 < 16 then x3 (ix3 b s ⟨x.val - 4096 - 1536 - 4608, h3⟩)
        else x4 (ix3 b s ⟨x.val - 4096 - 1536 - 4608 - 16, by omega⟩) := by
  pointwise

variable {α : Type} (x0 : (W 4096).Idx → α) (x1 : (W 1536).Idx → α) (x2 : (W 4608).Idx → α) (x3 : (W 16).Idx → α) (x4 : (W 112).Idx → α)
    (h : Shape.Concatenates [W 4096, W 1536, W 4608, W 16, W 112] (W 10368) 2) (b : Fin 2) (s : Fin 4096) (x : Fin 10368)

/-- A column of the first, second and third part. -/
theorem cols0_at (k : Fin 4096) (hx : x.val = k.val) :
    concatenate (W 10368) 2 [⟨W 4096, x0⟩, ⟨W 1536, x1⟩, ⟨W 4608, x2⟩, ⟨W 16, x3⟩, ⟨W 112, x4⟩] h (ix3 b s x) = x0 (ix3 b s k) :=
  (cols_at x0 x1 x2 x3 x4 h b s x).trans ((dif_pos (by omega)).trans (congrArg (fun k => x0 (ix3 b s k)) (Fin.ext (by simpa using hx))))
theorem cols1_at (k : Fin 1536) (hx : x.val = 4096 + k.val) :
    concatenate (W 10368) 2 [⟨W 4096, x0⟩, ⟨W 1536, x1⟩, ⟨W 4608, x2⟩, ⟨W 16, x3⟩, ⟨W 112, x4⟩] h (ix3 b s x) = x1 (ix3 b s k) :=
  (cols_at x0 x1 x2 x3 x4 h b s x).trans ((dif_neg (by omega)).trans ((dif_pos (by omega)).trans
    (congrArg (fun k => x1 (ix3 b s k)) (Fin.ext (by show x.val - 4096 = k.val; omega)))))
theorem cols2_at (k : Fin 4608) (hx : x.val = 5632 + k.val) :
    concatenate (W 10368) 2 [⟨W 4096, x0⟩, ⟨W 1536, x1⟩, ⟨W 4608, x2⟩, ⟨W 16, x3⟩, ⟨W 112, x4⟩] h (ix3 b s x) = x2 (ix3 b s k) :=
  (cols_at x0 x1 x2 x3 x4 h b s x).trans ((dif_neg (by omega)).trans ((dif_neg (by omega)).trans ((dif_pos (by omega)).trans
    (congrArg (fun k => x2 (ix3 b s k)) (Fin.ext (by show x.val - 4096 - 1536 = k.val; omega))))))

end Cert.Cols

end
-- ==== Proof.MergeValue.lean ====
/- The six results of the gated merge's backward call, as closed forms of its arguments. -/
module

public import proofs.«01_k».proof.Proof.Cols
public import proofs.«01_k».proof.Proof.Gen.MergeBwdIdeal.Frame
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeBwdIdeal.Value
open Cert.MergeBwdIdeal Cert.MergeBwdIdeal.Gen

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![t.val / 16, t.val % 16, 7] ∧ win0_5.index t = ![t.val / 16, t.val % 16, 8] ∧ win0_6.index t = ![t.val / 16, t.val % 16, 9]
    ∧ win0_7.index t = ![0, 0] ∧ win0_8.index t = ![0, 0] ∧ win0_9.index t = ![0, 0] ∧ win0_10.index t = ![0, 0]
    ∧ win0_11.index t = ![t.val / 16, t.val % 16, 0] ∧ win0_12.index t = ![t.val / 16, t.val % 16, 0] ∧ win0_13.index t = ![t.val / 16, t.val % 16, 0]
    ∧ win0_14.index t = ![t.val / 16, t.val % 16, 0] ∧ win0_15.index t = ![t.val / 16, t.val % 16, 0] ∧ win0_16.index t = ![t.val / 16, t.val % 16, 0] :=
  (by decide +kernel : ∀ t : Fin grid0.N, _)

theorem lt32 (t : Fin cfg0.N) : t.val < 32 := lt_of_lt_of_eq t.isLt (by decide +kernel)

/-- The batch of point `t`, and the position in the sequence of its row `y`. -/
def bat (t : Fin cfg0.N) : Fin 2 := ⟨t.val / 16, by have := lt32 t; omega⟩
def pos (t : Fin cfg0.N) (y : Fin 256) : Fin 4096 := ⟨t.val % 16 * 256 + y.val, by omega⟩

/-- The arguments: the cotangent, the three branches, the projection, the four weights. -/
def dO (c : Dev nD) : S2x4096x1024.Idx → EReal := m ((c : Thread nD τ).loc main_arg0)
def yA (c : Dev nD) : S2x4096x512.Idx → EReal := m ((c : Thread nD τ).loc main_arg1)
def yB (c : Dev nD) : S2x4096x1024.Idx → EReal := m ((c : Thread nD τ).loc main_arg2)
def yC (c : Dev nD) : S2x4096x512.Idx → EReal := m ((c : Thread nD τ).loc main_arg3)
def pr (c : Dev nD) : S2x4096x10256.Idx → EReal := m ((c : Thread nD τ).loc main_arg4)
def wA (c : Dev nD) : S512x1024.Idx → EReal := m ((c : Thread nD τ).loc main_arg5)
def wB (c : Dev nD) : S1024x1024.Idx → EReal := m ((c : Thread nD τ).loc main_arg6)
def wC (c : Dev nD) : S512x1024.Idx → EReal := m ((c : Thread nD τ).loc main_arg7)
def wO (c : Dev nD) : S1024x1024.Idx → EReal := m ((c : Thread nD τ).loc main_arg8)

theorem rd0 (c : Dev nD) (t : Fin cfg0.N) (u : Fin 1) (y : Fin 256) (k : Fin 1024) : iblk m c 0 t (ix3 u y k) = dO m c (ix3 (bat t) (pos t y) k) := by
  blk_simp [iblk]; entry_read; pointwise; blk_ext [idx t, bat, pos, dO]
theorem rd1 (c : Dev nD) (t : Fin cfg0.N) (u : Fin 1) (y : Fin 256) (k : Fin 512) : iblk m c 1 t (ix3 u y k) = yA m c (ix3 (bat t) (pos t y) k) := by
  blk_simp [iblk]; entry_read; pointwise; blk_ext [idx t, bat, pos, yA]
theorem rd2 (c : Dev nD) (t : Fin cfg0.N) (u : Fin 1) (y : Fin 256) (k : Fin 1024) : iblk m c 2 t (ix3 u y k) = yB m c (ix3 (bat t) (pos t y) k) := by
  blk_simp [iblk]; entry_read; pointwise; blk_ext [idx t, bat, pos, yB]
theorem rd3 (c : Dev nD) (t : Fin cfg0.N) (u : Fin 1) (y : Fin 256) (k : Fin 512) : iblk m c 3 t (ix3 u y k) = yC m c (ix3 (bat t) (pos t y) k) := by
  blk_simp [iblk]; entry_read; pointwise; blk_ext [idx t, bat, pos, yC]
theorem rd7 (c : Dev nD) (t : Fin cfg0.N) (q : Fin 512) (k : Fin 1024) : iblk m c 7 t (ix2 q k) = wA m c (ix2 q k) := by
  blk_simp [iblk]; entry_read; pointwise; blk_ext [idx t, wA]
theorem rd8 (c : Dev nD) (t : Fin cfg0.N) (q : Fin 1024) (k : Fin 1024) : iblk m c 8 t (ix2 q k) = wB m c (ix2 q k) := by
  blk_simp [iblk]; entry_read; pointwise; blk_ext [idx t, wB]
theorem rd9 (c : Dev nD) (t : Fin cfg0.N) (q : Fin 512) (k : Fin 1024) : iblk m c 9 t (ix2 q k) = wC m c (ix2 q k) := by
  blk_simp [iblk]; entry_read; pointwise; blk_ext [idx t, wC]
theorem rd10 (c : Dev nD) (t : Fin cfg0.N) (q : Fin 1024) (k : Fin 1024) : iblk m c 10 t (ix2 q k) = wO m c (ix2 q k) := by
  blk_simp [iblk]; entry_read; pointwise; blk_ext [idx t, wO]

/-- Column `k` of gate `n` in the projection. -/
def gcol (n : Fin 3) (k : Fin 1024) : Fin 10256 := ⟨7184 + n.val * 1024 + k.val, by omega⟩

/-- The projection's third part, where the kernel's column order puts it. -/
theorem part2_at (c : Dev nD) (b : Fin 2) (s : Fin 4096) (x : Fin 10368) (k : Fin 4608) (hx : x.val = 5632 + k.val) :
    V m c main_v8 (ix3 b s x) = V m c main_v6 (ix3 b s k) := by
  unfold V hostOps0
  simp only [StableHlo.after_cons, StableHlo.after_nil]
  after_results_simp
  refine (Cols.cols2_at _ _ _ _ _ _ b s x k hx).trans ?_
  refine congrFun (f := (HloOp.result _ _ (Proc.tc.devRef main_v6))) ?_ (ix3 b s k)
  after_results_simp

theorem gate_at (c : Dev nD) (b : Fin 2) (s : Fin 4096) (x : Fin 10368) (n : Fin 3) (k : Fin 1024) (hx : x.val = 7168 + n.val * 1024 + k.val) :
    V m c main_v8 (ix3 b s x) = pr m c (ix3 b s (gcol n k)) := by
  rw [part2_at m c b s x ⟨1536 + n.val * 1024 + k.val, by omega⟩ (by show x.val = 5632 + (1536 + n.val * 1024 + k.val); omega)]
  entry_read
  pointwise
  blk_ext [pr, gcol]

theorem rd4 (c : Dev nD) (t : Fin cfg0.N) (u : Fin 1) (y : Fin 256) (k : Fin 1024) : X0_4 m c t (ix3 u y k) = pr m c (ix3 (bat t) (pos t y) (gcol 0 k)) := by
  have h : (cfg0.win 4).moved (cfg0.grid.coords t) (ix3 u y k) = true :=
    ((cfg0.win 4).moved_iff _ _).mpr fun a => by rw [xsize0_4]; exact (ix3 u y k a).isLt
  unfold X0_4
  refine (dif_pos h).trans (Eq.trans ?_ (gate_at m c (bat t) (pos t y) ⟨7168 + k.val, by omega⟩ 0 k (by simp)))
  unfold iblk
  rw [View.read_apply, cast_eq]
  refine congrArg (V m c main_v8) ?_
  blk_ext [idx t, bat, pos]

theorem rd5 (c : Dev nD) (t : Fin cfg0.N) (u : Fin 1) (y : Fin 256) (k : Fin 1024) : X0_5 m c t (ix3 u y k) = pr m c (ix3 (bat t) (pos t y) (gcol 1 k)) := by
  have h : (cfg0.win 5).moved (cfg0.grid.coords t) (ix3 u y k) = true :=
    ((cfg0.win 5).moved_iff _ _).mpr fun a => by rw [xsize0_5]; exact (ix3 u y k a).isLt
  unfold X0_5
  refine (dif_pos h).trans (Eq.trans ?_ (gate_at m c (bat t) (pos t y) ⟨8192 + k.val, by omega⟩ 1 k (by simp)))
  unfold iblk
  rw [View.read_apply, cast_eq]
  refine congrArg (V m c main_v8) ?_
  blk_ext [idx t, bat, pos]

theorem rd6 (c : Dev nD) (t : Fin cfg0.N) (u : Fin 1) (y : Fin 256) (k : Fin 1024) : X0_6 m c t (ix3 u y k) = pr m c (ix3 (bat t) (pos t y) (gcol 2 k)) := by
  have h : (cfg0.win 6).moved (cfg0.grid.coords t) (ix3 u y k) = true :=
    ((cfg0.win 6).moved_iff _ _).mpr fun a => by rw [xsize0_6]; exact (ix3 u y k a).isLt
  unfold X0_6
  refine (dif_pos h).trans (Eq.trans ?_ (gate_at m c (bat t) (pos t y) ⟨9216 + k.val, by omega⟩ 2 k (by simp)))
  unfold iblk
  rw [View.read_apply, cast_eq]
  refine congrArg (V m c main_v8) ?_
  blk_ext [idx t, bat, pos]

/-- The three products, the gates, the merge and its cotangent. -/
def pN (c : Dev nD) (n : Fin 3) (b : Fin 2) (s : Fin 4096) (k : Fin 1024) : EReal :=
  match n with
  | 0 => ∑ q : Fin 512, yA m c (ix3 b s q) * wA m c (ix2 q k)
  | 1 => ∑ q : Fin 1024, yB m c (ix3 b s q) * wB m c (ix2 q k)
  | 2 => ∑ q : Fin 512, yC m c (ix3 b s q) * wC m c (ix2 q k)
def sg (c : Dev nD) (n : Fin 3) (b : Fin 2) (s : Fin 4096) (k : Fin 1024) : EReal := Ideal.logistic (pr m c (ix3 b s (gcol n k)))
def dm (c : Dev nD) (b : Fin 2) (s : Fin 4096) (k : Fin 1024) : EReal := ∑ l : Fin 1024, dO m c (ix3 b s l) * wO m c (ix2 k l)
def dp (c : Dev nD) (n : Fin 3) (b : Fin 2) (s : Fin 4096) (k : Fin 1024) : EReal := dm m c b s k * sg m c n b s k
def dg (c : Dev nD) (n : Fin 3) (b : Fin 2) (s : Fin 4096) (k : Fin 1024) : EReal :=
  dm m c b s k * pN m c n b s k * sg m c n b s k * (1 - sg m c n b s k)

section blocks
variable (c : Dev nD) (t : Fin cfg0.N) (y : Fin 256) (k : Fin 1024)

theorem p0_at : k0_pay15 (F := Ideal) (iblk m c 1 t) (iblk m c 7 t) (ix2 y k) = pN m c 0 (bat t) (pos t y) k := by
  pointwise [k0_pay15, k0_pay11]; simp only [rd1, rd7, pN]
theorem p1_at : k0_pay16 (F := Ideal) (iblk m c 2 t) (iblk m c 8 t) (ix2 y k) = pN m c 1 (bat t) (pos t y) k := by
  pointwise [k0_pay16, k0_pay12]; simp only [rd2, rd8, pN]
theorem p2_at : k0_pay17 (F := Ideal) (iblk m c 3 t) (iblk m c 9 t) (ix2 y k) = pN m c 2 (bat t) (pos t y) k := by
  pointwise [k0_pay17, k0_pay13]; simp only [rd3, rd9, pN]
theorem s0_at : k0_pay18 (F := Ideal) (X0_4 m c t) (ix2 y k) = sg m c 0 (bat t) (pos t y) k := by
  pointwise [k0_pay18]; simp only [rd4, sg]
theorem s1_at : k0_pay19 (F := Ideal) (k0_pay9 (X0_5 m c t)) (ix2 y k) = sg m c 1 (bat t) (pos t y) k := by
  pointwise [k0_pay19, k0_pay9]; simp only [rd5, sg]
theorem s2_at : k0_pay20 (F := Ideal) (k0_pay10 (X0_6 m c t)) (ix2 y k) = sg m c 2 (bat t) (pos t y) k := by
  pointwise [k0_pay20, k0_pay10]; simp only [rd6, sg]
theorem dm_at : k0_pay22 (F := Ideal) (k0_pay8 (iblk m c 0 t)) (k0_pay14 (iblk m c 10 t)) (ix2 y k) = dm m c (bat t) (pos t y) k := by
  pointwise [k0_pay22, k0_pay8, k0_pay14]; simp only [rd0, rd10, dm]

theorem merged_at (y : S1x256x1024.Idx) : k0_pay1 (F := Ideal) (k0_pay21 (k0_pay9 (X0_5 m c t)) (k0_pay10 (X0_6 m c t)) (k0_pay15 (iblk m c 1 t) (iblk m c 7 t))
      (k0_pay16 (iblk m c 2 t) (iblk m c 8 t)) (k0_pay17 (iblk m c 3 t) (iblk m c 9 t)) (k0_pay18 (X0_4 m c t))) y
    = sg m c 0 (bat t) (pos t (y 1)) (y 2) * pN m c 0 (bat t) (pos t (y 1)) (y 2) + sg m c 1 (bat t) (pos t (y 1)) (y 2) * pN m c 1 (bat t) (pos t (y 1)) (y 2)
      + sg m c 2 (bat t) (pos t (y 1)) (y 2) * pN m c 2 (bat t) (pos t (y 1)) (y 2) := by
  idx_vars y
  pointwise [k0_pay1, k0_pay21]
  simp only [p0_at, p1_at, p2_at, s0_at, s1_at, s2_at]

theorem dp0_at : k0_pay23 (F := Ideal) (k0_pay8 (iblk m c 0 t)) (k0_pay14 (iblk m c 10 t)) (k0_pay18 (X0_4 m c t)) (ix2 y k) = dp m c 0 (bat t) (pos t y) k := by
  pointwise [k0_pay23]; simp only [dm_at, s0_at, dp]
theorem dp1_at : k0_pay24 (F := Ideal) (k0_pay8 (iblk m c 0 t)) (k0_pay9 (X0_5 m c t)) (k0_pay14 (iblk m c 10 t)) (ix2 y k) = dp m c 1 (bat t) (pos t y) k := by
  pointwise [k0_pay24]; simp only [dm_at, s1_at, dp]
theorem dp2_at : k0_pay25 (F := Ideal) (k0_pay8 (iblk m c 0 t)) (k0_pay10 (X0_6 m c t)) (k0_pay14 (iblk m c 10 t)) (ix2 y k) = dp m c 2 (bat t) (pos t y) k := by
  pointwise [k0_pay25]; simp only [dm_at, s2_at, dp]

theorem dg0_at : k0_pay26 (F := Ideal) (k0_pay8 (iblk m c 0 t)) (k0_pay14 (iblk m c 10 t)) (k0_pay15 (iblk m c 1 t) (iblk m c 7 t)) (k0_pay18 (X0_4 m c t)) (ix2 y k)
    = dg m c 0 (bat t) (pos t y) k := by
  pointwise [k0_pay26]; simp only [dm_at, s0_at, p0_at, dg]
theorem dg1_at : k0_pay27 (F := Ideal) (k0_pay8 (iblk m c 0 t)) (k0_pay9 (X0_5 m c t)) (k0_pay14 (iblk m c 10 t)) (k0_pay16 (iblk m c 2 t) (iblk m c 8 t)) (ix2 y k)
    = dg m c 1 (bat t) (pos t y) k := by
  pointwise [k0_pay27]; simp only [dm_at, s1_at, p1_at, dg]
theorem dg2_at : k0_pay28 (F := Ideal) (k0_pay8 (iblk m c 0 t)) (k0_pay10 (X0_6 m c t)) (k0_pay14 (iblk m c 10 t)) (k0_pay17 (iblk m c 3 t) (iblk m c 9 t)) (ix2 y k)
    = dg m c 2 (bat t) (pos t y) k := by
  pointwise [k0_pay28]; simp only [dm_at, s2_at, p2_at, dg]

theorem dya_at (y : S1x256x512.Idx) : k0_pay29 (F := Ideal) (k0_pay8 (iblk m c 0 t)) (k0_pay11 (iblk m c 7 t)) (k0_pay14 (iblk m c 10 t)) (k0_pay18 (X0_4 m c t)) y
    = ∑ k : Fin 1024, dp m c 0 (bat t) (pos t (y 1)) k * wA m c (ix2 (y 2) k) := by
  idx_vars y; pointwise [k0_pay29, k0_pay11]; simp only [dp0_at, rd7]
theorem dyb_at (y : S1x256x1024.Idx) : k0_pay30 (F := Ideal) (k0_pay8 (iblk m c 0 t)) (k0_pay9 (X0_5 m c t)) (k0_pay12 (iblk m c 8 t)) (k0_pay14 (iblk m c 10 t)) y
    = ∑ k : Fin 1024, dp m c 1 (bat t) (pos t (y 1)) k * wB m c (ix2 (y 2) k) := by
  idx_vars y; pointwise [k0_pay30, k0_pay12]; simp only [dp1_at, rd8]
theorem dyc_at (y : S1x256x512.Idx) : k0_pay31 (F := Ideal) (k0_pay8 (iblk m c 0 t)) (k0_pay10 (X0_6 m c t)) (k0_pay13 (iblk m c 9 t)) (k0_pay14 (iblk m c 10 t)) y
    = ∑ k : Fin 1024, dp m c 2 (bat t) (pos t (y 1)) k * wC m c (ix2 (y 2) k) := by
  idx_vars y; pointwise [k0_pay31, k0_pay13]; simp only [dp2_at, rd9]
end blocks

end Cert.MergeBwdIdeal.Value

end
-- ==== Proof.MergeOut.lean ====
/- The six result arrays of the gated merge's backward call, from the values its grid points store. -/
module

public import proofs.«01_k».proof.Proof.MergeValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeBwdIdeal.Value
open Cert.MergeBwdIdeal Cert.MergeBwdIdeal.Gen

variable (m : (ℓ : Loc nD τ sig) → Buf (Elt Ideal) ℓ)

theorem final11 (c : Dev nD) : (dats m 0 c).arrAt 11 (cfgs 0).N = fun j : S2x4096x512.Idx =>
    ∑ k : Fin 1024, dp m c 0 (j 0) (j 1) k * wA m c (ix2 (j 2) k) := by
  refine (dats m 0 c).arrAt_eq_of_covers 11 _ (by decide +kernel) fun t _ y => ?_
  have e0 : (((View.whole main_v13_0).slice (win0_11.rect t)).emb y) 0 = bat t := by
    refine Fin.ext ?_; blk_simp [idx t, bat]
  have e1 : (((View.whole main_v13_0).slice (win0_11.rect t)).emb y) 1 = pos t (y 1) := by
    refine Fin.ext ?_; blk_simp [idx t, pos]
  have e2 : (((View.whole main_v13_0).slice (win0_11.rect t)).emb y) 2 = y 2 := by
    refine Fin.ext ?_; blk_simp [idx t]
  blk_simp
  rw [after0_11]; unfold outsAt0 out0_A_11; frame_out
  rw [dya_at]
  simp only [e0, e1, e2]

theorem final12 (c : Dev nD) : (dats m 0 c).arrAt 12 (cfgs 0).N = fun j : S2x4096x1024.Idx =>
    ∑ k : Fin 1024, dp m c 1 (j 0) (j 1) k * wB m c (ix2 (j 2) k) := by
  refine (dats m 0 c).arrAt_eq_of_covers 12 _ (by decide +kernel) fun t _ y => ?_
  have e0 : (((View.whole main_v13_1).slice (win0_12.rect t)).emb y) 0 = bat t := by
    refine Fin.ext ?_; blk_simp [idx t, bat]
  have e1 : (((View.whole main_v13_1).slice (win0_12.rect t)).emb y) 1 = pos t (y 1) := by
    refine Fin.ext ?_; blk_simp [idx t, pos]
  have e2 : (((View.whole main_v13_1).slice (win0_12.rect t)).emb y) 2 = y 2 := by
    refine Fin.ext ?_; blk_simp [idx t]
  blk_simp
  rw [after0_12]; unfold outsAt0 out0_A_12; frame_out
  rw [dyb_at]
  simp only [e0, e1, e2]

theorem final13 (c : Dev nD) : (dats m 0 c).arrAt 13 (cfgs 0).N = fun j : S2x4096x512.Idx =>
    ∑ k : Fin 1024, dp m c 2 (j 0) (j 1) k * wC m c (ix2 (j 2) k) := by
  refine (dats m 0 c).arrAt_eq_of_covers 13 _ (by decide +kernel) fun t _ y => ?_
  have e0 : (((View.whole main_v13_2).slice (win0_13.rect t)).emb y) 0 = bat t := by
    refine Fin.ext ?_; blk_simp [idx t, bat]
  have e1 : (((View.whole main_v13_2).slice (win0_13.rect t)).emb y) 1 = pos t (y 1) := by
    refine Fin.ext ?_; blk_simp [idx t, pos]
  have e2 : (((View.whole main_v13_2).slice (win0_13.rect t)).emb y) 2 = y 2 := by
    refine Fin.ext ?_; blk_simp [idx t]
  blk_simp
  rw [after0_13]; unfold outsAt0 out0_A_13; frame_out
  rw [dyc_at]
  simp only [e0, e1, e2]

theorem final15 (c : Dev nD) : (dats m 0 c).arrAt 15 (cfgs 0).N = fun j : S2x4096x1024.Idx =>
    sg m c 0 (j 0) (j 1) (j 2) * pN m c 0 (j 0) (j 1) (j 2) + sg m c 1 (j 0) (j 1) (j 2) * pN m c 1 (j 0) (j 1) (j 2)
      + sg m c 2 (j 0) (j 1) (j 2) * pN m c 2 (j 0) (j 1) (j 2) := by
  refine (dats m 0 c).arrAt_eq_of_covers 15 _ (by decide +kernel) fun t _ y => ?_
  have e0 : (((View.whole main_v13_4).slice (win0_15.rect t)).emb y) 0 = bat t := by
    refine Fin.ext ?_; blk_simp [idx t, bat]
  have e1 : (((View.whole main_v13_4).slice (win0_15.rect t)).emb y) 1 = pos t (y 1) := by
    refine Fin.ext ?_; blk_simp [idx t, pos]
  have e2 : (((View.whole main_v13_4).slice (win0_15.rect t)).emb y) 2 = y 2 := by
    refine Fin.ext ?_; blk_simp [idx t]
  blk_simp
  rw [after0_15]; unfold outsAt0 out0_A_15; frame_out
  rw [merged_at]
  simp only [e0, e1, e2]

/-- The gate a column of the three gates side by side belongs to, and its column in that gate. -/
def gt (x : Fin 3072) : Fin 3 := ⟨x.val / 1024, by omega⟩
def gk (x : Fin 3072) : Fin 1024 := ⟨x.val % 1024, by omega⟩

theorem gt_eq {x : Fin 3072} {k : Fin 1024} (n : Fin 3) (h : x.val = n.val * 1024 + k.val) : gt x = n := Fin.ext (by show x.val / 1024 = n.val; omega)
theorem gk_eq {x : Fin 3072} {k : Fin 1024} (n : Fin 3) (h : x.val = n.val * 1024 + k.val) : gk x = k := Fin.ext (by show x.val % 1024 = k.val; omega)

/-- Gate `n`'s entry at its row and column, read at the row and column of the three gates side by side. -/
theorem place (f : Fin 3 → Fin 2 → Fin 4096 → Fin 1024 → EReal) (t : Fin cfg0.N) (n : Fin 3) {y1 x1 : Fin 256} {y2 : Fin 3072} {x2 : Fin 1024}
    (h1 : y1.val = x1.val) (h2 : y2.val = n.val * 1024 + x2.val) : f n (bat t) (pos t x1) x2 = f (gt y2) (bat t) (pos t y1) (gk y2) := by
  rw [gt_eq n h2, gk_eq n h2, Fin.ext h1]

theorem final14 (c : Dev nD) : (dats m 0 c).arrAt 14 (cfgs 0).N = fun j : S2x4096x3072.Idx => dg m c (gt (j 2)) (j 0) (j 1) (gk (j 2)) := by
  refine (dats m 0 c).arrAt_eq_of_covers 14 _ (by decide +kernel) fun t _ y => ?_
  have e0 : (((View.whole main_v13_3).slice (win0_14.rect t)).emb y) 0 = bat t := by
    refine Fin.ext ?_; blk_simp [idx t, bat]
  have e1 : (((View.whole main_v13_3).slice (win0_14.rect t)).emb y) 1 = pos t (y 1) := by
    refine Fin.ext ?_; blk_simp [idx t, pos]
  have e2 : (((View.whole main_v13_3).slice (win0_14.rect t)).emb y) 2 = y 2 := by
    refine Fin.ext ?_; blk_simp [idx t]
  blk_simp
  rw [after0_14]; unfold outsAt0 out0_A_14; frame_out
  simp only [e0, e1, e2]
  canon_tiles x h
  · idx_vars x; pointwise [k0_pay6]; rw [dg2_at]; exact place (dg m c) t 2 h1 (h2.trans (by simp))
  · idx_vars x; pointwise [k0_pay4]; rw [dg1_at]; exact place (dg m c) t 1 h1 (h2.trans (by simp))
  · idx_vars x; pointwise [k0_pay2]; rw [dg0_at]; exact place (dg m c) t 0 h1 (h2.trans (by simp))

theorem final16 (c : Dev nD) : (dats m 0 c).arrAt 16 (cfgs 0).N = fun j : S2x4096x3072.Idx => dp m c (gt (j 2)) (j 0) (j 1) (gk (j 2)) := by
  refine (dats m 0 c).arrAt_eq_of_covers 16 _ (by decide +kernel) fun t _ y => ?_
  have e0 : (((View.whole main_v13_5).slice (win0_16.rect t)).emb y) 0 = bat t := by
    refine Fin.ext ?_; blk_simp [idx t, bat]
  have e1 : (((View.whole main_v13_5).slice (win0_16.rect t)).emb y) 1 = pos t (y 1) := by
    refine Fin.ext ?_; blk_simp [idx t, pos]
  have e2 : (((View.whole main_v13_5).slice (win0_16.rect t)).emb y) 2 = y 2 := by
    refine Fin.ext ?_; blk_simp [idx t]
  blk_simp
  rw [after0_16]; unfold outsAt0 out0_A_16; frame_out
  simp only [e0, e1, e2]
  canon_tiles x h
  · idx_vars x; pointwise [k0_pay7]; rw [dp2_at]; exact place (dp m c) t 2 h1 (h2.trans (by simp))
  · idx_vars x; pointwise [k0_pay5]; rw [dp1_at]; exact place (dp m c) t 1 h1 (h2.trans (by simp))
  · idx_vars x; pointwise [k0_pay3]; rw [dp0_at]; exact place (dp m c) t 0 h1 (h2.trans (by simp))

end Cert.MergeBwdIdeal.Value

end
-- ==== Proof.MergeRef.lean ====
/- The six results of the gated merge's reference, entry by entry the kernel's closed forms. -/
module

public import proofs.«01_k».proof.Proof.MergeOut
public import proofs.«01_k».proof.Proof.Gen.MergeBwdRefIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.MergeBwdIdeal.Value
open Cert.MergeBwdIdeal Cert.MergeBwdIdeal.Gen

/-- Both programs start from the same arguments. -/
def Agree (m : (ℓ : Loc nD τ sig) → Buf (Elt Ideal) ℓ) (m' : (ℓ : Loc MergeBwdRefIdeal.nD MergeBwdRefIdeal.τ MergeBwdRefIdeal.sig) → Buf (Elt Ideal) ℓ) (c : Dev nD) : Prop :=
  m' (c.tc.loc MergeBwdRefIdeal.main_arg0) = dO m c ∧ m' (c.tc.loc MergeBwdRefIdeal.main_arg1) = yA m c ∧ m' (c.tc.loc MergeBwdRefIdeal.main_arg2) = yB m c
  ∧ m' (c.tc.loc MergeBwdRefIdeal.main_arg3) = yC m c ∧ m' (c.tc.loc MergeBwdRefIdeal.main_arg4) = pr m c ∧ m' (c.tc.loc MergeBwdRefIdeal.main_arg5) = wA m c
  ∧ m' (c.tc.loc MergeBwdRefIdeal.main_arg6) = wB m c ∧ m' (c.tc.loc MergeBwdRefIdeal.main_arg7) = wC m c ∧ m' (c.tc.loc MergeBwdRefIdeal.main_arg8) = wO m c

variable {m : (ℓ : Loc nD τ sig) → Buf (Elt Ideal) ℓ} {m' : (ℓ : Loc MergeBwdRefIdeal.nD MergeBwdRefIdeal.τ MergeBwdRefIdeal.sig) → Buf (Elt Ideal) ℓ}

/-- The gate as the reference writes it. -/
theorem gate (m : (ℓ : Loc nD τ sig) → Buf (Elt Ideal) ℓ) (c : Dev nD) (b : Fin 2) (s : Fin 4096) (n : Fin 3) (k : Fin 1024) (x : Fin 10256)
    (hx : x.val = 7184 + (n.val * 1024 + k.val)) : Ideal.div 1 (1 + Ideal.exp (-pr m c (ix3 b s x))) = sg m c n b s k := by
  have e : x = gcol n k := Fin.ext (by rw [hx]; show _ = 7184 + n.val * 1024 + k.val; omega)
  rw [e]; rfl

theorem place' (f : Fin 3 → Fin 2 → Fin 4096 → Fin 1024 → EReal) {b : Fin 2} {s : Fin 4096} (n : Fin 3) {y2 : Fin 3072} {x2 : Fin 1024}
    (h2 : y2.val = n.val * 1024 + x2.val) : f n b s x2 = f (gt y2) b s (gk y2) := by
  rw [gt_eq n h2, gk_eq n h2]

/-- Of three summands, one in each slot, slot `n` holds the `n`th. -/
theorem gateSum (m : (ℓ : Loc nD τ sig) → Buf (Elt Ideal) ℓ) (c : Dev nD) (n : Fin 3) (b : Fin 2) (s : Fin 4096) (k : Fin 1024) :
    (((if n = 2 then dm m c b s k * pN m c 2 b s k else 0) + (if n = 1 then dm m c b s k * pN m c 1 b s k else 0))
      + (if n = 0 then dm m c b s k * pN m c 0 b s k else 0)) * (sg m c n b s k * (1 - sg m c n b s k)) = dg m c n b s k := by
  have h : (((if n = 2 then dm m c b s k * pN m c 2 b s k else 0) + (if n = 1 then dm m c b s k * pN m c 1 b s k else 0))
      + (if n = 0 then dm m c b s k * pN m c 0 b s k else 0)) = dm m c b s k * pN m c n b s k := by
    match n with
    | 0 => simp
    | 1 => simp
    | 2 => simp
  rw [h, dg, mul_assoc]; simp only [mul_assoc]

/-- A gate's cotangent put in its own of the three slots. -/
theorem slot0 (x : Vec Ideal MergeBwdRefIdeal.S2x4096x1024 .f32) (b : Fin 2) (s : Fin 4096) (n : Fin 3) (k : Fin 1024) :
    pad MergeBwdRefIdeal.S2x4096x3x1024 ![0, 0, 0, 0] ![0, 0, 2, 0] ![0, 0, 0, 0]
      (broadcastInDim MergeBwdRefIdeal.S2x4096x1x1024 ![0, 1, 3] MergeBwdRefIdeal.Gen.bcast_S2x4096x1024_S2x4096x1x1024_0_1_3 x)
      (constant (F := Ideal) MergeBwdRefIdeal.S_ .f32 0x00000000#32) MergeBwdRefIdeal.Gen.pads_S2x4096x1x1024_S2x4096x3x1024_000_000_020_000 MergeBwdRefIdeal.Gen.h_S_ (ix4 b s n k)
      = if n = 0 then x (ix3 b s k) else 0 := by
  pointwise
  by_cases h : n = 0
  · subst h; rfl
  · rw [dif_neg (by revert h; revert n; decide), if_neg h]

theorem slot1 (x : Vec Ideal MergeBwdRefIdeal.S2x4096x1024 .f32) (b : Fin 2) (s : Fin 4096) (n : Fin 3) (k : Fin 1024) :
    pad MergeBwdRefIdeal.S2x4096x3x1024 ![0, 0, 1, 0] ![0, 0, 1, 0] ![0, 0, 0, 0]
      (broadcastInDim MergeBwdRefIdeal.S2x4096x1x1024 ![0, 1, 3] MergeBwdRefIdeal.Gen.bcast_S2x4096x1024_S2x4096x1x1024_0_1_3 x)
      (constant (F := Ideal) MergeBwdRefIdeal.S_ .f32 0x00000000#32) MergeBwdRefIdeal.Gen.pads_S2x4096x1x1024_S2x4096x3x1024_000_000_110_000 MergeBwdRefIdeal.Gen.h_S_ (ix4 b s n k)
      = if n = 1 then x (ix3 b s k) else 0 := by
  pointwise
  by_cases h : n = 1
  · subst h; rfl
  · rw [dif_neg (by revert h; revert n; decide), if_neg h]

theorem slot2 (x : Vec Ideal MergeBwdRefIdeal.S2x4096x1024 .f32) (b : Fin 2) (s : Fin 4096) (n : Fin 3) (k : Fin 1024) :
    pad MergeBwdRefIdeal.S2x4096x3x1024 ![0, 0, 2, 0] ![0, 0, 0, 0] ![0, 0, 0, 0]
      (broadcastInDim MergeBwdRefIdeal.S2x4096x1x1024 ![0, 1, 3] MergeBwdRefIdeal.Gen.bcast_S2x4096x1024_S2x4096x1x1024_0_1_3 x)
      (constant (F := Ideal) MergeBwdRefIdeal.S_ .f32 0x00000000#32) MergeBwdRefIdeal.Gen.pads_S2x4096x1x1024_S2x4096x3x1024_000_000_200_000 MergeBwdRefIdeal.Gen.h_S_ (ix4 b s n k)
      = if n = 2 then x (ix3 b s k) else 0 := by
  pointwise
  by_cases h : n = 2
  · subst h; rfl
  · rw [dif_neg (by revert h; revert n; decide), if_neg h]

/-- Three such arrays added, the slots side by side, times a fourth array. -/
theorem slots (A B C : Vec Ideal MergeBwdRefIdeal.S2x4096x3x1024 .f32) (Y : Vec Ideal MergeBwdRefIdeal.S2x4096x3072 .f32) (j : MergeBwdRefIdeal.S2x4096x3072.Idx) :
    mulf (F := Ideal) (s := MergeBwdRefIdeal.S2x4096x3072) (φ := .f32) (shapeCast _ (addf (F := Ideal) (addf A B) C) MergeBwdRefIdeal.Gen.shapeCasts_S2x4096x3x1024_S2x4096x3072) Y j
      = (A (ix4 (j 0) (j 1) (gt (j 2)) (gk (j 2))) + B (ix4 (j 0) (j 1) (gt (j 2)) (gk (j 2))) + C (ix4 (j 0) (j 1) (gt (j 2)) (gk (j 2)))) * Y j := by
  pointwise
  rfl

set_option maxHeartbeats 1600000 in
theorem ref0 (g' : Dev MergeBwdRefIdeal.nD → PrngReg) (ha : ∀ c, Agree m m' c) :
    θ_run MergeBwdRefIdeal.defs (onTc (τ := MergeBwdRefIdeal.τ) (MergeBwdRefIdeal.main (F := Ideal))) ⟨m', fun _ => 0, g'⟩ fun r => ∀ c : Dev nD,
      r.2.mem (c.tc.loc MergeBwdRefIdeal.main_v45) = fun j : S2x4096x512.Idx =>
        ∑ k : Fin 1024, dp m c 0 (j 0) (j 1) k * wA m c (ix2 (j 2) k) := by
  refine θ_run_mono (MergeBwdRefIdeal.Value.run m' g') fun r h c => ((h c).1).trans ?_
  clear h r
  funext j
  pointwise
  simp only [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]
  refine Finset.sum_congr rfl fun x _ => ?_
  rw [gate m c (j 0) (j 1) 0 x _ (by simp)]
  exact congrArg (· * wA m c (ix2 (j 2) x)) (mul_comm _ _)

set_option maxHeartbeats 1600000 in
theorem ref1 (g' : Dev MergeBwdRefIdeal.nD → PrngReg) (ha : ∀ c, Agree m m' c) :
    θ_run MergeBwdRefIdeal.defs (onTc (τ := MergeBwdRefIdeal.τ) (MergeBwdRefIdeal.main (F := Ideal))) ⟨m', fun _ => 0, g'⟩ fun r => ∀ c : Dev nD,
      r.2.mem (c.tc.loc MergeBwdRefIdeal.main_v44) = fun j : S2x4096x1024.Idx =>
        ∑ k : Fin 1024, dp m c 1 (j 0) (j 1) k * wB m c (ix2 (j 2) k) := by
  refine θ_run_mono (MergeBwdRefIdeal.Value.run m' g') fun r h c => ((h c).2.1).trans ?_
  clear h r
  funext j
  pointwise
  simp only [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]
  refine Finset.sum_congr rfl fun x _ => ?_
  rw [gate m c (j 0) (j 1) 1 x _ (by show _ = _; simp)]
  exact congrArg (· * wB m c (ix2 (j 2) x)) (mul_comm _ _)

set_option maxHeartbeats 1600000 in
theorem ref2 (g' : Dev MergeBwdRefIdeal.nD → PrngReg) (ha : ∀ c, Agree m m' c) :
    θ_run MergeBwdRefIdeal.defs (onTc (τ := MergeBwdRefIdeal.τ) (MergeBwdRefIdeal.main (F := Ideal))) ⟨m', fun _ => 0, g'⟩ fun r => ∀ c : Dev nD,
      r.2.mem (c.tc.loc MergeBwdRefIdeal.main_v43) = fun j : S2x4096x512.Idx =>
        ∑ k : Fin 1024, dp m c 2 (j 0) (j 1) k * wC m c (ix2 (j 2) k) := by
  refine θ_run_mono (MergeBwdRefIdeal.Value.run m' g') fun r h c => ((h c).2.2.1).trans ?_
  clear h r
  funext j
  pointwise
  simp only [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]
  refine Finset.sum_congr rfl fun x _ => ?_
  rw [gate m c (j 0) (j 1) 2 x _ (by show _ = _; simp)]
  exact congrArg (· * wC m c (ix2 (j 2) x)) (mul_comm _ _)

set_option maxHeartbeats 1600000 in
theorem ref3 (g' : Dev MergeBwdRefIdeal.nD → PrngReg) (ha : ∀ c, Agree m m' c) :
    θ_run MergeBwdRefIdeal.defs (onTc (τ := MergeBwdRefIdeal.τ) (MergeBwdRefIdeal.main (F := Ideal))) ⟨m', fun _ => 0, g'⟩ fun r => ∀ c : Dev nD,
      r.2.mem (c.tc.loc MergeBwdRefIdeal.main_v46) = fun j : S2x4096x3072.Idx =>
        dg m c (gt (j 2)) (j 0) (j 1) (gk (j 2)) := by
  refine θ_run_mono (MergeBwdRefIdeal.Value.run m' g') fun r h c => ((h c).2.2.2.1).trans ?_
  clear h r
  funext j
  refine (slots _ _ _ _ j).trans ((congrArg (· * _) (congrArg₂ (· + ·) (congrArg₂ (· + ·) (slot2 _ _ _ _ _) (slot1 _ _ _ _ _)) (slot0 _ _ _ _ _))).trans ?_)
  pointwise
  simp only [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]
  rw [gate m c (j 0) (j 1) (gt (j 2)) (gk (j 2)) _ (by show 7184 + (j 2).val = 7184 + ((j 2).val / 1024 * 1024 + (j 2).val % 1024); omega)]
  exact gateSum m c (gt (j 2)) (j 0) (j 1) (gk (j 2))

set_option maxHeartbeats 1600000 in
theorem ref4 (g' : Dev MergeBwdRefIdeal.nD → PrngReg) (ha : ∀ c, Agree m m' c) :
    θ_run MergeBwdRefIdeal.defs (onTc (τ := MergeBwdRefIdeal.τ) (MergeBwdRefIdeal.main (F := Ideal))) ⟨m', fun _ => 0, g'⟩ fun r => ∀ c : Dev nD,
      r.2.mem (c.tc.loc MergeBwdRefIdeal.main_v47) = fun j : S2x4096x1024.Idx =>
        sg m c 0 (j 0) (j 1) (j 2) * pN m c 0 (j 0) (j 1) (j 2) + sg m c 1 (j 0) (j 1) (j 2) * pN m c 1 (j 0) (j 1) (j 2)
      + sg m c 2 (j 0) (j 1) (j 2) * pN m c 2 (j 0) (j 1) (j 2) := by
  refine θ_run_mono (MergeBwdRefIdeal.Value.run m' g') fun r h c => ((h c).2.2.2.2.1).trans ?_
  clear h r
  funext j
  pointwise
  simp only [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]
  rw [gate m c (j 0) (j 1) 0 (j 2) _ (by simp), gate m c (j 0) (j 1) 1 (j 2) _ (by first | (simp; done) | (simp; omega)), gate m c (j 0) (j 1) 2 (j 2) _ (by first | (simp; done) | (simp; omega))]
  rfl

set_option maxHeartbeats 1600000 in
theorem ref5 (g' : Dev MergeBwdRefIdeal.nD → PrngReg) (ha : ∀ c, Agree m m' c) :
    θ_run MergeBwdRefIdeal.defs (onTc (τ := MergeBwdRefIdeal.τ) (MergeBwdRefIdeal.main (F := Ideal))) ⟨m', fun _ => 0, g'⟩ fun r => ∀ c : Dev nD,
      r.2.mem (c.tc.loc MergeBwdRefIdeal.main_v49) = fun j : S2x4096x3072.Idx =>
        dp m c (gt (j 2)) (j 0) (j 1) (gk (j 2)) := by
  refine θ_run_mono (MergeBwdRefIdeal.Value.run m' g') fun r h c => ((h c).2.2.2.2.2.1).trans ?_
  clear h r
  funext j
  pointwise
  simp only [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]
  by_cases h0 : (j 2).val < 1024
  · rw [dif_pos h0, gate m c (j 0) (j 1) 0 ⟨(j 2).val, h0⟩ _ (by simp), mul_comm]
    exact place' (dp m c) 0 (by simp)
  rw [dif_neg h0]
  by_cases h1 : (j 2).val - 1024 < 1024
  · rw [dif_pos h1, gate m c (j 0) (j 1) 1 ⟨(j 2).val - 1024, h1⟩ _ (by simp), mul_comm]
    exact place' (dp m c) 1 (by show _ = 1 * 1024 + ((j 2).val - 1024); omega)
  · have h2 : (j 2).val < 3072 := (j 2).isLt
    rw [dif_neg h1, gate m c (j 0) (j 1) 2 ⟨(j 2).val - 1024 - 1024, by omega⟩ _ (by simp), mul_comm]
    exact place' (dp m c) 2 (by show _ = 2 * 1024 + ((j 2).val - 1024 - 1024); omega)

end Cert.MergeBwdIdeal.Value

end
-- ==== Proof.MergeClaim.lean ====
/- The gated merge's backward call against `jax.vjp` of the merge: the same six arrays, whatever the arguments. -/
module

public import proofs.«01_k».proof.Proof.MergeRef
public import proofs.«01_k».proof.Proof.Gen.MergeBwdIdeal.Value
public import proofs.«01_k».proof.Proof.Gen.MergeBwdRefIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.MergeBwdIdeal.Value
open Cert.MergeBwdIdeal Cert.MergeBwdIdeal.Gen

/-- The reference runs, leaves its arguments as they were, and has no counter. -/
theorem refFrame : Cert.quiescent_MergeBwdRefIdeal := fun m ρ _ =>
  (θ_run _ _ _).mono (fun r h => ⟨fun c => (h c).2.2.2.2.2.2, sem_eq_zero_of_no_sems (by decide) r.2⟩) (Cert.MergeBwdRefIdeal.Value.run m ρ)

theorem mergeBwd : Cert.algebraic_MergeBwdIdeal_MergeBwdRefIdeal := by
  pair_intro
  · exact run_blocks m g
  · refine θ_run_mono (θ_run_and (MergeBwdRefIdeal.Value.run m' g') (θ_run_and (ref0 g' hagree) (θ_run_and (ref1 g' hagree) (θ_run_and (ref2 g' hagree)
      (θ_run_and (ref3 g' hagree) (θ_run_and (ref4 g' hagree) (ref5 g' hagree))))))) fun r h c => ?_
    obtain ⟨h, h0, h1, h2, h3, h4, h5⟩ := h
    exact ⟨(h0 c).trans (final11 m c).symm, (h1 c).trans (final12 m c).symm, (h2 c).trans (final13 m c).symm, (h3 c).trans (final14 m c).symm,
      (h4 c).trans (final15 m c).symm, (h5 c).trans (final16 m c).symm, (h c).2.2.2.2.2.2⟩

end Cert.MergeBwdIdeal.Value

end
-- ==== Proof.Gates.lean ====
/- Scalars and rows of the spatial gate: GELU and its derivative, and the layer normalisation of a row of 512 entries. -/
module

public import proofs.«01_k».proof.Proof.Reals

@[expose] public section

noncomputable section

open Idealize.ShloMosaic

namespace Cert.Gates

/-- The f32 constants `1/2` and `√(2/π)`, and the named constants `0.044715` and `3 · 0.044715`. -/
def half : EReal := Ideal.ofBits .f32 0x3F000000#32
def kk : EReal := Ideal.ofBits .f32 0x3F4C422A#32
def c1 : EReal := ((8943 / 200000 : ℝ) : EReal)
def c3 : EReal := ((26829 / 200000 : ℝ) : EReal)
def n512 : EReal := Ideal.ofBits .f32 0x44000000#32
def eps : EReal := Ideal.ofBits .f32 0x358637BD#32

/-- The hyperbolic tangent inside GELU, GELU, and GELU's derivative. -/
def th (x : EReal) : EReal := Ideal.tanh (kk * (x + c1 * x * x * x))
def gelu (x : EReal) : EReal := half * x * (1 + th x)
def dgelu (x : EReal) : EReal := half * (1 + th x) + half * x * (1 - th x * th x) * kk * (1 + c3 * x * x)

/-- The derivative of `x · σ(x)`. -/
def dsilu (x : EReal) : EReal := Ideal.logistic x * (1 + x * (1 - Ideal.logistic x))

/-- The mean of a row, the row without it, `1 / √(variance + ε)`, and the normalised row. -/
def mean (v : Fin 512 → EReal) : EReal := Ideal.div (∑ k, v k) n512
def ctr (v : Fin 512 → EReal) (k : Fin 512) : EReal := v k - mean v
def rs (v : Fin 512 → EReal) : EReal := Ideal.rsqrt (mean (fun k => ctr v k * ctr v k) + eps)
def nrm (v : Fin 512 → EReal) (k : Fin 512) : EReal := ctr v k * rs v

/-- The gradient of the normalised row's input: `r · (e − mean e − x̂ · mean(e·x̂))`. -/
def lnB (v e : Fin 512 → EReal) (k : Fin 512) : EReal :=
  rs v * (e k - mean e - nrm v k * mean (fun l => e l * nrm v l))

/-- The group of a column (the chunk of a row), its place in the group, and back. -/
def grp (x : Fin 512) : Fin 4 := ⟨x.val / 128, by omega⟩
def wit (x : Fin 512) : Fin 128 := ⟨x.val % 128, by omega⟩
def blk (n : Fin 4) (j : Fin 128) : Fin 512 := ⟨128 * n.val + j.val, by omega⟩

theorem blk_grp (x : Fin 512) : blk (grp x) (wit x) = x := Fin.ext (by simp only [blk, grp, wit]; omega)
theorem blk_0 (j : Fin 128) : blk 0 j = ⟨j.val, by omega⟩ := Fin.ext (by simp [blk])
theorem blk_1 (j : Fin 128) : blk 1 j = ⟨128 + j.val, by omega⟩ := rfl
theorem blk_2 (j : Fin 128) : blk 2 j = ⟨256 + j.val, by omega⟩ := rfl
theorem blk_3 (j : Fin 128) : blk 3 j = ⟨384 + j.val, by omega⟩ := rfl
theorem grp_of {x : Fin 512} {n : Fin 4} (h : 128 * n.val ≤ x.val) (h' : x.val < 128 * n.val + 128) : grp x = n :=
  Fin.ext (by simp only [grp]; omega)

theorem grp_blk (n : Fin 4) (j : Fin 128) : grp (blk n j) = n := Fin.ext (by simp only [grp, blk]; omega)
theorem wit_blk (n : Fin 4) (j : Fin 128) : wit (blk n j) = j := Fin.ext (by simp only [wit, blk]; omega)

/-- The lower triangle of a group's weights. -/
def trl (W : Fin 4 → Fin 128 → Fin 128 → EReal) (n : Fin 4) (i j : Fin 128) : EReal := if j.val ≤ i.val then W n i j else 0

/- One chunk of 128 positions: the cotangent `d`, the branch's parts `u`, `v`, `z`, the scale and shift, the weights and the bias. -/
section chunk
variable (d u v z : Fin 128 → Fin 512 → EReal) (g β : Fin 512 → EReal) (W : Fin 4 → Fin 128 → Fin 128 → EReal) (bs : Fin 4 → Fin 128 → EReal)

/-- The gated half, normalised; what the weights make of it; the cotangent of that, and what the weights carry back. -/
def vS (j : Fin 128) (x : Fin 512) : EReal := nrm (fun k => gelu (v j k)) x * g x + β x
def mix (i : Fin 128) (x : Fin 512) : EReal := ∑ j, trl W (grp x) i j * vS v g β j x + bs (grp x) i
def dmx (i : Fin 128) (x : Fin 512) : EReal := d i x * gelu (u i x) * (z i x * Ideal.logistic (z i x))
def dvs (j : Fin 128) (x : Fin 512) : EReal := ∑ i, trl W (grp x) i j * dmx d u z i x

/-- The gradients of the three parts. -/
def gU (i : Fin 128) (x : Fin 512) : EReal := d i x * mix v g β W bs i x * (z i x * Ideal.logistic (z i x)) * dgelu (u i x)
def gV (j : Fin 128) (x : Fin 512) : EReal := lnB (fun k => gelu (v j k)) (fun k => dvs d u z W j k * g k) x * dgelu (v j x)
def gZ (i : Fin 128) (x : Fin 512) : EReal := d i x * gelu (u i x) * mix v g β W bs i x * dsilu (z i x)

/-- The chunk's shares of the gradients of the weights, of the bias, of the scale and of the shift. -/
def gW (n : Fin 4) (i j : Fin 128) : EReal := ∑ x, dmx d u z i (blk n x) * vS v g β j (blk n x)
def gG (x : Fin 512) : EReal := ∑ j, dvs d u z W j x * nrm (fun k => gelu (v j k)) x
def gB (x : Fin 512) : EReal := ∑ j, dvs d u z W j x
end chunk

end Cert.Gates

end
-- ==== Proof.GmlpBlocks.lean ====
/- The values one grid point of the spatial gate's backward call computes, as functions of the blocks it reads. -/
module

public import proofs.«01_k».proof.Proof.Cols
public import proofs.«01_k».proof.Proof.Gates
public import proofs.«01_k».proof.Proof.Gen.GmlpBwdIdeal.Skeleton
public import Idealize.ShloMosaic.Lib.Claim

@[expose] public section

set_option maxRecDepth 16384

noncomputable section

open Idealize.ShloMosaic Idealize.ShloMosaic.TcCoe Idealize.SL.Sem

namespace Cert.GmlpBwdIdeal.Value
open Cert.GmlpBwdIdeal Cert.GmlpBwdIdeal.Gen Cert.Gates

theorem sle (a b : Fin 128) : IntOp.cmpi .sle (BitVec.ofNat 32 a.val) (BitVec.ofNat 32 b.val) = if a.val ≤ b.val then 1#1 else 0#1 := by
  revert a b; decide +kernel

theorem named1 : (Named.named κ "gelu_c" 0x3D372713#32 : Ideal .f32) = c1 := IdealRules.named_const.ideal_named_scalar _ _ _ _ rfl
theorem named3 : (Named.named κ "gelu_3c" 0x3E095D4F#32 : Ideal .f32) = c3 := IdealRules.named_const.ideal_named_scalar _ _ _ _ rfl

theorem place (F : Fin 4 → Fin 128 → EReal) (n : Fin 4) (x : Fin 512) {a : ℕ} (h : x.val = 128 * n.val + a) (ha : a < 128) :
    F n ⟨a, ha⟩ = F (grp x) (wit x) := by
  have e : grp x = n := grp_of (by omega) (by omega)
  have e' : wit x = ⟨a, ha⟩ := Fin.ext (by simp only [wit]; omega)
  rw [e, e']

/-- Four blocks side by side, and one above another. -/
theorem cat4 {A B C D : S128x128.Idx → EReal} (h : Shape.Concatenates [S128x128, S128x128, S128x128, S128x128] S128x512 1) (i : Fin 128) (x : Fin 512) (F : Fin 4 → Fin 128 → EReal)
    (hA : ∀ k, A (ix2 i k) = F 0 k) (hB : ∀ k, B (ix2 i k) = F 1 k) (hC : ∀ k, C (ix2 i k) = F 2 k) (hD : ∀ k, D (ix2 i k) = F 3 k) :
    concatenate S128x512 1 [⟨S128x128, A⟩, ⟨S128x128, B⟩, ⟨S128x128, C⟩, ⟨S128x128, D⟩] h (ix2 i x) = F (grp x) (wit x) := by
  pointwise
  by_cases h0 : x.val < 128
  · exact (dif_pos h0).trans ((hA _).trans (place F 0 x (by simp) h0))
  by_cases h1 : x.val - 128 < 128
  · exact (dif_neg h0).trans ((dif_pos h1).trans ((hB _).trans (place F 1 x (by show _ = 128 + (x.val - 128); omega) h1)))
  by_cases h2 : x.val - 128 - 128 < 128
  · exact (dif_neg h0).trans ((dif_neg h1).trans ((dif_pos h2).trans ((hC _).trans (place F 2 x (by show _ = 256 + (x.val - 128 - 128); omega) h2))))
  · exact (dif_neg h0).trans ((dif_neg h1).trans ((dif_neg h2).trans ((hD _).trans (place F 3 x (by show _ = 384 + (x.val - 128 - 128 - 128); omega) (by omega)))))

theorem rows4 {A B C D : S128x512.Idx → EReal} (h : Shape.Concatenates [S128x512, S128x512, S128x512, S128x512] S512x512 0) (y x : Fin 512) (F : Fin 4 → Fin 128 → EReal)
    (hA : ∀ k, A (ix2 k x) = F 0 k) (hB : ∀ k, B (ix2 k x) = F 1 k) (hC : ∀ k, C (ix2 k x) = F 2 k) (hD : ∀ k, D (ix2 k x) = F 3 k) :
    concatenate S512x512 0 [⟨S128x512, A⟩, ⟨S128x512, B⟩, ⟨S128x512, C⟩, ⟨S128x512, D⟩] h (ix2 y x) = F (grp y) (wit y) := by
  pointwise
  by_cases h0 : y.val < 128
  · exact (dif_pos h0).trans ((hA _).trans (place F 0 y (by simp) h0))
  by_cases h1 : y.val - 128 < 128
  · exact (dif_neg h0).trans ((dif_pos h1).trans ((hB _).trans (place F 1 y (by show _ = 128 + (y.val - 128); omega) h1)))
  by_cases h2 : y.val - 128 - 128 < 128
  · exact (dif_neg h0).trans ((dif_neg h1).trans ((dif_pos h2).trans ((hC _).trans (place F 2 y (by show _ = 256 + (y.val - 128 - 128); omega) h2))))
  · exact (dif_neg h0).trans ((dif_neg h1).trans ((dif_neg h2).trans ((hD _).trans (place F 3 y (by show _ = 384 + (y.val - 128 - 128 - 128); omega) (by omega)))))

section
variable (A : S4x128x128.Idx → EReal) (i j : Fin 128)

def tri (n : Fin 4) (i j : Fin 128) : EReal := if j.val ≤ i.val then A (ix3 n i j) else 0
theorem sel_tri (P Q : EReal) : Scalar.select (IntOp.cmpi .sle (BitVec.ofNat 32 j.val) (BitVec.ofNat 32 i.val)) P Q = if j.val ≤ i.val then P else Q := by
  rw [sle]; by_cases h : j.val ≤ i.val <;> simp [h, Scalar.select]
theorem w0_at : k0_pay11 (F := Ideal) A (ix2 i j) = tri A 0 i j := by pointwise [k0_pay11]; exact sel_tri _ _ _ _
theorem w1_at : k0_pay15 (F := Ideal) k0_pay12 (k0_pay13 A) k0_pay14 (ix2 i j) = tri A 1 i j := by
  pointwise [k0_pay15, k0_pay12, k0_pay13, k0_pay14]; exact sel_tri _ _ _ _
theorem w2_at : k0_pay16 (F := Ideal) A (iota .tc S128x128 32 [0] iota_S128x128_d0_w32) (iota .tc S128x128 32 [1] iota_S128x128_d1_w32) (ix2 i j) = tri A 2 i j := by
  pointwise [k0_pay16]; exact sel_tri _ _ _ _
theorem w3_at : k0_pay17 (F := Ideal) A (iota .tc S128x128 32 [0] iota_S128x128_d0_w32) (iota .tc S128x128 32 [1] iota_S128x128_d1_w32) (ix2 i j) = tri A 3 i j := by
  pointwise [k0_pay17]; exact sel_tri _ _ _ _
end

section
variable (W : S4x128x128.Idx → EReal)

abbrev bW0 : S128x128.Idx → EReal := k0_pay11 (F := Ideal) W
abbrev bW1 : S128x128.Idx → EReal := k0_pay15 (F := Ideal) k0_pay12 (k0_pay13 W) k0_pay14
abbrev bW2 : S128x128.Idx → EReal := k0_pay16 (F := Ideal) W (iota .tc S128x128 32 [0] iota_S128x128_d0_w32) (iota .tc S128x128 32 [1] iota_S128x128_d1_w32)
abbrev bW3 : S128x128.Idx → EReal := k0_pay17 (F := Ideal) W (iota .tc S128x128 32 [0] iota_S128x128_d0_w32) (iota .tc S128x128 32 [1] iota_S128x128_d1_w32)

section mixed
variable (S : S128x512.Idx → EReal) (V : S512x512.Idx → EReal)

/-- One chunk of rows, mixed by the four groups' triangular weights. -/
def mixN (n : Fin 4) (i : Fin 128) (x : Fin 512) : EReal := ∑ j, tri W (grp x) i j * V (ix2 (blk n j) x)

theorem mixN_eq (n : Fin 4) (i : Fin 128) (x : Fin 512) :
    (fun g k => ∑ j, tri W g i j * V (ix2 (blk n j) (blk g k))) (grp x) (wit x) = mixN W V n i x := by
  simp only [mixN, blk_grp]

/-- One chunk of four products side by side, plus the bias. -/
theorem mix_chunk {A B C D : S128x128.Idx → EReal} (h : Shape.Concatenates [S128x128, S128x128, S128x128, S128x128] S128x512 1) (n : Fin 4) (i : Fin 128) (x : Fin 512)
    (hA : ∀ k, A (ix2 i k) = ∑ j, tri W 0 i j * V (ix2 (blk n j) (blk 0 k))) (hB : ∀ k, B (ix2 i k) = ∑ j, tri W 1 i j * V (ix2 (blk n j) (blk 1 k)))
    (hC : ∀ k, C (ix2 i k) = ∑ j, tri W 2 i j * V (ix2 (blk n j) (blk 2 k))) (hD : ∀ k, D (ix2 i k) = ∑ j, tri W 3 i j * V (ix2 (blk n j) (blk 3 k))) :
    concatenate S128x512 1 [⟨S128x128, A⟩, ⟨S128x128, B⟩, ⟨S128x128, C⟩, ⟨S128x128, D⟩] h (ix2 i x) = mixN W V n i x :=
  (cat4 h i x (fun g k => ∑ j, tri W g i j * V (ix2 (blk n j) (blk g k))) hA hB hC hD).trans (mixN_eq W V n i x)

theorem r0_at (Q : S128x128.Idx → EReal) (hQ : ∀ i k, Q (ix2 i k) = ∑ j, tri W 0 i j * V (ix2 (blk 0 j) (blk 0 k))) (i : Fin 128) (x : Fin 512) :
    k0_pay23 (F := Ideal) S (bW1 W) (bW2 W) (bW3 W) V Q (ix2 i x) = mixN W V 0 i x + S (ix2 i x) := by
  unfold k0_pay23
  refine congrArg (· + S (ix2 i x)) (mix_chunk W V _ 0 i x (hQ i) ?_ ?_ ?_) <;> intro k <;> pointwise
  · simp only [w1_at, blk_0, blk_1]
  · simp only [w2_at, blk_0, blk_2]
  · simp only [w3_at, blk_0, blk_3]
theorem r1_at (i : Fin 128) (x : Fin 512) :
    k0_pay24 (F := Ideal) S (bW0 W) (bW1 W) (bW2 W) (bW3 W) V (ix2 i x) = mixN W V 1 i x + S (ix2 i x) := by
  unfold k0_pay24
  refine congrArg (· + S (ix2 i x)) (mix_chunk W V _ 1 i x ?_ ?_ ?_ ?_) <;> intro k <;> pointwise
  · simp only [w0_at, blk_0, blk_1]
  · simp only [w1_at, blk_1]
  · simp only [w2_at, blk_1, blk_2]
  · simp only [w3_at, blk_1, blk_3]
theorem r2_at (i : Fin 128) (x : Fin 512) :
    k0_pay25 (F := Ideal) (bW0 W) (bW1 W) (bW2 W) (bW3 W) V (ix2 i x) = mixN W V 2 i x := by
  unfold k0_pay25
  refine mix_chunk W V _ 2 i x ?_ ?_ ?_ ?_ <;> intro k <;> pointwise
  · simp only [w0_at, blk_0, blk_2]
  · simp only [w1_at, blk_1, blk_2]
  · simp only [w2_at, blk_2]
  · simp only [w3_at, blk_2, blk_3]

theorem mix_at {R0 R1 R2 : S128x512.Idx → EReal} (h0 : ∀ i x, R0 (ix2 i x) = mixN W V 0 i x + S (ix2 i x))
    (h1 : ∀ i x, R1 (ix2 i x) = mixN W V 1 i x + S (ix2 i x)) (h2 : ∀ i x, R2 (ix2 i x) = mixN W V 2 i x) (y x : Fin 512) :
    k0_pay26 (F := Ideal) S (bW0 W) (bW1 W) (bW2 W) (bW3 W) V R0 R1 R2 (ix2 y x) = mixN W V (grp y) (wit y) x + S (ix2 (wit y) x) := by
  unfold k0_pay26
  refine rows4 _ y x (fun n i => mixN W V n i x + S (ix2 i x)) (fun i => h0 i x) (fun i => h1 i x) (fun i => congrArg (· + S (ix2 i x)) (h2 i x)) fun i => ?_
  refine congrArg (· + S (ix2 i x)) (mix_chunk W V _ 3 i x ?_ ?_ ?_ ?_) <;> intro k <;> pointwise
  · simp only [w0_at, blk_0, blk_3]
  · simp only [w1_at, blk_1, blk_3]
  · simp only [w2_at, blk_2, blk_3]
  · simp only [w3_at, blk_3]
end mixed

section back
variable (D : S512x512.Idx → EReal)

/-- One chunk of the cotangent, carried back through the transposed weights. -/
def backN (n : Fin 4) (j : Fin 128) (x : Fin 512) : EReal := ∑ i, tri W (grp x) i j * D (ix2 (blk n i) x)

theorem back_chunk {P Q R T : S128x128.Idx → EReal} (h : Shape.Concatenates [S128x128, S128x128, S128x128, S128x128] S128x512 1) (n : Fin 4) (j : Fin 128) (x : Fin 512)
    (hP : ∀ k, P (ix2 j k) = ∑ i, tri W 0 i j * D (ix2 (blk n i) (blk 0 k))) (hQ : ∀ k, Q (ix2 j k) = ∑ i, tri W 1 i j * D (ix2 (blk n i) (blk 1 k)))
    (hR : ∀ k, R (ix2 j k) = ∑ i, tri W 2 i j * D (ix2 (blk n i) (blk 2 k))) (hT : ∀ k, T (ix2 j k) = ∑ i, tri W 3 i j * D (ix2 (blk n i) (blk 3 k))) :
    concatenate S128x512 1 [⟨S128x128, P⟩, ⟨S128x128, Q⟩, ⟨S128x128, R⟩, ⟨S128x128, T⟩] h (ix2 j x) = backN W D n j x :=
  (cat4 h j x (fun g k => ∑ i, tri W g i j * D (ix2 (blk n i) (blk g k))) hP hQ hR hT).trans (by simp only [backN, blk_grp])

theorem e0_at {C : S128x512.Idx → EReal} {P Q : S128x128.Idx → EReal} (hC : ∀ i x, C (ix2 i x) = D (ix2 (blk 0 i) x)) (hP : ∀ i k, P (ix2 i k) = tri W 0 i k)
    (hQ : ∀ i k, Q (ix2 i k) = D (ix2 (blk 0 i) (blk 0 k))) (j : Fin 128) (x : Fin 512) :
    k0_pay50 (F := Ideal) (bW1 W) (bW2 W) (bW3 W) C P Q (ix2 j x) = backN W D 0 j x := by
  unfold k0_pay50
  refine back_chunk W D _ 0 j x ?_ ?_ ?_ ?_ <;> intro k
  · pointwise; simp only [hP, hQ]
  · pointwise [k0_pay45]; simp only [w1_at, hC, blk_1]
  · pointwise [k0_pay46]; simp only [w2_at, hC, blk_2]
  · pointwise [k0_pay48]; simp only [w3_at, hC, blk_3]
theorem e1_at (j : Fin 128) (x : Fin 512) :
    k0_pay62 (F := Ideal) (bW2 W) (bW3 W) (k0_pay51 D) (k0_pay55 (bW0 W) D) (k0_pay58 (bW1 W) D) (ix2 j x) = backN W D 1 j x := by
  unfold k0_pay62
  refine back_chunk W D _ 1 j x ?_ ?_ ?_ ?_ <;> intro k
  · pointwise [k0_pay55, k0_pay53, k0_pay51]; simp only [w0_at, blk_0, blk_1]
  · pointwise [k0_pay58, k0_pay56, k0_pay51]; simp only [w1_at, blk_1]
  · pointwise [k0_pay59, k0_pay51]; simp only [w2_at, blk_1, blk_2]
  · pointwise [k0_pay60, k0_pay51]; simp only [w3_at, blk_1, blk_3]

theorem back_at {E0 E1 : S128x512.Idx → EReal} (h0 : ∀ i x, E0 (ix2 i x) = backN W D 0 i x) (h1 : ∀ i x, E1 (ix2 i x) = backN W D 1 i x) (y x : Fin 512) :
    k0_pay86 (F := Ideal) (bW0 W) (bW1 W) (bW2 W) (bW3 W) D E0 E1 (k0_pay67 (bW0 W) D) (k0_pay70 (bW1 W) D) (k0_pay73 (bW2 W) D) (k0_pay74 D) (ix2 y x)
      = backN W D (grp y) (wit y) x := by
  unfold k0_pay86
  refine rows4 _ y x (fun n i => backN W D n i x) (fun i => h0 i x) (fun i => h1 i x) (fun i => ?_) fun i => ?_
  · refine back_chunk W D _ 2 i x ?_ ?_ ?_ ?_ <;> intro k
    · pointwise [k0_pay67, k0_pay65, k0_pay63]; simp only [w0_at, blk_0, blk_2]
    · pointwise [k0_pay70, k0_pay68, k0_pay63]; simp only [w1_at, blk_1, blk_2]
    · pointwise [k0_pay73, k0_pay71, k0_pay63]; simp only [w2_at, blk_2]
    · pointwise [k0_pay74, k0_pay63]; simp only [w3_at, blk_2, blk_3]
  · refine back_chunk W D _ 3 i x ?_ ?_ ?_ ?_ <;> intro k
    · pointwise [k0_pay78, k0_pay76]; simp only [w0_at, blk_0, blk_3]
    · pointwise [k0_pay80, k0_pay76]; simp only [w1_at, blk_1, blk_3]
    · pointwise [k0_pay82, k0_pay76]; simp only [w2_at, blk_2, blk_3]
    · pointwise [k0_pay84, k0_pay76]; simp only [w3_at, blk_3]
end back

end

end Cert.GmlpBwdIdeal.Value
-- ==== Proof.GmlpPoint.lean ====
/- One grid point of the spatial gate's backward call, chunk by chunk, as functions of the blocks it reads. -/
module

public import proofs.«01_k».proof.Proof.GmlpBlocks

@[expose] public section

set_option maxRecDepth 16384

noncomputable section

open Idealize.ShloMosaic Idealize.ShloMosaic.TcCoe Idealize.SL.Sem

namespace Cert.GmlpBwdIdeal.Value
open Cert.GmlpBwdIdeal Cert.GmlpBwdIdeal.Gen Cert.Gates

section elementwise
variable (A P Q R : S512x512.Idx → EReal) (G B : S1x512.Idx → EReal) (y x : Fin 512)

theorem p18 : k0_pay18 (F := Ideal) A (ix2 y x) = ctr (fun k => gelu (A (ix2 y k))) x := by
  pointwise [k0_pay18]; simp only [named1]; rfl
theorem p19 (u : Fin 1) : k0_pay19 (F := Ideal) A (ix2 y u) = rs (fun k => gelu (A (ix2 y k))) := by
  pointwise [k0_pay19]; simp only [p18]; rfl
theorem p20 : k0_pay20 (F := Ideal) A (ix2 y x) = nrm (fun k => gelu (A (ix2 y k))) x := by
  pointwise [k0_pay20]; simp only [p18, p19]; rfl
theorem p21 : k0_pay21 (F := Ideal) A G B (ix2 y x) = nrm (fun k => gelu (A (ix2 y k))) x * G (ix2 0 x) + B (ix2 0 x) := by
  pointwise [k0_pay21]; simp only [p20]
theorem p28 : k0_pay28 (F := Ideal) A (ix2 y x) = gelu (A (ix2 y x)) := by
  pointwise [k0_pay28]; simp only [named1]; rfl
theorem p29 : k0_pay29 (F := Ideal) A (ix2 y x) = A (ix2 y x) * Ideal.logistic (A (ix2 y x)) := by
  pointwise [k0_pay29]
theorem p31 : k0_pay31 (F := Ideal) A (ix2 y x) = th (A (ix2 y x)) := by
  pointwise [k0_pay31]; simp only [named1]; rfl
theorem p33 : k0_pay33 (F := Ideal) A P (k0_pay31 A) k0_pay32 (ix2 y x) = P (ix2 y x) * dgelu (A (ix2 y x)) := by
  pointwise [k0_pay33, k0_pay32]; simp only [named3, p31]; rfl
theorem p34 : k0_pay34 (F := Ideal) P A Q R (ix2 y x) = P (ix2 y x) * R (ix2 y x) * Q (ix2 y x) * dsilu (A (ix2 y x)) := by
  pointwise [k0_pay34]; rfl
theorem p35 : k0_pay35 (F := Ideal) P Q R (ix2 y x) = P (ix2 y x) * Q (ix2 y x) * R (ix2 y x) := by
  pointwise [k0_pay35]
theorem p88 (r : S512x1.Idx → EReal) (v e : Fin 512 → EReal) (hr : r (ix2 y 0) = rs v) (hP : ∀ k, P (ix2 y k) = nrm v k) (hQ : ∀ k, Q (ix2 y k) = e k) :
    k0_pay88 (F := Ideal) r P Q (ix2 y x) = lnB v e x := by
  pointwise [k0_pay88]; simp only [hP, hQ]; exact congrArg₂ (· * ·) hr rfl
theorem p89 (u : Fin 1) : k0_pay89 (F := Ideal) P Q (ix2 u x) = ∑ y, Q (ix2 y x) * P (ix2 y x) := by
  pointwise [k0_pay89]
theorem p90 (u : Fin 1) : k0_pay90 (F := Ideal) P (ix2 u x) = ∑ y, P (ix2 y x) := by
  pointwise [k0_pay90]
theorem p95 : k0_pay95 (F := Ideal) A (ix2 y x) = th (A (ix2 y x)) := by
  pointwise [k0_pay95]; simp only [named1]; rfl
theorem p100 (u : Fin 1) : k0_pay100 (F := Ideal) A P (k0_pay96 A) (k0_pay97 A) (k0_pay98 A) (Scalar.ofBits .f32 0x3F800000#32) (ix3 u y x)
    = P (ix2 y x) * dgelu (A (ix2 y x)) := by
  pointwise [k0_pay100, k0_pay96, k0_pay97, k0_pay98]; simp only [named3, p95]; rfl
theorem p99 (u : Fin 1) : k0_pay99 (F := Ideal) P (ix3 u y x) = P (ix2 y x) := by pointwise [k0_pay99]
theorem p101 (u : Fin 1) : k0_pay101 (F := Ideal) P (ix3 u y x) = P (ix2 y x) := by pointwise [k0_pay101]
end elementwise

section products
variable (V D : S512x512.Idx → EReal) (i j : Fin 128)

/-- A grid point's four products, one per chunk, of one group. -/
def wsum (n : Fin 4) (V D : S512x512.Idx → EReal) (i j : Fin 128) : EReal := ∑ q, ∑ x, D (ix2 (blk q i) (blk n x)) * V (ix2 (blk q j) (blk n x))

variable {D} {C : S128x512.Idx → EReal} (hC : ∀ i x, C (ix2 i x) = D (ix2 (blk 0 i) x))
include hC
theorem dw1 : k0_pay81 (F := Ideal) V D (k0_pay69 V D (k0_pay57 V D k0_pay36 C)) (ix2 i j) = wsum 1 V D i j := by
  pointwise [k0_pay81, k0_pay80, k0_pay76, k0_pay69, k0_pay68, k0_pay63, k0_pay57, k0_pay56, k0_pay51, k0_pay45, k0_pay36]
  simp only [hC, wsum, Fin.sum_univ_four, blk_0, blk_1, blk_2, blk_3, zero_add]
theorem dw2 : k0_pay83 (F := Ideal) V D (k0_pay72 V D (k0_pay47 V k0_pay37 C) (k0_pay51 D)) (ix2 i j) = wsum 2 V D i j := by
  pointwise [k0_pay83, k0_pay82, k0_pay76, k0_pay72, k0_pay71, k0_pay63, k0_pay59, k0_pay51, k0_pay47, k0_pay46, k0_pay37]
  simp only [hC, wsum, Fin.sum_univ_four, blk_0, blk_1, blk_2, blk_3, zero_add]
theorem dw3 : k0_pay85 (F := Ideal) V D (k0_pay61 V (k0_pay49 V k0_pay38 C) (k0_pay51 D)) (k0_pay74 D) (k0_pay75 V) (ix2 i j) = wsum 3 V D i j := by
  pointwise [k0_pay85, k0_pay84, k0_pay76, k0_pay74, k0_pay75, k0_pay63, k0_pay61, k0_pay60, k0_pay51, k0_pay49, k0_pay48, k0_pay38]
  simp only [hC, wsum, Fin.sum_univ_four, blk_0, blk_1, blk_2, blk_3, zero_add]
omit hC

theorem dw0 (P Q R : S512x512.Idx → EReal) (hD : ∀ y x, D (ix2 y x) = k0_pay35 (F := Ideal) P Q R (ix2 y x)) :
    k0_pay79 (F := Ideal) V D (k0_pay66 V D (k0_pay54 V D (k0_pay42 P V Q R))) (ix2 i j) = wsum 0 V D i j := by
  pointwise [k0_pay79, k0_pay78, k0_pay76, k0_pay66, k0_pay65, k0_pay63, k0_pay54, k0_pay53, k0_pay51, k0_pay42, k0_pay41, k0_pay39]
  simp only [← hD, wsum, Fin.sum_univ_four, blk_0, blk_1, blk_2, blk_3, zero_add]

theorem db_at (P Q R : S512x512.Idx → EReal) (hD : ∀ y x, D (ix2 y x) = k0_pay35 (F := Ideal) P Q R (ix2 y x)) (x : Fin 512) :
    k0_pay77 (F := Ideal) D (k0_pay64 D (k0_pay52 D (k0_pay40 P Q R))) (ix2 i x) = ∑ q, D (ix2 (blk q i) x) := by
  pointwise [k0_pay77, k0_pay76, k0_pay64, k0_pay63, k0_pay52, k0_pay51, k0_pay40, k0_pay39]
  simp only [← hD, Fin.sum_univ_four, blk_0, blk_1, blk_2, blk_3, zero_add]
end products

section point
variable (B0 B1 B2 B3 : S1x512x512.Idx → EReal) (G B : S1x512.Idx → EReal) (W : S4x128x128.Idx → EReal) (S : S128x512.Idx → EReal)

abbrev bV : S512x512.Idx → EReal := k0_pay21 (F := Ideal) (k0_pay6 B2) (k0_pay8 G) (k0_pay9 B)
abbrev bR0 : S128x512.Idx → EReal := k0_pay23 (F := Ideal) (k0_pay10 S) (bW1 W) (bW2 W) (bW3 W) (bV B2 G B) (k0_pay22 (k0_pay6 B2) (k0_pay8 G) (k0_pay9 B) (bW0 W))
abbrev bR1 : S128x512.Idx → EReal := k0_pay24 (F := Ideal) (k0_pay10 S) (bW0 W) (bW1 W) (bW2 W) (bW3 W) (bV B2 G B)
abbrev bR2 : S128x512.Idx → EReal := k0_pay25 (F := Ideal) (bW0 W) (bW1 W) (bW2 W) (bW3 W) (bV B2 G B)
abbrev bM : S512x512.Idx → EReal := k0_pay26 (F := Ideal) (k0_pay10 S) (bW0 W) (bW1 W) (bW2 W) (bW3 W) (bV B2 G B) (bR0 B2 G B W S) (bR1 B2 G B W S) (bR2 B2 G B W)
abbrev bU : S512x512.Idx → EReal := k0_pay28 (F := Ideal) (k0_pay5 B1)
abbrev bZ : S512x512.Idx → EReal := k0_pay29 (F := Ideal) (k0_pay7 B3)
abbrev bD : S512x512.Idx → EReal := k0_pay35 (F := Ideal) (k0_pay4 B0) (bU B1) (bZ B3)
abbrev bC : S128x512.Idx → EReal := k0_pay39 (F := Ideal) (k0_pay4 B0) (bU B1) (bZ B3)
abbrev bE0 : S128x512.Idx → EReal := k0_pay50 (F := Ideal) (bW1 W) (bW2 W) (bW3 W) (bC B0 B1 B3) (k0_pay43 (bW0 W)) (k0_pay44 (k0_pay4 B0) (bU B1) (bZ B3))
abbrev bE1 : S128x512.Idx → EReal := k0_pay62 (F := Ideal) (bW2 W) (bW3 W) (k0_pay51 (bD B0 B1 B3)) (k0_pay55 (bW0 W) (bD B0 B1 B3)) (k0_pay58 (bW1 W) (bD B0 B1 B3))
abbrev bE : S512x512.Idx → EReal :=
  k0_pay86 (F := Ideal) (bW0 W) (bW1 W) (bW2 W) (bW3 W) (bD B0 B1 B3) (bE0 B0 B1 B3 W) (bE1 B0 B1 B3 W) (k0_pay67 (bW0 W) (bD B0 B1 B3)) (k0_pay70 (bW1 W) (bD B0 B1 B3))
    (k0_pay73 (bW2 W) (bD B0 B1 B3)) (k0_pay74 (bD B0 B1 B3))
abbrev bX : S512x512.Idx → EReal :=
  k0_pay87 (F := Ideal) (k0_pay8 G) (bW0 W) (bW1 W) (bW2 W) (bW3 W) (bD B0 B1 B3) (bE0 B0 B1 B3 W) (bE1 B0 B1 B3 W) (k0_pay67 (bW0 W) (bD B0 B1 B3)) (k0_pay70 (bW1 W) (bD B0 B1 B3))
    (k0_pay73 (bW2 W) (bD B0 B1 B3)) (k0_pay74 (bD B0 B1 B3))

/-- Chunk `n` of a block, and the row vectors and matrices by their indices. -/
def ch (A : S1x512x512.Idx → EReal) (n : Fin 4) (i : Fin 128) (k : Fin 512) : EReal := A (ix3 0 (blk n i) k)
def rw1 (A : S1x512.Idx → EReal) (k : Fin 512) : EReal := A (ix2 0 k)
def m3 (A : S4x128x128.Idx → EReal) (n : Fin 4) (i j : Fin 128) : EReal := A (ix3 n i j)
def m2 (A : S128x512.Idx → EReal) (n : Fin 4) (i : Fin 128) : EReal := A (ix2 i (blk n 0))

theorem cst4 (A : S1x512x512.Idx → EReal) (y x : Fin 512) : k0_pay4 (F := Ideal) A (ix2 y x) = A (ix3 0 y x) := by pointwise [k0_pay4]
theorem cst5 (A : S1x512x512.Idx → EReal) (y x : Fin 512) : k0_pay5 (F := Ideal) A (ix2 y x) = A (ix3 0 y x) := by pointwise [k0_pay5]
theorem cst6 (A : S1x512x512.Idx → EReal) (y x : Fin 512) : k0_pay6 (F := Ideal) A (ix2 y x) = A (ix3 0 y x) := by pointwise [k0_pay6]
theorem cst7 (A : S1x512x512.Idx → EReal) (y x : Fin 512) : k0_pay7 (F := Ideal) A (ix2 y x) = A (ix3 0 y x) := by pointwise [k0_pay7]
theorem cst8 (u : Fin 1) (x : Fin 512) : k0_pay8 (F := Ideal) G (ix2 u x) = rw1 G x := by
  pointwise [k0_pay8]; exact congrArg (fun v => G (ix2 v x)) (Subsingleton.elim u 0)
theorem cst9 (u : Fin 1) (x : Fin 512) : k0_pay9 (F := Ideal) B (ix2 u x) = rw1 B x := by
  pointwise [k0_pay9]; exact congrArg (fun v => B (ix2 v x)) (Subsingleton.elim u 0)
theorem cst10 (i : Fin 128) (x : Fin 512) : k0_pay10 (F := Ideal) S (ix2 i x) = S (ix2 i x) := by pointwise [k0_pay10]

theorem bV_at (n : Fin 4) (j : Fin 128) (x : Fin 512) : bV B2 G B (ix2 (blk n j) x) = vS (ch B2 n) (rw1 G) (rw1 B) j x := by
  rw [bV, p21]; simp only [cst6, cst8, cst9]; rfl
theorem bD_at (n : Fin 4) (j : Fin 128) (x : Fin 512) : bD B0 B1 B3 (ix2 (blk n j) x) = dmx (ch B0 n) (ch B1 n) (ch B3 n) j x := by
  rw [bD, p35, bU, bZ, p28, p29]; simp only [cst4, cst5, cst7]; rfl

theorem bM_at (hS : ∀ i x, S (ix2 i x) = m2 S (grp x) i) (n : Fin 4) (i : Fin 128) (x : Fin 512) :
    bM B2 G B W S (ix2 (blk n i) x) = mix (ch B2 n) (rw1 G) (rw1 B) (m3 W) (m2 S) i x := by
  refine (mix_at W _ _ (r0_at W _ _ _ ?_) (r1_at W _ _) (r2_at W _) _ _).trans ?_
  · intro i k
    pointwise [k0_pay22]
    simp only [w0_at, blk_0]
  · rw [grp_blk, wit_blk, cst10, hS]
    unfold mixN mix
    simp only [bV_at]
    rfl

theorem bE_at (n : Fin 4) (j : Fin 128) (x : Fin 512) : bE B0 B1 B3 W (ix2 (blk n j) x) = dvs (ch B0 n) (ch B1 n) (ch B3 n) (m3 W) j x := by
  refine (back_at W _ (e0_at W (bD B0 B1 B3) ?_ ?_ ?_) (e1_at W _) _ _).trans ?_
  · intro i x; pointwise [k0_pay39]; simp only [blk_0]
  · intro i k; pointwise [k0_pay43]; exact w0_at _ _ _
  · intro i k; pointwise [k0_pay44, k0_pay41, k0_pay39]; simp only [blk_0]
  · rw [grp_blk, wit_blk]
    unfold backN dvs
    simp only [bD_at]
    rfl

theorem bX_at (y x : Fin 512) : bX B0 B1 B3 G W (ix2 y x) = bE B0 B1 B3 W (ix2 y x) * rw1 G x := by
  unfold bX bE
  pointwise [k0_pay87]
  rw [cst8]

/-- What the point stores of the gradients of the three parts. -/
theorem oU_at (hS : ∀ i x, S (ix2 i x) = m2 S (grp x) i) (u : Fin 1) (n : Fin 4) (i : Fin 128) (x : Fin 512) :
    k0_pay99 (F := Ideal) (k0_pay33 (k0_pay5 B1) (k0_pay30 (k0_pay4 B0) (k0_pay7 B3) (k0_pay10 S) (bW0 W) (bW1 W) (bW2 W) (bW3 W) (bV B2 G B) (bR0 B2 G B W S) (bR1 B2 G B W S) (bR2 B2 G B W))
      (k0_pay31 (k0_pay5 B1)) k0_pay32) (ix3 u (blk n i) x)
      = gU (ch B0 n) (ch B1 n) (ch B2 n) (ch B3 n) (rw1 G) (rw1 B) (m3 W) (m2 S) i x := by
  rw [p99, p33]
  refine (congrArg (· * dgelu _) (?_ : _ = k0_pay4 (F := Ideal) B0 (ix2 (blk n i) x) * bM B2 G B W S (ix2 (blk n i) x) * k0_pay29 (F := Ideal) (k0_pay7 B3) (ix2 (blk n i) x))).trans ?_
  · pointwise [k0_pay30]
  · rw [bM_at _ _ _ _ _ hS, p29, cst4, cst5, cst7]; rfl

theorem oV_at (u : Fin 1) (n : Fin 4) (j : Fin 128) (x : Fin 512) :
    k0_pay100 (F := Ideal) (k0_pay6 B2) (k0_pay88 (k0_pay19 (k0_pay6 B2)) (k0_pay20 (k0_pay6 B2)) (bX B0 B1 B3 G W)) (k0_pay96 (k0_pay6 B2)) (k0_pay97 (k0_pay6 B2)) (k0_pay98 (k0_pay6 B2))
      (Scalar.ofBits .f32 0x3F800000#32) (ix3 u (blk n j) x)
      = gV (ch B0 n) (ch B1 n) (ch B2 n) (ch B3 n) (rw1 G) (m3 W) j x := by
  rw [p100, cst6]
  refine congrArg (· * dgelu _) (p88 _ _ _ _ _ (fun k => gelu (ch B2 n j k)) (fun k => dvs (ch B0 n) (ch B1 n) (ch B3 n) (m3 W) j k * rw1 G k) ?_ ?_ ?_)
  · rw [p19]; simp only [cst6]; rfl
  · intro k; rw [p20]; simp only [cst6]; rfl
  · intro k; rw [bX_at, bE_at]

theorem oZ_at (hS : ∀ i x, S (ix2 i x) = m2 S (grp x) i) (u : Fin 1) (n : Fin 4) (i : Fin 128) (x : Fin 512) :
    k0_pay101 (F := Ideal) (k0_pay34 (k0_pay4 B0) (k0_pay7 B3) (bM B2 G B W S) (bU B1)) (ix3 u (blk n i) x)
      = gZ (ch B0 n) (ch B1 n) (ch B2 n) (ch B3 n) (rw1 G) (rw1 B) (m3 W) (m2 S) i x := by
  rw [p101, p34, bM_at _ _ _ _ _ hS, bU, p28, cst4, cst5, cst7]; rfl

/-- Its shares of the gradients of the weights, the bias, the scale and the shift. -/
theorem wsum_at (n : Fin 4) (i j : Fin 128) :
    wsum n (bV B2 G B) (bD B0 B1 B3) i j = ∑ q, gW (ch B0 q) (ch B1 q) (ch B2 q) (ch B3 q) (rw1 G) (rw1 B) n i j := by
  unfold wsum gW
  simp only [bV_at, bD_at]
theorem oB_at (i : Fin 128) (x : Fin 512) :
    k0_pay77 (F := Ideal) (bD B0 B1 B3) (k0_pay64 (bD B0 B1 B3) (k0_pay52 (bD B0 B1 B3) (k0_pay40 (k0_pay4 B0) (bU B1) (bZ B3)))) (ix2 i x)
      = ∑ q, dmx (ch B0 q) (ch B1 q) (ch B3 q) i x := by
  rw [db_at i _ _ _ (fun _ _ => rfl)]
  simp only [bD_at]

theorem sum_rows (f : Fin 512 → EReal) : ∑ y, f y = ∑ q : Fin 4, ∑ i, f (blk q i) := by
  refine (Fin.sum_mul_add_fin 4 128 f).symm.trans (Finset.sum_congr rfl fun q _ => Finset.sum_congr rfl fun i _ => congrArg f (Fin.ext ?_))
  show q.val * 128 + i.val = 128 * q.val + i.val
  omega
theorem oG_at (u : Fin 1) (x : Fin 512) :
    k0_pay89 (F := Ideal) (k0_pay20 (k0_pay6 B2)) (bE B0 B1 B3 W) (ix2 u x) = ∑ q, gG (ch B0 q) (ch B1 q) (ch B2 q) (ch B3 q) (m3 W) x := by
  rw [p89, sum_rows]
  simp only [bE_at, p20, cst6]
  rfl
theorem oS_at (u : Fin 1) (x : Fin 512) :
    k0_pay90 (F := Ideal) (bE B0 B1 B3 W) (ix2 u x) = ∑ q, gB (ch B0 q) (ch B1 q) (ch B3 q) (m3 W) x := by
  rw [p90, sum_rows]
  simp only [bE_at]
  rfl
end point

end Cert.GmlpBwdIdeal.Value

end
-- ==== Proof.GmlpValue.lean ====
/- The four results of the spatial gate's backward call: what each grid point reads, and what it stores. -/
module

public import proofs.«01_k».proof.Proof.Cols
public import proofs.«01_k».proof.Proof.Gates
public import proofs.«01_k».proof.Proof.Gen.GmlpBwdIdeal.Frame
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GmlpBwdIdeal.Value
open Cert.GmlpBwdIdeal Cert.GmlpBwdIdeal.Gen Cert.Gates

variable (m : (ℓ : Loc nD τ sig) → Buf (Elt Ideal) ℓ)

theorem idx : ∀ t : Fin cfg0.N, win0_0.index t = ![t.val / 8, t.val % 8, 0]
    ∧ win0_1.index t = ![t.val / 8, t.val % 8, 11] ∧ win0_2.index t = ![t.val / 8, t.val % 8, 12] ∧ win0_3.index t = ![t.val / 8, t.val % 8, 13]
    ∧ win0_4.index t = ![0, 0] ∧ win0_5.index t = ![0, 0] ∧ win0_6.index t = ![0, 0, 0] ∧ win0_7.index t = ![0, 0]
    ∧ win0_8.index t = ![t.val / 8, t.val % 8, 0] ∧ win0_9.index t = ![0, 0, 0] ∧ win0_10.index t = ![0, 0] ∧ win0_11.index t = ![0, 0] :=
  (by decide +kernel : ∀ t : Fin grid0.N, _)

theorem lt16 (t : Fin cfg0.N) : t.val < 16 := lt_of_lt_of_eq t.isLt (by decide +kernel)

/-- The batch of point `t`, and the position in the sequence of its row `y`. -/
def bat (t : Fin cfg0.N) : Fin 2 := ⟨t.val / 8, by have := lt16 t; omega⟩
def pos (t : Fin cfg0.N) (y : Fin 512) : Fin 4096 := ⟨t.val % 8 * 512 + y.val, by omega⟩

/-- The arguments: the cotangent, the projection, the scale, the shift, the weights and the bias. -/
def dO (c : Dev nD) : S2x4096x512.Idx → EReal := m ((c : Thread nD τ).loc main_arg0)
def pr (c : Dev nD) : S2x4096x10256.Idx → EReal := m ((c : Thread nD τ).loc main_arg1)
def gg (c : Dev nD) : S512.Idx → EReal := m ((c : Thread nD τ).loc main_arg2)
def bb (c : Dev nD) : S512.Idx → EReal := m ((c : Thread nD τ).loc main_arg3)
def ws (c : Dev nD) : S4x128x128.Idx → EReal := m ((c : Thread nD τ).loc main_arg4)
def bs (c : Dev nD) : S4x128.Idx → EReal := m ((c : Thread nD τ).loc main_arg5)

/-- Column `k` of part `n` of the branch in the projection. -/
def ccol (n : Fin 3) (k : Fin 512) : Fin 10256 := ⟨5648 + n.val * 512 + k.val, by omega⟩

/-- The branch's three parts. -/
def cc (c : Dev nD) (n : Fin 3) (b : Fin 2) (s : Fin 4096) (k : Fin 512) : EReal := pr m c (ix3 b s (ccol n k))

section reads
variable (c : Dev nD) (t : Fin cfg0.N)

theorem rd0 (u : Fin 1) (y : Fin 512) (k : Fin 512) : iblk m c 0 t (ix3 u y k) = dO m c (ix3 (bat t) (pos t y) k) := by
  blk_simp [iblk]; entry_read; pointwise; blk_ext [idx t, bat, pos, dO]
theorem rd4 (u : Fin 1) (k : Fin 512) : iblk m c 4 t (ix2 u k) = gg m c (ix1 k) := by
  blk_simp [iblk]; entry_read; pointwise; blk_ext [idx t, gg]
theorem rd5 (u : Fin 1) (k : Fin 512) : iblk m c 5 t (ix2 u k) = bb m c (ix1 k) := by
  blk_simp [iblk]; entry_read; pointwise; blk_ext [idx t, bb]
theorem rd6 (n : Fin 4) (i j : Fin 128) : iblk m c 6 t (ix3 n i j) = ws m c (ix3 n i j) := by
  blk_simp [iblk]; entry_read; pointwise; blk_ext [idx t, ws]
theorem rd7 (i : Fin 128) (x : Fin 512) : iblk m c 7 t (ix2 i x) = bs m c (ix2 (grp x) i) := by
  blk_simp [iblk]; entry_read; pointwise; blk_ext [idx t, bs, grp]

/-- The projection's third part, where the kernel's column order puts it. -/
theorem part2_at (b : Fin 2) (s : Fin 4096) (x : Fin 10368) (k : Fin 4608) (hx : x.val = 5632 + k.val) :
    V m c main_v5 (ix3 b s x) = V m c main_v3 (ix3 b s k) := by
  unfold V hostOps0
  simp only [StableHlo.after_cons, StableHlo.after_nil]
  after_results_simp
  refine (Cols.cols2_at _ _ _ _ _ _ b s x k hx).trans ?_
  refine congrFun (f := (HloOp.result _ _ (Proc.tc.devRef main_v3))) ?_ (ix3 b s k)
  after_results_simp

theorem part_at (b : Fin 2) (s : Fin 4096) (x : Fin 10368) (n : Fin 3) (k : Fin 512) (hx : x.val = 5632 + n.val * 512 + k.val) :
    V m c main_v5 (ix3 b s x) = cc m c n b s k := by
  rw [part2_at m c b s x ⟨n.val * 512 + k.val, by omega⟩ (by show x.val = 5632 + (n.val * 512 + k.val); omega)]
  entry_read
  pointwise
  blk_ext [pr, cc, ccol]

theorem rd1 (u : Fin 1) (y : Fin 512) (k : Fin 512) : X0_1 m c t (ix3 u y k) = cc m c 0 (bat t) (pos t y) k := by
  have h : (cfg0.win 1).moved (cfg0.grid.coords t) (ix3 u y k) = true :=
    ((cfg0.win 1).moved_iff _ _).mpr fun a => by rw [xsize0_1]; exact (ix3 u y k a).isLt
  unfold X0_1
  refine (dif_pos h).trans (Eq.trans ?_ (part_at m c (bat t) (pos t y) ⟨5632 + k.val, by omega⟩ 0 k (by simp)))
  unfold iblk
  rw [View.read_apply, cast_eq]
  refine congrArg (V m c main_v5) ?_
  blk_ext [idx t, bat, pos]
theorem rd2 (u : Fin 1) (y : Fin 512) (k : Fin 512) : X0_2 m c t (ix3 u y k) = cc m c 1 (bat t) (pos t y) k := by
  have h : (cfg0.win 2).moved (cfg0.grid.coords t) (ix3 u y k) = true :=
    ((cfg0.win 2).moved_iff _ _).mpr fun a => by rw [xsize0_2]; exact (ix3 u y k a).isLt
  unfold X0_2
  refine (dif_pos h).trans (Eq.trans ?_ (part_at m c (bat t) (pos t y) ⟨6144 + k.val, by omega⟩ 1 k (by simp)))
  unfold iblk
  rw [View.read_apply, cast_eq]
  refine congrArg (V m c main_v5) ?_
  blk_ext [idx t, bat, pos]
theorem rd3 (u : Fin 1) (y : Fin 512) (k : Fin 512) : X0_3 m c t (ix3 u y k) = cc m c 2 (bat t) (pos t y) k := by
  have h : (cfg0.win 3).moved (cfg0.grid.coords t) (ix3 u y k) = true :=
    ((cfg0.win 3).moved_iff _ _).mpr fun a => by rw [xsize0_3]; exact (ix3 u y k a).isLt
  unfold X0_3
  refine (dif_pos h).trans (Eq.trans ?_ (part_at m c (bat t) (pos t y) ⟨6656 + k.val, by omega⟩ 2 k (by simp)))
  unfold iblk
  rw [View.read_apply, cast_eq]
  refine congrArg (V m c main_v5) ?_
  blk_ext [idx t, bat, pos]

end reads

end Cert.GmlpBwdIdeal.Value

end
-- ==== Proof.GmlpStep.lean ====
/- What each grid point of the spatial gate's backward call leaves in the four result windows. -/
module

public import proofs.«01_k».proof.Proof.GmlpPoint
public import proofs.«01_k».proof.Proof.GmlpValue
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpBwdIdeal.Value
open Cert.GmlpBwdIdeal Cert.GmlpBwdIdeal.Gen Cert.Gates

variable (m : (ℓ : Loc nD τ sig) → Buf (Elt Ideal) ℓ)

/-- Position `i` of chunk `q` of a sequence; chunk `n` of point `t`. -/
def at128 (q : Fin 32) (i : Fin 128) : Fin 4096 := ⟨128 * q.val + i.val, by omega⟩
def chk (t : Fin cfg0.N) (n : Fin 4) : Fin 32 := ⟨t.val % 8 * 4 + n.val, by omega⟩

/-- A chunk of the cotangent and of the branch's parts, and the other arguments by their indices. -/
def cD (c : Dev nD) (b : Fin 2) (q : Fin 32) (i : Fin 128) (k : Fin 512) : EReal := dO m c (ix3 b (at128 q i) k)
def cP (c : Dev nD) (n : Fin 3) (b : Fin 2) (q : Fin 32) (i : Fin 128) (k : Fin 512) : EReal := cc m c n b (at128 q i) k
def aG (c : Dev nD) (k : Fin 512) : EReal := gg m c (ix1 k)
def aB (c : Dev nD) (k : Fin 512) : EReal := bb m c (ix1 k)
def aW (c : Dev nD) (n : Fin 4) (i j : Fin 128) : EReal := ws m c (ix3 n i j)
def aS (c : Dev nD) (n : Fin 4) (i : Fin 128) : EReal := bs m c (ix2 n i)

section reads
variable (c : Dev nD) (t : Fin cfg0.N)

theorem pos_blk (n : Fin 4) (i : Fin 128) : pos t (blk n i) = at128 (chk t n) i := by
  refine Fin.ext ?_
  show t.val % 8 * 512 + (128 * n.val + i.val) = 128 * (t.val % 8 * 4 + n.val) + i.val
  omega
theorem ch0 (n : Fin 4) : ch (iblk m c 0 t) n = cD m c (bat t) (chk t n) := by
  funext i k; exact (rd0 m c t 0 (blk n i) k).trans (by rw [pos_blk]; rfl)
theorem ch1 (n : Fin 4) : ch (X0_1 m c t) n = cP m c 0 (bat t) (chk t n) := by
  funext i k; exact (rd1 m c t 0 (blk n i) k).trans (by rw [pos_blk]; rfl)
theorem ch2 (n : Fin 4) : ch (X0_2 m c t) n = cP m c 1 (bat t) (chk t n) := by
  funext i k; exact (rd2 m c t 0 (blk n i) k).trans (by rw [pos_blk]; rfl)
theorem ch3 (n : Fin 4) : ch (X0_3 m c t) n = cP m c 2 (bat t) (chk t n) := by
  funext i k; exact (rd3 m c t 0 (blk n i) k).trans (by rw [pos_blk]; rfl)
theorem ch4 : rw1 (iblk m c 4 t) = aG m c := by funext k; exact rd4 m c t 0 k
theorem ch5 : rw1 (iblk m c 5 t) = aB m c := by funext k; exact rd5 m c t 0 k
theorem ch6 : m3 (iblk m c 6 t) = aW m c := by funext n i j; exact rd6 m c t n i j
theorem ch7 : m2 (iblk m c 7 t) = aS m c := by
  funext n i; exact (rd7 m c t i (blk n 0)).trans (by rw [grp_blk]; rfl)
theorem hS7 (i : Fin 128) (x : Fin 512) : (iblk m c 7 t : S128x512.Idx → EReal) (ix2 i x) = m2 (iblk m c 7 t) (grp x) i := by
  rw [ch7, rd7]; rfl
end reads

theorem s107 (P Q : S128x512.Idx → EReal) (i : Fin 128) (x : Fin 512) : k0_pay107 (F := Ideal) P Q (ix2 i x) = Q (ix2 i x) + P (ix2 i x) := by
  pointwise [k0_pay107]

/-- A point's share of the gradient of the bias. -/
def pB (c : Dev nD) (t : Fin cfg0.N) (i : Fin 128) (x : Fin 512) : EReal :=
  ∑ q, dmx (cD m c (bat t) (chk t q)) (cP m c 0 (bat t) (chk t q)) (cP m c 2 (bat t) (chk t q)) i x

theorem pB_eq (c : Dev nD) (t : Fin cfg0.N) (i : Fin 128) (x : Fin 512) :
    ∑ q, dmx (ch (iblk m c 0 t) q) (ch (X0_1 m c t) q) (ch (X0_3 m c t) q) i x = pB m c t i x := by
  simp only [ch0, ch1, ch3]; rfl

theorem b10 (c : Dev nD) (t : Fin cfg0.N) (h0 : ¬ t.val % 16 = 0) (i : Fin 128) (x : Fin 512) :
    (outsAt0 m c t.val t.isLt).2.2.1 (ix2 i x) = (outsAt0 m c (t.val - 1) (Nat.lt_of_le_of_lt (Nat.sub_le _ _) t.isLt)).2.2.1 (ix2 i x) + pB m c t i x := by
  rw [outsAt0_B m c t h0]; frame_out
  refine (s107 _ _ _ _).trans (congrArg (_ + ·) ((oB_at (iblk m c 0 t) (X0_1 m c t) (X0_3 m c t) i x).trans (pB_eq m c t i x)))

theorem a10 (c : Dev nD) (t : Fin cfg0.N) (h0 : t.val % 16 = 0) (i : Fin 128) (x : Fin 512) :
    (outsAt0 m c t.val t.isLt).2.2.1 (ix2 i x) = pB m c t i x := by
  rw [outsAt0_A m c t h0]; frame_out
  refine (s107 _ _ _ _).trans ((congrArg₂ (· + ·) (?_ : _ = (0 : EReal)) ((oB_at (iblk m c 0 t) (X0_1 m c t) (X0_3 m c t) i x).trans (pB_eq m c t i x))).trans (zero_add _))
  pointwise [k0_pay2]

/-- The three parts' columns side by side; a position's chunk and its place there. -/
def prt (x : Fin 1536) : Fin 3 := ⟨x.val / 512, by omega⟩
def pk (x : Fin 1536) : Fin 512 := ⟨x.val % 512, by omega⟩
def sq (s : Fin 4096) : Fin 32 := ⟨s.val / 128, by omega⟩
def sw (s : Fin 4096) : Fin 128 := ⟨s.val % 128, by omega⟩

theorem prt_eq {x : Fin 1536} {k : Fin 512} (n : Fin 3) (h : x.val = n.val * 512 + k.val) : prt x = n := Fin.ext (by show x.val / 512 = n.val; omega)
theorem pk_eq {x : Fin 1536} {k : Fin 512} (n : Fin 3) (h : x.val = n.val * 512 + k.val) : pk x = k := Fin.ext (by show x.val % 512 = k.val; omega)
theorem sq_pos (t : Fin cfg0.N) (y : Fin 512) : sq (pos t y) = chk t (grp y) :=
  Fin.ext (by show (t.val % 8 * 512 + y.val) / 128 = t.val % 8 * 4 + y.val / 128; omega)
theorem sw_pos (t : Fin cfg0.N) (y : Fin 512) : sw (pos t y) = wit y :=
  Fin.ext (by show (t.val % 8 * 512 + y.val) % 128 = y.val % 128; omega)

/-- The gradient of part `n` at a position. -/
def dC (c : Dev nD) (n : Fin 3) (b : Fin 2) (s : Fin 4096) (k : Fin 512) : EReal :=
  ![gU (cD m c b (sq s)) (cP m c 0 b (sq s)) (cP m c 1 b (sq s)) (cP m c 2 b (sq s)) (aG m c) (aB m c) (aW m c) (aS m c) (sw s) k,
    gV (cD m c b (sq s)) (cP m c 0 b (sq s)) (cP m c 1 b (sq s)) (cP m c 2 b (sq s)) (aG m c) (aW m c) (sw s) k,
    gZ (cD m c b (sq s)) (cP m c 0 b (sq s)) (cP m c 1 b (sq s)) (cP m c 2 b (sq s)) (aG m c) (aB m c) (aW m c) (aS m c) (sw s) k] n

theorem placeC (c : Dev nD) (t : Fin cfg0.N) (n : Fin 3) {y1 x1 : Fin 512} {y2 : Fin 1536} {x2 : Fin 512}
    (h1 : y1.val = x1.val) (h2 : y2.val = n.val * 512 + x2.val) : dC m c n (bat t) (pos t x1) x2 = dC m c (prt y2) (bat t) (pos t y1) (pk y2) := by
  rw [prt_eq n h2, pk_eq n h2, Fin.ext h1]

section points
variable (c : Dev nD) (t : Fin cfg0.N)

abbrev q0 : S1x512x512.Idx → EReal := iblk m c 0 t
abbrev q1 : S1x512x512.Idx → EReal := X0_1 m c t
abbrev q2 : S1x512x512.Idx → EReal := X0_2 m c t
abbrev q3 : S1x512x512.Idx → EReal := X0_3 m c t
abbrev q4 : S1x512.Idx → EReal := iblk m c 4 t
abbrev q5 : S1x512.Idx → EReal := iblk m c 5 t
abbrev q6 : S4x128x128.Idx → EReal := iblk m c 6 t
abbrev q7 : S128x512.Idx → EReal := iblk m c 7 t

theorem oU (u : Fin 1) (y : Fin 512) (x : Fin 512) :
    k0_pay99 (F := Ideal) (k0_pay33 (k0_pay5 (q1 m c t)) (k0_pay30 (k0_pay4 (q0 m c t)) (k0_pay7 (q3 m c t)) (k0_pay10 (q7 m c t)) (bW0 (q6 m c t)) (bW1 (q6 m c t)) (bW2 (q6 m c t)) (bW3 (q6 m c t))
        (bV (q2 m c t) (q4 m c t) (q5 m c t)) (bR0 (q2 m c t) (q4 m c t) (q5 m c t) (q6 m c t) (q7 m c t)) (bR1 (q2 m c t) (q4 m c t) (q5 m c t) (q6 m c t) (q7 m c t))
        (bR2 (q2 m c t) (q4 m c t) (q5 m c t) (q6 m c t))) (k0_pay31 (k0_pay5 (q1 m c t))) k0_pay32) (ix3 u y x) = dC m c 0 (bat t) (pos t y) x := by
  have h := oU_at (q0 m c t) (q1 m c t) (q2 m c t) (q3 m c t) (q4 m c t) (q5 m c t) (q6 m c t) (q7 m c t) (hS7 m c t) u (grp y) (wit y) x
  rw [blk_grp] at h
  refine h.trans ?_
  simp only [ch0, ch1, ch2, ch3, ch4, ch5, ch6, ch7]
  unfold dC
  rw [sq_pos, sw_pos]; rfl

theorem oV (u : Fin 1) (y : Fin 512) (x : Fin 512) :
    k0_pay100 (F := Ideal) (k0_pay6 (q2 m c t)) (k0_pay88 (k0_pay19 (k0_pay6 (q2 m c t))) (k0_pay20 (k0_pay6 (q2 m c t))) (bX (q0 m c t) (q1 m c t) (q3 m c t) (q4 m c t) (q6 m c t)))
      (k0_pay96 (k0_pay6 (q2 m c t))) (k0_pay97 (k0_pay6 (q2 m c t))) (k0_pay98 (k0_pay6 (q2 m c t))) (Scalar.ofBits .f32 0x3F800000#32) (ix3 u y x) = dC m c 1 (bat t) (pos t y) x := by
  have h := oV_at (q0 m c t) (q1 m c t) (q2 m c t) (q3 m c t) (q4 m c t) (q6 m c t) u (grp y) (wit y) x
  rw [blk_grp] at h
  refine h.trans ?_
  simp only [ch0, ch1, ch2, ch3, ch4, ch5, ch6, ch7]
  unfold dC
  rw [sq_pos, sw_pos]; rfl

theorem oZ (u : Fin 1) (y : Fin 512) (x : Fin 512) :
    k0_pay101 (F := Ideal) (k0_pay34 (k0_pay4 (q0 m c t)) (k0_pay7 (q3 m c t)) (bM (q2 m c t) (q4 m c t) (q5 m c t) (q6 m c t) (q7 m c t)) (bU (q1 m c t))) (ix3 u y x)
      = dC m c 2 (bat t) (pos t y) x := by
  have h := oZ_at (q0 m c t) (q1 m c t) (q2 m c t) (q3 m c t) (q4 m c t) (q5 m c t) (q6 m c t) (q7 m c t) (hS7 m c t) u (grp y) (wit y) x
  rw [blk_grp] at h
  refine h.trans ?_
  simp only [ch0, ch1, ch2, ch3, ch4, ch5, ch6, ch7]
  unfold dC
  rw [sq_pos, sw_pos]; rfl
end points

/-- The rows of the scale and the shift. -/
theorem s108 (P Q : S1x512.Idx → EReal) (R : S8x512.Idx → EReal) (r : Fin 8) (x : Fin 512) :
    k0_pay108 (F := Ideal) P Q R (ix2 r x) = R (ix2 r x) + if r.val = 0 then P (ix2 0 x) else if r.val = 1 then Q (ix2 0 x) else 0 := by
  pointwise [k0_pay108]
  refine congrArg (R (ix2 r x) + ·) ?_
  by_cases h0 : r.val = 0
  · rw [if_pos h0]; exact (dif_pos (by omega)).trans (congrArg (fun a => P (ix2 a x)) (Subsingleton.elim _ _))
  by_cases h1 : r.val = 1
  · rw [if_neg h0, if_pos h1]; exact (dif_neg (by omega)).trans ((dif_pos (by omega)).trans (congrArg (fun a => Q (ix2 a x)) (Subsingleton.elim _ _)))
  · rw [if_neg h0, if_neg h1]; exact (dif_neg (by omega)).trans (dif_neg (by omega))

def pR (c : Dev nD) (t : Fin cfg0.N) (r : Fin 8) (x : Fin 512) : EReal :=
  if r.val = 0 then ∑ q, gG (cD m c (bat t) (chk t q)) (cP m c 0 (bat t) (chk t q)) (cP m c 1 (bat t) (chk t q)) (cP m c 2 (bat t) (chk t q)) (aW m c) x
  else if r.val = 1 then ∑ q, gB (cD m c (bat t) (chk t q)) (cP m c 0 (bat t) (chk t q)) (cP m c 2 (bat t) (chk t q)) (aW m c) x else 0

theorem oR (c : Dev nD) (t : Fin cfg0.N) (R : S8x512.Idx → EReal) (r : Fin 8) (x : Fin 512) :
    k0_pay108 (F := Ideal) (k0_pay89 (k0_pay20 (k0_pay6 (q2 m c t))) (bE (q0 m c t) (q1 m c t) (q3 m c t) (q6 m c t))) (k0_pay90 (bE (q0 m c t) (q1 m c t) (q3 m c t) (q6 m c t))) R (ix2 r x)
      = R (ix2 r x) + pR m c t r x := by
  rw [s108, oG_at, oS_at]
  simp only [ch0, ch1, ch2, ch3, ch4, ch5, ch6, ch7]
  rfl

end Cert.GmlpBwdIdeal.Value

end
-- ==== Proof.GmlpSums.lean ====
/- The accumulated gradients: what each grid point adds to the windows of the weights, of the bias, and of the scale and the shift. -/
module

public import proofs.«01_k».proof.Proof.GmlpStep
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpBwdIdeal.Value
open Cert.GmlpBwdIdeal Cert.GmlpBwdIdeal.Gen Cert.Gates

variable (m : (ℓ : Loc nD τ sig) → Buf (Elt Ideal) ℓ)

theorem b11 (c : Dev nD) (t : Fin cfg0.N) (h0 : ¬ t.val % 16 = 0) (r : Fin 8) (x : Fin 512) :
    (outsAt0 m c t.val t.isLt).2.2.2 (ix2 r x) = (outsAt0 m c (t.val - 1) (Nat.lt_of_le_of_lt (Nat.sub_le _ _) t.isLt)).2.2.2 (ix2 r x) + pR m c t r x := by
  rw [outsAt0_B m c t h0]; frame_out
  repeat rw [Memref.IsWhole.read_unread]
  repeat rw [View.ld_unit_lit' (S := S1x512x512) (off := ![0, 0, 0]) _ _ (by decide)]
  repeat rw [View.ld_unit_lit' (S := S4x128x128) (off := ![0, 0, 0]) _ _ (by decide)]
  repeat rw [View.ld_unit_lit' (S := S1x512) (off := ![0, 0]) _ _ (by decide)]
  repeat rw [View.ld_unit_lit' (S := S128x512) (off := ![0, 0]) _ _ (by decide)]
  exact oR m c t _ _ _
theorem a11 (c : Dev nD) (t : Fin cfg0.N) (h0 : t.val % 16 = 0) (r : Fin 8) (x : Fin 512) :
    (outsAt0 m c t.val t.isLt).2.2.2 (ix2 r x) = pR m c t r x := by
  rw [outsAt0_A m c t h0]; frame_out
  repeat rw [Memref.IsWhole.read_unread]
  repeat rw [View.ld_unit_lit' (S := S1x512x512) (off := ![0, 0, 0]) _ _ (by decide)]
  repeat rw [View.ld_unit_lit' (S := S4x128x128) (off := ![0, 0, 0]) _ _ (by decide)]
  repeat rw [View.ld_unit_lit' (S := S1x512) (off := ![0, 0]) _ _ (by decide)]
  repeat rw [View.ld_unit_lit' (S := S128x512) (off := ![0, 0]) _ _ (by decide)]
  refine (oR m c t _ _ _).trans ((congrArg (· + _) (?_ : _ = (0 : EReal))).trans (zero_add _))
  pointwise [k0_pay3]

section weights
variable (P : S128x128.Idx → EReal) (Q : S1x128x128.Idx → EReal) (u : Fin 1) (i j : Fin 128)

theorem s102 : k0_pay102 (F := Ideal) (k0_pay91 k0_pay27 P) Q (ix3 u i j) = Q (ix3 0 i j) + if j.val ≤ i.val then P (ix2 i j) else 0 := by
  pointwise [k0_pay102, k0_pay91, k0_pay27]; rw [sel_tri]
theorem s104 : k0_pay104 (F := Ideal) (k0_pay103 (k0_pay92 k0_pay27 P) Q) (ix3 u i j) = Q (ix3 0 i j) + if j.val ≤ i.val then P (ix2 i j) else 0 := by
  pointwise [k0_pay104, k0_pay103, k0_pay92, k0_pay27]; rw [sel_tri]
theorem s105 : k0_pay105 (F := Ideal) (k0_pay93 k0_pay27 P) Q (ix3 u i j) = Q (ix3 0 i j) + if j.val ≤ i.val then P (ix2 i j) else 0 := by
  pointwise [k0_pay105, k0_pay93, k0_pay27]; rw [sel_tri]
theorem s106 : k0_pay106 (F := Ideal) (k0_pay94 k0_pay27 P) Q (ix3 u i j) = Q (ix3 0 i j) + if j.val ≤ i.val then P (ix2 i j) else 0 := by
  pointwise [k0_pay106, k0_pay94, k0_pay27]; rw [sel_tri]
end weights

/-- A point's share of the gradient of the weights. -/
def pW (c : Dev nD) (t : Fin cfg0.N) (n : Fin 4) (i j : Fin 128) : EReal :=
  if j.val ≤ i.val then ∑ q, gW (cD m c (bat t) (chk t q)) (cP m c 0 (bat t) (chk t q)) (cP m c 1 (bat t) (chk t q)) (cP m c 2 (bat t) (chk t q)) (aG m c) (aB m c) n i j else 0

section weights
variable (c : Dev nD) (t : Fin cfg0.N) (P : S128x128.Idx → EReal) (Q : S1x128x128.Idx → EReal) (R : EReal) (u : Fin 1) (i' j' : Fin 128) (n : Fin 4) (i j : Fin 128)

theorem oW (X : EReal) (k : ℕ) (kf : Fin 4) (hX : X = Q (ix3 0 i' j') + if j'.val ≤ i'.val then P (ix2 i' j') else 0)
    (hP : P (ix2 i' j') = wsum kf (bV (q2 m c t) (q4 m c t) (q5 m c t)) (bD (q0 m c t) (q1 m c t) (q3 m c t)) i' j') (hk : kf.val = k)
    (hn : n.val = k + u.val) (hi : i.val = i'.val) (hj : j.val = j'.val) (hQ : Q (ix3 0 i' j') = R) : X = R + pW m c t n i j := by
  obtain rfl : n = kf := Fin.ext (by omega)
  obtain rfl : i = i' := Fin.ext hi
  obtain rfl : j = j' := Fin.ext hj
  rw [hX, hP, hQ, wsum_at]
  simp only [ch0, ch1, ch2, ch3, ch4, ch5]
  rfl
end weights

abbrev RR (c : Dev nD) (t : Fin cfg0.N) (n : Fin 4) (i j : Fin 128) : EReal :=
  (outsAt0 m c (t.val - 1) (Nat.lt_of_le_of_lt (Nat.sub_le _ _) t.isLt)).2.1 (ix3 n i j)

def wWin (c : Dev nD) (t : Fin cfg0.N) : Vec Ideal S4x128x128 .f32 := fun x => pW m c t (x 0) (x 1) (x 2)

theorem chunk0 (A B C : S512x512.Idx → EReal) (i : Fin 128) (x : Fin 512) :
    k0_pay39 (F := Ideal) A B C (ix2 i x) = k0_pay35 (F := Ideal) A B C (ix2 (blk 0 i) x) := by
  pointwise [k0_pay39]; simp only [blk_0]

theorem dw0p (B0 B1 B2 B3 : S1x512x512.Idx → EReal) (G B : S1x512.Idx → EReal) (i j : Fin 128) :
    k0_pay79 (F := Ideal) (bV B2 G B) (bD B0 B1 B3) (k0_pay66 (bV B2 G B) (bD B0 B1 B3) (k0_pay54 (bV B2 G B) (bD B0 B1 B3) (k0_pay42 (k0_pay4 B0) (bV B2 G B) (bU B1) (bZ B3)))) (ix2 i j)
      = wsum 0 (bV B2 G B) (bD B0 B1 B3) i j :=
  dw0 (D := bD B0 B1 B3) (bV B2 G B) i j _ _ _ fun _ _ => rfl

set_option maxHeartbeats 1600000 in
theorem b9 (c : Dev nD) (t : Fin cfg0.N) (h0 : ¬ t.val % 16 = 0) (n : Fin 4) (i j : Fin 128) :
    (outsAt0 m c t.val t.isLt).2.1 (ix3 n i j) = (outsAt0 m c (t.val - 1) (Nat.lt_of_le_of_lt (Nat.sub_le _ _) t.isLt)).2.1 (ix3 n i j) + pW m c t n i j := by
  have w0 := dw0p (q0 m c t) (q1 m c t) (q2 m c t) (q3 m c t) (q4 m c t) (q5 m c t)
  dsimp only [bV, bD, bU, bZ, k0_pay79, k0_pay78, k0_pay76, k0_pay66, k0_pay65, k0_pay63, k0_pay54, k0_pay53, k0_pay51, k0_pay4, k0_pay5, k0_pay6, k0_pay7, k0_pay8, k0_pay9] at w0
  rw [outsAt0_B m c t h0]; frame_out
  repeat rw [Memref.IsWhole.read_unread]
  repeat rw [View.ld_unit_lit' (S := S1x512x512) (off := ![0, 0, 0]) _ _ (by decide)]
  repeat rw [View.ld_unit_lit' (S := S4x128x128) (off := ![0, 0, 0]) _ _ (by decide)]
  repeat rw [View.ld_unit_lit' (S := S1x512) (off := ![0, 0]) _ _ (by decide)]
  canon_tiles x h
  · idx_vars x
    refine oW m c t _ _ _ x0 x1 x2 n i j _ 3 3 (s106 _ _ x0 x1 x2) (dw3 (D := bD (q0 m c t) (q1 m c t) (q3 m c t)) (bV (q2 m c t) (q4 m c t) (q5 m c t)) _ _ (chunk0 _ _ _)) rfl h0 h1 h2 ?_
    · pointwise
      exact congrArg (outsAt0 m c (t.val - 1) (Nat.lt_of_le_of_lt (Nat.sub_le _ _) t.isLt)).2.1 (by blk_ext : _ = (ix3 n i j : S4x128x128.Idx))
  · idx_vars x
    refine oW m c t _ _ _ x0 x1 x2 n i j _ 2 2 (s105 _ _ x0 x1 x2) (dw2 (D := bD (q0 m c t) (q1 m c t) (q3 m c t)) (bV (q2 m c t) (q4 m c t) (q5 m c t)) _ _ (chunk0 _ _ _)) rfl h0 h1 h2 ?_
    · pointwise
      exact congrArg (outsAt0 m c (t.val - 1) (Nat.lt_of_le_of_lt (Nat.sub_le _ _) t.isLt)).2.1 (by blk_ext : _ = (ix3 n i j : S4x128x128.Idx))
  · idx_vars x
    refine oW m c t _ _ _ x0 x1 x2 n i j _ 1 1 (s104 _ _ x0 x1 x2) (dw1 (D := bD (q0 m c t) (q1 m c t) (q3 m c t)) (bV (q2 m c t) (q4 m c t) (q5 m c t)) _ _ (chunk0 _ _ _)) rfl h0 h1 h2 ?_
    · pointwise
      exact congrArg (outsAt0 m c (t.val - 1) (Nat.lt_of_le_of_lt (Nat.sub_le _ _) t.isLt)).2.1 (by blk_ext : _ = (ix3 n i j : S4x128x128.Idx))
  · idx_vars x
    refine oW m c t _ _ _ x0 x1 x2 n i j _ 0 0 (s102 _ _ x0 x1 x2) ?_ rfl (h0.trans (by simp)) h1 h2 ?_
    · exact w0 x1 x2
    · pointwise
      exact congrArg (outsAt0 m c (t.val - 1) (Nat.lt_of_le_of_lt (Nat.sub_le _ _) t.isLt)).2.1 (by blk_ext : _ = (ix3 n i j : S4x128x128.Idx))

set_option maxHeartbeats 1600000 in
theorem a9 (c : Dev nD) (t : Fin cfg0.N) (h0 : t.val % 16 = 0) (n : Fin 4) (i j : Fin 128) :
    (outsAt0 m c t.val t.isLt).2.1 (ix3 n i j) = pW m c t n i j := by
  have w0 := dw0p (q0 m c t) (q1 m c t) (q2 m c t) (q3 m c t) (q4 m c t) (q5 m c t)
  dsimp only [bV, bD, bU, bZ, k0_pay79, k0_pay78, k0_pay76, k0_pay66, k0_pay65, k0_pay63, k0_pay54, k0_pay53, k0_pay51, k0_pay4, k0_pay5, k0_pay6, k0_pay7, k0_pay8, k0_pay9] at w0
  rw [outsAt0_A m c t h0]; frame_open
  simp (disch := decide) only [↓ View.readCov_skip, ↓ View.readCov_cons_toLoadRect, ↓ View.readCov_fill]
  frame_out
  repeat rw [Memref.IsWhole.read_unread]
  repeat rw [View.ld_unit_lit' (S := S1x512x512) (off := ![0, 0, 0]) _ _ (by decide)]
  repeat rw [View.ld_unit_lit' (S := S4x128x128) (off := ![0, 0, 0]) _ _ (by decide)]
  repeat rw [View.ld_unit_lit' (S := S1x512) (off := ![0, 0]) _ _ (by decide)]
  refine View.canon_append_of_piecesOf (wWin m c t) [_] [_, _, _, _] ⟨?_, ?_, ?_, ?_, trivial⟩ (ix3 n i j) ?_
  · intro x
    idx_vars x
    refine Eq.trans (oW m c t _ _ 0 x0 x1 x2 _ _ _ _ 3 3 (s106 _ _ x0 x1 x2) (dw3 (D := bD (q0 m c t) (q1 m c t) (q3 m c t)) (bV (q2 m c t) (q4 m c t) (q5 m c t)) _ _ (chunk0 _ _ _)) rfl ?_ ?_ ?_ ?_) (zero_add _)
    · show 3 + 1 * x0.val = 3 + x0.val
      omega
    · show 0 + 1 * x1.val = x1.val
      omega
    · show 0 + 1 * x2.val = x2.val
      omega
    · pointwise
  · intro x
    idx_vars x
    refine Eq.trans (oW m c t _ _ 0 x0 x1 x2 _ _ _ _ 2 2 (s105 _ _ x0 x1 x2) (dw2 (D := bD (q0 m c t) (q1 m c t) (q3 m c t)) (bV (q2 m c t) (q4 m c t) (q5 m c t)) _ _ (chunk0 _ _ _)) rfl ?_ ?_ ?_ ?_) (zero_add _)
    · show 2 + 1 * x0.val = 2 + x0.val
      omega
    · show 0 + 1 * x1.val = x1.val
      omega
    · show 0 + 1 * x2.val = x2.val
      omega
    · pointwise
  · intro x
    idx_vars x
    refine Eq.trans (oW m c t _ _ 0 x0 x1 x2 _ _ _ _ 1 1 (s104 _ _ x0 x1 x2) (dw1 (D := bD (q0 m c t) (q1 m c t) (q3 m c t)) (bV (q2 m c t) (q4 m c t) (q5 m c t)) _ _ (chunk0 _ _ _)) rfl ?_ ?_ ?_ ?_) (zero_add _)
    · show 1 + 1 * x0.val = 1 + x0.val
      omega
    · show 0 + 1 * x1.val = x1.val
      omega
    · show 0 + 1 * x2.val = x2.val
      omega
    · pointwise
  · intro x
    idx_vars x
    refine Eq.trans (oW m c t _ _ 0 x0 x1 x2 _ _ _ _ 0 0 (s102 _ _ x0 x1 x2) (w0 x1 x2) rfl ?_ ?_ ?_ ?_) (zero_add _)
    · show 0 + 1 * x0.val = 0 + x0.val
      omega
    · show 0 + 1 * x1.val = x1.val
      omega
    · show 0 + 1 * x2.val = x2.val
      omega
    · pointwise
  · simp only [List.mem_cons, List.not_mem_nil, or_false, exists_eq_or_imp, exists_eq_left, Rect.mem_set_unit]
    have hn := n.isLt
    have hi := i.isLt
    have hj := j.isLt
    simp [Fin.forall_fin_succ, ix3]
    omega

end Cert.GmlpBwdIdeal.Value

end
-- ==== Proof.GmlpFinal.lean ====
module

public import proofs.«01_k».proof.Proof.GmlpSums
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpBwdIdeal.Value
open Cert.GmlpBwdIdeal Cert.GmlpBwdIdeal.Gen Cert.Gates

variable (m : (ℓ : Loc nD τ sig) → Buf (Elt Ideal) ℓ)

/-- A point's four chunks' shares. -/
def shr (f : Fin 2 → Fin 32 → EReal) (p : ℕ) : EReal := ∑ q : Fin 4, f ⟨p / 8 % 2, by omega⟩ ⟨p % 8 * 4 + q.val, by omega⟩

theorem shr_pt (f : Fin 2 → Fin 32 → EReal) (t : Fin cfg0.N) : shr f t.val = ∑ q, f (bat t) (chk t q) := by
  have h := lt16 t
  refine Finset.sum_congr rfl fun q _ => congrArg₂ f (Fin.ext ?_) (Fin.ext ?_)
  · show t.val / 8 % 2 = t.val / 8; omega
  · rfl

/-- All points' shares together are the sum over the chunks. -/
theorem sum_shr (f : Fin 2 → Fin 32 → EReal) (k : ℕ) (hk : k = 0) : ∑ s : Fin 16, shr f (16 * k + s.val) = ∑ a, ∑ n, f a n := by
  refine (Fin.sum_mul_add_fin 2 8 fun s : Fin 16 => shr f (16 * k + s.val)).symm.trans (Finset.sum_congr rfl fun a _ => ?_)
  refine Eq.trans (Finset.sum_congr rfl fun p _ => Finset.sum_congr rfl fun q _ => ?_) (Fin.sum_mul_add_fin 8 4 (f a))
  refine congrArg₂ f (Fin.ext ?_) (Fin.ext ?_)
  · show (16 * k + (a.val * 8 + p.val)) / 8 % 2 = a.val; omega
  · show (16 * k + (a.val * 8 + p.val)) % 8 * 4 + q.val = p.val * 4 + q.val; omega

/-- A chunk's shares of the gradients of the weights, the bias (column by column) and the two rows. -/
def fW (c : Dev nD) (n : Fin 4) (i j : Fin 128) (a : Fin 2) (q : Fin 32) : EReal :=
  if j.val ≤ i.val then gW (cD m c a q) (cP m c 0 a q) (cP m c 1 a q) (cP m c 2 a q) (aG m c) (aB m c) n i j else 0
def fB (c : Dev nD) (i : Fin 128) (x : Fin 512) (a : Fin 2) (q : Fin 32) : EReal := dmx (cD m c a q) (cP m c 0 a q) (cP m c 2 a q) i x
def fG (c : Dev nD) (x : Fin 512) (a : Fin 2) (q : Fin 32) : EReal := gG (cD m c a q) (cP m c 0 a q) (cP m c 1 a q) (cP m c 2 a q) (aW m c) x
def fS (c : Dev nD) (x : Fin 512) (a : Fin 2) (q : Fin 32) : EReal := gB (cD m c a q) (cP m c 0 a q) (cP m c 2 a q) (aW m c) x
def fR (c : Dev nD) (r : Fin 8) (x : Fin 512) (a : Fin 2) (q : Fin 32) : EReal :=
  if r.val = 0 then fG m c x a q else if r.val = 1 then fS m c x a q else 0

theorem pW_shr (c : Dev nD) (t : Fin cfg0.N) (n : Fin 4) (i j : Fin 128) : pW m c t n i j = shr (fW m c n i j) t.val := by
  rw [shr_pt]; unfold pW fW
  split_ifs with h
  · rfl
  · exact Finset.sum_const_zero.symm
theorem pB_shr (c : Dev nD) (t : Fin cfg0.N) (i : Fin 128) (x : Fin 512) : pB m c t i x = shr (fB m c i x) t.val := by
  rw [shr_pt]; rfl
theorem pR_shr (c : Dev nD) (t : Fin cfg0.N) (r : Fin 8) (x : Fin 512) : pR m c t r x = shr (fR m c r x) t.val := by
  rw [shr_pt]; unfold pR fR
  split_ifs with h h'
  · rfl
  · rfl
  · exact Finset.sum_const_zero.symm

theorem final10 (c : Dev nD) : (dats m 0 c).arrAt 10 (cfgs 0).N = fun j : S128x512.Idx => ∑ a, ∑ n, fB m c (j 0) (j 1) a n := by
  refine (dats m 0 c).arrAt_eq_of_covers 10 _ (by decide +kernel) fun t hf y => ?_
  have e0 : (((View.whole main_v11_2).slice (win0_10.rect t)).emb y) 0 = y 0 := by refine Fin.ext ?_; blk_simp [idx t]
  have e1 : (((View.whole main_v11_2).slice (win0_10.rect t)).emb y) 1 = y 1 := by refine Fin.ext ?_; blk_simp [idx t]
  blk_simp
  rw [after0_10, Pipeline.eq_sum_fin_of_reset_step_apply_of_flush (fun n h => (outsAt0 m c n h).2.2.1) 16 (fun _ => 0)
    (fun p j => shr (fB m c (j 0) (j 1)) p)
    (fun t h j => by idx_vars j; exact (a10 m c t h _ _).trans ((pB_shr m c t _ _).trans (zero_add _).symm))
    (fun t h j => by idx_vars j; exact (b10 m c t h _ _).trans (congrArg (_ + ·) (pB_shr m c t _ _)))
    t ((flush0_10 t).mp hf) _, zero_add]
  simp only [e0, e1]
  exact sum_shr _ _ (by have := lt16 t; omega)

theorem final11 (c : Dev nD) : (dats m 0 c).arrAt 11 (cfgs 0).N = fun j : S8x512.Idx => ∑ a, ∑ n, fR m c (j 0) (j 1) a n := by
  refine (dats m 0 c).arrAt_eq_of_covers 11 _ (by decide +kernel) fun t hf y => ?_
  have e0 : (((View.whole main_v11_3).slice (win0_11.rect t)).emb y) 0 = y 0 := by refine Fin.ext ?_; blk_simp [idx t]
  have e1 : (((View.whole main_v11_3).slice (win0_11.rect t)).emb y) 1 = y 1 := by refine Fin.ext ?_; blk_simp [idx t]
  blk_simp
  rw [after0_11, Pipeline.eq_sum_fin_of_reset_step_apply_of_flush (fun n h => (outsAt0 m c n h).2.2.2) 16 (fun _ => 0)
    (fun p j => shr (fR m c (j 0) (j 1)) p)
    (fun t h j => by idx_vars j; exact (a11 m c t h _ _).trans ((pR_shr m c t _ _).trans (zero_add _).symm))
    (fun t h j => by idx_vars j; exact (b11 m c t h _ _).trans (congrArg (_ + ·) (pR_shr m c t _ _)))
    t ((flush0_11 t).mp hf) _, zero_add]
  simp only [e0, e1]
  exact sum_shr _ _ (by have := lt16 t; omega)

theorem final9 (c : Dev nD) : (dats m 0 c).arrAt 9 (cfgs 0).N = fun j : S4x128x128.Idx => ∑ a, ∑ n, fW m c (j 0) (j 1) (j 2) a n := by
  refine (dats m 0 c).arrAt_eq_of_covers 9 _ (by decide +kernel) fun t hf y => ?_
  have e0 : (((View.whole main_v11_1).slice (win0_9.rect t)).emb y) 0 = y 0 := by refine Fin.ext ?_; blk_simp [idx t]
  have e1 : (((View.whole main_v11_1).slice (win0_9.rect t)).emb y) 1 = y 1 := by refine Fin.ext ?_; blk_simp [idx t]
  have e2 : (((View.whole main_v11_1).slice (win0_9.rect t)).emb y) 2 = y 2 := by refine Fin.ext ?_; blk_simp [idx t]
  blk_simp
  rw [after0_9, Pipeline.eq_sum_fin_of_reset_step_apply_of_flush (fun n h => (outsAt0 m c n h).2.1) 16 (fun _ => 0)
    (fun p j => shr (fW m c (j 0) (j 1) (j 2)) p)
    (fun t h j => by idx_vars j; exact (a9 m c t h _ _ _).trans ((pW_shr m c t _ _ _).trans (zero_add _).symm))
    (fun t h j => by idx_vars j; exact (b9 m c t h _ _ _).trans (congrArg (_ + ·) (pW_shr m c t _ _ _)))
    t ((flush0_9 t).mp hf) _, zero_add]
  simp only [e0, e1, e2]
  exact sum_shr _ _ (by have := lt16 t; omega)

end Cert.GmlpBwdIdeal.Value

end
-- ==== Proof.GmlpRead.lean ====
/- The spatial gate's reference: how its reshapes, transposes, products and sums over the chunks read entry by entry. -/
module

public import proofs.«01_k».proof.Proof.GmlpFinal
public import proofs.«01_k».proof.Proof.Gen.GmlpBwdRefIdeal.Run
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GmlpBwdRefIdeal.Read
open Cert.GmlpBwdRefIdeal Cert.GmlpBwdRefIdeal.Gen Cert.Gates
open Cert.GmlpBwdIdeal.Value (at128 sq sw)

section shapes
variable (X : S2x4096x512.Idx → EReal) (Y : S2x32x128x4x128.Idx → EReal) (Z : S4x2x32x128x128.Idx → EReal) (W : S4x128x128.Idx → EReal)
  (a : Fin 2) (n : Fin 32) (i j : Fin 128) (g : Fin 4) (x : Fin 128) (s : Fin 4096) (k : Fin 512)

theorem split_at (h : S2x4096x512.ShapeCasts S2x32x128x4x128) : shapeCast S2x32x128x4x128 X h (ix5 a n i g x) = X (ix3 a (at128 n i) (blk g x)) := by
  pointwise; blk_ext [at128, blk]
theorem merge_at (h : S2x32x128x4x128.ShapeCasts S2x4096x512) : shapeCast S2x4096x512 Y h (ix3 a s k) = Y (ix5 a (sq s) (sw s) (grp k) (wit k)) := by
  pointwise; rfl
theorem out_at : transpose S2x32x128x4x128 [1, 2, 4, 0, 3] Z transposes_S4x2x32x128x128_S2x32x128x4x128_1_2_4_0_3 (ix5 a n i g x) = Z (ix5 g a n x i) := by
  pointwise
theorem in_at : transpose S4x2x32x128x128 [3, 0, 1, 4, 2] Y transposes_S2x32x128x4x128_S4x2x32x128x128_3_0_1_4_2 (ix5 g a n x i) = Y (ix5 a n i g x) := by
  pointwise
theorem fwd_at : Host.dotGeneral (F := Ideal) (φ₁ := .f32) (φ₂ := .f32) dot_S2x32x128x4x128_S4x128x128_S4x2x32x128x128_2_2_014_1_3_0 none Y W (ix5 g a n x i) = ∑ j, Y (ix5 a n j g x) * W (ix3 g i j) := by
  pointwise
theorem bwd_at : Host.dotGeneral (F := Ideal) (φ₁ := .f32) (φ₂ := .f32) dot_S4x2x32x128x128_S4x128x128_S4x2x32x128x128_4_1_123_2_0_0 none Z W (ix5 g a n x j) = ∑ i, Z (ix5 g a n x i) * W (ix3 g i j) := by
  pointwise

/-- The three contracted coordinates of the weights' gradient. -/
def contr3 (k : Fin 2 × Fin 32 × Fin 128) : dot_S4x2x32x128x128_S2x32x128x4x128_S4x128x128_123_014_4_2_0_3.contr.Idx
  | ⟨0, _⟩ => k.1
  | ⟨1, _⟩ => k.2.1
  | ⟨2, _⟩ => k.2.2

def contr3e : Fin 2 × Fin 32 × Fin 128 ≃ dot_S4x2x32x128x128_S2x32x128x4x128_S4x128x128_123_014_4_2_0_3.contr.Idx where
  toFun := contr3
  invFun f := (f ⟨0, by decide⟩, f ⟨1, by decide⟩, f ⟨2, by decide⟩)
  left_inv _ := rfl
  right_inv f := by
    funext p
    match p with
    | ⟨0, _⟩ => rfl
    | ⟨1, _⟩ => rfl
    | ⟨2, _⟩ => rfl

theorem wgt_at : Host.dotGeneral (F := Ideal) (φ₁ := .f32) (φ₂ := .f32) dot_S4x2x32x128x128_S2x32x128x4x128_S4x128x128_123_014_4_2_0_3 none Z Y (ix3 g i j) = ∑ a, ∑ n, ∑ x, Z (ix5 g a n x i) * Y (ix5 a n j g x) := by
  pointwise
  unfold Ideal.matmul
  refine (zero_add _).trans ((Fintype.sum_equiv contr3e (fun k : Fin 2 × Fin 32 × Fin 128 => Z (ix5 g k.1 k.2.1 k.2.2 i) * Y (ix5 k.1 k.2.1 j g k.2.2)) _ fun k => ?_).symm.trans ?_)
  · refine congrArg₂ (fun p q => Z p * Y q) ?_ ?_
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
      | ⟨4, _⟩ => rfl
  · simp only [Fintype.sum_prod_type]
end shapes

/-- Which indices of a rank-5 array drop to `j` when the two leading axes are reduced, and a host sum over those axes. -/
theorem fiber5 {n0 n1 n2 n3 n4 : ℕ} (h : (⟨5, ![n0, n1, n2, n3, n4]⟩ : Shape).ReducesTo [0, 1] ⟨3, ![n2, n3, n4]⟩) (p : Fin n2) (q : Fin n3) (r : Fin n4)
    (i : (⟨5, ![n0, n1, n2, n3, n4]⟩ : Shape).Idx) : h.drop i = ix3 p q r ↔ ∃ k : Fin n0 × Fin n1, ix5 k.1 k.2 p q r = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => exact (congrArg Fin.val (congrFun e 2)).symm
  · rintro ⟨k, rfl⟩
    funext b
    apply Fin.ext
    match b with
    | ⟨0, _⟩ => rfl
    | ⟨1, _⟩ => rfl
    | ⟨2, _⟩ => rfl

theorem reduce5 {n0 n1 n2 n3 n4 : ℕ} (h : (⟨5, ![n0, n1, n2, n3, n4]⟩ : Shape).ReducesTo [0, 1] ⟨3, ![n2, n3, n4]⟩) (v : (⟨5, ![n0, n1, n2, n3, n4]⟩ : Shape).Idx → EReal)
    (init : EReal) (p : Fin n2) (q : Fin n3) (r : Fin n4) :
    Ideal.hostReduceAdd h v init (ix3 p q r) = init + ∑ a : Fin n0, ∑ b : Fin n1, v (ix5 a b p q r) := by
  unfold Ideal.hostReduceAdd
  congr 1
  refine (Finset.sum_filter_eq_sum_of_fiber _ (fun k : Fin n0 × Fin n1 => ix5 k.1 k.2 p q r)
    (fun _ _ e => Prod.ext (congrFun e 0) (congrFun e 1)) (fiber5 h p q r) v).trans ?_
  simp only [Fintype.sum_prod_type]

/-- The bias's gradient, as the reference sums it. -/
theorem bias_at (Y : S2x32x128x4x128.Idx → EReal) (i : Fin 128) (x : Fin 512) :
    shapeCast S128x512 (Host.reduceAdd (F := Ideal) (φ := .f32) (shapeCast S1x1x128x4x128 (Host.reduceAdd (F := Ideal) (φ := .f32) Y (constant (F := Ideal) S_ .f32 0x00000000#32) reducesTo_S2x32x128x4x128_S128x4x128_d0_1 h_S_) shapeCasts_S128x4x128_S1x1x128x4x128)
      (constant (F := Ideal) S_ .f32 0x00000000#32) reducesTo_S1x1x128x4x128_S128x4x128_d0_1 h_S_) shapeCasts_S128x4x128_S128x512 (ix2 i x)
      = ∑ a, ∑ n, Y (ix5 a n i (grp x) (wit x)) := by
  pointwise
  refine (reduce5 _ _ _ _ _ _).trans ((zero_add _).trans ?_)
  pointwise
  simp only [Finset.univ_unique, Finset.sum_singleton]
  exact (reduce5 _ _ _ _ _ _).trans (zero_add _)

/-- A row of the scale's and shift's gradients. -/
theorem row_at (Y : S2x4096x512.Idx → EReal) (x : Fin 512) :
    broadcastInDim S1x512 ![1] bcast_S512_S1x512_1 (Host.reduceAdd (F := Ideal) (φ := .f32) (shapeCast S1x1x512 (Host.reduceAdd (F := Ideal) (φ := .f32) Y (constant (F := Ideal) S_ .f32 0x00000000#32) reducesTo_S2x4096x512_S512_d0_1 h_S_) shapeCasts_S512_S1x1x512)
      (constant (F := Ideal) S_ .f32 0x00000000#32) reducesTo_S1x1x512_S512_d0_1 h_S_) (ix2 0 x)
      = ∑ a, ∑ s, Y (ix3 a s x) := by
  pointwise
  simp only [Finset.univ_unique, Finset.sum_singleton]
end Cert.GmlpBwdRefIdeal.Read
end
-- ==== Proof.GatesReal.lean ====
/- The spatial gate over real numbers: which entries are real, and the gradients as automatic differentiation writes them. -/
module

public import proofs.«01_k».proof.Proof.Gates

@[expose] public section

noncomputable section

open Idealize.ShloMosaic

namespace Cert.Gates

/-- The entry is a real number. -/
def Re (x : EReal) : Prop := ∃ r : ℝ, x = r

theorem Re.add {x y : EReal} (hx : Re x) (hy : Re y) : Re (x + y) := by
  obtain ⟨a, rfl⟩ := hx; obtain ⟨b, rfl⟩ := hy; exact ⟨a + b, (EReal.coe_add a b).symm⟩
theorem Re.sub {x y : EReal} (hx : Re x) (hy : Re y) : Re (x - y) := by
  obtain ⟨a, rfl⟩ := hx; obtain ⟨b, rfl⟩ := hy; exact ⟨a - b, (EReal.coe_sub a b).symm⟩
theorem Re.mul {x y : EReal} (hx : Re x) (hy : Re y) : Re (x * y) := by
  obtain ⟨a, rfl⟩ := hx; obtain ⟨b, rfl⟩ := hy; exact ⟨a * b, (EReal.coe_mul a b).symm⟩
theorem Re.sum {ι : Type*} {s : Finset ι} {f : ι → EReal} (h : ∀ i, Re (f i)) : Re (∑ i ∈ s, f i) := by
  choose r hr using h
  exact ⟨∑ i ∈ s, r i, by simp only [hr, Ideal.coe_sum]⟩
theorem Re.zero : Re 0 := ⟨0, rfl⟩
theorem Re.one : Re 1 := ⟨1, rfl⟩

theorem half_eq : half = ((1 / 2 : ℝ) : EReal) := Ideal.ofBits_half
theorem n512_eq : n512 = ((512 : ℝ) : EReal) := by
  unfold n512; simp [Ideal.ofBits, Ideal.ieee, -EReal.coe_mul]; norm_num
theorem kk_eq : ∃ k : ℝ, kk = k := by
  refine ⟨13386282 / 16777216, ?_⟩; unfold kk; simp [Ideal.ofBits, Ideal.ieee, -EReal.coe_mul]; norm_num
def n3 : EReal := Ideal.ofBits .f32 0x40400000#32
def nA : EReal := Ideal.ofBits .f32 0x472EAB00#32
def nM : EReal := Ideal.ofBits .f32 0x49742400#32
def n2 : EReal := Ideal.ofBits .f32 0x40000000#32
def nH : EReal := Ideal.ofBits .f32 0xBF000000#32
theorem n3_eq : n3 = ((3 : ℝ) : EReal) := by
  unfold n3; simp [Ideal.ofBits, Ideal.ieee, -EReal.coe_mul]; norm_num
theorem nA_eq : nA = ((44715 : ℝ) : EReal) := by
  unfold nA; simp [Ideal.ofBits, Ideal.ieee, -EReal.coe_mul]; norm_num
theorem nM_eq : nM = ((1000000 : ℝ) : EReal) := by
  unfold nM; simp [Ideal.ofBits, Ideal.ieee, -EReal.coe_mul]; norm_num

theorem th_coe (x : ℝ) : ∃ t : ℝ, th x = t := by
  obtain ⟨k, hk⟩ := kk_eq
  unfold th c1
  rw [hk]
  simp only [← EReal.coe_mul, ← EReal.coe_add]
  exact ⟨_, Ideal.tanh_coe _⟩

theorem Re.th {x : EReal} (hx : Re x) : Re (th x) := by obtain ⟨a, rfl⟩ := hx; exact th_coe a
theorem Re.gelu {x : EReal} (hx : Re x) : Re (gelu x) := (Re.mul ⟨_, half_eq⟩ hx).mul (Re.one.add hx.th)
theorem logistic_coe (x : ℝ) : ∃ s : ℝ, Ideal.logistic x = s := by
  refine ⟨1 / (1 + Real.exp (-x)), ?_⟩
  have h : (1 + Real.exp (-x)) ≠ 0 := by positivity
  show Ideal.div 1 (1 + Ideal.exp (-(x : EReal))) = _
  rw [← EReal.coe_neg, Ideal.exp_coe, ← EReal.coe_one, ← EReal.coe_add, Ideal.div_coe_coe h]
theorem Re.logistic {x : EReal} (hx : Re x) : Re (Ideal.logistic x) := by obtain ⟨a, rfl⟩ := hx; exact logistic_coe a

/-- The argument of the hyperbolic tangent with the constant as a quotient. -/
theorem th_quot {x : EReal} (hx : Re x) : Ideal.tanh (kk * (x + Ideal.div (nA * (x * x * x)) nM)) = th x := by
  obtain ⟨a, rfl⟩ := hx
  unfold th c1
  rw [nA_eq, nM_eq]
  simp only [← EReal.coe_mul]
  rw [Ideal.div_coe_coe (by norm_num)]
  congr 4
  ring

/-- GELU's vector-Jacobian product as written by automatic differentiation. -/
theorem gelu_vjp {x e : EReal} (hx : Re x) (he : Re e) :
    (e * (half * (1 + th x)) + kk * (half * (x * e) * ((1 + th x) * (1 - th x))))
      + nA * Ideal.div (kk * (half * (x * e) * ((1 + th x) * (1 - th x)))) nM * (n3 * (x * x)) = e * dgelu x := by
  obtain ⟨t, ht⟩ := hx.th
  obtain ⟨a, rfl⟩ := hx
  obtain ⟨b, rfl⟩ := he
  obtain ⟨k, hk⟩ := kk_eq
  unfold dgelu c3
  rw [ht, hk, half_eq, nA_eq, nM_eq, n3_eq]
  simp only [← EReal.coe_one, ← EReal.coe_mul, ← EReal.coe_add, ← EReal.coe_sub]
  rw [Ideal.div_coe_coe (by norm_num)]
  simp only [← EReal.coe_mul, ← EReal.coe_add, ← EReal.coe_sub]
  congr 1
  ring

/-- The same for `x · σ(x)`. -/
theorem silu_vjp {x e : EReal} (hx : Re x) (he : Re e) :
    e * Ideal.logistic x + x * e * (Ideal.logistic x * (1 - Ideal.logistic x)) = e * dsilu x := by
  obtain ⟨s, hs⟩ := hx.logistic
  obtain ⟨a, rfl⟩ := hx
  obtain ⟨b, rfl⟩ := he
  unfold dsilu
  rw [hs]
  simp only [← EReal.coe_one, ← EReal.coe_mul, ← EReal.coe_add, ← EReal.coe_sub]
  congr 1
  ring

theorem mean_coe (v : Fin 512 → ℝ) : mean (fun k => (v k : EReal)) = (((∑ k, v k) / 512 : ℝ) : EReal) := by
  unfold mean
  rw [n512_eq, ← Ideal.coe_sum, Ideal.div_coe_coe (by norm_num)]

theorem ctr_coe (v : Fin 512 → ℝ) (k : Fin 512) : ctr (fun k => (v k : EReal)) k = ((v k - (∑ k, v k) / 512 : ℝ) : EReal) := by
  unfold ctr
  rw [mean_coe, ← EReal.coe_sub]

/-- The variance plus `ε` is a positive real. -/
theorem var_coe (v : Fin 512 → ℝ) : ∃ q : ℝ, 0 < q ∧ mean (fun k => ctr (fun k => (v k : EReal)) k * ctr (fun k => (v k : EReal)) k) + eps = q := by
  obtain ⟨e, he, h⟩ := Ideal.ofBits_eps
  simp only [ctr_coe, ← EReal.coe_mul]
  rw [mean_coe]
  refine ⟨(∑ k, (v k - (∑ k, v k) / 512) * (v k - (∑ k, v k) / 512)) / 512 + e, ?_, ?_⟩
  · have : 0 ≤ ∑ k, (v k - (∑ k, v k) / 512) * (v k - (∑ k, v k) / 512) := Finset.sum_nonneg fun k _ => mul_self_nonneg _
    positivity
  · unfold eps; rw [h, ← EReal.coe_add]

theorem rows {v : Fin 512 → EReal} (h : ∀ k, Re (v k)) : ∃ r : Fin 512 → ℝ, v = fun k => (r k : EReal) := by
  choose r hr using h
  exact ⟨r, funext hr⟩

theorem Re.ctr {v : Fin 512 → EReal} (h : ∀ k, Re (v k)) (k : Fin 512) : Re (ctr v k) := by
  obtain ⟨r, rfl⟩ := rows h; exact ⟨_, ctr_coe r k⟩
theorem Re.rs {v : Fin 512 → EReal} (h : ∀ k, Re (v k)) : Re (rs v) := by
  obtain ⟨r, rfl⟩ := rows h
  obtain ⟨q, hq, e⟩ := var_coe r
  unfold Cert.Gates.rs; rw [e, Ideal.rsqrt_coe_pos hq]; exact ⟨_, rfl⟩
theorem Re.nrm {v : Fin 512 → EReal} (h : ∀ k, Re (v k)) (k : Fin 512) : Re (nrm v k) := (Re.ctr h k).mul (Re.rs h)
theorem Re.mean {v : Fin 512 → EReal} (h : ∀ k, Re (v k)) : Re (mean v) := by
  obtain ⟨r, rfl⟩ := rows h; exact ⟨_, mean_coe r⟩
theorem Re.lnB {v e : Fin 512 → EReal} (h : ∀ k, Re (v k)) (h' : ∀ k, Re (e k)) (k : Fin 512) : Re (lnB v e k) :=
  (Re.rs h).mul (((h' k).sub (Re.mean h')).sub ((Re.nrm h k).mul (Re.mean fun l => (h' l).mul (Re.nrm h l))))

/-- The share of the variance, and the layer normalisation's vector-Jacobian product as written by automatic differentiation. -/
def vS' (v e : Fin 512 → EReal) : EReal :=
  Ideal.div ((∑ l, ctr v l * e l) * (nH * Ideal.div (rs v) (mean (fun k => ctr v k * ctr v k) + eps))) n512
def lnVjp (v e : Fin 512 → EReal) (k : Fin 512) : EReal :=
  (e k * rs v + vS' v e * (n2 * ctr v k)) + Ideal.div ((∑ l, -(e l * rs v)) + ∑ l, -(vS' v e * (n2 * ctr v l))) n512

theorem lnVjp_eq {v e : Fin 512 → EReal} (h : ∀ k, Re (v k)) (h' : ∀ k, Re (e k)) (k : Fin 512) : lnVjp v e k = lnB v e k := by
  obtain ⟨r, rfl⟩ := rows h
  obtain ⟨s, rfl⟩ := rows h'
  obtain ⟨q, hq, eq⟩ := var_coe r
  have hr : rs (fun k => (r k : EReal)) = (((Real.sqrt q)⁻¹ : ℝ) : EReal) := by unfold rs; rw [eq, Ideal.rsqrt_coe_pos hq]
  have h2 : n2 = ((2 : ℝ) : EReal) := Ideal.ofBits_two
  have hH : nH = ((-(1 / 2) : ℝ) : EReal) := Ideal.ofBits_neg_half
  have hs : (Real.sqrt q) ≠ 0 := (Real.sqrt_pos.mpr hq).ne'
  have hsq : q = Real.sqrt q * Real.sqrt q := (Real.mul_self_sqrt hq.le).symm
  have hC : ∑ l, (r l - (∑ k, r k) / 512) = 0 := by
    rw [Finset.sum_sub_distrib, Finset.sum_const, Finset.card_univ, Fintype.card_fin, nsmul_eq_mul]; push_cast; ring
  unfold lnVjp vS' lnB nrm
  rw [eq, hr, h2, hH, n512_eq]
  simp only [ctr_coe]
  generalize hc : (fun l => r l - (∑ k, r k) / 512) = C at *
  have hc' : ∀ l, r l - (∑ k, r k) / 512 = C l := fun l => congrFun hc l
  simp only [hc'] at hC ⊢
  simp only [← EReal.coe_mul]
  rw [mean_coe, mean_coe]
  rw [Ideal.div_coe_coe hq.ne']
  simp only [← EReal.coe_mul, ← EReal.coe_neg, ← Ideal.coe_sum]
  rw [Ideal.div_coe_coe (by norm_num)]
  simp only [← EReal.coe_mul, ← EReal.coe_neg, ← Ideal.coe_sum, ← EReal.coe_add]
  rw [Ideal.div_coe_coe (by norm_num)]
  simp only [← EReal.coe_mul, ← EReal.coe_add, ← EReal.coe_sub]
  congr 1
  have e1 : ∑ l, -(s l * (Real.sqrt q)⁻¹) = -((∑ l, s l) * (Real.sqrt q)⁻¹) := by rw [Finset.sum_neg_distrib, Finset.sum_mul]
  have e2 : ∀ A : ℝ, ∑ l, -(A * (2 * C l)) = 0 := fun A => by
    rw [Finset.sum_neg_distrib, ← Finset.mul_sum, ← Finset.mul_sum, hC]; ring
  have e3 : ∑ l, s l * (C l * (Real.sqrt q)⁻¹) = (∑ l, C l * s l) * (Real.sqrt q)⁻¹ := by
    rw [Finset.sum_mul]; exact Finset.sum_congr rfl fun l _ => by ring
  rw [e1, e2, e3]
  generalize (∑ l, C l * s l) = A
  generalize (∑ l, s l) = B
  generalize Real.sqrt q = w at *
  subst hsq
  field_simp
  ring

end Cert.Gates

end
-- ==== Proof.GmlpMid.lean ====
/- The spatial gate's reference: what each of its intermediate arrays holds, entry by entry. -/
module

public import proofs.«01_k».proof.Proof.GmlpRead
public import proofs.«01_k».proof.Proof.GatesReal
public import proofs.«01_k».proof.Proof.Gen.GmlpBwdRefIdeal.Run
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GmlpBwdRefIdeal.Read
open Cert.GmlpBwdRefIdeal Cert.GmlpBwdRefIdeal.Gen Cert.GmlpBwdRefIdeal.Value Cert.Gates
open Cert.GmlpBwdIdeal.Value (at128 sq sw cD cP aG aB aW aS dO pr gg bb ws bs)

/-- The reference starts from the kernel's arguments. -/
def Ag (m : (ℓ : Loc GmlpBwdIdeal.nD GmlpBwdIdeal.τ GmlpBwdIdeal.sig) → Buf (Elt Ideal) ℓ) (c : Dev GmlpBwdIdeal.nD) (V0 : Valuation τ sig (Elt Ideal)) : Prop :=
  V0 (Proc.devRef .tc main_arg0) = dO m c ∧ V0 (Proc.devRef .tc main_arg1) = pr m c ∧ V0 (Proc.devRef .tc main_arg2) = gg m c
  ∧ V0 (Proc.devRef .tc main_arg3) = bb m c ∧ V0 (Proc.devRef .tc main_arg4) = ws m c ∧ V0 (Proc.devRef .tc main_arg5) = bs m c

/-- The arguments are real numbers. -/
def Real6 (m : (ℓ : Loc GmlpBwdIdeal.nD GmlpBwdIdeal.τ GmlpBwdIdeal.sig) → Buf (Elt Ideal) ℓ) (c : Dev GmlpBwdIdeal.nD) : Prop :=
  (∀ i, Re (dO m c i)) ∧ (∀ i, Re (pr m c i)) ∧ (∀ i, Re (gg m c i)) ∧ (∀ i, Re (bb m c i)) ∧ (∀ i, Re (ws m c i)) ∧ ∀ i, Re (bs m c i)

theorem sge (i j : Fin 128) : IntOp.cmpi .sge (IntOp.addi (BitVec.ofNat 32 i.val) 0#32) (BitVec.ofNat 32 j.val) = if j.val ≤ i.val then 1#1 else 0#1 := by
  revert i j; decide +kernel

section values
variable {m : (ℓ : Loc GmlpBwdIdeal.nD GmlpBwdIdeal.τ GmlpBwdIdeal.sig) → Buf (Elt Ideal) ℓ} {c : Dev GmlpBwdIdeal.nD} {V0 : Valuation τ sig (Elt Ideal)}
  (A : Ag m c V0) (H : Real6 m c) (b : Fin 2) (n : Fin 32) (i j : Fin 128) (k : Fin 512)

include A in
theorem at0 : res_main_v0 V0 (ix3 b (at128 n i) k) = cP m c 0 b n i k := by
  unfold res_main_v0; rw [A.2.1]; pointwise; refine congrArg (pr m c) ?_; blk_ext [GmlpBwdIdeal.Value.ccol]
include A in
theorem at1 : res_main_v1 V0 (ix3 b (at128 n i) k) = cP m c 1 b n i k := by
  unfold res_main_v1; rw [A.2.1]; pointwise; refine congrArg (pr m c) ?_; blk_ext [GmlpBwdIdeal.Value.ccol]
include A in
theorem at2 : res_main_v2 V0 (ix3 b (at128 n i) k) = cP m c 2 b n i k := by
  unfold res_main_v2; rw [A.2.1]; pointwise; refine congrArg (pr m c) ?_; blk_ext [GmlpBwdIdeal.Value.ccol]
include A in
theorem atD : V0 (Proc.devRef .tc main_arg0) (ix3 b (at128 n i) k) = cD m c b n i k := by rw [A.1]; rfl

include H in
theorem reP (p : Fin 3) : Re (cP m c p b n i k) := H.2.1 _
include H in
theorem reD : Re (cD m c b n i k) := H.1 _
include H in
theorem reV : ∀ k, Re (gelu (cP m c 1 b n i k)) := fun k => (reP H b n i k 1).gelu

include A H in
theorem at18 : res_main_v18 V0 (ix3 b (at128 n i) k) = th (cP m c 0 b n i k) := by
  unfold res_main_v18; pointwise; rw [at0 A]; exact th_quot (reP H ..)
include A H in
theorem at41 : res_main_v41 V0 (ix3 b (at128 n i) k) = th (cP m c 1 b n i k) := by
  unfold res_main_v41; pointwise; rw [at1 A]; exact th_quot (reP H ..)
include A H in
theorem at27 : res_main_v27 V0 (ix3 b (at128 n i) k) = half * (1 + th (cP m c 0 b n i k)) := by
  unfold res_main_v27; pointwise; rw [at18 A H]; rfl
include A H in
theorem at50 : res_main_v50 V0 (ix3 b (at128 n i) k) = half * (1 + th (cP m c 1 b n i k)) := by
  unfold res_main_v50; pointwise; rw [at41 A H]; rfl
include A H in
theorem at28 : res_main_v28 V0 (ix3 b (at128 n i) k) = gelu (cP m c 0 b n i k) := by
  unfold res_main_v28; pointwise; rw [at27 A H, at0 A, ← mul_assoc, mul_comm _ half]; rfl
include A H in
theorem at51 : res_main_v51 V0 (ix3 b (at128 n i) k) = gelu (cP m c 1 b n i k) := by
  unfold res_main_v51; pointwise; rw [at50 A H, at1 A, ← mul_assoc, mul_comm _ half]; rfl
include A H in
theorem at55 (u : Fin 1) : res_main_v55 V0 (ix3 b (at128 n i) u) = mean (fun k => gelu (cP m c 1 b n i k)) := by
  unfold res_main_v55; pointwise; simp only [at51 A H]; rfl
include A H in
theorem at57 : res_main_v57 V0 (ix3 b (at128 n i) k) = ctr (fun k => gelu (cP m c 1 b n i k)) k := by
  unfold res_main_v57; pointwise; rw [at51 A H, at55 A H]; rfl
include A H in
theorem at66 : res_main_v66 V0 (ix3 b (at128 n i) k) = ctr (fun k => gelu (cP m c 1 b n i k)) k := by
  unfold res_main_v66; pointwise; rw [at51 A H, at55 A H]; rfl
include A H in
theorem at68 (u : Fin 1) : res_main_v68 V0 (ix3 b (at128 n i) u)
    = mean (fun k => ctr (fun k => gelu (cP m c 1 b n i k)) k * ctr (fun k => gelu (cP m c 1 b n i k)) k) + eps := by
  unfold res_main_v68; pointwise; simp only [at57 A H]; rfl
include A H in
theorem at69 (u : Fin 1) : res_main_v69 V0 (ix3 b (at128 n i) u) = rs (fun k => gelu (cP m c 1 b n i k)) := by
  unfold res_main_v69; pointwise; rw [at68 A H]; rfl
include A H in
theorem at74 : res_main_v74 V0 (ix3 b (at128 n i) k) = nrm (fun k => gelu (cP m c 1 b n i k)) k := by
  unfold res_main_v74; pointwise; rw [at66 A H, at69 A H]; rfl
include A in
theorem at75 (u v : Fin 1) : res_main_v75 V0 (ix3 u v k) = aG m c k := by
  unfold res_main_v75; rw [A.2.2.1]; pointwise; rfl
include A H in
theorem at81 (g : Fin 4) (x : Fin 128) : res_main_v81 V0 (ix5 b n i g x) = vS (cP m c 1 b n) (aG m c) (aB m c) i (blk g x) := by
  unfold res_main_v81
  refine (split_at _ b n i g x _).trans ?_
  rw [A.2.2.2.1]; pointwise; rw [at74 A H, at75 A]; rfl
theorem at82m (g : Fin 4) : res_main_v82_1 V0 (ix3 g i j) = if j.val ≤ i.val then 1#1 else 0#1 := by
  unfold res_main_v82_1
  pointwise
  exact sge i j
include A in
theorem at82 (g : Fin 4) : res_main_v82_0 V0 (ix3 g i j) = trl (aW m c) g i j := by
  unfold res_main_v82_0
  rw [A.2.2.2.2.1]
  pointwise
  rw [at82m]
  unfold trl
  split_ifs <;> rfl
include A H in
theorem at88 : res_main_v88 V0 (ix3 b (at128 n i) k) = mix (cP m c 1 b n) (aG m c) (aB m c) (aW m c) (aS m c) i k := by
  unfold res_main_v88
  refine (merge_at _ b (at128 n i) k _).trans ?_
  rw [A.2.2.2.2.2]
  have e1 : GmlpBwdIdeal.Value.sq (at128 n i) = n := Fin.ext (by show (128 * n.val + i.val) / 128 = n.val; omega)
  have e2 : sw (at128 n i) = i := Fin.ext (by show (128 * n.val + i.val) % 128 = i.val; omega)
  rw [e1, e2]
  refine congrArg₂ (· + ·) ((out_at _ b n i (grp k) (wit k)).trans ((fwd_at _ _ b n i (grp k) (wit k)).trans ?_)) ?_
  · refine Finset.sum_congr rfl fun j _ => ?_
    rw [at81 A H, at82 A, blk_grp, mul_comm]
  · pointwise; rfl
include A in
theorem at90 : res_main_v90_2 V0 (ix3 b (at128 n i) k) = Ideal.logistic (cP m c 2 b n i k) := by
  unfold res_main_v90_2; pointwise; rw [at2 A]; rfl
include A in
theorem at90s : res_main_v90_0 V0 (ix3 b (at128 n i) k) = cP m c 2 b n i k * Ideal.logistic (cP m c 2 b n i k) := by
  unfold res_main_v90_0; pointwise; rw [at2 A, at90 A]
include A H in
theorem at89 : res_main_v89 V0 (ix3 b (at128 n i) k) = gelu (cP m c 0 b n i k) * mix (cP m c 1 b n) (aG m c) (aB m c) (aW m c) (aS m c) i k := by
  unfold res_main_v89; pointwise; rw [at28 A H, at88 A H]
include A H in
theorem at92 : res_main_v92 V0 (ix3 b (at128 n i) k) = gelu (cP m c 0 b n i k) * mix (cP m c 1 b n) (aG m c) (aB m c) (aW m c) (aS m c) i k * cD m c b n i k := by
  unfold res_main_v92; pointwise; rw [at89 A H, atD A]
include A in
theorem at93 : res_main_v93 V0 (ix3 b (at128 n i) k) = cD m c b n i k * (cP m c 2 b n i k * Ideal.logistic (cP m c 2 b n i k)) := by
  unfold res_main_v93; pointwise; rw [atD A, at90s A]
include A H in
theorem at96 : res_main_v96 V0 (ix3 b (at128 n i) k)
    = cD m c b n i k * (cP m c 2 b n i k * Ideal.logistic (cP m c 2 b n i k)) * mix (cP m c 1 b n) (aG m c) (aB m c) (aW m c) (aS m c) i k := by
  unfold res_main_v96; pointwise; rw [at93 A, at88 A H]
include A H in
theorem at97 (g : Fin 4) (x : Fin 128) : res_main_v97 V0 (ix5 b n i g x) = dmx (cD m c b n) (cP m c 0 b n) (cP m c 2 b n) i (blk g x) := by
  unfold res_main_v97
  refine (split_at _ b n i g x _).trans ?_
  pointwise; rw [at28 A H, at93 A, ← mul_assoc, mul_comm (gelu _)]; rfl
include A H in
theorem at101 (g : Fin 4) (x : Fin 128) : res_main_v101 V0 (ix5 g b n x i) = dmx (cD m c b n) (cP m c 0 b n) (cP m c 2 b n) i (blk g x) := by
  unfold res_main_v101; exact (in_at _ b n i g x).trans (at97 A H b n i g x)
include A H in
theorem at106 : res_main_v106 V0 (ix3 b (at128 n j) k) = dvs (cD m c b n) (cP m c 0 b n) (cP m c 2 b n) (aW m c) j k := by
  unfold res_main_v106
  refine (merge_at _ b (at128 n j) k _).trans ?_
  have e1 : GmlpBwdIdeal.Value.sq (at128 n j) = n := Fin.ext (by show (128 * n.val + j.val) / 128 = n.val; omega)
  have e2 : sw (at128 n j) = j := Fin.ext (by show (128 * n.val + j.val) % 128 = j.val; omega)
  rw [e1, e2]
  refine (out_at _ b n j (grp k) (wit k)).trans ((bwd_at _ _ b n j (grp k) (wit k)).trans (Finset.sum_congr rfl fun i _ => ?_))
  rw [at101 A H, at82 A, blk_grp, mul_comm]
include A H in
theorem at114 : res_main_v114 V0 (ix3 b (at128 n j) k) = dvs (cD m c b n) (cP m c 0 b n) (cP m c 2 b n) (aW m c) j k * aG m c k := by
  unfold res_main_v114; pointwise; rw [at106 A H, at75 A]
include A H in
theorem at120 : res_main_v120 V0 (ix3 b (at128 n j) k)
    = dvs (cD m c b n) (cP m c 0 b n) (cP m c 2 b n) (aW m c) j k * aG m c k * rs (fun k => gelu (cP m c 1 b n j k)) := by
  unfold res_main_v120; pointwise; rw [at114 A H, at69 A H]
include A H in
theorem at129 : res_main_v129 V0 (ix3 b (at128 n j) k)
    = vS' (fun k => gelu (cP m c 1 b n j k)) (fun k => dvs (cD m c b n) (cP m c 0 b n) (cP m c 2 b n) (aW m c) j k * aG m c k)
      * (n2 * ctr (fun k => gelu (cP m c 1 b n j k)) k) := by
  unfold res_main_v129; pointwise
  simp only [at114 A H, at66 A H, at57 A H, at69 A H, at68 A H, Finset.univ_unique, Finset.sum_singleton]; rfl
include H in
theorem reE (j : Fin 128) (k : Fin 512) : Re (dvs (cD m c b n) (cP m c 0 b n) (cP m c 2 b n) (aW m c) j k * aG m c k) := by
  refine Re.mul (Re.sum fun i => Re.mul ?_ ?_) (H.2.2.1 _)
  · unfold trl; split_ifs
    · exact H.2.2.2.2.1 _
    · exact Re.zero
  · exact ((reD H ..).mul (reP H ..).gelu).mul ((reP H ..).mul (reP H ..).logistic)
include H in
theorem reM (i : Fin 128) (k : Fin 512) : Re (mix (cP m c 1 b n) (aG m c) (aB m c) (aW m c) (aS m c) i k) := by
  refine Re.add (Re.sum fun j => Re.mul ?_ ?_) (H.2.2.2.2.2 _)
  · unfold trl; split_ifs
    · exact H.2.2.2.2.1 _
    · exact Re.zero
  · exact ((Re.nrm (reV H b n j) k).mul (H.2.2.1 _)).add (H.2.2.2.1 _)
include A H in
theorem at139 : res_main_v139 V0 (ix3 b (at128 n j) k)
    = lnB (fun k => gelu (cP m c 1 b n j k)) (fun k => dvs (cD m c b n) (cP m c 0 b n) (cP m c 2 b n) (aW m c) j k * aG m c k) k := by
  refine Eq.trans ?_ (lnVjp_eq (reV H b n j) (reE H b n j) k)
  unfold res_main_v139; pointwise
  simp only [at120 A H, at129 A H, Finset.univ_unique, Finset.sum_singleton]; rfl
include A H in
theorem at146 : res_main_v146 V0 (ix3 b (at128 n j) k)
    = kk * (half * (cP m c 1 b n j k * lnB (fun k => gelu (cP m c 1 b n j k)) (fun k => dvs (cD m c b n) (cP m c 0 b n) (cP m c 2 b n) (aW m c) j k * aG m c k) k)
      * ((1 + th (cP m c 1 b n j k)) * (1 - th (cP m c 1 b n j k)))) := by
  unfold res_main_v146; pointwise; rw [at139 A H, at41 A H, at1 A]; rfl
include A H in
theorem at160 : res_main_v160 V0 (ix3 b (at128 n i) k)
    = kk * (half * (cP m c 0 b n i k * (cD m c b n i k * (cP m c 2 b n i k * Ideal.logistic (cP m c 2 b n i k)) * mix (cP m c 1 b n) (aG m c) (aB m c) (aW m c) (aS m c) i k))
      * ((1 + th (cP m c 0 b n i k)) * (1 - th (cP m c 0 b n i k)))) := by
  unfold res_main_v160; pointwise; rw [at96 A H, at18 A H, at0 A]; rfl
end values

end Cert.GmlpBwdRefIdeal.Read

end
-- ==== Proof.GmlpCols.lean ====
/- The gradients of the three parts, as one array. -/
module

public import proofs.«01_k».proof.Proof.GmlpStep
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpBwdIdeal.Value
open Cert.GmlpBwdIdeal Cert.GmlpBwdIdeal.Gen Cert.Gates

variable (m : (ℓ : Loc nD τ sig) → Buf (Elt Ideal) ℓ)

set_option maxHeartbeats 400000 in
theorem final8 (c : Dev nD) : (dats m 0 c).arrAt 8 (cfgs 0).N = fun j : S2x4096x1536.Idx => dC m c (prt (j 2)) (j 0) (j 1) (pk (j 2)) := by
  refine (dats m 0 c).arrAt_eq_of_covers 8 _ (by decide +kernel) fun t _ y => ?_
  have e0 : (((View.whole main_v11_0).slice (win0_8.rect t)).emb y) 0 = bat t := by
    refine Fin.ext ?_; blk_simp [idx t, bat]
  have e1 : (((View.whole main_v11_0).slice (win0_8.rect t)).emb y) 1 = pos t (y 1) := by
    refine Fin.ext ?_; blk_simp [idx t, pos]
  have e2 : (((View.whole main_v11_0).slice (win0_8.rect t)).emb y) 2 = y 2 := by
    refine Fin.ext ?_; blk_simp [idx t]
  blk_simp
  rw [after0_8]
  by_cases h0 : t.val % 16 = 0
  · rw [outsAt0_A m c t h0]; frame_out
    repeat rw [Memref.IsWhole.read_unread]
    repeat rw [View.ld_unit_lit' (S := S1x512x512) (off := ![0, 0, 0]) _ _ (by decide)]
    repeat rw [View.ld_unit_lit' (S := S4x128x128) (off := ![0, 0, 0]) _ _ (by decide)]
    repeat rw [View.ld_unit_lit' (S := S1x512) (off := ![0, 0]) _ _ (by decide)]
    repeat rw [View.ld_unit_lit' (S := S128x512) (off := ![0, 0]) _ _ (by decide)]
    simp only [e0, e1, e2]
    canon_tiles x h
    · idx_vars x; exact (oZ m c t _ _ _).trans (placeC m c t 2 h1 (h2.trans (by simp)))
    · idx_vars x; exact (oV m c t _ _ _).trans (placeC m c t 1 h1 (h2.trans (by simp)))
    · idx_vars x; exact (oU m c t _ _ _).trans (placeC m c t 0 h1 (h2.trans (by simp)))
  · rw [outsAt0_B m c t h0]; frame_out
    repeat rw [Memref.IsWhole.read_unread]
    repeat rw [View.ld_unit_lit' (S := S1x512x512) (off := ![0, 0, 0]) _ _ (by decide)]
    repeat rw [View.ld_unit_lit' (S := S4x128x128) (off := ![0, 0, 0]) _ _ (by decide)]
    repeat rw [View.ld_unit_lit' (S := S1x512) (off := ![0, 0]) _ _ (by decide)]
    repeat rw [View.ld_unit_lit' (S := S128x512) (off := ![0, 0]) _ _ (by decide)]
    simp only [e0, e1, e2]
    canon_tiles x h
    · idx_vars x; exact (oZ m c t _ _ _).trans (placeC m c t 2 h1 (h2.trans (by simp)))
    · idx_vars x; exact (oV m c t _ _ _).trans (placeC m c t 1 h1 (h2.trans (by simp)))
    · idx_vars x; exact (oU m c t _ _ _).trans (placeC m c t 0 h1 (h2.trans (by simp)))

end Cert.GmlpBwdIdeal.Value

end
-- ==== Proof.GmlpEnd.lean ====
/- The spatial gate's backward call equals the gradient of the plain mathematics. -/
module

public import proofs.«01_k».proof.Proof.GmlpMid
public import proofs.«01_k».proof.Proof.GmlpCols
public import proofs.«01_k».proof.Proof.Gen.GmlpBwdRefIdeal.Run
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GmlpBwdRefIdeal.Read
open Cert.GmlpBwdRefIdeal Cert.GmlpBwdRefIdeal.Gen Cert.GmlpBwdRefIdeal.Value Cert.Gates
open Cert.GmlpBwdIdeal.Value (at128 sw cD cP aG aB aW aS dO pr gg bb ws bs prt pk dC fW fB fR fG fS)

theorem cat3 (X Y Z : S2x4096x512.Idx → EReal) (b : Fin 2) (s : Fin 4096) (x : Fin 1536) :
    concatenate (α := EReal) S2x4096x1536 2 [⟨S2x4096x512, X⟩, ⟨S2x4096x512, Y⟩, ⟨S2x4096x512, Z⟩] concatenates_S2x4096x512_S2x4096x512_S2x4096x512_S2x4096x1536_d2 (ix3 b s x)
      = (![X, Y, Z] (prt x) : S2x4096x512.Idx → EReal) (ix3 b s (pk x)) := by
  pointwise
  have hx := x.isLt
  by_cases h0 : x.val < 512
  · rw [dif_pos h0, show prt x = 0 from Fin.ext (by show x.val / 512 = 0; omega), show pk x = ⟨x.val, h0⟩ from Fin.ext (by show x.val % 512 = x.val; omega)]; rfl
  rw [dif_neg h0]
  by_cases h1 : x.val - 512 < 512
  · rw [dif_pos h1, show prt x = 1 from Fin.ext (by show x.val / 512 = 1; omega), show pk x = ⟨x.val - 512, h1⟩ from Fin.ext (by show x.val % 512 = x.val - 512; omega)]; rfl
  rw [dif_neg h1, show prt x = 2 from Fin.ext (by show x.val / 512 = 2; omega), show pk x = ⟨x.val - 512 - 512, by omega⟩ from Fin.ext (by show x.val % 512 = x.val - 512 - 512; omega)]; rfl

section values
variable {m : (ℓ : Loc GmlpBwdIdeal.nD GmlpBwdIdeal.τ GmlpBwdIdeal.sig) → Buf (Elt Ideal) ℓ} {c : Dev GmlpBwdIdeal.nD} {V0 : Valuation τ sig (Elt Ideal)}
  (A : Ag m c V0) (H : Real6 m c) (b : Fin 2) (n : Fin 32) (i j : Fin 128) (k : Fin 512)

include A H in
theorem partU : (addf (addf (mulf (res_main_v96 V0) (res_main_v27 V0)) (res_main_v160 V0)) (mulf (mulf (broadcastInDim S2x4096x512 ![] bcast_S_S2x4096x512 (constant S_ .f32 0x472EAB00#32)) (Host.divf (res_main_v160 V0) (broadcastInDim S2x4096x512 ![] bcast_S_S2x4096x512 (constant S_ .f32 0x49742400#32)))) (mulf (broadcastInDim S2x4096x512 ![] bcast_S_S2x4096x512 (constant S_ .f32 0x40400000#32)) (mulf (res_main_v0 V0) (res_main_v0 V0)))) : S2x4096x512.Idx → EReal) (ix3 b (at128 n i) k)
    = gU (cD m c b n) (cP m c 0 b n) (cP m c 1 b n) (cP m c 2 b n) (aG m c) (aB m c) (aW m c) (aS m c) i k := by
  pointwise
  rw [at160 A H, at96 A H, at27 A H, at0 A]
  refine (gelu_vjp (reP H b n i k 0) (((reD H b n i k).mul ((reP H b n i k 2).mul (reP H b n i k 2).logistic)).mul (reM H b n i k))).trans ?_
  unfold gU
  rw [mul_assoc (cD m c b n i k), mul_comm (_ * Ideal.logistic _) (mix _ _ _ _ _ _ _), ← mul_assoc (cD m c b n i k)]

include A H in
theorem partV : (addf (addf (mulf (res_main_v139 V0) (res_main_v50 V0)) (res_main_v146 V0)) (mulf (mulf (broadcastInDim S2x4096x512 ![] bcast_S_S2x4096x512 (constant S_ .f32 0x472EAB00#32)) (Host.divf (res_main_v146 V0) (broadcastInDim S2x4096x512 ![] bcast_S_S2x4096x512 (constant S_ .f32 0x49742400#32)))) (mulf (broadcastInDim S2x4096x512 ![] bcast_S_S2x4096x512 (constant S_ .f32 0x40400000#32)) (mulf (res_main_v1 V0) (res_main_v1 V0)))) : S2x4096x512.Idx → EReal) (ix3 b (at128 n i) k)
    = gV (cD m c b n) (cP m c 0 b n) (cP m c 1 b n) (cP m c 2 b n) (aG m c) (aW m c) i k := by
  pointwise
  rw [at146 A H, at139 A H, at50 A H, at1 A]
  exact gelu_vjp (reP H b n i k 1) (Re.lnB (reV H b n i) (reE H b n i) k)

include A H in
theorem partZ : (addf (mulf (res_main_v92 V0) (res_main_v90_2 V0)) (mulf (mulf (res_main_v2 V0) (res_main_v92 V0)) (mulf (res_main_v90_2 V0) (subf (broadcastInDim S2x4096x512 ![] bcast_S_S2x4096x512 (constant S_ .f32 0x3F800000#32)) (res_main_v90_2 V0)))) : S2x4096x512.Idx → EReal) (ix3 b (at128 n i) k)
    = gZ (cD m c b n) (cP m c 0 b n) (cP m c 1 b n) (cP m c 2 b n) (aG m c) (aB m c) (aW m c) (aS m c) i k := by
  pointwise
  rw [at92 A H, at90 A, at2 A]
  refine (silu_vjp (reP H b n i k 2) (((reP H b n i k 0).gelu.mul (reM H b n i k)).mul (reD H b n i k))).trans ?_
  unfold gZ
  rw [mul_comm _ (cD m c b n i k), ← mul_assoc (cD m c b n i k)]

theorem at_sq (s : Fin 4096) : s = at128 (GmlpBwdIdeal.Value.sq s) (sw s) := Fin.ext (by show s.val = 128 * (s.val / 128) + s.val % 128; omega)

/-- The three column blocks side by side. -/
theorem columns (X Y Z : S2x4096x512.Idx → EReal) (hX : ∀ b n i k, X (ix3 b (at128 n i) k) = gU (cD m c b n) (cP m c 0 b n) (cP m c 1 b n) (cP m c 2 b n) (aG m c) (aB m c) (aW m c) (aS m c) i k)
    (hY : ∀ b n i k, Y (ix3 b (at128 n i) k) = gV (cD m c b n) (cP m c 0 b n) (cP m c 1 b n) (cP m c 2 b n) (aG m c) (aW m c) i k)
    (hZ : ∀ b n i k, Z (ix3 b (at128 n i) k) = gZ (cD m c b n) (cP m c 0 b n) (cP m c 1 b n) (cP m c 2 b n) (aG m c) (aB m c) (aW m c) (aS m c) i k) (b : Fin 2) (s : Fin 4096) (p : Fin 3) (k : Fin 512) :
    (![X, Y, Z] p : S2x4096x512.Idx → EReal) (ix3 b s k) = dC m c p b s k := by
  have e := at_sq s
  unfold dC
  match p with
  | 0 => exact (congrArg (fun s' => X (ix3 b s' k)) e).trans (hX b _ _ k)
  | 1 => exact (congrArg (fun s' => Y (ix3 b s' k)) e).trans (hY b _ _ k)
  | 2 => exact (congrArg (fun s' => Z (ix3 b s' k)) e).trans (hZ b _ _ k)

include A H in
theorem weights (g : Fin 4) : (select (res_main_v82_1 V0) (Host.dotGeneral (F := Ideal) (φ₁ := .f32) (φ₂ := .f32) dot_S4x2x32x128x128_S2x32x128x4x128_S4x128x128_123_014_4_2_0_3 none (res_main_v101 V0) (res_main_v81 V0)) (broadcastInDim S4x128x128 ![] bcast_S_S4x128x128 (constant (F := Ideal) S_ .f32 0x00000000#32)) : S4x128x128.Idx → EReal) (ix3 g i j)
    = ∑ a, ∑ n, fW m c g i j a n := by
  have hp := at82m (V0 := V0) i j g
  have hw := wgt_at (Z := res_main_v101 V0) (Y := res_main_v81 V0) (g := g) (i := i) (j := j)
  generalize Host.dotGeneral (F := Ideal) (φ₁ := .f32) (φ₂ := .f32) dot_S4x2x32x128x128_S2x32x128x4x128_S4x128x128_123_014_4_2_0_3 none (res_main_v101 V0) (res_main_v81 V0) = D at hw ⊢
  generalize res_main_v82_1 V0 = M at hp ⊢
  pointwise
  rw [hp, hw]
  unfold fW
  split_ifs with h
  · refine (if_pos rfl).trans ?_
    refine Finset.sum_congr rfl fun a _ => Finset.sum_congr rfl fun n _ => Finset.sum_congr rfl fun x _ => ?_
    rw [at101 A H, at81 A H]
  · simp only [Finset.sum_const_zero]; rfl

include A H in
theorem biases : shapeCast S128x512 (Host.reduceAdd (F := Ideal) (φ := .f32) (shapeCast S1x1x128x4x128 (Host.reduceAdd (F := Ideal) (φ := .f32) (res_main_v97 V0) (constant (F := Ideal) S_ .f32 0x00000000#32) reducesTo_S2x32x128x4x128_S128x4x128_d0_1 h_S_) shapeCasts_S128x4x128_S1x1x128x4x128)
      (constant (F := Ideal) S_ .f32 0x00000000#32) reducesTo_S1x1x128x4x128_S128x4x128_d0_1 h_S_) shapeCasts_S128x4x128_S128x512 (ix2 i k) = ∑ a, ∑ n, fB m c i k a n := by
  refine (bias_at _ i k).trans (Finset.sum_congr rfl fun a _ => Finset.sum_congr rfl fun n _ => ?_)
  rw [at97 A H, blk_grp]; rfl

/-- A sum over the positions, chunk by chunk. -/
theorem sum_pos (f : Fin 4096 → EReal) : ∑ s, f s = ∑ n : Fin 32, ∑ i : Fin 128, f (at128 n i) := by
  refine (Fin.sum_mul_add_fin 32 128 f).symm.trans (Finset.sum_congr rfl fun n _ => Finset.sum_congr rfl fun i _ => congrArg f (Fin.ext ?_))
  show n.val * 128 + i.val = 128 * n.val + i.val; omega

include A H in
theorem scale (Y : S2x4096x512.Idx → EReal) (hY : Y = mulf (F := Ideal) (φ := .f32) (res_main_v74 V0) (res_main_v106 V0)) : ∑ a, ∑ s, Y (ix3 a s k) = ∑ a, ∑ n, fG m c k a n := by
  refine Finset.sum_congr rfl fun a _ => (sum_pos _).trans (Finset.sum_congr rfl fun n _ => ?_)
  unfold fG gG
  refine Finset.sum_congr rfl fun i _ => ?_
  rw [hY]
  pointwise
  rw [at74 A H, at106 A H, mul_comm]

include A H in
theorem shift (Y : S2x4096x512.Idx → EReal) (hY : Y = res_main_v106 V0) : ∑ a, ∑ s, Y (ix3 a s k) = ∑ a, ∑ n, fS m c k a n := by
  refine Finset.sum_congr rfl fun a _ => (sum_pos _).trans (Finset.sum_congr rfl fun n _ => ?_)
  unfold fS gB
  refine Finset.sum_congr rfl fun i _ => ?_
  rw [hY, at106 A H]
end values

theorem pad_at (P Q : S1x512.Idx → EReal) (r : Fin 8) (x : Fin 512) :
    pad (α := EReal) S8x512 ![0, 0] ![6, 0] ![0, 0] (concatenate (α := EReal) S2x512 0 [⟨S1x512, P⟩, ⟨S1x512, Q⟩] concatenates_S1x512_S1x512_S2x512_d0) (sitofp (F := Ideal) .f32 (constantI S_ 32 0#32)) pads_S2x512_S8x512_060_000 h_S_ (ix2 r x)
      = if r.val = 0 then P (ix2 0 x) else if r.val = 1 then Q (ix2 0 x) else 0 := by
  pointwise
  have hr := r.isLt
  by_cases h0 : r.val = 0
  · rw [dif_pos (show r.val < 2 by omega), dif_pos (show r.val < 1 by omega), if_pos h0]
    exact congrArg (fun i => P (ix2 i x)) (Fin.ext h0)
  rw [if_neg h0]
  by_cases h1 : r.val = 1
  · rw [dif_pos (show r.val < 2 by omega), dif_neg (show ¬ r.val < 1 by omega), if_pos h1]
    exact congrArg (fun i => Q (ix2 i x)) (Fin.ext (by show r.val - 1 = 0; omega))
  rw [dif_neg (show ¬ r.val < 2 by omega), if_neg h1]
  simp [FloatOps.sitofp]

end Cert.GmlpBwdRefIdeal.Read

end
-- ==== Proof.GmlpClaim.lean ====
/- The spatial gate's backward call against `jax.vjp` of the spatial gate: from finite arguments, the same four arrays. -/
module

public import proofs.«01_k».proof.Proof.GmlpEnd
public import proofs.«01_k».proof.Proof.Gen.GmlpBwdIdeal.Value
public import proofs.«01_k».proof.Proof.Gen.Pre_finite_gmlp
public import proofs.«01_k».proof.Proof.GmlpCols
public import proofs.«01_k».proof.Proof.Gen.GmlpBwdRefIdeal.Run
public import proofs.«01_k».proof.Defs
public import Idealize.ShloMosaic.Lib.Quiescent

@[expose] public section

set_option maxRecDepth 16384

noncomputable section

open Idealize.ShloMosaic Idealize.ShloMosaic.TcCoe Idealize.SL.Sem Idealize.ShloMosaic.StableHlo
open Idealize.ShloMosaic.Pipeline (Dat)

namespace Cert.GmlpBwdIdeal.Value
open Cert.GmlpBwdIdeal Cert.GmlpBwdIdeal.Gen Cert.Gates Cert.GmlpBwdRefIdeal.Read

/-- The precondition, argument by argument: every entry is a real number. -/
theorem real_args (m : (ℓ : Loc nD τ sig) → Buf (Elt Ideal) ℓ) (hpre : Pre_GmlpBwdIdeal_finite_gmlp m) (c : Dev nD) : Real6 m c := by
  have h := hpre c
  obtain ⟨x0, e0⟩ := exists_real_of_cmpf _ h.1
  obtain ⟨x1, e1⟩ := exists_real_of_cmpf _ h.2.1
  obtain ⟨x2, e2⟩ := exists_real_of_cmpf _ h.2.2.1
  obtain ⟨x3, e3⟩ := exists_real_of_cmpf _ h.2.2.2.1
  obtain ⟨x4, e4⟩ := exists_real_of_cmpf _ h.2.2.2.2.1
  obtain ⟨x5, e5⟩ := exists_real_of_cmpf _ h.2.2.2.2.2
  exact ⟨fun i => ⟨x0 i, congrFun e0 i⟩, fun i => ⟨x1 i, congrFun e1 i⟩, fun i => ⟨x2 i, congrFun e2 i⟩, fun i => ⟨x3 i, congrFun e3 i⟩, fun i => ⟨x4 i, congrFun e4 i⟩, fun i => ⟨x5 i, congrFun e5 i⟩⟩

/-- The reference runs, leaves its arguments as they were, and has no counter. -/
theorem refFrame : Cert.quiescent_GmlpBwdRefIdeal := fun m ρ _ =>
  (θ_run _ _ _).mono (fun r h => ⟨fun c => (h c).2.2.2.2, sem_eq_zero_of_no_sems (by decide) r.2⟩) (Cert.GmlpBwdRefIdeal.Value.run m ρ)

section refs
variable {m : (ℓ : Loc nD τ sig) → Buf (Elt Ideal) ℓ} {m' : (ℓ : Loc GmlpBwdRefIdeal.nD GmlpBwdRefIdeal.τ GmlpBwdRefIdeal.sig) → Buf (Elt Ideal) ℓ}

set_option maxHeartbeats 1600000 in
theorem ref0 (g' : Dev GmlpBwdRefIdeal.nD → PrngReg) (ha : ∀ c, Ag m c (launchContents m' c)) (H : ∀ c, Real6 m c) :
    θ_run GmlpBwdRefIdeal.defs (onTc (τ := GmlpBwdRefIdeal.τ) (GmlpBwdRefIdeal.main (F := Ideal))) ⟨m', fun _ => 0, g'⟩ fun r => ∀ c : Dev GmlpBwdIdeal.nD,
      r.2.mem (c.tc.loc GmlpBwdRefIdeal.main_v169) = fun j : S2x4096x1536.Idx => dC m c (prt (j 2)) (j 0) (j 1) (pk (j 2)) := by
  refine θ_run_mono (GmlpBwdRefIdeal.Value.run m' g') fun r h c => ((h c).1).trans ?_
  clear h r
  funext j
  rw [show j = ix3 (j 0) (j 1) (j 2) from (ix3_eta j).symm]
  exact (cat3 _ _ _ (j 0) (j 1) (j 2)).trans (columns _ _ _ (partU (ha c) (H c)) (partV (ha c) (H c)) (partZ (ha c) (H c)) (j 0) (j 1) _ _)

set_option maxHeartbeats 1600000 in
theorem ref1 (g' : Dev GmlpBwdRefIdeal.nD → PrngReg) (ha : ∀ c, Ag m c (launchContents m' c)) (H : ∀ c, Real6 m c) :
    θ_run GmlpBwdRefIdeal.defs (onTc (τ := GmlpBwdRefIdeal.τ) (GmlpBwdRefIdeal.main (F := Ideal))) ⟨m', fun _ => 0, g'⟩ fun r => ∀ c : Dev GmlpBwdIdeal.nD,
      r.2.mem (c.tc.loc GmlpBwdRefIdeal.main_v105) = fun j : S4x128x128.Idx => ∑ a, ∑ n, fW m c (j 0) (j 1) (j 2) a n := by
  refine θ_run_mono (GmlpBwdRefIdeal.Value.run m' g') fun r h c => ((h c).2.1).trans ?_
  clear h r
  funext j
  rw [show j = ix3 (j 0) (j 1) (j 2) from (ix3_eta j).symm]
  exact weights (ha c) (H c) (j 1) (j 2) (j 0)

set_option maxHeartbeats 1600000 in
theorem ref2 (g' : Dev GmlpBwdRefIdeal.nD → PrngReg) (ha : ∀ c, Ag m c (launchContents m' c)) (H : ∀ c, Real6 m c) :
    θ_run GmlpBwdRefIdeal.defs (onTc (τ := GmlpBwdRefIdeal.τ) (GmlpBwdRefIdeal.main (F := Ideal))) ⟨m', fun _ => 0, g'⟩ fun r => ∀ c : Dev GmlpBwdIdeal.nD,
      r.2.mem (c.tc.loc GmlpBwdRefIdeal.main_v170) = fun j : S128x512.Idx => ∑ a, ∑ n, fB m c (j 0) (j 1) a n := by
  refine θ_run_mono (GmlpBwdRefIdeal.Value.run m' g') fun r h c => ((h c).2.2.1).trans ?_
  clear h r
  funext j
  rw [show j = ix2 (j 0) (j 1) from (ix2_eta j).symm]
  exact biases (ha c) (H c) (j 0) (j 1)

set_option maxHeartbeats 1600000 in
theorem ref3 (g' : Dev GmlpBwdRefIdeal.nD → PrngReg) (ha : ∀ c, Ag m c (launchContents m' c)) (H : ∀ c, Real6 m c) :
    θ_run GmlpBwdRefIdeal.defs (onTc (τ := GmlpBwdRefIdeal.τ) (GmlpBwdRefIdeal.main (F := Ideal))) ⟨m', fun _ => 0, g'⟩ fun r => ∀ c : Dev GmlpBwdIdeal.nD,
      r.2.mem (c.tc.loc GmlpBwdRefIdeal.main_v174) = fun j : S8x512.Idx => ∑ a, ∑ n, fR m c (j 0) (j 1) a n := by
  refine θ_run_mono (GmlpBwdRefIdeal.Value.run m' g') fun r h c => ((h c).2.2.2.1).trans ?_
  clear h r
  funext j
  rw [show j = ix2 (j 0) (j 1) from (ix2_eta j).symm]
  refine (pad_at _ _ (j 0) (j 1)).trans ?_
  show _ = ∑ a, ∑ n, fR m c (j 0) (j 1) a n
  unfold fR
  split_ifs with h0 h1
  · exact (row_at _ _).trans (scale (ha c) (H c) (j 1) _ rfl)
  · exact (row_at _ _).trans (shift (ha c) (H c) (j 1) _ rfl)
  · simp only [Finset.sum_const_zero]
end refs

theorem gmlpBwd : Cert.algebraic_GmlpBwdIdeal_GmlpBwdRefIdeal_pre_finite_gmlp := by
  pair_intro
  · exact run_blocks m g
  · have H := real_args m hpre
    refine θ_run_mono (θ_run_and (GmlpBwdRefIdeal.Value.run m' g') (θ_run_and (ref0 g' hagree H) (θ_run_and (ref1 g' hagree H) (θ_run_and (ref2 g' hagree H) (ref3 g' hagree H))))) fun r h c => ?_
    obtain ⟨h, h0, h1, h2, h3⟩ := h
    exact ⟨(h0 c).trans (final8 m c).symm, (h1 c).trans (final9 m c).symm, (h2 c).trans (final10 m c).symm, (h3 c).trans (final11 m c).symm, (h c).2.2.2.2⟩

end Cert.GmlpBwdIdeal.Value

end
-- ==== Proof.ConvFwdPoint.lean ====
/- What the causal convolution's forward call computes from one block's values: the padded gated rows, the 31 shifted products and the bias,
the layer normalisation of that row, and the two gates. -/
module

public import proofs.«01_k».proof.Proof.Gen.ConvFwdIdeal.Value
public import proofs.«01_k».proof.Proof.Gates

@[expose] public section

set_option maxRecDepth 16384

noncomputable section

open Idealize.ShloMosaic Idealize.ShloMosaic.TcCoe Idealize.SL.Sem

namespace Cert.Gates
/-- The sum of the 31 taps, the last one's product with the newest position. -/
def sum31 (f : ℕ → EReal) : EReal :=
  f 0 + f 1 + f 2 + f 3 + f 4 + f 5 + f 6 + f 7 + f 8 + f 9 + f 10 + f 11 + f 12 + f 13 + f 14 + f 15 + f 16 + f 17 + f 18 + f 19 + f 20 + f 21 + f 22 + f 23
    + f 24 + f 25 + f 26 + f 27 + f 28 + f 29 + f 30
/-- The two gates of a normalised row. -/
def gate2 (a z : EReal) : EReal := a * Ideal.logistic a * (z * Ideal.logistic z)
end Cert.Gates

namespace Cert.ConvFwdIdeal.Value
open Cert.ConvFwdIdeal Cert.ConvFwdIdeal.Gen Cert.Gates

/-- Whether the rows before a block belong to the sequence. -/
def kp (i : grid0.Coords) : BitVec 1 := Scalar.cmpi .sgt (BitVec.ofNat 32 (i 1).val) 0#32

section rows
variable (A C Z : S1x256x512.Idx → EReal) (H K : S1x32x512.Idx → EReal) (i : grid0.Coords) (k : Fin 512) (p : Fin 256)

theorem pad_at (q : Fin 288) : k0_pay8 (F := Ideal) i A C H K (ix2 q k)
    = if h : q.val < 32 then Scalar.select (kp i) (H (ix3 0 ⟨q.val, h⟩ k) * Ideal.logistic (K (ix3 0 ⟨q.val, h⟩ k))) 0
      else A (ix3 0 ⟨q.val - 32, by omega⟩ k) * Ideal.logistic (C (ix3 0 ⟨q.val - 32, by omega⟩ k)) := by
  pointwise [k0_pay8]
  rfl
theorem cst3 : k0_pay3 (F := Ideal) Z (ix2 p k) = Z (ix3 0 p k) := by pointwise [k0_pay3]
theorem cst4 (W : S32x512.Idx → EReal) (j : Fin 32) : k0_pay4 (F := Ideal) W (ix2 j k) = W (ix2 j k) := by pointwise [k0_pay4]
theorem cst5 (B : S1x512.Idx → EReal) (u : Fin 1) : k0_pay5 (F := Ideal) B (ix2 u k) = B (ix2 u k) := by pointwise [k0_pay5]
theorem cst6 (B : S1x512.Idx → EReal) (u : Fin 1) : k0_pay6 (F := Ideal) B (ix2 u k) = B (ix2 u k) := by pointwise [k0_pay6]
theorem cst7 (B : S1x512.Idx → EReal) (u : Fin 1) : k0_pay7 (F := Ideal) B (ix2 u k) = B (ix2 u k) := by pointwise [k0_pay7]
end rows

section taps
variable (V : S288x512.Idx → EReal) (W : S32x512.Idx → EReal) (B : S1x512.Idx → EReal) (X : S256x512.Idx → EReal) (p : Fin 256) (k : Fin 512)

/-- Tap `n` of row `p`. -/
def tap (n : ℕ) : EReal := if h : n < 31 then V (ix2 ⟨2 + p.val + n, by omega⟩ k) * W (ix2 ⟨n, by omega⟩ k) else 0

theorem tap_eq (q : Fin 288) (j : Fin 32) (n : ℕ) (hn : n < 31) (hq : q.val = 2 + p.val + n) (hj : j.val = n) : V (ix2 q k) * W (ix2 j k) = tap V W p k n := by
  unfold tap
  rw [dif_pos hn]
  exact congrArg₂ (· * ·) (congrArg (fun q => V (ix2 q k)) (Fin.ext hq)) (congrArg (fun j => W (ix2 j k)) (Fin.ext hj))

/-- The block's rows from the second on, as the payloads cut them. -/
abbrev from2 : S280x512.Idx → EReal := extractStridedSlice S280x512 ![2, 0] V slices_S288x512_o2_0_S280x512

/-- The first tap's product. -/
abbrev first : FVec Ideal S256x512 .f32 := mulf (extractStridedSlice S256x512 ![0, 0] (from2 V) slices_S280x512_o0_0_S256x512 : FVec Ideal S256x512 .f32)
  (broadcastTo S256x512 (extractStridedSlice S1x512 ![0, 0] W slices_S32x512_o0_0_S1x512 : FVec Ideal S1x512 .f32) broadcasts_S1x512_S256x512)

theorem head_at : first V W (ix2 p k) = tap V W p k 0 := by
  unfold first; pointwise
  exact tap_eq V W p k _ _ _ (by omega) (by simp <;> omega) rfl

theorem pay17_at : k0_pay17 (F := Ideal) W V (from2 V) X (ix2 p k)
    = X (ix2 p k) + tap V W p k 1 + tap V W p k 2 + tap V W p k 3 + tap V W p k 4 + tap V W p k 5 + tap V W p k 6 + tap V W p k 7 + tap V W p k 8 + tap V W p k 9
      + tap V W p k 10 := by
  pointwise [k0_pay17, k0_pay11, k0_pay12, k0_pay13, k0_pay14, k0_pay15, k0_pay16]
  with_reducible repeat' refine congrArg₂ (· + ·) ?_ ?_
  all_goals first | rfl | exact tap_eq V W p k _ _ _ (by omega) (by simp <;> omega) rfl

theorem pay18_at : k0_pay18 (F := Ideal) W V (ix2 p k) = tap V W p k 11 := by
  pointwise [k0_pay18, k0_pay13]
  exact tap_eq V W p k _ _ _ (by omega) (by simp <;> omega) rfl

theorem pay19_at (Y : S256x512.Idx → EReal) : k0_pay19 (F := Ideal) W V (from2 V) (k0_pay11 V) (k0_pay12 V) (k0_pay13 V) (k0_pay14 V) (k0_pay15 V) (k0_pay16 V) X Y (ix2 p k)
    = X (ix2 p k) + Y (ix2 p k) + tap V W p k 12 + tap V W p k 13 + tap V W p k 14 + tap V W p k 15 + tap V W p k 16 + tap V W p k 17 + tap V W p k 18 + tap V W p k 19
      + tap V W p k 20 + tap V W p k 21 + tap V W p k 22 := by
  pointwise [k0_pay19, k0_pay11, k0_pay12, k0_pay13, k0_pay14, k0_pay15, k0_pay16]
  with_reducible repeat' refine congrArg₂ (· + ·) ?_ ?_
  all_goals first | rfl | exact tap_eq V W p k _ _ _ (by omega) (by simp <;> omega) rfl

theorem pay20_at : k0_pay20 (F := Ideal) W (k0_pay16 V) (ix2 p k) = tap V W p k 23 := by
  pointwise [k0_pay20, k0_pay16]
  exact tap_eq V W p k _ _ _ (by omega) (by simp <;> omega) rfl

theorem pay21_at (Y : S256x512.Idx → EReal) : k0_pay21 (F := Ideal) W B V (from2 V) (k0_pay11 V) (k0_pay12 V) (k0_pay13 V) (k0_pay14 V) (k0_pay15 V) X Y (ix2 p k)
    = X (ix2 p k) + Y (ix2 p k) + tap V W p k 24 + tap V W p k 25 + tap V W p k 26 + tap V W p k 27 + tap V W p k 28 + tap V W p k 29 + tap V W p k 30 + B (ix2 0 k) := by
  pointwise [k0_pay21, k0_pay11, k0_pay12, k0_pay13, k0_pay14, k0_pay15]
  with_reducible repeat' refine congrArg₂ (· + ·) ?_ ?_
  all_goals first | rfl | exact tap_eq V W p k _ _ _ (by omega) (by simp <;> omega) rfl

/-- The first eleven taps, the first twenty-three, and all of them with the bias. -/
abbrev sum11 : S256x512.Idx → EReal := k0_pay17 (F := Ideal) W V (from2 V) (first V W)
abbrev sum23 : S256x512.Idx → EReal :=
  k0_pay19 (F := Ideal) W V (from2 V) (k0_pay11 V) (k0_pay12 V) (k0_pay13 V) (k0_pay14 V) (k0_pay15 V) (k0_pay16 V) (sum11 V W) (k0_pay18 W V)
abbrev conv : S256x512.Idx → EReal :=
  k0_pay21 (F := Ideal) W B V (from2 V) (k0_pay11 V) (k0_pay12 V) (k0_pay13 V) (k0_pay14 V) (k0_pay15 V) (sum23 V W) (k0_pay20 W (k0_pay16 V))

theorem conv_at : conv V W B (ix2 p k) = sum31 (tap V W p k) + B (ix2 0 k) := by
  unfold conv sum23 sum11
  rw [pay21_at, pay19_at, pay17_at, pay18_at, pay20_at, head_at]
  rfl

/-- The convolved rows, normalised. -/
abbrev nrmd : S256x512.Idx → EReal :=
  k0_pay22 (F := Ideal) W B V (from2 V) (k0_pay11 V) (k0_pay12 V) (k0_pay13 V) (k0_pay14 V) (k0_pay15 V) (sum23 V W) (k0_pay20 W (k0_pay16 V))

theorem nrm_at : nrmd V W B (ix2 p k) = nrm (fun l => conv V W B (ix2 p l)) k := by
  unfold nrmd conv k0_pay22
  generalize k0_pay21 (F := Ideal) W B V (from2 V) (k0_pay11 V) (k0_pay12 V) (k0_pay13 V) (k0_pay14 V) (k0_pay15 V) (sum23 V W) (k0_pay20 W (k0_pay16 V)) = T
  pointwise
  rfl

theorem out_at (G : S1x512.Idx → EReal) (Z N M : S256x512.Idx → EReal) (u : Fin 1) : k0_pay1 (F := Ideal) Z G N M (ix3 u p k)
    = gate2 (N (ix2 p k) * M (ix2 p k) + G (ix2 0 k)) (Z (ix2 p k)) := by
  pointwise [k0_pay1]
  rfl
theorem sum_at (N : S256x512.Idx → EReal) (u : Fin 1) : k0_pay2 (F := Ideal) N (ix3 u p k) = N (ix2 p k) := by pointwise [k0_pay2]
theorem scale_at (G : S1x512.Idx → EReal) : k0_pay23 (F := Ideal) G (ix2 p k) = G (ix2 0 k) := by pointwise [k0_pay23]
end taps

end Cert.ConvFwdIdeal.Value

end
-- ==== Proof.ConvFwdValue.lean ====
/- What the causal convolution's forward call leaves: the gated projection, convolved causally over the sequence, with its bias; and that row
layer-normalised and gated. -/
module

public import proofs.«01_k».proof.Proof.ConvFwdPoint
public import proofs.«01_k».proof.Proof.Cols
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvFwdIdeal.Value
open Cert.ConvFwdIdeal Cert.ConvFwdIdeal.Gen Cert.Gates

variable (m : (ℓ : Loc nD τ sig) → Buf (Elt Ideal) ℓ)

theorem idx : ∀ t : Fin cfg0.N, win0_0.index t = ![t.val / 16, t.val % 16, 8] ∧ win0_1.index t = ![t.val / 16, t.val % 16, 9] ∧ win0_2.index t = ![t.val / 16, t.val % 16, 10]
    ∧ win0_3.index t = ![t.val / 16, t.val % 16 * 8 - 1, 8] ∧ win0_4.index t = ![t.val / 16, t.val % 16 * 8 - 1, 9] ∧ win0_5.index t = ![0, 0] ∧ win0_6.index t = ![0, 0]
    ∧ win0_7.index t = ![0, 0] ∧ win0_8.index t = ![0, 0] ∧ win0_9.index t = ![t.val / 16, t.val % 16, 0] ∧ win0_10.index t = ![t.val / 16, t.val % 16, 0] :=
  (by decide +kernel : ∀ t : Fin grid0.N, _)

theorem lt32 (t : Fin cfg0.N) : t.val < 32 := lt_of_lt_of_eq t.isLt (by decide +kernel)
theorem kp_eq : ∀ t : Fin cfg0.N, kp (grid0.coords t) = if t.val % 16 = 0 then 0#1 else 1#1 :=
  (by decide +kernel : ∀ t : Fin grid0.N, _)

/-- The batch of point `t`, the position in the sequence of its row `y`, and that of the row `y` of those just before the block. -/
def bat (t : Fin cfg0.N) : Fin 2 := ⟨t.val / 16, by have := lt32 t; omega⟩
def pos (t : Fin cfg0.N) (y : Fin 256) : Fin 4096 := ⟨t.val % 16 * 256 + y.val, by omega⟩
def prv (t : Fin cfg0.N) (y : Fin 32) : Fin 4096 := ⟨(t.val % 16 * 8 - 1) * 32 + y.val, by omega⟩

/-- The arguments: the projection, the taps, their bias, the scale and the shift. -/
def pr (c : Dev nD) : S2x4096x10256.Idx → EReal := m ((c : Thread nD τ).loc main_arg0)
def dw (c : Dev nD) : S31x512.Idx → EReal := m ((c : Thread nD τ).loc main_arg1)
def db (c : Dev nD) : S512.Idx → EReal := m ((c : Thread nD τ).loc main_arg2)
def gg (c : Dev nD) : S512.Idx → EReal := m ((c : Thread nD τ).loc main_arg3)
def bb (c : Dev nD) : S512.Idx → EReal := m ((c : Thread nD τ).loc main_arg4)

/-- Column `k` of part `n` of the branch in the projection, and the branch's three parts. -/
def acol (n : Fin 3) (k : Fin 512) : Fin 10256 := ⟨n.val * 512 + k.val, by omega⟩
def aa (c : Dev nD) (n : Fin 3) (b : Fin 2) (s : Fin 4096) (k : Fin 512) : EReal := pr m c (ix3 b s (acol n k))

/-- The gated rows after thirty rows of zeros, the taps, and the convolved row with its bias. -/
def gx (c : Dev nD) (b : Fin 2) (r : ℕ) (k : Fin 512) : EReal :=
  if h : 30 ≤ r ∧ r < 4126 then aa m c 0 b ⟨r - 30, by omega⟩ k * Ideal.logistic (aa m c 1 b ⟨r - 30, by omega⟩ k) else 0
def tp (c : Dev nD) (n : ℕ) (k : Fin 512) : EReal := if h : n < 31 then dw m c (ix2 ⟨n, h⟩ k) else 0
def cv (c : Dev nD) (b : Fin 2) (s : Fin 4096) (k : Fin 512) : EReal := sum31 (fun n => gx m c b (s.val + n) k * tp m c n k) + db m c (ix1 k)
/-- The gated output. -/
def yA (c : Dev nD) (b : Fin 2) (s : Fin 4096) (k : Fin 512) : EReal := gate2 (nrm (cv m c b s) k * gg m c (ix1 k) + bb m c (ix1 k)) (aa m c 2 b s k)

section reads
variable (c : Dev nD) (t : Fin cfg0.N)

/-- The three stretches of host operations before the call, one after another. -/
theorem entry (b : Ref sig .tc) : V m c b = StableHlo.after (hostOps0 ++ hostOps0_1 ++ hostOps0_2) (fun b => m (c, b)) (Proc.devRef .tc b) := rfl

theorem taps_at (D : FVec Ideal S31x512 .f32) (j : Fin 32) (k : Fin 512) :
    pad S32x512 ![0, 0] ![1, 0] ![0, 0] D (sitofp .f32 (constantI S_ 32 0#32)) pads_S31x512_S32x512_010_000 h_S_ (ix2 j k) = if h : j.val < 31 then D (ix2 ⟨j.val, h⟩ k) else 0 := by
  have e : (FloatOps.sitofp .f32 0#32 : Ideal .f32) = (0 : EReal) := by
    show ((((0#32 : BitVec 32).toInt : ℤ) : ℝ) : EReal) = 0
    simp
  pointwise
  rw [e]
theorem v6_at (j : Fin 32) (k : Fin 512) : V m c main_v6 (ix2 j k) = tp m c j.val k := by
  rw [entry]
  simp only [hostOps0, hostOps0_1, hostOps0_2, List.cons_append, List.nil_append]
  entry_read
  exact taps_at (dw m c) j k
theorem rd5 (j : Fin 32) (k : Fin 512) : iblk m c 5 t (ix2 j k) = tp m c j.val k := by
  unfold iblk
  rw [View.read_apply, cast_eq]
  refine (congrArg (V m c main_v6) ?_).trans (v6_at m c j k)
  blk_ext [idx t]
theorem v7_at (u : Fin 1) (k : Fin 512) : V m c main_v7 (ix2 u k) = db m c (ix1 k) := by
  rw [entry]
  simp only [hostOps0, hostOps0_1, hostOps0_2, List.cons_append, List.nil_append]
  entry_read
  pointwise
  blk_ext [db]
theorem rd6 (u : Fin 1) (k : Fin 512) : iblk m c 6 t (ix2 u k) = db m c (ix1 k) := by
  unfold iblk
  rw [View.read_apply, cast_eq]
  refine (congrArg (V m c main_v7) ?_).trans (v7_at m c u k)
  blk_ext [idx t]
theorem v8_at (u : Fin 1) (k : Fin 512) : V m c main_v8 (ix2 u k) = gg m c (ix1 k) := by
  rw [entry]
  simp only [hostOps0, hostOps0_1, hostOps0_2, List.cons_append, List.nil_append]
  entry_read
  pointwise
  blk_ext [gg]
theorem rd7 (u : Fin 1) (k : Fin 512) : iblk m c 7 t (ix2 u k) = gg m c (ix1 k) := by
  unfold iblk
  rw [View.read_apply, cast_eq]
  refine (congrArg (V m c main_v8) ?_).trans (v8_at m c u k)
  blk_ext [idx t]
theorem v9_at (u : Fin 1) (k : Fin 512) : V m c main_v9 (ix2 u k) = bb m c (ix1 k) := by
  rw [entry]
  simp only [hostOps0, hostOps0_1, hostOps0_2, List.cons_append, List.nil_append]
  entry_read
  pointwise
  blk_ext [bb]
theorem rd8 (u : Fin 1) (k : Fin 512) : iblk m c 8 t (ix2 u k) = bb m c (ix1 k) := by
  unfold iblk
  rw [View.read_apply, cast_eq]
  refine (congrArg (V m c main_v9) ?_).trans (v9_at m c u k)
  blk_ext [idx t]

/-- The projection's first part, where the kernel's column order puts it. -/
theorem part1_at (b : Fin 2) (s : Fin 4096) (x : Fin 10368) (k : Fin 1536) (hx : x.val = 4096 + k.val) :
    V m c main_v5 (ix3 b s x) = V m c main_v2 (ix3 b s k) := by
  rw [entry, entry]
  simp only [hostOps0, hostOps0_1, hostOps0_2, List.cons_append, List.nil_append, StableHlo.after_cons, StableHlo.after_nil]
  after_results_simp
  refine (Cols.cols1_at _ _ _ _ _ _ b s x k hx).trans ?_
  refine congrFun (f := (HloOp.result _ _ (Proc.tc.devRef main_v2))) ?_ (ix3 b s k)
  after_results_simp

theorem part_at (b : Fin 2) (s : Fin 4096) (x : Fin 10368) (n : Fin 3) (k : Fin 512) (hx : x.val = 4096 + n.val * 512 + k.val) :
    V m c main_v5 (ix3 b s x) = aa m c n b s k := by
  rw [part1_at m c b s x ⟨n.val * 512 + k.val, by omega⟩ (by show x.val = 4096 + (n.val * 512 + k.val); omega)]
  rw [entry]
  simp only [hostOps0, hostOps0_1, hostOps0_2, List.cons_append, List.nil_append]
  entry_read
  pointwise
  blk_ext [pr, aa, acol]

theorem rd0 (u : Fin 1) (y : Fin 256) (k : Fin 512) : X0_0 m c t (ix3 u y k) = aa m c 0 (bat t) (pos t y) k := by
  unfold X0_0
  refine (dif_pos (moved0_0 t (ix3 u y k))).trans (Eq.trans ?_ (part_at m c (bat t) (pos t y) ⟨4096 + k.val, by omega⟩ 0 k (by simp)))
  unfold iblk
  rw [View.read_apply, cast_eq]
  refine congrArg (V m c main_v5) ?_
  blk_ext [idx t, bat, pos]
theorem rd1 (u : Fin 1) (y : Fin 256) (k : Fin 512) : X0_1 m c t (ix3 u y k) = aa m c 1 (bat t) (pos t y) k := by
  unfold X0_1
  refine (dif_pos (moved0_1 t (ix3 u y k))).trans (Eq.trans ?_ (part_at m c (bat t) (pos t y) ⟨4608 + k.val, by omega⟩ 1 k (by simp)))
  unfold iblk
  rw [View.read_apply, cast_eq]
  refine congrArg (V m c main_v5) ?_
  blk_ext [idx t, bat, pos]
theorem rd2 (u : Fin 1) (y : Fin 256) (k : Fin 512) : X0_2 m c t (ix3 u y k) = aa m c 2 (bat t) (pos t y) k := by
  unfold X0_2
  refine (dif_pos (moved0_2 t (ix3 u y k))).trans (Eq.trans ?_ (part_at m c (bat t) (pos t y) ⟨5120 + k.val, by omega⟩ 2 k (by simp)))
  unfold iblk
  rw [View.read_apply, cast_eq]
  refine congrArg (V m c main_v5) ?_
  blk_ext [idx t, bat, pos]
theorem rd3 (u : Fin 1) (y : Fin 32) (k : Fin 512) : X0_3 m c t (ix3 u y k) = aa m c 0 (bat t) (prv t y) k := by
  unfold X0_3
  refine (dif_pos (moved0_3 t (ix3 u y k))).trans (Eq.trans ?_ (part_at m c (bat t) (prv t y) ⟨4096 + k.val, by omega⟩ 0 k (by simp)))
  unfold iblk
  rw [View.read_apply, cast_eq]
  refine congrArg (V m c main_v5) ?_
  blk_ext [idx t, bat, prv]
theorem rd4 (u : Fin 1) (y : Fin 32) (k : Fin 512) : X0_4 m c t (ix3 u y k) = aa m c 1 (bat t) (prv t y) k := by
  unfold X0_4
  refine (dif_pos (moved0_4 t (ix3 u y k))).trans (Eq.trans ?_ (part_at m c (bat t) (prv t y) ⟨4608 + k.val, by omega⟩ 1 k (by simp)))
  unfold iblk
  rw [View.read_apply, cast_eq]
  refine congrArg (V m c main_v5) ?_
  blk_ext [idx t, bat, prv]

/-- The block's rows with those just before them. -/
abbrev rows : S288x512.Idx → EReal := k0_pay8 (F := Ideal) (grid0.coords t) (X0_0 m c t) (X0_1 m c t) (X0_3 m c t) (X0_4 m c t)

theorem rows_at (q : Fin 288) (k : Fin 512) (h2 : 2 ≤ q.val) : rows m c t (ix2 q k) = gx m c (bat t) (t.val % 16 * 256 + q.val - 2) k := by
  refine (pad_at _ _ _ _ _ k q).trans ?_
  unfold gx
  have ht := lt32 t
  split_ifs with h h' h'
  · rw [rd3, rd4, kp_eq, if_neg (by omega)]
    have e : prv t ⟨q.val, h⟩ = ⟨t.val % 16 * 256 + q.val - 2 - 30, by omega⟩ := Fin.ext (by simp only [prv]; omega)
    rw [e]; rfl
  · rw [kp_eq, if_pos (by omega)]; rfl
  · rw [rd0, rd1]
    have e : pos t ⟨q.val - 32, by omega⟩ = ⟨t.val % 16 * 256 + q.val - 2 - 30, by omega⟩ := Fin.ext (by simp only [pos]; omega)
    rw [e]
  · omega

theorem tap_gx (p : Fin 256) (k : Fin 512) (n : ℕ) :
    tap (rows m c t) (k0_pay4 (iblk m c 5 t)) p k n = if n < 31 then gx m c (bat t) ((pos t p).val + n) k * tp m c n k else 0 := by
  unfold tap
  by_cases h : n < 31
  · rw [dif_pos h, if_pos h, cst4, rd5, rows_at _ _ _ _ _ (by simp only []; omega)]
    refine congrArg (fun r => gx m c (bat t) r k * tp m c n k) ?_
    simp only [pos]; omega
  · rw [dif_neg h, if_neg h]

theorem conv_pt (p : Fin 256) (k : Fin 512) :
    conv (rows m c t) (k0_pay4 (iblk m c 5 t)) (k0_pay5 (iblk m c 6 t)) (ix2 p k) = cv m c (bat t) (pos t p) k := by
  rw [conv_at]
  unfold cv sum31
  simp only [tap_gx, cst5, rd6, Nat.reduceLT, if_true]

theorem out_pt (u : Fin 1) (p : Fin 256) (k : Fin 512) :
    k0_pay1 (F := Ideal) (k0_pay3 (X0_2 m c t)) (k0_pay7 (iblk m c 8 t)) (nrmd (rows m c t) (k0_pay4 (iblk m c 5 t)) (k0_pay5 (iblk m c 6 t))) (k0_pay23 (k0_pay6 (iblk m c 7 t)))
      (ix3 u p k) = yA m c (bat t) (pos t p) k := by
  rw [out_at, nrm_at, scale_at, cst3, cst6, cst7, rd2, rd7, rd8]
  exact congrArg (fun v => gate2 (nrm v k * gg m c (ix1 k) + bb m c (ix1 k)) (aa m c 2 (bat t) (pos t p) k)) (funext fun l => conv_pt m c t p l)
end reads

theorem final10 (c : Dev nD) : (dats m 0 c).arrAt 10 (cfgs 0).N = fun j : S2x4096x512.Idx => cv m c (j 0) (j 1) (j 2) := by
  refine (dats m 0 c).arrAt_eq_of_covers 10 _ (by decide +kernel) fun t _ y => ?_
  have e0 : (((View.whole main_v10_1).slice (win0_10.rect t)).emb y) 0 = bat t := by
    refine Fin.ext ?_; blk_simp [idx t, bat]
  have e1 : (((View.whole main_v10_1).slice (win0_10.rect t)).emb y) 1 = pos t (y 1) := by
    refine Fin.ext ?_; blk_simp [idx t, pos]
  have e2 : (((View.whole main_v10_1).slice (win0_10.rect t)).emb y) 2 = y 2 := by
    refine Fin.ext ?_; blk_simp [idx t]
  blk_simp
  simp only [e0, e1, e2]
  rw [after0_10]; unfold outsAt0 out0_A_10; frame_out
  exact (congrArg _ (ix3_eta y).symm).trans ((sum_at _ _ _ (y 0)).trans (conv_pt m c t (y 1) (y 2)))

theorem final9 (c : Dev nD) : (dats m 0 c).arrAt 9 (cfgs 0).N = fun j : S2x4096x512.Idx => yA m c (j 0) (j 1) (j 2) := by
  refine (dats m 0 c).arrAt_eq_of_covers 9 _ (by decide +kernel) fun t _ y => ?_
  have e0 : (((View.whole main_v10_0).slice (win0_9.rect t)).emb y) 0 = bat t := by
    refine Fin.ext ?_; blk_simp [idx t, bat]
  have e1 : (((View.whole main_v10_0).slice (win0_9.rect t)).emb y) 1 = pos t (y 1) := by
    refine Fin.ext ?_; blk_simp [idx t, pos]
  have e2 : (((View.whole main_v10_0).slice (win0_9.rect t)).emb y) 2 = y 2 := by
    refine Fin.ext ?_; blk_simp [idx t]
  blk_simp
  simp only [e0, e1, e2]
  rw [after0_9]; unfold outsAt0 out0_A_9; frame_out
  exact (congrArg _ (ix3_eta y).symm).trans (out_pt m c t (y 0) (y 1) (y 2))

end Cert.ConvFwdIdeal.Value

end
-- ==== Proof.GmlpFwdValue.lean ====
/- What the chunked spatial gate's forward call leaves: the gated half of each chunk, layer-normalised, mixed by the four groups' lower
triangular weights, and multiplied by the two other parts. -/
module

public import proofs.«01_k».proof.Proof.Gen.GmlpFwdIdeal.Value
public import proofs.«01_k».proof.Proof.GmlpBlocks
public import proofs.«01_k».proof.Proof.Cols
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpFwdIdeal.Value
open Cert.GmlpFwdIdeal Cert.GmlpFwdIdeal.Gen Cert.Gates
open Cert.GmlpBwdIdeal.Value (rows4 tri sel_tri mixN mix_chunk)

theorem named1 : (Named.named κ "gelu_c" 0x3D372713#32 : Ideal .f32) = c1 := IdealRules.named_const.ideal_named_scalar _ _ _ _ rfl

section point
variable (A : S4x128x128.Idx → EReal) (U X Z V : S512x512.Idx → EReal) (G B : S1x512.Idx → EReal) (S : S128x512.Idx → EReal)
  (i j k : Fin 128) (y x : Fin 512)

theorem w0_at : k0_pay8 (F := Ideal) A (ix2 i j) = tri A 0 i j := by pointwise [k0_pay8]; exact sel_tri _ _ _ _
theorem w1_at : k0_pay9 (F := Ideal) A (ix2 i j) = tri A 1 i j := by pointwise [k0_pay9]; exact sel_tri _ _ _ _
theorem w2_at : k0_pay10 (F := Ideal) A (ix2 i j) = tri A 2 i j := by pointwise [k0_pay10]; exact sel_tri _ _ _ _
theorem w3_at : k0_pay11 (F := Ideal) A (ix2 i j) = tri A 3 i j := by pointwise [k0_pay11]; exact sel_tri _ _ _ _

abbrev hlf : Ideal .f32 := Scalar.ofBits .f32 0x3F000000#32

/-- The normalised gated half. -/
abbrev bV : S512x512.Idx → EReal := k0_pay12 (F := Ideal) X G B hlf

theorem v_at : bV X G B (ix2 y x) = nrm (fun k => gelu (X (ix2 y k))) x * G (ix2 0 x) + B (ix2 0 x) := by
  unfold bV; pointwise [k0_pay12]; simp only [named1]; rfl

theorem r0_at (x : Fin 512) :
    k0_pay18 (F := Ideal) S (k0_pay13 X G B (k0_pay8 A) hlf) (k0_pay14 X G B (k0_pay9 A) hlf) (k0_pay15 X G B (k0_pay10 A) hlf) (k0_pay16 (k0_pay11 A)) (k0_pay17 X G B hlf)
      (constant S128x128 .f32 0x00000000#32) (ix2 i x) = mixN A (bV X G B) 0 i x + S (ix2 i x) := by
  unfold k0_pay18 k0_pay13 k0_pay14 k0_pay15 k0_pay17 bV
  generalize k0_pay12 (F := Ideal) X G B hlf = V
  refine congrArg (· + S (ix2 i x)) (mix_chunk A V _ 0 i x ?_ ?_ ?_ ?_) <;> intro k <;> pointwise [k0_pay16]
  · simp only [w0_at, blk_0]
  · simp only [w1_at, blk_0, blk_1]
  · simp only [w2_at, blk_0, blk_2]
  · simp only [w3_at, blk_0, blk_3]
theorem r1_at (x : Fin 512) :
    k0_pay19 (F := Ideal) S (k0_pay8 A) (k0_pay9 A) (k0_pay10 A) (k0_pay11 A) V (ix2 i x) = mixN A V 1 i x + S (ix2 i x) := by
  unfold k0_pay19
  refine congrArg (· + S (ix2 i x)) (mix_chunk A V _ 1 i x ?_ ?_ ?_ ?_) <;> intro k <;> pointwise
  · simp only [w0_at, blk_0, blk_1]
  · simp only [w1_at, blk_1]
  · simp only [w2_at, blk_1, blk_2]
  · simp only [w3_at, blk_1, blk_3]
theorem r2_at (x : Fin 512) :
    k0_pay20 (F := Ideal) S (k0_pay8 A) (k0_pay9 A) (k0_pay10 A) (k0_pay11 A) V (ix2 i x) = mixN A V 2 i x + S (ix2 i x) := by
  unfold k0_pay20
  refine congrArg (· + S (ix2 i x)) (mix_chunk A V _ 2 i x ?_ ?_ ?_ ?_) <;> intro k <;> pointwise
  · simp only [w0_at, blk_0, blk_2]
  · simp only [w1_at, blk_1, blk_2]
  · simp only [w2_at, blk_2]
  · simp only [w3_at, blk_2, blk_3]

/-- The gate's product, of any mixed rows. -/
abbrev gated (M : S512x512.Idx → EReal) : S1x512x512.Idx → EReal :=
  shapeCast S1x512x512 (truncf (F := Ideal) .bf16 (mulf (mulf (mulf (mulf (broadcast S512x512 hlf) U)
    (addf (broadcast S512x512 (Scalar.ofBits .f32 0x3F800000#32)) (tanh (mulf (broadcast S512x512 (Scalar.ofBits .f32 0x3F4C422A#32)) (addf U
      (mulf (mulf (mulf (broadcast S512x512 (Named.named κ "gelu_c" 0x3D372713#32)) U) U) U)))))) M) (mulf Z (logistic Z))) bitsLt_bf16_f32) shapeCasts_S512x512_S1x512x512

theorem gated_at (M : S512x512.Idx → EReal) (u : Fin 1) :
    gated U Z M (ix3 u y x) = gelu (U (ix2 y x)) * M (ix2 y x) * (Z (ix2 y x) * Ideal.logistic (Z (ix2 y x))) := by
  unfold gated; pointwise; simp only [named1]; rfl

theorem out_at {R0 R1 R2 : S128x512.Idx → EReal} (h0 : ∀ i x, R0 (ix2 i x) = mixN A V 0 i x + S (ix2 i x))
    (h1 : ∀ i x, R1 (ix2 i x) = mixN A V 1 i x + S (ix2 i x)) (h2 : ∀ i x, R2 (ix2 i x) = mixN A V 2 i x + S (ix2 i x)) (u : Fin 1) :
    k0_pay1 (F := Ideal) U Z S (k0_pay11 A) V R0 R1 R2 (k0_pay21 (k0_pay8 A) V) (k0_pay22 (k0_pay9 A) V) (k0_pay23 (k0_pay10 A)) (k0_pay24 V) (ix3 u y x)
      = gelu (U (ix2 y x)) * (mixN A V (grp y) (wit y) x + S (ix2 (wit y) x)) * (Z (ix2 y x) * Ideal.logistic (Z (ix2 y x))) := by
  unfold k0_pay1
  refine (gated_at U Z y x _ u).trans (congrArg (fun q => gelu (U (ix2 y x)) * q * (Z (ix2 y x) * Ideal.logistic (Z (ix2 y x)))) ?_)
  refine rows4 _ y x (fun n i => mixN A V n i x + S (ix2 i x)) (fun i => h0 i x) (fun i => h1 i x) (fun i => h2 i x) fun i => ?_
  refine congrArg (· + S (ix2 i x)) (mix_chunk A V _ 3 i x ?_ ?_ ?_ ?_) <;> intro k <;> pointwise [k0_pay21, k0_pay22, k0_pay23, k0_pay24]
  · simp only [w0_at, blk_0, blk_3]
  · simp only [w1_at, blk_1, blk_3]
  · simp only [w2_at, blk_2, blk_3]
  · simp only [w3_at, blk_3]

theorem cst2 (A : S1x512x512.Idx → EReal) : k0_pay2 (F := Ideal) A (ix2 y x) = A (ix3 0 y x) := by pointwise [k0_pay2]
theorem cst3 (A : S1x512x512.Idx → EReal) : k0_pay3 (F := Ideal) A (ix2 y x) = A (ix3 0 y x) := by pointwise [k0_pay3]
theorem cst4 (A : S1x512x512.Idx → EReal) : k0_pay4 (F := Ideal) A (ix2 y x) = A (ix3 0 y x) := by pointwise [k0_pay4]
theorem cst5 (u : Fin 1) : k0_pay5 (F := Ideal) G (ix2 u x) = G (ix2 u x) := by pointwise [k0_pay5]
theorem cst6 (u : Fin 1) : k0_pay6 (F := Ideal) G (ix2 u x) = G (ix2 u x) := by pointwise [k0_pay6]
theorem cst7 : k0_pay7 (F := Ideal) S (ix2 i x) = S (ix2 i x) := by pointwise [k0_pay7]
end point

variable (m : (ℓ : Loc nD τ sig) → Buf (Elt Ideal) ℓ)

theorem idx : ∀ t : Fin cfg0.N, win0_0.index t = ![t.val / 8, t.val % 8, 11] ∧ win0_1.index t = ![t.val / 8, t.val % 8, 12] ∧ win0_2.index t = ![t.val / 8, t.val % 8, 13]
    ∧ win0_3.index t = ![0, 0] ∧ win0_4.index t = ![0, 0] ∧ win0_5.index t = ![0, 0, 0] ∧ win0_6.index t = ![0, 0] ∧ win0_7.index t = ![t.val / 8, t.val % 8, 0] :=
  (by decide +kernel : ∀ t : Fin grid0.N, _)

theorem lt16 (t : Fin cfg0.N) : t.val < 16 := lt_of_lt_of_eq t.isLt (by decide +kernel)

/-- The batch of point `t`, and the position in the sequence of its row `y`. -/
def bat (t : Fin cfg0.N) : Fin 2 := ⟨t.val / 8, by have := lt16 t; omega⟩
def pos (t : Fin cfg0.N) (y : Fin 512) : Fin 4096 := ⟨t.val % 8 * 512 + y.val, by omega⟩

/-- The arguments: the projection, the scale, the shift, the weights and the bias. -/
def pr (c : Dev nD) : S2x4096x10256.Idx → EReal := m ((c : Thread nD τ).loc main_arg0)
def gg (c : Dev nD) : S512.Idx → EReal := m ((c : Thread nD τ).loc main_arg1)
def bb (c : Dev nD) : S512.Idx → EReal := m ((c : Thread nD τ).loc main_arg2)
def ws (c : Dev nD) : S4x128x128.Idx → EReal := m ((c : Thread nD τ).loc main_arg3)
def bs (c : Dev nD) : S4x128.Idx → EReal := m ((c : Thread nD τ).loc main_arg4)

/-- Column `k` of part `n` of the branch in the projection, and the branch's three parts. -/
def ccol (n : Fin 3) (k : Fin 512) : Fin 10256 := ⟨5648 + n.val * 512 + k.val, by omega⟩
def cc (c : Dev nD) (n : Fin 3) (b : Fin 2) (s : Fin 4096) (k : Fin 512) : EReal := pr m c (ix3 b s (ccol n k))

section reads
variable (c : Dev nD) (t : Fin cfg0.N)

theorem rd3 (u : Fin 1) (k : Fin 512) : iblk m c 3 t (ix2 u k) = gg m c (ix1 k) := by
  blk_simp [iblk]; entry_read; pointwise; blk_ext [idx t, gg]
theorem rd4 (u : Fin 1) (k : Fin 512) : iblk m c 4 t (ix2 u k) = bb m c (ix1 k) := by
  blk_simp [iblk]; entry_read; pointwise; blk_ext [idx t, bb]
theorem rd5 (n : Fin 4) (i j : Fin 128) : iblk m c 5 t (ix3 n i j) = ws m c (ix3 n i j) := by
  blk_simp [iblk]; entry_read; pointwise; blk_ext [idx t, ws]
theorem rd6 (i : Fin 128) (x : Fin 512) : iblk m c 6 t (ix2 i x) = bs m c (ix2 (grp x) i) := by
  blk_simp [iblk]; entry_read; pointwise; blk_ext [idx t, bs, grp]

/-- The projection's third part, where the kernel's column order puts it. -/
theorem part2_at (b : Fin 2) (s : Fin 4096) (x : Fin 10368) (k : Fin 4608) (hx : x.val = 5632 + k.val) :
    V m c main_v5 (ix3 b s x) = V m c main_v3 (ix3 b s k) := by
  unfold V hostOps0
  simp only [StableHlo.after_cons, StableHlo.after_nil]
  after_results_simp
  refine (Cols.cols2_at _ _ _ _ _ _ b s x k hx).trans ?_
  refine congrFun (f := (HloOp.result _ _ (Proc.tc.devRef main_v3))) ?_ (ix3 b s k)
  after_results_simp

theorem part_at (b : Fin 2) (s : Fin 4096) (x : Fin 10368) (n : Fin 3) (k : Fin 512) (hx : x.val = 5632 + n.val * 512 + k.val) :
    V m c main_v5 (ix3 b s x) = cc m c n b s k := by
  rw [part2_at m c b s x ⟨n.val * 512 + k.val, by omega⟩ (by show x.val = 5632 + (n.val * 512 + k.val); omega)]
  entry_read
  pointwise
  blk_ext [pr, cc, ccol]

theorem rd0 (u : Fin 1) (y : Fin 512) (k : Fin 512) : X0_0 m c t (ix3 u y k) = cc m c 0 (bat t) (pos t y) k := by
  have h : (cfg0.win 0).moved (cfg0.grid.coords t) (ix3 u y k) = true :=
    ((cfg0.win 0).moved_iff _ _).mpr fun a => by rw [xsize0_0]; exact (ix3 u y k a).isLt
  unfold X0_0
  refine (dif_pos h).trans (Eq.trans ?_ (part_at m c (bat t) (pos t y) ⟨5632 + k.val, by omega⟩ 0 k (by simp)))
  unfold iblk
  rw [View.read_apply, cast_eq]
  refine congrArg (V m c main_v5) ?_
  blk_ext [idx t, bat, pos]
theorem rd1 (u : Fin 1) (y : Fin 512) (k : Fin 512) : X0_1 m c t (ix3 u y k) = cc m c 1 (bat t) (pos t y) k := by
  have h : (cfg0.win 1).moved (cfg0.grid.coords t) (ix3 u y k) = true :=
    ((cfg0.win 1).moved_iff _ _).mpr fun a => by rw [xsize0_1]; exact (ix3 u y k a).isLt
  unfold X0_1
  refine (dif_pos h).trans (Eq.trans ?_ (part_at m c (bat t) (pos t y) ⟨6144 + k.val, by omega⟩ 1 k (by simp)))
  unfold iblk
  rw [View.read_apply, cast_eq]
  refine congrArg (V m c main_v5) ?_
  blk_ext [idx t, bat, pos]
theorem rd2 (u : Fin 1) (y : Fin 512) (k : Fin 512) : X0_2 m c t (ix3 u y k) = cc m c 2 (bat t) (pos t y) k := by
  have h : (cfg0.win 2).moved (cfg0.grid.coords t) (ix3 u y k) = true :=
    ((cfg0.win 2).moved_iff _ _).mpr fun a => by rw [xsize0_2]; exact (ix3 u y k a).isLt
  unfold X0_2
  refine (dif_pos h).trans (Eq.trans ?_ (part_at m c (bat t) (pos t y) ⟨6656 + k.val, by omega⟩ 2 k (by simp)))
  unfold iblk
  rw [View.read_apply, cast_eq]
  refine congrArg (V m c main_v5) ?_
  blk_ext [idx t, bat, pos]
end reads

/-- The gate's output at position `s` of batch `b`. -/
def yC (c : Dev nD) (b : Fin 2) (s : Fin 4096) (k : Fin 512) : EReal :=
  gelu (cc m c 0 b s k)
    * mix (fun j => cc m c 1 b ⟨s.val / 128 * 128 + j.val, by omega⟩) (fun k => gg m c (ix1 k)) (fun k => bb m c (ix1 k)) (fun n i j => ws m c (ix3 n i j)) (fun n i => bs m c (ix2 n i))
        ⟨s.val % 128, by omega⟩ k
    * (cc m c 2 b s k * Ideal.logistic (cc m c 2 b s k))

/-- The normalised gated half of a point's block. -/
abbrev blkV (c : Dev nD) (t : Fin cfg0.N) : S512x512.Idx → EReal := bV (k0_pay3 (X0_1 m c t)) (k0_pay5 (iblk m c 3 t)) (k0_pay6 (iblk m c 4 t))

theorem pt_at (c : Dev nD) (t : Fin cfg0.N) (u : Fin 1) (a k : Fin 512) :
    k0_pay1 (F := Ideal) (k0_pay2 (X0_0 m c t)) (k0_pay4 (X0_2 m c t)) (k0_pay7 (iblk m c 6 t)) (k0_pay11 (iblk m c 5 t)) (blkV m c t)
      (k0_pay18 (k0_pay7 (iblk m c 6 t)) (k0_pay13 (k0_pay3 (X0_1 m c t)) (k0_pay5 (iblk m c 3 t)) (k0_pay6 (iblk m c 4 t)) (k0_pay8 (iblk m c 5 t)) hlf)
        (k0_pay14 (k0_pay3 (X0_1 m c t)) (k0_pay5 (iblk m c 3 t)) (k0_pay6 (iblk m c 4 t)) (k0_pay9 (iblk m c 5 t)) hlf)
        (k0_pay15 (k0_pay3 (X0_1 m c t)) (k0_pay5 (iblk m c 3 t)) (k0_pay6 (iblk m c 4 t)) (k0_pay10 (iblk m c 5 t)) hlf)
        (k0_pay16 (k0_pay11 (iblk m c 5 t))) (k0_pay17 (k0_pay3 (X0_1 m c t)) (k0_pay5 (iblk m c 3 t)) (k0_pay6 (iblk m c 4 t)) hlf) (constant S128x128 FTy.f32 0#32))
      (k0_pay19 (k0_pay7 (iblk m c 6 t)) (k0_pay8 (iblk m c 5 t)) (k0_pay9 (iblk m c 5 t)) (k0_pay10 (iblk m c 5 t)) (k0_pay11 (iblk m c 5 t)) (blkV m c t))
      (k0_pay20 (k0_pay7 (iblk m c 6 t)) (k0_pay8 (iblk m c 5 t)) (k0_pay9 (iblk m c 5 t)) (k0_pay10 (iblk m c 5 t)) (k0_pay11 (iblk m c 5 t)) (blkV m c t))
      (k0_pay21 (k0_pay8 (iblk m c 5 t)) (blkV m c t)) (k0_pay22 (k0_pay9 (iblk m c 5 t)) (blkV m c t)) (k0_pay23 (k0_pay10 (iblk m c 5 t))) (k0_pay24 (blkV m c t)) (ix3 u a k)
      = yC m c (bat t) (pos t a) k := by
  refine (out_at (iblk m c 5 t) (k0_pay2 (X0_0 m c t)) (k0_pay4 (X0_2 m c t)) (blkV m c t) (k0_pay7 (iblk m c 6 t))
    a k (fun i x => r0_at _ _ _ _ _ i x) (fun i x => r1_at _ _ _ i x) (fun i x => r2_at _ _ _ i x) u).trans ?_
  have hw : wit a = ⟨(pos t a).val % 128, by omega⟩ := Fin.ext (by simp only [wit, pos]; omega)
  have hp : ∀ j : Fin 128, pos t (blk (grp a) j) = ⟨(pos t a).val / 128 * 128 + j.val, by have := (pos t a).isLt; omega⟩ :=
    fun j => Fin.ext (by simp only [blk, grp, pos]; omega)
  unfold yC mixN mix trl vS tri blkV
  simp only [v_at, cst2, cst3, cst4, cst5, cst6, cst7, rd0, rd1, rd2, rd3, rd4, rd5, rd6, hp]
  rw [hw]

theorem final7 (c : Dev nD) : (dats m 0 c).arrAt 7 (cfgs 0).N = fun j : S2x4096x512.Idx => yC m c (j 0) (j 1) (j 2) := by
  refine (dats m 0 c).arrAt_eq_of_covers 7 _ (by decide +kernel) fun t _ y => ?_
  have e0 : (((View.whole main_v11).slice (win0_7.rect t)).emb y) 0 = bat t := by
    refine Fin.ext ?_; blk_simp [idx t, bat]
  have e1 : (((View.whole main_v11).slice (win0_7.rect t)).emb y) 1 = pos t (y 1) := by
    refine Fin.ext ?_; blk_simp [idx t, pos]
  have e2 : (((View.whole main_v11).slice (win0_7.rect t)).emb y) 2 = y 2 := by
    refine Fin.ext ?_; blk_simp [idx t]
  blk_simp
  simp only [e0, e1, e2]
  rw [after0_7]; unfold outsAt0 out0_A_7; frame_out
  exact (congrArg _ (ix3_eta y).symm).trans (pt_at m c t (y 0) (y 1) (y 2))

end Cert.GmlpFwdIdeal.Value

end
-- ==== Proof.GmlpFwdClaim.lean ====
/- The spatial gate's forward claim: the kernel's output is the reference's, entry by entry. -/
module

public import proofs.«01_k».proof.Proof.Gen.GmlpFwdRefIdeal.Run
public import proofs.«01_k».proof.Proof.GmlpFwdValue
public import proofs.«01_k».proof.Proof.GmlpRead
public import proofs.«01_k».proof.Proof.GatesReal
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.GmlpFwdRefIdeal.Read
open Cert.GmlpFwdRefIdeal Cert.GmlpFwdRefIdeal.Gen Cert.Gates
open Cert.GmlpBwdIdeal.Value (at128 sq sw)

/-- Arrays of the branch's shape. -/
abbrev Arr := FVec Ideal S2x4096x512 .f32
/-- An array of one number. -/
abbrev all (w : BitVec 32) : Arr := broadcastInDim S2x4096x512 ![] bcast_S_S2x4096x512 (constant S_ .f32 w)
abbrev one (w : BitVec 32) : FVec Ideal S2x4096x1 .f32 := broadcastInDim S2x4096x1 ![] bcast_S_S2x4096x1 (constant S_ .f32 w)

/-- GELU, the mean over the last axis, and the layer normalisation, as the reference writes them. -/
abbrev gl (X : Arr) : Arr :=
  mulf X (mulf (all 0x3F000000#32) (addf (all 0x3F800000#32) (Host.tanh (mulf (all 0x3F4C422A#32) (addf X (Host.divf (mulf (all 0x472EAB00#32) (mulf (mulf X X) X)) (all 0x49742400#32)))))))
abbrev mn (E : Arr) : FVec Ideal S2x4096x1 .f32 :=
  Host.divf (broadcastInDim S2x4096x1 ![0, 1] bcast_S2x4096_S2x4096x1_0_1 (Host.reduceAdd E (constant S_ .f32 0x00000000#32) reducesTo_S2x4096x512_S2x4096_d2 h_S_)) (one 0x44000000#32)
abbrev wide (r : FVec Ideal S2x4096x1 .f32) : Arr := broadcastInDim S2x4096x512 ![0, 1, 2] bcast_S2x4096x1_S2x4096x512_0_1_2 r
abbrev cn (E : Arr) : Arr := subf E (wide (mn E))
abbrev ln (E : Arr) : Arr := mulf (cn E) (wide (Host.rsqrt (addf (mn (mulf (cn E) (cn E))) (one 0x358637BD#32))))
abbrev vec (G : FVec Ideal S512 .f32) : Arr := broadcastInDim S2x4096x512 ![0, 1, 2] bcast_S1x1x512_S2x4096x512_0_1_2 (broadcastInDim S1x1x512 ![2] bcast_S512_S1x1x512_2 G)
/-- The lower triangle of the weights, and the bias at every chunk. -/
abbrev low (W : FVec Ideal S4x128x128 .f32) : FVec Ideal S4x128x128 .f32 :=
  select (broadcastInDim S4x128x128 ![1, 2] bcast_S128x128_S4x128x128_1_2 (cmpi .sge (addi (iotaInDim S128x128 32 0) (broadcastInDim S128x128 ![] bcast_S_S128x128 (constantI S_ 32 0#32))) (iotaInDim S128x128 32 1)))
    W (broadcastInDim S4x128x128 ![] bcast_S_S4x128x128 (constant S_ .f32 0x00000000#32))
abbrev bias (B : FVec Ideal S4x128 .f32) : FVec Ideal S2x32x128x4x128 .f32 :=
  broadcastInDim S2x32x128x4x128 ![0, 1, 2, 3, 4] bcast_S1x1x128x4x128_S2x32x128x4x128_0_1_2_3_4 (broadcastInDim S1x1x128x4x128 ![2, 3, 4] bcast_S128x4x128_S1x1x128x4x128_2_3_4
    (broadcastInDim S128x4x128 ![0, 1, 2] bcast_S128x4x1_S128x4x128_0_1_2 (broadcastInDim S128x4x1 ![0, 1] bcast_S128x4_S128x4x1_0_1 (transpose S128x4 [1, 0] B transposes_S4x128_S128x4_1_0))))
/-- The mixed rows. -/
abbrev mxd (N : Arr) (W : FVec Ideal S4x128x128 .f32) (B : FVec Ideal S2x32x128x4x128 .f32) : Arr :=
  shapeCast _ (addf (transpose S2x32x128x4x128 [1, 2, 4, 0, 3] (Host.dotGeneral dot_S2x32x128x4x128_S4x128x128_S4x2x32x128x128_2_2_014_1_3_0 none (shapeCast _ N shapeCasts_S2x4096x512_S2x32x128x4x128) W)
    transposes_S4x2x32x128x128_S2x32x128x4x128_1_2_4_0_3) B) shapeCasts_S2x32x128x4x128_S2x4096x512
abbrev slu (Z : Arr) : Arr := mulf Z (Host.divf (all 0x3F800000#32) (addf (all 0x3F800000#32) (Host.exp (Host.negf Z))))

theorem th_quot (x : EReal) : Ideal.tanh (kk * (x + Ideal.div (nA * (x * x * x)) nM)) = th x := by
  unfold th
  rw [nA_eq, nM_eq, Ideal.div_coe (by norm_num : (1000000 : ℝ) ≠ 0)]
  have e : ((44715 : ℝ) : EReal) * (x * x * x) * ((1 / 1000000 : ℝ) : EReal) = c1 * x * x * x := by
    have h : c1 = ((44715 : ℝ) : EReal) * ((1 / 1000000 : ℝ) : EReal) := by
      unfold c1; rw [← EReal.coe_mul]; norm_num
    rw [h, mul_assoc, mul_comm (x * x * x), ← mul_assoc, ← mul_assoc, ← mul_assoc]
  rw [e]

section entries
variable (X Y Z : Arr) (G : FVec Ideal S512 .f32) (W : FVec Ideal S4x128x128 .f32) (B : FVec Ideal S4x128 .f32) (b : Fin 2) (s : Fin 4096) (k : Fin 512)

theorem gl_at : gl X (ix3 b s k) = gelu (X (ix3 b s k)) := by
  have h := th_quot (X (ix3 b s k))
  unfold gl; pointwise
  refine (congrArg (fun q => X (ix3 b s k) * (half * (1 + q))) h).trans ?_
  unfold gelu
  rw [← mul_assoc, mul_comm _ half]
theorem mn_at (u : Fin 1) : mn X (ix3 b s u) = mean (fun k => X (ix3 b s k)) := by
  unfold mn; pointwise; rfl
theorem cn_at : cn X (ix3 b s k) = ctr (fun k => X (ix3 b s k)) k := by
  unfold cn; pointwise; rfl
theorem ln_at : ln X (ix3 b s k) = nrm (fun k => X (ix3 b s k)) k := by
  unfold ln; pointwise; rfl
theorem vec_at : vec G (ix3 b s k) = G (ix1 k) := by
  unfold vec; pointwise
theorem low_at (g : Fin 4) (i j : Fin 128) : low W (ix3 g i j) = trl (fun g i j => W (ix3 g i j)) g i j := by
  unfold low; pointwise; unfold trl
  have h : IntOp.cmpi .sge (IntOp.addi (BitVec.ofNat 32 i.val) 0#32) (BitVec.ofNat 32 j.val) = if j.val ≤ i.val then 1#1 else 0#1 := by
    revert i j; decide +kernel
  rw [h]
  split_ifs <;> rfl
theorem bias_at (n : Fin 32) (i : Fin 128) (g : Fin 4) (x : Fin 128) : bias B (ix5 b n i g x) = B (ix2 g i) := by
  unfold bias; pointwise
theorem mxd_at (D : FVec Ideal S2x32x128x4x128 .f32) :
    mxd X W D (ix3 b s k) = ∑ j, X (ix3 b (at128 (sq s) j) k) * W (ix3 (grp k) (sw s) j) + D (ix5 b (sq s) (sw s) (grp k) (wit k)) := by
  refine (GmlpBwdRefIdeal.Read.merge_at _ b s k _).trans (congrArg (· + D (ix5 b (sq s) (sw s) (grp k) (wit k))) ?_)
  refine (GmlpBwdRefIdeal.Read.out_at _ b (sq s) (sw s) (grp k) (wit k)).trans ((GmlpBwdRefIdeal.Read.fwd_at _ W b (sq s) (sw s) (grp k) (wit k)).trans ?_)
  refine Finset.sum_congr rfl fun j _ => congrArg (· * W (ix3 (grp k) (sw s) j)) ((GmlpBwdRefIdeal.Read.split_at X b (sq s) j (grp k) (wit k) _).trans ?_)
  rw [blk_grp]
theorem slu_at : slu Z (ix3 b s k) = Z (ix3 b s k) * Ideal.logistic (Z (ix3 b s k)) := by
  unfold slu; pointwise; rfl
theorem top_at (h : FTy.bits .bf16 < FTy.bits .f32) : truncf .bf16 (mulf (mulf X Y) Z) h (ix3 b s k) = X (ix3 b s k) * Y (ix3 b s k) * Z (ix3 b s k) := by
  pointwise
end entries
end Cert.GmlpFwdRefIdeal.Read

namespace Cert.GmlpFwdIdeal.Value
open Cert.GmlpFwdIdeal Cert.GmlpFwdIdeal.Gen Cert.Gates Cert.GmlpFwdRefIdeal.Read
open Cert.GmlpBwdIdeal.Value (at128 sq sw)

theorem at_eq (s : Fin 4096) (j : Fin 128) : at128 (sq s) j = ⟨s.val / 128 * 128 + j.val, by omega⟩ :=
  Fin.ext (by simp only [at128, GmlpBwdIdeal.Value.sq]; omega)

/-- The branch's parts, cut from the projection. -/
theorem cut_at (c : Dev nD) (m : (ℓ : Loc nD τ sig) → Buf (Elt Ideal) ℓ) (n : Fin 3) (o : Fin 3 → ℕ) (h : S2x4096x10256.Slices o S2x4096x512) (ho : o = ![0, 0, 5648 + n.val * 512])
    (b : Fin 2) (s : Fin 4096) (k : Fin 512) : extractStridedSlice S2x4096x512 o (pr m c) h (ix3 b s k) = cc m c n b s k := by
  subst ho; pointwise; unfold cc; blk_ext [ccol]

/-- The reference runs, leaves its arguments as they were, and has no counter. -/
theorem refFrame : Cert.quiescent_GmlpFwdRefIdeal := fun m ρ _ =>
  (θ_run _ _ _).mono (fun r h => ⟨fun c => (h c).2, sem_eq_zero_of_no_sems (by decide) r.2⟩) (Cert.GmlpFwdRefIdeal.Value.run m ρ)

/-- The reference's output at one entry. -/
theorem ref_at (m : (ℓ : Loc nD τ sig) → Buf (Elt Ideal) ℓ) (c : Dev nD) (U X Z : Arr) (hU : ∀ b s k, U (ix3 b s k) = cc m c 0 b s k) (hX : ∀ b s k, X (ix3 b s k) = cc m c 1 b s k)
    (hZ : ∀ b s k, Z (ix3 b s k) = cc m c 2 b s k) (h : FTy.bits .bf16 < FTy.bits .f32) (b : Fin 2) (s : Fin 4096) (k : Fin 512) :
    truncf .bf16 (mulf (mulf (gl U) (mxd (addf (mulf (ln (gl X)) (vec (gg m c))) (vec (bb m c))) (low (ws m c)) (bias (bs m c)))) (slu Z)) h (ix3 b s k) = yC m c b s k := by
  refine (top_at _ _ _ b s k h).trans ?_
  rw [gl_at, slu_at, mxd_at, bias_at, hU, hZ]
  unfold yC mix
  refine congrArg (fun q => gelu (cc m c 0 b s k) * q * (cc m c 2 b s k * Ideal.logistic (cc m c 2 b s k))) (congrArg (· + bs m c (ix2 (grp k) (sw s))) ?_)
  refine Finset.sum_congr rfl fun j _ => ?_
  rw [low_at, mul_comm, at_eq]
  refine congrArg (trl (fun g i j => ws m c (ix3 g i j)) (grp k) (sw s) j * ·) ?_
  refine (congrArg₂ (· + ·) (congrArg₂ (· * ·) (ln_at (gl X) b _ k) (vec_at (gg m c) b _ k)) (vec_at (bb m c) b _ k)).trans ?_
  simp only [gl_at, hX]
  rfl

set_option maxHeartbeats 1600000 in
theorem gmlpFwd : Cert.algebraic_GmlpFwdIdeal_GmlpFwdRefIdeal := by
  pair_intro
  · exact run_blocks m g
  · refine θ_run_mono (GmlpFwdRefIdeal.Value.run m' g') fun r h c => ⟨((h c).1).trans ?_, (h c).2⟩
    have ha := hagree c
    clear h r
    rw [final7]
    funext j
    rw [show j = ix3 (j 0) (j 1) (j 2) from (ix3_eta j).symm]
    unfold GmlpFwdRefIdeal.Value.res_main_v71
    rw [ha.1, ha.2.1, ha.2.2.1, ha.2.2.2.1, ha.2.2.2.2]
    exact ref_at m c _ _ _ (cut_at c m 0 _ _ rfl) (cut_at c m 1 _ _ rfl) (cut_at c m 2 _ _ rfl) _ (j 0) (j 1) (j 2)

end Cert.GmlpFwdIdeal.Value

end
-- ==== Proof.ConvFwdClaim.lean ====
/- The causal convolution's forward claim: both of the kernel's outputs are the reference's, entry by entry. -/
module

public import proofs.«01_k».proof.Proof.Gen.ConvFwdRefIdeal.Run
public import proofs.«01_k».proof.Proof.ConvFwdValue
public import proofs.«01_k».proof.Proof.GmlpFwdClaim
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.ConvFwdRefIdeal.Read
open Cert.ConvFwdRefIdeal Cert.ConvFwdRefIdeal.Gen Cert.Gates
open Cert.GmlpFwdRefIdeal.Read (Arr all ln ln_at vec vec_at slu slu_at)

/-- The padded rows moved by `n` positions, and the taps of position `n` over the whole array. -/
abbrev Pad := FVec Ideal S2x4126x512 .f32
abbrev moved (X : Pad) (n : ℕ) (h : S2x4126x512.Slices ![0, n, 0] S2x4096x512) : Arr := extractStridedSlice S2x4096x512 ![0, n, 0] X h
abbrev spread (W : FVec Ideal S31x512 .f32) (n : ℕ) (h : S31x512.Slices ![n, 0] S1x512) : Arr :=
  broadcastInDim S2x4096x512 ![0, 1, 2] bcast_S1x1x512_S2x4096x512_0_1_2 (broadcastInDim S1x1x512 ![2] bcast_S512_S1x1x512_2
    (shapeCast _ (extractStridedSlice S1x512 ![n, 0] W h) shapeCasts_S1x512_S512))

section entries
variable (X : Pad) (P Q : Arr) (W : FVec Ideal S31x512 .f32) (b : Fin 2) (s : Fin 4096) (k : Fin 512)

/-- Tap `n` of position `s`. -/
def tapR (n : ℕ) : EReal := if h : n < 31 then X (ix3 b ⟨s.val + n, by omega⟩ k) * W (ix2 ⟨n, h⟩ k) else 0

theorem prod_at (n : ℕ) (hn : n < 31) (h : S2x4126x512.Slices ![0, n, 0] S2x4096x512) (h' : S31x512.Slices ![n, 0] S1x512) :
    mulf (moved X n h) (spread W n h') (ix3 b s k) = tapR X W b s k n := by
  unfold tapR
  rw [dif_pos hn]
  pointwise
  refine congrArg₂ (· * ·) (congrArg X ?_) (congrArg W ?_)
  · blk_ext
  · blk_ext
theorem add_at {x y : EReal} {i : S2x4096x512.Idx} (hp : P i = x) (hq : Q i = y) : addf P Q i = x + y := congrArg₂ (· + ·) hp hq
theorem zero_at : all 0x00000000#32 (ix3 b s k) = 0 := by
  unfold all; pointwise

/-- The gate before the convolution, after thirty rows of zeros. -/
theorem padded_at (A C : Arr) (r : Fin 4126) :
    pad S2x4126x512 ![0, 30, 0] ![0, 0, 0] ![0, 0, 0] (mulf A (Host.divf (all 0x3F800000#32) (addf (all 0x3F800000#32) (Host.exp (Host.negf C))))) (sitofp .f32 (constantI S_ 32 0#32))
      pads_S2x4096x512_S2x4126x512_000_3000_000 h_S_ (ix3 b r k)
      = if h : 30 ≤ r.val then A (ix3 b ⟨r.val - 30, by omega⟩ k) * Ideal.logistic (C (ix3 b ⟨r.val - 30, by omega⟩ k)) else 0 := by
  have e : (FloatOps.sitofp .f32 0#32 : Ideal .f32) = (0 : EReal) := by
    show ((((0#32 : BitVec 32).toInt : ℤ) : ℝ) : EReal) = 0
    simp
  pointwise
  rw [e]
  by_cases h : 30 ≤ r.val
  · rw [dif_pos h, dif_pos ⟨h, by omega⟩]; rfl
  · rw [dif_neg h, dif_neg fun q => h q.1]
end entries
end Cert.ConvFwdRefIdeal.Read

namespace Cert.ConvFwdIdeal.Value
open Cert.ConvFwdIdeal Cert.ConvFwdIdeal.Gen Cert.Gates Cert.ConvFwdRefIdeal.Read
open Cert.GmlpFwdRefIdeal.Read (Arr all ln ln_at vec vec_at slu slu_at)
open Cert.ConvFwdRefIdeal.Value (res_main_v2 res_main_v10 res_main_v88 res_main_v165 res_main_v231 res_main_v235 res_main_v237 res_main_v255)

variable (m : (ℓ : Loc nD τ sig) → Buf (Elt Ideal) ℓ)

/-- The branch's parts, cut from the projection. -/
theorem cut_at (c : Dev nD) (n : Fin 3) (o : Fin 3 → ℕ) (h : S2x4096x10256.Slices o S2x4096x512) (ho : o = ![0, 0, n.val * 512])
    (b : Fin 2) (s : Fin 4096) (k : Fin 512) : extractStridedSlice S2x4096x512 o (pr m c) h (ix3 b s k) = aa m c n b s k := by
  subst ho; pointwise; unfold aa; blk_ext [acol]

/-- The reference runs, leaves its arguments as they were, and has no counter. -/
theorem refFrame : Cert.quiescent_ConvFwdRefIdeal := fun m ρ _ =>
  (θ_run _ _ _).mono (fun r h => ⟨fun c => (h c).2.2, sem_eq_zero_of_no_sems (by decide) r.2⟩) (Cert.ConvFwdRefIdeal.Value.run m ρ)

section reference
variable (m' : (ℓ : Loc Cert.ConvFwdRefIdeal.nD Cert.ConvFwdRefIdeal.τ Cert.ConvFwdRefIdeal.sig) → Buf (Elt Ideal) ℓ) (c : Dev nD)
  (h0 : m' ((c : Thread nD τ).loc Cert.ConvFwdRefIdeal.main_arg0) = pr m c) (h1 : m' ((c : Thread nD τ).loc Cert.ConvFwdRefIdeal.main_arg1) = dw m c)
  (h2 : m' ((c : Thread nD τ).loc Cert.ConvFwdRefIdeal.main_arg2) = db m c) (h3 : m' ((c : Thread nD τ).loc Cert.ConvFwdRefIdeal.main_arg3) = gg m c)
  (h4 : m' ((c : Thread nD τ).loc Cert.ConvFwdRefIdeal.main_arg4) = bb m c)
include h0 h1 h2 h3 h4

abbrev V0 := StableHlo.launchContents m' c

omit h1 h2 h3 h4 in
theorem padR (b : Fin 2) (r : Fin 4126) (k : Fin 512) : res_main_v10 (V0 m' c) (ix3 b r k) = gx m c b r.val k := by
  refine (padded_at b k (extractStridedSlice S2x4096x512 ![0, 0, 0] (m' ((c : Thread nD τ).loc Cert.ConvFwdRefIdeal.main_arg0)) _) (extractStridedSlice S2x4096x512 ![0, 0, 512] (m' ((c : Thread nD τ).loc Cert.ConvFwdRefIdeal.main_arg0)) _) r).trans ?_
  rw [h0]
  unfold gx
  by_cases h : 30 ≤ r.val
  · rw [dif_pos h, dif_pos ⟨h, r.isLt⟩]
    exact congrArg₂ (fun x y => x * Ideal.logistic y) (cut_at m c 0 _ _ rfl b _ k) (cut_at m c 1 _ _ rfl b _ k)
  · rw [dif_neg h, dif_neg (by omega)]

omit h2 h3 h4 in
theorem tapR_eq (b : Fin 2) (s : Fin 4096) (k : Fin 512) (n : ℕ) :
    tapR (res_main_v10 (V0 m' c)) (m' ((c : Thread nD τ).loc Cert.ConvFwdRefIdeal.main_arg1)) b s k n = if n < 31 then gx m c b (s.val + n) k * tp m c n k else 0 := by
  unfold tapR tp
  by_cases h : n < 31
  · rw [dif_pos h, if_pos h, dif_pos h, padR m m' c h0, h1]
  · rw [dif_neg h, if_neg h]

omit h3 h4 in
theorem convR (b : Fin 2) (s : Fin 4096) (k : Fin 512) : res_main_v231 (V0 m' c) (ix3 b s k) = cv m c b s k := by
  have e : res_main_v231 (V0 m' c) (ix3 b s k)
      = 0 + sum31 (tapR (res_main_v10 (V0 m' c)) (m' ((c : Thread nD τ).loc Cert.ConvFwdRefIdeal.main_arg1)) b s k) + m' ((c : Thread nD τ).loc Cert.ConvFwdRefIdeal.main_arg2) (ix1 k) := by
    unfold sum31
    rw [zero_add, ← zero_add (tapR _ _ _ _ _ 0)]
    unfold res_main_v231 res_main_v165 res_main_v88
    refine add_at _ _ ?_ (vec_at _ b s k)
    repeat' refine add_at _ _ ?_ (prod_at _ _ b s k _ (by omega) _ _)
    exact zero_at b s k
  rw [e, zero_add, h2]
  unfold cv sum31
  simp only [tapR_eq m m' c h0 h1, Nat.reduceLT, if_true]

theorem outR (h : FTy.bits .bf16 < FTy.bits .f32) (b : Fin 2) (s : Fin 4096) (k : Fin 512) :
    truncf .bf16 (mulf (slu (res_main_v255 (V0 m' c))) (slu (res_main_v2 (V0 m' c)))) h (ix3 b s k) = yA m c b s k := by
  have en : res_main_v255 (V0 m' c) (ix3 b s k) = nrm (cv m c b s) k * gg m c (ix1 k) + bb m c (ix1 k) := by
    unfold res_main_v255 res_main_v237 res_main_v235
    refine (congrArg₂ (· + ·) (congrArg₂ (· * ·) (ln_at (res_main_v231 (V0 m' c)) b s k) (vec_at (m' ((c : Thread nD τ).loc Cert.ConvFwdRefIdeal.main_arg3)) b s k))
      (vec_at (m' ((c : Thread nD τ).loc Cert.ConvFwdRefIdeal.main_arg4)) b s k)).trans ?_
    rw [h3, h4, funext fun l => convR m m' c h0 h1 h2 b s l]
  have ez : res_main_v2 (V0 m' c) (ix3 b s k) = aa m c 2 b s k := by
    unfold res_main_v2
    refine Eq.trans (congrFun (congrArg (fun A => extractStridedSlice S2x4096x512 ![0, 0, 1024] A _) h0) _) (cut_at m c 2 _ _ rfl b s k)
  refine (congrArg₂ (· * ·) (slu_at (res_main_v255 (V0 m' c)) b s k) (slu_at (res_main_v2 (V0 m' c)) b s k)).trans ?_
  rw [en, ez]
  rfl
end reference

set_option maxHeartbeats 1600000 in
theorem convFwd : Cert.algebraic_ConvFwdIdeal_ConvFwdRefIdeal := by
  pair_intro
  · exact run_blocks m g
  · refine θ_run_mono (ConvFwdRefIdeal.Value.run m' g') fun r h c => ⟨((h c).1).trans ?_, ((h c).2.1).trans ?_, (h c).2.2⟩
    · have ha := hagree c
      clear h r
      rw [final9]
      funext j
      rw [show j = ix3 (j 0) (j 1) (j 2) from (ix3_eta j).symm]
      exact outR m m' c ha.1 ha.2.1 ha.2.2.1 ha.2.2.2.1 ha.2.2.2.2 _ (j 0) (j 1) (j 2)
    · have ha := hagree c
      clear h r
      rw [final10]
      funext j
      rw [show j = ix3 (j 0) (j 1) (j 2) from (ix3_eta j).symm]
      exact convR m m' c ha.1 ha.2.1 ha.2.2.1 (j 0) (j 1) (j 2)

end Cert.ConvFwdIdeal.Value

end
-- ==== Proof.ConvBwdPoint.lean ====
/- What the causal convolution's backward call computes from one block's values: the gradient at the convolved row, and, with the rows that follow
the block in the sequence, the shifted products both gradients of the convolution are made of. -/
module

public import proofs.«01_k».proof.Proof.Gen.ConvBwdIdeal.Value
public import proofs.«01_k».proof.Proof.Gates

@[expose] public section

set_option maxRecDepth 16384

noncomputable section

open Idealize.ShloMosaic Idealize.ShloMosaic.TcCoe Idealize.SL.Sem

namespace Cert.ConvBwdIdeal.Value
open Cert.ConvBwdIdeal Cert.ConvBwdIdeal.Gen Cert.Gates

section rows
variable (dy cx va gl az : S1x256x512.Idx → EReal) (w K : S32x512.Idx → EReal) (g b : S1x512.Idx → EReal) (p : Fin 256) (k : Fin 512)

/-- The block's inverse deviation, normalised rows, gradients at the normalisation's output and at the gate, and the two parts of the gradient at the
normalisation's input. -/
abbrev pR : S256x1.Idx → EReal := k0_pay15 (F := Ideal) (k0_pay9 cx) (k0_pay13 cx)
abbrev pN : S256x512.Idx → EReal := k0_pay16 (F := Ideal) (k0_pay9 cx) (k0_pay13 cx)
abbrev pD : S256x512.Idx → EReal := k0_pay20 (F := Ideal) (k0_pay5 dy) (k0_pay8 az) (k0_pay9 cx) (k0_pay11 g) (k0_pay12 b) (k0_pay13 cx)
abbrev pZ : S256x512.Idx → EReal := k0_pay21 (F := Ideal) (k0_pay5 dy) (k0_pay8 az) (k0_pay9 cx) (k0_pay11 g) (k0_pay12 b) (k0_pay13 cx)
abbrev pM : S256x512.Idx → EReal := k0_pay23 (F := Ideal) (k0_pay5 dy) (k0_pay8 az) (k0_pay9 cx) (k0_pay11 g) (k0_pay12 b) (k0_pay13 cx)
abbrev pS : S256x1.Idx → EReal := k0_pay24 (F := Ideal) (k0_pay5 dy) (k0_pay8 az) (k0_pay9 cx) (k0_pay11 g) (k0_pay12 b) (k0_pay13 cx)
abbrev pC : S256x512.Idx → EReal := k0_pay25 (F := Ideal) (pR cx) (pN cx) (pM dy cx az g b) (pS dy cx az g b)

theorem R_at (u : Fin 1) : pR cx (ix2 p u) = rs (fun l => cx (ix3 0 p l)) := by
  unfold pR; pointwise [k0_pay15, k0_pay14, k0_pay13, k0_pay9]; rfl
theorem N_at : pN cx (ix2 p k) = nrm (fun l => cx (ix3 0 p l)) k := by
  unfold pN; pointwise [k0_pay16, k0_pay15, k0_pay14, k0_pay13, k0_pay9]; rfl
theorem L_at : k0_pay17 (F := Ideal) (k0_pay9 cx) (k0_pay11 g) (k0_pay12 b) (k0_pay13 cx) (ix2 p k)
    = nrm (fun l => cx (ix3 0 p l)) k * g (ix2 0 k) + b (ix2 0 k) := by
  pointwise [k0_pay17, k0_pay11, k0_pay12]
  exact congrArg (fun x => x * g (ix2 0 k) + b (ix2 0 k)) (N_at cx p k)
theorem g_at (u : Fin 1) : k0_pay11 (F := Ideal) g (ix2 u k) = g (ix2 u k) := by pointwise [k0_pay11]
/-- The gradient at the normalisation's output, and that at the gate. -/
def dL (d v z : EReal) : EReal := d * (z * Ideal.logistic z) * dsilu v
theorem D_at : pD dy cx az g b (ix2 p k) = dL (dy (ix3 0 p k)) (nrm (fun l => cx (ix3 0 p l)) k * g (ix2 0 k) + b (ix2 0 k)) (az (ix3 0 p k)) := by
  unfold pD; pointwise [k0_pay20, k0_pay18, k0_pay19, k0_pay5, k0_pay8]
  rw [L_at]; rfl
theorem Z_at : pZ dy cx az g b (ix2 p k) = dL (dy (ix3 0 p k)) (az (ix3 0 p k)) (nrm (fun l => cx (ix3 0 p l)) k * g (ix2 0 k) + b (ix2 0 k)) := by
  unfold pZ; pointwise [k0_pay21, k0_pay18, k0_pay19, k0_pay5, k0_pay8]
  rw [L_at]; rfl
theorem C_at : pC dy cx az g b (ix2 p k) = lnB (fun l => cx (ix3 0 p l)) (fun l => pD dy cx az g b (ix2 p l) * g (ix2 0 l)) k := by
  unfold pC pM pS; pointwise [k0_pay25, k0_pay23, k0_pay24, k0_pay22]
  simp only [R_at, N_at, g_at]; rfl
theorem A_at : k0_pay30 (F := Ideal) (k0_pay6 va) (k0_pay7 gl) (ix2 p k) = va (ix3 0 p k) * Ideal.logistic (gl (ix3 0 p k)) := by
  pointwise [k0_pay30, k0_pay29, k0_pay6, k0_pay7]
theorem G_at : k0_pay29 (F := Ideal) (k0_pay7 gl) (ix2 p k) = Ideal.logistic (gl (ix3 0 p k)) := by pointwise [k0_pay29, k0_pay7]
theorem w_at (j : Fin 32) : k0_pay10 (F := Ideal) w (ix2 j k) = w (ix2 j k) := by pointwise [k0_pay10]
theorem Va_at : k0_pay6 (F := Ideal) va (ix2 p k) = va (ix3 0 p k) := by pointwise [k0_pay6]
end rows

section taps
variable (K W : S32x512.Idx → EReal) (R S : S256x1.Idx → EReal) (N M X V G : S256x512.Idx → EReal) (p : Fin 256) (k : Fin 512)

/-- The block's gradients with the rows after it. -/
abbrev ext : S288x512.Idx → EReal := k0_pay28 (F := Ideal) K R N M S

theorem ext_at (q : Fin 288) : ext K R S N M (ix2 q k)
    = if h : q.val < 256 then k0_pay25 (F := Ideal) R N M S (ix2 ⟨q.val, h⟩ k) else K (ix2 ⟨q.val - 256, by omega⟩ k) := by
  unfold ext; pointwise [k0_pay28]

/-- Tap `n` of row `p`. -/
def tap (E : S288x512.Idx → EReal) (n : ℕ) : EReal := if h : n < 31 then E (ix2 ⟨30 - n + p.val, by omega⟩ k) * W (ix2 ⟨n, by omega⟩ k) else 0

theorem tap_eq (E : S288x512.Idx → EReal) (q : Fin 288) (j : Fin 32) (n : ℕ) (hn : n < 31) (hq : q.val = 30 - n + p.val) (hj : j.val = n) :
    E (ix2 q k) * W (ix2 j k) = tap W p k E n := by
  unfold tap
  rw [dif_pos hn]
  exact congrArg₂ (· * ·) (congrArg (fun q => E (ix2 q k)) (Fin.ext hq)) (congrArg (fun j => W (ix2 j k)) (Fin.ext hj))

/-- The cuts of the extended rows at the first seven offsets. -/
abbrev c6 : S280x512.Idx → EReal := k0_pay31 (F := Ideal) K R N M S
abbrev c5 : S280x512.Idx → EReal := k0_pay33 (F := Ideal) K R N M S
abbrev c4 : S280x512.Idx → EReal := k0_pay36 (F := Ideal) K R N M S
abbrev c3 : S280x512.Idx → EReal := k0_pay39 (F := Ideal) K R N M S
abbrev c2 : S280x512.Idx → EReal := k0_pay43 (F := Ideal) K R N M S
abbrev c1' : S280x512.Idx → EReal := k0_pay46 (F := Ideal) (ext K R S N M)
abbrev c7 : S280x512.Idx → EReal := k0_pay51 (F := Ideal) (ext K R S N M)

theorem pay41_at : k0_pay41 (F := Ideal) W K R N M S (ix2 p k)
    = tap W p k (ext K R S N M) 0 + tap W p k (ext K R S N M) 1 + tap W p k (ext K R S N M) 2 + tap W p k (ext K R S N M) 3 := by
  pointwise [k0_pay41, k0_pay31, k0_pay33, k0_pay34, k0_pay36, k0_pay37, k0_pay39, k0_pay40]
  with_reducible repeat' refine congrArg₂ (· + ·) ?_ ?_
  all_goals exact tap_eq W p k _ _ _ _ (by omega) (by simp <;> omega) rfl

theorem pay59_at : k0_pay59 (F := Ideal) W (ext K R S N M) (c6 K R S N M) (c5 K R S N M) (c4 K R S N M) X (k0_pay44 K R N M S) (ix2 p k)
    = X (ix2 p k) + tap W p k (ext K R S N M) 4 + tap W p k (ext K R S N M) 5 + tap W p k (ext K R S N M) 6 + tap W p k (ext K R S N M) 7 + tap W p k (ext K R S N M) 8
      + tap W p k (ext K R S N M) 9 + tap W p k (ext K R S N M) 10 := by
  pointwise [k0_pay59, k0_pay44, k0_pay43, k0_pay47, k0_pay46, k0_pay49, k0_pay52, k0_pay51, k0_pay54, k0_pay56, k0_pay58, k0_pay31, k0_pay33, k0_pay36]
  with_reducible repeat' refine congrArg₂ (· + ·) ?_ ?_
  all_goals first | rfl | exact tap_eq W p k _ _ _ _ (by omega) (by simp <;> omega) rfl

theorem pay72_at : k0_pay72 (F := Ideal) W (ext K R S N M) (c6 K R S N M) (c3 K R S N M) (c2 K R S N M) (c1' K R S N M) (c7 K R S N M) X (ix2 p k)
    = X (ix2 p k) + tap W p k (ext K R S N M) 11 + tap W p k (ext K R S N M) 12 + tap W p k (ext K R S N M) 13 + tap W p k (ext K R S N M) 14
      + tap W p k (ext K R S N M) 15 + tap W p k (ext K R S N M) 16 := by
  pointwise [k0_pay72, k0_pay61, k0_pay63, k0_pay65, k0_pay67, k0_pay69, k0_pay71, k0_pay39, k0_pay43, k0_pay46, k0_pay51, k0_pay31]
  with_reducible repeat' refine congrArg₂ (· + ·) ?_ ?_
  all_goals first | rfl | exact tap_eq W p k _ _ _ _ (by omega) (by simp <;> omega) rfl

theorem pay88_at : k0_pay88 (F := Ideal) W (ext K R S N M) (c4 K R S N M) (c3 K R S N M) (c2 K R S N M) (c1' K R S N M) (c7 K R S N M) X (k0_pay74 (c5 K R S N M)) (k0_pay75 W) (ix2 p k)
    = X (ix2 p k) + tap W p k (ext K R S N M) 17 + tap W p k (ext K R S N M) 18 + tap W p k (ext K R S N M) 19 + tap W p k (ext K R S N M) 20
      + tap W p k (ext K R S N M) 21 + tap W p k (ext K R S N M) 22 + tap W p k (ext K R S N M) 23 := by
  pointwise [k0_pay88, k0_pay74, k0_pay75, k0_pay77, k0_pay79, k0_pay81, k0_pay83, k0_pay85, k0_pay87, k0_pay33, k0_pay36, k0_pay39, k0_pay43, k0_pay46, k0_pay51]
  with_reducible repeat' refine congrArg₂ (· + ·) ?_ ?_
  all_goals first | rfl | exact tap_eq W p k _ _ _ _ (by omega) (by simp <;> omega) rfl

theorem pay104_at : k0_pay104 (F := Ideal) W (ext K R S N M) (c6 K R S N M) (c5 K R S N M) (c4 K R S N M) (c3 K R S N M) (c2 K R S N M) (c1' K R S N M) X (ix2 p k)
    = X (ix2 p k) + tap W p k (ext K R S N M) 24 + tap W p k (ext K R S N M) 25 + tap W p k (ext K R S N M) 26 + tap W p k (ext K R S N M) 27
      + tap W p k (ext K R S N M) 28 + tap W p k (ext K R S N M) 29 + tap W p k (ext K R S N M) 30 := by
  pointwise [k0_pay104, k0_pay91, k0_pay93, k0_pay95, k0_pay97, k0_pay99, k0_pay101, k0_pay103, k0_pay31, k0_pay33, k0_pay36, k0_pay39, k0_pay43, k0_pay46]
  with_reducible repeat' refine congrArg₂ (· + ·) ?_ ?_
  all_goals first | rfl | exact tap_eq W p k _ _ _ _ (by omega) (by simp <;> omega) rfl

/-- The first eleven taps, the first seventeen, the first twenty-four, and all of them. -/
abbrev s11 : S256x512.Idx → EReal := k0_pay59 (F := Ideal) W (ext K R S N M) (c6 K R S N M) (c5 K R S N M) (c4 K R S N M) (k0_pay41 W K R N M S) (k0_pay44 K R N M S)
abbrev s17 : S256x512.Idx → EReal := k0_pay72 (F := Ideal) W (ext K R S N M) (c6 K R S N M) (c3 K R S N M) (c2 K R S N M) (c1' K R S N M) (c7 K R S N M) (s11 K W R S N M)
abbrev s24 : S256x512.Idx → EReal := k0_pay88 (F := Ideal) W (ext K R S N M) (c4 K R S N M) (c3 K R S N M) (c2 K R S N M) (c1' K R S N M) (c7 K R S N M) (s17 K W R S N M)
  (k0_pay74 (c5 K R S N M)) (k0_pay75 W)
abbrev s31 : S256x512.Idx → EReal := k0_pay104 (F := Ideal) W (ext K R S N M) (c6 K R S N M) (c5 K R S N M) (c4 K R S N M) (c3 K R S N M) (c2 K R S N M) (c1' K R S N M)
  (s24 K W R S N M)

theorem s31_at : s31 K W R S N M (ix2 p k) = ∑ n ∈ Finset.range 31, tap W p k (ext K R S N M) n := by
  unfold s31 s24 s17 s11
  rw [pay104_at, pay88_at, pay72_at, pay59_at, pay41_at]
  simp only [Finset.sum_range_succ, Finset.sum_range_zero, zero_add]

theorem val_at (u : Fin 1) : k0_pay107 (F := Ideal) G X (ix3 u p k) = X (ix2 p k) * G (ix2 p k) := by pointwise [k0_pay107]
theorem glu_at (u : Fin 1) : k0_pay108 (F := Ideal) V G X (ix3 u p k) = X (ix2 p k) * V (ix2 p k) * G (ix2 p k) * (1 - G (ix2 p k)) := by pointwise [k0_pay108]
theorem gate_at (u : Fin 1) : k0_pay109 (F := Ideal) X (ix3 u p k) = X (ix2 p k) := by pointwise [k0_pay109]
theorem carry_at (q : Fin 32) : k0_pay106 (F := Ideal) X (ix2 q k) = X (ix2 ⟨q.val, by omega⟩ k) := by pointwise [k0_pay106]; blk_ext
theorem zero2_at (q : Fin 32) : k0_pay2 (F := Ideal) (ix2 q k) = 0 := by pointwise [k0_pay2]
theorem zero3_at (q : Fin 8) : k0_pay3 (F := Ideal) (ix2 q k) = 0 := by pointwise [k0_pay3]
theorem zero4_at (q : Fin 32) : k0_pay4 (F := Ideal) (ix2 q k) = 0 := by pointwise [k0_pay4]

theorem rows_at (P : S8x512.Idx → EReal) (r : Fin 8) : k0_pay1 (F := Ideal) (k0_pay26 N X) (k0_pay27 X) (k0_pay105 M) P (ix2 r k)
    = P (ix2 r k) + (if r.val = 0 then ∑ i : Fin 256, M (ix2 i k) else if r.val = 1 then ∑ i : Fin 256, X (ix2 i k) * N (ix2 i k) else if r.val = 2 then ∑ i : Fin 256, X (ix2 i k) else 0) := by
  match r with
  | 0 => pointwise [k0_pay1, k0_pay26, k0_pay27, k0_pay105]
  | 1 => pointwise [k0_pay1, k0_pay26, k0_pay27, k0_pay105]
  | 2 => pointwise [k0_pay1, k0_pay26, k0_pay27, k0_pay105]
  | 3 => pointwise [k0_pay1, k0_pay26, k0_pay27, k0_pay105]
  | 4 => pointwise [k0_pay1, k0_pay26, k0_pay27, k0_pay105]
  | 5 => pointwise [k0_pay1, k0_pay26, k0_pay27, k0_pay105]
  | 6 => pointwise [k0_pay1, k0_pay26, k0_pay27, k0_pay105]
  | 7 => pointwise [k0_pay1, k0_pay26, k0_pay27, k0_pay105]
end taps

end Cert.ConvBwdIdeal.Value

end
-- ==== Proof.ConvBwdTaps.lean ====
/- The rows of the gradient of the convolution's taps, as one block adds to them. -/
module

public import proofs.«01_k».proof.Proof.ConvBwdPoint

@[expose] public section

set_option maxRecDepth 16384

noncomputable section

open Idealize.ShloMosaic Idealize.ShloMosaic.TcCoe Idealize.SL.Sem

namespace Cert.ConvBwdIdeal.Value
open Cert.ConvBwdIdeal Cert.ConvBwdIdeal.Gen Cert.Gates

variable (K : S32x512.Idx → EReal) (R S : S256x1.Idx → EReal) (N M V G A : S256x512.Idx → EReal) (k : Fin 512)

/-- Row `n` of the taps' gradient: the gradients `30 − n` positions on, with the gated values. -/
def row (E : S288x512.Idx → EReal) (n : ℕ) : EReal := if h : n < 31 then ∑ i : Fin 256, E (ix2 ⟨30 - n + i.val, by omega⟩ k) * A (ix2 i k) else 0

theorem row_eq (E : S288x512.Idx → EReal) (n : ℕ) (hn : n < 31) (q : Fin 256 → Fin 288) (hq : ∀ i, (q i).val = 30 - n + i.val) :
    ∑ i : Fin 256, E (ix2 (q i) k) * A (ix2 i k) = row A k E n := by
  unfold row
  rw [dif_pos hn]
  exact Finset.sum_congr rfl fun i _ => congrArg (fun q => E (ix2 q k) * A (ix2 i k)) (Fin.ext (hq i))

/-- What is added to the taps' gradient. -/
abbrev rowsOf (P : S32x512.Idx → EReal) : S32x512.Idx → EReal :=
  k0_pay110 (F := Ideal) (k0_pay30 V G) (k0_pay32 V G K R N M S) (k0_pay35 V G K R N M S) (k0_pay38 V G K R N M S) (k0_pay42 V G K R N M S) (k0_pay45 (k0_pay30 V G) (k0_pay44 K R N M S))
    (k0_pay48 (ext K R S N M) (k0_pay30 V G)) (k0_pay50 (ext K R S N M) (k0_pay30 V G)) (k0_pay53 (ext K R S N M) (k0_pay30 V G)) (k0_pay55 (k0_pay30 V G) (c6 K R S N M))
    (k0_pay57 (k0_pay30 V G) (c5 K R S N M)) (k0_pay60 (k0_pay30 V G) (k0_pay58 (c4 K R S N M))) (k0_pay62 (k0_pay30 V G) (c3 K R S N M)) (k0_pay64 (k0_pay30 V G) (c2 K R S N M))
    (k0_pay66 (k0_pay30 V G) (c1' K R S N M)) (k0_pay68 (ext K R S N M) (k0_pay30 V G)) (k0_pay70 (k0_pay30 V G) (c7 K R S N M)) (k0_pay73 (k0_pay30 V G) (c6 K R S N M))
    (k0_pay76 (k0_pay30 V G) (k0_pay74 (c5 K R S N M))) (k0_pay78 (k0_pay30 V G) (c4 K R S N M)) (k0_pay80 (k0_pay30 V G) (c3 K R S N M)) (k0_pay82 (k0_pay30 V G) (c2 K R S N M))
    (k0_pay84 (k0_pay30 V G) (c1' K R S N M)) (k0_pay86 (ext K R S N M) (k0_pay30 V G)) (k0_pay90 (k0_pay89 (k0_pay30 V G) (c7 K R S N M))) (k0_pay92 (k0_pay30 V G) (c6 K R S N M))
    (k0_pay94 (k0_pay30 V G) (c5 K R S N M)) (k0_pay96 (k0_pay30 V G) (c4 K R S N M)) (k0_pay98 (k0_pay30 V G) (c3 K R S N M)) (k0_pay100 (k0_pay30 V G) (c2 K R S N M))
    (k0_pay102 (k0_pay30 V G) (c1' K R S N M)) (k0_pay103 (ext K R S N M)) P

/-- Thirty-two rows, one above another. -/
theorem cat32 (p0 p1 p2 p3 p4 p5 p6 p7 p8 p9 p10 p11 p12 p13 p14 p15 p16 p17 p18 p19 p20 p21 p22 p23 p24 p25 p26 p27 p28 p29 p30 X : S1x512.Idx → EReal) (P : S32x512.Idx → EReal)
    (f : ℕ → EReal) (h : ∀ j : Fin 32, (![p0, p1, p2, p3, p4, p5, p6, p7, p8, p9, p10, p11, p12, p13, p14, p15, p16, p17, p18, p19, p20, p21, p22, p23, p24, p25, p26, p27, p28, p29, p30, X] j : S1x512.Idx → EReal) (ix2 0 k) = f j.val)
    (hc : Shape.Concatenates [S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512] S32x512 0)
    (j : Fin 32) : concatenate (α := EReal) S32x512 0 [⟨S1x512, p0⟩, ⟨S1x512, p1⟩, ⟨S1x512, p2⟩, ⟨S1x512, p3⟩, ⟨S1x512, p4⟩, ⟨S1x512, p5⟩, ⟨S1x512, p6⟩, ⟨S1x512, p7⟩, ⟨S1x512, p8⟩, ⟨S1x512, p9⟩, ⟨S1x512, p10⟩, ⟨S1x512, p11⟩, ⟨S1x512, p12⟩, ⟨S1x512, p13⟩, ⟨S1x512, p14⟩, ⟨S1x512, p15⟩, ⟨S1x512, p16⟩, ⟨S1x512, p17⟩, ⟨S1x512, p18⟩, ⟨S1x512, p19⟩, ⟨S1x512, p20⟩, ⟨S1x512, p21⟩, ⟨S1x512, p22⟩, ⟨S1x512, p23⟩, ⟨S1x512, p24⟩, ⟨S1x512, p25⟩, ⟨S1x512, p26⟩, ⟨S1x512, p27⟩, ⟨S1x512, p28⟩, ⟨S1x512, p29⟩, ⟨S1x512, p30⟩, ⟨S1x512, X⟩] hc (ix2 j k) = f j.val := by
  rw [← h j]
  fin_cases j <;> pointwise

set_option maxHeartbeats 1600000 in
theorem rowsOf_at (P : S32x512.Idx → EReal) (j : Fin 32) : rowsOf K R S N M V G P (ix2 j k) = P (ix2 j k) + row (k0_pay30 (F := Ideal) V G) k (ext K R S N M) j.val := by
  unfold rowsOf k0_pay110
  refine congrArg₂ (· + ·) (by pointwise) (cat32 k _ _ _ _ _ _ _ _ _ _ _ _ _ _ _ _ _ _ _ _ _ _ _ _ _ _ _ _ _ _ _ _ P (row (k0_pay30 (F := Ideal) V G) k (ext K R S N M)) (fun j => ?_) _ j)
  fin_cases j
  all_goals first
    | (dsimp only
       pointwise [k0_pay32, k0_pay35, k0_pay38, k0_pay42, k0_pay45, k0_pay48, k0_pay50, k0_pay53, k0_pay55, k0_pay57, k0_pay60, k0_pay62, k0_pay64, k0_pay66, k0_pay68, k0_pay70, k0_pay73,
         k0_pay76, k0_pay78, k0_pay80, k0_pay82, k0_pay84, k0_pay86, k0_pay90, k0_pay89, k0_pay92, k0_pay94, k0_pay96, k0_pay98, k0_pay100, k0_pay102, k0_pay103,
         k0_pay34, k0_pay37, k0_pay40, k0_pay44, k0_pay47, k0_pay49, k0_pay52, k0_pay54, k0_pay56, k0_pay58, k0_pay61, k0_pay63, k0_pay65, k0_pay67, k0_pay69, k0_pay71, k0_pay74,
         k0_pay77, k0_pay79, k0_pay81, k0_pay83, k0_pay85, k0_pay87, k0_pay91, k0_pay93, k0_pay95, k0_pay97, k0_pay99, k0_pay101,
         k0_pay31, k0_pay33, k0_pay36, k0_pay39, k0_pay43, k0_pay46, k0_pay51]
       exact row_eq _ k _ _ (by omega) _ (fun i => by simp <;> omega))
    | (dsimp only
       pointwise
       simp [row])

end Cert.ConvBwdIdeal.Value

end
-- ==== Proof.ConvBwdValue.lean ====
/- What the causal convolution's backward call reads: the saved convolved rows, the parts of the projection, the taps and the two rows, and so the
gradient at the convolved rows, block by block from the end of the sequence. -/
module

public import proofs.«01_k».proof.Proof.ConvBwdTaps
public import proofs.«01_k».proof.Proof.Cols
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvBwdIdeal.Value
open Cert.ConvBwdIdeal Cert.ConvBwdIdeal.Gen Cert.Gates

variable (m : (ℓ : Loc nD τ sig) → Buf (Elt Ideal) ℓ)

theorem idx : ∀ t : Fin cfg0.N, win0_0.index t = ![t.val / 16, 15 - t.val % 16, 0] ∧ win0_1.index t = ![t.val / 16, 15 - t.val % 16, 0]
    ∧ win0_2.index t = ![t.val / 16, 15 - t.val % 16, 8] ∧ win0_3.index t = ![t.val / 16, 15 - t.val % 16, 9] ∧ win0_4.index t = ![t.val / 16, 15 - t.val % 16, 10]
    ∧ win0_5.index t = ![0, 0] ∧ win0_6.index t = ![0, 0] ∧ win0_7.index t = ![0, 0] ∧ win0_8.index t = ![t.val / 16, 15 - t.val % 16, 0]
    ∧ win0_9.index t = ![0, 0] ∧ win0_10.index t = ![0, 0] :=
  (by decide +kernel : ∀ t : Fin grid0.N, _)

theorem lt32 (t : Fin cfg0.N) : t.val < 32 := lt_of_lt_of_eq t.isLt (by decide +kernel)

/-- The batch of point `t`, and the position in the sequence of its row `y`. -/
def bat (t : Fin cfg0.N) : Fin 2 := ⟨t.val / 16, by have := lt32 t; omega⟩
def pos (t : Fin cfg0.N) (y : Fin 256) : Fin 4096 := ⟨(15 - t.val % 16) * 256 + y.val, by omega⟩

/-- The arguments: the cotangent, the projection, the taps, their bias, the scale and the shift. -/
def dO (c : Dev nD) : S2x4096x512.Idx → EReal := m ((c : Thread nD τ).loc main_arg0)
def pr (c : Dev nD) : S2x4096x10256.Idx → EReal := m ((c : Thread nD τ).loc main_arg1)
def dw (c : Dev nD) : S31x512.Idx → EReal := m ((c : Thread nD τ).loc main_arg2)
def db (c : Dev nD) : S512.Idx → EReal := m ((c : Thread nD τ).loc main_arg3)
def gg (c : Dev nD) : S512.Idx → EReal := m ((c : Thread nD τ).loc main_arg4)
def bb (c : Dev nD) : S512.Idx → EReal := m ((c : Thread nD τ).loc main_arg5)

/-- Column `k` of part `n` of the branch in the projection, and the branch's three parts. -/
def acol (n : Fin 3) (k : Fin 512) : Fin 10256 := ⟨n.val * 512 + k.val, by omega⟩
def aa (c : Dev nD) (n : Fin 3) (b : Fin 2) (s : Fin 4096) (k : Fin 512) : EReal := pr m c (ix3 b s (acol n k))

/-- The gated values, those after thirty rows of zeros, the taps, and the convolved row with its bias. -/
def aV (c : Dev nD) (b : Fin 2) (s : Fin 4096) (k : Fin 512) : EReal := aa m c 0 b s k * Ideal.logistic (aa m c 1 b s k)
def gx (c : Dev nD) (b : Fin 2) (r : ℕ) (k : Fin 512) : EReal := if h : 30 ≤ r ∧ r < 4126 then aV m c b ⟨r - 30, by omega⟩ k else 0
def tp (c : Dev nD) (n : ℕ) (k : Fin 512) : EReal := if h : n < 31 then dw m c (ix2 ⟨n, h⟩ k) else 0
def cv (c : Dev nD) (b : Fin 2) (s : Fin 4096) (k : Fin 512) : EReal := ∑ n ∈ Finset.range 31, gx m c b (s.val + n) k * tp m c n k + db m c (ix1 k)

/-- The normalised row with scale and shift, the gradient at it, and the gradient at the convolved row, also past the end of the sequence. -/
def lnv (c : Dev nD) (b : Fin 2) (s : Fin 4096) (k : Fin 512) : EReal := nrm (cv m c b s) k * gg m c (ix1 k) + bb m c (ix1 k)
def dl (c : Dev nD) (b : Fin 2) (s : Fin 4096) (k : Fin 512) : EReal := dL (dO m c (ix3 b s k)) (lnv m c b s k) (aa m c 2 b s k)
def dcv (c : Dev nD) (b : Fin 2) (s : Fin 4096) (k : Fin 512) : EReal := lnB (cv m c b s) (fun l => dl m c b s l * gg m c (ix1 l)) k
def dcz (c : Dev nD) (b : Fin 2) (r : ℕ) (k : Fin 512) : EReal := if h : r < 4096 then dcv m c b ⟨r, h⟩ k else 0
/-- The gradient at the gated values. -/
def da (c : Dev nD) (b : Fin 2) (s : Fin 4096) (k : Fin 512) : EReal := ∑ n ∈ Finset.range 31, dcz m c b (30 - n + s.val) k * tp m c n k
/-- The gradient of part `n` at a position. -/
def dP (c : Dev nD) (n : Fin 3) (b : Fin 2) (s : Fin 4096) (k : Fin 512) : EReal :=
  ![da m c b s k * Ideal.logistic (aa m c 1 b s k),
    da m c b s k * aa m c 0 b s k * Ideal.logistic (aa m c 1 b s k) * (1 - Ideal.logistic (aa m c 1 b s k)),
    dL (dO m c (ix3 b s k)) (aa m c 2 b s k) (lnv m c b s k)] n
/-- A position's share of the gradient of the taps, and of the bias, the scale and the shift. -/
def fT (c : Dev nD) (n : ℕ) (k : Fin 512) (b : Fin 2) (s : Fin 4096) : EReal := if n < 31 then dcz m c b (30 - n + s.val) k * aV m c b s k else 0
def fR (c : Dev nD) (r : ℕ) (k : Fin 512) (b : Fin 2) (s : Fin 4096) : EReal :=
  if r = 0 then dcv m c b s k else if r = 1 then dl m c b s k * nrm (cv m c b s) k else if r = 2 then dl m c b s k else 0

theorem sit : (FloatOps.sitofp .f32 0#32 : Ideal .f32) = (0 : EReal) := by
  show ((((0#32 : BitVec 32).toInt : ℤ) : ℝ) : EReal) = 0
  simp

section reads
variable (c : Dev nD) (t : Fin cfg0.N)

/-- The stretches of host operations before the call, one after another. -/
theorem entry (b : Ref sig .tc) : V m c b = StableHlo.after (hostOps0 ++ hostOps0_1 ++ hostOps0_2 ++ hostOps0_3 ++ hostOps0_4) (fun b => m (c, b)) (Proc.devRef .tc b) := rfl

theorem taps_at (D : FVec Ideal S31x512 .f32) (j : Fin 32) (k : Fin 512) :
    pad S32x512 ![0, 0] ![1, 0] ![0, 0] D (sitofp .f32 (constantI S_ 32 0#32)) pads_S31x512_S32x512_010_000 h_S_ (ix2 j k) = if h : j.val < 31 then D (ix2 ⟨j.val, h⟩ k) else 0 := by
  pointwise
  rw [sit]

/-- The contents after the first two stretches, and after the others of those. -/
def mid := StableHlo.after (hostOps0 ++ hostOps0_1) (fun b => m (c, b))

theorem entry_mid (b : Ref sig .tc) : V m c b = StableHlo.after (hostOps0_2 ++ hostOps0_3 ++ hostOps0_4) (mid m c) (Proc.devRef .tc b) := by
  unfold mid
  rw [entry, ← StableHlo.after_append]
  simp only [List.append_assoc]

theorem mid_arg2 : mid m c (Proc.devRef .tc main_arg2) = dw m c := by
  unfold mid
  simp only [hostOps0, hostOps0_1, List.cons_append, List.nil_append]
  entry_read
  rfl
theorem mid_arg3 : mid m c (Proc.devRef .tc main_arg3) = db m c := by
  unfold mid
  simp only [hostOps0, hostOps0_1, List.cons_append, List.nil_append]
  entry_read
  rfl
/-- The gated values after thirty rows of zeros, as the host forms them. -/
theorem padded_at (A C : FVec Ideal S2x4096x512 .f32) (b : Fin 2) (r : Fin 4126) (k : Fin 512) :
    pad S2x4126x512 ![0, 30, 0] ![0, 0, 0] ![0, 0, 0] (mulf A (Host.divf (broadcastInDim S2x4096x512 ![] bcast_S_S2x4096x512 (constant S_ .f32 0x3F800000#32))
      (addf (broadcastInDim S2x4096x512 ![] bcast_S_S2x4096x512 (constant S_ .f32 0x3F800000#32)) (Host.exp (Host.negf C))))) (sitofp .f32 (constantI S_ 32 0#32))
      pads_S2x4096x512_S2x4126x512_000_3000_000 h_S_ (ix3 b r k)
      = if h : 30 ≤ r.val then A (ix3 b ⟨r.val - 30, by omega⟩ k) * Ideal.logistic (C (ix3 b ⟨r.val - 30, by omega⟩ k)) else 0 := by
  pointwise
  rw [sit]
  by_cases h : 30 ≤ r.val
  · rw [dif_pos h, dif_pos ⟨h, by omega⟩]; rfl
  · rw [dif_neg h, dif_neg fun q => h q.1]
/-- The branch's parts, cut from the projection. -/
theorem cut_at (n : Fin 3) (o : Fin 3 → ℕ) (h : S2x4096x10256.Slices o S2x4096x512) (ho : o = ![0, 0, n.val * 512])
    (b : Fin 2) (s : Fin 4096) (k : Fin 512) : extractStridedSlice S2x4096x512 o (pr m c) h (ix3 b s k) = aa m c n b s k := by
  subst ho; pointwise; unfold aa; blk_ext [acol]
theorem mid_pad (b : Fin 2) (r : Fin 4126) (k : Fin 512) : mid m c (Proc.devRef .tc main_v9) (ix3 b r k) = gx m c b r.val k := by
  unfold mid
  simp only [hostOps0, hostOps0_1, List.cons_append, List.nil_append]
  entry_read
  refine (padded_at (extractStridedSlice S2x4096x512 ![0, 0, 0] (pr m c) slices_S2x4096x10256_S2x4096x512_0_0_0)
    (extractStridedSlice S2x4096x512 ![0, 0, 512] (pr m c) slices_S2x4096x10256_S2x4096x512_0_0_512) b r k).trans ?_
  unfold gx aV
  by_cases h : 30 ≤ r.val
  · rw [dif_pos h, dif_pos ⟨h, r.isLt⟩]
    exact congrArg₂ (fun x y => x * Ideal.logistic y) (cut_at m c 0 _ _ rfl b _ k) (cut_at m c 1 _ _ rfl b _ k)
  · rw [dif_neg h, dif_neg (by omega)]

/-- Tap `n` of position `s`, as the host forms it. -/
theorem prod_at (X : FVec Ideal S2x4126x512 .f32) (D : FVec Ideal S31x512 .f32) (b : Fin 2) (s : Fin 4096) (k : Fin 512)
    (hX : ∀ r : Fin 4126, X (ix3 b r k) = gx m c b r.val k) (hD : D = dw m c) (n : ℕ) (hn : n < 31) (h : S2x4126x512.Slices ![0, n, 0] S2x4096x512) (h' : S31x512.Slices ![n, 0] S1x512) :
    mulf (extractStridedSlice S2x4096x512 ![0, n, 0] X h) (broadcastInDim S2x4096x512 ![0, 1, 2] bcast_S1x1x512_S2x4096x512_0_1_2 (broadcastInDim S1x1x512 ![2] bcast_S512_S1x1x512_2
      (fun i => shapeCast S512 (extractStridedSlice S1x512 ![n, 0] D h') shapeCasts_S1x512_S512 i))) (ix3 b s k) = gx m c b (s.val + n) k * tp m c n k := by
  unfold tp
  rw [dif_pos hn, ← hX ⟨s.val + n, by omega⟩, ← hD]
  pointwise
  refine congrArg₂ (· * ·) (congrArg X ?_) (congrArg D ?_)
  · blk_ext
  · blk_ext
theorem add_at (P Q : FVec Ideal S2x4096x512 .f32) {x y : EReal} {i : S2x4096x512.Idx} (hp : P i = x) (hq : Q i = y) : addf P Q i = x + y := congrArg₂ (· + ·) hp hq

set_option maxHeartbeats 4000000 in
theorem v230_at (b : Fin 2) (s : Fin 4096) (k : Fin 512) : V m c main_v230 (ix3 b s k) = cv m c b s k := by
  rw [entry_mid]
  simp only [hostOps0_2, hostOps0_3, hostOps0_4, List.cons_append, List.nil_append]
  entry_read
  unfold cv
  simp only [Finset.sum_range_succ, Finset.sum_range_zero]
  refine add_at _ _ ?_ ?_
  · repeat' refine add_at _ _ ?_ (prod_at m c _ _ b s k (mid_pad m c b · k) (mid_arg2 m c) _ (by omega) _ _)
    pointwise
  · rw [mid_arg3]
    pointwise
    blk_ext

theorem rd0 (u : Fin 1) (y : Fin 256) (k : Fin 512) : iblk m c 0 t (ix3 u y k) = dO m c (ix3 (bat t) (pos t y) k) := by
  unfold iblk
  rw [View.read_apply, cast_eq]
  refine Eq.trans (congrArg (V m c main_arg0) (?_ : _ = (ix3 (bat t) (pos t y) k : S2x4096x512.Idx))) ?_
  · blk_ext [idx t, bat, pos]
  · rw [entry]
    simp only [hostOps0, hostOps0_1, hostOps0_2, hostOps0_3, hostOps0_4, List.cons_append, List.nil_append]
    entry_read
    rfl
theorem rd1 (u : Fin 1) (y : Fin 256) (k : Fin 512) : iblk m c 1 t (ix3 u y k) = cv m c (bat t) (pos t y) k := by
  unfold iblk
  rw [View.read_apply, cast_eq]
  refine (congrArg (V m c main_v230) ?_).trans (v230_at m c (bat t) (pos t y) k)
  blk_ext [idx t, bat, pos]
theorem v237_at (j : Fin 32) (k : Fin 512) : V m c main_v237 (ix2 j k) = tp m c j.val k := by
  rw [entry_mid]
  simp only [hostOps0_2, hostOps0_3, hostOps0_4, List.cons_append, List.nil_append]
  entry_read
  rw [mid_arg2]
  exact taps_at (dw m c) j k
theorem rd5 (j : Fin 32) (k : Fin 512) : iblk m c 5 t (ix2 j k) = tp m c j.val k := by
  unfold iblk
  rw [View.read_apply, cast_eq]
  refine (congrArg (V m c main_v237) ?_).trans (v237_at m c j k)
  blk_ext [idx t]
theorem v238_at (u : Fin 1) (k : Fin 512) : V m c main_v238 (ix2 u k) = gg m c (ix1 k) := by
  rw [entry]
  simp only [hostOps0, hostOps0_1, hostOps0_2, hostOps0_3, hostOps0_4, List.cons_append, List.nil_append]
  entry_read
  pointwise
  blk_ext [gg]
theorem rd6 (u : Fin 1) (k : Fin 512) : iblk m c 6 t (ix2 u k) = gg m c (ix1 k) := by
  unfold iblk
  rw [View.read_apply, cast_eq]
  refine (congrArg (V m c main_v238) ?_).trans (v238_at m c u k)
  blk_ext [idx t]
theorem v239_at (u : Fin 1) (k : Fin 512) : V m c main_v239 (ix2 u k) = bb m c (ix1 k) := by
  rw [entry]
  simp only [hostOps0, hostOps0_1, hostOps0_2, hostOps0_3, hostOps0_4, List.cons_append, List.nil_append]
  entry_read
  pointwise
  blk_ext [bb]
theorem rd7 (u : Fin 1) (k : Fin 512) : iblk m c 7 t (ix2 u k) = bb m c (ix1 k) := by
  unfold iblk
  rw [View.read_apply, cast_eq]
  refine (congrArg (V m c main_v239) ?_).trans (v239_at m c u k)
  blk_ext [idx t]

/-- The projection's first part, where the kernel's column order puts it. -/
theorem part1_at (b : Fin 2) (s : Fin 4096) (x : Fin 10368) (k : Fin 1536) (hx : x.val = 4096 + k.val) :
    V m c main_v236 (ix3 b s x) = V m c main_v233 (ix3 b s k) := by
  rw [entry_mid, entry_mid]
  simp only [hostOps0_2, hostOps0_3, hostOps0_4, List.cons_append, List.nil_append, StableHlo.after_cons, StableHlo.after_nil]
  after_results_simp
  refine (Cols.cols1_at _ _ _ _ _ _ b s x k hx).trans ?_
  refine congrFun (f := (HloOp.result _ _ (Proc.tc.devRef main_v233))) ?_ (ix3 b s k)
  after_results_simp

theorem part_at (b : Fin 2) (s : Fin 4096) (x : Fin 10368) (n : Fin 3) (k : Fin 512) (hx : x.val = 4096 + n.val * 512 + k.val) :
    V m c main_v236 (ix3 b s x) = aa m c n b s k := by
  rw [part1_at m c b s x ⟨n.val * 512 + k.val, by omega⟩ (by show x.val = 4096 + (n.val * 512 + k.val); omega)]
  rw [entry]
  simp only [hostOps0, hostOps0_1, hostOps0_2, hostOps0_3, hostOps0_4, List.cons_append, List.nil_append]
  entry_read
  pointwise
  blk_ext [pr, aa, acol]

theorem rd2 (u : Fin 1) (y : Fin 256) (k : Fin 512) : X0_2 m c t (ix3 u y k) = aa m c 0 (bat t) (pos t y) k := by
  unfold X0_2
  refine (dif_pos (moved0_2 t (ix3 u y k))).trans (Eq.trans ?_ (part_at m c (bat t) (pos t y) ⟨4096 + k.val, by omega⟩ 0 k (by simp)))
  unfold iblk
  rw [View.read_apply, cast_eq]
  refine congrArg (V m c main_v236) ?_
  blk_ext [idx t, bat, pos]
theorem rd3 (u : Fin 1) (y : Fin 256) (k : Fin 512) : X0_3 m c t (ix3 u y k) = aa m c 1 (bat t) (pos t y) k := by
  unfold X0_3
  refine (dif_pos (moved0_3 t (ix3 u y k))).trans (Eq.trans ?_ (part_at m c (bat t) (pos t y) ⟨4608 + k.val, by omega⟩ 1 k (by simp)))
  unfold iblk
  rw [View.read_apply, cast_eq]
  refine congrArg (V m c main_v236) ?_
  blk_ext [idx t, bat, pos]
theorem rd4 (u : Fin 1) (y : Fin 256) (k : Fin 512) : X0_4 m c t (ix3 u y k) = aa m c 2 (bat t) (pos t y) k := by
  unfold X0_4
  refine (dif_pos (moved0_4 t (ix3 u y k))).trans (Eq.trans ?_ (part_at m c (bat t) (pos t y) ⟨5120 + k.val, by omega⟩ 2 k (by simp)))
  unfold iblk
  rw [View.read_apply, cast_eq]
  refine congrArg (V m c main_v236) ?_
  blk_ext [idx t, bat, pos]
end reads

end Cert.ConvBwdIdeal.Value

end
-- ==== Proof.ConvBwdMid.lean ====
/- The causal convolution's gradient as `jax.vjp` takes it: what each of its intermediate arrays holds, entry by entry. -/
module

public import proofs.«01_k».proof.Proof.ConvBwdValue
public import proofs.«01_k».proof.Proof.GatesReal
public import proofs.«01_k».proof.Proof.Gen.ConvBwdRefIdeal.Run

@[expose] public section

set_option maxRecDepth 16384

noncomputable section

open Idealize.ShloMosaic Idealize.ShloMosaic.TcCoe Idealize.SL.Sem Idealize.ShloMosaic.StableHlo

namespace Cert.ConvBwdRefIdeal.Read
open Cert.ConvBwdRefIdeal Cert.ConvBwdRefIdeal.Gen Cert.ConvBwdRefIdeal.Value Cert.Gates
open Cert.ConvBwdIdeal.Value (dO pr dw db gg bb aa aV gx tp cv lnv dl dcv dcz da dP dL sit)

/-- The reference starts from the kernel's arguments. -/
def Ag (m : (ℓ : Loc ConvBwdIdeal.nD ConvBwdIdeal.τ ConvBwdIdeal.sig) → Buf (Elt Ideal) ℓ) (c : Dev ConvBwdIdeal.nD) (V0 : Valuation τ sig (Elt Ideal)) : Prop :=
  V0 (Proc.devRef .tc main_arg0) = dO m c ∧ V0 (Proc.devRef .tc main_arg1) = pr m c ∧ V0 (Proc.devRef .tc main_arg2) = dw m c
  ∧ V0 (Proc.devRef .tc main_arg3) = db m c ∧ V0 (Proc.devRef .tc main_arg4) = gg m c ∧ V0 (Proc.devRef .tc main_arg5) = bb m c

/-- The arguments are real numbers. -/
def Real6 (m : (ℓ : Loc ConvBwdIdeal.nD ConvBwdIdeal.τ ConvBwdIdeal.sig) → Buf (Elt Ideal) ℓ) (c : Dev ConvBwdIdeal.nD) : Prop :=
  (∀ i, Re (dO m c i)) ∧ (∀ i, Re (pr m c i)) ∧ (∀ i, Re (dw m c i)) ∧ (∀ i, Re (db m c i)) ∧ (∀ i, Re (gg m c i)) ∧ ∀ i, Re (bb m c i)

abbrev Arr := FVec Ideal S2x4096x512 .f32
abbrev all (z : BitVec 32) : Arr := broadcastInDim S2x4096x512 ![] bcast_S_S2x4096x512 (constant S_ .f32 z)
/-- The taps of one position over the whole array. -/
abbrev spread (W : FVec Ideal S31x512 .f32) (n : ℕ) (h : S31x512.Slices ![n, 0] S1x512) : Arr :=
  broadcastInDim S2x4096x512 ![0, 1, 2] bcast_S1x1x512_S2x4096x512_0_1_2 (broadcastInDim S1x1x512 ![2] bcast_S512_S1x1x512_2
    (shapeCast _ (extractStridedSlice S1x512 ![n, 0] W h) shapeCasts_S1x512_S512))

theorem sig_at (C : Arr) (b : Fin 2) (s : Fin 4096) (k : Fin 512) :
    Host.divf (all 0x3F800000#32) (addf (all 0x3F800000#32) (Host.exp (Host.negf C))) (ix3 b s k) = Ideal.logistic (C (ix3 b s k)) := by
  unfold all; pointwise; rfl
theorem vec_at (g : S512.Idx → EReal) (b : Fin 2) (s : Fin 4096) (k : Fin 512) :
    broadcastInDim (α := EReal) S2x4096x512 ![0, 1, 2] bcast_S1x1x512_S2x4096x512_0_1_2 (broadcastInDim S1x1x512 ![2] bcast_S512_S1x1x512_2 g) (ix3 b s k) = g (ix1 k) := by
  pointwise
theorem add_at (P Q : Arr) {x y : EReal} {i : S2x4096x512.Idx} (hp : P i = x) (hq : Q i = y) : addf P Q i = x + y := congrArg₂ (· + ·) hp hq
theorem add_pad_at (P Q : FVec Ideal S2x4126x512 .f32) {x y : EReal} {i : S2x4126x512.Idx} (hp : P i = x) (hq : Q i = y) : addf P Q i = x + y := congrArg₂ (· + ·) hp hq
theorem add_row_at (P Q : FVec Ideal S31x512 .f32) {x y : EReal} {i : S31x512.Idx} (hp : P i = x) (hq : Q i = y) : addf P Q i = x + y := congrArg₂ (· + ·) hp hq

theorem spread_at (W : FVec Ideal S31x512 .f32) (n : ℕ) (h : S31x512.Slices ![n, 0] S1x512) (hn : n < 31) (b : Fin 2) (s : Fin 4096) (k : Fin 512) :
    spread W n h (ix3 b s k) = W (ix2 ⟨n, hn⟩ k) := by
  unfold spread; pointwise

section values
variable {m : (ℓ : Loc ConvBwdIdeal.nD ConvBwdIdeal.τ ConvBwdIdeal.sig) → Buf (Elt Ideal) ℓ} {c : Dev ConvBwdIdeal.nD} {V0 : Valuation τ sig (Elt Ideal)}
  (A : Ag m c V0) (H : Real6 m c) (b : Fin 2) (s : Fin 4096) (k : Fin 512)

include A in
theorem at0 : res_main_v0 V0 (ix3 b s k) = aa m c 0 b s k := by
  unfold res_main_v0; rw [A.2.1]; exact ConvBwdIdeal.Value.cut_at m c 0 _ _ rfl b s k
include A in
theorem at2 : res_main_v2 V0 (ix3 b s k) = aa m c 2 b s k := by
  unfold res_main_v2; rw [A.2.1]; exact ConvBwdIdeal.Value.cut_at m c 2 _ _ rfl b s k
include A in
theorem at8 : res_main_v8 V0 (ix3 b s k) = Ideal.logistic (aa m c 1 b s k) := by
  unfold res_main_v8; rw [A.2.1]
  exact (sig_at _ b s k).trans (congrArg Ideal.logistic (ConvBwdIdeal.Value.cut_at m c 1 _ _ rfl b s k))
include A in
theorem at14 (r : Fin 4126) : res_main_v14 V0 (ix3 b r k) = gx m c b r.val k := by
  unfold res_main_v14 gx; pointwise
  by_cases h : r.val < 30
  · rw [dif_pos h, dif_neg (by omega)]
  · rw [dif_neg h, dif_pos (by omega), at0 A, at8 A]; rfl
include A in
theorem slice_at (n : ℕ) (hn : n < 31) (h : S2x4126x512.Slices ![0, n, 0] S2x4096x512) : extractStridedSlice S2x4096x512 ![0, n, 0] (res_main_v14 V0) h (ix3 b s k) = gx m c b (s.val + n) k := by
  rw [← at14 A b k ⟨s.val + n, by omega⟩]
  pointwise
  exact congrArg (res_main_v14 V0) (by blk_ext)
include A in
theorem taps_at (n : ℕ) (hn : n < 31) (h : S31x512.Slices ![n, 0] S1x512) : spread (V0 (Proc.devRef .tc main_arg2)) n h (ix3 b s k) = tp m c n k := by
  rw [spread_at _ n h hn, A.2.2.1]
  unfold tp
  rw [dif_pos hn]
include A in
theorem prod_at (n : ℕ) (hn : n < 31) (h : S2x4126x512.Slices ![0, n, 0] S2x4096x512) (h' : S31x512.Slices ![n, 0] S1x512) :
    mulf (extractStridedSlice S2x4096x512 ![0, n, 0] (res_main_v14 V0) h) (spread (V0 (Proc.devRef .tc main_arg2)) n h') (ix3 b s k) = gx m c b (s.val + n) k * tp m c n k :=
  congrArg₂ (· * ·) (slice_at A b s k n hn h) (taps_at A b s k n hn h')
include A in
set_option maxHeartbeats 1600000 in
theorem at236 : res_main_v236 V0 (ix3 b s k) = cv m c b s k := by
  unfold res_main_v236 cv
  simp only [Finset.sum_range_succ, Finset.sum_range_zero]
  refine add_at _ _ ?_ ?_
  · repeat' refine add_at _ _ ?_ (prod_at A b s k _ (by omega) _ _)
    pointwise
  · rw [A.2.2.2.1]
    exact vec_at _ b s k

include A in
theorem at240 (u : Fin 1) : res_main_v240 V0 (ix3 b s u) = mean (cv m c b s) := by
  unfold res_main_v240; pointwise; simp only [at236 A]; rfl
include A in
theorem at242 : res_main_v242 V0 (ix3 b s k) = ctr (cv m c b s) k := by
  unfold res_main_v242; pointwise; rw [at236 A, at240 A]; rfl
include A in
theorem at251 : res_main_v251 V0 (ix3 b s k) = ctr (cv m c b s) k := by
  unfold res_main_v251; pointwise; rw [at236 A, at240 A]; rfl
include A in
theorem at253 (u : Fin 1) : res_main_v253 V0 (ix3 b s u) = mean (fun k => ctr (cv m c b s) k * ctr (cv m c b s) k) + eps := by
  unfold res_main_v253; pointwise; simp only [at242 A]; rfl
include A in
theorem at254 (u : Fin 1) : res_main_v254 V0 (ix3 b s u) = rs (cv m c b s) := by
  unfold res_main_v254; pointwise; rw [at253 A]; rfl
include A in
theorem at259 : res_main_v259 V0 (ix3 b s k) = nrm (cv m c b s) k := by
  unfold res_main_v259; pointwise; rw [at251 A, at254 A]; rfl
include A in
theorem at260 (u v : Fin 1) : res_main_v260 V0 (ix3 u v k) = gg m c (ix1 k) := by
  unfold res_main_v260; rw [A.2.2.2.2.1]; pointwise
include A in
theorem at265 : res_main_v265 V0 (ix3 b s k) = lnv m c b s k := by
  unfold res_main_v265; rw [A.2.2.2.2.2]; pointwise; rw [at259 A, at260 A]; rfl
include A in
theorem at266 : res_main_v266_2 V0 (ix3 b s k) = Ideal.logistic (lnv m c b s k) := by
  unfold res_main_v266_2; exact (sig_at _ b s k).trans (congrArg Ideal.logistic (at265 A b s k))
include A in
theorem at267 : res_main_v267_2 V0 (ix3 b s k) = Ideal.logistic (aa m c 2 b s k) := by
  unfold res_main_v267_2; exact (sig_at _ b s k).trans (congrArg Ideal.logistic (at2 A b s k))
include A in
theorem at269 : res_main_v269 V0 (ix3 b s k) = lnv m c b s k * Ideal.logistic (lnv m c b s k) * dO m c (ix3 b s k) := by
  unfold res_main_v269 res_main_v266_0; rw [A.1]; pointwise; rw [at265 A, at266 A]
include A in
theorem at270 : res_main_v270 V0 (ix3 b s k) = dO m c (ix3 b s k) * (aa m c 2 b s k * Ideal.logistic (aa m c 2 b s k)) := by
  unfold res_main_v270 res_main_v267_0; rw [A.1]; pointwise; rw [at2 A, at267 A]

include H in
theorem reA (n : Fin 3) : Re (aa m c n b s k) := H.2.1 _
include H in
theorem reV : ∀ k, Re (cv m c b s k) := fun k => by
  refine Re.add (Re.sum fun n => Re.mul ?_ ?_) (H.2.2.2.1 _)
  · unfold gx aV; split_ifs
    · exact (reA H ..).mul (reA H ..).logistic
    · exact Re.zero
  · unfold tp; split_ifs
    · exact H.2.2.1 _
    · exact Re.zero
include H in
theorem reL : Re (lnv m c b s k) := ((Re.nrm (reV H b s) k).mul (H.2.2.2.2.1 _)).add (H.2.2.2.2.2 _)
include A H in
theorem at272 : res_main_v272 V0 (ix3 b s k) = dl m c b s k := by
  unfold res_main_v272; pointwise; rw [at270 A, at266 A, at265 A]
  exact silu_vjp (reL H b s k) ((H.1 _).mul ((reA H b s k 2).mul (reA H b s k 2).logistic))
include A H in
theorem at280 : res_main_v280 V0 (ix3 b s k) = dl m c b s k * gg m c (ix1 k) := by
  unfold res_main_v280; pointwise; rw [at272 A H, at260 A]
include A H in
theorem at286 : res_main_v286 V0 (ix3 b s k) = dl m c b s k * gg m c (ix1 k) * rs (cv m c b s) := by
  unfold res_main_v286; pointwise; rw [at280 A H, at254 A]
include A H in
theorem at295 : res_main_v295 V0 (ix3 b s k) = vS' (cv m c b s) (fun l => dl m c b s l * gg m c (ix1 l)) * (n2 * ctr (cv m c b s) k) := by
  unfold res_main_v295; pointwise
  simp only [at280 A H, at251 A, at242 A, at254 A, at253 A, Finset.univ_unique, Finset.sum_singleton]; rfl
include H in
theorem reE (k : Fin 512) : Re (dl m c b s k * gg m c (ix1 k)) := by
  have hz := reA H b s k 2
  have hl := reL H b s k
  refine Re.mul (Re.mul ((H.1 _).mul (hz.mul hz.logistic)) ?_) (H.2.2.2.2.1 _)
  exact hl.logistic.mul (Re.one.add (hl.mul (Re.one.sub hl.logistic)))
include A H in
theorem at305 : res_main_v305 V0 (ix3 b s k) = dcv m c b s k := by
  refine Eq.trans ?_ (lnVjp_eq (reV H b s) (reE H b s) k)
  unfold res_main_v305; pointwise
  simp only [at286 A H, at295 A H, Finset.univ_unique, Finset.sum_singleton]; rfl
end values

end Cert.ConvBwdRefIdeal.Read

end
-- ==== Proof.ConvBwdStep.lean ====
/- What each grid point of the causal convolution's backward call leaves in the result windows and carries to the next. -/
module

public import proofs.«01_k».proof.Proof.ConvBwdValue

@[expose] public section

set_option maxRecDepth 16384

noncomputable section

open Idealize.ShloMosaic Idealize.ShloMosaic.TcCoe Idealize.SL.Sem
open Idealize.ShloMosaic.Pipeline (Dat)

namespace Cert.ConvBwdIdeal.Value
open Cert.ConvBwdIdeal Cert.ConvBwdIdeal.Gen Cert.Gates

variable (m : (ℓ : Loc nD τ sig) → Buf (Elt Ideal) ℓ)

/-- A point's share of a sum over the positions. -/
def shr (f : Fin 2 → Fin 4096 → EReal) (p : ℕ) : EReal := ∑ i : Fin 256, f ⟨p / 16 % 2, by omega⟩ ⟨(15 - p % 16) * 256 + i.val, by omega⟩

theorem shr_pt (f : Fin 2 → Fin 4096 → EReal) (t : Fin cfg0.N) : shr f t.val = ∑ i, f (bat t) (pos t i) := by
  have h := lt32 t
  refine Finset.sum_congr rfl fun q _ => congrArg₂ f (Fin.ext ?_) rfl
  show t.val / 16 % 2 = t.val / 16; omega

/-- All points' shares together are the sum over the positions. -/
theorem sum_shr (f : Fin 2 → Fin 4096 → EReal) (k : ℕ) (hk : k = 0) : ∑ s : Fin 32, shr f (32 * k + s.val) = ∑ a, ∑ n, f a n := by
  refine (Fin.sum_mul_add_fin 2 16 fun s : Fin 32 => shr f (32 * k + s.val)).symm.trans (Finset.sum_congr rfl fun a _ => ?_)
  refine Eq.trans ?_ (Fin.sum_mul_add_fin 16 256 (f a))
  refine Eq.trans ?_ (Equiv.sum_comp Fin.revPerm _)
  refine Finset.sum_congr rfl fun p _ => Finset.sum_congr rfl fun q _ => ?_
  refine congrArg₂ f (Fin.ext ?_) (Fin.ext ?_)
  · show (32 * k + (a.val * 16 + p.val)) / 16 % 2 = a.val; omega
  · show (15 - (32 * k + (a.val * 16 + p.val)) % 16) * 256 + q.val = (16 - (p.val + 1)) * 256 + q.val; omega

section points
variable (c : Dev nD) (t : Fin cfg0.N)

abbrev q0 : S1x256x512.Idx → EReal := iblk m c 0 t
abbrev q1 : S1x256x512.Idx → EReal := iblk m c 1 t
abbrev q2 : S1x256x512.Idx → EReal := X0_2 m c t
abbrev q3 : S1x256x512.Idx → EReal := X0_3 m c t
abbrev q4 : S1x256x512.Idx → EReal := X0_4 m c t
abbrev q5 : S32x512.Idx → EReal := iblk m c 5 t
abbrev q6 : S1x512.Idx → EReal := iblk m c 6 t
abbrev q7 : S1x512.Idx → EReal := iblk m c 7 t

/-- The point's rows. -/
abbrev tR : S256x1.Idx → EReal := pR (q1 m c t)
abbrev tN : S256x512.Idx → EReal := pN (q1 m c t)
abbrev tD : S256x512.Idx → EReal := pD (q0 m c t) (q1 m c t) (q4 m c t) (q6 m c t) (q7 m c t)
abbrev tZ : S256x512.Idx → EReal := pZ (q0 m c t) (q1 m c t) (q4 m c t) (q6 m c t) (q7 m c t)
abbrev tM : S256x512.Idx → EReal := pM (q0 m c t) (q1 m c t) (q4 m c t) (q6 m c t) (q7 m c t)
abbrev tS : S256x1.Idx → EReal := pS (q0 m c t) (q1 m c t) (q4 m c t) (q6 m c t) (q7 m c t)
abbrev tC : S256x512.Idx → EReal := pC (q0 m c t) (q1 m c t) (q4 m c t) (q6 m c t) (q7 m c t)
abbrev tV : S256x512.Idx → EReal := k0_pay6 (F := Ideal) (q2 m c t)
abbrev tG : S256x512.Idx → EReal := k0_pay7 (F := Ideal) (q3 m c t)

variable (p : Fin 256) (k : Fin 512)

theorem N_pt : tN m c t (ix2 p k) = nrm (cv m c (bat t) (pos t p)) k := by
  refine (N_at _ p k).trans ?_
  simp only [rd1]
theorem D_pt : tD m c t (ix2 p k) = dl m c (bat t) (pos t p) k := by
  refine (D_at _ _ _ _ _ p k).trans ?_
  simp only [rd0, rd1, rd4, rd6, rd7]; rfl
theorem Z_pt : tZ m c t (ix2 p k) = dL (dO m c (ix3 (bat t) (pos t p) k)) (aa m c 2 (bat t) (pos t p) k) (lnv m c (bat t) (pos t p) k) := by
  refine (Z_at _ _ _ _ _ p k).trans ?_
  simp only [rd0, rd1, rd4, rd6, rd7]; rfl
theorem C_pt : tC m c t (ix2 p k) = dcv m c (bat t) (pos t p) k := by
  refine (C_at _ _ _ _ _ p k).trans ?_
  simp only [D_pt, rd1, rd6]; rfl
theorem A_pt : k0_pay30 (F := Ideal) (tV m c t) (tG m c t) (ix2 p k) = aV m c (bat t) (pos t p) k := by
  exact (A_at _ _ p k).trans (congrArg₂ (fun x y => x * Ideal.logistic y) (rd2 m c t 0 p k) (rd3 m c t 0 p k))
theorem G_pt : k0_pay29 (F := Ideal) (tG m c t) (ix2 p k) = Ideal.logistic (aa m c 1 (bat t) (pos t p) k) := by
  exact (G_at _ p k).trans (congrArg Ideal.logistic (rd3 m c t 0 p k))
theorem V_pt : tV m c t (ix2 p k) = aa m c 0 (bat t) (pos t p) k := (Va_at _ p k).trans (rd2 m c t 0 p k)

section carried
variable (K : S32x512.Idx → EReal) (hK : ∀ (q : Fin 32) (k : Fin 512), K (ix2 q k) = dcz m c (bat t) ((15 - t.val % 16) * 256 + 256 + q.val) k)
include hK

theorem E_pt (q : Fin 288) : ext K (tR m c t) (tS m c t) (tN m c t) (tM m c t) (ix2 q k) = dcz m c (bat t) ((15 - t.val % 16) * 256 + q.val) k := by
  rw [ext_at]
  by_cases h : q.val < 256
  · rw [dif_pos h]
    refine (C_pt m c t ⟨q.val, h⟩ k).trans ?_
    unfold dcz
    rw [dif_pos (by omega)]; rfl
  · rw [dif_neg h, hK]
    refine congrArg (fun r => dcz m c (bat t) r k) ?_
    show (15 - t.val % 16) * 256 + 256 + (q.val - 256) = _
    omega

theorem da_pt : s31 K (k0_pay10 (F := Ideal) (q5 m c t)) (tR m c t) (tS m c t) (tN m c t) (tM m c t) (ix2 p k) = da m c (bat t) (pos t p) k := by
  rw [s31_at]
  refine Finset.sum_congr rfl fun n hn => ?_
  have hn : n < 31 := Finset.mem_range.mp hn
  unfold tap
  rw [dif_pos hn, E_pt m c t k K hK, w_at]
  refine (congrArg (_ * ·) (rd5 m c t _ k)).trans ?_
  refine congrArg (fun r => dcz m c (bat t) r k * tp m c n k) ?_
  show (15 - t.val % 16) * 256 + (30 - n + p.val) = 30 - n + ((15 - t.val % 16) * 256 + p.val)
  omega

theorem row_pt (n : ℕ) : row (k0_pay30 (F := Ideal) (tV m c t) (tG m c t)) k (ext K (tR m c t) (tS m c t) (tN m c t) (tM m c t)) n = shr (fT m c n k) t.val := by
  rw [shr_pt]
  unfold row fT
  by_cases h : n < 31
  · rw [dif_pos h]
    simp only [if_pos h]
    refine Finset.sum_congr rfl fun i _ => ?_
    rw [E_pt m c t k K hK, A_pt]
    refine congrArg (fun r => dcz m c (bat t) r k * aV m c (bat t) (pos t i) k) ?_
    show (15 - t.val % 16) * 256 + (30 - n + i.val) = 30 - n + ((15 - t.val % 16) * 256 + i.val)
    omega
  · rw [dif_neg h]
    simp only [if_neg h]
    exact Finset.sum_const_zero.symm

/-- What the point adds to the gradient of the taps. -/
theorem taps_pt (P : S32x512.Idx → EReal) (j : Fin 32) :
    rowsOf K (tR m c t) (tS m c t) (tN m c t) (tM m c t) (tV m c t) (tG m c t) P (ix2 j k) = P (ix2 j k) + shr (fT m c j.val k) t.val :=
  (rowsOf_at _ _ _ _ _ _ _ k P j).trans (congrArg (P (ix2 j k) + ·) (row_pt m c t k K hK j.val))

/-- The gradients of the three parts. -/
theorem oV (u : Fin 1) : k0_pay107 (F := Ideal) (k0_pay29 (F := Ideal) (tG m c t)) (s31 K (k0_pay10 (F := Ideal) (q5 m c t)) (tR m c t) (tS m c t) (tN m c t) (tM m c t)) (ix3 u p k)
    = dP m c 0 (bat t) (pos t p) k := by
  rw [val_at, da_pt m c t p k K hK, G_pt]; rfl
theorem oG (u : Fin 1) : k0_pay108 (F := Ideal) (tV m c t) (k0_pay29 (F := Ideal) (tG m c t)) (s31 K (k0_pay10 (F := Ideal) (q5 m c t)) (tR m c t) (tS m c t) (tN m c t) (tM m c t)) (ix3 u p k)
    = dP m c 1 (bat t) (pos t p) k := by
  rw [glu_at, da_pt m c t p k K hK, G_pt, V_pt]; rfl
end carried

theorem oZ (u : Fin 1) : k0_pay109 (F := Ideal) (tZ m c t) (ix3 u p k) = dP m c 2 (bat t) (pos t p) k := by
  rw [gate_at, Z_pt]; rfl

/-- What the point adds to the rows of the bias, the scale and the shift. -/
theorem rows_pt (P : S8x512.Idx → EReal) (r : Fin 8) :
    k0_pay1 (F := Ideal) (k0_pay26 (tN m c t) (tD m c t)) (k0_pay27 (tD m c t)) (k0_pay105 (tC m c t)) P (ix2 r k) = P (ix2 r k) + shr (fR m c r.val k) t.val := by
  refine (rows_at (tN m c t) (tC m c t) (tD m c t) k P r).trans (congrArg (P (ix2 r k) + ·) ?_)
  rw [shr_pt]
  unfold fR
  split_ifs
  · exact Finset.sum_congr rfl fun i _ => C_pt m c t i k
  · exact Finset.sum_congr rfl fun i _ => by rw [D_pt, N_pt]
  · exact Finset.sum_congr rfl fun i _ => D_pt m c t i k
  · exact Finset.sum_const_zero.symm
end points

/-- The first rows of a block are carried to the next point, the block before it in the sequence. -/
theorem carried (c : Dev nD) (t : Fin cfg0.N) (q : Fin 32) (k : Fin 512) : (outsAt0 m c t.val t.isLt).2.2.2 (ix2 q k) = dcv m c (bat t) (pos t ⟨q.val, by omega⟩) k := by
  by_cases h0 : t.val % 32 = 0
  · rw [outsAt0_A m c t h0 (by omega)]; frame_out
    exact (carry_at _ _ _).trans (C_pt m c t _ k)
  · by_cases h1 : t.val % 16 = 0
    · rw [outsAt0_C m c t h0 h1]; frame_out
      exact (carry_at _ _ _).trans (C_pt m c t _ k)
    · rw [outsAt0_B m c t h0 h1]; frame_out
      exact (carry_at _ _ _).trans (C_pt m c t _ k)

end Cert.ConvBwdIdeal.Value

end
-- ==== Proof.ConvBwdFinal.lean ====
/- The four arrays the causal convolution's backward call leaves: the gradients of the three parts as one array, those of the taps, and the rows of the
bias, the scale and the shift. -/
module

public import proofs.«01_k».proof.Proof.ConvBwdStep

@[expose] public section

set_option maxRecDepth 16384

noncomputable section

open Idealize.ShloMosaic Idealize.ShloMosaic.TcCoe Idealize.SL.Sem
open Idealize.ShloMosaic.Pipeline (Dat)

namespace Cert.ConvBwdIdeal.Value
open Cert.ConvBwdIdeal Cert.ConvBwdIdeal.Gen Cert.Gates

variable (m : (ℓ : Loc nD τ sig) → Buf (Elt Ideal) ℓ)

/-- What the point before leaves. -/
abbrev before (c : Dev nD) (t : Fin cfg0.N) := outsAt0 m c (t.val - 1) (Nat.lt_of_le_of_lt (Nat.sub_le _ _) t.isLt)

/-- Nothing follows the last block of a sequence; the others are followed by the rows carried. -/
theorem none_after (c : Dev nD) (t : Fin cfg0.N) (h1 : t.val % 16 = 0) (q : Fin 32) (k : Fin 512) :
    k0_pay4 (F := Ideal) (ix2 q k) = dcz m c (bat t) ((15 - t.val % 16) * 256 + 256 + q.val) k := by
  rw [zero4_at]
  unfold dcz
  rw [dif_neg (by omega)]
theorem rows_after (c : Dev nD) (t : Fin cfg0.N) (h1 : ¬ t.val % 16 = 0) (q : Fin 32) (k : Fin 512) :
    (before m c t).2.2.2 (ix2 q k) = dcz m c (bat t) ((15 - t.val % 16) * 256 + 256 + q.val) k := by
  have ht := lt32 t
  refine (carried m c ⟨t.val - 1, by omega⟩ q k).trans ?_
  unfold dcz
  rw [dif_pos (by omega)]
  refine congrArg₂ (fun b s => dcv m c b s k) (Fin.ext ?_) (Fin.ext ?_)
  · show (t.val - 1) / 16 = t.val / 16; omega
  · show (15 - (t.val - 1) % 16) * 256 + q.val = (15 - t.val % 16) * 256 + 256 + q.val; omega

theorem taps_first (c : Dev nD) (t : Fin cfg0.N) (h0 : t.val % 32 = 0) (j : Fin 32) (k : Fin 512) :
    (outsAt0 m c t.val t.isLt).2.1 (ix2 j k) = shr (fT m c j.val k) t.val := by
  rw [outsAt0_A m c t h0 (by omega)]; frame_out
  exact (taps_pt m c t k _ (none_after m c t (by omega)) _ j).trans ((congrArg (· + _) (zero2_at k j)).trans (zero_add _))
theorem taps_next (c : Dev nD) (t : Fin cfg0.N) (h0 : ¬ t.val % 32 = 0) (j : Fin 32) (k : Fin 512) :
    (outsAt0 m c t.val t.isLt).2.1 (ix2 j k) = (before m c t).2.1 (ix2 j k) + shr (fT m c j.val k) t.val := by
  by_cases h1 : t.val % 16 = 0
  · rw [outsAt0_C m c t h0 h1]; frame_out
    exact taps_pt m c t k _ (none_after m c t h1) _ j
  · rw [outsAt0_B m c t h0 h1]; frame_out
    rw [read_unread_whole]
    exact taps_pt m c t k _ (rows_after m c t h1) _ j

theorem rows_first (c : Dev nD) (t : Fin cfg0.N) (h0 : t.val % 32 = 0) (r : Fin 8) (k : Fin 512) :
    (outsAt0 m c t.val t.isLt).2.2.1 (ix2 r k) = shr (fR m c r.val k) t.val := by
  rw [outsAt0_A m c t h0 (by omega)]; frame_out
  exact (rows_pt m c t k _ r).trans ((congrArg (· + _) (zero3_at k r)).trans (zero_add _))
theorem rows_next (c : Dev nD) (t : Fin cfg0.N) (h0 : ¬ t.val % 32 = 0) (r : Fin 8) (k : Fin 512) :
    (outsAt0 m c t.val t.isLt).2.2.1 (ix2 r k) = (before m c t).2.2.1 (ix2 r k) + shr (fR m c r.val k) t.val := by
  by_cases h1 : t.val % 16 = 0
  · rw [outsAt0_C m c t h0 h1]; frame_out
    exact rows_pt m c t k _ r
  · rw [outsAt0_B m c t h0 h1]; frame_out
    exact rows_pt m c t k _ r

theorem final9 (c : Dev nD) : (dats m 0 c).arrAt 9 (cfgs 0).N = fun j : S32x512.Idx => ∑ a, ∑ n, fT m c (j 0).val (j 1) a n := by
  refine (dats m 0 c).arrAt_eq_of_covers 9 _ (by decide +kernel) fun t hf y => ?_
  have e0 : (((View.whole main_v240_1).slice (win0_9.rect t)).emb y) 0 = y 0 := by refine Fin.ext ?_; blk_simp [idx t]
  have e1 : (((View.whole main_v240_1).slice (win0_9.rect t)).emb y) 1 = y 1 := by refine Fin.ext ?_; blk_simp [idx t]
  blk_simp
  rw [after0_9, Pipeline.eq_sum_fin_of_reset_step_apply_of_flush (fun n h => (outsAt0 m c n h).2.1) 32 (fun _ => 0)
    (fun p j => shr (fT m c (j 0).val (j 1)) p)
    (fun t h j => by idx_vars j; exact (taps_first m c t h _ _).trans (zero_add _).symm)
    (fun t h j => by idx_vars j; exact taps_next m c t h _ _)
    t ((flush0_9 t).mp hf) _, zero_add]
  have e : win0_9.index t 0 * 32 + (y 0).val = (y 0).val := by simp [idx t]
  simp only [e0, e1, e]
  exact sum_shr (fT m c (y 0).val (y 1)) (t.val / 32) (by have := lt32 t; omega)

theorem final10 (c : Dev nD) : (dats m 0 c).arrAt 10 (cfgs 0).N = fun j : S8x512.Idx => ∑ a, ∑ n, fR m c (j 0).val (j 1) a n := by
  refine (dats m 0 c).arrAt_eq_of_covers 10 _ (by decide +kernel) fun t hf y => ?_
  have e0 : (((View.whole main_v240_2).slice (win0_10.rect t)).emb y) 0 = y 0 := by refine Fin.ext ?_; blk_simp [idx t]
  have e1 : (((View.whole main_v240_2).slice (win0_10.rect t)).emb y) 1 = y 1 := by refine Fin.ext ?_; blk_simp [idx t]
  blk_simp
  rw [after0_10, Pipeline.eq_sum_fin_of_reset_step_apply_of_flush (fun n h => (outsAt0 m c n h).2.2.1) 32 (fun _ => 0)
    (fun p j => shr (fR m c (j 0).val (j 1)) p)
    (fun t h j => by idx_vars j; exact (rows_first m c t h _ _).trans (zero_add _).symm)
    (fun t h j => by idx_vars j; exact rows_next m c t h _ _)
    t ((flush0_10 t).mp hf) _, zero_add]
  have e : win0_10.index t 0 * 8 + (y 0).val = (y 0).val := by simp [idx t]
  simp only [e0, e1, e]
  exact sum_shr (fR m c (y 0).val (y 1)) (t.val / 32) (by have := lt32 t; omega)

/-- The three parts' columns side by side. -/
def prt (x : Fin 1536) : Fin 3 := ⟨x.val / 512, by omega⟩
def pk (x : Fin 1536) : Fin 512 := ⟨x.val % 512, by omega⟩

theorem place (c : Dev nD) (t : Fin cfg0.N) (n : Fin 3) {y1 x1 : Fin 256} {y2 : Fin 1536} {x2 : Fin 512} (h1 : y1.val = x1.val) (h2 : y2.val = n.val * 512 + x2.val) :
    dP m c n (bat t) (pos t x1) x2 = dP m c (prt y2) (bat t) (pos t y1) (pk y2) := by
  rw [show prt y2 = n from Fin.ext (by show y2.val / 512 = n.val; omega), show pk y2 = x2 from Fin.ext (by show y2.val % 512 = x2.val; omega), Fin.ext h1]

set_option maxHeartbeats 800000 in
theorem final8 (c : Dev nD) : (dats m 0 c).arrAt 8 (cfgs 0).N = fun j : S2x4096x1536.Idx => dP m c (prt (j 2)) (j 0) (j 1) (pk (j 2)) := by
  refine (dats m 0 c).arrAt_eq_of_covers 8 _ (by decide +kernel) fun t _ y => ?_
  have e0 : (((View.whole main_v240_0).slice (win0_8.rect t)).emb y) 0 = bat t := by
    refine Fin.ext ?_; blk_simp [idx t, bat]
  have e1 : (((View.whole main_v240_0).slice (win0_8.rect t)).emb y) 1 = pos t (y 1) := by
    refine Fin.ext ?_; blk_simp [idx t, pos]
  have e2 : (((View.whole main_v240_0).slice (win0_8.rect t)).emb y) 2 = y 2 := by
    refine Fin.ext ?_; blk_simp [idx t]
  blk_simp
  rw [after0_8]
  by_cases h1 : t.val % 16 = 0
  · have hK := none_after m c t h1
    by_cases h0 : t.val % 32 = 0
    · rw [outsAt0_A m c t h0 h1]; frame_out
      simp only [e0, e1, e2]
      canon_tiles x h
      · idx_vars x; exact (oZ m c t _ _ _).trans (place m c t 2 h1 (h2.trans (by simp)))
      · idx_vars x; exact (oG m c t _ _ _ hK _).trans (place m c t 1 h1 (h2.trans (by simp)))
      · idx_vars x; exact (oV m c t _ _ _ hK _).trans (place m c t 0 h1 (h2.trans (by simp)))
    · rw [outsAt0_C m c t h0 h1]; frame_out
      simp only [e0, e1, e2]
      canon_tiles x h
      · idx_vars x; exact (oZ m c t _ _ _).trans (place m c t 2 h1 (h2.trans (by simp)))
      · idx_vars x; exact (oG m c t _ _ _ hK _).trans (place m c t 1 h1 (h2.trans (by simp)))
      · idx_vars x; exact (oV m c t _ _ _ hK _).trans (place m c t 0 h1 (h2.trans (by simp)))
  · rw [outsAt0_B m c t (by omega) h1]; frame_out
    have hK := rows_after m c t h1
    simp only [e0, e1, e2]
    repeat rw [read_unread_whole]
    canon_tiles x h
    · idx_vars x; exact (oZ m c t _ _ _).trans (place m c t 2 h1 (h2.trans (by simp)))
    · idx_vars x; exact (oG m c t _ _ _ hK _).trans (place m c t 1 h1 (h2.trans (by simp)))
    · idx_vars x; exact (oV m c t _ _ _ hK _).trans (place m c t 0 h1 (h2.trans (by simp)))

end Cert.ConvBwdIdeal.Value

end
-- ==== Proof.ConvBwdEnd.lean ====
/- The causal convolution's gradient: the sums over the 31 taps, and the three arrays in their final layout. -/
module

public import proofs.«01_k».proof.Proof.ConvBwdMid
public import proofs.«01_k».proof.Proof.ConvBwdFinal
public import proofs.«01_k».proof.Proof.GatesReal
public import proofs.«01_k».proof.Proof.Gen.ConvBwdRefIdeal.Run

@[expose] public section

set_option maxRecDepth 16384

noncomputable section

open Idealize.ShloMosaic Idealize.ShloMosaic.TcCoe Idealize.SL.Sem Idealize.ShloMosaic.StableHlo

namespace Cert.ConvBwdRefIdeal.Read
open Cert.ConvBwdRefIdeal Cert.ConvBwdRefIdeal.Gen Cert.ConvBwdRefIdeal.Value Cert.Gates
open Cert.ConvBwdIdeal.Value (dO pr dw db gg bb aa aV gx tp cv lnv dl dcv dcz da dP dL sit fT fR prt pk)

/-- Reading one padded array of the input's gradient. -/
theorem shift_at (X : S2x4096x512.Idx → EReal) (j : ℕ) (h : S2x4096x512.Pads ![0, j, 0] ![0, 30 - j, 0] ![0, 0, 0] S2x4126x512) (b : Fin 2) (r : Fin 4126) (k : Fin 512) :
    pad (α := EReal) S2x4126x512 ![0, j, 0] ![0, 30 - j, 0] ![0, 0, 0] X (constant (F := Ideal) S_ .f32 0x00000000#32) h h_S_ (ix3 b r k)
      = if h : j ≤ r.val ∧ r.val - j < 4096 then X (ix3 b ⟨r.val - j, h.2⟩ k) else 0 := by
  pointwise
/-- One tap's row among the 31. -/
theorem tap_at (R : S1x512.Idx → EReal) (j : ℕ) (h : S1x512.Pads ![j, 0] ![30 - j, 0] ![0, 0] S31x512) (r : Fin 31) (k : Fin 512) :
    pad (α := EReal) S31x512 ![j, 0] ![30 - j, 0] ![0, 0] R (constant (F := Ideal) S_ .f32 0x00000000#32) h h_S_ (ix2 r k)
      = if r.val = j then R (ix2 0 k) else 0 := by
  pointwise
  by_cases e : r.val = j
  · rw [if_pos e, dif_pos (by omega)]
    exact congrArg (fun i => R (ix2 i k)) (Fin.ext (by show r.val - j = 0; omega))
  · rw [if_neg e, dif_neg (by omega)]
/-- An array summed over batch and position. -/
theorem row_at (Y : S2x4096x512.Idx → EReal) (x : Fin 512) :
    broadcastInDim S1x512 ![1] bcast_S512_S1x512_1 (Host.reduceAdd (F := Ideal) (φ := .f32) (shapeCast S1x1x512 (Host.reduceAdd (F := Ideal) (φ := .f32) Y (constant (F := Ideal) S_ .f32 0x00000000#32) reducesTo_S2x4096x512_S512_d0_1 h_S_) shapeCasts_S512_S1x1x512)
      (constant (F := Ideal) S_ .f32 0x00000000#32) reducesTo_S1x1x512_S512_d0_1 h_S_) (ix2 0 x) = ∑ a, ∑ s, Y (ix3 a s x) := by
  pointwise
  simp only [Finset.univ_unique, Finset.sum_singleton]

/-- The 31 terms from the last to the first, in the order in which the gradient adds them. -/
theorem down31 (f : ℕ → EReal) : ∑ n ∈ Finset.range 31, f n
    = f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 := by
  simp only [Finset.sum_range_succ', Finset.sum_range_zero, zero_add, Nat.reduceAdd]

section values
variable {m : (ℓ : Loc ConvBwdIdeal.nD ConvBwdIdeal.τ ConvBwdIdeal.sig) → Buf (Elt Ideal) ℓ} {c : Dev ConvBwdIdeal.nD} {V0 : Valuation τ sig (Elt Ideal)}
  (A : Ag m c V0) (H : Real6 m c) (b : Fin 2) (s : Fin 4096) (k : Fin 512)

include A H in
theorem padj_at (j : ℕ) (hj : j < 31) (h : S2x4096x512.Pads ![0, j, 0] ![0, 30 - j, 0] ![0, 0, 0] S2x4126x512) (h' : S31x512.Slices ![j, 0] S1x512) :
    pad (α := EReal) S2x4126x512 ![0, j, 0] ![0, 30 - j, 0] ![0, 0, 0] (mulf (res_main_v305 V0) (spread (V0 (Proc.devRef .tc main_arg2)) j h')) (constant (F := Ideal) S_ .f32 0x00000000#32) h h_S_ (ix3 b ⟨s.val + 30, by omega⟩ k)
      = dcz m c b (30 - j + s.val) k * tp m c j k := by
  refine (shift_at _ j h b _ k).trans ?_
  unfold dcz
  by_cases e : 30 - j + s.val < 4096
  · rw [dif_pos (show j ≤ s.val + 30 ∧ s.val + 30 - j < 4096 by omega), dif_pos e, ← at305 A H b ⟨30 - j + s.val, e⟩ k, ← taps_at A b ⟨30 - j + s.val, e⟩ k j hj h',
      show (⟨s.val + 30 - j, by omega⟩ : Fin 4096) = ⟨30 - j + s.val, e⟩ from Fin.ext (by show s.val + 30 - j = 30 - j + s.val; omega)]
    rfl
  · rw [dif_neg (show ¬ (j ≤ s.val + 30 ∧ s.val + 30 - j < 4096) by omega), dif_neg e, zero_mul]

include A H in
set_option maxHeartbeats 1600000 in
theorem at649 : res_main_v649 V0 (ix3 b s k) = da m c b s k := by
  have e : res_main_v649 V0 (ix3 b s k) = res_main_v647 V0 (ix3 b ⟨s.val + 30, by omega⟩ k) := by
    unfold res_main_v649; pointwise; blk_ext
  rw [e]
  unfold res_main_v647 res_main_v482 da
  rw [down31]
  repeat' refine add_pad_at _ _ ?_ (padj_at A H b s k _ (by omega) _ _)
  exact padj_at A H b s k _ (by omega) _ _

include A H in
theorem rowj_at (r : Fin 31) (j : ℕ) (hj : j < 31) (h : S1x512.Pads ![j, 0] ![30 - j, 0] ![0, 0] S31x512) (h' : S2x4126x512.Slices ![0, j, 0] S2x4096x512) :
    pad (α := EReal) S31x512 ![j, 0] ![30 - j, 0] ![0, 0] (broadcastInDim S1x512 ![1] bcast_S512_S1x512_1 (Host.reduceAdd (F := Ideal) (φ := .f32) (shapeCast S1x1x512 (Host.reduceAdd (F := Ideal) (φ := .f32) (mulf (extractStridedSlice S2x4096x512 ![0, j, 0] (res_main_v14 V0) h') (res_main_v305 V0)) (constant (F := Ideal) S_ .f32 0x00000000#32) reducesTo_S2x4096x512_S512_d0_1 h_S_) shapeCasts_S512_S1x1x512)
      (constant (F := Ideal) S_ .f32 0x00000000#32) reducesTo_S1x1x512_S512_d0_1 h_S_)) (constant (F := Ideal) S_ .f32 0x00000000#32) h h_S_ (ix2 r k)
      = if r.val = j then ∑ a, ∑ s : Fin 4096, gx m c a (s.val + j) k * dcv m c a s k else 0 := by
  refine (tap_at _ j h r k).trans ?_
  rw [row_at]
  refine congrArg (fun z => if r.val = j then z else 0) (Finset.sum_congr rfl fun a _ => Finset.sum_congr rfl fun s _ => ?_)
  exact congrArg₂ (· * ·) (slice_at A a s k j hj h') (at305 A H a s k)

/-- Multiplying the shifted input by the cotangent, or the shifted cotangent by the input, sums to the same. -/
theorem slide (n : ℕ) (hn : n < 31) : ∑ s : Fin 4096, gx m c b (s.val + n) k * dcv m c b s k = ∑ s : Fin 4096, dcz m c b (30 - n + s.val) k * aV m c b s k := by
  have hi : ∀ r, ¬ r < 4096 → dcz m c b r k = 0 := fun r h => dif_neg h
  have lo : ∀ r, r < 30 → gx m c b r k = 0 := fun r h => dif_neg (by omega)
  have e1 : ∀ s : Fin 4096, dcv m c b s k = dcz m c b s.val k := fun s => by unfold dcz; rw [dif_pos s.isLt]
  have e2 : ∀ s : Fin 4096, aV m c b s k = gx m c b (s.val + 30) k := fun s => by unfold gx; rw [dif_pos (show 30 ≤ s.val + 30 ∧ s.val + 30 < 4126 by omega)]; rfl
  simp only [e1, e2]
  rw [Fin.sum_univ_eq_sum_range (fun s => gx m c b (s + n) k * dcz m c b s k) 4096, Fin.sum_univ_eq_sum_range (fun s => dcz m c b (30 - n + s) k * gx m c b (s + 30) k) 4096]
  trans ∑ s ∈ Finset.range (4096 + (30 - n)), gx m c b (s + n) k * dcz m c b s k
  · rw [Finset.sum_range_add]
    refine ((congrArg (_ + ·) (Finset.sum_eq_zero fun x _ => ?_)).trans (add_zero _)).symm
    rw [hi _ (by omega), mul_zero]
  · rw [Nat.add_comm, Finset.sum_range_add]
    refine (congrArg (· + _) (Finset.sum_eq_zero fun x hx => ?_)).trans ((zero_add _).trans (Finset.sum_congr rfl fun x _ => ?_))
    · rw [lo _ (by have := Finset.mem_range.mp hx; omega), zero_mul]
    · rw [mul_comm, show 30 - n + x + n = x + 30 by omega]

/-- The taps' gradients before the last row is added. -/
abbrev taps (V0 : Valuation τ sig (Elt Ideal)) : FVec Ideal S31x512 .f32 :=
  addf (res_main_v634 V0) (pad S31x512 ![0, 0] ![30, 0] ![0, 0] (broadcastInDim S1x512 ![1] bcast_S512_S1x512_1 (Host.reduceAdd (shapeCast _ (Host.reduceAdd (mulf (res_main_v16 V0) (res_main_v305 V0)) (constant S_ .f32 0x00000000#32) reducesTo_S2x4096x512_S512_d0_1 h_S_) shapeCasts_S512_S1x1x512) (constant S_ .f32 0x00000000#32) reducesTo_S1x1x512_S512_d0_1 h_S_)) (constant S_ .f32 0x00000000#32) pads_S1x512_S31x512_0300_000 h_S_)

include A H in
set_option maxHeartbeats 1600000 in
theorem taps_eq (r : Fin 31) : taps V0 (ix2 r k) = ∑ a, ∑ s, fT m c r.val k a s := by
  trans ∑ j ∈ Finset.range 31, if r.val = j then ∑ a, ∑ s : Fin 4096, gx m c a (s.val + j) k * dcv m c a s k else 0
  · unfold taps res_main_v634 res_main_v524 res_main_v414
    rw [down31]
    repeat' refine add_row_at _ _ ?_ (rowj_at A H k r _ (by omega) _ _)
    exact rowj_at A H k r _ (by omega) _ _
  · rw [Finset.sum_ite_eq, if_pos (Finset.mem_range.mpr r.isLt)]
    refine Finset.sum_congr rfl fun a _ => (slide a k r.val r.isLt).trans (Finset.sum_congr rfl fun s _ => ?_)
    exact (if_pos r.isLt).symm

theorem rows32 (D : S31x512.Idx → EReal) (j : Fin 32) :
    pad (α := EReal) S32x512 ![0, 0] ![1, 0] ![0, 0] D (sitofp (F := Ideal) .f32 (constantI S_ 32 0#32)) pads_S31x512_S32x512_010_000 h_S_ (ix2 j k) = if h : j.val < 31 then D (ix2 ⟨j.val, h⟩ k) else 0 :=
  ConvBwdIdeal.Value.taps_at D j k

include A H in
theorem taps32 (j : Fin 32) : pad (α := EReal) S32x512 ![0, 0] ![1, 0] ![0, 0] (taps V0) (sitofp (F := Ideal) .f32 (constantI S_ 32 0#32)) pads_S31x512_S32x512_010_000 h_S_ (ix2 j k) = ∑ a, ∑ s, fT m c j.val k a s := by
  rw [rows32 k]
  by_cases h : j.val < 31
  · rw [dif_pos h]; exact taps_eq A H k ⟨j.val, h⟩
  · rw [dif_neg h]
    refine (Finset.sum_eq_zero fun a _ => Finset.sum_eq_zero fun s _ => ?_).symm
    exact if_neg h

theorem rows8 (P Q R : S1x512.Idx → EReal) (r : Fin 8) :
    pad (α := EReal) S8x512 ![0, 0] ![5, 0] ![0, 0] (concatenate (α := EReal) S3x512 0 [⟨S1x512, P⟩, ⟨S1x512, Q⟩, ⟨S1x512, R⟩] concatenates_S1x512_S1x512_S1x512_S3x512_d0) (sitofp (F := Ideal) .f32 (constantI S_ 32 0#32)) pads_S3x512_S8x512_050_000 h_S_ (ix2 r k)
      = if r.val = 0 then P (ix2 0 k) else if r.val = 1 then Q (ix2 0 k) else if r.val = 2 then R (ix2 0 k) else 0 := by
  fin_cases r <;> pointwise
  all_goals simp [FloatOps.sitofp]

include A H in
theorem partA : (mulf (res_main_v649 V0) (res_main_v8 V0) : S2x4096x512.Idx → EReal) (ix3 b s k) = dP m c 0 b s k := by
  pointwise; rw [at649 A H, at8 A]; rfl
include A H in
theorem partB : (mulf (mulf (res_main_v0 V0) (res_main_v649 V0)) (mulf (res_main_v8 V0) (subf (broadcastInDim S2x4096x512 ![] bcast_S_S2x4096x512 (constant S_ .f32 0x3F800000#32)) (res_main_v8 V0))) : S2x4096x512.Idx → EReal) (ix3 b s k) = dP m c 1 b s k := by
  pointwise; rw [at649 A H, at8 A, at0 A, mul_comm (aa m c 0 b s k), ← mul_assoc]; rfl
include A H in
theorem partC : (addf (mulf (res_main_v269 V0) (res_main_v267_2 V0)) (mulf (mulf (res_main_v2 V0) (res_main_v269 V0)) (mulf (res_main_v267_2 V0) (subf (broadcastInDim S2x4096x512 ![] bcast_S_S2x4096x512 (constant S_ .f32 0x3F800000#32)) (res_main_v267_2 V0)))) : S2x4096x512.Idx → EReal) (ix3 b s k) = dP m c 2 b s k := by
  pointwise; rw [at269 A, at267 A, at2 A]
  refine (silu_vjp (reA H b s k 2) (((reL H b s k).mul (reL H b s k).logistic).mul (H.1 _))).trans ?_
  rw [mul_comm _ (dO m c _)]; rfl

theorem cat3 (X Y Z : S2x4096x512.Idx → EReal) (x : Fin 1536) :
    concatenate (α := EReal) S2x4096x1536 2 [⟨S2x4096x512, X⟩, ⟨S2x4096x512, Y⟩, ⟨S2x4096x512, Z⟩] concatenates_S2x4096x512_S2x4096x512_S2x4096x512_S2x4096x1536_d2 (ix3 b s x)
      = (![X, Y, Z] (prt x) : S2x4096x512.Idx → EReal) (ix3 b s (pk x)) := by
  pointwise
  have hx := x.isLt
  have at_ (p : Fin 3) (q : Fin 512) (e : x.val = 512 * p.val + q.val) : (![X, Y, Z] p : S2x4096x512.Idx → EReal) (ix3 b s q) = (![X, Y, Z] (prt x) : S2x4096x512.Idx → EReal) (ix3 b s (pk x)) := by
    rw [show prt x = p from Fin.ext (by show x.val / 512 = p.val; omega), show pk x = q from Fin.ext (by show x.val % 512 = q.val; omega)]
  by_cases h0 : x.val < 512
  · rw [dif_pos h0]; exact at_ 0 ⟨x.val, h0⟩ (by show x.val = 512 * 0 + x.val; omega)
  rw [dif_neg h0]
  by_cases h1 : x.val - 512 < 512
  · rw [dif_pos h1]; exact at_ 1 ⟨x.val - 512, h1⟩ (by show x.val = 512 * 1 + (x.val - 512); omega)
  · rw [dif_neg h1]; exact at_ 2 ⟨x.val - 512 - 512, by omega⟩ (by show x.val = 512 * 2 + (x.val - 512 - 512); omega)

include A H in
/-- The three column blocks side by side. -/
theorem columns (p : Fin 3) : (![mulf (res_main_v649 V0) (res_main_v8 V0), mulf (mulf (res_main_v0 V0) (res_main_v649 V0)) (mulf (res_main_v8 V0) (subf (broadcastInDim S2x4096x512 ![] bcast_S_S2x4096x512 (constant S_ .f32 0x3F800000#32)) (res_main_v8 V0))),
    addf (mulf (res_main_v269 V0) (res_main_v267_2 V0)) (mulf (mulf (res_main_v2 V0) (res_main_v269 V0)) (mulf (res_main_v267_2 V0) (subf (broadcastInDim S2x4096x512 ![] bcast_S_S2x4096x512 (constant S_ .f32 0x3F800000#32)) (res_main_v267_2 V0))))] p : S2x4096x512.Idx → EReal) (ix3 b s k) = dP m c p b s k :=
  match p with
  | 0 => partA A H b s k
  | 1 => partB A H b s k
  | 2 => partC A H b s k
end values

end Cert.ConvBwdRefIdeal.Read

end
-- ==== Proof.ConvClaim.lean ====
/- The causal convolution's backward call against `jax.vjp` of the convolution: from finite arguments, the same three arrays. -/
module

public import proofs.«01_k».proof.Proof.ConvBwdEnd
public import proofs.«01_k».proof.Proof.Gen.ConvBwdIdeal.Value
public import proofs.«01_k».proof.Proof.Gen.Pre_finite_conv
public import proofs.«01_k».proof.Proof.Gen.ConvBwdRefIdeal.Run
public import proofs.«01_k».proof.Defs
public import Idealize.ShloMosaic.Lib.Quiescent

@[expose] public section

set_option maxRecDepth 16384

noncomputable section

open Idealize.ShloMosaic Idealize.ShloMosaic.TcCoe Idealize.SL.Sem Idealize.ShloMosaic.StableHlo
open Idealize.ShloMosaic.Pipeline (Dat)

namespace Cert.ConvBwdIdeal.Value
open Cert.ConvBwdIdeal Cert.ConvBwdIdeal.Gen Cert.Gates Cert.ConvBwdRefIdeal.Read

/-- The precondition, argument by argument: every entry is a real number. -/
theorem real_args (m : (ℓ : Loc nD τ sig) → Buf (Elt Ideal) ℓ) (hpre : Pre_ConvBwdIdeal_finite_conv m) (c : Dev nD) : Real6 m c := by
  have h := hpre c
  obtain ⟨x0, e0⟩ := exists_real_of_cmpf _ h.1
  obtain ⟨x1, e1⟩ := exists_real_of_cmpf _ h.2.1
  obtain ⟨x2, e2⟩ := exists_real_of_cmpf _ h.2.2.1
  obtain ⟨x3, e3⟩ := exists_real_of_cmpf _ h.2.2.2.1
  obtain ⟨x4, e4⟩ := exists_real_of_cmpf _ h.2.2.2.2.1
  obtain ⟨x5, e5⟩ := exists_real_of_cmpf _ h.2.2.2.2.2
  exact ⟨fun i => ⟨x0 i, congrFun e0 i⟩, fun i => ⟨x1 i, congrFun e1 i⟩, fun i => ⟨x2 i, congrFun e2 i⟩, fun i => ⟨x3 i, congrFun e3 i⟩, fun i => ⟨x4 i, congrFun e4 i⟩, fun i => ⟨x5 i, congrFun e5 i⟩⟩

/-- The reference runs, leaves its arguments as they were, and has no counter. -/
theorem refFrame : Cert.quiescent_ConvBwdRefIdeal := fun m ρ _ =>
  (θ_run _ _ _).mono (fun r h => ⟨fun c => (h c).2.2.2, sem_eq_zero_of_no_sems (by decide) r.2⟩) (Cert.ConvBwdRefIdeal.Value.run m ρ)

section refs
variable {m : (ℓ : Loc nD τ sig) → Buf (Elt Ideal) ℓ} {m' : (ℓ : Loc ConvBwdRefIdeal.nD ConvBwdRefIdeal.τ ConvBwdRefIdeal.sig) → Buf (Elt Ideal) ℓ}

set_option maxHeartbeats 1600000 in
theorem ref0 (g' : Dev ConvBwdRefIdeal.nD → PrngReg) (ha : ∀ c, Ag m c (launchContents m' c)) (H : ∀ c, Real6 m c) :
    θ_run ConvBwdRefIdeal.defs (onTc (τ := ConvBwdRefIdeal.τ) (ConvBwdRefIdeal.main (F := Ideal))) ⟨m', fun _ => 0, g'⟩ fun r => ∀ c : Dev ConvBwdIdeal.nD,
      r.2.mem (c.tc.loc ConvBwdRefIdeal.main_v654) = fun j : S2x4096x1536.Idx => dP m c (prt (j 2)) (j 0) (j 1) (pk (j 2)) := by
  refine θ_run_mono (ConvBwdRefIdeal.Value.run m' g') fun r h c => ((h c).1).trans ?_
  clear h r
  funext j
  rw [show j = ix3 (j 0) (j 1) (j 2) from (ix3_eta j).symm]
  exact (cat3 (j 0) (j 1) _ _ _ (j 2)).trans (columns (ha c) (H c) (j 0) (j 1) _ _)

set_option maxHeartbeats 1600000 in
theorem ref1 (g' : Dev ConvBwdRefIdeal.nD → PrngReg) (ha : ∀ c, Ag m c (launchContents m' c)) (H : ∀ c, Real6 m c) :
    θ_run ConvBwdRefIdeal.defs (onTc (τ := ConvBwdRefIdeal.τ) (ConvBwdRefIdeal.main (F := Ideal))) ⟨m', fun _ => 0, g'⟩ fun r => ∀ c : Dev ConvBwdIdeal.nD,
      r.2.mem (c.tc.loc ConvBwdRefIdeal.main_v655) = fun j : S32x512.Idx => ∑ a, ∑ n, fT m c (j 0).val (j 1) a n := by
  refine θ_run_mono (ConvBwdRefIdeal.Value.run m' g') fun r h c => ((h c).2.1).trans ?_
  clear h r
  funext j
  rw [show j = ix2 (j 0) (j 1) from (ix2_eta j).symm]
  exact taps32 (ha c) (H c) (j 1) (j 0)

set_option maxHeartbeats 1600000 in
theorem ref2 (g' : Dev ConvBwdRefIdeal.nD → PrngReg) (ha : ∀ c, Ag m c (launchContents m' c)) (H : ∀ c, Real6 m c) :
    θ_run ConvBwdRefIdeal.defs (onTc (τ := ConvBwdRefIdeal.τ) (ConvBwdRefIdeal.main (F := Ideal))) ⟨m', fun _ => 0, g'⟩ fun r => ∀ c : Dev ConvBwdIdeal.nD,
      r.2.mem (c.tc.loc ConvBwdRefIdeal.main_v660) = fun j : S8x512.Idx => ∑ a, ∑ n, fR m c (j 0).val (j 1) a n := by
  refine θ_run_mono (ConvBwdRefIdeal.Value.run m' g') fun r h c => ((h c).2.2.1).trans ?_
  clear h r
  funext j
  rw [show j = ix2 (j 0) (j 1) from (ix2_eta j).symm]
  refine (rows8 (j 1) _ _ _ (j 0)).trans ?_
  show _ = ∑ a, ∑ n, fR m c (j 0).val (j 1) a n
  unfold fR
  split_ifs
  · exact (row_at _ _).trans (Finset.sum_congr rfl fun a _ => Finset.sum_congr rfl fun s _ => at305 (ha c) (H c) a s (j 1))
  · exact (row_at _ _).trans (Finset.sum_congr rfl fun a _ => Finset.sum_congr rfl fun s _ => (mul_comm _ _).trans (congrArg₂ (· * ·) (at272 (ha c) (H c) a s (j 1)) (at259 (ha c) a s (j 1))))
  · exact (row_at _ _).trans (Finset.sum_congr rfl fun a _ => Finset.sum_congr rfl fun s _ => at272 (ha c) (H c) a s (j 1))
  · simp only [Finset.sum_const_zero]
end refs

theorem convBwd : Cert.algebraic_ConvBwdIdeal_ConvBwdRefIdeal_pre_finite_conv := by
  pair_intro
  · exact run_blocks m g
  · have H := real_args m hpre
    refine θ_run_mono (θ_run_and (ConvBwdRefIdeal.Value.run m' g') (θ_run_and (ref0 g' hagree H) (θ_run_and (ref1 g' hagree H) (ref2 g' hagree H)))) fun r h c => ?_
    obtain ⟨h, h0, h1, h2⟩ := h
    exact ⟨(h0 c).trans (final8 m c).symm, (h1 c).trans (final9 m c).symm, (h2 c).trans (final10 m c).symm, (h c).2.2.2⟩

end Cert.ConvBwdIdeal.Value

end
-- ==== Proof.NormFwdClaim.lean ====
/- The normalisation's forward call against the normalisation as the layer writes it: the same rows, whatever the arguments. -/
module

public import proofs.«01_k».proof.Proof.Rows
public import proofs.«01_k».proof.Proof.Gen.NormFwdIdeal.Value
public import proofs.«01_k».proof.Proof.Gen.NormFwdRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormFwdIdeal.Value
open Cert.NormFwdIdeal Cert.NormFwdIdeal.Gen Cert.Rows

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem lt16 (t : Fin cfg0.N) : t.val < 16 := lt_of_lt_of_eq t.isLt (by decide +kernel)

/-- The row that point `t` keeps at position `y` of its block. -/
def rowOf (t : Fin cfg0.N) (y : Fin 512) : Fin 8192 := ⟨t.val * 512 + y.val, by have := lt16 t; omega⟩

theorem rd0 (c : Dev nD) (t : Fin cfg0.N) (y : Fin 512) (k : Fin 1024) :
    iblk m c 0 t (ix2 y k) = rowAt (m ((c : Thread nD τ).loc main_arg0)) (rowOf t y) k := by
  blk_simp [iblk]; entry_read; pointwise; blk_ext [idx t, rowOf, rowAt]

theorem rd1 (c : Dev nD) (t : Fin cfg0.N) (y : Fin 1) (k : Fin 1024) :
    iblk m c 1 t (ix2 y k) = m ((c : Thread nD τ).loc main_arg1) (ix1 k) := by
  blk_simp [iblk]; entry_read; pointwise; blk_ext [idx t]

theorem pay1_at (c : Dev nD) (t : Fin cfg0.N) (y : S512x1024.Idx) :
    k0_pay1 (F := Ideal) (iblk m c 0 t) (iblk m c 1 t) y
      = rowAt (m ((c : Thread nD τ).loc main_arg0)) (rowOf t (y 0)) (y 1) * rstd (rowAt (m ((c : Thread nD τ).loc main_arg0)) (rowOf t (y 0)))
          * m ((c : Thread nD τ).loc main_arg1) (ix1 (y 1)) := by
  idx_vars y
  pointwise [k0_pay1]
  simp only [rd0, rd1, rstd, meanSq]

theorem final2 (c : Dev nD) : (dats m 0 c).arrAt 2 (cfgs 0).N = fun j : S8192x1024.Idx =>
    rowAt (m ((c : Thread nD τ).loc main_arg0)) (j 0) (j 1) * rstd (rowAt (m ((c : Thread nD τ).loc main_arg0)) (j 0)) * m ((c : Thread nD τ).loc main_arg1) (ix1 (j 1)) := by
  refine (dats m 0 c).arrAt_eq_of_covers 2 _ (by decide +kernel) fun t _ y => ?_
  have e0 : (((View.whole main_v2).slice (win0_2.rect t)).emb y) 0 = rowOf t (y 0) := by
    refine Fin.ext ?_; blk_simp [idx t, rowOf]
  have e1 : (((View.whole main_v2).slice (win0_2.rect t)).emb y) 1 = y 1 := by
    refine Fin.ext ?_; blk_simp [idx t]
  blk_simp
  rw [after0_2]; unfold out0_2; frame_out
  rw [pay1_at]
  simp only [e0, e1]

/-- The reference runs, leaves its arguments as they were, and has no counter. -/
theorem refFrame : Cert.quiescent_NormFwdRefIdeal := fun m ρ _ =>
  (θ_run _ _ _).mono (fun r h => ⟨fun c => (h c).2, sem_eq_zero_of_no_sems (by decide) r.2⟩) (Cert.NormFwdRefIdeal.Value.run m ρ)

/-- The flattened view of an array, by rows. -/
theorem flat_at (Y : FVec Ideal S2x4096x1024 .f32) (h : Shape.ShapeCasts S2x4096x1024 S8192x1024) (hb : FTy.bits .bf16 < FTy.bits .f32) (i : Fin 8192) (k : Fin 1024) :
    truncf .bf16 (shapeCast S8192x1024 Y h) hb (ix2 i k) = rowAt Y i k := by
  pointwise; unfold rowAt; blk_ext

theorem normFwd : Cert.algebraic_NormFwdIdeal_NormFwdRefIdeal := by
  pair_intro
  · exact run_blocks m g
  · refine θ_run_mono (NormFwdRefIdeal.Value.run m' g') fun r h c => ⟨((h c).1).trans ?_, (h c).2⟩
    clear h r
    rw [final2]
    funext j
    rw [show j = ix2 (j 0) (j 1) from (ix2_eta j).symm]
    refine (flat_at _ _ _ (j 0) (j 1)).trans ?_
    generalize j 0 = i
    generalize j 1 = k
    rw [(hagree c).1, (hagree c).2]
    show _ = rowAt _ i k * rstd (rowAt _ i) * _
    unfold rowAt
    pointwise
    rfl

end Cert.NormFwdIdeal.Value

end
-- ==== Proof.MergeFwdClaim.lean ====
/- The gated merge's forward call, with the output projection and the residual, against the same lines written plainly. -/
module

public import proofs.«01_k».proof.Proof.Cols
public import proofs.«01_k».proof.Proof.Gen.MergeFwdIdeal.Value
public import proofs.«01_k».proof.Proof.Gen.MergeFwdRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeFwdIdeal.Value
open Cert.MergeFwdIdeal Cert.MergeFwdIdeal.Gen

section kernel
variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![t.val / 8, t.val % 8, 0]
    ∧ win0_3.index t = ![t.val / 8, t.val % 8, 7] ∧ win0_4.index t = ![t.val / 8, t.val % 8, 8] ∧ win0_5.index t = ![t.val / 8, t.val % 8, 9]
    ∧ win0_6.index t = ![t.val / 8, t.val % 8, 0]
    ∧ win0_7.index t = ![0, 0] ∧ win0_8.index t = ![0, 0] ∧ win0_9.index t = ![0, 0] ∧ win0_10.index t = ![0, 0]
    ∧ win0_11.index t = ![t.val / 8, t.val % 8, 0] :=
  (by decide +kernel : ∀ t : Fin grid0.N, _)

theorem lt16 (t : Fin cfg0.N) : t.val < 16 := lt_of_lt_of_eq t.isLt (by decide +kernel)

/-- The batch of point `t`, and the position in the sequence of its row `y`. -/
def bat (t : Fin cfg0.N) : Fin 2 := ⟨t.val / 8, by have := lt16 t; omega⟩
def pos (t : Fin cfg0.N) (y : Fin 512) : Fin 4096 := ⟨t.val % 8 * 512 + y.val, by omega⟩

/-- The arguments: the three branches, the projection, the residual, the four weights. -/
def yA (c : Dev nD) : S2x4096x512.Idx → EReal := m ((c : Thread nD τ).loc main_arg0)
def yB (c : Dev nD) : S2x4096x1024.Idx → EReal := m ((c : Thread nD τ).loc main_arg1)
def yC (c : Dev nD) : S2x4096x512.Idx → EReal := m ((c : Thread nD τ).loc main_arg2)
def pr (c : Dev nD) : S2x4096x10256.Idx → EReal := m ((c : Thread nD τ).loc main_arg3)
def xR (c : Dev nD) : S2x4096x1024.Idx → EReal := m ((c : Thread nD τ).loc main_arg4)
def wA (c : Dev nD) : S512x1024.Idx → EReal := m ((c : Thread nD τ).loc main_arg5)
def wB (c : Dev nD) : S1024x1024.Idx → EReal := m ((c : Thread nD τ).loc main_arg6)
def wC (c : Dev nD) : S512x1024.Idx → EReal := m ((c : Thread nD τ).loc main_arg7)
def wO (c : Dev nD) : S1024x1024.Idx → EReal := m ((c : Thread nD τ).loc main_arg8)

theorem rd0 (c : Dev nD) (t : Fin cfg0.N) (u : Fin 1) (y : Fin 512) (k : Fin 512) : iblk m c 0 t (ix3 u y k) = yA m c (ix3 (bat t) (pos t y) k) := by
  blk_simp [iblk]; entry_read; pointwise; blk_ext [idx t, bat, pos, yA]
theorem rd1 (c : Dev nD) (t : Fin cfg0.N) (u : Fin 1) (y : Fin 512) (k : Fin 1024) : iblk m c 1 t (ix3 u y k) = yB m c (ix3 (bat t) (pos t y) k) := by
  blk_simp [iblk]; entry_read; pointwise; blk_ext [idx t, bat, pos, yB]
theorem rd2 (c : Dev nD) (t : Fin cfg0.N) (u : Fin 1) (y : Fin 512) (k : Fin 512) : iblk m c 2 t (ix3 u y k) = yC m c (ix3 (bat t) (pos t y) k) := by
  blk_simp [iblk]; entry_read; pointwise; blk_ext [idx t, bat, pos, yC]
theorem rd6 (c : Dev nD) (t : Fin cfg0.N) (u : Fin 1) (y : Fin 512) (k : Fin 1024) : iblk m c 6 t (ix3 u y k) = xR m c (ix3 (bat t) (pos t y) k) := by
  blk_simp [iblk]; entry_read; pointwise; blk_ext [idx t, bat, pos, xR]
theorem rd7 (c : Dev nD) (t : Fin cfg0.N) (q : Fin 512) (k : Fin 1024) : iblk m c 7 t (ix2 q k) = wA m c (ix2 q k) := by
  blk_simp [iblk]; entry_read; pointwise; blk_ext [idx t, wA]
theorem rd8 (c : Dev nD) (t : Fin cfg0.N) (q : Fin 1024) (k : Fin 1024) : iblk m c 8 t (ix2 q k) = wB m c (ix2 q k) := by
  blk_simp [iblk]; entry_read; pointwise; blk_ext [idx t, wB]
theorem rd9 (c : Dev nD) (t : Fin cfg0.N) (q : Fin 512) (k : Fin 1024) : iblk m c 9 t (ix2 q k) = wC m c (ix2 q k) := by
  blk_simp [iblk]; entry_read; pointwise; blk_ext [idx t, wC]
theorem rd10 (c : Dev nD) (t : Fin cfg0.N) (q : Fin 1024) (k : Fin 1024) : iblk m c 10 t (ix2 q k) = wO m c (ix2 q k) := by
  blk_simp [iblk]; entry_read; pointwise; blk_ext [idx t, wO]

/-- Column `k` of gate `n` in the projection. -/
def gcol (n : Fin 3) (k : Fin 1024) : Fin 10256 := ⟨7184 + n.val * 1024 + k.val, by omega⟩

/-- The projection's third part, where the kernel's column order puts it. -/
theorem part2_at (c : Dev nD) (b : Fin 2) (s : Fin 4096) (x : Fin 10368) (k : Fin 4608) (hx : x.val = 5632 + k.val) :
    V m c main_v8 (ix3 b s x) = V m c main_v6 (ix3 b s k) := by
  unfold V hostOps0
  simp only [StableHlo.after_cons, StableHlo.after_nil]
  after_results_simp
  refine (Cols.cols2_at _ _ _ _ _ _ b s x k hx).trans ?_
  refine congrFun (f := (HloOp.result _ _ (Proc.tc.devRef main_v6))) ?_ (ix3 b s k)
  after_results_simp

theorem gate_at (c : Dev nD) (b : Fin 2) (s : Fin 4096) (x : Fin 10368) (n : Fin 3) (k : Fin 1024) (hx : x.val = 7168 + n.val * 1024 + k.val) :
    V m c main_v8 (ix3 b s x) = pr m c (ix3 b s (gcol n k)) := by
  rw [part2_at m c b s x ⟨1536 + n.val * 1024 + k.val, by omega⟩ (by show x.val = 5632 + (1536 + n.val * 1024 + k.val); omega)]
  entry_read
  pointwise
  blk_ext [pr, gcol]

theorem rd3 (c : Dev nD) (t : Fin cfg0.N) (u : Fin 1) (y : Fin 512) (k : Fin 1024) : X0_3 m c t (ix3 u y k) = pr m c (ix3 (bat t) (pos t y) (gcol 0 k)) := by
  have h : (cfg0.win 3).moved (cfg0.grid.coords t) (ix3 u y k) = true :=
    ((cfg0.win 3).moved_iff _ _).mpr fun a => by rw [xsize0_3]; exact (ix3 u y k a).isLt
  unfold X0_3
  refine (dif_pos h).trans (Eq.trans ?_ (gate_at m c (bat t) (pos t y) ⟨7168 + k.val, by omega⟩ 0 k (by simp)))
  unfold iblk
  rw [View.read_apply, cast_eq]
  refine congrArg (V m c main_v8) ?_
  blk_ext [idx t, bat, pos]

theorem rd4 (c : Dev nD) (t : Fin cfg0.N) (u : Fin 1) (y : Fin 512) (k : Fin 1024) : X0_4 m c t (ix3 u y k) = pr m c (ix3 (bat t) (pos t y) (gcol 1 k)) := by
  have h : (cfg0.win 4).moved (cfg0.grid.coords t) (ix3 u y k) = true :=
    ((cfg0.win 4).moved_iff _ _).mpr fun a => by rw [xsize0_4]; exact (ix3 u y k a).isLt
  unfold X0_4
  refine (dif_pos h).trans (Eq.trans ?_ (gate_at m c (bat t) (pos t y) ⟨8192 + k.val, by omega⟩ 1 k (by simp)))
  unfold iblk
  rw [View.read_apply, cast_eq]
  refine congrArg (V m c main_v8) ?_
  blk_ext [idx t, bat, pos]

theorem rd5 (c : Dev nD) (t : Fin cfg0.N) (u : Fin 1) (y : Fin 512) (k : Fin 1024) : X0_5 m c t (ix3 u y k) = pr m c (ix3 (bat t) (pos t y) (gcol 2 k)) := by
  have h : (cfg0.win 5).moved (cfg0.grid.coords t) (ix3 u y k) = true :=
    ((cfg0.win 5).moved_iff _ _).mpr fun a => by rw [xsize0_5]; exact (ix3 u y k a).isLt
  unfold X0_5
  refine (dif_pos h).trans (Eq.trans ?_ (gate_at m c (bat t) (pos t y) ⟨9216 + k.val, by omega⟩ 2 k (by simp)))
  unfold iblk
  rw [View.read_apply, cast_eq]
  refine congrArg (V m c main_v8) ?_
  blk_ext [idx t, bat, pos]

/-- The merged row before the output projection. -/
def mg (c : Dev nD) (b : Fin 2) (s : Fin 4096) (k : Fin 1024) : EReal :=
  Ideal.logistic (pr m c (ix3 b s (gcol 0 k))) * (∑ q : Fin 512, yA m c (ix3 b s q) * wA m c (ix2 q k))
    + Ideal.logistic (pr m c (ix3 b s (gcol 1 k))) * (∑ q : Fin 1024, yB m c (ix3 b s q) * wB m c (ix2 q k))
    + Ideal.logistic (pr m c (ix3 b s (gcol 2 k))) * (∑ q : Fin 512, yC m c (ix3 b s q) * wC m c (ix2 q k))

theorem mg_at (c : Dev nD) (t : Fin cfg0.N) (y : Fin 512) (k : Fin 1024) :
    k0_pay2 (F := Ideal) (iblk m c 0 t) (iblk m c 1 t) (iblk m c 2 t) (X0_3 m c t) (X0_4 m c t) (X0_5 m c t) (iblk m c 7 t) (iblk m c 8 t) (iblk m c 9 t) (ix2 y k)
      = mg m c (bat t) (pos t y) k := by
  pointwise [k0_pay2]
  simp only [rd0, rd1, rd2, rd3, rd4, rd5, rd7, rd8, rd9, mg]

theorem out_at (c : Dev nD) (t : Fin cfg0.N) (y : S1x512x1024.Idx) :
    k0_pay1 (F := Ideal) (k0_pay2 (iblk m c 0 t) (iblk m c 1 t) (iblk m c 2 t) (X0_3 m c t) (X0_4 m c t) (X0_5 m c t) (iblk m c 7 t) (iblk m c 8 t) (iblk m c 9 t)) (iblk m c 6 t) (iblk m c 10 t) y
      = xR m c (ix3 (bat t) (pos t (y 1)) (y 2)) + ∑ k : Fin 1024, mg m c (bat t) (pos t (y 1)) k * wO m c (ix2 k (y 2)) := by
  idx_vars y
  pointwise [k0_pay1]
  simp only [mg_at, rd6, rd10]

theorem final11 (c : Dev nD) : (dats m 0 c).arrAt 11 (cfgs 0).N = fun j : S2x4096x1024.Idx =>
    xR m c (ix3 (j 0) (j 1) (j 2)) + ∑ k : Fin 1024, mg m c (j 0) (j 1) k * wO m c (ix2 k (j 2)) := by
  refine (dats m 0 c).arrAt_eq_of_covers 11 _ (by decide +kernel) fun t _ y => ?_
  have e0 : (((View.whole main_v13).slice (win0_11.rect t)).emb y) 0 = bat t := by
    refine Fin.ext ?_; blk_simp [idx t, bat]
  have e1 : (((View.whole main_v13).slice (win0_11.rect t)).emb y) 1 = pos t (y 1) := by
    refine Fin.ext ?_; blk_simp [idx t, pos]
  have e2 : (((View.whole main_v13).slice (win0_11.rect t)).emb y) 2 = y 2 := by
    refine Fin.ext ?_; blk_simp [idx t]
  blk_simp
  rw [after0_11]; unfold outsAt0 out0_A_11; frame_out
  rw [out_at]
  simp only [e0, e1, e2]
end kernel

/-- The gate as the reference writes it. -/
theorem gate (m : (ℓ : Loc nD τ sig) → Buf (Elt Ideal) ℓ) (c : Dev nD) (b : Fin 2) (s : Fin 4096) (n : Fin 3) (k : Fin 1024) (x : Fin 10256)
    (hx : x.val = 7184 + (n.val * 1024 + k.val)) : Ideal.div 1 (1 + Ideal.exp (-pr m c (ix3 b s x))) = Ideal.logistic (pr m c (ix3 b s (gcol n k))) := by
  have e : x = gcol n k := Fin.ext (by rw [hx]; show _ = 7184 + n.val * 1024 + k.val; omega)
  rw [e]; rfl

/-- The reference runs, leaves its arguments as they were, and has no counter. -/
theorem refFrame : Cert.quiescent_MergeFwdRefIdeal := fun m ρ _ =>
  (θ_run _ _ _).mono (fun r h => ⟨fun c => (h c).2, sem_eq_zero_of_no_sems (by decide) r.2⟩) (Cert.MergeFwdRefIdeal.Value.run m ρ)

set_option maxHeartbeats 1600000 in
theorem mergeFwd : Cert.algebraic_MergeFwdIdeal_MergeFwdRefIdeal := by
  pair_intro
  · exact run_blocks m g
  · refine θ_run_mono (MergeFwdRefIdeal.Value.run m' g') fun r h c => ⟨((h c).1).trans ?_, (h c).2⟩
    have ha := hagree c
    clear h r
    rw [final11]
    funext j
    pointwise
    simp only [ha.1, ha.2.1, ha.2.2.1, ha.2.2.2.1, ha.2.2.2.2.1, ha.2.2.2.2.2.1, ha.2.2.2.2.2.2.1, ha.2.2.2.2.2.2.2.1, ha.2.2.2.2.2.2.2.2]
    refine congrArg₂ (· + ·) (rfl) (Finset.sum_congr rfl fun x _ => congrArg (· * wO m c (ix2 x (j 2))) ?_)
    unfold mg
    rw [← gate m c (j 0) (j 1) 0 x ⟨7184 + x.val, by omega⟩ (by simp), ← gate m c (j 0) (j 1) 1 x ⟨7184 + (1024 + x.val), by omega⟩ (by simp),
      ← gate m c (j 0) (j 1) 2 x ⟨7184 + (2048 + x.val), by omega⟩ (by simp)]
    rfl

end Cert.MergeFwdIdeal.Value

end
-- ==== Proof.WgradClaim.lean ====
/- The call that writes the merge's weight gradients against the plain products, whatever the arguments. -/
module

public import proofs.«01_k».proof.Proof.Reals
public import proofs.«01_k».proof.Proof.Gen.MergeWgradIdeal.Value
public import proofs.«01_k».proof.Proof.Gen.MergeWgradRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeWgradIdeal.Value
open Cert.MergeWgradIdeal Cert.MergeWgradIdeal.Gen

abbrev A (n : ℕ) : Shape := ⟨3, ![2, 4096, n]⟩

/-- Row `r` of an array whose rows are numbered through both sequences. -/
def row {n : ℕ} (a : (A n).Idx → EReal) (r : Fin 8192) (i : Fin n) : EReal :=
  a (ix3 (⟨r.val / 4096, by omega⟩ : Fin 2) (⟨r.val % 4096, by omega⟩ : Fin 4096) i)

/-- The product of one array, transposed, and another, over all rows. -/
def prod {n k : ℕ} (a : (A n).Idx → EReal) (b : (A k).Idx → EReal) (i : Fin n) (j : Fin k) : EReal := ∑ r : Fin 8192, row a r i * row b r j

section kernel
variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![t.val / 16, t.val % 16, 0]
    ∧ win0_5.index t = ![t.val / 16, t.val % 16, 0] ∧ win0_6.index t = ![0, 0] ∧ win0_7.index t = ![0, 0] ∧ win0_8.index t = ![0, 0]
    ∧ win0_9.index t = ![0, 0] :=
  (by decide +kernel : ∀ t : Fin grid0.N, _)

theorem lt32 (t : Fin cfg0.N) : t.val < 32 := lt_of_lt_of_eq t.isLt (by decide +kernel)

/-- The row that point `t` keeps at place `l` of its block. -/
def rowOf (t : Fin cfg0.N) (l : Fin 256) : Fin 8192 := ⟨t.val * 256 + l.val, by have := lt32 t; omega⟩

def ya (c : Dev nD) : (A 512).Idx → EReal := m ((c : Thread nD τ).loc main_arg1)
def yb (c : Dev nD) : (A 1024).Idx → EReal := m ((c : Thread nD τ).loc main_arg2)
def yc (c : Dev nD) : (A 512).Idx → EReal := m ((c : Thread nD τ).loc main_arg3)
def mg (c : Dev nD) : (A 1024).Idx → EReal := m ((c : Thread nD τ).loc main_arg4)
def pa (c : Dev nD) : (A 1024).Idx → EReal := m ((c : Thread nD τ).loc main_arg5)
def pb (c : Dev nD) : (A 1024).Idx → EReal := m ((c : Thread nD τ).loc main_arg6)
def pc (c : Dev nD) : (A 1024).Idx → EReal := m ((c : Thread nD τ).loc main_arg7)
def dt (c : Dev nD) : (A 1024).Idx → EReal := m ((c : Thread nD τ).loc main_arg0)

/-- Reading an array's row at a place of a block, of any number of columns. -/
theorem row_eq {n : ℕ} (a : (A n).Idx → EReal) (t : Fin cfg0.N) (l : Fin 256) (i : Fin n) (y : (A n).Idx)
    (h0 : (y 0).val = t.val / 16) (h1 : (y 1).val = t.val % 16 * 256 + l.val) (h2 : (y 2).val = i.val) : a y = row a (rowOf t l) i := by
  have := lt32 t
  refine congrArg a ((ix3_eta y).symm.trans ?_)
  refine congr (congr (congrArg ix3 (Fin.ext (h0.trans ?_))) (Fin.ext (h1.trans ?_))) (Fin.ext h2)
  · show t.val / 16 = (t.val * 256 + l.val) / 4096; omega
  · show t.val % 16 * 256 + l.val = (t.val * 256 + l.val) % 4096; omega

theorem rd0 (c : Dev nD) (t : Fin cfg0.N) (l : Fin 256) (i : Fin 512) : iblk m c 0 t (ix3 0 l i) = row (ya m c) (rowOf t l) i := by
  blk_simp [iblk]; entry_read; pointwise; refine row_eq (ya m c) t l i _ ?_ ?_ ?_ <;> blk_simp [idx t] <;> rfl

theorem rd1 (c : Dev nD) (t : Fin cfg0.N) (l : Fin 256) (i : Fin 1024) : iblk m c 1 t (ix3 0 l i) = row (yb m c) (rowOf t l) i := by
  blk_simp [iblk]; entry_read; pointwise; refine row_eq (yb m c) t l i _ ?_ ?_ ?_ <;> blk_simp [idx t] <;> rfl

theorem rd2 (c : Dev nD) (t : Fin cfg0.N) (l : Fin 256) (i : Fin 512) : iblk m c 2 t (ix3 0 l i) = row (yc m c) (rowOf t l) i := by
  blk_simp [iblk]; entry_read; pointwise; refine row_eq (yc m c) t l i _ ?_ ?_ ?_ <;> blk_simp [idx t] <;> rfl

theorem rd3 (c : Dev nD) (t : Fin cfg0.N) (l : Fin 256) (i : Fin 1024) : iblk m c 3 t (ix3 0 l i) = row (mg m c) (rowOf t l) i := by
  blk_simp [iblk]; entry_read; pointwise; refine row_eq (mg m c) t l i _ ?_ ?_ ?_ <;> blk_simp [idx t] <;> rfl

theorem rd5 (c : Dev nD) (t : Fin cfg0.N) (l : Fin 256) (i : Fin 1024) : iblk m c 5 t (ix3 0 l i) = row (dt m c) (rowOf t l) i := by
  blk_simp [iblk]; entry_read; pointwise; refine row_eq (dt m c) t l i _ ?_ ?_ ?_ <;> blk_simp [idx t] <;> rfl

/-- The three cotangents side by side, at an entry of each. -/
theorem v5_at (c : Dev nD) (p : Fin 2) (q : Fin 4096) (x : Fin 3072) : V m c main_v5 (ix3 p q x)
    = if h0 : x.val < 1024 then pa m c (ix3 p q (⟨x.val, h0⟩ : Fin 1024))
      else if h1 : x.val - 1024 < 1024 then pb m c (ix3 p q (⟨x.val - 1024, h1⟩ : Fin 1024))
      else pc m c (ix3 p q (⟨x.val - 1024 - 1024, by omega⟩ : Fin 1024)) := by
  unfold V hostOps0
  simp only [StableHlo.after_cons, StableHlo.after_nil]
  after_results_simp
  pointwise
  rfl

theorem rd4 (c : Dev nD) (t : Fin cfg0.N) (l : Fin 256) (x : Fin 3072) : iblk m c 4 t (ix3 0 l x)
    = row (n := 3072) (V m c main_v5) (rowOf t l) x := by
  unfold iblk; rw [View.read_apply, cast_eq]
  refine row_eq (n := 3072) (V m c main_v5) t l x _ ?_ ?_ ?_ <;> blk_simp [idx t] <;> rfl

theorem rdA (c : Dev nD) (t : Fin cfg0.N) (l : Fin 256) (j : Fin 1024) (x : Fin 3072) (hx : x.val = j.val) :
    iblk m c 4 t (ix3 0 l x) = row (pa m c) (rowOf t l) j := by
  rw [rd4]; unfold row; rw [v5_at, dif_pos (by omega)]; simp only [hx]

theorem rdB (c : Dev nD) (t : Fin cfg0.N) (l : Fin 256) (j : Fin 1024) (x : Fin 3072) (hx : x.val = 1024 + j.val) :
    iblk m c 4 t (ix3 0 l x) = row (pb m c) (rowOf t l) j := by
  rw [rd4]; unfold row; rw [v5_at, dif_neg (by omega), dif_pos (by omega)]; simp only [hx, Nat.add_sub_cancel_left]

theorem rdC (c : Dev nD) (t : Fin cfg0.N) (l : Fin 256) (j : Fin 1024) (x : Fin 3072) (hx : x.val = 2048 + j.val) :
    iblk m c 4 t (ix3 0 l x) = row (pc m c) (rowOf t l) j := by
  rw [rd4]; unfold row; rw [v5_at, dif_neg (by omega), dif_neg (by omega)]
  exact congrArg (fun k => pc m c (ix3 _ _ k)) (Fin.ext (show x.val - 1024 - 1024 = j.val by omega))

/-- What a point adds to a running product. -/
def part {n : ℕ} (a : (A n).Idx → EReal) (b : (A 1024).Idx → EReal) (t : Fin cfg0.N) (i : Fin n) (j : Fin 1024) : EReal :=
  ∑ l : Fin 256, row a (rowOf t l) i * row b (rowOf t l) j

theorem at6 (c : Dev nD) (t : Fin cfg0.N) (acc : FVec Ideal S512x1024 .f32) (y : S512x1024.Idx) :
    k0_pay8 (F := Ideal) (iblk m c 4 t) acc (iblk m c 0 t) y = acc y + part (ya m c) (pa m c) t (y 0) (y 1) := by
  idx_vars y
  pointwise [k0_pay8, k0_pay7]
  exact congrArg (acc _ + ·) (Finset.sum_congr rfl fun l _ => congrArg₂ (· * ·) (rd0 m c t l _) (rdA m c t l _ _ (by simp)))

theorem at7 (c : Dev nD) (t : Fin cfg0.N) (acc : FVec Ideal S1024x1024 .f32) (y : S1024x1024.Idx) :
    k0_pay9 (F := Ideal) (iblk m c 4 t) acc (iblk m c 1 t) y = acc y + part (yb m c) (pb m c) t (y 0) (y 1) := by
  idx_vars y
  pointwise [k0_pay9, k0_pay7]
  exact congrArg (acc _ + ·) (Finset.sum_congr rfl fun l _ => congrArg₂ (· * ·) (rd1 m c t l _) (rdB m c t l _ _ (by simp)))

theorem at8 (c : Dev nD) (t : Fin cfg0.N) (acc : FVec Ideal S512x1024 .f32) (y : S512x1024.Idx) :
    k0_pay1 (F := Ideal) (k0_pay10 acc) (k0_pay11 (iblk m c 2 t)) (k0_pay12 (iblk m c 4 t)) y = acc y + part (yc m c) (pc m c) t (y 0) (y 1) := by
  idx_vars y
  pointwise [k0_pay1, k0_pay10, k0_pay11, k0_pay12, k0_pay7]
  exact congrArg (acc _ + ·) (Finset.sum_congr rfl fun l _ => congrArg₂ (· * ·) (rd2 m c t l _) (rdC m c t l _ _ (by simp)))

theorem at9 (c : Dev nD) (t : Fin cfg0.N) (acc : FVec Ideal S1024x1024 .f32) (y : S1024x1024.Idx) :
    k0_pay2 (F := Ideal) acc (iblk m c 3 t) (iblk m c 5 t) y = acc y + part (mg m c) (dt m c) t (y 0) (y 1) := by
  idx_vars y
  pointwise [k0_pay2]
  exact congrArg (acc _ + ·) (Finset.sum_congr rfl fun l _ => congrArg₂ (· * ·) (rd3 m c t l _) (rd5 m c t l _))

theorem zero6 (y : S512x1024.Idx) : k0_pay3 (F := Ideal) y = 0 := by pointwise [k0_pay3]
theorem zero7 (y : S1024x1024.Idx) : k0_pay4 (F := Ideal) y = 0 := by pointwise [k0_pay4]
theorem zero8 (y : S512x1024.Idx) : k0_pay5 (F := Ideal) y = 0 := by pointwise [k0_pay5]
theorem zero9 (y : S1024x1024.Idx) : k0_pay6 (F := Ideal) y = 0 := by pointwise [k0_pay6]

/-- The points' parts together are the product over all rows. -/
theorem sum_part {n : ℕ} (a : (A n).Idx → EReal) (b : (A 1024).Idx → EReal) (t : Fin cfg0.N) (p : Fin 32 → Fin cfg0.N)
    (hp : ∀ s, (p s).val = 32 * (t.val / 32) + s.val) (i : Fin n) (j : Fin 1024) : ∑ s, part a b (p s) i j = prod a b i j := by
  have := lt32 t
  unfold part prod
  rw [← Fin.sum_mul_add_fin 32 256 fun r => row a r i * row b r j]
  refine Finset.sum_congr rfl fun s _ => Finset.sum_congr rfl fun l _ => ?_
  rw [show rowOf (p s) l = ⟨s.val * 256 + l.val, by omega⟩ from Fin.ext (by show (p s).val * 256 + l.val = s.val * 256 + l.val; rw [hp]; omega)]

/-- The gradient of the first branch's weights. -/
theorem out6 (c : Dev nD) : (dats m 0 c).arrAt 6 (cfgs 0).N = fun j : S512x1024.Idx => prod (ya m c) (pa m c) (j 0) (j 1) := by
  refine (dats m 0 c).arrAt_eq_of_covers 6 _ (by decide +kernel) fun t hf y => ?_
  have e0 : (((View.whole main_v6_0).slice (win0_6.rect t)).emb y) 0 = y 0 := by
    refine Fin.ext ?_; blk_simp [idx t]
  have e1 : (((View.whole main_v6_0).slice (win0_6.rect t)).emb y) 1 = y 1 := by
    refine Fin.ext ?_; blk_simp [idx t]
  blk_simp
  rw [after0_6, Pipeline.eq_sum_fin_of_reset_step_apply_of_flush (fun n h => (outsAt0 m c n h).1) 32 (fun _ => 0)
    (fun p j => part (ya m c) (pa m c) p (j 0) (j 1))
    (fun t h j => by rw [outsAt0_A m c t h]; frame_out; rw [at6, zero6])
    (fun t h j => by rw [outsAt0_B m c t h]; frame_out; rw [at6])
    t ((flush0_6 t).mp hf) _, zero_add]
  simp only [e0, e1]
  exact sum_part _ _ t _ (fun s => rfl) (y 0) (y 1)

/-- The gradient of the second branch's weights. -/
theorem out7 (c : Dev nD) : (dats m 0 c).arrAt 7 (cfgs 0).N = fun j : S1024x1024.Idx => prod (yb m c) (pb m c) (j 0) (j 1) := by
  refine (dats m 0 c).arrAt_eq_of_covers 7 _ (by decide +kernel) fun t hf y => ?_
  have e0 : (((View.whole main_v6_1).slice (win0_7.rect t)).emb y) 0 = y 0 := by
    refine Fin.ext ?_; blk_simp [idx t]
  have e1 : (((View.whole main_v6_1).slice (win0_7.rect t)).emb y) 1 = y 1 := by
    refine Fin.ext ?_; blk_simp [idx t]
  blk_simp
  rw [after0_7, Pipeline.eq_sum_fin_of_reset_step_apply_of_flush (fun n h => (outsAt0 m c n h).2.1) 32 (fun _ => 0)
    (fun p j => part (yb m c) (pb m c) p (j 0) (j 1))
    (fun t h j => by rw [outsAt0_A m c t h]; frame_out; rw [at7, zero7])
    (fun t h j => by rw [outsAt0_B m c t h]; frame_out; rw [at7])
    t ((flush0_7 t).mp hf) _, zero_add]
  simp only [e0, e1]
  exact sum_part _ _ t _ (fun s => rfl) (y 0) (y 1)

/-- The gradient of the third branch's weights. -/
theorem out8 (c : Dev nD) : (dats m 0 c).arrAt 8 (cfgs 0).N = fun j : S512x1024.Idx => prod (yc m c) (pc m c) (j 0) (j 1) := by
  refine (dats m 0 c).arrAt_eq_of_covers 8 _ (by decide +kernel) fun t hf y => ?_
  have e0 : (((View.whole main_v6_2).slice (win0_8.rect t)).emb y) 0 = y 0 := by
    refine Fin.ext ?_; blk_simp [idx t]
  have e1 : (((View.whole main_v6_2).slice (win0_8.rect t)).emb y) 1 = y 1 := by
    refine Fin.ext ?_; blk_simp [idx t]
  blk_simp
  rw [after0_8, Pipeline.eq_sum_fin_of_reset_step_apply_of_flush (fun n h => (outsAt0 m c n h).2.2.1) 32 (fun _ => 0)
    (fun p j => part (yc m c) (pc m c) p (j 0) (j 1))
    (fun t h j => by rw [outsAt0_A m c t h]; frame_out; rw [at8, zero8])
    (fun t h j => by rw [outsAt0_B m c t h]; frame_out; rw [at8])
    t ((flush0_8 t).mp hf) _, zero_add]
  simp only [e0, e1]
  exact sum_part _ _ t _ (fun s => rfl) (y 0) (y 1)

/-- The gradient of the output projection's weights. -/
theorem out9 (c : Dev nD) : (dats m 0 c).arrAt 9 (cfgs 0).N = fun j : S1024x1024.Idx => prod (mg m c) (dt m c) (j 0) (j 1) := by
  refine (dats m 0 c).arrAt_eq_of_covers 9 _ (by decide +kernel) fun t hf y => ?_
  have e0 : (((View.whole main_v6_3).slice (win0_9.rect t)).emb y) 0 = y 0 := by
    refine Fin.ext ?_; blk_simp [idx t]
  have e1 : (((View.whole main_v6_3).slice (win0_9.rect t)).emb y) 1 = y 1 := by
    refine Fin.ext ?_; blk_simp [idx t]
  blk_simp
  rw [after0_9, Pipeline.eq_sum_fin_of_reset_step_apply_of_flush (fun n h => (outsAt0 m c n h).2.2.2) 32 (fun _ => 0)
    (fun p j => part (mg m c) (dt m c) p (j 0) (j 1))
    (fun t h j => by rw [outsAt0_A m c t h]; frame_out; rw [at9, zero9])
    (fun t h j => by rw [outsAt0_B m c t h]; frame_out; rw [at9])
    t ((flush0_9 t).mp hf) _, zero_add]
  simp only [e0, e1]
  exact sum_part _ _ t _ (fun s => rfl) (y 0) (y 1)

end kernel

/-- The plain product of rows, at an entry, of 512 columns and of 1024. -/
theorem dotN (a : FVec Ideal Cert.MergeWgradRefIdeal.S2x4096x512 .f32) (b : FVec Ideal Cert.MergeWgradRefIdeal.S2x4096x1024 .f32) (ha hb ht) (i : Fin 512) (j : Fin 1024) :
    Host.dotGeneral (F := Ideal) Cert.MergeWgradRefIdeal.dot_S512x8192_S8192x1024_S512x1024_1_0_0_1_n_n none
      (transpose Cert.MergeWgradRefIdeal.S512x8192 [1, 0] (shapeCast Cert.MergeWgradRefIdeal.S8192x512 a ha) ht) (shapeCast Cert.MergeWgradRefIdeal.S8192x1024 b hb) (ix2 i j)
      = prod a b i j := by
  pointwise; rfl

theorem dotW (a b : FVec Ideal Cert.MergeWgradRefIdeal.S2x4096x1024 .f32) (ha hb ht) (i j : Fin 1024) :
    Host.dotGeneral (F := Ideal) Cert.MergeWgradRefIdeal.dot_S1024x8192_S8192x1024_S1024x1024_1_0_0_1_n_n none
      (transpose Cert.MergeWgradRefIdeal.S1024x8192 [1, 0] (shapeCast Cert.MergeWgradRefIdeal.S8192x1024 a ha) ht) (shapeCast Cert.MergeWgradRefIdeal.S8192x1024 b hb) (ix2 i j)
      = prod a b i j := by
  pointwise; rfl

/-- The reference runs, leaves its arguments as they were, and has no counter. -/
theorem refFrame : Cert.quiescent_MergeWgradRefIdeal := fun m ρ _ =>
  (θ_run _ _ _).mono (fun r h => ⟨fun c => (h c).2.2.2.2, sem_eq_zero_of_no_sems (by decide) r.2⟩) (Cert.MergeWgradRefIdeal.Value.run m ρ)

theorem mergeWgrad : Cert.algebraic_MergeWgradIdeal_MergeWgradRefIdeal := by
  pair_intro
  · exact run_blocks m g
  · refine θ_run_mono (MergeWgradRefIdeal.Value.run m' g') fun r h c => ⟨((h c).1).trans ?_, ((h c).2.1).trans ?_, ((h c).2.2.1).trans ?_, ((h c).2.2.2.1).trans ?_, (h c).2.2.2.2⟩
    all_goals
      obtain ⟨h0, h1, h2, h3, h4, h5, h6, h7⟩ := hagree c
      clear h r
    · rw [out6, h1, h5]; funext j
      rw [show j = ix2 (j 0) (j 1) from (ix2_eta j).symm]
      exact dotN _ _ _ _ _ (j 0) (j 1)
    · rw [out7, h2, h6]; funext j
      rw [show j = ix2 (j 0) (j 1) from (ix2_eta j).symm]
      exact dotW _ _ _ _ _ (j 0) (j 1)
    · rw [out8, h3, h7]; funext j
      rw [show j = ix2 (j 0) (j 1) from (ix2_eta j).symm]
      exact dotN _ _ _ _ _ (j 0) (j 1)
    · rw [out9, h4, h0]; funext j
      rw [show j = ix2 (j 0) (j 1) from (ix2_eta j).symm]
      exact dotW _ _ _ _ _ (j 0) (j 1)

end Cert.MergeWgradIdeal.Value

end
-- ==== Proof.Parts.lean ====
/- The kernels' column order: five parts one after another, the last of zeros, and sums over it. -/
module

public import proofs.«01_k».proof.Proof.Reals

@[expose] public section

set_option maxRecDepth 16384

noncomputable section

open Idealize.ShloMosaic

namespace Cert.Parts

/-- The five parts side by side, given the parts. -/
def pick {α : Type} (y0 : Fin 4096 → α) (y1 : Fin 1536 → α) (y2 : Fin 4608 → α) (y3 : Fin 16 → α) (y4 : Fin 112 → α) (x : Fin 10368) : α :=
  if h0 : x.val < 4096 then y0 ⟨x.val, h0⟩
  else if h1 : x.val - 4096 < 1536 then y1 ⟨x.val - 4096, h1⟩
  else if h2 : x.val - 4096 - 1536 < 4608 then y2 ⟨x.val - 4096 - 1536, h2⟩
  else if h3 : x.val - 4096 - 1536 - 4608 < 16 then y3 ⟨x.val - 4096 - 1536 - 4608, h3⟩
  else y4 ⟨x.val - 4096 - 1536 - 4608 - 16, by omega⟩

/-- What is done to every part is done to the whole. -/
theorem pick_map {α β : Type} (f : α → β) (y0 : Fin 4096 → α) (y1 : Fin 1536 → α) (y2 : Fin 4608 → α) (y3 : Fin 16 → α) (y4 : Fin 112 → α)
    (x : Fin 10368) : f (pick y0 y1 y2 y3 y4 x) = pick (fun k => f (y0 k)) (fun k => f (y1 k)) (fun k => f (y2 k)) (fun k => f (y3 k)) (fun k => f (y4 k)) x := by
  unfold pick; split_ifs <;> rfl

theorem pick_congr {α : Type} {y0 z0 : Fin 4096 → α} {y1 z1 : Fin 1536 → α} {y2 z2 : Fin 4608 → α} {y3 z3 : Fin 16 → α} {y4 z4 : Fin 112 → α}
    (h0 : ∀ k, y0 k = z0 k) (h1 : ∀ k, y1 k = z1 k) (h2 : ∀ k, y2 k = z2 k) (h3 : ∀ k, y3 k = z3 k) (h4 : ∀ k, y4 k = z4 k) (x : Fin 10368) :
    pick y0 y1 y2 y3 y4 x = pick z0 z1 z2 z3 z4 x := by
  rw [funext h0, funext h1, funext h2, funext h3, funext h4]

abbrev C (n : ℕ) : Shape := ⟨2, ![8192, n]⟩
abbrev T (n : ℕ) : Shape := ⟨2, ![n, 1024]⟩

theorem side_at {α : Type} (x0 : (C 4096).Idx → α) (x1 : (C 1536).Idx → α) (x2 : (C 4608).Idx → α) (x3 : (C 16).Idx → α) (x4 : (C 112).Idx → α)
    (h : Shape.Concatenates [C 4096, C 1536, C 4608, C 16, C 112] (C 10368) 1) (r : Fin 8192) (x : Fin 10368) :
    concatenate (C 10368) 1 [⟨C 4096, x0⟩, ⟨C 1536, x1⟩, ⟨C 4608, x2⟩, ⟨C 16, x3⟩, ⟨C 112, x4⟩] h (ix2 r x)
      = pick (fun k => x0 (ix2 r k)) (fun k => x1 (ix2 r k)) (fun k => x2 (ix2 r k)) (fun k => x3 (ix2 r k)) (fun k => x4 (ix2 r k)) x := by
  unfold pick; pointwise

theorem stack_at {α : Type} (x0 : (T 4096).Idx → α) (x1 : (T 1536).Idx → α) (x2 : (T 4608).Idx → α) (x3 : (T 16).Idx → α) (x4 : (T 112).Idx → α)
    (h : Shape.Concatenates [T 4096, T 1536, T 4608, T 16, T 112] (T 10368) 0) (x : Fin 10368) (q : Fin 1024) :
    concatenate (T 10368) 0 [⟨T 4096, x0⟩, ⟨T 1536, x1⟩, ⟨T 4608, x2⟩, ⟨T 16, x3⟩, ⟨T 112, x4⟩] h (ix2 x q)
      = pick (fun k => x0 (ix2 k q)) (fun k => x1 (ix2 k q)) (fun k => x2 (ix2 k q)) (fun k => x3 (ix2 k q)) (fun k => x4 (ix2 k q)) x := by
  unfold pick; pointwise

/-- The kernels' column order of a row of 10256 columns. -/
def perm (f : Fin 10256 → EReal) : Fin 10368 → EReal :=
  pick (fun k => f ⟨1536 + k.val, by omega⟩) (fun k => f ⟨k.val, by omega⟩) (fun k => f ⟨5648 + k.val, by omega⟩) (fun k => f ⟨5632 + k.val, by omega⟩) (fun _ => 0)

section columns
variable (f : Fin 10256 → EReal) (x : Fin 10368) (y : Fin 10256)

theorem perm0 (h : x.val < 4096) (hy : y.val = 1536 + x.val) : perm f x = f y := by
  unfold perm pick
  rw [dif_pos h]; exact congrArg f (Fin.ext hy.symm)

theorem perm1 (h : 4096 ≤ x.val) (h' : x.val < 5632) (hy : y.val + 4096 = x.val) : perm f x = f y := by
  unfold perm pick
  rw [dif_neg (by omega), dif_pos (by omega)]; exact congrArg f (Fin.ext (by show x.val - 4096 = y.val; omega))

theorem perm2 (h : 5632 ≤ x.val) (h' : x.val < 10240) (hy : y.val = x.val + 16) : perm f x = f y := by
  unfold perm pick
  rw [dif_neg (by omega), dif_neg (by omega), dif_pos (by omega)]
  exact congrArg f (Fin.ext (by show 5648 + (x.val - 4096 - 1536) = y.val; omega))

theorem perm3 (h : 10240 ≤ x.val) (h' : x.val < 10256) (hy : y.val + 4608 = x.val) : perm f x = f y := by
  unfold perm pick
  rw [dif_neg (by omega), dif_neg (by omega), dif_neg (by omega), dif_pos (by omega)]
  exact congrArg f (Fin.ext (by show 5632 + (x.val - 4096 - 1536 - 4608) = y.val; omega))

theorem perm4 (h : 10256 ≤ x.val) : perm f x = 0 := by
  unfold perm pick
  rw [dif_neg (by omega), dif_neg (by omega), dif_neg (by omega), dif_neg (by omega)]

end columns

/-- A sum in two parts. -/
theorem sum_two (a b n : ℕ) (h : a + b = n) (f : Fin n → EReal) :
    ∑ x, f x = ∑ i : Fin a, f ⟨i.val, by omega⟩ + ∑ j : Fin b, f ⟨a + j.val, by omega⟩ := by
  subst h; exact Fin.sum_univ_add f

/-- A product of two rows in the kernels' column order is the product of the rows. -/
theorem sum_perm (f g : Fin 10256 → EReal) : ∑ x, perm f x * perm g x = ∑ x, f x * g x := by
  rw [sum_two 4096 6272 10368 rfl, sum_two 1536 4736 6272 rfl, sum_two 4608 128 4736 rfl, sum_two 16 112 128 rfl,
    sum_two 1536 8720 10256 rfl, sum_two 4096 4624 8720 rfl, sum_two 16 4608 4624 rfl]
  have e0 : ∀ k : Fin 4096, perm f ⟨k.val, by omega⟩ * perm g ⟨k.val, by omega⟩ = f ⟨1536 + k.val, by omega⟩ * g ⟨1536 + k.val, by omega⟩ := fun k =>
    congrArg₂ (· * ·) (perm0 f _ _ k.isLt rfl) (perm0 g _ _ k.isLt rfl)
  have e1 : ∀ k : Fin 1536, perm f ⟨4096 + k.val, by omega⟩ * perm g ⟨4096 + k.val, by omega⟩ = f ⟨k.val, by omega⟩ * g ⟨k.val, by omega⟩ := fun k =>
    congrArg₂ (· * ·) (perm1 f _ _ (by simp) (by show 4096 + k.val < _; omega) (by show k.val + 4096 = 4096 + k.val; omega))
      (perm1 g _ _ (by simp) (by show 4096 + k.val < _; omega) (by show k.val + 4096 = 4096 + k.val; omega))
  have e2 : ∀ k : Fin 4608, perm f ⟨4096 + (1536 + k.val), by omega⟩ * perm g ⟨4096 + (1536 + k.val), by omega⟩
      = f ⟨1536 + (4096 + (16 + k.val)), by omega⟩ * g ⟨1536 + (4096 + (16 + k.val)), by omega⟩ := fun k =>
    congrArg₂ (· * ·)
      (perm2 f _ _ (by show _ ≤ 4096 + (1536 + k.val); omega) (by show 4096 + (1536 + k.val) < _; omega)
        (by show 1536 + (4096 + (16 + k.val)) = 4096 + (1536 + k.val) + 16; omega))
      (perm2 g _ _ (by show _ ≤ 4096 + (1536 + k.val); omega) (by show 4096 + (1536 + k.val) < _; omega)
        (by show 1536 + (4096 + (16 + k.val)) = 4096 + (1536 + k.val) + 16; omega))
  have e3 : ∀ k : Fin 16, perm f ⟨4096 + (1536 + (4608 + k.val)), by omega⟩ * perm g ⟨4096 + (1536 + (4608 + k.val)), by omega⟩
      = f ⟨1536 + (4096 + k.val), by omega⟩ * g ⟨1536 + (4096 + k.val), by omega⟩ := fun k =>
    congrArg₂ (· * ·)
      (perm3 f _ _ (by show _ ≤ 4096 + (1536 + (4608 + k.val)); omega) (by show 4096 + (1536 + (4608 + k.val)) < _; omega)
        (by show 1536 + (4096 + k.val) + 4608 = 4096 + (1536 + (4608 + k.val)); omega))
      (perm3 g _ _ (by show _ ≤ 4096 + (1536 + (4608 + k.val)); omega) (by show 4096 + (1536 + (4608 + k.val)) < _; omega)
        (by show 1536 + (4096 + k.val) + 4608 = 4096 + (1536 + (4608 + k.val)); omega))
  have e4 : ∀ k : Fin 112, perm f ⟨4096 + (1536 + (4608 + (16 + k.val))), by omega⟩ * perm g ⟨4096 + (1536 + (4608 + (16 + k.val))), by omega⟩ = 0 := fun k => by
    rw [perm4 f _ (by show _ ≤ 4096 + (1536 + (4608 + (16 + k.val))); omega), zero_mul]
  simp only [e0, e1, e2, e3, e4, Finset.sum_const_zero, add_zero]
  ac_rfl

/-- A product over 10368 columns taken in twenty steps of 512 columns and a last one of 128. -/
theorem sum_steps (f : Fin 10368 → EReal) :
    ∑ s : Fin 20, ∑ l : Fin 512, f ⟨s.val * 512 + l.val, by omega⟩ + ∑ l : Fin 128, f ⟨10240 + l.val, by omega⟩ = ∑ x, f x := by
  rw [sum_two 10240 128 10368 rfl]
  exact congrArg (· + _) (Fin.sum_mul_add_fin 20 512 fun x : Fin 10240 => f ⟨x.val, by omega⟩)

end Cert.Parts

end
-- ==== Proof.DxClaim.lean ====
/- The call that carries the input projection's cotangent back to its rows against the plain product, whatever the arguments. -/
module

public import proofs.«01_k».proof.Proof.Parts
public import proofs.«01_k».proof.Proof.Gen.InProjDxIdeal.Value
public import proofs.«01_k».proof.Proof.Gen.InProjDxRefIdeal.Run
public import proofs.«01_k».proof.Defs
public import Idealize.ShloMosaic.Lib.Claim
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjDxIdeal.Value
open Cert.InProjDxIdeal Cert.InProjDxIdeal.Gen Cert.Parts

section kernel
variable (m : (ℓ : Loc nD τ sig) → Buf (Elt Ideal) ℓ)

theorem idx : ∀ t : Fin cfg0.N, win0_0.index t = ![t.val / 21, min (t.val % 21) 7] ∧ win0_1.index t = ![t.val / 21, min (t.val % 21 - 8) 2]
    ∧ win0_2.index t = ![t.val / 21, min (t.val % 21 - 11) 2] ∧ win0_3.index t = ![t.val / 21, min (t.val % 21 - 14) 5]
    ∧ win0_4.index t = ![t.val / 21, 0] ∧ win0_5.index t = ![min (t.val % 21) 19, 0] ∧ win0_6.index t = ![80, 0] ∧ win0_7.index t = ![t.val / 21, 0] :=
  (by decide +kernel : ∀ t : Fin grid0.N, _)

theorem lt84 (t : Fin cfg0.N) : t.val < 84 := lt_of_lt_of_eq t.isLt (by decide +kernel)

/-- The row that point `t` keeps at a place of its block, the column it reads at a place of its block, and the last point's. -/
def rowOf (t : Fin cfg0.N) (p : Fin 2048) : Fin 8192 := ⟨t.val / 21 * 2048 + p.val, by have := lt84 t; omega⟩
def colOf (t : Fin cfg0.N) (l : Fin 512) : Fin 10368 := ⟨min (t.val % 21) 19 * 512 + l.val, by omega⟩
def tailOf (l : Fin 128) : Fin 10368 := ⟨10240 + l.val, by omega⟩

def dd (c : Dev nD) : S2x4096x10256.Idx → EReal := m ((c : Thread nD τ).loc main_arg0)
def ww (c : Dev nD) : S1024x10256.Idx → EReal := m ((c : Thread nD τ).loc main_arg1)
def drow (d : S2x4096x10256.Idx → EReal) (r : Fin 8192) (x : Fin 10256) : EReal :=
  d (ix3 (⟨r.val / 4096, by omega⟩ : Fin 2) (⟨r.val % 4096, by omega⟩ : Fin 4096) x)
def wrow (w : S1024x10256.Idx → EReal) (q : Fin 1024) (x : Fin 10256) : EReal := w (ix2 q x)

/-- The rows' columns that the points read, part by part. -/
theorem rd0 (c : Dev nD) (t : Fin cfg0.N) (h : t.val % 21 ≤ 7) (p : Fin 2048) (l : Fin 512) :
    iblk m c 0 t (ix2 p l) = perm (drow (dd m c) (rowOf t p)) (colOf t l) := by
  have := lt84 t
  refine Eq.trans ?_ (perm0 _ (colOf t l) ⟨1536 + (min (t.val % 21) 7 * 512 + l.val), by omega⟩ (by unfold colOf; simp only; omega)
    (by unfold colOf; simp only; omega)).symm
  blk_simp [iblk]; entry_read; pointwise; blk_ext [idx t, rowOf, drow, dd]

theorem rd1 (c : Dev nD) (t : Fin cfg0.N) (h : 8 ≤ t.val % 21 ∧ t.val % 21 ≤ 10) (p : Fin 2048) (l : Fin 512) :
    iblk m c 1 t (ix2 p l) = perm (drow (dd m c) (rowOf t p)) (colOf t l) := by
  have := lt84 t
  refine Eq.trans ?_ (perm1 _ (colOf t l) ⟨min (t.val % 21 - 8) 2 * 512 + l.val, by omega⟩ (by unfold colOf; simp only; omega)
    (by unfold colOf; simp only; omega) (by unfold colOf; simp only; omega)).symm
  blk_simp [iblk]; entry_read; pointwise; blk_ext [idx t, rowOf, drow, dd]

theorem rd2 (c : Dev nD) (t : Fin cfg0.N) (h : 11 ≤ t.val % 21 ∧ t.val % 21 ≤ 13) (p : Fin 2048) (l : Fin 512) :
    iblk m c 2 t (ix2 p l) = perm (drow (dd m c) (rowOf t p)) (colOf t l) := by
  have := lt84 t
  refine Eq.trans ?_ (perm2 _ (colOf t l) ⟨5648 + (min (t.val % 21 - 11) 2 * 512 + l.val), by omega⟩ (by unfold colOf; simp only; omega)
    (by unfold colOf; simp only; omega) (by unfold colOf; simp only; omega)).symm
  blk_simp [iblk]; entry_read; pointwise; blk_ext [idx t, rowOf, drow, dd]

theorem rd3 (c : Dev nD) (t : Fin cfg0.N) (h : 14 ≤ t.val % 21 ∧ t.val % 21 ≤ 19) (p : Fin 2048) (l : Fin 512) :
    iblk m c 3 t (ix2 p l) = perm (drow (dd m c) (rowOf t p)) (colOf t l) := by
  have := lt84 t
  refine Eq.trans ?_ (perm2 _ (colOf t l) ⟨7184 + (min (t.val % 21 - 14) 5 * 512 + l.val), by omega⟩ (by unfold colOf; simp only; omega)
    (by unfold colOf; simp only; omega) (by unfold colOf; simp only; omega)).symm
  blk_simp [iblk]; entry_read; pointwise; blk_ext [idx t, rowOf, drow, dd]

theorem v16_at (c : Dev nD) (r : Fin 8192) (l : Fin 128) : V m c main_v16 (ix2 r l) = perm (drow (dd m c) r) (tailOf l) := by
  unfold V hostOps0
  simp only [StableHlo.after_cons, StableHlo.after_nil]
  after_results_simp
  pointwise
  split_ifs with h
  · refine Eq.trans ?_ (perm3 _ (tailOf l) ⟨5632 + l.val, by omega⟩ (by unfold tailOf; simp) (by unfold tailOf; simp only; omega) (by unfold tailOf; simp only; omega)).symm
    pointwise; blk_ext [drow, dd]
  · rw [perm4 _ _ (by unfold tailOf; simp only; omega)]

theorem rd4 (c : Dev nD) (t : Fin cfg0.N) (p : Fin 2048) (l : Fin 128) : iblk m c 4 t (ix2 p l) = perm (drow (dd m c) (rowOf t p)) (tailOf l) := by
  unfold iblk; rw [View.read_apply, cast_eq]
  refine (congrArg (V m c main_v16) ?_).trans (v16_at m c (rowOf t p) l)
  blk_ext [idx t, rowOf]

/-- The weights in the kernel's order, at a place of the array and of the blocks read. -/
theorem v7_at (c : Dev nD) (x : Fin 10368) (q : Fin 1024) : V m c main_v7 (ix2 x q) = perm (wrow (ww m c) q) x := by
  unfold V hostOps0
  simp only [StableHlo.after_cons, StableHlo.after_nil]
  after_results_simp
  refine (stack_at _ _ _ _ _ _ x q).trans ?_
  refine pick_congr (fun k => ?_) (fun k => ?_) (fun k => ?_) (fun k => ?_) (fun k => ?_) x
  · refine (congrFun (f := (HloOp.result _ _ (Proc.tc.devRef main_v3))) (g := V m c main_v3) (by unfold V hostOps0; simp only [StableHlo.after_cons, StableHlo.after_nil]; after_results_simp) (ix2 k q)).trans ?_
    entry_read; pointwise; blk_ext [ww, wrow]
  · refine (congrFun (f := (HloOp.result _ _ (Proc.tc.devRef main_v4))) (g := V m c main_v4) (by unfold V hostOps0; simp only [StableHlo.after_cons, StableHlo.after_nil]; after_results_simp) (ix2 k q)).trans ?_
    entry_read; pointwise; blk_ext [ww, wrow]
  · refine (congrFun (f := (HloOp.result _ _ (Proc.tc.devRef main_v5))) (g := V m c main_v5) (by unfold V hostOps0; simp only [StableHlo.after_cons, StableHlo.after_nil]; after_results_simp) (ix2 k q)).trans ?_
    entry_read; pointwise; blk_ext [ww, wrow]
  · refine (congrFun (f := (HloOp.result _ _ (Proc.tc.devRef main_v6))) (g := V m c main_v6) (by unfold V hostOps0; simp only [StableHlo.after_cons, StableHlo.after_nil]; after_results_simp) (ix2 k q)).trans ?_
    entry_read; pointwise; blk_ext [ww, wrow]
  · refine (congrFun (f := (HloOp.result _ _ (Proc.tc.devRef main_v2))) (g := V m c main_v2) (by unfold V hostOps0; simp only [StableHlo.after_cons, StableHlo.after_nil]; after_results_simp) (ix2 k q)).trans ?_
    entry_read; pointwise

theorem rd5 (c : Dev nD) (t : Fin cfg0.N) (l : Fin 512) (q : Fin 1024) : X0_5 m c t (ix2 l q) = perm (wrow (ww m c) q) (colOf t l) := by
  unfold X0_5 Pipeline.Window.fill; rw [dif_pos (moved0_5 t _)]
  unfold iblk; rw [View.read_apply, cast_eq]
  refine (congrArg (V m c main_v7) ?_).trans (v7_at m c (colOf t l) q)
  blk_ext [idx t, colOf]

theorem rd6 (c : Dev nD) (t : Fin cfg0.N) (l : Fin 128) (q : Fin 1024) : iblk m c 6 t (ix2 l q) = perm (wrow (ww m c) q) (tailOf l) := by
  unfold iblk; rw [View.read_apply, cast_eq]
  refine (congrArg (V m c main_v7) ?_).trans (v7_at m c (tailOf l) q)
  blk_ext [idx t, tailOf]

/-- What a point adds to the running product. -/
def part (d : S2x4096x10256.Idx → EReal) (w : S1024x10256.Idx → EReal) (t : Fin cfg0.N) (p : Fin 2048) (q : Fin 1024) : EReal :=
  if t.val % 21 = 20 then ∑ l : Fin 128, perm (drow d (rowOf t p)) (tailOf l) * perm (wrow w q) (tailOf l)
  else ∑ l : Fin 512, perm (drow d (rowOf t p)) (colOf t l) * perm (wrow w q) (colOf t l)

theorem pay_at (acc : Vec Ideal S2048x1024 .f32) (a : Vec Ideal S2048x512 .bf16) (b : Vec Ideal S512x1024 .bf16) (p : Fin 2048) (q : Fin 1024) :
    k0_pay2 acc a b (ix2 p q) = acc (ix2 p q) + ∑ l : Fin 512, a (ix2 p l) * b (ix2 l q) := by
  pointwise [k0_pay2]

/-- A point before the last, reading its columns from whichever part holds them. -/
theorem step_at (c : Dev nD) (t : Fin cfg0.N) (h : ¬t.val % 21 = 20) (a : Vec Ideal S2048x512 .bf16)
    (ha : ∀ p l, a (ix2 p l) = perm (drow (dd m c) (rowOf t p)) (colOf t l)) (acc : Vec Ideal S2048x1024 .f32) (y : S2048x1024.Idx) :
    k0_pay2 acc a (X0_5 m c t) y = acc y + part (dd m c) (ww m c) t (y 0) (y 1) := by
  rw [show y = ix2 (y 0) (y 1) from (ix2_eta y).symm]
  refine (pay_at acc a _ (y 0) (y 1)).trans (congrArg (acc _ + ·) ?_)
  unfold part; rw [if_neg h]
  exact Finset.sum_congr rfl fun l _ => congrArg₂ (· * ·) (ha _ l) (rd5 m c t l _)

/-- The last point. -/
theorem last_at (c : Dev nD) (t : Fin cfg0.N) (h : t.val % 21 = 20) (acc : Vec Ideal S2048x1024 .f32) (y : S2048x1024.Idx) :
    k0_pay6 acc (iblk m c 4 t) (iblk m c 6 t) y = acc y + part (dd m c) (ww m c) t (y 0) (y 1) := by
  unfold part; rw [if_pos h]
  idx_vars y
  pointwise [k0_pay6]
  exact congrArg (acc _ + ·) (Finset.sum_congr rfl fun l _ => congrArg₂ (· * ·) (rd4 m c t _ l) (rd6 m c t l _))

theorem zero_at (y : S2048x1024.Idx) : k0_pay1 (F := Ideal) y = 0 := by pointwise [k0_pay1]

/-- The running product after a point: the result's block at the last one, the scratch's before. -/
def run_at (c : Dev nD) (n : ℕ) (h : n < cfg0.N) : S2048x1024.Idx → EReal :=
  if n % 21 = 20 then (outsAt0 m c n h).1 else (outsAt0 m c n h).2

theorem run_first (c : Dev nD) (t : Fin cfg0.N) (h : t.val % 21 = 0) (y : S2048x1024.Idx) :
    run_at m c t.val t.isLt y = 0 + part (dd m c) (ww m c) t (y 0) (y 1) := by
  unfold run_at
  rw [if_neg (by omega), outsAt0_A m c t h (by omega) (by omega) (by omega) (by omega) (by omega)]
  frame_out
  rw [step_at m c t (by omega) _ (rd0 m c t (by omega)), zero_at]

theorem run_next (c : Dev nD) (t : Fin cfg0.N) (h : ¬t.val % 21 = 0) (y : S2048x1024.Idx) :
    run_at m c t.val t.isLt y = run_at m c (t.val - 1) (Nat.lt_of_le_of_lt (Nat.sub_le _ _) t.isLt) y + part (dd m c) (ww m c) t (y 0) (y 1) := by
  have h20 : ¬(t.val - 1) % 21 = 20 := by omega
  unfold run_at
  rw [if_neg h20]
  rcases (by omega : t.val % 21 = 20 ∨ t.val % 21 ≤ 7 ∨ (8 ≤ t.val % 21 ∧ t.val % 21 ≤ 10) ∨ (11 ≤ t.val % 21 ∧ t.val % 21 ≤ 13) ∨ (14 ≤ t.val % 21 ∧ t.val % 21 ≤ 19))
    with h5 | h1 | h2 | h3 | h4
  · rw [if_pos h5, outsAt0_F m c t h (by omega) (by omega) (by omega) (by omega) h5]
    frame_out
    rw [read_unread_whole]
    exact last_at m c t h5 _ y
  · rw [if_neg (by omega), outsAt0_B m c t h h1 (by omega) (by omega) (by omega) (by omega)]
    frame_out
    rw [read_unread_whole]
    exact step_at m c t (by omega) _ (rd0 m c t h1) _ y
  · rw [if_neg (by omega), outsAt0_C m c t h (by omega) h2 (by omega) (by omega) (by omega)]
    frame_out
    rw [read_unread_whole]
    exact step_at m c t (by omega) _ (rd1 m c t h2) _ y
  · rw [if_neg (by omega), outsAt0_D m c t h (by omega) (by omega) h3 (by omega) (by omega)]
    frame_out
    rw [read_unread_whole]
    exact step_at m c t (by omega) _ (rd2 m c t h3) _ y
  · rw [if_neg (by omega), outsAt0_E m c t h (by omega) (by omega) (by omega) h4 (by omega)]
    frame_out
    rw [read_unread_whole]
    exact step_at m c t (by omega) _ (rd3 m c t h4) _ y

/-- The product of a row of the cotangent and a row of the weights. -/
def prod (d : S2x4096x10256.Idx → EReal) (w : S1024x10256.Idx → EReal) (r : Fin 8192) (q : Fin 1024) : EReal := ∑ x : Fin 10256, drow d r x * wrow w q x

/-- The points' parts together are the product over all columns. -/
theorem sum_part (d : S2x4096x10256.Idx → EReal) (w : S1024x10256.Idx → EReal) (t : Fin cfg0.N) (s : Fin 21 → Fin cfg0.N)
    (hs : ∀ k, (s k).val = 21 * (t.val / 21) + k.val) (p : Fin 2048) (q : Fin 1024) : ∑ k, part d w (s k) p q = prod d w (rowOf t p) q := by
  have hr : ∀ k, rowOf (s k) p = rowOf t p := fun k => Fin.ext (by
    show (s k).val / 21 * 2048 + p.val = t.val / 21 * 2048 + p.val; rw [hs]; omega)
  unfold prod
  rw [← sum_perm, ← sum_steps, Fin.sum_univ_castSucc]
  refine congrArg₂ (· + ·) (Finset.sum_congr rfl fun k _ => ?_) ?_
  · have hk : (s k.castSucc).val % 21 = k.val := by rw [hs]; show (21 * (t.val / 21) + k.val) % 21 = k.val; omega
    unfold part; rw [if_neg (by omega), hr]
    refine Finset.sum_congr rfl fun l _ => ?_
    rw [show colOf (s k.castSucc) l = ⟨k.val * 512 + l.val, by omega⟩ from Fin.ext (by
      show min ((s k.castSucc).val % 21) 19 * 512 + l.val = k.val * 512 + l.val; rw [hk]; omega)]
  · have hk : (s (Fin.last 20)).val % 21 = 20 := by rw [hs]; show (21 * (t.val / 21) + 20) % 21 = 20; omega
    unfold part; rw [if_pos hk, hr]; rfl

theorem out7 (c : Dev nD) : (dats m 0 c).arrAt 7 (cfgs 0).N = fun j : S8192x1024.Idx => prod (dd m c) (ww m c) (j 0) (j 1) := by
  refine (dats m 0 c).arrAt_eq_of_covers 7 _ (by decide +kernel) fun t hf y => ?_
  have e0 : (((View.whole main_v17).slice (win0_7.rect t)).emb y) 0 = rowOf t (y 0) := by
    refine Fin.ext ?_; blk_simp [idx t, rowOf]
  have e1 : (((View.whole main_v17).slice (win0_7.rect t)).emb y) 1 = y 1 := by
    refine Fin.ext ?_; blk_simp [idx t]
  have hm := (flush0_7 t).mp hf
  blk_simp
  simp only [e0, e1]
  rw [after0_7, show (outsAt0 m c t.val t.isLt).1 = run_at m c t.val t.isLt from (if_pos hm).symm,
    Pipeline.eq_sum_fin_of_reset_step_apply_of_flush (run_at m c) 21 (fun _ => 0) (fun p j => part (dd m c) (ww m c) p (j 0) (j 1))
      (fun t h j => run_first m c t h j) (fun t h j => run_next m c t h j) t hm _, zero_add]
  exact sum_part _ _ t _ (fun s => rfl) (y 0) (y 1)

end kernel

/-- The plain product at a row and a column. -/
theorem dot_at (d : FVec Ideal S2x4096x10256 .f32) (w : FVec Ideal S1024x10256 .f32) (hc ht) (r : Fin 8192) (q : Fin 1024) :
    Host.dotGeneral (F := Ideal) Cert.InProjDxRefIdeal.dot_S8192x10256_S10256x1024_S8192x1024_1_0_0_1_n_n none
      (shapeCast _ d hc) (transpose Cert.InProjDxRefIdeal.S10256x1024 [1, 0] w ht) (ix2 r q) = prod d w r q := by
  pointwise; rfl

/-- The reference runs, leaves its arguments as they were, and has no counter. -/
theorem refFrame : Cert.quiescent_InProjDxRefIdeal := fun m ρ _ =>
  (θ_run _ _ _).mono (fun r h => ⟨fun c => (h c).2, sem_eq_zero_of_no_sems (by decide) r.2⟩) (Cert.InProjDxRefIdeal.Value.run m ρ)

theorem inProjDx : Cert.algebraic_InProjDxIdeal_InProjDxRefIdeal := by
  pair_intro
  · exact run_blocks m g
  · refine θ_run_mono (InProjDxRefIdeal.Value.run m' g') fun r h c => ⟨((h c).1).trans ?_, (h c).2⟩
    have ha := hagree c
    clear h r
    rw [out7, ha.1, ha.2]
    funext j
    rw [show j = ix2 (j 0) (j 1) from (ix2_eta j).symm]
    exact dot_at _ _ _ _ (j 0) (j 1)

end Cert.InProjDxIdeal.Value

end
-- ==== Proof.InProjClaim.lean ====
/- The combined input projection's call, in the column order it returns, against the plain product, whatever the arguments. -/
module

public import proofs.«01_k».proof.Proof.Parts
public import proofs.«01_k».proof.Proof.Gen.InProjIdeal.Value
public import proofs.«01_k».proof.Proof.Gen.InProjRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjIdeal.Value
open Cert.InProjIdeal Cert.InProjIdeal.Gen Cert.Parts

section kernel
variable (m : (ℓ : Loc nD τ sig) → Buf (Elt Ideal) ℓ)

theorem idx : ∀ t : Fin cfg0.N, win0_0.index t = ![t.val / 9, 0] ∧ win0_1.index t = ![0, t.val % 9] ∧ win0_2.index t = ![t.val / 9, t.val % 9] :=
  (by decide +kernel : ∀ t : Fin grid0.N, _)

theorem lt36 (t : Fin cfg0.N) : t.val < 36 := lt_of_lt_of_eq t.isLt (by decide +kernel)

/-- The row and the column that point `t` keeps at a place of its block. -/
def rowOf (t : Fin cfg0.N) (p : Fin 2048) : Fin 8192 := ⟨t.val / 9 * 2048 + p.val, by have := lt36 t; omega⟩
def colOf (t : Fin cfg0.N) (q : Fin 1152) : Fin 10368 := ⟨t.val % 9 * 1152 + q.val, by omega⟩

/-- The rows and the weights, and the weights in the kernel's column order, with columns of zeros at the end. -/
def hh (c : Dev nD) : S2x4096x1024.Idx → EReal := m ((c : Thread nD τ).loc main_arg0)
def ww (c : Dev nD) : S1024x10256.Idx → EReal := m ((c : Thread nD τ).loc main_arg1)
def hrow (h : S2x4096x1024.Idx → EReal) (r : Fin 8192) (l : Fin 1024) : EReal :=
  h (ix3 (⟨r.val / 4096, by omega⟩ : Fin 2) (⟨r.val % 4096, by omega⟩ : Fin 4096) l)
def wcol (w : S1024x10256.Idx → EReal) (l : Fin 1024) : Fin 10368 → EReal :=
  pick (fun k => w (ix2 l (⟨1536 + k.val, by omega⟩ : Fin 10256))) (fun k => w (ix2 l (⟨k.val, by omega⟩ : Fin 10256)))
    (fun k => w (ix2 l (⟨5648 + k.val, by omega⟩ : Fin 10256))) (fun k => w (ix2 l (⟨5632 + k.val, by omega⟩ : Fin 10256))) (fun _ => 0)
def prod (h : S2x4096x1024.Idx → EReal) (w : S1024x10256.Idx → EReal) (r : Fin 8192) (x : Fin 10368) : EReal := ∑ l : Fin 1024, hrow h r l * wcol w l x

theorem rd0 (c : Dev nD) (t : Fin cfg0.N) (p : Fin 2048) (l : Fin 1024) : iblk m c 0 t (ix2 p l) = hrow (hh m c) (rowOf t p) l := by
  blk_simp [iblk]; entry_read; pointwise; blk_ext [idx t, rowOf, hrow, hh]

theorem v10_at (c : Dev nD) (l : Fin 1024) (x : Fin 10368) : V m c main_v10 (ix2 l x) = wcol (ww m c) l x := by
  unfold V hostOps0
  simp only [StableHlo.after_cons, StableHlo.after_nil]
  after_results_simp
  have e : ∀ (a : FVec Ideal S10368x1024 .bf16) (h), transpose S1024x10368 [1, 0] a h (ix2 l x) = a (ix2 x l) := fun a h => by pointwise
  refine (e _ _).trans ((stack_at _ _ _ _ _ _ x l).trans ?_)
  refine pick_congr (fun k => ?_) (fun k => ?_) (fun k => ?_) (fun k => ?_) (fun k => ?_) x
  · refine (congrFun (f := (HloOp.result _ _ (Proc.tc.devRef main_v3))) (g := V m c main_v3) (by unfold V hostOps0; simp only [StableHlo.after_cons, StableHlo.after_nil]; after_results_simp) (ix2 k l)).trans ?_
    entry_read; pointwise; blk_ext [ww]
  · refine (congrFun (f := (HloOp.result _ _ (Proc.tc.devRef main_v4))) (g := V m c main_v4) (by unfold V hostOps0; simp only [StableHlo.after_cons, StableHlo.after_nil]; after_results_simp) (ix2 k l)).trans ?_
    entry_read; pointwise; blk_ext [ww]
  · refine (congrFun (f := (HloOp.result _ _ (Proc.tc.devRef main_v5))) (g := V m c main_v5) (by unfold V hostOps0; simp only [StableHlo.after_cons, StableHlo.after_nil]; after_results_simp) (ix2 k l)).trans ?_
    entry_read; pointwise; blk_ext [ww]
  · refine (congrFun (f := (HloOp.result _ _ (Proc.tc.devRef main_v6))) (g := V m c main_v6) (by unfold V hostOps0; simp only [StableHlo.after_cons, StableHlo.after_nil]; after_results_simp) (ix2 k l)).trans ?_
    entry_read; pointwise; blk_ext [ww]
  · refine (congrFun (f := (HloOp.result _ _ (Proc.tc.devRef main_v2))) (g := V m c main_v2) (by unfold V hostOps0; simp only [StableHlo.after_cons, StableHlo.after_nil]; after_results_simp) (ix2 k l)).trans ?_
    entry_read; pointwise

theorem rd1 (c : Dev nD) (t : Fin cfg0.N) (l : Fin 1024) (q : Fin 1152) : iblk m c 1 t (ix2 l q) = wcol (ww m c) l (colOf t q) := by
  unfold iblk; rw [View.read_apply, cast_eq]
  refine (congrArg (V m c main_v10) ?_).trans (v10_at m c l (colOf t q))
  blk_ext [idx t, colOf]

theorem pay_at (a : Vec Ideal S2048x1024 .bf16) (b : Vec Ideal S1024x1152 .bf16) (p : Fin 2048) (q : Fin 1152) :
    k0_pay2 (k0_pay1 (F := Ideal)) a b (ix2 p q) = ∑ l : Fin 1024, a (ix2 p l) * b (ix2 l q) := by
  pointwise [k0_pay2, k0_pay1]

theorem out2 (c : Dev nD) : (dats m 0 c).arrAt 2 (cfgs 0).N = fun j : S8192x10368.Idx => prod (hh m c) (ww m c) (j 0) (j 1) := by
  refine (dats m 0 c).arrAt_eq_of_covers 2 _ (by decide +kernel) fun t _ y => ?_
  have e0 : (((View.whole main_v11).slice (win0_2.rect t)).emb y) 0 = rowOf t (y 0) := by
    refine Fin.ext ?_; blk_simp [idx t, rowOf]
  have e1 : (((View.whole main_v11).slice (win0_2.rect t)).emb y) 1 = colOf t (y 1) := by
    refine Fin.ext ?_; blk_simp [idx t, colOf]
  blk_simp
  simp only [e0, e1]
  rw [after0_2]; unfold outsAt0 out0_A_2; frame_out
  refine (congrArg _ (ix2_eta y).symm).trans ((pay_at _ _ (y 0) (y 1)).trans ?_)
  exact Finset.sum_congr rfl fun l _ => congrArg₂ (· * ·) (rd0 m c t (y 0) l) (rd1 m c t l (y 1))

end kernel

/-- The plain product at a row and a column. -/
theorem dot_at (h : FVec Ideal S2x4096x1024 .f32) (w : FVec Ideal Cert.InProjRefIdeal.S1024x10256 .f32) (hc) (r : Fin 8192) (x : Fin 10256) :
    Host.dotGeneral (F := Ideal) Cert.InProjRefIdeal.dot_S8192x1024_S1024x10256_S8192x10256_1_0_0_1_n_n none (shapeCast _ h hc) w (ix2 r x)
      = ∑ l : Fin 1024, hrow h r l * w (ix2 l x) := by
  pointwise; rfl

/-- Columns cut from an array of rows. -/
theorem cut_at {n : ℕ} (a : FVec Ideal Cert.InProjRefIdeal.S8192x10256 .f32) (o : ℕ) (h : Shape.Slices Cert.InProjRefIdeal.S8192x10256 ![0, o] (C n)) (r : Fin 8192)
    (k : Fin n) (x : Fin 10256) (hx : x.val = o + k.val) : extractStridedSlice (C n) ![0, o] a h (ix2 r k) = a (ix2 r x) := by
  pointwise; blk_ext [hx]

/-- The reference runs, leaves its arguments as they were, and has no counter. -/
theorem refFrame : Cert.quiescent_InProjRefIdeal := fun m ρ _ =>
  (θ_run _ _ _).mono (fun r h => ⟨fun c => (h c).2, sem_eq_zero_of_no_sems (by decide) r.2⟩) (Cert.InProjRefIdeal.Value.run m ρ)

theorem inProj : Cert.algebraic_InProjIdeal_InProjRefIdeal := by
  pair_intro
  · exact run_blocks m g
  · refine θ_run_mono (InProjRefIdeal.Value.run m' g') fun r h c => ⟨((h c).1).trans ?_, (h c).2⟩
    have ha := hagree c
    clear h r
    rw [out2, ha.1, ha.2]
    funext j
    rw [show j = ix2 (j 0) (j 1) from (ix2_eta j).symm]
    refine (side_at _ _ _ _ _ _ (j 0) (j 1)).trans ?_
    generalize j 0 = r
    generalize j 1 = x
    show _ = prod _ _ r x
    refine (pick_congr (fun k => ?_) (fun k => ?_) (fun k => ?_) (fun k => ?_) (fun k => ?_) x).trans
      (pick_map (fun w : Fin 1024 → EReal => ∑ l, hrow (hh m c) r l * w l) (fun k l => ww m c (ix2 l (⟨1536 + k.val, by omega⟩ : Fin 10256)))
        (fun k l => ww m c (ix2 l (⟨k.val, by omega⟩ : Fin 10256))) (fun k l => ww m c (ix2 l (⟨5648 + k.val, by omega⟩ : Fin 10256)))
        (fun k l => ww m c (ix2 l (⟨5632 + k.val, by omega⟩ : Fin 10256))) (fun _ _ => 0) x).symm |>.trans ?_
    · exact (cut_at _ 1536 _ r k _ (by simp)).trans (dot_at _ _ _ r _)
    · exact (cut_at _ 0 _ r k _ (by simp)).trans (dot_at _ _ _ r _)
    · exact (cut_at _ 5648 _ r k _ (by simp)).trans (dot_at _ _ _ r _)
    · exact (cut_at _ 5632 _ r k _ (by simp)).trans (dot_at _ _ _ r _)
    · pointwise; simp
    · unfold prod wcol
      refine Finset.sum_congr rfl fun l _ => congrArg (hrow (hh m c) r l * ·) ?_
      exact pick_map (fun w : Fin 1024 → EReal => w l) _ _ _ _ _ x

end Cert.InProjIdeal.Value

end
-- ==== Proof.AdamwClaim.lean ====
/- The optimiser's call against the update as the step writes it: the same change of the weights and the same moments, whatever the
arguments. -/
module

public import proofs.«01_k».proof.Proof.Reals
public import proofs.«01_k».proof.Proof.Gen.AdamwIdeal.Value
public import proofs.«01_k».proof.Proof.Gen.AdamwRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamwIdeal.Value
open Cert.AdamwIdeal Cert.AdamwIdeal.Gen

variable (m : (ℓ : Loc nD τ sig) → Buf (Elt Ideal) ℓ)

/-- A literal of the program, as a number. -/
abbrev lit (b : BitVec 32) : EReal := Ideal.ofBits .f32 b

/-- The new running mean of the gradient, the new running mean of its square, and the change of the weight. -/
def mean1 (g μ : EReal) : EReal := lit 0x3F666666#32 * μ + lit 0x3DCCCCCD#32 * g
def mean2 (g ν : EReal) : EReal := lit 0x3F7FBE77#32 * ν + lit 0x3A83126F#32 * (g * g)
def change (w g μ ν : EReal) : EReal := lit 0xBA83126F#32 *
  (Ideal.div (Ideal.div (mean1 g μ) (lit 0x3F26BD02#32)) (Ideal.sqrt (Ideal.div (mean2 g ν) (lit 0x3C231ACC#32)) + lit 0x322BCC77#32)
    + lit 0x3C23D70A#32 * w)

theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] :=
  (by decide +kernel : ∀ t : Fin grid0.N, _)

theorem lt4 (t : Fin cfg0.N) : t.val < 4 := lt_of_lt_of_eq t.isLt (by decide +kernel)

/-- The place of the array that point `t` keeps at place `y` of its block. -/
def at_ (t : Fin cfg0.N) (y : S1x128x1024.Idx) : S2x256x1024.Idx :=
  ix3 (⟨t.val / 2, by have := lt4 t; omega⟩ : Fin 2) (⟨t.val % 2 * 128 + (y 1).val, by have : (y 1).val < 128 := (y 1).isLt; omega⟩ : Fin 256) (y 2)

theorem rd0 (c : Dev nD) (t : Fin cfg0.N) (y : S1x128x1024.Idx) : iblk m c 0 t y = m ((c : Thread nD τ).loc main_arg0) (at_ t y) := by
  blk_simp [iblk, V_main_arg0]; blk_ext [idx t, at_]
theorem rd1 (c : Dev nD) (t : Fin cfg0.N) (y : S1x128x1024.Idx) : iblk m c 1 t y = m ((c : Thread nD τ).loc main_arg1) (at_ t y) := by
  blk_simp [iblk, V_main_arg1]; blk_ext [idx t, at_]
theorem rd2 (c : Dev nD) (t : Fin cfg0.N) (y : S1x128x1024.Idx) : iblk m c 2 t y = m ((c : Thread nD τ).loc main_arg2) (at_ t y) := by
  blk_simp [iblk, V_main_arg2]; blk_ext [idx t, at_]
theorem rd3 (c : Dev nD) (t : Fin cfg0.N) (y : S1x128x1024.Idx) : iblk m c 3 t y = m ((c : Thread nD τ).loc main_arg3) (at_ t y) := by
  blk_simp [iblk, V_main_arg3]; blk_ext [idx t, at_]

theorem pay1_at (g μ : Vec Ideal S1x128x1024 .f32) (y : S1x128x1024.Idx) : k0_pay1 g μ y = mean1 (g y) (μ y) := by
  pointwise [k0_pay1]; rfl
theorem pay2_at (g ν : Vec Ideal S1x128x1024 .f32) (y : S1x128x1024.Idx) : k0_pay2 g ν y = mean2 (g y) (ν y) := by
  pointwise [k0_pay2]; rfl
theorem pay3_at (g μ ν w : Vec Ideal S1x128x1024 .f32) (y : S1x128x1024.Idx) : k0_pay3 g μ ν w y = change (w y) (g y) (μ y) (ν y) := by
  pointwise [k0_pay3]; rw [pay1_at, pay2_at]; rfl

theorem out4_eq (c : Dev nD) : (dats m 0 c).arrAt 4 (cfgs 0).N = fun j : S2x256x1024.Idx =>
    change (m ((c : Thread nD τ).loc main_arg0) j) (m ((c : Thread nD τ).loc main_arg1) j) (m ((c : Thread nD τ).loc main_arg2) j)
      (m ((c : Thread nD τ).loc main_arg3) j) := by
  refine (dats m 0 c).arrAt_eq_of_covers 4 _ (by decide +kernel) fun t _ y => ?_
  have e : ((View.whole main_v0_0).slice (win0_4.rect t)).emb y = at_ t y := by blk_ext [idx t, at_]
  blk_simp
  rw [after0_4]; unfold out0_4; frame_out
  rw [pay3_at, rd0, rd1, rd2, rd3, e]

theorem out5_eq (c : Dev nD) : (dats m 0 c).arrAt 5 (cfgs 0).N = fun j : S2x256x1024.Idx =>
    mean1 (m ((c : Thread nD τ).loc main_arg1) j) (m ((c : Thread nD τ).loc main_arg2) j) := by
  refine (dats m 0 c).arrAt_eq_of_covers 5 _ (by decide +kernel) fun t _ y => ?_
  have e : ((View.whole main_v0_1).slice (win0_5.rect t)).emb y = at_ t y := by blk_ext [idx t, at_]
  blk_simp
  rw [after0_5]; unfold out0_5; frame_out
  rw [pay1_at, rd1, rd2, e]

theorem out6_eq (c : Dev nD) : (dats m 0 c).arrAt 6 (cfgs 0).N = fun j : S2x256x1024.Idx =>
    mean2 (m ((c : Thread nD τ).loc main_arg1) j) (m ((c : Thread nD τ).loc main_arg3) j) := by
  refine (dats m 0 c).arrAt_eq_of_covers 6 _ (by decide +kernel) fun t _ y => ?_
  have e : ((View.whole main_v0_2).slice (win0_6.rect t)).emb y = at_ t y := by blk_ext [idx t, at_]
  blk_simp
  rw [after0_6]; unfold out0_6; frame_out
  rw [pay2_at, rd1, rd3, e]

/-- The reference runs, leaves its arguments as they were, and has no counter. -/
theorem refFrame : Cert.quiescent_AdamwRefIdeal := fun m ρ _ =>
  (θ_run _ _ _).mono (fun r h => ⟨fun c => (h c).2.2.2, sem_eq_zero_of_no_sems (by decide) r.2⟩) (Cert.AdamwRefIdeal.Value.run m ρ)

theorem adamw : Cert.algebraic_AdamwIdeal_AdamwRefIdeal := by
  pair_intro
  · exact run_blocks m g
  · refine θ_run_mono (AdamwRefIdeal.Value.run m' g') fun r h c =>
      ⟨((h c).1).trans ?_, ((h c).2.1).trans ?_, ((h c).2.2.1).trans ?_, (h c).2.2.2⟩
    all_goals
      have ha := hagree c
      clear h r
    · rw [out4_eq, ha.1, ha.2.1, ha.2.2.1, ha.2.2.2]; funext j; pointwise; rfl
    · rw [out5_eq, ha.2.1, ha.2.2.1]; funext j; pointwise; rfl
    · rw [out6_eq, ha.2.1, ha.2.2.2]; funext j; pointwise; rfl

end Cert.AdamwIdeal.Value

end
-- ==== Proof.lean ====
module

public import proofs.«01_k».proof.Defs
public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdRefIdeal
public import proofs.«01_k».proof.Proof.NormClaim
public import proofs.«01_k».proof.Proof.Gen.Pre_finite_norm
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal
public import proofs.«01_k».proof.Proof.LossClaim
public import proofs.«01_k».proof.Proof.Gen.Pre_finite_loss
public import proofs.«01_k».proof.Proof.Gen.MergeBwd.Frame
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.MergeClaim
public import proofs.«01_k».proof.Proof.Gen.GmlpBwd.Frame
public import proofs.«01_k».proof.Proof.Gen.GmlpBwdIdeal.Frame
public import proofs.«01_k».proof.Proof.Gen.GmlpBwdIdeal.Value
public import proofs.«01_k».proof.Proof.Gen.GmlpBwdRefIdeal
public import proofs.«01_k».proof.Proof.GmlpClaim
public import proofs.«01_k».proof.Proof.Gen.Pre_finite_gmlp
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.ConvFwdClaim
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.ConvClaim
public import proofs.«01_k».proof.Proof.Gen.Pre_finite_conv
public import proofs.«01_k».proof.Proof.Gen.DeltaBwd.Frame
public import proofs.«01_k».proof.Proof.Gen.DeltaBwdIdeal.Frame
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal
public import proofs.«01_k».proof.Proof.NormFwdClaim
public import proofs.«01_k».proof.Proof.Gen.MergeFwd.Frame
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.MergeFwdClaim
public import proofs.«01_k».proof.Proof.Gen.GmlpFwd.Frame
public import proofs.«01_k».proof.Proof.Gen.GmlpFwdIdeal.Frame
public import proofs.«01_k».proof.Proof.Gen.GmlpFwdIdeal.Value
public import proofs.«01_k».proof.Proof.Gen.GmlpFwdRefIdeal
public import proofs.«01_k».proof.Proof.GmlpFwdClaim
public import proofs.«01_k».proof.Proof.Gen.MergeWgrad.Frame
public import proofs.«01_k».proof.Proof.Gen.MergeWgradIdeal.Frame
public import proofs.«01_k».proof.Proof.Gen.MergeWgradIdeal.Value
public import proofs.«01_k».proof.Proof.Gen.MergeWgradRefIdeal
public import proofs.«01_k».proof.Proof.WgradClaim
public import proofs.«01_k».proof.Proof.Gen.InProjDx.Frame
public import proofs.«01_k».proof.Proof.Gen.InProjDxIdeal.Frame
public import proofs.«01_k».proof.Proof.Gen.InProjDxIdeal.Value
public import proofs.«01_k».proof.Proof.Gen.InProjDxRefIdeal
public import proofs.«01_k».proof.Proof.DxClaim
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal
public import proofs.«01_k».proof.Proof.InProjClaim
public import proofs.«01_k».proof.Proof.Gen.Adamw.Frame
public import proofs.«01_k».proof.Proof.Gen.AdamwIdeal.Frame
public import proofs.«01_k».proof.Proof.Gen.AdamwIdeal.Value
public import proofs.«01_k».proof.Proof.Gen.AdamwRefIdeal
public import proofs.«01_k».proof.Proof.AdamwClaim
public import Idealize.ShloMosaic.Adequacy
public import Idealize.ShloMosaic.Init

@[expose] public section

noncomputable section
namespace Cert.Proof

open Idealize.ShloMosaic Idealize.SL.Sem

theorem claim : Cert.Claim := ⟨Cert.NormBwd.Gen.facts,
  Cert.NormBwdIdeal.Gen.facts,
  Cert.NormBwdRefIdeal.Gen.facts,
  Cert.LossHead.Gen.facts,
  Cert.LossHeadIdeal.Gen.facts,
  Cert.LossHeadRefIdeal.Gen.facts,
  Cert.MergeBwd.Gen.facts,
  Cert.MergeBwdIdeal.Gen.facts,
  Cert.MergeBwdRefIdeal.Gen.facts,
  Cert.GmlpBwd.Gen.facts,
  Cert.GmlpBwdIdeal.Gen.facts,
  Cert.GmlpBwdRefIdeal.Gen.facts,
  Cert.ConvFwd.Gen.facts,
  Cert.ConvFwdIdeal.Gen.facts,
  Cert.ConvFwdRefIdeal.Gen.facts,
  Cert.ConvBwd.Gen.facts,
  Cert.ConvBwdIdeal.Gen.facts,
  Cert.ConvBwdRefIdeal.Gen.facts,
  Cert.DeltaBwd.Gen.facts,
  Cert.DeltaBwdIdeal.Gen.facts,
  Cert.NormFwd.Gen.facts,
  Cert.NormFwdIdeal.Gen.facts,
  Cert.NormFwdRefIdeal.Gen.facts,
  Cert.MergeFwd.Gen.facts,
  Cert.MergeFwdIdeal.Gen.facts,
  Cert.MergeFwdRefIdeal.Gen.facts,
  Cert.GmlpFwd.Gen.facts,
  Cert.GmlpFwdIdeal.Gen.facts,
  Cert.GmlpFwdRefIdeal.Gen.facts,
  Cert.MergeWgrad.Gen.facts,
  Cert.MergeWgradIdeal.Gen.facts,
  Cert.MergeWgradRefIdeal.Gen.facts,
  Cert.InProjDx.Gen.facts,
  Cert.InProjDxIdeal.Gen.facts,
  Cert.InProjDxRefIdeal.Gen.facts,
  Cert.InProj.Gen.facts,
  Cert.InProjIdeal.Gen.facts,
  Cert.InProjRefIdeal.Gen.facts,
  Cert.Adamw.Gen.facts,
  Cert.AdamwIdeal.Gen.facts,
  Cert.AdamwRefIdeal.Gen.facts,
  Cert.Pre_finite_norm.Gen.facts,
  Cert.Pre_finite_loss.Gen.facts,
  Cert.Pre_finite_gmlp.Gen.facts,
  Cert.Pre_finite_conv.Gen.facts, by
  exact ⟨fun m ρ _ => Cert.NormBwd.Gen.frame m ρ,
    fun m ρ _ => Cert.NormBwdIdeal.Gen.frame m ρ,
    fun m ρ _ => Cert.NormBwdIdeal.Gen.frame m ρ,
    Cert.NormBwdIdeal.Value.refFrame,
    fun m ρ _ => Cert.NormBwdIdeal.Value.refFrame m ρ trivial,
    fun m ρ _ => Cert.LossHead.Gen.frame m ρ,
    fun m ρ _ => Cert.LossHeadIdeal.Gen.frame m ρ,
    fun m ρ _ => Cert.LossHeadIdeal.Gen.frame m ρ,
    Cert.LossHeadIdeal.Value.refFrame,
    fun m ρ _ => Cert.LossHeadIdeal.Value.refFrame m ρ trivial,
    fun m ρ _ => Cert.MergeBwd.Gen.frame m ρ,
    fun m ρ _ => Cert.MergeBwdIdeal.Gen.frame m ρ,
    Cert.MergeBwdIdeal.Value.refFrame,
    fun m ρ _ => Cert.GmlpBwd.Gen.frame m ρ,
    fun m ρ _ => Cert.GmlpBwdIdeal.Gen.frame m ρ,
    fun m ρ _ => Cert.GmlpBwdIdeal.Gen.frame m ρ,
    Cert.GmlpBwdIdeal.Value.refFrame,
    fun m ρ _ => Cert.GmlpBwdIdeal.Value.refFrame m ρ trivial,
    fun m ρ _ => Cert.ConvFwd.Gen.frame m ρ,
    fun m ρ _ => Cert.ConvFwdIdeal.Gen.frame m ρ,
    Cert.ConvFwdIdeal.Value.refFrame,
    fun m ρ _ => Cert.ConvBwd.Gen.frame m ρ,
    fun m ρ _ => Cert.ConvBwdIdeal.Gen.frame m ρ,
    fun m ρ _ => Cert.ConvBwdIdeal.Gen.frame m ρ,
    Cert.ConvBwdIdeal.Value.refFrame,
    fun m ρ _ => Cert.ConvBwdIdeal.Value.refFrame m ρ trivial,
    fun m ρ _ => Cert.DeltaBwd.Gen.frame m ρ,
    fun m ρ _ => Cert.DeltaBwdIdeal.Gen.frame m ρ,
    fun m ρ _ => Cert.NormFwd.Gen.frame m ρ,
    fun m ρ _ => Cert.NormFwdIdeal.Gen.frame m ρ,
    Cert.NormFwdIdeal.Value.refFrame,
    fun m ρ _ => Cert.MergeFwd.Gen.frame m ρ,
    fun m ρ _ => Cert.MergeFwdIdeal.Gen.frame m ρ,
    Cert.MergeFwdIdeal.Value.refFrame,
    fun m ρ _ => Cert.GmlpFwd.Gen.frame m ρ,
    fun m ρ _ => Cert.GmlpFwdIdeal.Gen.frame m ρ,
    Cert.GmlpFwdIdeal.Value.refFrame,
    fun m ρ _ => Cert.MergeWgrad.Gen.frame m ρ,
    fun m ρ _ => Cert.MergeWgradIdeal.Gen.frame m ρ,
    Cert.MergeWgradIdeal.Value.refFrame,
    fun m ρ _ => Cert.InProjDx.Gen.frame m ρ,
    fun m ρ _ => Cert.InProjDxIdeal.Gen.frame m ρ,
    Cert.InProjDxIdeal.Value.refFrame,
    fun m ρ _ => Cert.InProj.Gen.frame m ρ,
    fun m ρ _ => Cert.InProjIdeal.Gen.frame m ρ,
    Cert.InProjIdeal.Value.refFrame,
    fun m ρ _ => Cert.Adamw.Gen.frame m ρ,
    fun m ρ _ => Cert.AdamwIdeal.Gen.frame m ρ,
    Cert.AdamwIdeal.Value.refFrame,
    trivial,
    Cert.NormBwdIdeal.Value.normBwd,
    trivial,
    Cert.LossHeadIdeal.Value.lossHead,
    trivial,
    Cert.MergeBwdIdeal.Value.mergeBwd,
    ⟨IdealRules.named_const.statement Cert.GmlpBwdIdeal.κ "gelu_c" .f32 0x3D372713#32 ((8943 / 200000 : ℝ) : EReal) rfl,
      IdealRules.named_const.statement Cert.GmlpBwdIdeal.κ "gelu_3c" .f32 0x3E095D4F#32 ((26829 / 200000 : ℝ) : EReal) rfl⟩,
    Cert.GmlpBwdIdeal.Value.gmlpBwd,
    trivial,
    Cert.ConvFwdIdeal.Value.convFwd,
    trivial,
    Cert.ConvBwdIdeal.Value.convBwd,
    trivial,
    trivial,
    Cert.NormFwdIdeal.Value.normFwd,
    trivial,
    Cert.MergeFwdIdeal.Value.mergeFwd,
    IdealRules.named_const.statement Cert.GmlpFwdIdeal.κ "gelu_c" .f32 0x3D372713#32 ((8943 / 200000 : ℝ) : EReal) rfl,
    Cert.GmlpFwdIdeal.Value.gmlpFwd,
    trivial,
    Cert.MergeWgradIdeal.Value.mergeWgrad,
    trivial,
    Cert.InProjDxIdeal.Value.inProjDx,
    trivial,
    Cert.InProjIdeal.Value.inProj,
    trivial,
    Cert.AdamwIdeal.Value.adamw⟩⟩

end Cert.Proof

end
